-- ==== Defs.lean ====
def Pre_Dsa (m : (ℓ : Loc Cert.Dsa.nD Cert.Dsa.τ Cert.Dsa.sig) → Buf (Elt Bits) ℓ) : Prop :=
  True

def Pre_MixFinal (m : (ℓ : Loc Cert.MixFinal.nD Cert.MixFinal.τ Cert.MixFinal.sig) → Buf (Elt Bits) ℓ) : Prop :=
  True

def Pre_MixFinalIdeal (m : (ℓ : Loc Cert.MixFinalIdeal.nD Cert.MixFinalIdeal.τ Cert.MixFinalIdeal.sig) → Buf (Elt Ideal) ℓ) : Prop :=
  True

def Pre_MixFinalRefIdeal (m : (ℓ : Loc Cert.MixFinalRefIdeal.nD Cert.MixFinalRefIdeal.τ Cert.MixFinalRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_MixProject (m : (ℓ : Loc Cert.MixProject.nD Cert.MixProject.τ Cert.MixProject.sig) → Buf (Elt Bits) ℓ) : Prop :=
  True

def Pre_MixProjectIdeal (m : (ℓ : Loc Cert.MixProjectIdeal.nD Cert.MixProjectIdeal.τ Cert.MixProjectIdeal.sig) → Buf (Elt Ideal) ℓ) : Prop :=
  True

def Pre_MixProjectRefIdeal (m : (ℓ : Loc Cert.MixProjectRefIdeal.nD Cert.MixProjectRefIdeal.τ Cert.MixProjectRefIdeal.sig) → Buf (Elt Ideal) ℓ) : Prop :=
  True

def quiescent_Dsa [hDsa : Cert.Dsa.Facts] : Prop :=
  ∀ (m : (ℓ : Loc Cert.Dsa.nD Cert.Dsa.τ Cert.Dsa.sig) → Buf (Elt Bits) ℓ) (g : Dev Cert.Dsa.nD → PrngReg), Pre_Dsa m →
    θ_run (Cert.Dsa.defs (F := Bits)) (onTc (τ := Cert.Dsa.τ) (Cert.Dsa.main (F := Bits))) ⟨m, fun _ => 0, g⟩ (fun r => (∀ c : Dev Cert.Dsa.nD,
      r.2.mem ((c.tc : Thread Cert.Dsa.nD Cert.Dsa.τ).loc Cert.Dsa.main_arg0) = m ((c.tc : Thread Cert.Dsa.nD Cert.Dsa.τ).loc Cert.Dsa.main_arg0)
      ∧ r.2.mem ((c.tc : Thread Cert.Dsa.nD Cert.Dsa.τ).loc Cert.Dsa.main_arg1) = m ((c.tc : Thread Cert.Dsa.nD Cert.Dsa.τ).loc Cert.Dsa.main_arg1)
      ∧ r.2.mem ((c.tc : Thread Cert.Dsa.nD Cert.Dsa.τ).loc Cert.Dsa.main_arg2) = m ((c.tc : Thread Cert.Dsa.nD Cert.Dsa.τ).loc Cert.Dsa.main_arg2)
      ∧ r.2.mem ((c.tc : Thread Cert.Dsa.nD Cert.Dsa.τ).loc Cert.Dsa.main_arg3) = m ((c.tc : Thread Cert.Dsa.nD Cert.Dsa.τ).loc Cert.Dsa.main_arg3)
      ∧ r.2.mem ((c.tc : Thread Cert.Dsa.nD Cert.Dsa.τ).loc Cert.Dsa.main_arg4) = m ((c.tc : Thread Cert.Dsa.nD Cert.Dsa.τ).loc Cert.Dsa.main_arg4)
      ∧ r.2.mem ((c.tc : Thread Cert.Dsa.nD Cert.Dsa.τ).loc Cert.Dsa.main_arg5) = m ((c.tc : Thread Cert.Dsa.nD Cert.Dsa.τ).loc Cert.Dsa.main_arg5)
      ∧ r.2.mem ((c.tc : Thread Cert.Dsa.nD Cert.Dsa.τ).loc Cert.Dsa.main_arg6) = m ((c.tc : Thread Cert.Dsa.nD Cert.Dsa.τ).loc Cert.Dsa.main_arg6)
      ∧ r.2.mem ((c.tc : Thread Cert.Dsa.nD Cert.Dsa.τ).loc Cert.Dsa.main_arg7) = m ((c.tc : Thread Cert.Dsa.nD Cert.Dsa.τ).loc Cert.Dsa.main_arg7))
      ∧ r.2.sem = fun _ => 0)

def quiescent_MixFinal [hMixFinal : Cert.MixFinal.Facts] : Prop :=
  ∀ (m : (ℓ : Loc Cert.MixFinal.nD Cert.MixFinal.τ Cert.MixFinal.sig) → Buf (Elt Bits) ℓ) (g : Dev Cert.MixFinal.nD → PrngReg), Pre_MixFinal m →
    θ_run (Cert.MixFinal.defs (F := Bits)) (onTc (τ := Cert.MixFinal.τ) (Cert.MixFinal.main (F := Bits))) ⟨m, fun _ => 0, g⟩ (fun r => (∀ c : Dev Cert.MixFinal.nD,
      r.2.mem ((c.tc : Thread Cert.MixFinal.nD Cert.MixFinal.τ).loc Cert.MixFinal.main_arg0) = m ((c.tc : Thread Cert.MixFinal.nD Cert.MixFinal.τ).loc Cert.MixFinal.main_arg0)
      ∧ r.2.mem ((c.tc : Thread Cert.MixFinal.nD Cert.MixFinal.τ).loc Cert.MixFinal.main_arg1) = m ((c.tc : Thread Cert.MixFinal.nD Cert.MixFinal.τ).loc Cert.MixFinal.main_arg1)
      ∧ r.2.mem ((c.tc : Thread Cert.MixFinal.nD Cert.MixFinal.τ).loc Cert.MixFinal.main_arg2) = m ((c.tc : Thread Cert.MixFinal.nD Cert.MixFinal.τ).loc Cert.MixFinal.main_arg2)
      ∧ r.2.mem ((c.tc : Thread Cert.MixFinal.nD Cert.MixFinal.τ).loc Cert.MixFinal.main_arg3) = m ((c.tc : Thread Cert.MixFinal.nD Cert.MixFinal.τ).loc Cert.MixFinal.main_arg3)
      ∧ r.2.mem ((c.tc : Thread Cert.MixFinal.nD Cert.MixFinal.τ).loc Cert.MixFinal.main_arg4) = m ((c.tc : Thread Cert.MixFinal.nD Cert.MixFinal.τ).loc Cert.MixFinal.main_arg4)
      ∧ r.2.mem ((c.tc : Thread Cert.MixFinal.nD Cert.MixFinal.τ).loc Cert.MixFinal.main_arg5) = m ((c.tc : Thread Cert.MixFinal.nD Cert.MixFinal.τ).loc Cert.MixFinal.main_arg5)
      ∧ r.2.mem ((c.tc : Thread Cert.MixFinal.nD Cert.MixFinal.τ).loc Cert.MixFinal.main_arg6) = m ((c.tc : Thread Cert.MixFinal.nD Cert.MixFinal.τ).loc Cert.MixFinal.main_arg6)
      ∧ r.2.mem ((c.tc : Thread Cert.MixFinal.nD Cert.MixFinal.τ).loc Cert.MixFinal.main_arg7) = m ((c.tc : Thread Cert.MixFinal.nD Cert.MixFinal.τ).loc Cert.MixFinal.main_arg7)
      ∧ r.2.mem ((c.tc : Thread Cert.MixFinal.nD Cert.MixFinal.τ).loc Cert.MixFinal.main_arg8) = m ((c.tc : Thread Cert.MixFinal.nD Cert.MixFinal.τ).loc Cert.MixFinal.main_arg8))
      ∧ r.2.sem = fun _ => 0)

def quiescent_MixFinalIdeal [hMixFinalIdeal : Cert.MixFinalIdeal.Facts] : Prop :=
  ∀ (m : (ℓ : Loc Cert.MixFinalIdeal.nD Cert.MixFinalIdeal.τ Cert.MixFinalIdeal.sig) → Buf (Elt Ideal) ℓ) (g : Dev Cert.MixFinalIdeal.nD → PrngReg), Pre_MixFinalIdeal m →
    θ_run (Cert.MixFinalIdeal.defs (F := Ideal)) (onTc (τ := Cert.MixFinalIdeal.τ) (Cert.MixFinalIdeal.main (F := Ideal))) ⟨m, fun _ => 0, g⟩ (fun r => (∀ c : Dev Cert.MixFinalIdeal.nD,
      r.2.mem ((c.tc : Thread Cert.MixFinalIdeal.nD Cert.MixFinalIdeal.τ).loc Cert.MixFinalIdeal.main_arg0) = m ((c.tc : Thread Cert.MixFinalIdeal.nD Cert.MixFinalIdeal.τ).loc Cert.MixFinalIdeal.main_arg0)
      ∧ r.2.mem ((c.tc : Thread Cert.MixFinalIdeal.nD Cert.MixFinalIdeal.τ).loc Cert.MixFinalIdeal.main_arg1) = m ((c.tc : Thread Cert.MixFinalIdeal.nD Cert.MixFinalIdeal.τ).loc Cert.MixFinalIdeal.main_arg1)
      ∧ r.2.mem ((c.tc : Thread Cert.MixFinalIdeal.nD Cert.MixFinalIdeal.τ).loc Cert.MixFinalIdeal.main_arg2) = m ((c.tc : Thread Cert.MixFinalIdeal.nD Cert.MixFinalIdeal.τ).loc Cert.MixFinalIdeal.main_arg2)
      ∧ r.2.mem ((c.tc : Thread Cert.MixFinalIdeal.nD Cert.MixFinalIdeal.τ).loc Cert.MixFinalIdeal.main_arg3) = m ((c.tc : Thread Cert.MixFinalIdeal.nD Cert.MixFinalIdeal.τ).loc Cert.MixFinalIdeal.main_arg3)
      ∧ r.2.mem ((c.tc : Thread Cert.MixFinalIdeal.nD Cert.MixFinalIdeal.τ).loc Cert.MixFinalIdeal.main_arg4) = m ((c.tc : Thread Cert.MixFinalIdeal.nD Cert.MixFinalIdeal.τ).loc Cert.MixFinalIdeal.main_arg4)
      ∧ r.2.mem ((c.tc : Thread Cert.MixFinalIdeal.nD Cert.MixFinalIdeal.τ).loc Cert.MixFinalIdeal.main_arg5) = m ((c.tc : Thread Cert.MixFinalIdeal.nD Cert.MixFinalIdeal.τ).loc Cert.MixFinalIdeal.main_arg5)
      ∧ r.2.mem ((c.tc : Thread Cert.MixFinalIdeal.nD Cert.MixFinalIdeal.τ).loc Cert.MixFinalIdeal.main_arg6) = m ((c.tc : Thread Cert.MixFinalIdeal.nD Cert.MixFinalIdeal.τ).loc Cert.MixFinalIdeal.main_arg6)
      ∧ r.2.mem ((c.tc : Thread Cert.MixFinalIdeal.nD Cert.MixFinalIdeal.τ).loc Cert.MixFinalIdeal.main_arg7) = m ((c.tc : Thread Cert.MixFinalIdeal.nD Cert.MixFinalIdeal.τ).loc Cert.MixFinalIdeal.main_arg7)
      ∧ r.2.mem ((c.tc : Thread Cert.MixFinalIdeal.nD Cert.MixFinalIdeal.τ).loc Cert.MixFinalIdeal.main_arg8) = m ((c.tc : Thread Cert.MixFinalIdeal.nD Cert.MixFinalIdeal.τ).loc Cert.MixFinalIdeal.main_arg8))
      ∧ r.2.sem = fun _ => 0)

def quiescent_MixFinalRefIdeal [hMixFinalRefIdeal : Cert.MixFinalRefIdeal.Facts] : Prop :=
  ∀ (m : (ℓ : Loc Cert.MixFinalRefIdeal.nD Cert.MixFinalRefIdeal.τ Cert.MixFinalRefIdeal.sig) → Buf (Elt Ideal) ℓ) (g : Dev Cert.MixFinalRefIdeal.nD → PrngReg), Pre_MixFinalRefIdeal m →
    θ_run (Cert.MixFinalRefIdeal.defs (F := Ideal)) (onTc (τ := Cert.MixFinalRefIdeal.τ) (Cert.MixFinalRefIdeal.main (F := Ideal))) ⟨m, fun _ => 0, g⟩ (fun r => (∀ c : Dev Cert.MixFinalRefIdeal.nD,
      r.2.mem ((c.tc : Thread Cert.MixFinalRefIdeal.nD Cert.MixFinalRefIdeal.τ).loc Cert.MixFinalRefIdeal.main_arg0) = m ((c.tc : Thread Cert.MixFinalRefIdeal.nD Cert.MixFinalRefIdeal.τ).loc Cert.MixFinalRefIdeal.main_arg0)
      ∧ r.2.mem ((c.tc : Thread Cert.MixFinalRefIdeal.nD Cert.MixFinalRefIdeal.τ).loc Cert.MixFinalRefIdeal.main_arg1) = m ((c.tc : Thread Cert.MixFinalRefIdeal.nD Cert.MixFinalRefIdeal.τ).loc Cert.MixFinalRefIdeal.main_arg1)
      ∧ r.2.mem ((c.tc : Thread Cert.MixFinalRefIdeal.nD Cert.MixFinalRefIdeal.τ).loc Cert.MixFinalRefIdeal.main_arg2) = m ((c.tc : Thread Cert.MixFinalRefIdeal.nD Cert.MixFinalRefIdeal.τ).loc Cert.MixFinalRefIdeal.main_arg2)
      ∧ r.2.mem ((c.tc : Thread Cert.MixFinalRefIdeal.nD Cert.MixFinalRefIdeal.τ).loc Cert.MixFinalRefIdeal.main_arg3) = m ((c.tc : Thread Cert.MixFinalRefIdeal.nD Cert.MixFinalRefIdeal.τ).loc Cert.MixFinalRefIdeal.main_arg3)
      ∧ r.2.mem ((c.tc : Thread Cert.MixFinalRefIdeal.nD Cert.MixFinalRefIdeal.τ).loc Cert.MixFinalRefIdeal.main_arg4) = m ((c.tc : Thread Cert.MixFinalRefIdeal.nD Cert.MixFinalRefIdeal.τ).loc Cert.MixFinalRefIdeal.main_arg4)
      ∧ r.2.mem ((c.tc : Thread Cert.MixFinalRefIdeal.nD Cert.MixFinalRefIdeal.τ).loc Cert.MixFinalRefIdeal.main_arg5) = m ((c.tc : Thread Cert.MixFinalRefIdeal.nD Cert.MixFinalRefIdeal.τ).loc Cert.MixFinalRefIdeal.main_arg5)
      ∧ r.2.mem ((c.tc : Thread Cert.MixFinalRefIdeal.nD Cert.MixFinalRefIdeal.τ).loc Cert.MixFinalRefIdeal.main_arg6) = m ((c.tc : Thread Cert.MixFinalRefIdeal.nD Cert.MixFinalRefIdeal.τ).loc Cert.MixFinalRefIdeal.main_arg6)
      ∧ r.2.mem ((c.tc : Thread Cert.MixFinalRefIdeal.nD Cert.MixFinalRefIdeal.τ).loc Cert.MixFinalRefIdeal.main_arg7) = m ((c.tc : Thread Cert.MixFinalRefIdeal.nD Cert.MixFinalRefIdeal.τ).loc Cert.MixFinalRefIdeal.main_arg7)
      ∧ r.2.mem ((c.tc : Thread Cert.MixFinalRefIdeal.nD Cert.MixFinalRefIdeal.τ).loc Cert.MixFinalRefIdeal.main_arg8) = m ((c.tc : Thread Cert.MixFinalRefIdeal.nD Cert.MixFinalRefIdeal.τ).loc Cert.MixFinalRefIdeal.main_arg8))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_MixProject [hMixProject : Cert.MixProject.Facts] : Prop :=
  ∀ (m : (ℓ : Loc Cert.MixProject.nD Cert.MixProject.τ Cert.MixProject.sig) → Buf (Elt Bits) ℓ) (g : Dev Cert.MixProject.nD → PrngReg), Pre_MixProject m →
    θ_run (Cert.MixProject.defs (F := Bits)) (onTc (τ := Cert.MixProject.τ) (Cert.MixProject.main (F := Bits))) ⟨m, fun _ => 0, g⟩ (fun r => (∀ c : Dev Cert.MixProject.nD,
      r.2.mem ((c.tc : Thread Cert.MixProject.nD Cert.MixProject.τ).loc Cert.MixProject.main_arg0) = m ((c.tc : Thread Cert.MixProject.nD Cert.MixProject.τ).loc Cert.MixProject.main_arg0)
      ∧ r.2.mem ((c.tc : Thread Cert.MixProject.nD Cert.MixProject.τ).loc Cert.MixProject.main_arg1) = m ((c.tc : Thread Cert.MixProject.nD Cert.MixProject.τ).loc Cert.MixProject.main_arg1)
      ∧ r.2.mem ((c.tc : Thread Cert.MixProject.nD Cert.MixProject.τ).loc Cert.MixProject.main_arg2) = m ((c.tc : Thread Cert.MixProject.nD Cert.MixProject.τ).loc Cert.MixProject.main_arg2)
      ∧ r.2.mem ((c.tc : Thread Cert.MixProject.nD Cert.MixProject.τ).loc Cert.MixProject.main_arg3) = m ((c.tc : Thread Cert.MixProject.nD Cert.MixProject.τ).loc Cert.MixProject.main_arg3)
      ∧ r.2.mem ((c.tc : Thread Cert.MixProject.nD Cert.MixProject.τ).loc Cert.MixProject.main_arg4) = m ((c.tc : Thread Cert.MixProject.nD Cert.MixProject.τ).loc Cert.MixProject.main_arg4)
      ∧ r.2.mem ((c.tc : Thread Cert.MixProject.nD Cert.MixProject.τ).loc Cert.MixProject.main_arg5) = m ((c.tc : Thread Cert.MixProject.nD Cert.MixProject.τ).loc Cert.MixProject.main_arg5)
      ∧ r.2.mem ((c.tc : Thread Cert.MixProject.nD Cert.MixProject.τ).loc Cert.MixProject.main_arg6) = m ((c.tc : Thread Cert.MixProject.nD Cert.MixProject.τ).loc Cert.MixProject.main_arg6)
      ∧ r.2.mem ((c.tc : Thread Cert.MixProject.nD Cert.MixProject.τ).loc Cert.MixProject.main_arg7) = m ((c.tc : Thread Cert.MixProject.nD Cert.MixProject.τ).loc Cert.MixProject.main_arg7)
      ∧ r.2.mem ((c.tc : Thread Cert.MixProject.nD Cert.MixProject.τ).loc Cert.MixProject.main_arg8) = m ((c.tc : Thread Cert.MixProject.nD Cert.MixProject.τ).loc Cert.MixProject.main_arg8)
      ∧ r.2.mem ((c.tc : Thread Cert.MixProject.nD Cert.MixProject.τ).loc Cert.MixProject.main_arg9) = m ((c.tc : Thread Cert.MixProject.nD Cert.MixProject.τ).loc Cert.MixProject.main_arg9))
      ∧ r.2.sem = fun _ => 0)

def quiescent_MixProjectIdeal [hMixProjectIdeal : Cert.MixProjectIdeal.Facts] : Prop :=
  ∀ (m : (ℓ : Loc Cert.MixProjectIdeal.nD Cert.MixProjectIdeal.τ Cert.MixProjectIdeal.sig) → Buf (Elt Ideal) ℓ) (g : Dev Cert.MixProjectIdeal.nD → PrngReg), Pre_MixProjectIdeal m →
    θ_run (Cert.MixProjectIdeal.defs (F := Ideal)) (onTc (τ := Cert.MixProjectIdeal.τ) (Cert.MixProjectIdeal.main (F := Ideal))) ⟨m, fun _ => 0, g⟩ (fun r => (∀ c : Dev Cert.MixProjectIdeal.nD,
      r.2.mem ((c.tc : Thread Cert.MixProjectIdeal.nD Cert.MixProjectIdeal.τ).loc Cert.MixProjectIdeal.main_arg0) = m ((c.tc : Thread Cert.MixProjectIdeal.nD Cert.MixProjectIdeal.τ).loc Cert.MixProjectIdeal.main_arg0)
      ∧ r.2.mem ((c.tc : Thread Cert.MixProjectIdeal.nD Cert.MixProjectIdeal.τ).loc Cert.MixProjectIdeal.main_arg1) = m ((c.tc : Thread Cert.MixProjectIdeal.nD Cert.MixProjectIdeal.τ).loc Cert.MixProjectIdeal.main_arg1)
      ∧ r.2.mem ((c.tc : Thread Cert.MixProjectIdeal.nD Cert.MixProjectIdeal.τ).loc Cert.MixProjectIdeal.main_arg2) = m ((c.tc : Thread Cert.MixProjectIdeal.nD Cert.MixProjectIdeal.τ).loc Cert.MixProjectIdeal.main_arg2)
      ∧ r.2.mem ((c.tc : Thread Cert.MixProjectIdeal.nD Cert.MixProjectIdeal.τ).loc Cert.MixProjectIdeal.main_arg3) = m ((c.tc : Thread Cert.MixProjectIdeal.nD Cert.MixProjectIdeal.τ).loc Cert.MixProjectIdeal.main_arg3)
      ∧ r.2.mem ((c.tc : Thread Cert.MixProjectIdeal.nD Cert.MixProjectIdeal.τ).loc Cert.MixProjectIdeal.main_arg4) = m ((c.tc : Thread Cert.MixProjectIdeal.nD Cert.MixProjectIdeal.τ).loc Cert.MixProjectIdeal.main_arg4)
      ∧ r.2.mem ((c.tc : Thread Cert.MixProjectIdeal.nD Cert.MixProjectIdeal.τ).loc Cert.MixProjectIdeal.main_arg5) = m ((c.tc : Thread Cert.MixProjectIdeal.nD Cert.MixProjectIdeal.τ).loc Cert.MixProjectIdeal.main_arg5)
      ∧ r.2.mem ((c.tc : Thread Cert.MixProjectIdeal.nD Cert.MixProjectIdeal.τ).loc Cert.MixProjectIdeal.main_arg6) = m ((c.tc : Thread Cert.MixProjectIdeal.nD Cert.MixProjectIdeal.τ).loc Cert.MixProjectIdeal.main_arg6)
      ∧ r.2.mem ((c.tc : Thread Cert.MixProjectIdeal.nD Cert.MixProjectIdeal.τ).loc Cert.MixProjectIdeal.main_arg7) = m ((c.tc : Thread Cert.MixProjectIdeal.nD Cert.MixProjectIdeal.τ).loc Cert.MixProjectIdeal.main_arg7)
      ∧ r.2.mem ((c.tc : Thread Cert.MixProjectIdeal.nD Cert.MixProjectIdeal.τ).loc Cert.MixProjectIdeal.main_arg8) = m ((c.tc : Thread Cert.MixProjectIdeal.nD Cert.MixProjectIdeal.τ).loc Cert.MixProjectIdeal.main_arg8)
      ∧ r.2.mem ((c.tc : Thread Cert.MixProjectIdeal.nD Cert.MixProjectIdeal.τ).loc Cert.MixProjectIdeal.main_arg9) = m ((c.tc : Thread Cert.MixProjectIdeal.nD Cert.MixProjectIdeal.τ).loc Cert.MixProjectIdeal.main_arg9))
      ∧ r.2.sem = fun _ => 0)

def quiescent_MixProjectRefIdeal [hMixProjectRefIdeal : Cert.MixProjectRefIdeal.Facts] : Prop :=
  ∀ (m : (ℓ : Loc Cert.MixProjectRefIdeal.nD Cert.MixProjectRefIdeal.τ Cert.MixProjectRefIdeal.sig) → Buf (Elt Ideal) ℓ) (g : Dev Cert.MixProjectRefIdeal.nD → PrngReg), Pre_MixProjectRefIdeal m →
    θ_run (Cert.MixProjectRefIdeal.defs (F := Ideal)) (onTc (τ := Cert.MixProjectRefIdeal.τ) (Cert.MixProjectRefIdeal.main (F := Ideal))) ⟨m, fun _ => 0, g⟩ (fun r => (∀ c : Dev Cert.MixProjectRefIdeal.nD,
      r.2.mem ((c.tc : Thread Cert.MixProjectRefIdeal.nD Cert.MixProjectRefIdeal.τ).loc Cert.MixProjectRefIdeal.main_arg0) = m ((c.tc : Thread Cert.MixProjectRefIdeal.nD Cert.MixProjectRefIdeal.τ).loc Cert.MixProjectRefIdeal.main_arg0)
      ∧ r.2.mem ((c.tc : Thread Cert.MixProjectRefIdeal.nD Cert.MixProjectRefIdeal.τ).loc Cert.MixProjectRefIdeal.main_arg1) = m ((c.tc : Thread Cert.MixProjectRefIdeal.nD Cert.MixProjectRefIdeal.τ).loc Cert.MixProjectRefIdeal.main_arg1)
      ∧ r.2.mem ((c.tc : Thread Cert.MixProjectRefIdeal.nD Cert.MixProjectRefIdeal.τ).loc Cert.MixProjectRefIdeal.main_arg2) = m ((c.tc : Thread Cert.MixProjectRefIdeal.nD Cert.MixProjectRefIdeal.τ).loc Cert.MixProjectRefIdeal.main_arg2)
      ∧ r.2.mem ((c.tc : Thread Cert.MixProjectRefIdeal.nD Cert.MixProjectRefIdeal.τ).loc Cert.MixProjectRefIdeal.main_arg3) = m ((c.tc : Thread Cert.MixProjectRefIdeal.nD Cert.MixProjectRefIdeal.τ).loc Cert.MixProjectRefIdeal.main_arg3)
      ∧ r.2.mem ((c.tc : Thread Cert.MixProjectRefIdeal.nD Cert.MixProjectRefIdeal.τ).loc Cert.MixProjectRefIdeal.main_arg4) = m ((c.tc : Thread Cert.MixProjectRefIdeal.nD Cert.MixProjectRefIdeal.τ).loc Cert.MixProjectRefIdeal.main_arg4)
      ∧ r.2.mem ((c.tc : Thread Cert.MixProjectRefIdeal.nD Cert.MixProjectRefIdeal.τ).loc Cert.MixProjectRefIdeal.main_arg5) = m ((c.tc : Thread Cert.MixProjectRefIdeal.nD Cert.MixProjectRefIdeal.τ).loc Cert.MixProjectRefIdeal.main_arg5)
      ∧ r.2.mem ((c.tc : Thread Cert.MixProjectRefIdeal.nD Cert.MixProjectRefIdeal.τ).loc Cert.MixProjectRefIdeal.main_arg6) = m ((c.tc : Thread Cert.MixProjectRefIdeal.nD Cert.MixProjectRefIdeal.τ).loc Cert.MixProjectRefIdeal.main_arg6)
      ∧ r.2.mem ((c.tc : Thread Cert.MixProjectRefIdeal.nD Cert.MixProjectRefIdeal.τ).loc Cert.MixProjectRefIdeal.main_arg7) = m ((c.tc : Thread Cert.MixProjectRefIdeal.nD Cert.MixProjectRefIdeal.τ).loc Cert.MixProjectRefIdeal.main_arg7)
      ∧ r.2.mem ((c.tc : Thread Cert.MixProjectRefIdeal.nD Cert.MixProjectRefIdeal.τ).loc Cert.MixProjectRefIdeal.main_arg8) = m ((c.tc : Thread Cert.MixProjectRefIdeal.nD Cert.MixProjectRefIdeal.τ).loc Cert.MixProjectRefIdeal.main_arg8)
      ∧ r.2.mem ((c.tc : Thread Cert.MixProjectRefIdeal.nD Cert.MixProjectRefIdeal.τ).loc Cert.MixProjectRefIdeal.main_arg9) = m ((c.tc : Thread Cert.MixProjectRefIdeal.nD Cert.MixProjectRefIdeal.τ).loc Cert.MixProjectRefIdeal.main_arg9))
      ∧ r.2.sem = fun _ => 0)

def preserves_MixFinal_MixFinalIdeal : Prop :=
  True

def algebraic_MixFinalIdeal_MixFinalRefIdeal [hMixFinalIdeal : Cert.MixFinalIdeal.Facts] [hMixFinalRefIdeal : Cert.MixFinalRefIdeal.Facts] : Prop :=
  ∀ (m : (ℓ : Loc Cert.MixFinalIdeal.nD Cert.MixFinalIdeal.τ Cert.MixFinalIdeal.sig) → Buf (Elt Ideal) ℓ) (g : Dev Cert.MixFinalIdeal.nD → PrngReg)
    (m' : (ℓ : Loc Cert.MixFinalRefIdeal.nD Cert.MixFinalRefIdeal.τ Cert.MixFinalRefIdeal.sig) → Buf (Elt Ideal) ℓ) (g' : Dev Cert.MixFinalRefIdeal.nD → PrngReg), Pre_MixFinalIdeal m →
    (∀ c : Dev Cert.MixFinalIdeal.nD,
      m' ((c.tc : Thread Cert.MixFinalRefIdeal.nD Cert.MixFinalRefIdeal.τ).loc Cert.MixFinalRefIdeal.main_arg0) = m ((c.tc : Thread Cert.MixFinalIdeal.nD Cert.MixFinalIdeal.τ).loc Cert.MixFinalIdeal.main_arg0)
      ∧ m' ((c.tc : Thread Cert.MixFinalRefIdeal.nD Cert.MixFinalRefIdeal.τ).loc Cert.MixFinalRefIdeal.main_arg1) = m ((c.tc : Thread Cert.MixFinalIdeal.nD Cert.MixFinalIdeal.τ).loc Cert.MixFinalIdeal.main_arg1)
      ∧ m' ((c.tc : Thread Cert.MixFinalRefIdeal.nD Cert.MixFinalRefIdeal.τ).loc Cert.MixFinalRefIdeal.main_arg2) = m ((c.tc : Thread Cert.MixFinalIdeal.nD Cert.MixFinalIdeal.τ).loc Cert.MixFinalIdeal.main_arg2)
      ∧ m' ((c.tc : Thread Cert.MixFinalRefIdeal.nD Cert.MixFinalRefIdeal.τ).loc Cert.MixFinalRefIdeal.main_arg3) = m ((c.tc : Thread Cert.MixFinalIdeal.nD Cert.MixFinalIdeal.τ).loc Cert.MixFinalIdeal.main_arg3)
      ∧ m' ((c.tc : Thread Cert.MixFinalRefIdeal.nD Cert.MixFinalRefIdeal.τ).loc Cert.MixFinalRefIdeal.main_arg4) = m ((c.tc : Thread Cert.MixFinalIdeal.nD Cert.MixFinalIdeal.τ).loc Cert.MixFinalIdeal.main_arg4)
      ∧ m' ((c.tc : Thread Cert.MixFinalRefIdeal.nD Cert.MixFinalRefIdeal.τ).loc Cert.MixFinalRefIdeal.main_arg5) = m ((c.tc : Thread Cert.MixFinalIdeal.nD Cert.MixFinalIdeal.τ).loc Cert.MixFinalIdeal.main_arg5)
      ∧ m' ((c.tc : Thread Cert.MixFinalRefIdeal.nD Cert.MixFinalRefIdeal.τ).loc Cert.MixFinalRefIdeal.main_arg6) = m ((c.tc : Thread Cert.MixFinalIdeal.nD Cert.MixFinalIdeal.τ).loc Cert.MixFinalIdeal.main_arg6)
      ∧ m' ((c.tc : Thread Cert.MixFinalRefIdeal.nD Cert.MixFinalRefIdeal.τ).loc Cert.MixFinalRefIdeal.main_arg7) = m ((c.tc : Thread Cert.MixFinalIdeal.nD Cert.MixFinalIdeal.τ).loc Cert.MixFinalIdeal.main_arg7)
      ∧ m' ((c.tc : Thread Cert.MixFinalRefIdeal.nD Cert.MixFinalRefIdeal.τ).loc Cert.MixFinalRefIdeal.main_arg8) = m ((c.tc : Thread Cert.MixFinalIdeal.nD Cert.MixFinalIdeal.τ).loc Cert.MixFinalIdeal.main_arg8)) →
    ∃ (v0 : (c : Dev Cert.MixFinalIdeal.nD) → Buf (Elt Ideal) ((c.tc : Thread Cert.MixFinalIdeal.nD Cert.MixFinalIdeal.τ).loc Cert.MixFinalIdeal.main_v26)),
      θ_run (Cert.MixFinalIdeal.defs (F := Ideal)) (onTc (τ := Cert.MixFinalIdeal.τ) (Cert.MixFinalIdeal.main (F := Ideal))) ⟨m, fun _ => 0, g⟩ (fun r => ∀ c : Dev Cert.MixFinalIdeal.nD,
          r.2.mem ((c.tc : Thread Cert.MixFinalIdeal.nD Cert.MixFinalIdeal.τ).loc Cert.MixFinalIdeal.main_v26) = v0 c
          ∧ r.2.mem ((c.tc : Thread Cert.MixFinalIdeal.nD Cert.MixFinalIdeal.τ).loc Cert.MixFinalIdeal.main_arg0) = m ((c.tc : Thread Cert.MixFinalIdeal.nD Cert.MixFinalIdeal.τ).loc Cert.MixFinalIdeal.main_arg0)
          ∧ r.2.mem ((c.tc : Thread Cert.MixFinalIdeal.nD Cert.MixFinalIdeal.τ).loc Cert.MixFinalIdeal.main_arg1) = m ((c.tc : Thread Cert.MixFinalIdeal.nD Cert.MixFinalIdeal.τ).loc Cert.MixFinalIdeal.main_arg1)
          ∧ r.2.mem ((c.tc : Thread Cert.MixFinalIdeal.nD Cert.MixFinalIdeal.τ).loc Cert.MixFinalIdeal.main_arg2) = m ((c.tc : Thread Cert.MixFinalIdeal.nD Cert.MixFinalIdeal.τ).loc Cert.MixFinalIdeal.main_arg2)
          ∧ r.2.mem ((c.tc : Thread Cert.MixFinalIdeal.nD Cert.MixFinalIdeal.τ).loc Cert.MixFinalIdeal.main_arg3) = m ((c.tc : Thread Cert.MixFinalIdeal.nD Cert.MixFinalIdeal.τ).loc Cert.MixFinalIdeal.main_arg3)
          ∧ r.2.mem ((c.tc : Thread Cert.MixFinalIdeal.nD Cert.MixFinalIdeal.τ).loc Cert.MixFinalIdeal.main_arg4) = m ((c.tc : Thread Cert.MixFinalIdeal.nD Cert.MixFinalIdeal.τ).loc Cert.MixFinalIdeal.main_arg4)
          ∧ r.2.mem ((c.tc : Thread Cert.MixFinalIdeal.nD Cert.MixFinalIdeal.τ).loc Cert.MixFinalIdeal.main_arg5) = m ((c.tc : Thread Cert.MixFinalIdeal.nD Cert.MixFinalIdeal.τ).loc Cert.MixFinalIdeal.main_arg5)
          ∧ r.2.mem ((c.tc : Thread Cert.MixFinalIdeal.nD Cert.MixFinalIdeal.τ).loc Cert.MixFinalIdeal.main_arg6) = m ((c.tc : Thread Cert.MixFinalIdeal.nD Cert.MixFinalIdeal.τ).loc Cert.MixFinalIdeal.main_arg6)
          ∧ r.2.mem ((c.tc : Thread Cert.MixFinalIdeal.nD Cert.MixFinalIdeal.τ).loc Cert.MixFinalIdeal.main_arg7) = m ((c.tc : Thread Cert.MixFinalIdeal.nD Cert.MixFinalIdeal.τ).loc Cert.MixFinalIdeal.main_arg7)
          ∧ r.2.mem ((c.tc : Thread Cert.MixFinalIdeal.nD Cert.MixFinalIdeal.τ).loc Cert.MixFinalIdeal.main_arg8) = m ((c.tc : Thread Cert.MixFinalIdeal.nD Cert.MixFinalIdeal.τ).loc Cert.MixFinalIdeal.main_arg8))
      ∧ θ_run (Cert.MixFinalRefIdeal.defs (F := Ideal)) (onTc (τ := Cert.MixFinalRefIdeal.τ) (Cert.MixFinalRefIdeal.main (F := Ideal))) ⟨m', fun _ => 0, g'⟩ (fun r => ∀ c : Dev Cert.MixFinalRefIdeal.nD,
          r.2.mem ((c.tc : Thread Cert.MixFinalRefIdeal.nD Cert.MixFinalRefIdeal.τ).loc Cert.MixFinalRefIdeal.main_v84) = v0 c
          ∧ r.2.mem ((c.tc : Thread Cert.MixFinalRefIdeal.nD Cert.MixFinalRefIdeal.τ).loc Cert.MixFinalRefIdeal.main_arg0) = m' ((c.tc : Thread Cert.MixFinalRefIdeal.nD Cert.MixFinalRefIdeal.τ).loc Cert.MixFinalRefIdeal.main_arg0)
          ∧ r.2.mem ((c.tc : Thread Cert.MixFinalRefIdeal.nD Cert.MixFinalRefIdeal.τ).loc Cert.MixFinalRefIdeal.main_arg1) = m' ((c.tc : Thread Cert.MixFinalRefIdeal.nD Cert.MixFinalRefIdeal.τ).loc Cert.MixFinalRefIdeal.main_arg1)
          ∧ r.2.mem ((c.tc : Thread Cert.MixFinalRefIdeal.nD Cert.MixFinalRefIdeal.τ).loc Cert.MixFinalRefIdeal.main_arg2) = m' ((c.tc : Thread Cert.MixFinalRefIdeal.nD Cert.MixFinalRefIdeal.τ).loc Cert.MixFinalRefIdeal.main_arg2)
          ∧ r.2.mem ((c.tc : Thread Cert.MixFinalRefIdeal.nD Cert.MixFinalRefIdeal.τ).loc Cert.MixFinalRefIdeal.main_arg3) = m' ((c.tc : Thread Cert.MixFinalRefIdeal.nD Cert.MixFinalRefIdeal.τ).loc Cert.MixFinalRefIdeal.main_arg3)
          ∧ r.2.mem ((c.tc : Thread Cert.MixFinalRefIdeal.nD Cert.MixFinalRefIdeal.τ).loc Cert.MixFinalRefIdeal.main_arg4) = m' ((c.tc : Thread Cert.MixFinalRefIdeal.nD Cert.MixFinalRefIdeal.τ).loc Cert.MixFinalRefIdeal.main_arg4)
          ∧ r.2.mem ((c.tc : Thread Cert.MixFinalRefIdeal.nD Cert.MixFinalRefIdeal.τ).loc Cert.MixFinalRefIdeal.main_arg5) = m' ((c.tc : Thread Cert.MixFinalRefIdeal.nD Cert.MixFinalRefIdeal.τ).loc Cert.MixFinalRefIdeal.main_arg5)
          ∧ r.2.mem ((c.tc : Thread Cert.MixFinalRefIdeal.nD Cert.MixFinalRefIdeal.τ).loc Cert.MixFinalRefIdeal.main_arg6) = m' ((c.tc : Thread Cert.MixFinalRefIdeal.nD Cert.MixFinalRefIdeal.τ).loc Cert.MixFinalRefIdeal.main_arg6)
          ∧ r.2.mem ((c.tc : Thread Cert.MixFinalRefIdeal.nD Cert.MixFinalRefIdeal.τ).loc Cert.MixFinalRefIdeal.main_arg7) = m' ((c.tc : Thread Cert.MixFinalRefIdeal.nD Cert.MixFinalRefIdeal.τ).loc Cert.MixFinalRefIdeal.main_arg7)
          ∧ r.2.mem ((c.tc : Thread Cert.MixFinalRefIdeal.nD Cert.MixFinalRefIdeal.τ).loc Cert.MixFinalRefIdeal.main_arg8) = m' ((c.tc : Thread Cert.MixFinalRefIdeal.nD Cert.MixFinalRefIdeal.τ).loc Cert.MixFinalRefIdeal.main_arg8))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v41)) (v1 : (c : Dev Cert.InProjIdeal.nD) → Buf (Elt Ideal) ((c.tc : Thread Cert.InProjIdeal.nD Cert.InProjIdeal.τ).loc Cert.InProjIdeal.main_v42)) (v2 : (c : Dev Cert.InProjIdeal.nD) → Buf (Elt Ideal) ((c.tc : Thread Cert.InProjIdeal.nD Cert.InProjIdeal.τ).loc Cert.InProjIdeal.main_v45)) (v3 : (c : Dev Cert.InProjIdeal.nD) → Buf (Elt Ideal) ((c.tc : Thread Cert.InProjIdeal.nD Cert.InProjIdeal.τ).loc Cert.InProjIdeal.main_v48)) (v4 : (c : Dev Cert.InProjIdeal.nD) → Buf (Elt Ideal) ((c.tc : Thread Cert.InProjIdeal.nD Cert.InProjIdeal.τ).loc Cert.InProjIdeal.main_v51)) (v5 : (c : Dev Cert.InProjIdeal.nD) → Buf (Elt Ideal) ((c.tc : Thread Cert.InProjIdeal.nD Cert.InProjIdeal.τ).loc Cert.InProjIdeal.main_v38_4)) (v6 : (c : Dev Cert.InProjIdeal.nD) → Buf (Elt Ideal) ((c.tc : Thread Cert.InProjIdeal.nD Cert.InProjIdeal.τ).loc Cert.InProjIdeal.main_v38_5)) (v7 : (c : Dev Cert.InProjIdeal.nD) → Buf (Elt Ideal) ((c.tc : Thread Cert.InProjIdeal.nD Cert.InProjIdeal.τ).loc Cert.InProjIdeal.main_v38_6)) (v8 : (c : Dev Cert.InProjIdeal.nD) → Buf (Elt Ideal) ((c.tc : Thread Cert.InProjIdeal.nD Cert.InProjIdeal.τ).loc Cert.InProjIdeal.main_v38_7)) (v9 : (c : Dev Cert.InProjIdeal.nD) → Buf (Elt Ideal) ((c.tc : Thread Cert.InProjIdeal.nD Cert.InProjIdeal.τ).loc Cert.InProjIdeal.main_v38_8)) (v10 : (c : Dev Cert.InProjIdeal.nD) → Buf (Elt Ideal) ((c.tc : Thread Cert.InProjIdeal.nD Cert.InProjIdeal.τ).loc Cert.InProjIdeal.main_v38_9)) (v11 : (c : Dev Cert.InProjIdeal.nD) → Buf (Elt Ideal) ((c.tc : Thread Cert.InProjIdeal.nD Cert.InProjIdeal.τ).loc Cert.InProjIdeal.main_v38_10)) (v12 : (c : Dev Cert.InProjIdeal.nD) → Buf (Elt Ideal) ((c.tc : Thread Cert.InProjIdeal.nD Cert.InProjIdeal.τ).loc Cert.InProjIdeal.main_v38_11)) (v13 : (c : Dev Cert.InProjIdeal.nD) → Buf (Elt Ideal) ((c.tc : Thread Cert.InProjIdeal.nD Cert.InProjIdeal.τ).loc Cert.InProjIdeal.main_v52)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v41) = v0 c
          ∧ r.2.mem ((c.tc : Thread Cert.InProjIdeal.nD Cert.InProjIdeal.τ).loc Cert.InProjIdeal.main_v42) = v1 c
          ∧ r.2.mem ((c.tc : Thread Cert.InProjIdeal.nD Cert.InProjIdeal.τ).loc Cert.InProjIdeal.main_v45) = v2 c
          ∧ r.2.mem ((c.tc : Thread Cert.InProjIdeal.nD Cert.InProjIdeal.τ).loc Cert.InProjIdeal.main_v48) = v3 c
          ∧ r.2.mem ((c.tc : Thread Cert.InProjIdeal.nD Cert.InProjIdeal.τ).loc Cert.InProjIdeal.main_v51) = v4 c
          ∧ r.2.mem ((c.tc : Thread Cert.InProjIdeal.nD Cert.InProjIdeal.τ).loc Cert.InProjIdeal.main_v38_4) = v5 c
          ∧ r.2.mem ((c.tc : Thread Cert.InProjIdeal.nD Cert.InProjIdeal.τ).loc Cert.InProjIdeal.main_v38_5) = v6 c
          ∧ r.2.mem ((c.tc : Thread Cert.InProjIdeal.nD Cert.InProjIdeal.τ).loc Cert.InProjIdeal.main_v38_6) = v7 c
          ∧ r.2.mem ((c.tc : Thread Cert.InProjIdeal.nD Cert.InProjIdeal.τ).loc Cert.InProjIdeal.main_v38_7) = v8 c
          ∧ r.2.mem ((c.tc : Thread Cert.InProjIdeal.nD Cert.InProjIdeal.τ).loc Cert.InProjIdeal.main_v38_8) = v9 c
          ∧ r.2.mem ((c.tc : Thread Cert.InProjIdeal.nD Cert.InProjIdeal.τ).loc Cert.InProjIdeal.main_v38_9) = v10 c
          ∧ r.2.mem ((c.tc : Thread Cert.InProjIdeal.nD Cert.InProjIdeal.τ).loc Cert.InProjIdeal.main_v38_10) = v11 c
          ∧ r.2.mem ((c.tc : Thread Cert.InProjIdeal.nD Cert.InProjIdeal.τ).loc Cert.InProjIdeal.main_v38_11) = v12 c
          ∧ r.2.mem ((c.tc : Thread Cert.InProjIdeal.nD Cert.InProjIdeal.τ).loc Cert.InProjIdeal.main_v52) = v13 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v14) = v0 c
          ∧ r.2.mem ((c.tc : Thread Cert.InProjRefIdeal.nD Cert.InProjRefIdeal.τ).loc Cert.InProjRefIdeal.main_v17) = v1 c
          ∧ r.2.mem ((c.tc : Thread Cert.InProjRefIdeal.nD Cert.InProjRefIdeal.τ).loc Cert.InProjRefIdeal.main_v15) = v2 c
          ∧ r.2.mem ((c.tc : Thread Cert.InProjRefIdeal.nD Cert.InProjRefIdeal.τ).loc Cert.InProjRefIdeal.main_v16) = v3 c
          ∧ r.2.mem ((c.tc : Thread Cert.InProjRefIdeal.nD Cert.InProjRefIdeal.τ).loc Cert.InProjRefIdeal.main_v18) = v4 c
          ∧ r.2.mem ((c.tc : Thread Cert.InProjRefIdeal.nD Cert.InProjRefIdeal.τ).loc Cert.InProjRefIdeal.main_v28) = v5 c
          ∧ r.2.mem ((c.tc : Thread Cert.InProjRefIdeal.nD Cert.InProjRefIdeal.τ).loc Cert.InProjRefIdeal.main_v32) = v6 c
          ∧ r.2.mem ((c.tc : Thread Cert.InProjRefIdeal.nD Cert.InProjRefIdeal.τ).loc Cert.InProjRefIdeal.main_v22) = v7 c
          ∧ r.2.mem ((c.tc : Thread Cert.InProjRefIdeal.nD Cert.InProjRefIdeal.τ).loc Cert.InProjRefIdeal.main_v26) = v8 c
          ∧ r.2.mem ((c.tc : Thread Cert.InProjRefIdeal.nD Cert.InProjRefIdeal.τ).loc Cert.InProjRefIdeal.main_v27) = v9 c
          ∧ r.2.mem ((c.tc : Thread Cert.InProjRefIdeal.nD Cert.InProjRefIdeal.τ).loc Cert.InProjRefIdeal.main_v36) = v10 c
          ∧ r.2.mem ((c.tc : Thread Cert.InProjRefIdeal.nD Cert.InProjRefIdeal.τ).loc Cert.InProjRefIdeal.main_v38) = v11 c
          ∧ r.2.mem ((c.tc : Thread Cert.InProjRefIdeal.nD Cert.InProjRefIdeal.τ).loc Cert.InProjRefIdeal.main_v40) = v12 c
          ∧ r.2.mem ((c.tc : Thread Cert.InProjRefIdeal.nD Cert.InProjRefIdeal.τ).loc Cert.InProjRefIdeal.main_v41) = v13 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_MixProject_MixProjectIdeal : Prop :=
  True

def algebraic_MixProjectIdeal_MixProjectRefIdeal [hMixProjectIdeal : Cert.MixProjectIdeal.Facts] [hMixProjectRefIdeal : Cert.MixProjectRefIdeal.Facts] : Prop :=
  ∀ (m : (ℓ : Loc Cert.MixProjectIdeal.nD Cert.MixProjectIdeal.τ Cert.MixProjectIdeal.sig) → Buf (Elt Ideal) ℓ) (g : Dev Cert.MixProjectIdeal.nD → PrngReg)
    (m' : (ℓ : Loc Cert.MixProjectRefIdeal.nD Cert.MixProjectRefIdeal.τ Cert.MixProjectRefIdeal.sig) → Buf (Elt Ideal) ℓ) (g' : Dev Cert.MixProjectRefIdeal.nD → PrngReg), Pre_MixProjectIdeal m →
    (∀ c : Dev Cert.MixProjectIdeal.nD,
      m' ((c.tc : Thread Cert.MixProjectRefIdeal.nD Cert.MixProjectRefIdeal.τ).loc Cert.MixProjectRefIdeal.main_arg0) = m ((c.tc : Thread Cert.MixProjectIdeal.nD Cert.MixProjectIdeal.τ).loc Cert.MixProjectIdeal.main_arg0)
      ∧ m' ((c.tc : Thread Cert.MixProjectRefIdeal.nD Cert.MixProjectRefIdeal.τ).loc Cert.MixProjectRefIdeal.main_arg1) = m ((c.tc : Thread Cert.MixProjectIdeal.nD Cert.MixProjectIdeal.τ).loc Cert.MixProjectIdeal.main_arg1)
      ∧ m' ((c.tc : Thread Cert.MixProjectRefIdeal.nD Cert.MixProjectRefIdeal.τ).loc Cert.MixProjectRefIdeal.main_arg2) = m ((c.tc : Thread Cert.MixProjectIdeal.nD Cert.MixProjectIdeal.τ).loc Cert.MixProjectIdeal.main_arg2)
      ∧ m' ((c.tc : Thread Cert.MixProjectRefIdeal.nD Cert.MixProjectRefIdeal.τ).loc Cert.MixProjectRefIdeal.main_arg3) = m ((c.tc : Thread Cert.MixProjectIdeal.nD Cert.MixProjectIdeal.τ).loc Cert.MixProjectIdeal.main_arg3)
      ∧ m' ((c.tc : Thread Cert.MixProjectRefIdeal.nD Cert.MixProjectRefIdeal.τ).loc Cert.MixProjectRefIdeal.main_arg4) = m ((c.tc : Thread Cert.MixProjectIdeal.nD Cert.MixProjectIdeal.τ).loc Cert.MixProjectIdeal.main_arg4)
      ∧ m' ((c.tc : Thread Cert.MixProjectRefIdeal.nD Cert.MixProjectRefIdeal.τ).loc Cert.MixProjectRefIdeal.main_arg5) = m ((c.tc : Thread Cert.MixProjectIdeal.nD Cert.MixProjectIdeal.τ).loc Cert.MixProjectIdeal.main_arg5)
      ∧ m' ((c.tc : Thread Cert.MixProjectRefIdeal.nD Cert.MixProjectRefIdeal.τ).loc Cert.MixProjectRefIdeal.main_arg6) = m ((c.tc : Thread Cert.MixProjectIdeal.nD Cert.MixProjectIdeal.τ).loc Cert.MixProjectIdeal.main_arg6)
      ∧ m' ((c.tc : Thread Cert.MixProjectRefIdeal.nD Cert.MixProjectRefIdeal.τ).loc Cert.MixProjectRefIdeal.main_arg7) = m ((c.tc : Thread Cert.MixProjectIdeal.nD Cert.MixProjectIdeal.τ).loc Cert.MixProjectIdeal.main_arg7)
      ∧ m' ((c.tc : Thread Cert.MixProjectRefIdeal.nD Cert.MixProjectRefIdeal.τ).loc Cert.MixProjectRefIdeal.main_arg8) = m ((c.tc : Thread Cert.MixProjectIdeal.nD Cert.MixProjectIdeal.τ).loc Cert.MixProjectIdeal.main_arg8)
      ∧ m' ((c.tc : Thread Cert.MixProjectRefIdeal.nD Cert.MixProjectRefIdeal.τ).loc Cert.MixProjectRefIdeal.main_arg9) = m ((c.tc : Thread Cert.MixProjectIdeal.nD Cert.MixProjectIdeal.τ).loc Cert.MixProjectIdeal.main_arg9)) →
    ∃ (v0 : (c : Dev Cert.MixProjectIdeal.nD) → Buf (Elt Ideal) ((c.tc : Thread Cert.MixProjectIdeal.nD Cert.MixProjectIdeal.τ).loc Cert.MixProjectIdeal.main_v63_0)) (v1 : (c : Dev Cert.MixProjectIdeal.nD) → Buf (Elt Ideal) ((c.tc : Thread Cert.MixProjectIdeal.nD Cert.MixProjectIdeal.τ).loc Cert.MixProjectIdeal.main_v66)) (v2 : (c : Dev Cert.MixProjectIdeal.nD) → Buf (Elt Ideal) ((c.tc : Thread Cert.MixProjectIdeal.nD Cert.MixProjectIdeal.τ).loc Cert.MixProjectIdeal.main_v67)) (v3 : (c : Dev Cert.MixProjectIdeal.nD) → Buf (Elt Ideal) ((c.tc : Thread Cert.MixProjectIdeal.nD Cert.MixProjectIdeal.τ).loc Cert.MixProjectIdeal.main_v70)) (v4 : (c : Dev Cert.MixProjectIdeal.nD) → Buf (Elt Ideal) ((c.tc : Thread Cert.MixProjectIdeal.nD Cert.MixProjectIdeal.τ).loc Cert.MixProjectIdeal.main_v73)) (v5 : (c : Dev Cert.MixProjectIdeal.nD) → Buf (Elt Ideal) ((c.tc : Thread Cert.MixProjectIdeal.nD Cert.MixProjectIdeal.τ).loc Cert.MixProjectIdeal.main_v76)) (v6 : (c : Dev Cert.MixProjectIdeal.nD) → Buf (Elt Ideal) ((c.tc : Thread Cert.MixProjectIdeal.nD Cert.MixProjectIdeal.τ).loc Cert.MixProjectIdeal.main_v63_5)) (v7 : (c : Dev Cert.MixProjectIdeal.nD) → Buf (Elt Ideal) ((c.tc : Thread Cert.MixProjectIdeal.nD Cert.MixProjectIdeal.τ).loc Cert.MixProjectIdeal.main_v63_6)) (v8 : (c : Dev Cert.MixProjectIdeal.nD) → Buf (Elt Ideal) ((c.tc : Thread Cert.MixProjectIdeal.nD Cert.MixProjectIdeal.τ).loc Cert.MixProjectIdeal.main_v63_7)) (v9 : (c : Dev Cert.MixProjectIdeal.nD) → Buf (Elt Ideal) ((c.tc : Thread Cert.MixProjectIdeal.nD Cert.MixProjectIdeal.τ).loc Cert.MixProjectIdeal.main_v63_8)) (v10 : (c : Dev Cert.MixProjectIdeal.nD) → Buf (Elt Ideal) ((c.tc : Thread Cert.MixProjectIdeal.nD Cert.MixProjectIdeal.τ).loc Cert.MixProjectIdeal.main_v63_9)) (v11 : (c : Dev Cert.MixProjectIdeal.nD) → Buf (Elt Ideal) ((c.tc : Thread Cert.MixProjectIdeal.nD Cert.MixProjectIdeal.τ).loc Cert.MixProjectIdeal.main_v63_10)) (v12 : (c : Dev Cert.MixProjectIdeal.nD) → Buf (Elt Ideal) ((c.tc : Thread Cert.MixProjectIdeal.nD Cert.MixProjectIdeal.τ).loc Cert.MixProjectIdeal.main_v63_11)) (v13 : (c : Dev Cert.MixProjectIdeal.nD) → Buf (Elt Ideal) ((c.tc : Thread Cert.MixProjectIdeal.nD Cert.MixProjectIdeal.τ).loc Cert.MixProjectIdeal.main_v63_12)) (v14 : (c : Dev Cert.MixProjectIdeal.nD) → Buf (Elt Ideal) ((c.tc : Thread Cert.MixProjectIdeal.nD Cert.MixProjectIdeal.τ).loc Cert.MixProjectIdeal.main_v77)),
      θ_run (Cert.MixProjectIdeal.defs (F := Ideal)) (onTc (τ := Cert.MixProjectIdeal.τ) (Cert.MixProjectIdeal.main (F := Ideal))) ⟨m, fun _ => 0, g⟩ (fun r => ∀ c : Dev Cert.MixProjectIdeal.nD,
          r.2.mem ((c.tc : Thread Cert.MixProjectIdeal.nD Cert.MixProjectIdeal.τ).loc Cert.MixProjectIdeal.main_v63_0) = v0 c
          ∧ r.2.mem ((c.tc : Thread Cert.MixProjectIdeal.nD Cert.MixProjectIdeal.τ).loc Cert.MixProjectIdeal.main_v66) = v1 c
          ∧ r.2.mem ((c.tc : Thread Cert.MixProjectIdeal.nD Cert.MixProjectIdeal.τ).loc Cert.MixProjectIdeal.main_v67) = v2 c
          ∧ r.2.mem ((c.tc : Thread Cert.MixProjectIdeal.nD Cert.MixProjectIdeal.τ).loc Cert.MixProjectIdeal.main_v70) = v3 c
          ∧ r.2.mem ((c.tc : Thread Cert.MixProjectIdeal.nD Cert.MixProjectIdeal.τ).loc Cert.MixProjectIdeal.main_v73) = v4 c
          ∧ r.2.mem ((c.tc : Thread Cert.MixProjectIdeal.nD Cert.MixProjectIdeal.τ).loc Cert.MixProjectIdeal.main_v76) = v5 c
          ∧ r.2.mem ((c.tc : Thread Cert.MixProjectIdeal.nD Cert.MixProjectIdeal.τ).loc Cert.MixProjectIdeal.main_v63_5) = v6 c
          ∧ r.2.mem ((c.tc : Thread Cert.MixProjectIdeal.nD Cert.MixProjectIdeal.τ).loc Cert.MixProjectIdeal.main_v63_6) = v7 c
          ∧ r.2.mem ((c.tc : Thread Cert.MixProjectIdeal.nD Cert.MixProjectIdeal.τ).loc Cert.MixProjectIdeal.main_v63_7) = v8 c
          ∧ r.2.mem ((c.tc : Thread Cert.MixProjectIdeal.nD Cert.MixProjectIdeal.τ).loc Cert.MixProjectIdeal.main_v63_8) = v9 c
          ∧ r.2.mem ((c.tc : Thread Cert.MixProjectIdeal.nD Cert.MixProjectIdeal.τ).loc Cert.MixProjectIdeal.main_v63_9) = v10 c
          ∧ r.2.mem ((c.tc : Thread Cert.MixProjectIdeal.nD Cert.MixProjectIdeal.τ).loc Cert.MixProjectIdeal.main_v63_10) = v11 c
          ∧ r.2.mem ((c.tc : Thread Cert.MixProjectIdeal.nD Cert.MixProjectIdeal.τ).loc Cert.MixProjectIdeal.main_v63_11) = v12 c
          ∧ r.2.mem ((c.tc : Thread Cert.MixProjectIdeal.nD Cert.MixProjectIdeal.τ).loc Cert.MixProjectIdeal.main_v63_12) = v13 c
          ∧ r.2.mem ((c.tc : Thread Cert.MixProjectIdeal.nD Cert.MixProjectIdeal.τ).loc Cert.MixProjectIdeal.main_v77) = v14 c
          ∧ r.2.mem ((c.tc : Thread Cert.MixProjectIdeal.nD Cert.MixProjectIdeal.τ).loc Cert.MixProjectIdeal.main_arg0) = m ((c.tc : Thread Cert.MixProjectIdeal.nD Cert.MixProjectIdeal.τ).loc Cert.MixProjectIdeal.main_arg0)
          ∧ r.2.mem ((c.tc : Thread Cert.MixProjectIdeal.nD Cert.MixProjectIdeal.τ).loc Cert.MixProjectIdeal.main_arg1) = m ((c.tc : Thread Cert.MixProjectIdeal.nD Cert.MixProjectIdeal.τ).loc Cert.MixProjectIdeal.main_arg1)
          ∧ r.2.mem ((c.tc : Thread Cert.MixProjectIdeal.nD Cert.MixProjectIdeal.τ).loc Cert.MixProjectIdeal.main_arg2) = m ((c.tc : Thread Cert.MixProjectIdeal.nD Cert.MixProjectIdeal.τ).loc Cert.MixProjectIdeal.main_arg2)
          ∧ r.2.mem ((c.tc : Thread Cert.MixProjectIdeal.nD Cert.MixProjectIdeal.τ).loc Cert.MixProjectIdeal.main_arg3) = m ((c.tc : Thread Cert.MixProjectIdeal.nD Cert.MixProjectIdeal.τ).loc Cert.MixProjectIdeal.main_arg3)
          ∧ r.2.mem ((c.tc : Thread Cert.MixProjectIdeal.nD Cert.MixProjectIdeal.τ).loc Cert.MixProjectIdeal.main_arg4) = m ((c.tc : Thread Cert.MixProjectIdeal.nD Cert.MixProjectIdeal.τ).loc Cert.MixProjectIdeal.main_arg4)
          ∧ r.2.mem ((c.tc : Thread Cert.MixProjectIdeal.nD Cert.MixProjectIdeal.τ).loc Cert.MixProjectIdeal.main_arg5) = m ((c.tc : Thread Cert.MixProjectIdeal.nD Cert.MixProjectIdeal.τ).loc Cert.MixProjectIdeal.main_arg5)
          ∧ r.2.mem ((c.tc : Thread Cert.MixProjectIdeal.nD Cert.MixProjectIdeal.τ).loc Cert.MixProjectIdeal.main_arg6) = m ((c.tc : Thread Cert.MixProjectIdeal.nD Cert.MixProjectIdeal.τ).loc Cert.MixProjectIdeal.main_arg6)
          ∧ r.2.mem ((c.tc : Thread Cert.MixProjectIdeal.nD Cert.MixProjectIdeal.τ).loc Cert.MixProjectIdeal.main_arg7) = m ((c.tc : Thread Cert.MixProjectIdeal.nD Cert.MixProjectIdeal.τ).loc Cert.MixProjectIdeal.main_arg7)
          ∧ r.2.mem ((c.tc : Thread Cert.MixProjectIdeal.nD Cert.MixProjectIdeal.τ).loc Cert.MixProjectIdeal.main_arg8) = m ((c.tc : Thread Cert.MixProjectIdeal.nD Cert.MixProjectIdeal.τ).loc Cert.MixProjectIdeal.main_arg8)
          ∧ r.2.mem ((c.tc : Thread Cert.MixProjectIdeal.nD Cert.MixProjectIdeal.τ).loc Cert.MixProjectIdeal.main_arg9) = m ((c.tc : Thread Cert.MixProjectIdeal.nD Cert.MixProjectIdeal.τ).loc Cert.MixProjectIdeal.main_arg9))
      ∧ θ_run (Cert.MixProjectRefIdeal.defs (F := Ideal)) (onTc (τ := Cert.MixProjectRefIdeal.τ) (Cert.MixProjectRefIdeal.main (F := Ideal))) ⟨m', fun _ => 0, g'⟩ (fun r => ∀ c : Dev Cert.MixProjectRefIdeal.nD,
          r.2.mem ((c.tc : Thread Cert.MixProjectRefIdeal.nD Cert.MixProjectRefIdeal.τ).loc Cert.MixProjectRefIdeal.main_v71) = v0 c
          ∧ r.2.mem ((c.tc : Thread Cert.MixProjectRefIdeal.nD Cert.MixProjectRefIdeal.τ).loc Cert.MixProjectRefIdeal.main_v86) = v1 c
          ∧ r.2.mem ((c.tc : Thread Cert.MixProjectRefIdeal.nD Cert.MixProjectRefIdeal.τ).loc Cert.MixProjectRefIdeal.main_v89) = v2 c
          ∧ r.2.mem ((c.tc : Thread Cert.MixProjectRefIdeal.nD Cert.MixProjectRefIdeal.τ).loc Cert.MixProjectRefIdeal.main_v87) = v3 c
          ∧ r.2.mem ((c.tc : Thread Cert.MixProjectRefIdeal.nD Cert.MixProjectRefIdeal.τ).loc Cert.MixProjectRefIdeal.main_v88) = v4 c
          ∧ r.2.mem ((c.tc : Thread Cert.MixProjectRefIdeal.nD Cert.MixProjectRefIdeal.τ).loc Cert.MixProjectRefIdeal.main_v90) = v5 c
          ∧ r.2.mem ((c.tc : Thread Cert.MixProjectRefIdeal.nD Cert.MixProjectRefIdeal.τ).loc Cert.MixProjectRefIdeal.main_v100) = v6 c
          ∧ r.2.mem ((c.tc : Thread Cert.MixProjectRefIdeal.nD Cert.MixProjectRefIdeal.τ).loc Cert.MixProjectRefIdeal.main_v104) = v7 c
          ∧ r.2.mem ((c.tc : Thread Cert.MixProjectRefIdeal.nD Cert.MixProjectRefIdeal.τ).loc Cert.MixProjectRefIdeal.main_v94) = v8 c
          ∧ r.2.mem ((c.tc : Thread Cert.MixProjectRefIdeal.nD Cert.MixProjectRefIdeal.τ).loc Cert.MixProjectRefIdeal.main_v98) = v9 c
          ∧ r.2.mem ((c.tc : Thread Cert.MixProjectRefIdeal.nD Cert.MixProjectRefIdeal.τ).loc Cert.MixProjectRefIdeal.main_v99) = v10 c
          ∧ r.2.mem ((c.tc : Thread Cert.MixProjectRefIdeal.nD Cert.MixProjectRefIdeal.τ).loc Cert.MixProjectRefIdeal.main_v108) = v11 c
          ∧ r.2.mem ((c.tc : Thread Cert.MixProjectRefIdeal.nD Cert.MixProjectRefIdeal.τ).loc Cert.MixProjectRefIdeal.main_v110) = v12 c
          ∧ r.2.mem ((c.tc : Thread Cert.MixProjectRefIdeal.nD Cert.MixProjectRefIdeal.τ).loc Cert.MixProjectRefIdeal.main_v112) = v13 c
          ∧ r.2.mem ((c.tc : Thread Cert.MixProjectRefIdeal.nD Cert.MixProjectRefIdeal.τ).loc Cert.MixProjectRefIdeal.main_v113) = v14 c
          ∧ r.2.mem ((c.tc : Thread Cert.MixProjectRefIdeal.nD Cert.MixProjectRefIdeal.τ).loc Cert.MixProjectRefIdeal.main_arg0) = m' ((c.tc : Thread Cert.MixProjectRefIdeal.nD Cert.MixProjectRefIdeal.τ).loc Cert.MixProjectRefIdeal.main_arg0)
          ∧ r.2.mem ((c.tc : Thread Cert.MixProjectRefIdeal.nD Cert.MixProjectRefIdeal.τ).loc Cert.MixProjectRefIdeal.main_arg1) = m' ((c.tc : Thread Cert.MixProjectRefIdeal.nD Cert.MixProjectRefIdeal.τ).loc Cert.MixProjectRefIdeal.main_arg1)
          ∧ r.2.mem ((c.tc : Thread Cert.MixProjectRefIdeal.nD Cert.MixProjectRefIdeal.τ).loc Cert.MixProjectRefIdeal.main_arg2) = m' ((c.tc : Thread Cert.MixProjectRefIdeal.nD Cert.MixProjectRefIdeal.τ).loc Cert.MixProjectRefIdeal.main_arg2)
          ∧ r.2.mem ((c.tc : Thread Cert.MixProjectRefIdeal.nD Cert.MixProjectRefIdeal.τ).loc Cert.MixProjectRefIdeal.main_arg3) = m' ((c.tc : Thread Cert.MixProjectRefIdeal.nD Cert.MixProjectRefIdeal.τ).loc Cert.MixProjectRefIdeal.main_arg3)
          ∧ r.2.mem ((c.tc : Thread Cert.MixProjectRefIdeal.nD Cert.MixProjectRefIdeal.τ).loc Cert.MixProjectRefIdeal.main_arg4) = m' ((c.tc : Thread Cert.MixProjectRefIdeal.nD Cert.MixProjectRefIdeal.τ).loc Cert.MixProjectRefIdeal.main_arg4)
          ∧ r.2.mem ((c.tc : Thread Cert.MixProjectRefIdeal.nD Cert.MixProjectRefIdeal.τ).loc Cert.MixProjectRefIdeal.main_arg5) = m' ((c.tc : Thread Cert.MixProjectRefIdeal.nD Cert.MixProjectRefIdeal.τ).loc Cert.MixProjectRefIdeal.main_arg5)
          ∧ r.2.mem ((c.tc : Thread Cert.MixProjectRefIdeal.nD Cert.MixProjectRefIdeal.τ).loc Cert.MixProjectRefIdeal.main_arg6) = m' ((c.tc : Thread Cert.MixProjectRefIdeal.nD Cert.MixProjectRefIdeal.τ).loc Cert.MixProjectRefIdeal.main_arg6)
          ∧ r.2.mem ((c.tc : Thread Cert.MixProjectRefIdeal.nD Cert.MixProjectRefIdeal.τ).loc Cert.MixProjectRefIdeal.main_arg7) = m' ((c.tc : Thread Cert.MixProjectRefIdeal.nD Cert.MixProjectRefIdeal.τ).loc Cert.MixProjectRefIdeal.main_arg7)
          ∧ r.2.mem ((c.tc : Thread Cert.MixProjectRefIdeal.nD Cert.MixProjectRefIdeal.τ).loc Cert.MixProjectRefIdeal.main_arg8) = m' ((c.tc : Thread Cert.MixProjectRefIdeal.nD Cert.MixProjectRefIdeal.τ).loc Cert.MixProjectRefIdeal.main_arg8)
          ∧ r.2.mem ((c.tc : Thread Cert.MixProjectRefIdeal.nD Cert.MixProjectRefIdeal.τ).loc Cert.MixProjectRefIdeal.main_arg9) = m' ((c.tc : Thread Cert.MixProjectRefIdeal.nD Cert.MixProjectRefIdeal.τ).loc Cert.MixProjectRefIdeal.main_arg9))

def Claim : Prop :=
  ∃ (hDsa : Cert.Dsa.Facts) (hMixFinal : Cert.MixFinal.Facts) (hMixFinalIdeal : Cert.MixFinalIdeal.Facts) (hMixFinalRefIdeal : Cert.MixFinalRefIdeal.Facts) (hInProj : Cert.InProj.Facts) (hInProjIdeal : Cert.InProjIdeal.Facts) (hInProjRefIdeal : Cert.InProjRefIdeal.Facts) (hMixProject : Cert.MixProject.Facts) (hMixProjectIdeal : Cert.MixProjectIdeal.Facts) (hMixProjectRefIdeal : Cert.MixProjectRefIdeal.Facts),
    quiescent_Dsa (hDsa := hDsa)
    ∧ quiescent_MixFinal (hMixFinal := hMixFinal)
    ∧ quiescent_MixFinalIdeal (hMixFinalIdeal := hMixFinalIdeal)
    ∧ quiescent_MixFinalRefIdeal (hMixFinalRefIdeal := hMixFinalRefIdeal)
    ∧ quiescent_InProj (hInProj := hInProj)
    ∧ quiescent_InProjIdeal (hInProjIdeal := hInProjIdeal)
    ∧ quiescent_InProjRefIdeal (hInProjRefIdeal := hInProjRefIdeal)
    ∧ quiescent_MixProject (hMixProject := hMixProject)
    ∧ quiescent_MixProjectIdeal (hMixProjectIdeal := hMixProjectIdeal)
    ∧ quiescent_MixProjectRefIdeal (hMixProjectRefIdeal := hMixProjectRefIdeal)
    ∧ preserves_MixFinal_MixFinalIdeal
    ∧ algebraic_MixFinalIdeal_MixFinalRefIdeal (hMixFinalIdeal := hMixFinalIdeal) (hMixFinalRefIdeal := hMixFinalRefIdeal)
    ∧ preserves_InProj_InProjIdeal
    ∧ algebraic_InProjIdeal_InProjRefIdeal (hInProjIdeal := hInProjIdeal) (hInProjRefIdeal := hInProjRefIdeal)
    ∧ preserves_MixProject_MixProjectIdeal
    ∧ algebraic_MixProjectIdeal_MixProjectRefIdeal (hMixProjectIdeal := hMixProjectIdeal) (hMixProjectRefIdeal := hMixProjectRefIdeal)
-- ==== Dsa.lean ====
abbrev S8x384x8192 : Shape := ⟨3, ![8, 384, 8192]⟩
abbrev S8x128x8192 : Shape := ⟨3, ![8, 128, 8192]⟩
abbrev S8x8x8192 : Shape := ⟨3, ![8, 8, 8192]⟩
abbrev S8x8192x384 : Shape := ⟨3, ![8, 8192, 384]⟩
abbrev S8x8192x128 : Shape := ⟨3, ![8, 8192, 128]⟩
abbrev S32x6 : Shape := ⟨2, ![32, 6]⟩
abbrev S768 : Shape := ⟨1, ![768]⟩
abbrev S1024 : Shape := ⟨1, ![1024]⟩
abbrev S_ : Shape := ⟨0, ![]⟩
abbrev S768x1 : Shape := ⟨2, ![768, 1]⟩
abbrev S768x6 : Shape := ⟨2, ![768, 6]⟩
abbrev S1x6 : Shape := ⟨2, ![1, 6]⟩
abbrev S6 : Shape := ⟨1, ![6]⟩
abbrev S1024x1 : Shape := ⟨2, ![1024, 1]⟩
abbrev S1024x6 : Shape := ⟨2, ![1024, 6]⟩
abbrev S6x1024 : Shape := ⟨2, ![6, 1024]⟩
abbrev S8x1024 : Shape := ⟨2, ![8, 1024]⟩
abbrev S8 : Shape := ⟨1, ![8]⟩
abbrev S8x1 : Shape := ⟨2, ![8, 1]⟩
abbrev S8x128 : Shape := ⟨2, ![8, 128]⟩
abbrev S1x384x256 : Shape := ⟨3, ![1, 384, 256]⟩
abbrev S1x128x256 : Shape := ⟨3, ![1, 128, 256]⟩
abbrev S1x8x256 : Shape := ⟨3, ![1, 8, 256]⟩
abbrev S1x8192x384 : Shape := ⟨3, ![1, 8192, 384]⟩
abbrev S1x8192x128 : Shape := ⟨3, ![1, 8192, 128]⟩
abbrev S1x384x8192 : Shape := ⟨3, ![1, 384, 8192]⟩
abbrev S1x256x384 : Shape := ⟨3, ![1, 256, 384]⟩
abbrev S8960x256 : Shape := ⟨2, ![8960, 256]⟩
abbrev S32x256x256 : Shape := ⟨3, ![32, 256, 256]⟩
abbrev S256x256 : Shape := ⟨2, ![256, 256]⟩
abbrev S3x128x512 : Shape := ⟨3, ![3, 128, 512]⟩
abbrev S128x1024 : Shape := ⟨2, ![128, 1024]⟩
abbrev S6x80x256 : Shape := ⟨3, ![6, 80, 256]⟩
abbrev S6x768x256 : Shape := ⟨3, ![6, 768, 256]⟩
abbrev S1x1 : Shape := ⟨2, ![1, 1]⟩
abbrev S256x384 : Shape := ⟨2, ![256, 384]⟩
abbrev S256 : Shape := ⟨1, ![256]⟩
abbrev S256x1 : Shape := ⟨2, ![256, 1]⟩
abbrev S1 : Shape := ⟨1, ![1]⟩
abbrev S128x256 : Shape := ⟨2, ![128, 256]⟩
abbrev S8x256 : Shape := ⟨2, ![8, 256]⟩
abbrev S1x1024 : Shape := ⟨2, ![1, 1024]⟩
abbrev S256x1024 : Shape := ⟨2, ![256, 1024]⟩
abbrev S1x256x256 : Shape := ⟨3, ![1, 256, 256]⟩
abbrev S1x1024x128 : Shape := ⟨3, ![1, 1024, 128]⟩
abbrev S1024x128 : Shape := ⟨2, ![1024, 128]⟩
abbrev S1024x1024 : Shape := ⟨2, ![1024, 1024]⟩
abbrev S1024x256 : Shape := ⟨2, ![1024, 256]⟩
abbrev S1x256 : Shape := ⟨2, ![1, 256]⟩
abbrev S1x512x128 : Shape := ⟨3, ![1, 512, 128]⟩
abbrev S512x128 : Shape := ⟨2, ![512, 128]⟩
abbrev S512x1024 : Shape := ⟨2, ![512, 1024]⟩
abbrev S512x256 : Shape := ⟨2, ![512, 256]⟩
abbrev S1x256x128 : Shape := ⟨3, ![1, 256, 128]⟩
abbrev S256x128 : Shape := ⟨2, ![256, 128]⟩
abbrev S16x8x256 : Shape := ⟨3, ![16, 8, 256]⟩
abbrev S1x128x512 : Shape := ⟨3, ![1, 128, 512]⟩
abbrev S128x512 : Shape := ⟨2, ![128, 512]⟩
abbrev S512 : Shape := ⟨1, ![512]⟩
abbrev S1x512 : Shape := ⟨2, ![1, 512]⟩
abbrev S16x1024 : Shape := ⟨2, ![16, 1024]⟩
abbrev S1024x512 : Shape := ⟨2, ![1024, 512]⟩
abbrev S1x80x256 : Shape := ⟨3, ![1, 80, 256]⟩
abbrev S80x256 : Shape := ⟨2, ![80, 256]⟩
abbrev S1x64x1024 : Shape := ⟨3, ![1, 64, 1024]⟩
abbrev S64x1024 : Shape := ⟨2, ![64, 1024]⟩
abbrev S80x1024 : Shape := ⟨2, ![80, 1024]⟩
abbrev S16x512 : Shape := ⟨2, ![16, 512]⟩
abbrev S512x512 : Shape := ⟨2, ![512, 512]⟩
abbrev S1x64x512 : Shape := ⟨3, ![1, 64, 512]⟩
abbrev S64x512 : Shape := ⟨2, ![64, 512]⟩
abbrev S80x512 : Shape := ⟨2, ![80, 512]⟩
abbrev S16x256 : Shape := ⟨2, ![16, 256]⟩
abbrev S256x512 : Shape := ⟨2, ![256, 512]⟩
abbrev S1x64x256 : Shape := ⟨3, ![1, 64, 256]⟩
abbrev S64x256 : Shape := ⟨2, ![64, 256]⟩
abbrev S1x512x256 : Shape := ⟨3, ![1, 512, 256]⟩
abbrev S1x1x256 : Shape := ⟨3, ![1, 1, 256]⟩
abbrev S1x1x1 : Shape := ⟨3, ![1, 1, 1]⟩
abbrev S384x256 : Shape := ⟨2, ![384, 256]⟩

abbrev nBuf : Space → Nat
  | .hbm => 44
  | .vmem => 23
  | .smem => 0
  | _ => 0

abbrev bufTy : (tb : Table) → Fin (tcTables nBuf tb) → BufTy
  | .hbm, ⟨0, _⟩ => ⟨S8x384x8192, .bf16⟩
  | .hbm, ⟨1, _⟩ => ⟨S8x128x8192, .bf16⟩
  | .hbm, ⟨2, _⟩ => ⟨S8x8x8192, .f32⟩
  | .hbm, ⟨3, _⟩ => ⟨S8x8192x384, .bf16⟩
  | .hbm, ⟨4, _⟩ => ⟨S8x8192x128, .bf16⟩
  | .hbm, ⟨5, _⟩ => ⟨S8x384x8192, .bf16⟩
  | .hbm, ⟨6, _⟩ => ⟨S8x8192x384, .f32⟩
  | .hbm, ⟨7, _⟩ => ⟨S32x6, .f32⟩
  | .hbm, ⟨8, _⟩ => ⟨S768, .i32⟩
  | .hbm, ⟨9, _⟩ => ⟨S768, .i1⟩
  | .hbm, ⟨10, _⟩ => ⟨S1024, .i32⟩
  | .hbm, ⟨11, _⟩ => ⟨S1024, .i1⟩
  | .hbm, ⟨12, _⟩ => ⟨S_, .i32⟩
  | .hbm, ⟨13, _⟩ => ⟨S768, .i32⟩
  | .hbm, ⟨14, _⟩ => ⟨S768, .i32⟩
  | .hbm, ⟨15, _⟩ => ⟨S768, .i32⟩
  | .hbm, ⟨16, _⟩ => ⟨S768x1, .i32⟩
  | .hbm, ⟨17, _⟩ => ⟨S768x6, .f32⟩
  | .hbm, ⟨18, _⟩ => ⟨S1x6, .f32⟩
  | .hbm, ⟨19, _⟩ => ⟨S6, .f32⟩
  | .hbm, ⟨20, _⟩ => ⟨S1x6, .f32⟩
  | .hbm, ⟨21, _⟩ => ⟨S768x6, .f32⟩
  | .hbm, ⟨22, _⟩ => ⟨S768x6, .f32⟩
  | .hbm, ⟨23, _⟩ => ⟨S_, .f32⟩
  | .hbm, ⟨24, _⟩ => ⟨S768x6, .f32⟩
  | .hbm, ⟨25, _⟩ => ⟨S768x6, .f32⟩
  | .hbm, ⟨26, _⟩ => ⟨S_, .i32⟩
  | .hbm, ⟨27, _⟩ => ⟨S1024, .i32⟩
  | .hbm, ⟨28, _⟩ => ⟨S1024, .i32⟩
  | .hbm, ⟨29, _⟩ => ⟨S1024, .i32⟩
  | .hbm, ⟨30, _⟩ => ⟨S1024x1, .i32⟩
  | .hbm, ⟨31, _⟩ => ⟨S1024x6, .f32⟩
  | .hbm, ⟨32, _⟩ => ⟨S6x1024, .f32⟩
  | .hbm, ⟨33, _⟩ => ⟨S_, .i32⟩
  | .hbm, ⟨34, _⟩ => ⟨S_, .f32⟩
  | .hbm, ⟨35, _⟩ => ⟨S8x1024, .f32⟩
  | .hbm, ⟨36, _⟩ => ⟨S_, .f32⟩
  | .hbm, ⟨37, _⟩ => ⟨S6, .f32⟩
  | .hbm, ⟨38, _⟩ => ⟨S_, .i32⟩
  | .hbm, ⟨39, _⟩ => ⟨S_, .f32⟩
  | .hbm, ⟨40, _⟩ => ⟨S8, .f32⟩
  | .hbm, ⟨41, _⟩ => ⟨S8x1, .f32⟩
  | .hbm, ⟨42, _⟩ => ⟨S8x128, .f32⟩
  | .hbm, ⟨43, _⟩ => ⟨S8x8192x384, .bf16⟩
  | .local _ .vmem, ⟨0, _⟩ => ⟨S1x384x256, .bf16⟩
  | .local _ .vmem, ⟨1, _⟩ => ⟨S1x384x256, .bf16⟩
  | .local _ .vmem, ⟨2, _⟩ => ⟨S1x128x256, .bf16⟩
  | .local _ .vmem, ⟨3, _⟩ => ⟨S1x128x256, .bf16⟩
  | .local _ .vmem, ⟨4, _⟩ => ⟨S1x8x256, .f32⟩
  | .local _ .vmem, ⟨5, _⟩ => ⟨S1x8x256, .f32⟩
  | .local _ .vmem, ⟨6, _⟩ => ⟨S1x8192x384, .bf16⟩
  | .local _ .vmem, ⟨7, _⟩ => ⟨S1x8192x128, .bf16⟩
  | .local _ .vmem, ⟨8, _⟩ => ⟨S1x384x8192, .bf16⟩
  | .local _ .vmem, ⟨9, _⟩ => ⟨S1x256x384, .f32⟩
  | .local _ .vmem, ⟨10, _⟩ => ⟨S1x256x384, .f32⟩
  | .local _ .vmem, ⟨11, _⟩ => ⟨S8x1024, .f32⟩
  | .local _ .vmem, ⟨12, _⟩ => ⟨S8x128, .f32⟩
  | .local _ .vmem, ⟨13, _⟩ => ⟨S1x256x384, .bf16⟩
  | .local _ .vmem, ⟨14, _⟩ => ⟨S1x256x384, .bf16⟩
  | .local _ .vmem, ⟨15, _⟩ => ⟨S8960x256, .i32⟩
  | .local _ .vmem, ⟨16, _⟩ => ⟨S32x256x256, .i32⟩
  | .local _ .vmem, ⟨17, _⟩ => ⟨S256x256, .i32⟩
  | .local _ .vmem, ⟨18, _⟩ => ⟨S3x128x512, .bf16⟩
  | .local _ .vmem, ⟨19, _⟩ => ⟨S128x1024, .bf16⟩
  | .local _ .vmem, ⟨20, _⟩ => ⟨S6x80x256, .f32⟩
  | .local _ .vmem, ⟨21, _⟩ => ⟨S8x128, .f32⟩
  | .local _ .vmem, ⟨22, _⟩ => ⟨S6x768x256, .f32⟩
  | _, _ => ⟨S8x384x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_c_0 : Ref sig .tc := ⟨.hbm, 9, rfl⟩
abbrev main_c_1 : Ref sig .tc := ⟨.hbm, 10, rfl⟩
abbrev main_c_2 : Ref sig .tc := ⟨.hbm, 11, rfl⟩
abbrev main_c_3 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_c_4 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_c_5 : Ref sig .tc := ⟨.hbm, 33, rfl⟩
abbrev main_call0_v0 : Ref sig .tc := ⟨.hbm, 34, rfl⟩
abbrev main_v18 : Ref sig .tc := ⟨.hbm, 35, rfl⟩
abbrev main_cst_6 : Ref sig .tc := ⟨.hbm, 36, rfl⟩
abbrev main_v19 : Ref sig .tc := ⟨.hbm, 37, rfl⟩
abbrev main_c_7 : Ref sig .tc := ⟨.hbm, 38, rfl⟩
abbrev main_call1_v0 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [BitOps F]

abbrev grid0 : Pipeline.Grid := ⟨2, ![8, 32], ![false, false]⟩

def k0_cond1 (i : grid0.Coords) : BitVec 1 :=
  let arg1 : BitVec 32 := BitVec.ofNat 32 (i 1).val
  let c0_i32 : BitVec 32 := 0#32
  let v1 : BitVec 1 := Scalar.cmpi .eq arg1 c0_i32
  let v2 : BitVec 32 := Scalar.extui v1
  let c0_i32_0 : BitVec 32 := 0#32
  let v3 : BitVec 1 := Scalar.cmpi .ne v2 c0_i32_0
  v3

@[reducible] def k0_t1_loop : Scf.Loop 32 :=
  let c0_i32_647 : BitVec 32 := 0#32
  let c32_i32_648 : BitVec 32 := 32#32
  let v1668 : BitVec 32 := Scalar.addi c0_i32_647 c32_i32_648
  let c1_i32_649 : BitVec 32 := 1#32
  ⟨c0_i32_647, v1668, c1_i32_649⟩
def k0_mult1 (k0_t1 : Fin k0_t1_loop.trips) : BitVec 32 :=
  let c0_i32_647 : BitVec 32 := 0#32
  let c1_i32_649 : BitVec 32 := 1#32
  let arg20 : BitVec 32 := Scf.iv c0_i32_647 c1_i32_649 k0_t1
  let c256_i32_653 : BitVec 32 := 256#32
  let v1676 : BitVec 32 := Scalar.muli arg20 c256_i32_653
  v1676
def k0_off1 (k0_t1 : Fin k0_t1_loop.trips) : Fin 3 → Nat :=
  let c0_654 : Index := 0#32
  let c0_i32_647 : BitVec 32 := 0#32
  let c1_i32_649 : BitVec 32 := 1#32
  let arg20 : BitVec 32 := Scf.iv c0_i32_647 c1_i32_649 k0_t1
  let c256_i32_653 : BitVec 32 := 256#32
  let v1676 : BitVec 32 := Scalar.muli arg20 c256_i32_653
  let v1677 : BitVec 32 := v1676
  let v1678 : Index := Scalar.indexCast v1677
  let c0_655 : Index := 0#32
  ![0, v1678.toNat, 0]
@[reducible] def k0_t2_loop (i : grid0.Coords) : Scf.Loop 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_142 : BitVec 32 := 1#32
  ⟨c0_i32_140, v359, c1_i32_142⟩
def k0_mult2 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c1024_i32 : BitVec 32 := 1024#32
  let v1667 : BitVec 32 := Scalar.muli arg20 c1024_i32
  v1667
def k0_off2 (i : grid0.Coords) (k0_t2 : Fin (k0_t2_loop i).trips) : Fin 3 → Nat :=
  let c0_646 : Index := 0#32
  let c0_i32_140 : BitVec 32 := 0#32
  let c1_i32_142 : BitVec 32 := 1#32
  let arg20 : BitVec 32 := Scf.iv c0_i32_140 c1_i32_142 k0_t2
  let c1024_i32 : BitVec 32 := 1024#32
  let v1667 : BitVec 32 := Scalar.muli arg20 c1024_i32
  let v1668 : BitVec 32 := v1667
  let v1669 : Index := Scalar.indexCast v1668
  let c0_647 : Index := 0#32
  ![0, v1669.toNat, 0]
def k0_mult3 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let c0_i32_659 : BitVec 32 := 0#32
  let v1710 : BitVec 32 := Scalar.addi v1709 c0_i32_659
  let c256_i32_660 : BitVec 32 := 256#32
  let v1712 : BitVec 32 := Scalar.muli v1710 c256_i32_660
  v1712
def k0_off3 (i : grid0.Coords) (k0_t2 : Fin (k0_t2_loop i).trips) (c0_i32_659 : BitVec 32) : Fin 2 → Nat :=
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c256_i32_660 : BitVec 32 := 256#32
  let v1712 : BitVec 32 := Scalar.muli v1710 c256_i32_660
  let v1713 : BitVec 32 := v1712
  let v1714 : Index := Scalar.indexCast v1713
  let c0_661 : Index := 0#32
  ![v1714.toNat, 0]
def k0_mult4 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let c0_i32_659 : BitVec 32 := 0#32
  let v1710 : BitVec 32 := Scalar.addi v1709 c0_i32_659
  let c8_i32_903 : BitVec 32 := 8#32
  let v2472 : BitVec 32 := Scalar.muli v1710 c8_i32_903
  v2472
def k0_off4 (i : grid0.Coords) (k0_t2 : Fin (k0_t2_loop i).trips) (c0_i32_659 : BitVec 32) : Fin 3 → Nat :=
  let c0_904 : Index := 0#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2474 : Index := Scalar.indexCast v2473
  let c0_905 : Index := 0#32
  ![0, v2474.toNat, 0]
def k0_off5 (i : grid0.Coords) (k0_t2 : Fin (k0_t2_loop i).trips) (c0_i32_659 : BitVec 32) : Fin 3 → Nat :=
  let c1_906 : Index := 1#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2478 : Index := Scalar.indexCast v2473
  let c0_907 : Index := 0#32
  ![1, v2478.toNat, 0]
def k0_off6 (i : grid0.Coords) (k0_t2 : Fin (k0_t2_loop i).trips) (c0_i32_659 : BitVec 32) : Fin 3 → Nat :=
  let c2_908 : Index := 2#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2482 : Index := Scalar.indexCast v2473
  let c0_909 : Index := 0#32
  ![2, v2482.toNat, 0]
def k0_off7 (i : grid0.Coords) (k0_t2 : Fin (k0_t2_loop i).trips) (c0_i32_659 : BitVec 32) : Fin 3 → Nat :=
  let c3_910 : Index := 3#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2486 : Index := Scalar.indexCast v2473
  let c0_911 : Index := 0#32
  ![3, v2486.toNat, 0]
def k0_off8 (i : grid0.Coords) (k0_t2 : Fin (k0_t2_loop i).trips) (c0_i32_659 : BitVec 32) : Fin 3 → Nat :=
  let c4_912 : Index := 4#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2490 : Index := Scalar.indexCast v2473
  let c0_913 : Index := 0#32
  ![4, v2490.toNat, 0]
def k0_off9 (i : grid0.Coords) (k0_t2 : Fin (k0_t2_loop i).trips) (c0_i32_659 : BitVec 32) : Fin 3 → Nat :=
  let c5_914 : Index := 5#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2494 : Index := Scalar.indexCast v2473
  let c0_915 : Index := 0#32
  ![5, v2494.toNat, 0]
def k0_off10 (i : grid0.Coords) (k0_t2 : Fin (k0_t2_loop i).trips) (c0_i32_659 : BitVec 32) : Fin 3 → Nat :=
  let c6_916 : Index := 6#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2498 : Index := Scalar.indexCast v2473
  let c0_917 : Index := 0#32
  ![6, v2498.toNat, 0]
def k0_off11 (i : grid0.Coords) (k0_t2 : Fin (k0_t2_loop i).trips) (c0_i32_659 : BitVec 32) : Fin 3 → Nat :=
  let c7_918 : Index := 7#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2502 : Index := Scalar.indexCast v2473
  let c0_919 : Index := 0#32
  ![7, v2502.toNat, 0]
def k0_off12 (i : grid0.Coords) (k0_t2 : Fin (k0_t2_loop i).trips) (c0_i32_659 : BitVec 32) : Fin 3 → Nat :=
  let c8_920 : Index := 8#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2506 : Index := Scalar.indexCast v2473
  let c0_921 : Index := 0#32
  ![8, v2506.toNat, 0]
def k0_off13 (i : grid0.Coords) (k0_t2 : Fin (k0_t2_loop i).trips) (c0_i32_659 : BitVec 32) : Fin 3 → Nat :=
  let c9_922 : Index := 9#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2510 : Index := Scalar.indexCast v2473
  let c0_923 : Index := 0#32
  ![9, v2510.toNat, 0]
def k0_off14 (i : grid0.Coords) (k0_t2 : Fin (k0_t2_loop i).trips) (c0_i32_659 : BitVec 32) : Fin 3 → Nat :=
  let c10_924 : Index := 10#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2514 : Index := Scalar.indexCast v2473
  let c0_925 : Index := 0#32
  ![10, v2514.toNat, 0]
def k0_off15 (i : grid0.Coords) (k0_t2 : Fin (k0_t2_loop i).trips) (c0_i32_659 : BitVec 32) : Fin 3 → Nat :=
  let c11_926 : Index := 11#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2518 : Index := Scalar.indexCast v2473
  let c0_927 : Index := 0#32
  ![11, v2518.toNat, 0]
def k0_off16 (i : grid0.Coords) (k0_t2 : Fin (k0_t2_loop i).trips) (c0_i32_659 : BitVec 32) : Fin 3 → Nat :=
  let c12_928 : Index := 12#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2522 : Index := Scalar.indexCast v2473
  let c0_929 : Index := 0#32
  ![12, v2522.toNat, 0]
def k0_off17 (i : grid0.Coords) (k0_t2 : Fin (k0_t2_loop i).trips) (c0_i32_659 : BitVec 32) : Fin 3 → Nat :=
  let c13_930 : Index := 13#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2526 : Index := Scalar.indexCast v2473
  let c0_931 : Index := 0#32
  ![13, v2526.toNat, 0]
def k0_off18 (i : grid0.Coords) (k0_t2 : Fin (k0_t2_loop i).trips) (c0_i32_659 : BitVec 32) : Fin 3 → Nat :=
  let c14_932 : Index := 14#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2530 : Index := Scalar.indexCast v2473
  let c0_933 : Index := 0#32
  ![14, v2530.toNat, 0]
def k0_off19 (i : grid0.Coords) (k0_t2 : Fin (k0_t2_loop i).trips) (c0_i32_659 : BitVec 32) : Fin 3 → Nat :=
  let c15_934 : Index := 15#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2534 : Index := Scalar.indexCast v2473
  let c0_935 : Index := 0#32
  ![15, v2534.toNat, 0]
def k0_off20 (i : grid0.Coords) (k0_t2 : Fin (k0_t2_loop i).trips) (c0_i32_659 : BitVec 32) : Fin 3 → Nat :=
  let c16_936 : Index := 16#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2538 : Index := Scalar.indexCast v2473
  let c0_937 : Index := 0#32
  ![16, v2538.toNat, 0]
def k0_off21 (i : grid0.Coords) (k0_t2 : Fin (k0_t2_loop i).trips) (c0_i32_659 : BitVec 32) : Fin 3 → Nat :=
  let c17_938 : Index := 17#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2542 : Index := Scalar.indexCast v2473
  let c0_939 : Index := 0#32
  ![17, v2542.toNat, 0]
def k0_off22 (i : grid0.Coords) (k0_t2 : Fin (k0_t2_loop i).trips) (c0_i32_659 : BitVec 32) : Fin 3 → Nat :=
  let c18_940 : Index := 18#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2546 : Index := Scalar.indexCast v2473
  let c0_941 : Index := 0#32
  ![18, v2546.toNat, 0]
def k0_off23 (i : grid0.Coords) (k0_t2 : Fin (k0_t2_loop i).trips) (c0_i32_659 : BitVec 32) : Fin 3 → Nat :=
  let c19_942 : Index := 19#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2550 : Index := Scalar.indexCast v2473
  let c0_943 : Index := 0#32
  ![19, v2550.toNat, 0]
def k0_off24 (i : grid0.Coords) (k0_t2 : Fin (k0_t2_loop i).trips) (c0_i32_659 : BitVec 32) : Fin 3 → Nat :=
  let c20_944 : Index := 20#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2554 : Index := Scalar.indexCast v2473
  let c0_945 : Index := 0#32
  ![20, v2554.toNat, 0]
def k0_off25 (i : grid0.Coords) (k0_t2 : Fin (k0_t2_loop i).trips) (c0_i32_659 : BitVec 32) : Fin 3 → Nat :=
  let c21_946 : Index := 21#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2558 : Index := Scalar.indexCast v2473
  let c0_947 : Index := 0#32
  ![21, v2558.toNat, 0]
def k0_off26 (i : grid0.Coords) (k0_t2 : Fin (k0_t2_loop i).trips) (c0_i32_659 : BitVec 32) : Fin 3 → Nat :=
  let c22_948 : Index := 22#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2562 : Index := Scalar.indexCast v2473
  let c0_949 : Index := 0#32
  ![22, v2562.toNat, 0]
def k0_off27 (i : grid0.Coords) (k0_t2 : Fin (k0_t2_loop i).trips) (c0_i32_659 : BitVec 32) : Fin 3 → Nat :=
  let c23_950 : Index := 23#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2566 : Index := Scalar.indexCast v2473
  let c0_951 : Index := 0#32
  ![23, v2566.toNat, 0]
def k0_off28 (i : grid0.Coords) (k0_t2 : Fin (k0_t2_loop i).trips) (c0_i32_659 : BitVec 32) : Fin 3 → Nat :=
  let c24_952 : Index := 24#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2570 : Index := Scalar.indexCast v2473
  let c0_953 : Index := 0#32
  ![24, v2570.toNat, 0]
def k0_off29 (i : grid0.Coords) (k0_t2 : Fin (k0_t2_loop i).trips) (c0_i32_659 : BitVec 32) : Fin 3 → Nat :=
  let c25_954 : Index := 25#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2574 : Index := Scalar.indexCast v2473
  let c0_955 : Index := 0#32
  ![25, v2574.toNat, 0]
def k0_off30 (i : grid0.Coords) (k0_t2 : Fin (k0_t2_loop i).trips) (c0_i32_659 : BitVec 32) : Fin 3 → Nat :=
  let c26_956 : Index := 26#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2578 : Index := Scalar.indexCast v2473
  let c0_957 : Index := 0#32
  ![26, v2578.toNat, 0]
def k0_off31 (i : grid0.Coords) (k0_t2 : Fin (k0_t2_loop i).trips) (c0_i32_659 : BitVec 32) : Fin 3 → Nat :=
  let c27_958 : Index := 27#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2582 : Index := Scalar.indexCast v2473
  let c0_959 : Index := 0#32
  ![27, v2582.toNat, 0]
def k0_off32 (i : grid0.Coords) (k0_t2 : Fin (k0_t2_loop i).trips) (c0_i32_659 : BitVec 32) : Fin 3 → Nat :=
  let c28_960 : Index := 28#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2586 : Index := Scalar.indexCast v2473
  let c0_961 : Index := 0#32
  ![28, v2586.toNat, 0]
def k0_off33 (i : grid0.Coords) (k0_t2 : Fin (k0_t2_loop i).trips) (c0_i32_659 : BitVec 32) : Fin 3 → Nat :=
  let c29_962 : Index := 29#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2590 : Index := Scalar.indexCast v2473
  let c0_963 : Index := 0#32
  ![29, v2590.toNat, 0]
def k0_off34 (i : grid0.Coords) (k0_t2 : Fin (k0_t2_loop i).trips) (c0_i32_659 : BitVec 32) : Fin 3 → Nat :=
  let c30_964 : Index := 30#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2594 : Index := Scalar.indexCast v2473
  let c0_965 : Index := 0#32
  ![30, v2594.toNat, 0]
def k0_off35 (i : grid0.Coords) (k0_t2 : Fin (k0_t2_loop i).trips) (c0_i32_659 : BitVec 32) : Fin 3 → Nat :=
  let c31_966 : Index := 31#32
  let c0_i32_140 : BitVec 32 := 0#32
  let c1_i32_142 : BitVec 32 := 1#32
  let arg20 : BitVec 32 := Scf.iv c0_i32_140 c1_i32_142 k0_t2
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2598 : Index := Scalar.indexCast v2473
  let c0_967 : Index := 0#32
  ![31, v2598.toNat, 0]
def k0_mult5 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_968 : BitVec 32 := 4#32
  let v2602 : BitVec 32 := Scalar.muli arg20 c4_i32_968
  let c1_i32_969 : BitVec 32 := 1#32
  let v2603 : BitVec 32 := Scalar.addi v2602 c1_i32_969
  let c256_i32_970 : BitVec 32 := 256#32
  let v2605 : BitVec 32 := Scalar.muli v2603 c256_i32_970
  v2605
def k0_mult6 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_968 : BitVec 32 := 4#32
  let v2602 : BitVec 32 := Scalar.muli arg20 c4_i32_968
  let c1_i32_969 : BitVec 32 := 1#32
  let v2603 : BitVec 32 := Scalar.addi v2602 c1_i32_969
  let c8_i32_1213 : BitVec 32 := 8#32
  let v3365 : BitVec 32 := Scalar.muli v2603 c8_i32_1213
  v3365
def k0_mult7 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_1278 : BitVec 32 := 4#32
  let v3495 : BitVec 32 := Scalar.muli arg20 c4_i32_1278
  let c2_i32_1279 : BitVec 32 := 2#32
  let v3496 : BitVec 32 := Scalar.addi v3495 c2_i32_1279
  let c256_i32_1280 : BitVec 32 := 256#32
  let v3498 : BitVec 32 := Scalar.muli v3496 c256_i32_1280
  v3498
def k0_mult8 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_1278 : BitVec 32 := 4#32
  let v3495 : BitVec 32 := Scalar.muli arg20 c4_i32_1278
  let c2_i32_1279 : BitVec 32 := 2#32
  let v3496 : BitVec 32 := Scalar.addi v3495 c2_i32_1279
  let c8_i32_1523 : BitVec 32 := 8#32
  let v4258 : BitVec 32 := Scalar.muli v3496 c8_i32_1523
  v4258
def k0_mult9 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_1588 : BitVec 32 := 4#32
  let v4388 : BitVec 32 := Scalar.muli arg20 c4_i32_1588
  let c3_i32_1589 : BitVec 32 := 3#32
  let v4389 : BitVec 32 := Scalar.addi v4388 c3_i32_1589
  let c256_i32_1590 : BitVec 32 := 256#32
  let v4391 : BitVec 32 := Scalar.muli v4389 c256_i32_1590
  v4391
def k0_mult10 (i : grid0.Coords) (k0_t2 : Fin (k0_t2_loop i).trips) : BitVec 32 :=
  let c0_i32_140 : BitVec 32 := 0#32
  let c1_i32_142 : BitVec 32 := 1#32
  let arg20 : BitVec 32 := Scf.iv c0_i32_140 c1_i32_142 k0_t2
  let c4_i32_1588 : BitVec 32 := 4#32
  let v4388 : BitVec 32 := Scalar.muli arg20 c4_i32_1588
  let c3_i32_1589 : BitVec 32 := 3#32
  let v4389 : BitVec 32 := Scalar.addi v4388 c3_i32_1589
  let c8_i32_1833 : BitVec 32 := 8#32
  let v5151 : BitVec 32 := Scalar.muli v4389 c8_i32_1833
  v5151
@[reducible] def k0_t3_loop (i : grid0.Coords) : Scf.Loop 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let v356 : BitVec 32 := Scalar.addi c0_i32_140 v355
  let c1_i32_143 : BitVec 32 := 1#32
  ⟨v359, v356, c1_i32_143⟩
def k0_mult11 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c1024_i32 : BitVec 32 := 1024#32
  let v1667 : BitVec 32 := Scalar.muli arg20 c1024_i32
  v1667
def k0_off36 (i : grid0.Coords) (k0_t3 : Fin (k0_t3_loop i).trips) : Fin 3 → Nat :=
  let c0_646 : Index := 0#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c1024_i32 : BitVec 32 := 1024#32
  let v1667 : BitVec 32 := Scalar.muli arg20 c1024_i32
  let v1668 : BitVec 32 := v1667
  let v1669 : Index := Scalar.indexCast v1668
  let c0_647 : Index := 0#32
  ![0, v1669.toNat, 0]
def k0_mult12 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let c0_i32_659 : BitVec 32 := 0#32
  let v1710 : BitVec 32 := Scalar.addi v1709 c0_i32_659
  let c256_i32_660 : BitVec 32 := 256#32
  let v1712 : BitVec 32 := Scalar.muli v1710 c256_i32_660
  v1712
def k0_off37 (i : grid0.Coords) (k0_t3 : Fin (k0_t3_loop i).trips) (c0_i32_659 : BitVec 32) : Fin 2 → Nat :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c256_i32_660 : BitVec 32 := 256#32
  let v1712 : BitVec 32 := Scalar.muli v1710 c256_i32_660
  let v1713 : BitVec 32 := v1712
  let v1714 : Index := Scalar.indexCast v1713
  let c0_661 : Index := 0#32
  ![v1714.toNat, 0]
def k0_mult13 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let c0_i32_659 : BitVec 32 := 0#32
  let v1710 : BitVec 32 := Scalar.addi v1709 c0_i32_659
  let c8_i32_903 : BitVec 32 := 8#32
  let v2472 : BitVec 32 := Scalar.muli v1710 c8_i32_903
  v2472
def k0_off38 (i : grid0.Coords) (k0_t3 : Fin (k0_t3_loop i).trips) (c0_i32_659 : BitVec 32) : Fin 3 → Nat :=
  let c0_904 : Index := 0#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2474 : Index := Scalar.indexCast v2473
  let c0_905 : Index := 0#32
  ![0, v2474.toNat, 0]
def k0_off39 (i : grid0.Coords) (k0_t3 : Fin (k0_t3_loop i).trips) (c0_i32_659 : BitVec 32) : Fin 3 → Nat :=
  let c1_906 : Index := 1#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2478 : Index := Scalar.indexCast v2473
  let c0_907 : Index := 0#32
  ![1, v2478.toNat, 0]
def k0_off40 (i : grid0.Coords) (k0_t3 : Fin (k0_t3_loop i).trips) (c0_i32_659 : BitVec 32) : Fin 3 → Nat :=
  let c2_908 : Index := 2#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2482 : Index := Scalar.indexCast v2473
  let c0_909 : Index := 0#32
  ![2, v2482.toNat, 0]
def k0_off41 (i : grid0.Coords) (k0_t3 : Fin (k0_t3_loop i).trips) (c0_i32_659 : BitVec 32) : Fin 3 → Nat :=
  let c3_910 : Index := 3#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2486 : Index := Scalar.indexCast v2473
  let c0_911 : Index := 0#32
  ![3, v2486.toNat, 0]
def k0_off42 (i : grid0.Coords) (k0_t3 : Fin (k0_t3_loop i).trips) (c0_i32_659 : BitVec 32) : Fin 3 → Nat :=
  let c4_912 : Index := 4#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2490 : Index := Scalar.indexCast v2473
  let c0_913 : Index := 0#32
  ![4, v2490.toNat, 0]
def k0_off43 (i : grid0.Coords) (k0_t3 : Fin (k0_t3_loop i).trips) (c0_i32_659 : BitVec 32) : Fin 3 → Nat :=
  let c5_914 : Index := 5#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2494 : Index := Scalar.indexCast v2473
  let c0_915 : Index := 0#32
  ![5, v2494.toNat, 0]
def k0_off44 (i : grid0.Coords) (k0_t3 : Fin (k0_t3_loop i).trips) (c0_i32_659 : BitVec 32) : Fin 3 → Nat :=
  let c6_916 : Index := 6#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2498 : Index := Scalar.indexCast v2473
  let c0_917 : Index := 0#32
  ![6, v2498.toNat, 0]
def k0_off45 (i : grid0.Coords) (k0_t3 : Fin (k0_t3_loop i).trips) (c0_i32_659 : BitVec 32) : Fin 3 → Nat :=
  let c7_918 : Index := 7#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2502 : Index := Scalar.indexCast v2473
  let c0_919 : Index := 0#32
  ![7, v2502.toNat, 0]
def k0_off46 (i : grid0.Coords) (k0_t3 : Fin (k0_t3_loop i).trips) (c0_i32_659 : BitVec 32) : Fin 3 → Nat :=
  let c8_920 : Index := 8#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2506 : Index := Scalar.indexCast v2473
  let c0_921 : Index := 0#32
  ![8, v2506.toNat, 0]
def k0_off47 (i : grid0.Coords) (k0_t3 : Fin (k0_t3_loop i).trips) (c0_i32_659 : BitVec 32) : Fin 3 → Nat :=
  let c9_922 : Index := 9#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2510 : Index := Scalar.indexCast v2473
  let c0_923 : Index := 0#32
  ![9, v2510.toNat, 0]
def k0_off48 (i : grid0.Coords) (k0_t3 : Fin (k0_t3_loop i).trips) (c0_i32_659 : BitVec 32) : Fin 3 → Nat :=
  let c10_924 : Index := 10#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2514 : Index := Scalar.indexCast v2473
  let c0_925 : Index := 0#32
  ![10, v2514.toNat, 0]
def k0_off49 (i : grid0.Coords) (k0_t3 : Fin (k0_t3_loop i).trips) (c0_i32_659 : BitVec 32) : Fin 3 → Nat :=
  let c11_926 : Index := 11#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2518 : Index := Scalar.indexCast v2473
  let c0_927 : Index := 0#32
  ![11, v2518.toNat, 0]
def k0_off50 (i : grid0.Coords) (k0_t3 : Fin (k0_t3_loop i).trips) (c0_i32_659 : BitVec 32) : Fin 3 → Nat :=
  let c12_928 : Index := 12#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2522 : Index := Scalar.indexCast v2473
  let c0_929 : Index := 0#32
  ![12, v2522.toNat, 0]
def k0_off51 (i : grid0.Coords) (k0_t3 : Fin (k0_t3_loop i).trips) (c0_i32_659 : BitVec 32) : Fin 3 → Nat :=
  let c13_930 : Index := 13#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2526 : Index := Scalar.indexCast v2473
  let c0_931 : Index := 0#32
  ![13, v2526.toNat, 0]
def k0_off52 (i : grid0.Coords) (k0_t3 : Fin (k0_t3_loop i).trips) (c0_i32_659 : BitVec 32) : Fin 3 → Nat :=
  let c14_932 : Index := 14#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2530 : Index := Scalar.indexCast v2473
  let c0_933 : Index := 0#32
  ![14, v2530.toNat, 0]
def k0_off53 (i : grid0.Coords) (k0_t3 : Fin (k0_t3_loop i).trips) (c0_i32_659 : BitVec 32) : Fin 3 → Nat :=
  let c15_934 : Index := 15#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2534 : Index := Scalar.indexCast v2473
  let c0_935 : Index := 0#32
  ![15, v2534.toNat, 0]
def k0_off54 (i : grid0.Coords) (k0_t3 : Fin (k0_t3_loop i).trips) (c0_i32_659 : BitVec 32) : Fin 3 → Nat :=
  let c16_936 : Index := 16#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2538 : Index := Scalar.indexCast v2473
  let c0_937 : Index := 0#32
  ![16, v2538.toNat, 0]
def k0_off55 (i : grid0.Coords) (k0_t3 : Fin (k0_t3_loop i).trips) (c0_i32_659 : BitVec 32) : Fin 3 → Nat :=
  let c17_938 : Index := 17#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2542 : Index := Scalar.indexCast v2473
  let c0_939 : Index := 0#32
  ![17, v2542.toNat, 0]
def k0_off56 (i : grid0.Coords) (k0_t3 : Fin (k0_t3_loop i).trips) (c0_i32_659 : BitVec 32) : Fin 3 → Nat :=
  let c18_940 : Index := 18#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2546 : Index := Scalar.indexCast v2473
  let c0_941 : Index := 0#32
  ![18, v2546.toNat, 0]
def k0_off57 (i : grid0.Coords) (k0_t3 : Fin (k0_t3_loop i).trips) (c0_i32_659 : BitVec 32) : Fin 3 → Nat :=
  let c19_942 : Index := 19#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2550 : Index := Scalar.indexCast v2473
  let c0_943 : Index := 0#32
  ![19, v2550.toNat, 0]
def k0_off58 (i : grid0.Coords) (k0_t3 : Fin (k0_t3_loop i).trips) (c0_i32_659 : BitVec 32) : Fin 3 → Nat :=
  let c20_944 : Index := 20#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2554 : Index := Scalar.indexCast v2473
  let c0_945 : Index := 0#32
  ![20, v2554.toNat, 0]
def k0_off59 (i : grid0.Coords) (k0_t3 : Fin (k0_t3_loop i).trips) (c0_i32_659 : BitVec 32) : Fin 3 → Nat :=
  let c21_946 : Index := 21#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2558 : Index := Scalar.indexCast v2473
  let c0_947 : Index := 0#32
  ![21, v2558.toNat, 0]
def k0_off60 (i : grid0.Coords) (k0_t3 : Fin (k0_t3_loop i).trips) (c0_i32_659 : BitVec 32) : Fin 3 → Nat :=
  let c22_948 : Index := 22#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2562 : Index := Scalar.indexCast v2473
  let c0_949 : Index := 0#32
  ![22, v2562.toNat, 0]
def k0_off61 (i : grid0.Coords) (k0_t3 : Fin (k0_t3_loop i).trips) (c0_i32_659 : BitVec 32) : Fin 3 → Nat :=
  let c23_950 : Index := 23#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2566 : Index := Scalar.indexCast v2473
  let c0_951 : Index := 0#32
  ![23, v2566.toNat, 0]
def k0_off62 (i : grid0.Coords) (k0_t3 : Fin (k0_t3_loop i).trips) (c0_i32_659 : BitVec 32) : Fin 3 → Nat :=
  let c24_952 : Index := 24#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2570 : Index := Scalar.indexCast v2473
  let c0_953 : Index := 0#32
  ![24, v2570.toNat, 0]
def k0_off63 (i : grid0.Coords) (k0_t3 : Fin (k0_t3_loop i).trips) (c0_i32_659 : BitVec 32) : Fin 3 → Nat :=
  let c25_954 : Index := 25#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2574 : Index := Scalar.indexCast v2473
  let c0_955 : Index := 0#32
  ![25, v2574.toNat, 0]
def k0_off64 (i : grid0.Coords) (k0_t3 : Fin (k0_t3_loop i).trips) (c0_i32_659 : BitVec 32) : Fin 3 → Nat :=
  let c26_956 : Index := 26#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2578 : Index := Scalar.indexCast v2473
  let c0_957 : Index := 0#32
  ![26, v2578.toNat, 0]
def k0_off65 (i : grid0.Coords) (k0_t3 : Fin (k0_t3_loop i).trips) (c0_i32_659 : BitVec 32) : Fin 3 → Nat :=
  let c27_958 : Index := 27#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2582 : Index := Scalar.indexCast v2473
  let c0_959 : Index := 0#32
  ![27, v2582.toNat, 0]
def k0_off66 (i : grid0.Coords) (k0_t3 : Fin (k0_t3_loop i).trips) (c0_i32_659 : BitVec 32) : Fin 3 → Nat :=
  let c28_960 : Index := 28#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2586 : Index := Scalar.indexCast v2473
  let c0_961 : Index := 0#32
  ![28, v2586.toNat, 0]
def k0_off67 (i : grid0.Coords) (k0_t3 : Fin (k0_t3_loop i).trips) (c0_i32_659 : BitVec 32) : Fin 3 → Nat :=
  let c29_962 : Index := 29#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2590 : Index := Scalar.indexCast v2473
  let c0_963 : Index := 0#32
  ![29, v2590.toNat, 0]
def k0_off68 (i : grid0.Coords) (k0_t3 : Fin (k0_t3_loop i).trips) (c0_i32_659 : BitVec 32) : Fin 3 → Nat :=
  let c30_964 : Index := 30#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2594 : Index := Scalar.indexCast v2473
  let c0_965 : Index := 0#32
  ![30, v2594.toNat, 0]
def k0_off69 (i : grid0.Coords) (k0_t3 : Fin (k0_t3_loop i).trips) (c0_i32_659 : BitVec 32) : Fin 3 → Nat :=
  let c31_966 : Index := 31#32
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_658 : BitVec 32 := 4#32
  let v1709 : BitVec 32 := Scalar.muli arg20 c4_i32_658
  let v1710 : BitVec 32 := Scalar.addi v1709 c0_i32_659
  let c8_i32_903 : BitVec 32 := 8#32
  let v2472 : BitVec 32 := Scalar.muli v1710 c8_i32_903
  let v2473 : BitVec 32 := v2472
  let v2598 : Index := Scalar.indexCast v2473
  let c0_967 : Index := 0#32
  ![31, v2598.toNat, 0]
def k0_mult14 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_968 : BitVec 32 := 4#32
  let v2602 : BitVec 32 := Scalar.muli arg20 c4_i32_968
  let c1_i32_969 : BitVec 32 := 1#32
  let v2603 : BitVec 32 := Scalar.addi v2602 c1_i32_969
  let c256_i32_970 : BitVec 32 := 256#32
  let v2605 : BitVec 32 := Scalar.muli v2603 c256_i32_970
  v2605
def k0_mult15 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_968 : BitVec 32 := 4#32
  let v2602 : BitVec 32 := Scalar.muli arg20 c4_i32_968
  let c1_i32_969 : BitVec 32 := 1#32
  let v2603 : BitVec 32 := Scalar.addi v2602 c1_i32_969
  let c8_i32_1213 : BitVec 32 := 8#32
  let v3365 : BitVec 32 := Scalar.muli v2603 c8_i32_1213
  v3365
def k0_mult16 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_1278 : BitVec 32 := 4#32
  let v3495 : BitVec 32 := Scalar.muli arg20 c4_i32_1278
  let c2_i32_1279 : BitVec 32 := 2#32
  let v3496 : BitVec 32 := Scalar.addi v3495 c2_i32_1279
  let c256_i32_1280 : BitVec 32 := 256#32
  let v3498 : BitVec 32 := Scalar.muli v3496 c256_i32_1280
  v3498
def k0_mult17 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_1278 : BitVec 32 := 4#32
  let v3495 : BitVec 32 := Scalar.muli arg20 c4_i32_1278
  let c2_i32_1279 : BitVec 32 := 2#32
  let v3496 : BitVec 32 := Scalar.addi v3495 c2_i32_1279
  let c8_i32_1523 : BitVec 32 := 8#32
  let v4258 : BitVec 32 := Scalar.muli v3496 c8_i32_1523
  v4258
def k0_mult18 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_1588 : BitVec 32 := 4#32
  let v4388 : BitVec 32 := Scalar.muli arg20 c4_i32_1588
  let c3_i32_1589 : BitVec 32 := 3#32
  let v4389 : BitVec 32 := Scalar.addi v4388 c3_i32_1589
  let c256_i32_1590 : BitVec 32 := 256#32
  let v4391 : BitVec 32 := Scalar.muli v4389 c256_i32_1590
  v4391
def k0_mult19 (i : grid0.Coords) (k0_t3 : Fin (k0_t3_loop i).trips) : BitVec 32 :=
  let c0_i32_140 : BitVec 32 := 0#32
  let arg1 : BitVec 32 := BitVec.ofNat 32 (i 1).val
  let c0_i32_133 : BitVec 32 := 0#32
  let v339 : BitVec 1 := Scalar.cmpi .sgt arg1 c0_i32_133
  let v340 : BitVec 32 := Scalar.extui v339
  let c0_i32_134 : BitVec 32 := 0#32
  let v341 : BitVec 1 := Scalar.cmpi .slt arg1 c0_i32_134
  let v342 : BitVec 32 := Scalar.extui v341
  let v343 : BitVec 32 := Scalar.subi v340 v342
  let c4_i32 : BitVec 32 := 4#32
  let c0_i32_135 : BitVec 32 := 0#32
  let v344 : BitVec 1 := Scalar.cmpi .sgt c4_i32 c0_i32_135
  let v345 : BitVec 32 := Scalar.extui v344
  let c0_i32_136 : BitVec 32 := 0#32
  let v346 : BitVec 1 := Scalar.cmpi .slt c4_i32 c0_i32_136
  let v347 : BitVec 32 := Scalar.extui v346
  let v348 : BitVec 32 := Scalar.subi v345 v347
  let v349 : BitVec 1 := Scalar.cmpi .ne v343 v348
  let v350 : BitVec 32 := Scalar.remsi arg1 c4_i32
  let c0_i32_137 : BitVec 32 := 0#32
  let v351 : BitVec 1 := Scalar.cmpi .ne v350 c0_i32_137
  let v352 : BitVec 1 := Scalar.andi v349 v351
  let v338 : BitVec 32 := Scalar.divsi arg1 c4_i32
  let c1_i32_138 : BitVec 32 := 1#32
  let v353 : BitVec 32 := Scalar.subi v338 c1_i32_138
  let v354 : BitVec 32 := Scalar.select v352 v353 v338
  let v355 : BitVec 32 := Scalar.subi v354 c0_i32_140
  let c1_i32_141 : BitVec 32 := 1#32
  let v357 : BitVec 32 := Scalar.divsi v355 c1_i32_141
  let v358 : BitVec 32 := Scalar.muli v357 c1_i32_141
  let v359 : BitVec 32 := Scalar.addi c0_i32_140 v358
  let c1_i32_143 : BitVec 32 := 1#32
  let arg20 : BitVec 32 := Scf.iv v359 c1_i32_143 k0_t3
  let c4_i32_1588 : BitVec 32 := 4#32
  let v4388 : BitVec 32 := Scalar.muli arg20 c4_i32_1588
  let c3_i32_1589 : BitVec 32 := 3#32
  let v4389 : BitVec 32 := Scalar.addi v4388 c3_i32_1589
  let c8_i32_1833 : BitVec 32 := 8#32
  let v5151 : BitVec 32 := Scalar.muli v4389 c8_i32_1833
  v5151
@[reducible] def k0_t4_loop (i : grid0.Coords) : Scf.Loop 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_161 : BitVec 32 := 1#32
  ⟨v377, v399, c1_i32_161⟩
def k0_mult20 (i : grid0.Coords) (k0_t4 : Fin (k0_t4_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c512_i32 : BitVec 32 := 512#32
  let v1667 : BitVec 32 := Scalar.muli arg20 c512_i32
  v1667
def k0_off70 (i : grid0.Coords) (k0_t4 : Fin (k0_t4_loop i).trips) : Fin 3 → Nat :=
  let c0_646 : Index := 0#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c512_i32 : BitVec 32 := 512#32
  let v1667 : BitVec 32 := Scalar.muli arg20 c512_i32
  let v1668 : BitVec 32 := v1667
  let v1669 : Index := Scalar.indexCast v1668
  let c0_647 : Index := 0#32
  ![0, v1669.toNat, 0]
def k0_mult21 (i : grid0.Coords) (k0_t4 : Fin (k0_t4_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let c0_i32_659 : BitVec 32 := 0#32
  let v1710 : BitVec 32 := Scalar.addi v1709 c0_i32_659
  let c256_i32_660 : BitVec 32 := 256#32
  let v1712 : BitVec 32 := Scalar.muli v1710 c256_i32_660
  v1712
def k0_off71 (i : grid0.Coords) (k0_t4 : Fin (k0_t4_loop i).trips) (c0_i32_659 : BitVec 32) : Fin 2 → Nat :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c256_i32_660 : BitVec 32 := 256#32
  let v1712 : BitVec 32 := Scalar.muli v1710 c256_i32_660
  let v1713 : BitVec 32 := v1712
  let v1714 : Index := Scalar.indexCast v1713
  let c0_661 : Index := 0#32
  ![v1714.toNat, 0]
def k0_mult22 (i : grid0.Coords) (k0_t4 : Fin (k0_t4_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let c0_i32_659 : BitVec 32 := 0#32
  let v1710 : BitVec 32 := Scalar.addi v1709 c0_i32_659
  let c8_i32_903 : BitVec 32 := 8#32
  let v2472 : BitVec 32 := Scalar.muli v1710 c8_i32_903
  v2472
def k0_off72 (i : grid0.Coords) (k0_t4 : Fin (k0_t4_loop i).trips) (c0_i32_659 : BitVec 32) : Fin 3 → Nat :=
  let c0_904 : Index := 0#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2474 : Index := Scalar.indexCast v2473
  let c0_905 : Index := 0#32
  ![0, v2474.toNat, 0]
def k0_off73 (i : grid0.Coords) (k0_t4 : Fin (k0_t4_loop i).trips) (c0_i32_659 : BitVec 32) : Fin 3 → Nat :=
  let c1_906 : Index := 1#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2478 : Index := Scalar.indexCast v2473
  let c0_907 : Index := 0#32
  ![1, v2478.toNat, 0]
def k0_off74 (i : grid0.Coords) (k0_t4 : Fin (k0_t4_loop i).trips) (c0_i32_659 : BitVec 32) : Fin 3 → Nat :=
  let c2_908 : Index := 2#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2482 : Index := Scalar.indexCast v2473
  let c0_909 : Index := 0#32
  ![2, v2482.toNat, 0]
def k0_off75 (i : grid0.Coords) (k0_t4 : Fin (k0_t4_loop i).trips) (c0_i32_659 : BitVec 32) : Fin 3 → Nat :=
  let c3_910 : Index := 3#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2486 : Index := Scalar.indexCast v2473
  let c0_911 : Index := 0#32
  ![3, v2486.toNat, 0]
def k0_off76 (i : grid0.Coords) (k0_t4 : Fin (k0_t4_loop i).trips) (c0_i32_659 : BitVec 32) : Fin 3 → Nat :=
  let c4_912 : Index := 4#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2490 : Index := Scalar.indexCast v2473
  let c0_913 : Index := 0#32
  ![4, v2490.toNat, 0]
def k0_off77 (i : grid0.Coords) (k0_t4 : Fin (k0_t4_loop i).trips) (c0_i32_659 : BitVec 32) : Fin 3 → Nat :=
  let c5_914 : Index := 5#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2494 : Index := Scalar.indexCast v2473
  let c0_915 : Index := 0#32
  ![5, v2494.toNat, 0]
def k0_off78 (i : grid0.Coords) (k0_t4 : Fin (k0_t4_loop i).trips) (c0_i32_659 : BitVec 32) : Fin 3 → Nat :=
  let c6_916 : Index := 6#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2498 : Index := Scalar.indexCast v2473
  let c0_917 : Index := 0#32
  ![6, v2498.toNat, 0]
def k0_off79 (i : grid0.Coords) (k0_t4 : Fin (k0_t4_loop i).trips) (c0_i32_659 : BitVec 32) : Fin 3 → Nat :=
  let c7_918 : Index := 7#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2502 : Index := Scalar.indexCast v2473
  let c0_919 : Index := 0#32
  ![7, v2502.toNat, 0]
def k0_off80 (i : grid0.Coords) (k0_t4 : Fin (k0_t4_loop i).trips) (c0_i32_659 : BitVec 32) : Fin 3 → Nat :=
  let c8_920 : Index := 8#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2506 : Index := Scalar.indexCast v2473
  let c0_921 : Index := 0#32
  ![8, v2506.toNat, 0]
def k0_off81 (i : grid0.Coords) (k0_t4 : Fin (k0_t4_loop i).trips) (c0_i32_659 : BitVec 32) : Fin 3 → Nat :=
  let c9_922 : Index := 9#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2510 : Index := Scalar.indexCast v2473
  let c0_923 : Index := 0#32
  ![9, v2510.toNat, 0]
def k0_off82 (i : grid0.Coords) (k0_t4 : Fin (k0_t4_loop i).trips) (c0_i32_659 : BitVec 32) : Fin 3 → Nat :=
  let c10_924 : Index := 10#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2514 : Index := Scalar.indexCast v2473
  let c0_925 : Index := 0#32
  ![10, v2514.toNat, 0]
def k0_off83 (i : grid0.Coords) (k0_t4 : Fin (k0_t4_loop i).trips) (c0_i32_659 : BitVec 32) : Fin 3 → Nat :=
  let c11_926 : Index := 11#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2518 : Index := Scalar.indexCast v2473
  let c0_927 : Index := 0#32
  ![11, v2518.toNat, 0]
def k0_off84 (i : grid0.Coords) (k0_t4 : Fin (k0_t4_loop i).trips) (c0_i32_659 : BitVec 32) : Fin 3 → Nat :=
  let c12_928 : Index := 12#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2522 : Index := Scalar.indexCast v2473
  let c0_929 : Index := 0#32
  ![12, v2522.toNat, 0]
def k0_off85 (i : grid0.Coords) (k0_t4 : Fin (k0_t4_loop i).trips) (c0_i32_659 : BitVec 32) : Fin 3 → Nat :=
  let c13_930 : Index := 13#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2526 : Index := Scalar.indexCast v2473
  let c0_931 : Index := 0#32
  ![13, v2526.toNat, 0]
def k0_off86 (i : grid0.Coords) (k0_t4 : Fin (k0_t4_loop i).trips) (c0_i32_659 : BitVec 32) : Fin 3 → Nat :=
  let c14_932 : Index := 14#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2530 : Index := Scalar.indexCast v2473
  let c0_933 : Index := 0#32
  ![14, v2530.toNat, 0]
def k0_off87 (i : grid0.Coords) (k0_t4 : Fin (k0_t4_loop i).trips) (c0_i32_659 : BitVec 32) : Fin 3 → Nat :=
  let c15_934 : Index := 15#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2534 : Index := Scalar.indexCast v2473
  let c0_935 : Index := 0#32
  ![15, v2534.toNat, 0]
def k0_off88 (i : grid0.Coords) (k0_t4 : Fin (k0_t4_loop i).trips) (c0_i32_659 : BitVec 32) : Fin 3 → Nat :=
  let c16_936 : Index := 16#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2538 : Index := Scalar.indexCast v2473
  let c0_937 : Index := 0#32
  ![16, v2538.toNat, 0]
def k0_off89 (i : grid0.Coords) (k0_t4 : Fin (k0_t4_loop i).trips) (c0_i32_659 : BitVec 32) : Fin 3 → Nat :=
  let c17_938 : Index := 17#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2542 : Index := Scalar.indexCast v2473
  let c0_939 : Index := 0#32
  ![17, v2542.toNat, 0]
def k0_off90 (i : grid0.Coords) (k0_t4 : Fin (k0_t4_loop i).trips) (c0_i32_659 : BitVec 32) : Fin 3 → Nat :=
  let c18_940 : Index := 18#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2546 : Index := Scalar.indexCast v2473
  let c0_941 : Index := 0#32
  ![18, v2546.toNat, 0]
def k0_off91 (i : grid0.Coords) (k0_t4 : Fin (k0_t4_loop i).trips) (c0_i32_659 : BitVec 32) : Fin 3 → Nat :=
  let c19_942 : Index := 19#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2550 : Index := Scalar.indexCast v2473
  let c0_943 : Index := 0#32
  ![19, v2550.toNat, 0]
def k0_off92 (i : grid0.Coords) (k0_t4 : Fin (k0_t4_loop i).trips) (c0_i32_659 : BitVec 32) : Fin 3 → Nat :=
  let c20_944 : Index := 20#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2554 : Index := Scalar.indexCast v2473
  let c0_945 : Index := 0#32
  ![20, v2554.toNat, 0]
def k0_off93 (i : grid0.Coords) (k0_t4 : Fin (k0_t4_loop i).trips) (c0_i32_659 : BitVec 32) : Fin 3 → Nat :=
  let c21_946 : Index := 21#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2558 : Index := Scalar.indexCast v2473
  let c0_947 : Index := 0#32
  ![21, v2558.toNat, 0]
def k0_off94 (i : grid0.Coords) (k0_t4 : Fin (k0_t4_loop i).trips) (c0_i32_659 : BitVec 32) : Fin 3 → Nat :=
  let c22_948 : Index := 22#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2562 : Index := Scalar.indexCast v2473
  let c0_949 : Index := 0#32
  ![22, v2562.toNat, 0]
def k0_off95 (i : grid0.Coords) (k0_t4 : Fin (k0_t4_loop i).trips) (c0_i32_659 : BitVec 32) : Fin 3 → Nat :=
  let c23_950 : Index := 23#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2566 : Index := Scalar.indexCast v2473
  let c0_951 : Index := 0#32
  ![23, v2566.toNat, 0]
def k0_off96 (i : grid0.Coords) (k0_t4 : Fin (k0_t4_loop i).trips) (c0_i32_659 : BitVec 32) : Fin 3 → Nat :=
  let c24_952 : Index := 24#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2570 : Index := Scalar.indexCast v2473
  let c0_953 : Index := 0#32
  ![24, v2570.toNat, 0]
def k0_off97 (i : grid0.Coords) (k0_t4 : Fin (k0_t4_loop i).trips) (c0_i32_659 : BitVec 32) : Fin 3 → Nat :=
  let c25_954 : Index := 25#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2574 : Index := Scalar.indexCast v2473
  let c0_955 : Index := 0#32
  ![25, v2574.toNat, 0]
def k0_off98 (i : grid0.Coords) (k0_t4 : Fin (k0_t4_loop i).trips) (c0_i32_659 : BitVec 32) : Fin 3 → Nat :=
  let c26_956 : Index := 26#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2578 : Index := Scalar.indexCast v2473
  let c0_957 : Index := 0#32
  ![26, v2578.toNat, 0]
def k0_off99 (i : grid0.Coords) (k0_t4 : Fin (k0_t4_loop i).trips) (c0_i32_659 : BitVec 32) : Fin 3 → Nat :=
  let c27_958 : Index := 27#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2582 : Index := Scalar.indexCast v2473
  let c0_959 : Index := 0#32
  ![27, v2582.toNat, 0]
def k0_off100 (i : grid0.Coords) (k0_t4 : Fin (k0_t4_loop i).trips) (c0_i32_659 : BitVec 32) : Fin 3 → Nat :=
  let c28_960 : Index := 28#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2586 : Index := Scalar.indexCast v2473
  let c0_961 : Index := 0#32
  ![28, v2586.toNat, 0]
def k0_off101 (i : grid0.Coords) (k0_t4 : Fin (k0_t4_loop i).trips) (c0_i32_659 : BitVec 32) : Fin 3 → Nat :=
  let c29_962 : Index := 29#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2590 : Index := Scalar.indexCast v2473
  let c0_963 : Index := 0#32
  ![29, v2590.toNat, 0]
def k0_off102 (i : grid0.Coords) (k0_t4 : Fin (k0_t4_loop i).trips) (c0_i32_659 : BitVec 32) : Fin 3 → Nat :=
  let c30_964 : Index := 30#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2594 : Index := Scalar.indexCast v2473
  let c0_965 : Index := 0#32
  ![30, v2594.toNat, 0]
def k0_off103 (i : grid0.Coords) (k0_t4 : Fin (k0_t4_loop i).trips) (c0_i32_659 : BitVec 32) : Fin 3 → Nat :=
  let c31_966 : Index := 31#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2598 : Index := Scalar.indexCast v2473
  let c0_967 : Index := 0#32
  ![31, v2598.toNat, 0]
def k0_mult23 (i : grid0.Coords) (k0_t4 : Fin (k0_t4_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_968 : BitVec 32 := 2#32
  let v2602 : BitVec 32 := Scalar.muli arg20 c2_i32_968
  let c1_i32_969 : BitVec 32 := 1#32
  let v2603 : BitVec 32 := Scalar.addi v2602 c1_i32_969
  let c256_i32_970 : BitVec 32 := 256#32
  let v2605 : BitVec 32 := Scalar.muli v2603 c256_i32_970
  v2605
def k0_mult24 (i : grid0.Coords) (k0_t4 : Fin (k0_t4_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c1_i32_161 : BitVec 32 := 1#32
  let arg20 : BitVec 32 := Scf.iv v377 c1_i32_161 k0_t4
  let c2_i32_968 : BitVec 32 := 2#32
  let v2602 : BitVec 32 := Scalar.muli arg20 c2_i32_968
  let c1_i32_969 : BitVec 32 := 1#32
  let v2603 : BitVec 32 := Scalar.addi v2602 c1_i32_969
  let c8_i32_1213 : BitVec 32 := 8#32
  let v3365 : BitVec 32 := Scalar.muli v2603 c8_i32_1213
  v3365
@[reducible] def k0_t5_loop (i : grid0.Coords) : Scf.Loop 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let v396 : BitVec 32 := Scalar.addi v377 v395
  let c1_i32_162 : BitVec 32 := 1#32
  ⟨v399, v396, c1_i32_162⟩
def k0_mult25 (i : grid0.Coords) (k0_t5 : Fin (k0_t5_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c512_i32 : BitVec 32 := 512#32
  let v1667 : BitVec 32 := Scalar.muli arg20 c512_i32
  v1667
def k0_off104 (i : grid0.Coords) (k0_t5 : Fin (k0_t5_loop i).trips) : Fin 3 → Nat :=
  let c0_646 : Index := 0#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c512_i32 : BitVec 32 := 512#32
  let v1667 : BitVec 32 := Scalar.muli arg20 c512_i32
  let v1668 : BitVec 32 := v1667
  let v1669 : Index := Scalar.indexCast v1668
  let c0_647 : Index := 0#32
  ![0, v1669.toNat, 0]
def k0_mult26 (i : grid0.Coords) (k0_t5 : Fin (k0_t5_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let c0_i32_659 : BitVec 32 := 0#32
  let v1710 : BitVec 32 := Scalar.addi v1709 c0_i32_659
  let c256_i32_660 : BitVec 32 := 256#32
  let v1712 : BitVec 32 := Scalar.muli v1710 c256_i32_660
  v1712
def k0_off105 (i : grid0.Coords) (k0_t5 : Fin (k0_t5_loop i).trips) (c0_i32_659 : BitVec 32) : Fin 2 → Nat :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c256_i32_660 : BitVec 32 := 256#32
  let v1712 : BitVec 32 := Scalar.muli v1710 c256_i32_660
  let v1713 : BitVec 32 := v1712
  let v1714 : Index := Scalar.indexCast v1713
  let c0_661 : Index := 0#32
  ![v1714.toNat, 0]
def k0_mult27 (i : grid0.Coords) (k0_t5 : Fin (k0_t5_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let c0_i32_659 : BitVec 32 := 0#32
  let v1710 : BitVec 32 := Scalar.addi v1709 c0_i32_659
  let c8_i32_903 : BitVec 32 := 8#32
  let v2472 : BitVec 32 := Scalar.muli v1710 c8_i32_903
  v2472
def k0_off106 (i : grid0.Coords) (k0_t5 : Fin (k0_t5_loop i).trips) (c0_i32_659 : BitVec 32) : Fin 3 → Nat :=
  let c0_904 : Index := 0#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2474 : Index := Scalar.indexCast v2473
  let c0_905 : Index := 0#32
  ![0, v2474.toNat, 0]
def k0_off107 (i : grid0.Coords) (k0_t5 : Fin (k0_t5_loop i).trips) (c0_i32_659 : BitVec 32) : Fin 3 → Nat :=
  let c1_906 : Index := 1#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2478 : Index := Scalar.indexCast v2473
  let c0_907 : Index := 0#32
  ![1, v2478.toNat, 0]
def k0_off108 (i : grid0.Coords) (k0_t5 : Fin (k0_t5_loop i).trips) (c0_i32_659 : BitVec 32) : Fin 3 → Nat :=
  let c2_908 : Index := 2#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2482 : Index := Scalar.indexCast v2473
  let c0_909 : Index := 0#32
  ![2, v2482.toNat, 0]
def k0_off109 (i : grid0.Coords) (k0_t5 : Fin (k0_t5_loop i).trips) (c0_i32_659 : BitVec 32) : Fin 3 → Nat :=
  let c3_910 : Index := 3#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2486 : Index := Scalar.indexCast v2473
  let c0_911 : Index := 0#32
  ![3, v2486.toNat, 0]
def k0_off110 (i : grid0.Coords) (k0_t5 : Fin (k0_t5_loop i).trips) (c0_i32_659 : BitVec 32) : Fin 3 → Nat :=
  let c4_912 : Index := 4#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2490 : Index := Scalar.indexCast v2473
  let c0_913 : Index := 0#32
  ![4, v2490.toNat, 0]
def k0_off111 (i : grid0.Coords) (k0_t5 : Fin (k0_t5_loop i).trips) (c0_i32_659 : BitVec 32) : Fin 3 → Nat :=
  let c5_914 : Index := 5#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2494 : Index := Scalar.indexCast v2473
  let c0_915 : Index := 0#32
  ![5, v2494.toNat, 0]
def k0_off112 (i : grid0.Coords) (k0_t5 : Fin (k0_t5_loop i).trips) (c0_i32_659 : BitVec 32) : Fin 3 → Nat :=
  let c6_916 : Index := 6#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2498 : Index := Scalar.indexCast v2473
  let c0_917 : Index := 0#32
  ![6, v2498.toNat, 0]
def k0_off113 (i : grid0.Coords) (k0_t5 : Fin (k0_t5_loop i).trips) (c0_i32_659 : BitVec 32) : Fin 3 → Nat :=
  let c7_918 : Index := 7#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2502 : Index := Scalar.indexCast v2473
  let c0_919 : Index := 0#32
  ![7, v2502.toNat, 0]
def k0_off114 (i : grid0.Coords) (k0_t5 : Fin (k0_t5_loop i).trips) (c0_i32_659 : BitVec 32) : Fin 3 → Nat :=
  let c8_920 : Index := 8#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2506 : Index := Scalar.indexCast v2473
  let c0_921 : Index := 0#32
  ![8, v2506.toNat, 0]
def k0_off115 (i : grid0.Coords) (k0_t5 : Fin (k0_t5_loop i).trips) (c0_i32_659 : BitVec 32) : Fin 3 → Nat :=
  let c9_922 : Index := 9#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2510 : Index := Scalar.indexCast v2473
  let c0_923 : Index := 0#32
  ![9, v2510.toNat, 0]
def k0_off116 (i : grid0.Coords) (k0_t5 : Fin (k0_t5_loop i).trips) (c0_i32_659 : BitVec 32) : Fin 3 → Nat :=
  let c10_924 : Index := 10#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2514 : Index := Scalar.indexCast v2473
  let c0_925 : Index := 0#32
  ![10, v2514.toNat, 0]
def k0_off117 (i : grid0.Coords) (k0_t5 : Fin (k0_t5_loop i).trips) (c0_i32_659 : BitVec 32) : Fin 3 → Nat :=
  let c11_926 : Index := 11#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2518 : Index := Scalar.indexCast v2473
  let c0_927 : Index := 0#32
  ![11, v2518.toNat, 0]
def k0_off118 (i : grid0.Coords) (k0_t5 : Fin (k0_t5_loop i).trips) (c0_i32_659 : BitVec 32) : Fin 3 → Nat :=
  let c12_928 : Index := 12#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2522 : Index := Scalar.indexCast v2473
  let c0_929 : Index := 0#32
  ![12, v2522.toNat, 0]
def k0_off119 (i : grid0.Coords) (k0_t5 : Fin (k0_t5_loop i).trips) (c0_i32_659 : BitVec 32) : Fin 3 → Nat :=
  let c13_930 : Index := 13#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2526 : Index := Scalar.indexCast v2473
  let c0_931 : Index := 0#32
  ![13, v2526.toNat, 0]
def k0_off120 (i : grid0.Coords) (k0_t5 : Fin (k0_t5_loop i).trips) (c0_i32_659 : BitVec 32) : Fin 3 → Nat :=
  let c14_932 : Index := 14#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2530 : Index := Scalar.indexCast v2473
  let c0_933 : Index := 0#32
  ![14, v2530.toNat, 0]
def k0_off121 (i : grid0.Coords) (k0_t5 : Fin (k0_t5_loop i).trips) (c0_i32_659 : BitVec 32) : Fin 3 → Nat :=
  let c15_934 : Index := 15#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2534 : Index := Scalar.indexCast v2473
  let c0_935 : Index := 0#32
  ![15, v2534.toNat, 0]
def k0_off122 (i : grid0.Coords) (k0_t5 : Fin (k0_t5_loop i).trips) (c0_i32_659 : BitVec 32) : Fin 3 → Nat :=
  let c16_936 : Index := 16#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2538 : Index := Scalar.indexCast v2473
  let c0_937 : Index := 0#32
  ![16, v2538.toNat, 0]
def k0_off123 (i : grid0.Coords) (k0_t5 : Fin (k0_t5_loop i).trips) (c0_i32_659 : BitVec 32) : Fin 3 → Nat :=
  let c17_938 : Index := 17#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2542 : Index := Scalar.indexCast v2473
  let c0_939 : Index := 0#32
  ![17, v2542.toNat, 0]
def k0_off124 (i : grid0.Coords) (k0_t5 : Fin (k0_t5_loop i).trips) (c0_i32_659 : BitVec 32) : Fin 3 → Nat :=
  let c18_940 : Index := 18#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2546 : Index := Scalar.indexCast v2473
  let c0_941 : Index := 0#32
  ![18, v2546.toNat, 0]
def k0_off125 (i : grid0.Coords) (k0_t5 : Fin (k0_t5_loop i).trips) (c0_i32_659 : BitVec 32) : Fin 3 → Nat :=
  let c19_942 : Index := 19#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2550 : Index := Scalar.indexCast v2473
  let c0_943 : Index := 0#32
  ![19, v2550.toNat, 0]
def k0_off126 (i : grid0.Coords) (k0_t5 : Fin (k0_t5_loop i).trips) (c0_i32_659 : BitVec 32) : Fin 3 → Nat :=
  let c20_944 : Index := 20#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2554 : Index := Scalar.indexCast v2473
  let c0_945 : Index := 0#32
  ![20, v2554.toNat, 0]
def k0_off127 (i : grid0.Coords) (k0_t5 : Fin (k0_t5_loop i).trips) (c0_i32_659 : BitVec 32) : Fin 3 → Nat :=
  let c21_946 : Index := 21#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2558 : Index := Scalar.indexCast v2473
  let c0_947 : Index := 0#32
  ![21, v2558.toNat, 0]
def k0_off128 (i : grid0.Coords) (k0_t5 : Fin (k0_t5_loop i).trips) (c0_i32_659 : BitVec 32) : Fin 3 → Nat :=
  let c22_948 : Index := 22#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2562 : Index := Scalar.indexCast v2473
  let c0_949 : Index := 0#32
  ![22, v2562.toNat, 0]
def k0_off129 (i : grid0.Coords) (k0_t5 : Fin (k0_t5_loop i).trips) (c0_i32_659 : BitVec 32) : Fin 3 → Nat :=
  let c23_950 : Index := 23#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2566 : Index := Scalar.indexCast v2473
  let c0_951 : Index := 0#32
  ![23, v2566.toNat, 0]
def k0_off130 (i : grid0.Coords) (k0_t5 : Fin (k0_t5_loop i).trips) (c0_i32_659 : BitVec 32) : Fin 3 → Nat :=
  let c24_952 : Index := 24#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2570 : Index := Scalar.indexCast v2473
  let c0_953 : Index := 0#32
  ![24, v2570.toNat, 0]
def k0_off131 (i : grid0.Coords) (k0_t5 : Fin (k0_t5_loop i).trips) (c0_i32_659 : BitVec 32) : Fin 3 → Nat :=
  let c25_954 : Index := 25#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2574 : Index := Scalar.indexCast v2473
  let c0_955 : Index := 0#32
  ![25, v2574.toNat, 0]
def k0_off132 (i : grid0.Coords) (k0_t5 : Fin (k0_t5_loop i).trips) (c0_i32_659 : BitVec 32) : Fin 3 → Nat :=
  let c26_956 : Index := 26#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2578 : Index := Scalar.indexCast v2473
  let c0_957 : Index := 0#32
  ![26, v2578.toNat, 0]
def k0_off133 (i : grid0.Coords) (k0_t5 : Fin (k0_t5_loop i).trips) (c0_i32_659 : BitVec 32) : Fin 3 → Nat :=
  let c27_958 : Index := 27#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2582 : Index := Scalar.indexCast v2473
  let c0_959 : Index := 0#32
  ![27, v2582.toNat, 0]
def k0_off134 (i : grid0.Coords) (k0_t5 : Fin (k0_t5_loop i).trips) (c0_i32_659 : BitVec 32) : Fin 3 → Nat :=
  let c28_960 : Index := 28#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2586 : Index := Scalar.indexCast v2473
  let c0_961 : Index := 0#32
  ![28, v2586.toNat, 0]
def k0_off135 (i : grid0.Coords) (k0_t5 : Fin (k0_t5_loop i).trips) (c0_i32_659 : BitVec 32) : Fin 3 → Nat :=
  let c29_962 : Index := 29#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2590 : Index := Scalar.indexCast v2473
  let c0_963 : Index := 0#32
  ![29, v2590.toNat, 0]
def k0_off136 (i : grid0.Coords) (k0_t5 : Fin (k0_t5_loop i).trips) (c0_i32_659 : BitVec 32) : Fin 3 → Nat :=
  let c30_964 : Index := 30#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2594 : Index := Scalar.indexCast v2473
  let c0_965 : Index := 0#32
  ![30, v2594.toNat, 0]
def k0_off137 (i : grid0.Coords) (k0_t5 : Fin (k0_t5_loop i).trips) (c0_i32_659 : BitVec 32) : Fin 3 → Nat :=
  let c31_966 : Index := 31#32
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_658 : BitVec 32 := 2#32
  let v1709 : BitVec 32 := Scalar.muli arg20 c2_i32_658
  let v1710 : BitVec 32 := Scalar.addi v1709 c0_i32_659
  let c8_i32_903 : BitVec 32 := 8#32
  let v2472 : BitVec 32 := Scalar.muli v1710 c8_i32_903
  let v2473 : BitVec 32 := v2472
  let v2598 : Index := Scalar.indexCast v2473
  let c0_967 : Index := 0#32
  ![31, v2598.toNat, 0]
def k0_mult28 (i : grid0.Coords) (k0_t5 : Fin (k0_t5_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_968 : BitVec 32 := 2#32
  let v2602 : BitVec 32 := Scalar.muli arg20 c2_i32_968
  let c1_i32_969 : BitVec 32 := 1#32
  let v2603 : BitVec 32 := Scalar.addi v2602 c1_i32_969
  let c256_i32_970 : BitVec 32 := 256#32
  let v2605 : BitVec 32 := Scalar.muli v2603 c256_i32_970
  v2605
def k0_mult29 (i : grid0.Coords) (k0_t5 : Fin (k0_t5_loop i).trips) : BitVec 32 :=
  let c2_i32_151 : BitVec 32 := 2#32
  let arg1 : BitVec 32 := BitVec.ofNat 32 (i 1).val
  let c0_i32_145 : BitVec 32 := 0#32
  let v361 : BitVec 1 := Scalar.cmpi .sgt arg1 c0_i32_145
  let v362 : BitVec 32 := Scalar.extui v361
  let c0_i32_146 : BitVec 32 := 0#32
  let v363 : BitVec 1 := Scalar.cmpi .slt arg1 c0_i32_146
  let v364 : BitVec 32 := Scalar.extui v363
  let v365 : BitVec 32 := Scalar.subi v362 v364
  let c4_i32_144 : BitVec 32 := 4#32
  let c0_i32_147 : BitVec 32 := 0#32
  let v366 : BitVec 1 := Scalar.cmpi .sgt c4_i32_144 c0_i32_147
  let v367 : BitVec 32 := Scalar.extui v366
  let c0_i32_148 : BitVec 32 := 0#32
  let v368 : BitVec 1 := Scalar.cmpi .slt c4_i32_144 c0_i32_148
  let v369 : BitVec 32 := Scalar.extui v368
  let v370 : BitVec 32 := Scalar.subi v367 v369
  let v371 : BitVec 1 := Scalar.cmpi .ne v365 v370
  let v372 : BitVec 32 := Scalar.remsi arg1 c4_i32_144
  let c0_i32_149 : BitVec 32 := 0#32
  let v373 : BitVec 1 := Scalar.cmpi .ne v372 c0_i32_149
  let v374 : BitVec 1 := Scalar.andi v371 v373
  let v360 : BitVec 32 := Scalar.divsi arg1 c4_i32_144
  let c1_i32_150 : BitVec 32 := 1#32
  let v375 : BitVec 32 := Scalar.subi v360 c1_i32_150
  let v376 : BitVec 32 := Scalar.select v374 v375 v360
  let v377 : BitVec 32 := Scalar.muli c2_i32_151 v376
  let c0_i32_153 : BitVec 32 := 0#32
  let v379 : BitVec 1 := Scalar.cmpi .sgt arg1 c0_i32_153
  let v380 : BitVec 32 := Scalar.extui v379
  let c0_i32_154 : BitVec 32 := 0#32
  let v381 : BitVec 1 := Scalar.cmpi .slt arg1 c0_i32_154
  let v382 : BitVec 32 := Scalar.extui v381
  let v383 : BitVec 32 := Scalar.subi v380 v382
  let c2_i32_152 : BitVec 32 := 2#32
  let c0_i32_155 : BitVec 32 := 0#32
  let v384 : BitVec 1 := Scalar.cmpi .sgt c2_i32_152 c0_i32_155
  let v385 : BitVec 32 := Scalar.extui v384
  let c0_i32_156 : BitVec 32 := 0#32
  let v386 : BitVec 1 := Scalar.cmpi .slt c2_i32_152 c0_i32_156
  let v387 : BitVec 32 := Scalar.extui v386
  let v388 : BitVec 32 := Scalar.subi v385 v387
  let v389 : BitVec 1 := Scalar.cmpi .ne v383 v388
  let v390 : BitVec 32 := Scalar.remsi arg1 c2_i32_152
  let c0_i32_157 : BitVec 32 := 0#32
  let v391 : BitVec 1 := Scalar.cmpi .ne v390 c0_i32_157
  let v392 : BitVec 1 := Scalar.andi v389 v391
  let v378 : BitVec 32 := Scalar.divsi arg1 c2_i32_152
  let c1_i32_158 : BitVec 32 := 1#32
  let v393 : BitVec 32 := Scalar.subi v378 c1_i32_158
  let v394 : BitVec 32 := Scalar.select v392 v393 v378
  let v395 : BitVec 32 := Scalar.subi v394 v377
  let c1_i32_160 : BitVec 32 := 1#32
  let v397 : BitVec 32 := Scalar.divsi v395 c1_i32_160
  let v398 : BitVec 32 := Scalar.muli v397 c1_i32_160
  let v399 : BitVec 32 := Scalar.addi v377 v398
  let c1_i32_162 : BitVec 32 := 1#32
  let arg20 : BitVec 32 := Scf.iv v399 c1_i32_162 k0_t5
  let c2_i32_968 : BitVec 32 := 2#32
  let v2602 : BitVec 32 := Scalar.muli arg20 c2_i32_968
  let c1_i32_969 : BitVec 32 := 1#32
  let v2603 : BitVec 32 := Scalar.addi v2602 c1_i32_969
  let c8_i32_1213 : BitVec 32 := 8#32
  let v3365 : BitVec 32 := Scalar.muli v2603 c8_i32_1213
  v3365
@[reducible] def k0_t6_loop (i : grid0.Coords) : Scf.Loop 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_173 : BitVec 32 := 1#32
  ⟨v417, v422, c1_i32_173⟩
def k0_mult30 (i : grid0.Coords) (k0_t6 : Fin (k0_t6_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c256_i32_646 : BitVec 32 := 256#32
  let v1667 : BitVec 32 := Scalar.muli arg20 c256_i32_646
  v1667
def k0_off138 (i : grid0.Coords) (k0_t6 : Fin (k0_t6_loop i).trips) : Fin 3 → Nat :=
  let c0_647 : Index := 0#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c256_i32_646 : BitVec 32 := 256#32
  let v1667 : BitVec 32 := Scalar.muli arg20 c256_i32_646
  let v1668 : BitVec 32 := v1667
  let v1669 : Index := Scalar.indexCast v1668
  let c0_648 : Index := 0#32
  ![0, v1669.toNat, 0]
def k0_mult31 (i : grid0.Coords) (k0_t6 : Fin (k0_t6_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c256_i32_661 : BitVec 32 := 256#32
  let v1711 : BitVec 32 := Scalar.muli v1710 c256_i32_661
  v1711
def k0_off139 (i : grid0.Coords) (k0_t6 : Fin (k0_t6_loop i).trips) : Fin 2 → Nat :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c256_i32_661 : BitVec 32 := 256#32
  let v1711 : BitVec 32 := Scalar.muli v1710 c256_i32_661
  let v1712 : BitVec 32 := v1711
  let v1713 : Index := Scalar.indexCast v1712
  let c0_662 : Index := 0#32
  ![v1713.toNat, 0]
def k0_mult32 (i : grid0.Coords) (k0_t6 : Fin (k0_t6_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  v2471
def k0_off140 (i : grid0.Coords) (k0_t6 : Fin (k0_t6_loop i).trips) : Fin 3 → Nat :=
  let c0_905 : Index := 0#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2473 : Index := Scalar.indexCast v2472
  let c0_906 : Index := 0#32
  ![0, v2473.toNat, 0]
def k0_off141 (i : grid0.Coords) (k0_t6 : Fin (k0_t6_loop i).trips) : Fin 3 → Nat :=
  let c1_907 : Index := 1#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2477 : Index := Scalar.indexCast v2472
  let c0_908 : Index := 0#32
  ![1, v2477.toNat, 0]
def k0_off142 (i : grid0.Coords) (k0_t6 : Fin (k0_t6_loop i).trips) : Fin 3 → Nat :=
  let c2_909 : Index := 2#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2481 : Index := Scalar.indexCast v2472
  let c0_910 : Index := 0#32
  ![2, v2481.toNat, 0]
def k0_off143 (i : grid0.Coords) (k0_t6 : Fin (k0_t6_loop i).trips) : Fin 3 → Nat :=
  let c3_911 : Index := 3#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2485 : Index := Scalar.indexCast v2472
  let c0_912 : Index := 0#32
  ![3, v2485.toNat, 0]
def k0_off144 (i : grid0.Coords) (k0_t6 : Fin (k0_t6_loop i).trips) : Fin 3 → Nat :=
  let c4_913 : Index := 4#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2489 : Index := Scalar.indexCast v2472
  let c0_914 : Index := 0#32
  ![4, v2489.toNat, 0]
def k0_off145 (i : grid0.Coords) (k0_t6 : Fin (k0_t6_loop i).trips) : Fin 3 → Nat :=
  let c5_915 : Index := 5#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2493 : Index := Scalar.indexCast v2472
  let c0_916 : Index := 0#32
  ![5, v2493.toNat, 0]
def k0_off146 (i : grid0.Coords) (k0_t6 : Fin (k0_t6_loop i).trips) : Fin 3 → Nat :=
  let c6_917 : Index := 6#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2497 : Index := Scalar.indexCast v2472
  let c0_918 : Index := 0#32
  ![6, v2497.toNat, 0]
def k0_off147 (i : grid0.Coords) (k0_t6 : Fin (k0_t6_loop i).trips) : Fin 3 → Nat :=
  let c7_919 : Index := 7#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2501 : Index := Scalar.indexCast v2472
  let c0_920 : Index := 0#32
  ![7, v2501.toNat, 0]
def k0_off148 (i : grid0.Coords) (k0_t6 : Fin (k0_t6_loop i).trips) : Fin 3 → Nat :=
  let c8_921 : Index := 8#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2505 : Index := Scalar.indexCast v2472
  let c0_922 : Index := 0#32
  ![8, v2505.toNat, 0]
def k0_off149 (i : grid0.Coords) (k0_t6 : Fin (k0_t6_loop i).trips) : Fin 3 → Nat :=
  let c9_923 : Index := 9#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2509 : Index := Scalar.indexCast v2472
  let c0_924 : Index := 0#32
  ![9, v2509.toNat, 0]
def k0_off150 (i : grid0.Coords) (k0_t6 : Fin (k0_t6_loop i).trips) : Fin 3 → Nat :=
  let c10_925 : Index := 10#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2513 : Index := Scalar.indexCast v2472
  let c0_926 : Index := 0#32
  ![10, v2513.toNat, 0]
def k0_off151 (i : grid0.Coords) (k0_t6 : Fin (k0_t6_loop i).trips) : Fin 3 → Nat :=
  let c11_927 : Index := 11#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2517 : Index := Scalar.indexCast v2472
  let c0_928 : Index := 0#32
  ![11, v2517.toNat, 0]
def k0_off152 (i : grid0.Coords) (k0_t6 : Fin (k0_t6_loop i).trips) : Fin 3 → Nat :=
  let c12_929 : Index := 12#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2521 : Index := Scalar.indexCast v2472
  let c0_930 : Index := 0#32
  ![12, v2521.toNat, 0]
def k0_off153 (i : grid0.Coords) (k0_t6 : Fin (k0_t6_loop i).trips) : Fin 3 → Nat :=
  let c13_931 : Index := 13#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2525 : Index := Scalar.indexCast v2472
  let c0_932 : Index := 0#32
  ![13, v2525.toNat, 0]
def k0_off154 (i : grid0.Coords) (k0_t6 : Fin (k0_t6_loop i).trips) : Fin 3 → Nat :=
  let c14_933 : Index := 14#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2529 : Index := Scalar.indexCast v2472
  let c0_934 : Index := 0#32
  ![14, v2529.toNat, 0]
def k0_off155 (i : grid0.Coords) (k0_t6 : Fin (k0_t6_loop i).trips) : Fin 3 → Nat :=
  let c15_935 : Index := 15#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2533 : Index := Scalar.indexCast v2472
  let c0_936 : Index := 0#32
  ![15, v2533.toNat, 0]
def k0_off156 (i : grid0.Coords) (k0_t6 : Fin (k0_t6_loop i).trips) : Fin 3 → Nat :=
  let c16_937 : Index := 16#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2537 : Index := Scalar.indexCast v2472
  let c0_938 : Index := 0#32
  ![16, v2537.toNat, 0]
def k0_off157 (i : grid0.Coords) (k0_t6 : Fin (k0_t6_loop i).trips) : Fin 3 → Nat :=
  let c17_939 : Index := 17#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2541 : Index := Scalar.indexCast v2472
  let c0_940 : Index := 0#32
  ![17, v2541.toNat, 0]
def k0_off158 (i : grid0.Coords) (k0_t6 : Fin (k0_t6_loop i).trips) : Fin 3 → Nat :=
  let c18_941 : Index := 18#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2545 : Index := Scalar.indexCast v2472
  let c0_942 : Index := 0#32
  ![18, v2545.toNat, 0]
def k0_off159 (i : grid0.Coords) (k0_t6 : Fin (k0_t6_loop i).trips) : Fin 3 → Nat :=
  let c19_943 : Index := 19#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2549 : Index := Scalar.indexCast v2472
  let c0_944 : Index := 0#32
  ![19, v2549.toNat, 0]
def k0_off160 (i : grid0.Coords) (k0_t6 : Fin (k0_t6_loop i).trips) : Fin 3 → Nat :=
  let c20_945 : Index := 20#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2553 : Index := Scalar.indexCast v2472
  let c0_946 : Index := 0#32
  ![20, v2553.toNat, 0]
def k0_off161 (i : grid0.Coords) (k0_t6 : Fin (k0_t6_loop i).trips) : Fin 3 → Nat :=
  let c21_947 : Index := 21#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2557 : Index := Scalar.indexCast v2472
  let c0_948 : Index := 0#32
  ![21, v2557.toNat, 0]
def k0_off162 (i : grid0.Coords) (k0_t6 : Fin (k0_t6_loop i).trips) : Fin 3 → Nat :=
  let c22_949 : Index := 22#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2561 : Index := Scalar.indexCast v2472
  let c0_950 : Index := 0#32
  ![22, v2561.toNat, 0]
def k0_off163 (i : grid0.Coords) (k0_t6 : Fin (k0_t6_loop i).trips) : Fin 3 → Nat :=
  let c23_951 : Index := 23#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2565 : Index := Scalar.indexCast v2472
  let c0_952 : Index := 0#32
  ![23, v2565.toNat, 0]
def k0_off164 (i : grid0.Coords) (k0_t6 : Fin (k0_t6_loop i).trips) : Fin 3 → Nat :=
  let c24_953 : Index := 24#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2569 : Index := Scalar.indexCast v2472
  let c0_954 : Index := 0#32
  ![24, v2569.toNat, 0]
def k0_off165 (i : grid0.Coords) (k0_t6 : Fin (k0_t6_loop i).trips) : Fin 3 → Nat :=
  let c25_955 : Index := 25#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2573 : Index := Scalar.indexCast v2472
  let c0_956 : Index := 0#32
  ![25, v2573.toNat, 0]
def k0_off166 (i : grid0.Coords) (k0_t6 : Fin (k0_t6_loop i).trips) : Fin 3 → Nat :=
  let c26_957 : Index := 26#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2577 : Index := Scalar.indexCast v2472
  let c0_958 : Index := 0#32
  ![26, v2577.toNat, 0]
def k0_off167 (i : grid0.Coords) (k0_t6 : Fin (k0_t6_loop i).trips) : Fin 3 → Nat :=
  let c27_959 : Index := 27#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2581 : Index := Scalar.indexCast v2472
  let c0_960 : Index := 0#32
  ![27, v2581.toNat, 0]
def k0_off168 (i : grid0.Coords) (k0_t6 : Fin (k0_t6_loop i).trips) : Fin 3 → Nat :=
  let c28_961 : Index := 28#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2585 : Index := Scalar.indexCast v2472
  let c0_962 : Index := 0#32
  ![28, v2585.toNat, 0]
def k0_off169 (i : grid0.Coords) (k0_t6 : Fin (k0_t6_loop i).trips) : Fin 3 → Nat :=
  let c29_963 : Index := 29#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2589 : Index := Scalar.indexCast v2472
  let c0_964 : Index := 0#32
  ![29, v2589.toNat, 0]
def k0_off170 (i : grid0.Coords) (k0_t6 : Fin (k0_t6_loop i).trips) : Fin 3 → Nat :=
  let c30_965 : Index := 30#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2593 : Index := Scalar.indexCast v2472
  let c0_966 : Index := 0#32
  ![30, v2593.toNat, 0]
def k0_off171 (i : grid0.Coords) (k0_t6 : Fin (k0_t6_loop i).trips) : Fin 3 → Nat :=
  let c31_967 : Index := 31#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let c1_i32_173 : BitVec 32 := 1#32
  let arg20 : BitVec 32 := Scf.iv v417 c1_i32_173 k0_t6
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2597 : Index := Scalar.indexCast v2472
  let c0_968 : Index := 0#32
  ![31, v2597.toNat, 0]
@[reducible] def k0_t7_loop (i : grid0.Coords) : Scf.Loop 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let v419 : BitVec 32 := Scalar.addi v417 v418
  let c1_i32_174 : BitVec 32 := 1#32
  ⟨v422, v419, c1_i32_174⟩
def k0_mult33 (i : grid0.Coords) (k0_t7 : Fin (k0_t7_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c256_i32_646 : BitVec 32 := 256#32
  let v1667 : BitVec 32 := Scalar.muli arg20 c256_i32_646
  v1667
def k0_off172 (i : grid0.Coords) (k0_t7 : Fin (k0_t7_loop i).trips) : Fin 3 → Nat :=
  let c0_647 : Index := 0#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c256_i32_646 : BitVec 32 := 256#32
  let v1667 : BitVec 32 := Scalar.muli arg20 c256_i32_646
  let v1668 : BitVec 32 := v1667
  let v1669 : Index := Scalar.indexCast v1668
  let c0_648 : Index := 0#32
  ![0, v1669.toNat, 0]
def k0_mult34 (i : grid0.Coords) (k0_t7 : Fin (k0_t7_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c256_i32_661 : BitVec 32 := 256#32
  let v1711 : BitVec 32 := Scalar.muli v1710 c256_i32_661
  v1711
def k0_off173 (i : grid0.Coords) (k0_t7 : Fin (k0_t7_loop i).trips) : Fin 2 → Nat :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c256_i32_661 : BitVec 32 := 256#32
  let v1711 : BitVec 32 := Scalar.muli v1710 c256_i32_661
  let v1712 : BitVec 32 := v1711
  let v1713 : Index := Scalar.indexCast v1712
  let c0_662 : Index := 0#32
  ![v1713.toNat, 0]
def k0_mult35 (i : grid0.Coords) (k0_t7 : Fin (k0_t7_loop i).trips) : BitVec 32 :=
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  v2471
def k0_off174 (i : grid0.Coords) (k0_t7 : Fin (k0_t7_loop i).trips) : Fin 3 → Nat :=
  let c0_905 : Index := 0#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2473 : Index := Scalar.indexCast v2472
  let c0_906 : Index := 0#32
  ![0, v2473.toNat, 0]
def k0_off175 (i : grid0.Coords) (k0_t7 : Fin (k0_t7_loop i).trips) : Fin 3 → Nat :=
  let c1_907 : Index := 1#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2477 : Index := Scalar.indexCast v2472
  let c0_908 : Index := 0#32
  ![1, v2477.toNat, 0]
def k0_off176 (i : grid0.Coords) (k0_t7 : Fin (k0_t7_loop i).trips) : Fin 3 → Nat :=
  let c2_909 : Index := 2#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2481 : Index := Scalar.indexCast v2472
  let c0_910 : Index := 0#32
  ![2, v2481.toNat, 0]
def k0_off177 (i : grid0.Coords) (k0_t7 : Fin (k0_t7_loop i).trips) : Fin 3 → Nat :=
  let c3_911 : Index := 3#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2485 : Index := Scalar.indexCast v2472
  let c0_912 : Index := 0#32
  ![3, v2485.toNat, 0]
def k0_off178 (i : grid0.Coords) (k0_t7 : Fin (k0_t7_loop i).trips) : Fin 3 → Nat :=
  let c4_913 : Index := 4#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2489 : Index := Scalar.indexCast v2472
  let c0_914 : Index := 0#32
  ![4, v2489.toNat, 0]
def k0_off179 (i : grid0.Coords) (k0_t7 : Fin (k0_t7_loop i).trips) : Fin 3 → Nat :=
  let c5_915 : Index := 5#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2493 : Index := Scalar.indexCast v2472
  let c0_916 : Index := 0#32
  ![5, v2493.toNat, 0]
def k0_off180 (i : grid0.Coords) (k0_t7 : Fin (k0_t7_loop i).trips) : Fin 3 → Nat :=
  let c6_917 : Index := 6#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2497 : Index := Scalar.indexCast v2472
  let c0_918 : Index := 0#32
  ![6, v2497.toNat, 0]
def k0_off181 (i : grid0.Coords) (k0_t7 : Fin (k0_t7_loop i).trips) : Fin 3 → Nat :=
  let c7_919 : Index := 7#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2501 : Index := Scalar.indexCast v2472
  let c0_920 : Index := 0#32
  ![7, v2501.toNat, 0]
def k0_off182 (i : grid0.Coords) (k0_t7 : Fin (k0_t7_loop i).trips) : Fin 3 → Nat :=
  let c8_921 : Index := 8#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2505 : Index := Scalar.indexCast v2472
  let c0_922 : Index := 0#32
  ![8, v2505.toNat, 0]
def k0_off183 (i : grid0.Coords) (k0_t7 : Fin (k0_t7_loop i).trips) : Fin 3 → Nat :=
  let c9_923 : Index := 9#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2509 : Index := Scalar.indexCast v2472
  let c0_924 : Index := 0#32
  ![9, v2509.toNat, 0]
def k0_off184 (i : grid0.Coords) (k0_t7 : Fin (k0_t7_loop i).trips) : Fin 3 → Nat :=
  let c10_925 : Index := 10#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2513 : Index := Scalar.indexCast v2472
  let c0_926 : Index := 0#32
  ![10, v2513.toNat, 0]
def k0_off185 (i : grid0.Coords) (k0_t7 : Fin (k0_t7_loop i).trips) : Fin 3 → Nat :=
  let c11_927 : Index := 11#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2517 : Index := Scalar.indexCast v2472
  let c0_928 : Index := 0#32
  ![11, v2517.toNat, 0]
def k0_off186 (i : grid0.Coords) (k0_t7 : Fin (k0_t7_loop i).trips) : Fin 3 → Nat :=
  let c12_929 : Index := 12#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2521 : Index := Scalar.indexCast v2472
  let c0_930 : Index := 0#32
  ![12, v2521.toNat, 0]
def k0_off187 (i : grid0.Coords) (k0_t7 : Fin (k0_t7_loop i).trips) : Fin 3 → Nat :=
  let c13_931 : Index := 13#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2525 : Index := Scalar.indexCast v2472
  let c0_932 : Index := 0#32
  ![13, v2525.toNat, 0]
def k0_off188 (i : grid0.Coords) (k0_t7 : Fin (k0_t7_loop i).trips) : Fin 3 → Nat :=
  let c14_933 : Index := 14#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2529 : Index := Scalar.indexCast v2472
  let c0_934 : Index := 0#32
  ![14, v2529.toNat, 0]
def k0_off189 (i : grid0.Coords) (k0_t7 : Fin (k0_t7_loop i).trips) : Fin 3 → Nat :=
  let c15_935 : Index := 15#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2533 : Index := Scalar.indexCast v2472
  let c0_936 : Index := 0#32
  ![15, v2533.toNat, 0]
def k0_off190 (i : grid0.Coords) (k0_t7 : Fin (k0_t7_loop i).trips) : Fin 3 → Nat :=
  let c16_937 : Index := 16#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2537 : Index := Scalar.indexCast v2472
  let c0_938 : Index := 0#32
  ![16, v2537.toNat, 0]
def k0_off191 (i : grid0.Coords) (k0_t7 : Fin (k0_t7_loop i).trips) : Fin 3 → Nat :=
  let c17_939 : Index := 17#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2541 : Index := Scalar.indexCast v2472
  let c0_940 : Index := 0#32
  ![17, v2541.toNat, 0]
def k0_off192 (i : grid0.Coords) (k0_t7 : Fin (k0_t7_loop i).trips) : Fin 3 → Nat :=
  let c18_941 : Index := 18#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2545 : Index := Scalar.indexCast v2472
  let c0_942 : Index := 0#32
  ![18, v2545.toNat, 0]
def k0_off193 (i : grid0.Coords) (k0_t7 : Fin (k0_t7_loop i).trips) : Fin 3 → Nat :=
  let c19_943 : Index := 19#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2549 : Index := Scalar.indexCast v2472
  let c0_944 : Index := 0#32
  ![19, v2549.toNat, 0]
def k0_off194 (i : grid0.Coords) (k0_t7 : Fin (k0_t7_loop i).trips) : Fin 3 → Nat :=
  let c20_945 : Index := 20#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2553 : Index := Scalar.indexCast v2472
  let c0_946 : Index := 0#32
  ![20, v2553.toNat, 0]
def k0_off195 (i : grid0.Coords) (k0_t7 : Fin (k0_t7_loop i).trips) : Fin 3 → Nat :=
  let c21_947 : Index := 21#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2557 : Index := Scalar.indexCast v2472
  let c0_948 : Index := 0#32
  ![21, v2557.toNat, 0]
def k0_off196 (i : grid0.Coords) (k0_t7 : Fin (k0_t7_loop i).trips) : Fin 3 → Nat :=
  let c22_949 : Index := 22#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2561 : Index := Scalar.indexCast v2472
  let c0_950 : Index := 0#32
  ![22, v2561.toNat, 0]
def k0_off197 (i : grid0.Coords) (k0_t7 : Fin (k0_t7_loop i).trips) : Fin 3 → Nat :=
  let c23_951 : Index := 23#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2565 : Index := Scalar.indexCast v2472
  let c0_952 : Index := 0#32
  ![23, v2565.toNat, 0]
def k0_off198 (i : grid0.Coords) (k0_t7 : Fin (k0_t7_loop i).trips) : Fin 3 → Nat :=
  let c24_953 : Index := 24#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2569 : Index := Scalar.indexCast v2472
  let c0_954 : Index := 0#32
  ![24, v2569.toNat, 0]
def k0_off199 (i : grid0.Coords) (k0_t7 : Fin (k0_t7_loop i).trips) : Fin 3 → Nat :=
  let c25_955 : Index := 25#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2573 : Index := Scalar.indexCast v2472
  let c0_956 : Index := 0#32
  ![25, v2573.toNat, 0]
def k0_off200 (i : grid0.Coords) (k0_t7 : Fin (k0_t7_loop i).trips) : Fin 3 → Nat :=
  let c26_957 : Index := 26#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2577 : Index := Scalar.indexCast v2472
  let c0_958 : Index := 0#32
  ![26, v2577.toNat, 0]
def k0_off201 (i : grid0.Coords) (k0_t7 : Fin (k0_t7_loop i).trips) : Fin 3 → Nat :=
  let c27_959 : Index := 27#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2581 : Index := Scalar.indexCast v2472
  let c0_960 : Index := 0#32
  ![27, v2581.toNat, 0]
def k0_off202 (i : grid0.Coords) (k0_t7 : Fin (k0_t7_loop i).trips) : Fin 3 → Nat :=
  let c28_961 : Index := 28#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2585 : Index := Scalar.indexCast v2472
  let c0_962 : Index := 0#32
  ![28, v2585.toNat, 0]
def k0_off203 (i : grid0.Coords) (k0_t7 : Fin (k0_t7_loop i).trips) : Fin 3 → Nat :=
  let c29_963 : Index := 29#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2589 : Index := Scalar.indexCast v2472
  let c0_964 : Index := 0#32
  ![29, v2589.toNat, 0]
def k0_off204 (i : grid0.Coords) (k0_t7 : Fin (k0_t7_loop i).trips) : Fin 3 → Nat :=
  let c30_965 : Index := 30#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2593 : Index := Scalar.indexCast v2472
  let c0_966 : Index := 0#32
  ![30, v2593.toNat, 0]
def k0_off205 (i : grid0.Coords) (k0_t7 : Fin (k0_t7_loop i).trips) : Fin 3 → Nat :=
  let c31_967 : Index := 31#32
  let c2_i32_170 : BitVec 32 := 2#32
  let arg1 : BitVec 32 := BitVec.ofNat 32 (i 1).val
  let c0_i32_164 : BitVec 32 := 0#32
  let v401 : BitVec 1 := Scalar.cmpi .sgt arg1 c0_i32_164
  let v402 : BitVec 32 := Scalar.extui v401
  let c0_i32_165 : BitVec 32 := 0#32
  let v403 : BitVec 1 := Scalar.cmpi .slt arg1 c0_i32_165
  let v404 : BitVec 32 := Scalar.extui v403
  let v405 : BitVec 32 := Scalar.subi v402 v404
  let c2_i32_163 : BitVec 32 := 2#32
  let c0_i32_166 : BitVec 32 := 0#32
  let v406 : BitVec 1 := Scalar.cmpi .sgt c2_i32_163 c0_i32_166
  let v407 : BitVec 32 := Scalar.extui v406
  let c0_i32_167 : BitVec 32 := 0#32
  let v408 : BitVec 1 := Scalar.cmpi .slt c2_i32_163 c0_i32_167
  let v409 : BitVec 32 := Scalar.extui v408
  let v410 : BitVec 32 := Scalar.subi v407 v409
  let v411 : BitVec 1 := Scalar.cmpi .ne v405 v410
  let v412 : BitVec 32 := Scalar.remsi arg1 c2_i32_163
  let c0_i32_168 : BitVec 32 := 0#32
  let v413 : BitVec 1 := Scalar.cmpi .ne v412 c0_i32_168
  let v414 : BitVec 1 := Scalar.andi v411 v413
  let v400 : BitVec 32 := Scalar.divsi arg1 c2_i32_163
  let c1_i32_169 : BitVec 32 := 1#32
  let v415 : BitVec 32 := Scalar.subi v400 c1_i32_169
  let v416 : BitVec 32 := Scalar.select v414 v415 v400
  let v417 : BitVec 32 := Scalar.muli c2_i32_170 v416
  let v418 : BitVec 32 := Scalar.subi arg1 v417
  let c1_i32_172 : BitVec 32 := 1#32
  let v420 : BitVec 32 := Scalar.divsi v418 c1_i32_172
  let v421 : BitVec 32 := Scalar.muli v420 c1_i32_172
  let v422 : BitVec 32 := Scalar.addi v417 v421
  let c1_i32_174 : BitVec 32 := 1#32
  let arg20 : BitVec 32 := Scf.iv v422 c1_i32_174 k0_t7
  let c1_i32_659 : BitVec 32 := 1#32
  let v1709 : BitVec 32 := Scalar.muli arg20 c1_i32_659
  let c0_i32_660 : BitVec 32 := 0#32
  let v1710 : BitVec 32 := Scalar.addi v1709 c0_i32_660
  let c8_i32_904 : BitVec 32 := 8#32
  let v2471 : BitVec 32 := Scalar.muli v1710 c8_i32_904
  let v2472 : BitVec 32 := v2471
  let v2597 : Index := Scalar.indexCast v2472
  let c0_968 : Index := 0#32
  ![31, v2597.toNat, 0]
def k0_mult36 (i : grid0.Coords) : BitVec 32 :=
  let arg1 : BitVec 32 := BitVec.ofNat 32 (i 1).val
  let c256_i32 : BitVec 32 := 256#32
  let v426 : BitVec 32 := Scalar.muli arg1 c256_i32
  v426
def k0_off206 (i : grid0.Coords) : Fin 3 → Nat :=
  let c0_175 : Index := 0#32
  let arg1 : BitVec 32 := BitVec.ofNat 32 (i 1).val
  let c256_i32 : BitVec 32 := 256#32
  let v426 : BitVec 32 := Scalar.muli arg1 c256_i32
  let v427 : BitVec 32 := v426
  let v428 : Index := Scalar.indexCast v427
  let c0_176 : Index := 0#32
  ![0, v428.toNat, 0]
def k0_mult37 (i : grid0.Coords) : BitVec 32 :=
  let arg1 : BitVec 32 := BitVec.ofNat 32 (i 1).val
  let c256_i32_187 : BitVec 32 := 256#32
  let v470 : BitVec 32 := Scalar.muli arg1 c256_i32_187
  v470
def k0_off207 (i : grid0.Coords) : Fin 2 → Nat :=
  let arg1 : BitVec 32 := BitVec.ofNat 32 (i 1).val
  let c256_i32_187 : BitVec 32 := 256#32
  let v470 : BitVec 32 := Scalar.muli arg1 c256_i32_187
  let v471 : BitVec 32 := v470
  let v472 : Index := Scalar.indexCast v471
  let c0_188 : Index := 0#32
  ![v472.toNat, 0]
def k0_mult38 (i : grid0.Coords) : BitVec 32 :=
  let arg1 : BitVec 32 := BitVec.ofNat 32 (i 1).val
  let c8_i32_423 : BitVec 32 := 8#32
  let v1230 : BitVec 32 := Scalar.muli arg1 c8_i32_423
  v1230
def k0_off208 (i : grid0.Coords) : Fin 3 → Nat :=
  let c0_424 : Index := 0#32
  let arg1 : BitVec 32 := BitVec.ofNat 32 (i 1).val
  let c8_i32_423 : BitVec 32 := 8#32
  let v1230 : BitVec 32 := Scalar.muli arg1 c8_i32_423
  let v1231 : BitVec 32 := v1230
  let v1232 : Index := Scalar.indexCast v1231
  let c0_425 : Index := 0#32
  ![0, v1232.toNat, 0]
def k0_off209 (i : grid0.Coords) : Fin 3 → Nat :=
  let c1_426 : Index := 1#32
  let arg1 : BitVec 32 := BitVec.ofNat 32 (i 1).val
  let c8_i32_423 : BitVec 32 := 8#32
  let v1230 : BitVec 32 := Scalar.muli arg1 c8_i32_423
  let v1231 : BitVec 32 := v1230
  let v1236 : Index := Scalar.indexCast v1231
  let c0_427 : Index := 0#32
  ![1, v1236.toNat, 0]
def k0_off210 (i : grid0.Coords) : Fin 3 → Nat :=
  let c2_428 : Index := 2#32
  let arg1 : BitVec 32 := BitVec.ofNat 32 (i 1).val
  let c8_i32_423 : BitVec 32 := 8#32
  let v1230 : BitVec 32 := Scalar.muli arg1 c8_i32_423
  let v1231 : BitVec 32 := v1230
  let v1240 : Index := Scalar.indexCast v1231
  let c0_429 : Index := 0#32
  ![2, v1240.toNat, 0]
def k0_off211 (i : grid0.Coords) : Fin 3 → Nat :=
  let c3 : Index := 3#32
  let arg1 : BitVec 32 := BitVec.ofNat 32 (i 1).val
  let c8_i32_423 : BitVec 32 := 8#32
  let v1230 : BitVec 32 := Scalar.muli arg1 c8_i32_423
  let v1231 : BitVec 32 := v1230
  let v1244 : Index := Scalar.indexCast v1231
  let c0_430 : Index := 0#32
  ![3, v1244.toNat, 0]
def k0_off212 (i : grid0.Coords) : Fin 3 → Nat :=
  let c4 : Index := 4#32
  let arg1 : BitVec 32 := BitVec.ofNat 32 (i 1).val
  let c8_i32_423 : BitVec 32 := 8#32
  let v1230 : BitVec 32 := Scalar.muli arg1 c8_i32_423
  let v1231 : BitVec 32 := v1230
  let v1248 : Index := Scalar.indexCast v1231
  let c0_431 : Index := 0#32
  ![4, v1248.toNat, 0]
def k0_off213 (i : grid0.Coords) : Fin 3 → Nat :=
  let c5 : Index := 5#32
  let arg1 : BitVec 32 := BitVec.ofNat 32 (i 1).val
  let c8_i32_423 : BitVec 32 := 8#32
  let v1230 : BitVec 32 := Scalar.muli arg1 c8_i32_423
  let v1231 : BitVec 32 := v1230
  let v1252 : Index := Scalar.indexCast v1231
  let c0_432 : Index := 0#32
  ![5, v1252.toNat, 0]
def k0_off214 (i : grid0.Coords) : Fin 3 → Nat :=
  let c6 : Index := 6#32
  let arg1 : BitVec 32 := BitVec.ofNat 32 (i 1).val
  let c8_i32_423 : BitVec 32 := 8#32
  let v1230 : BitVec 32 := Scalar.muli arg1 c8_i32_423
  let v1231 : BitVec 32 := v1230
  let v1256 : Index := Scalar.indexCast v1231
  let c0_433 : Index := 0#32
  ![6, v1256.toNat, 0]
def k0_off215 (i : grid0.Coords) : Fin 3 → Nat :=
  let c7 : Index := 7#32
  let arg1 : BitVec 32 := BitVec.ofNat 32 (i 1).val
  let c8_i32_423 : BitVec 32 := 8#32
  let v1230 : BitVec 32 := Scalar.muli arg1 c8_i32_423
  let v1231 : BitVec 32 := v1230
  let v1260 : Index := Scalar.indexCast v1231
  let c0_434 : Index := 0#32
  ![7, v1260.toNat, 0]
def k0_off216 (i : grid0.Coords) : Fin 3 → Nat :=
  let c8 : Index := 8#32
  let arg1 : BitVec 32 := BitVec.ofNat 32 (i 1).val
  let c8_i32_423 : BitVec 32 := 8#32
  let v1230 : BitVec 32 := Scalar.muli arg1 c8_i32_423
  let v1231 : BitVec 32 := v1230
  let v1264 : Index := Scalar.indexCast v1231
  let c0_435 : Index := 0#32
  ![8, v1264.toNat, 0]
def k0_off217 (i : grid0.Coords) : Fin 3 → Nat :=
  let c9 : Index := 9#32
  let arg1 : BitVec 32 := BitVec.ofNat 32 (i 1).val
  let c8_i32_423 : BitVec 32 := 8#32
  let v1230 : BitVec 32 := Scalar.muli arg1 c8_i32_423
  let v1231 : BitVec 32 := v1230
  let v1268 : Index := Scalar.indexCast v1231
  let c0_436 : Index := 0#32
  ![9, v1268.toNat, 0]
def k0_off218 (i : grid0.Coords) : Fin 3 → Nat :=
  let c10 : Index := 10#32
  let arg1 : BitVec 32 := BitVec.ofNat 32 (i 1).val
  let c8_i32_423 : BitVec 32 := 8#32
  let v1230 : BitVec 32 := Scalar.muli arg1 c8_i32_423
  let v1231 : BitVec 32 := v1230
  let v1272 : Index := Scalar.indexCast v1231
  let c0_437 : Index := 0#32
  ![10, v1272.toNat, 0]
def k0_off219 (i : grid0.Coords) : Fin 3 → Nat :=
  let c11 : Index := 11#32
  let arg1 : BitVec 32 := BitVec.ofNat 32 (i 1).val
  let c8_i32_423 : BitVec 32 := 8#32
  let v1230 : BitVec 32 := Scalar.muli arg1 c8_i32_423
  let v1231 : BitVec 32 := v1230
  let v1276 : Index := Scalar.indexCast v1231
  let c0_438 : Index := 0#32
  ![11, v1276.toNat, 0]
def k0_off220 (i : grid0.Coords) : Fin 3 → Nat :=
  let c12 : Index := 12#32
  let arg1 : BitVec 32 := BitVec.ofNat 32 (i 1).val
  let c8_i32_423 : BitVec 32 := 8#32
  let v1230 : BitVec 32 := Scalar.muli arg1 c8_i32_423
  let v1231 : BitVec 32 := v1230
  let v1280 : Index := Scalar.indexCast v1231
  let c0_439 : Index := 0#32
  ![12, v1280.toNat, 0]
def k0_off221 (i : grid0.Coords) : Fin 3 → Nat :=
  let c13 : Index := 13#32
  let arg1 : BitVec 32 := BitVec.ofNat 32 (i 1).val
  let c8_i32_423 : BitVec 32 := 8#32
  let v1230 : BitVec 32 := Scalar.muli arg1 c8_i32_423
  let v1231 : BitVec 32 := v1230
  let v1284 : Index := Scalar.indexCast v1231
  let c0_440 : Index := 0#32
  ![13, v1284.toNat, 0]
def k0_off222 (i : grid0.Coords) : Fin 3 → Nat :=
  let c14 : Index := 14#32
  let arg1 : BitVec 32 := BitVec.ofNat 32 (i 1).val
  let c8_i32_423 : BitVec 32 := 8#32
  let v1230 : BitVec 32 := Scalar.muli arg1 c8_i32_423
  let v1231 : BitVec 32 := v1230
  let v1288 : Index := Scalar.indexCast v1231
  let c0_441 : Index := 0#32
  ![14, v1288.toNat, 0]
def k0_off223 (i : grid0.Coords) : Fin 3 → Nat :=
  let c15 : Index := 15#32
  let arg1 : BitVec 32 := BitVec.ofNat 32 (i 1).val
  let c8_i32_423 : BitVec 32 := 8#32
  let v1230 : BitVec 32 := Scalar.muli arg1 c8_i32_423
  let v1231 : BitVec 32 := v1230
  let v1292 : Index := Scalar.indexCast v1231
  let c0_442 : Index := 0#32
  ![15, v1292.toNat, 0]
def k0_off224 (i : grid0.Coords) : Fin 3 → Nat :=
  let c16 : Index := 16#32
  let arg1 : BitVec 32 := BitVec.ofNat 32 (i 1).val
  let c8_i32_423 : BitVec 32 := 8#32
  let v1230 : BitVec 32 := Scalar.muli arg1 c8_i32_423
  let v1231 : BitVec 32 := v1230
  let v1296 : Index := Scalar.indexCast v1231
  let c0_443 : Index := 0#32
  ![16, v1296.toNat, 0]
def k0_off225 (i : grid0.Coords) : Fin 3 → Nat :=
  let c17 : Index := 17#32
  let arg1 : BitVec 32 := BitVec.ofNat 32 (i 1).val
  let c8_i32_423 : BitVec 32 := 8#32
  let v1230 : BitVec 32 := Scalar.muli arg1 c8_i32_423
  let v1231 : BitVec 32 := v1230
  let v1300 : Index := Scalar.indexCast v1231
  let c0_444 : Index := 0#32
  ![17, v1300.toNat, 0]
def k0_off226 (i : grid0.Coords) : Fin 3 → Nat :=
  let c18 : Index := 18#32
  let arg1 : BitVec 32 := BitVec.ofNat 32 (i 1).val
  let c8_i32_423 : BitVec 32 := 8#32
  let v1230 : BitVec 32 := Scalar.muli arg1 c8_i32_423
  let v1231 : BitVec 32 := v1230
  let v1304 : Index := Scalar.indexCast v1231
  let c0_445 : Index := 0#32
  ![18, v1304.toNat, 0]
def k0_off227 (i : grid0.Coords) : Fin 3 → Nat :=
  let c19 : Index := 19#32
  let arg1 : BitVec 32 := BitVec.ofNat 32 (i 1).val
  let c8_i32_423 : BitVec 32 := 8#32
  let v1230 : BitVec 32 := Scalar.muli arg1 c8_i32_423
  let v1231 : BitVec 32 := v1230
  let v1308 : Index := Scalar.indexCast v1231
  let c0_446 : Index := 0#32
  ![19, v1308.toNat, 0]
def k0_off228 (i : grid0.Coords) : Fin 3 → Nat :=
  let c20 : Index := 20#32
  let arg1 : BitVec 32 := BitVec.ofNat 32 (i 1).val
  let c8_i32_423 : BitVec 32 := 8#32
  let v1230 : BitVec 32 := Scalar.muli arg1 c8_i32_423
  let v1231 : BitVec 32 := v1230
  let v1312 : Index := Scalar.indexCast v1231
  let c0_447 : Index := 0#32
  ![20, v1312.toNat, 0]
def k0_off229 (i : grid0.Coords) : Fin 3 → Nat :=
  let c21 : Index := 21#32
  let arg1 : BitVec 32 := BitVec.ofNat 32 (i 1).val
  let c8_i32_423 : BitVec 32 := 8#32
  let v1230 : BitVec 32 := Scalar.muli arg1 c8_i32_423
  let v1231 : BitVec 32 := v1230
  let v1316 : Index := Scalar.indexCast v1231
  let c0_448 : Index := 0#32
  ![21, v1316.toNat, 0]
def k0_off230 (i : grid0.Coords) : Fin 3 → Nat :=
  let c22 : Index := 22#32
  let arg1 : BitVec 32 := BitVec.ofNat 32 (i 1).val
  let c8_i32_423 : BitVec 32 := 8#32
  let v1230 : BitVec 32 := Scalar.muli arg1 c8_i32_423
  let v1231 : BitVec 32 := v1230
  let v1320 : Index := Scalar.indexCast v1231
  let c0_449 : Index := 0#32
  ![22, v1320.toNat, 0]
def k0_off231 (i : grid0.Coords) : Fin 3 → Nat :=
  let c23 : Index := 23#32
  let arg1 : BitVec 32 := BitVec.ofNat 32 (i 1).val
  let c8_i32_423 : BitVec 32 := 8#32
  let v1230 : BitVec 32 := Scalar.muli arg1 c8_i32_423
  let v1231 : BitVec 32 := v1230
  let v1324 : Index := Scalar.indexCast v1231
  let c0_450 : Index := 0#32
  ![23, v1324.toNat, 0]
def k0_off232 (i : grid0.Coords) : Fin 3 → Nat :=
  let c24 : Index := 24#32
  let arg1 : BitVec 32 := BitVec.ofNat 32 (i 1).val
  let c8_i32_423 : BitVec 32 := 8#32
  let v1230 : BitVec 32 := Scalar.muli arg1 c8_i32_423
  let v1231 : BitVec 32 := v1230
  let v1328 : Index := Scalar.indexCast v1231
  let c0_451 : Index := 0#32
  ![24, v1328.toNat, 0]
def k0_off233 (i : grid0.Coords) : Fin 3 → Nat :=
  let c25 : Index := 25#32
  let arg1 : BitVec 32 := BitVec.ofNat 32 (i 1).val
  let c8_i32_423 : BitVec 32 := 8#32
  let v1230 : BitVec 32 := Scalar.muli arg1 c8_i32_423
  let v1231 : BitVec 32 := v1230
  let v1332 : Index := Scalar.indexCast v1231
  let c0_452 : Index := 0#32
  ![25, v1332.toNat, 0]
def k0_off234 (i : grid0.Coords) : Fin 3 → Nat :=
  let c26 : Index := 26#32
  let arg1 : BitVec 32 := BitVec.ofNat 32 (i 1).val
  let c8_i32_423 : BitVec 32 := 8#32
  let v1230 : BitVec 32 := Scalar.muli arg1 c8_i32_423
  let v1231 : BitVec 32 := v1230
  let v1336 : Index := Scalar.indexCast v1231
  let c0_453 : Index := 0#32
  ![26, v1336.toNat, 0]
def k0_off235 (i : grid0.Coords) : Fin 3 → Nat :=
  let c27 : Index := 27#32
  let arg1 : BitVec 32 := BitVec.ofNat 32 (i 1).val
  let c8_i32_423 : BitVec 32 := 8#32
  let v1230 : BitVec 32 := Scalar.muli arg1 c8_i32_423
  let v1231 : BitVec 32 := v1230
  let v1340 : Index := Scalar.indexCast v1231
  let c0_454 : Index := 0#32
  ![27, v1340.toNat, 0]
def k0_off236 (i : grid0.Coords) : Fin 3 → Nat :=
  let c28 : Index := 28#32
  let arg1 : BitVec 32 := BitVec.ofNat 32 (i 1).val
  let c8_i32_423 : BitVec 32 := 8#32
  let v1230 : BitVec 32 := Scalar.muli arg1 c8_i32_423
  let v1231 : BitVec 32 := v1230
  let v1344 : Index := Scalar.indexCast v1231
  let c0_455 : Index := 0#32
  ![28, v1344.toNat, 0]
def k0_off237 (i : grid0.Coords) : Fin 3 → Nat :=
  let c29 : Index := 29#32
  let arg1 : BitVec 32 := BitVec.ofNat 32 (i 1).val
  let c8_i32_423 : BitVec 32 := 8#32
  let v1230 : BitVec 32 := Scalar.muli arg1 c8_i32_423
  let v1231 : BitVec 32 := v1230
  let v1348 : Index := Scalar.indexCast v1231
  let c0_456 : Index := 0#32
  ![29, v1348.toNat, 0]
def k0_off238 (i : grid0.Coords) : Fin 3 → Nat :=
  let c30 : Index := 30#32
  let arg1 : BitVec 32 := BitVec.ofNat 32 (i 1).val
  let c8_i32_423 : BitVec 32 := 8#32
  let v1230 : BitVec 32 := Scalar.muli arg1 c8_i32_423
  let v1231 : BitVec 32 := v1230
  let v1352 : Index := Scalar.indexCast v1231
  let c0_457 : Index := 0#32
  ![30, v1352.toNat, 0]
def k0_off239 (i : grid0.Coords) : Fin 3 → Nat :=
  let c31 : Index := 31#32
  let arg1 : BitVec 32 := BitVec.ofNat 32 (i 1).val
  let c8_i32_423 : BitVec 32 := 8#32
  let v1230 : BitVec 32 := Scalar.muli arg1 c8_i32_423
  let v1231 : BitVec 32 := v1230
  let v1356 : Index := Scalar.indexCast v1231
  let c0_458 : Index := 0#32
  ![31, v1356.toNat, 0]
def k0_mult39 (i : grid0.Coords) : BitVec 32 :=
  let arg1 : BitVec 32 := BitVec.ofNat 32 (i 1).val
  let c1_i32 : BitVec 32 := 1#32
  let v0 : BitVec 32 := Scalar.addi arg1 c1_i32
  let c0_i32_460 : BitVec 32 := 0#32
  let v1361 : BitVec 32 := Scalar.addi v0 c0_i32_460
  let c256_i32_461 : BitVec 32 := 256#32
  let v1362 : BitVec 32 := Scalar.muli v1361 c256_i32_461
  v1362
def k0_off240 (i : grid0.Coords) (c0_i32_460 : BitVec 32) : Fin 2 → Nat :=
  let arg1 : BitVec 32 := BitVec.ofNat 32 (i 1).val
  let c1_i32 : BitVec 32 := 1#32
  let v0 : BitVec 32 := Scalar.addi arg1 c1_i32
  let v1361 : BitVec 32 := Scalar.addi v0 c0_i32_460
  let c256_i32_461 : BitVec 32 := 256#32
  let v1362 : BitVec 32 := Scalar.muli v1361 c256_i32_461
  let v1363 : BitVec 32 := v1362
  let v1364 : Index := Scalar.indexCast v1363
  let c0_462 : Index := 0#32
  ![v1364.toNat, 0]
def k0_mult40 (i : grid0.Coords) : BitVec 32 :=
  let arg1 : BitVec 32 := BitVec.ofNat 32 (i 1).val
  let c1_i32 : BitVec 32 := 1#32
  let v0 : BitVec 32 := Scalar.addi arg1 c1_i32
  let c1_i32_464 : BitVec 32 := 1#32
  let v1369 : BitVec 32 := Scalar.addi v0 c1_i32_464
  let c256_i32_465 : BitVec 32 := 256#32
  let v1370 : BitVec 32 := Scalar.muli v1369 c256_i32_465
  v1370
def k0_mult41 (i : grid0.Coords) : BitVec 32 :=
  let arg1 : BitVec 32 := BitVec.ofNat 32 (i 1).val
  let c1_i32 : BitVec 32 := 1#32
  let v0 : BitVec 32 := Scalar.addi arg1 c1_i32
  let c2_i32_468 : BitVec 32 := 2#32
  let v1377 : BitVec 32 := Scalar.addi v0 c2_i32_468
  let c256_i32_469 : BitVec 32 := 256#32
  let v1378 : BitVec 32 := Scalar.muli v1377 c256_i32_469
  v1378
@[reducible] def k0_t8_loop : Scf.Loop 32 :=
  let c0_i32_478 : BitVec 32 := 0#32
  let c32_i32_479 : BitVec 32 := 32#32
  let v1398 : BitVec 32 := Scalar.addi c0_i32_478 c32_i32_479
  let c1_i32_480 : BitVec 32 := 1#32
  ⟨c0_i32_478, v1398, c1_i32_480⟩
def k0_off241 (k0_t8 : Fin k0_t8_loop.trips) : Fin 3 → Nat :=
  let c31_i32 : BitVec 32 := 31#32
  let c0_i32_478 : BitVec 32 := 0#32
  let c1_i32_480 : BitVec 32 := 1#32
  let arg20 : BitVec 32 := Scf.iv c0_i32_478 c1_i32_480 k0_t8
  let v1667 : BitVec 32 := Scalar.subi c31_i32 arg20
  let v1669 : Index := Scalar.indexCast v1667
  let c0_648 : Index := 0#32
  let c0_649 : Index := 0#32
  ![v1669.toNat, 0, 0]
def k0_cond3 (i : grid0.Coords) : BitVec 1 :=
  let arg1 : BitVec 32 := BitVec.ofNat 32 (i 1).val
  let c1_i32 : BitVec 32 := 1#32
  let v0 : BitVec 32 := Scalar.addi arg1 c1_i32
  let c8_i32_475 : BitVec 32 := 8#32
  let v1394 : BitVec 32 := Scalar.muli v0 c8_i32_475
  let c128_i32 : BitVec 32 := 128#32
  let v1395 : BitVec 1 := Scalar.cmpi .sgt v1394 c128_i32
  let v1678 : BitVec 32 := Scalar.extui v1395
  let c0_i32_652 : BitVec 32 := 0#32
  let v1679 : BitVec 1 := Scalar.cmpi .ne v1678 c0_i32_652
  v1679

def k0_off242 (k0_t8 : Fin k0_t8_loop.trips) : Fin 3 → Nat :=
  let c31_i32 : BitVec 32 := 31#32
  let c0_i32_478 : BitVec 32 := 0#32
  let c1_i32_480 : BitVec 32 := 1#32
  let arg20 : BitVec 32 := Scf.iv c0_i32_478 c1_i32_480 k0_t8
  let v1667 : BitVec 32 := Scalar.subi c31_i32 arg20
  let v1708 : Index := Scalar.indexCast v1667
  let c128_667 : Index := 128#32
  let c0_668 : Index := 0#32
  ![v1708.toNat, 128, 0]
def k0_cond4 (i : grid0.Coords) : BitVec 1 :=
  let arg1 : BitVec 32 := BitVec.ofNat 32 (i 1).val
  let c1_i32 : BitVec 32 := 1#32
  let v0 : BitVec 32 := Scalar.addi arg1 c1_i32
  let c8_i32_475 : BitVec 32 := 8#32
  let v1394 : BitVec 32 := Scalar.muli v0 c8_i32_475
  let c128_i32 : BitVec 32 := 128#32
  let v1395 : BitVec 1 := Scalar.cmpi .sgt v1394 c128_i32
  let v1698 : BitVec 32 := Scalar.extui v1395
  let c0_i32_662 : BitVec 32 := 0#32
  let v1699 : BitVec 1 := Scalar.cmpi .ne v1698 c0_i32_662
  v1699

def k0_off243 (k0_t8 : Fin k0_t8_loop.trips) : Fin 3 → Nat :=
  let c31_i32 : BitVec 32 := 31#32
  let c0_i32_478 : BitVec 32 := 0#32
  let c1_i32_480 : BitVec 32 := 1#32
  let arg20 : BitVec 32 := Scf.iv c0_i32_478 c1_i32_480 k0_t8
  let v1667 : BitVec 32 := Scalar.subi c31_i32 arg20
  let v1708 : Index := Scalar.indexCast v1667
  let c128_667 : Index := 128#32
  let c0_668 : Index := 0#32
  ![v1708.toNat, 128, 0]
@[reducible] def k0_t9_loop (i : grid0.Coords) : Scf.Loop 32 :=
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_498 : BitVec 32 := 1#32
  ⟨c0_i32_496, v1439, c1_i32_498⟩
def k0_mult42 (i : grid0.Coords) (k0_t9 : Fin (k0_t9_loop i).trips) : BitVec 32 :=
  let c4_i32_646 : BitVec 32 := 4#32
  let c0_i32_496 : BitVec 32 := 0#32
  let c1_i32_498 : BitVec 32 := 1#32
  let arg20 : BitVec 32 := Scf.iv c0_i32_496 c1_i32_498 k0_t9
  let v1667 : BitVec 32 := Scalar.muli c4_i32_646 arg20
  let c0_i32_647 : BitVec 32 := 0#32
  let v1668 : BitVec 32 := Scalar.addi v1667 c0_i32_647
  let c256_i32_648 : BitVec 32 := 256#32
  let v1669 : BitVec 32 := Scalar.muli v1668 c256_i32_648
  v1669
def k0_off244 (i : grid0.Coords) (k0_t9 : Fin (k0_t9_loop i).trips) (c0_i32_647 : BitVec 32) : Fin 2 → Nat :=
  let c4_i32_646 : BitVec 32 := 4#32
  let c0_i32_496 : BitVec 32 := 0#32
  let c1_i32_498 : BitVec 32 := 1#32
  let arg20 : BitVec 32 := Scf.iv c0_i32_496 c1_i32_498 k0_t9
  let v1667 : BitVec 32 := Scalar.muli c4_i32_646 arg20
  let v1668 : BitVec 32 := Scalar.addi v1667 c0_i32_647
  let c256_i32_648 : BitVec 32 := 256#32
  let v1669 : BitVec 32 := Scalar.muli v1668 c256_i32_648
  let v1670 : BitVec 32 := v1669
  let v1671 : Index := Scalar.indexCast v1670
  let c0_649 : Index := 0#32
  ![v1671.toNat, 0]
def k0_mult43 (i : grid0.Coords) (k0_t9 : Fin (k0_t9_loop i).trips) : BitVec 32 :=
  let c4_i32_650 : BitVec 32 := 4#32
  let c0_i32_496 : BitVec 32 := 0#32
  let c1_i32_498 : BitVec 32 := 1#32
  let arg20 : BitVec 32 := Scf.iv c0_i32_496 c1_i32_498 k0_t9
  let v1673 : BitVec 32 := Scalar.muli c4_i32_650 arg20
  let c1_i32_651 : BitVec 32 := 1#32
  let v1674 : BitVec 32 := Scalar.addi v1673 c1_i32_651
  let c256_i32_652 : BitVec 32 := 256#32
  let v1675 : BitVec 32 := Scalar.muli v1674 c256_i32_652
  v1675
def k0_mult44 (i : grid0.Coords) (k0_t9 : Fin (k0_t9_loop i).trips) : BitVec 32 :=
  let c4_i32_654 : BitVec 32 := 4#32
  let c0_i32_496 : BitVec 32 := 0#32
  let c1_i32_498 : BitVec 32 := 1#32
  let arg20 : BitVec 32 := Scf.iv c0_i32_496 c1_i32_498 k0_t9
  let v1679 : BitVec 32 := Scalar.muli c4_i32_654 arg20
  let c2_i32_655 : BitVec 32 := 2#32
  let v1680 : BitVec 32 := Scalar.addi v1679 c2_i32_655
  let c256_i32_656 : BitVec 32 := 256#32
  let v1681 : BitVec 32 := Scalar.muli v1680 c256_i32_656
  v1681
def k0_mult45 (i : grid0.Coords) (k0_t9 : Fin (k0_t9_loop i).trips) : BitVec 32 :=
  let c4_i32_658 : BitVec 32 := 4#32
  let c0_i32_496 : BitVec 32 := 0#32
  let c1_i32_498 : BitVec 32 := 1#32
  let arg20 : BitVec 32 := Scf.iv c0_i32_496 c1_i32_498 k0_t9
  let v1685 : BitVec 32 := Scalar.muli c4_i32_658 arg20
  let c3_i32_659 : BitVec 32 := 3#32
  let v1686 : BitVec 32 := Scalar.addi v1685 c3_i32_659
  let c256_i32_660 : BitVec 32 := 256#32
  let v1687 : BitVec 32 := Scalar.muli v1686 c256_i32_660
  v1687
def k0_mult46 (i : grid0.Coords) (k0_t9 : Fin (k0_t9_loop i).trips) : BitVec 32 :=
  let c4_i32_668 : BitVec 32 := 4#32
  let c0_i32_496 : BitVec 32 := 0#32
  let c1_i32_498 : BitVec 32 := 1#32
  let arg20 : BitVec 32 := Scf.iv c0_i32_496 c1_i32_498 k0_t9
  let v1727 : BitVec 32 := Scalar.muli c4_i32_668 arg20
  let c0_i32_669 : BitVec 32 := 0#32
  let v1728 : BitVec 32 := Scalar.addi v1727 c0_i32_669
  let c256_i32_670 : BitVec 32 := 256#32
  let v1729 : BitVec 32 := Scalar.muli v1728 c256_i32_670
  v1729
def k0_mult47 (i : grid0.Coords) (k0_t9 : Fin (k0_t9_loop i).trips) : BitVec 32 :=
  let c4_i32_674 : BitVec 32 := 4#32
  let c0_i32_496 : BitVec 32 := 0#32
  let c1_i32_498 : BitVec 32 := 1#32
  let arg20 : BitVec 32 := Scf.iv c0_i32_496 c1_i32_498 k0_t9
  let v1748 : BitVec 32 := Scalar.muli c4_i32_674 arg20
  let c1_i32_675 : BitVec 32 := 1#32
  let v1749 : BitVec 32 := Scalar.addi v1748 c1_i32_675
  let c256_i32_676 : BitVec 32 := 256#32
  let v1750 : BitVec 32 := Scalar.muli v1749 c256_i32_676
  v1750
def k0_mult48 (i : grid0.Coords) (k0_t9 : Fin (k0_t9_loop i).trips) : BitVec 32 :=
  let c4_i32_680 : BitVec 32 := 4#32
  let c0_i32_496 : BitVec 32 := 0#32
  let c1_i32_498 : BitVec 32 := 1#32
  let arg20 : BitVec 32 := Scf.iv c0_i32_496 c1_i32_498 k0_t9
  let v1769 : BitVec 32 := Scalar.muli c4_i32_680 arg20
  let c2_i32_681 : BitVec 32 := 2#32
  let v1770 : BitVec 32 := Scalar.addi v1769 c2_i32_681
  let c256_i32_682 : BitVec 32 := 256#32
  let v1771 : BitVec 32 := Scalar.muli v1770 c256_i32_682
  v1771
def k0_mult49 (i : grid0.Coords) (k0_t9 : Fin (k0_t9_loop i).trips) : BitVec 32 :=
  let c4_i32_686 : BitVec 32 := 4#32
  let c0_i32_496 : BitVec 32 := 0#32
  let c1_i32_498 : BitVec 32 := 1#32
  let arg20 : BitVec 32 := Scf.iv c0_i32_496 c1_i32_498 k0_t9
  let v1790 : BitVec 32 := Scalar.muli c4_i32_686 arg20
  let c3_i32_687 : BitVec 32 := 3#32
  let v1791 : BitVec 32 := Scalar.addi v1790 c3_i32_687
  let c256_i32_688 : BitVec 32 := 256#32
  let v1792 : BitVec 32 := Scalar.muli v1791 c256_i32_688
  v1792
@[reducible] def k0_t10_loop (i : grid0.Coords) : Scf.Loop 32 :=
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let v1436 : BitVec 32 := Scalar.addi c0_i32_496 v1435
  let c1_i32_499 : BitVec 32 := 1#32
  ⟨v1439, v1436, c1_i32_499⟩
def k0_mult50 (i : grid0.Coords) (k0_t10 : Fin (k0_t10_loop i).trips) : BitVec 32 :=
  let c4_i32_646 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1667 : BitVec 32 := Scalar.muli c4_i32_646 arg20
  let c0_i32_647 : BitVec 32 := 0#32
  let v1668 : BitVec 32 := Scalar.addi v1667 c0_i32_647
  let c256_i32_648 : BitVec 32 := 256#32
  let v1669 : BitVec 32 := Scalar.muli v1668 c256_i32_648
  v1669
def k0_off245 (i : grid0.Coords) (k0_t10 : Fin (k0_t10_loop i).trips) (c0_i32_647 : BitVec 32) : Fin 2 → Nat :=
  let c4_i32_646 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1667 : BitVec 32 := Scalar.muli c4_i32_646 arg20
  let v1668 : BitVec 32 := Scalar.addi v1667 c0_i32_647
  let c256_i32_648 : BitVec 32 := 256#32
  let v1669 : BitVec 32 := Scalar.muli v1668 c256_i32_648
  let v1670 : BitVec 32 := v1669
  let v1671 : Index := Scalar.indexCast v1670
  let c0_649 : Index := 0#32
  ![v1671.toNat, 0]
def k0_mult51 (i : grid0.Coords) (k0_t10 : Fin (k0_t10_loop i).trips) : BitVec 32 :=
  let c4_i32_650 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1673 : BitVec 32 := Scalar.muli c4_i32_650 arg20
  let c1_i32_651 : BitVec 32 := 1#32
  let v1674 : BitVec 32 := Scalar.addi v1673 c1_i32_651
  let c256_i32_652 : BitVec 32 := 256#32
  let v1675 : BitVec 32 := Scalar.muli v1674 c256_i32_652
  v1675
def k0_mult52 (i : grid0.Coords) (k0_t10 : Fin (k0_t10_loop i).trips) : BitVec 32 :=
  let c4_i32_654 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1679 : BitVec 32 := Scalar.muli c4_i32_654 arg20
  let c2_i32_655 : BitVec 32 := 2#32
  let v1680 : BitVec 32 := Scalar.addi v1679 c2_i32_655
  let c256_i32_656 : BitVec 32 := 256#32
  let v1681 : BitVec 32 := Scalar.muli v1680 c256_i32_656
  v1681
def k0_mult53 (i : grid0.Coords) (k0_t10 : Fin (k0_t10_loop i).trips) : BitVec 32 :=
  let c4_i32_658 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1685 : BitVec 32 := Scalar.muli c4_i32_658 arg20
  let c3_i32_659 : BitVec 32 := 3#32
  let v1686 : BitVec 32 := Scalar.addi v1685 c3_i32_659
  let c256_i32_660 : BitVec 32 := 256#32
  let v1687 : BitVec 32 := Scalar.muli v1686 c256_i32_660
  v1687
def k0_mult54 (i : grid0.Coords) (k0_t10 : Fin (k0_t10_loop i).trips) : BitVec 32 :=
  let c4_i32_668 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1727 : BitVec 32 := Scalar.muli c4_i32_668 arg20
  let c0_i32_669 : BitVec 32 := 0#32
  let v1728 : BitVec 32 := Scalar.addi v1727 c0_i32_669
  let c256_i32_670 : BitVec 32 := 256#32
  let v1729 : BitVec 32 := Scalar.muli v1728 c256_i32_670
  v1729
def k0_mult55 (i : grid0.Coords) (k0_t10 : Fin (k0_t10_loop i).trips) : BitVec 32 :=
  let c4_i32_674 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1748 : BitVec 32 := Scalar.muli c4_i32_674 arg20
  let c1_i32_675 : BitVec 32 := 1#32
  let v1749 : BitVec 32 := Scalar.addi v1748 c1_i32_675
  let c256_i32_676 : BitVec 32 := 256#32
  let v1750 : BitVec 32 := Scalar.muli v1749 c256_i32_676
  v1750
def k0_mult56 (i : grid0.Coords) (k0_t10 : Fin (k0_t10_loop i).trips) : BitVec 32 :=
  let c4_i32_680 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1769 : BitVec 32 := Scalar.muli c4_i32_680 arg20
  let c2_i32_681 : BitVec 32 := 2#32
  let v1770 : BitVec 32 := Scalar.addi v1769 c2_i32_681
  let c256_i32_682 : BitVec 32 := 256#32
  let v1771 : BitVec 32 := Scalar.muli v1770 c256_i32_682
  v1771
def k0_mult57 (i : grid0.Coords) (k0_t10 : Fin (k0_t10_loop i).trips) : BitVec 32 :=
  let c4_i32_686 : BitVec 32 := 4#32
  let c0_i32_496 : BitVec 32 := 0#32
  let arg1 : BitVec 32 := BitVec.ofNat 32 (i 1).val
  let c1_i32 : BitVec 32 := 1#32
  let v0 : BitVec 32 := Scalar.addi arg1 c1_i32
  let c4_i32_486 : BitVec 32 := 4#32
  let v1415 : BitVec 32 := Scalar.addi v0 c4_i32_486
  let c1_i32_487 : BitVec 32 := 1#32
  let v1416 : BitVec 32 := Scalar.subi v1415 c1_i32_487
  let c0_i32_489 : BitVec 32 := 0#32
  let v1418 : BitVec 1 := Scalar.cmpi .sgt v1416 c0_i32_489
  let v1419 : BitVec 32 := Scalar.extui v1418
  let c0_i32_490 : BitVec 32 := 0#32
  let v1420 : BitVec 1 := Scalar.cmpi .slt v1416 c0_i32_490
  let v1421 : BitVec 32 := Scalar.extui v1420
  let v1422 : BitVec 32 := Scalar.subi v1419 v1421
  let c4_i32_488 : BitVec 32 := 4#32
  let c0_i32_491 : BitVec 32 := 0#32
  let v1423 : BitVec 1 := Scalar.cmpi .sgt c4_i32_488 c0_i32_491
  let v1424 : BitVec 32 := Scalar.extui v1423
  let c0_i32_492 : BitVec 32 := 0#32
  let v1425 : BitVec 1 := Scalar.cmpi .slt c4_i32_488 c0_i32_492
  let v1426 : BitVec 32 := Scalar.extui v1425
  let v1427 : BitVec 32 := Scalar.subi v1424 v1426
  let v1428 : BitVec 1 := Scalar.cmpi .ne v1422 v1427
  let v1429 : BitVec 32 := Scalar.remsi v1416 c4_i32_488
  let c0_i32_493 : BitVec 32 := 0#32
  let v1430 : BitVec 1 := Scalar.cmpi .ne v1429 c0_i32_493
  let v1431 : BitVec 1 := Scalar.andi v1428 v1430
  let v1417 : BitVec 32 := Scalar.divsi v1416 c4_i32_488
  let c1_i32_494 : BitVec 32 := 1#32
  let v1432 : BitVec 32 := Scalar.subi v1417 c1_i32_494
  let v1433 : BitVec 32 := Scalar.select v1431 v1432 v1417
  let v1435 : BitVec 32 := Scalar.subi v1433 c0_i32_496
  let c1_i32_497 : BitVec 32 := 1#32
  let v1437 : BitVec 32 := Scalar.divsi v1435 c1_i32_497
  let v1438 : BitVec 32 := Scalar.muli v1437 c1_i32_497
  let v1439 : BitVec 32 := Scalar.addi c0_i32_496 v1438
  let c1_i32_499 : BitVec 32 := 1#32
  let arg20 : BitVec 32 := Scf.iv v1439 c1_i32_499 k0_t10
  let v1790 : BitVec 32 := Scalar.muli c4_i32_686 arg20
  let c3_i32_687 : BitVec 32 := 3#32
  let v1791 : BitVec 32 := Scalar.addi v1790 c3_i32_687
  let c256_i32_688 : BitVec 32 := 256#32
  let v1792 : BitVec 32 := Scalar.muli v1791 c256_i32_688
  v1792
@[reducible] def k0_t11_loop (i : grid0.Coords) : Scf.Loop 32 :=
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_565 : BitVec 32 := 1#32
  ⟨c0_i32_563, v1571, c1_i32_565⟩
def k0_mult58 (i : grid0.Coords) (k0_t11 : Fin (k0_t11_loop i).trips) : BitVec 32 :=
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  v1668
def k0_off246 (i : grid0.Coords) (k0_t11 : Fin (k0_t11_loop i).trips) : Fin 2 → Nat :=
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off247 (i : grid0.Coords) (k0_t11 : Fin (k0_t11_loop i).trips) : Fin 3 → Nat :=
  let c0_650 : Index := 0#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off248 (i : grid0.Coords) (k0_t11 : Fin (k0_t11_loop i).trips) : Fin 3 → Nat :=
  let c0_656 : Index := 0#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off249 (i : grid0.Coords) (k0_t11 : Fin (k0_t11_loop i).trips) : Fin 3 → Nat :=
  let c0_662 : Index := 0#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off250 (i : grid0.Coords) (k0_t11 : Fin (k0_t11_loop i).trips) : Fin 3 → Nat :=
  let c0_671 : Index := 0#32
  let c0_672 : Index := 0#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1694 : Index := Scalar.indexCast v1669
  ![0, 0, v1694.toNat]
def k0_off251 (i : grid0.Coords) (k0_t11 : Fin (k0_t11_loop i).trips) : Fin 3 → Nat :=
  let c0_680 : Index := 0#32
  let c64_681 : Index := 64#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1711 : Index := Scalar.indexCast v1669
  ![0, 64, v1711.toNat]
def k0_off252 (i : grid0.Coords) (k0_t11 : Fin (k0_t11_loop i).trips) : Fin 3 → Nat :=
  let c0_689 : Index := 0#32
  let c128_690 : Index := 128#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1728 : Index := Scalar.indexCast v1669
  ![0, 128, v1728.toNat]
def k0_off253 (i : grid0.Coords) (k0_t11 : Fin (k0_t11_loop i).trips) : Fin 3 → Nat :=
  let c0_698 : Index := 0#32
  let c192 : Index := 192#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1745 : Index := Scalar.indexCast v1669
  ![0, 192, v1745.toNat]
def k0_off254 (i : grid0.Coords) (k0_t11 : Fin (k0_t11_loop i).trips) : Fin 3 → Nat :=
  let c0_706 : Index := 0#32
  let c256_707 : Index := 256#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1762 : Index := Scalar.indexCast v1669
  ![0, 256, v1762.toNat]
def k0_off255 (i : grid0.Coords) (k0_t11 : Fin (k0_t11_loop i).trips) : Fin 3 → Nat :=
  let c0_715 : Index := 0#32
  let c320 : Index := 320#32
  let c4_i32_646 : BitVec 32 := 4#32
  let c0_i32_563 : BitVec 32 := 0#32
  let c1_i32_565 : BitVec 32 := 1#32
  let arg20 : BitVec 32 := Scf.iv c0_i32_563 c1_i32_565 k0_t11
  let v1667 : BitVec 32 := Scalar.muli c4_i32_646 arg20
  let c256_i32_647 : BitVec 32 := 256#32
  let v1668 : BitVec 32 := Scalar.muli v1667 c256_i32_647
  let v1669 : BitVec 32 := v1668
  let v1779 : Index := Scalar.indexCast v1669
  ![0, 320, v1779.toNat]
@[reducible] def k0_t12_loop (i : grid0.Coords) : Scf.Loop 32 :=
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let v1568 : BitVec 32 := Scalar.addi c0_i32_563 v1567
  let c1_i32_566 : BitVec 32 := 1#32
  ⟨v1571, v1568, c1_i32_566⟩
def k0_mult59 (i : grid0.Coords) (k0_t12 : Fin (k0_t12_loop i).trips) : BitVec 32 :=
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  v1668
def k0_off256 (i : grid0.Coords) (k0_t12 : Fin (k0_t12_loop i).trips) : Fin 2 → Nat :=
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off257 (i : grid0.Coords) (k0_t12 : Fin (k0_t12_loop i).trips) : Fin 3 → Nat :=
  let c0_650 : Index := 0#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off258 (i : grid0.Coords) (k0_t12 : Fin (k0_t12_loop i).trips) : Fin 3 → Nat :=
  let c0_656 : Index := 0#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off259 (i : grid0.Coords) (k0_t12 : Fin (k0_t12_loop i).trips) : Fin 3 → Nat :=
  let c0_662 : Index := 0#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off260 (i : grid0.Coords) (k0_t12 : Fin (k0_t12_loop i).trips) : Fin 3 → Nat :=
  let c0_671 : Index := 0#32
  let c0_672 : Index := 0#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1694 : Index := Scalar.indexCast v1669
  ![0, 0, v1694.toNat]
def k0_off261 (i : grid0.Coords) (k0_t12 : Fin (k0_t12_loop i).trips) : Fin 3 → Nat :=
  let c0_680 : Index := 0#32
  let c64_681 : Index := 64#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1711 : Index := Scalar.indexCast v1669
  ![0, 64, v1711.toNat]
def k0_off262 (i : grid0.Coords) (k0_t12 : Fin (k0_t12_loop i).trips) : Fin 3 → Nat :=
  let c0_689 : Index := 0#32
  let c128_690 : Index := 128#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1728 : Index := Scalar.indexCast v1669
  ![0, 128, v1728.toNat]
def k0_off263 (i : grid0.Coords) (k0_t12 : Fin (k0_t12_loop i).trips) : Fin 3 → Nat :=
  let c0_698 : Index := 0#32
  let c192 : Index := 192#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1745 : Index := Scalar.indexCast v1669
  ![0, 192, v1745.toNat]
def k0_off264 (i : grid0.Coords) (k0_t12 : Fin (k0_t12_loop i).trips) : Fin 3 → Nat :=
  let c0_706 : Index := 0#32
  let c256_707 : Index := 256#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1762 : Index := Scalar.indexCast v1669
  ![0, 256, v1762.toNat]
def k0_off265 (i : grid0.Coords) (k0_t12 : Fin (k0_t12_loop i).trips) : Fin 3 → Nat :=
  let c0_715 : Index := 0#32
  let c320 : Index := 320#32
  let c4_i32_646 : BitVec 32 := 4#32
  let c0_i32_563 : BitVec 32 := 0#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1567 : BitVec 32 := Scalar.subi v1561 c0_i32_563
  let c1_i32_564 : BitVec 32 := 1#32
  let v1569 : BitVec 32 := Scalar.divsi v1567 c1_i32_564
  let v1570 : BitVec 32 := Scalar.muli v1569 c1_i32_564
  let v1571 : BitVec 32 := Scalar.addi c0_i32_563 v1570
  let c1_i32_566 : BitVec 32 := 1#32
  let arg20 : BitVec 32 := Scf.iv v1571 c1_i32_566 k0_t12
  let v1667 : BitVec 32 := Scalar.muli c4_i32_646 arg20
  let c256_i32_647 : BitVec 32 := 256#32
  let v1668 : BitVec 32 := Scalar.muli v1667 c256_i32_647
  let v1669 : BitVec 32 := v1668
  let v1779 : Index := Scalar.indexCast v1669
  ![0, 320, v1779.toNat]
@[reducible] def k0_t13_loop (i : grid0.Coords) : Scf.Loop 32 :=
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_569 : BitVec 32 := 1#32
  ⟨v1572, v1577, c1_i32_569⟩
def k0_mult60 (i : grid0.Coords) (k0_t13 : Fin (k0_t13_loop i).trips) : BitVec 32 :=
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  v1668
def k0_off266 (i : grid0.Coords) (k0_t13 : Fin (k0_t13_loop i).trips) : Fin 2 → Nat :=
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off267 (i : grid0.Coords) (k0_t13 : Fin (k0_t13_loop i).trips) : Fin 3 → Nat :=
  let c0_650 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off268 (i : grid0.Coords) (k0_t13 : Fin (k0_t13_loop i).trips) : Fin 3 → Nat :=
  let c0_656 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off269 (i : grid0.Coords) (k0_t13 : Fin (k0_t13_loop i).trips) : Fin 3 → Nat :=
  let c0_662 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off270 (i : grid0.Coords) (k0_t13 : Fin (k0_t13_loop i).trips) : Fin 3 → Nat :=
  let c0_671 : Index := 0#32
  let c0_672 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1694 : Index := Scalar.indexCast v1669
  ![0, 0, v1694.toNat]
def k0_off271 (i : grid0.Coords) (k0_t13 : Fin (k0_t13_loop i).trips) : Fin 3 → Nat :=
  let c0_680 : Index := 0#32
  let c64_681 : Index := 64#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1711 : Index := Scalar.indexCast v1669
  ![0, 64, v1711.toNat]
def k0_off272 (i : grid0.Coords) (k0_t13 : Fin (k0_t13_loop i).trips) : Fin 3 → Nat :=
  let c0_689 : Index := 0#32
  let c128_690 : Index := 128#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1728 : Index := Scalar.indexCast v1669
  ![0, 128, v1728.toNat]
def k0_off273 (i : grid0.Coords) (k0_t13 : Fin (k0_t13_loop i).trips) : Fin 3 → Nat :=
  let c0_698 : Index := 0#32
  let c192 : Index := 192#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1745 : Index := Scalar.indexCast v1669
  ![0, 192, v1745.toNat]
def k0_off274 (i : grid0.Coords) (k0_t13 : Fin (k0_t13_loop i).trips) : Fin 3 → Nat :=
  let c0_706 : Index := 0#32
  let c256_707 : Index := 256#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1762 : Index := Scalar.indexCast v1669
  ![0, 256, v1762.toNat]
def k0_off275 (i : grid0.Coords) (k0_t13 : Fin (k0_t13_loop i).trips) : Fin 3 → Nat :=
  let c0_715 : Index := 0#32
  let c320 : Index := 320#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let c1_i32_569 : BitVec 32 := 1#32
  let arg20 : BitVec 32 := Scf.iv v1572 c1_i32_569 k0_t13
  let v1667 : BitVec 32 := Scalar.muli c2_i32_646 arg20
  let c256_i32_647 : BitVec 32 := 256#32
  let v1668 : BitVec 32 := Scalar.muli v1667 c256_i32_647
  let v1669 : BitVec 32 := v1668
  let v1779 : Index := Scalar.indexCast v1669
  ![0, 320, v1779.toNat]
@[reducible] def k0_t14_loop (i : grid0.Coords) : Scf.Loop 32 :=
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let v1574 : BitVec 32 := Scalar.addi v1572 v1573
  let c1_i32_570 : BitVec 32 := 1#32
  ⟨v1577, v1574, c1_i32_570⟩
def k0_mult61 (i : grid0.Coords) (k0_t14 : Fin (k0_t14_loop i).trips) : BitVec 32 :=
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  v1668
def k0_off276 (i : grid0.Coords) (k0_t14 : Fin (k0_t14_loop i).trips) : Fin 2 → Nat :=
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off277 (i : grid0.Coords) (k0_t14 : Fin (k0_t14_loop i).trips) : Fin 3 → Nat :=
  let c0_650 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off278 (i : grid0.Coords) (k0_t14 : Fin (k0_t14_loop i).trips) : Fin 3 → Nat :=
  let c0_656 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off279 (i : grid0.Coords) (k0_t14 : Fin (k0_t14_loop i).trips) : Fin 3 → Nat :=
  let c0_662 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off280 (i : grid0.Coords) (k0_t14 : Fin (k0_t14_loop i).trips) : Fin 3 → Nat :=
  let c0_671 : Index := 0#32
  let c0_672 : Index := 0#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1694 : Index := Scalar.indexCast v1669
  ![0, 0, v1694.toNat]
def k0_off281 (i : grid0.Coords) (k0_t14 : Fin (k0_t14_loop i).trips) : Fin 3 → Nat :=
  let c0_680 : Index := 0#32
  let c64_681 : Index := 64#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1711 : Index := Scalar.indexCast v1669
  ![0, 64, v1711.toNat]
def k0_off282 (i : grid0.Coords) (k0_t14 : Fin (k0_t14_loop i).trips) : Fin 3 → Nat :=
  let c0_689 : Index := 0#32
  let c128_690 : Index := 128#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1728 : Index := Scalar.indexCast v1669
  ![0, 128, v1728.toNat]
def k0_off283 (i : grid0.Coords) (k0_t14 : Fin (k0_t14_loop i).trips) : Fin 3 → Nat :=
  let c0_698 : Index := 0#32
  let c192 : Index := 192#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1745 : Index := Scalar.indexCast v1669
  ![0, 192, v1745.toNat]
def k0_off284 (i : grid0.Coords) (k0_t14 : Fin (k0_t14_loop i).trips) : Fin 3 → Nat :=
  let c0_706 : Index := 0#32
  let c256_707 : Index := 256#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1762 : Index := Scalar.indexCast v1669
  ![0, 256, v1762.toNat]
def k0_off285 (i : grid0.Coords) (k0_t14 : Fin (k0_t14_loop i).trips) : Fin 3 → Nat :=
  let c0_715 : Index := 0#32
  let c320 : Index := 320#32
  let c2_i32_646 : BitVec 32 := 2#32
  let c2_i32_567 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let c0_i32_552 : BitVec 32 := 0#32
  let v1546 : BitVec 1 := Scalar.cmpi .sgt v1544 c0_i32_552
  let v1547 : BitVec 32 := Scalar.extui v1546
  let c0_i32_553 : BitVec 32 := 0#32
  let v1548 : BitVec 1 := Scalar.cmpi .slt v1544 c0_i32_553
  let v1549 : BitVec 32 := Scalar.extui v1548
  let v1550 : BitVec 32 := Scalar.subi v1547 v1549
  let c2_i32_551 : BitVec 32 := 2#32
  let c0_i32_554 : BitVec 32 := 0#32
  let v1551 : BitVec 1 := Scalar.cmpi .sgt c2_i32_551 c0_i32_554
  let v1552 : BitVec 32 := Scalar.extui v1551
  let c0_i32_555 : BitVec 32 := 0#32
  let v1553 : BitVec 1 := Scalar.cmpi .slt c2_i32_551 c0_i32_555
  let v1554 : BitVec 32 := Scalar.extui v1553
  let v1555 : BitVec 32 := Scalar.subi v1552 v1554
  let v1556 : BitVec 1 := Scalar.cmpi .ne v1550 v1555
  let v1557 : BitVec 32 := Scalar.remsi v1544 c2_i32_551
  let c0_i32_556 : BitVec 32 := 0#32
  let v1558 : BitVec 1 := Scalar.cmpi .ne v1557 c0_i32_556
  let v1559 : BitVec 1 := Scalar.andi v1556 v1558
  let v1545 : BitVec 32 := Scalar.divsi v1544 c2_i32_551
  let c1_i32_557 : BitVec 32 := 1#32
  let v1560 : BitVec 32 := Scalar.subi v1545 c1_i32_557
  let v1561 : BitVec 32 := Scalar.select v1559 v1560 v1545
  let v1572 : BitVec 32 := Scalar.muli c2_i32_567 v1561
  let v1573 : BitVec 32 := Scalar.subi v1544 v1572
  let c1_i32_568 : BitVec 32 := 1#32
  let v1575 : BitVec 32 := Scalar.divsi v1573 c1_i32_568
  let v1576 : BitVec 32 := Scalar.muli v1575 c1_i32_568
  let v1577 : BitVec 32 := Scalar.addi v1572 v1576
  let c1_i32_570 : BitVec 32 := 1#32
  let arg20 : BitVec 32 := Scf.iv v1577 c1_i32_570 k0_t14
  let v1667 : BitVec 32 := Scalar.muli c2_i32_646 arg20
  let c256_i32_647 : BitVec 32 := 256#32
  let v1668 : BitVec 32 := Scalar.muli v1667 c256_i32_647
  let v1669 : BitVec 32 := v1668
  let v1779 : Index := Scalar.indexCast v1669
  ![0, 320, v1779.toNat]
@[reducible] def k0_t15_loop (i : grid0.Coords) : Scf.Loop 32 :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_573 : BitVec 32 := 1#32
  ⟨v1578, v1583, c1_i32_573⟩
def k0_mult62 (i : grid0.Coords) (k0_t15 : Fin (k0_t15_loop i).trips) : BitVec 32 :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  v1667
def k0_off286 (i : grid0.Coords) (k0_t15 : Fin (k0_t15_loop i).trips) : Fin 2 → Nat :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1670 : Index := Scalar.indexCast v1668
  let c0_648 : Index := 0#32
  ![v1670.toNat, 0]
def k0_off287 (i : grid0.Coords) (k0_t15 : Fin (k0_t15_loop i).trips) : Fin 3 → Nat :=
  let c0_649 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1673 : Index := Scalar.indexCast v1668
  let c0_650 : Index := 0#32
  ![0, v1673.toNat, 0]
def k0_off288 (i : grid0.Coords) (k0_t15 : Fin (k0_t15_loop i).trips) : Fin 3 → Nat :=
  let c0_655 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1679 : Index := Scalar.indexCast v1668
  let c128_656 : Index := 128#32
  ![0, v1679.toNat, 128]
def k0_off289 (i : grid0.Coords) (k0_t15 : Fin (k0_t15_loop i).trips) : Fin 3 → Nat :=
  let c0_661 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1685 : Index := Scalar.indexCast v1668
  let c256_662 : Index := 256#32
  ![0, v1685.toNat, 256]
def k0_off290 (i : grid0.Coords) (k0_t15 : Fin (k0_t15_loop i).trips) : Fin 3 → Nat :=
  let c0_670 : Index := 0#32
  let c0_671 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1693 : Index := Scalar.indexCast v1668
  ![0, 0, v1693.toNat]
def k0_off291 (i : grid0.Coords) (k0_t15 : Fin (k0_t15_loop i).trips) : Fin 3 → Nat :=
  let c0_679 : Index := 0#32
  let c64_680 : Index := 64#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1710 : Index := Scalar.indexCast v1668
  ![0, 64, v1710.toNat]
def k0_off292 (i : grid0.Coords) (k0_t15 : Fin (k0_t15_loop i).trips) : Fin 3 → Nat :=
  let c0_688 : Index := 0#32
  let c128_689 : Index := 128#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1727 : Index := Scalar.indexCast v1668
  ![0, 128, v1727.toNat]
def k0_off293 (i : grid0.Coords) (k0_t15 : Fin (k0_t15_loop i).trips) : Fin 3 → Nat :=
  let c0_697 : Index := 0#32
  let c192 : Index := 192#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1744 : Index := Scalar.indexCast v1668
  ![0, 192, v1744.toNat]
def k0_off294 (i : grid0.Coords) (k0_t15 : Fin (k0_t15_loop i).trips) : Fin 3 → Nat :=
  let c0_705 : Index := 0#32
  let c256_706 : Index := 256#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1761 : Index := Scalar.indexCast v1668
  ![0, 256, v1761.toNat]
def k0_off295 (i : grid0.Coords) (k0_t15 : Fin (k0_t15_loop i).trips) : Fin 3 → Nat :=
  let c0_714 : Index := 0#32
  let c320 : Index := 320#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let c1_i32_573 : BitVec 32 := 1#32
  let arg20 : BitVec 32 := Scf.iv v1578 c1_i32_573 k0_t15
  let c256_i32_646 : BitVec 32 := 256#32
  let v1667 : BitVec 32 := Scalar.muli arg20 c256_i32_646
  let v1668 : BitVec 32 := v1667
  let v1778 : Index := Scalar.indexCast v1668
  ![0, 320, v1778.toNat]
@[reducible] def k0_t16_loop (i : grid0.Coords) : Scf.Loop 32 :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let v1580 : BitVec 32 := Scalar.addi v1578 v1579
  let c1_i32_574 : BitVec 32 := 1#32
  ⟨v1583, v1580, c1_i32_574⟩
def k0_mult63 (i : grid0.Coords) (k0_t16 : Fin (k0_t16_loop i).trips) : BitVec 32 :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  v1667
def k0_off296 (i : grid0.Coords) (k0_t16 : Fin (k0_t16_loop i).trips) : Fin 2 → Nat :=
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1670 : Index := Scalar.indexCast v1668
  let c0_648 : Index := 0#32
  ![v1670.toNat, 0]
def k0_off297 (i : grid0.Coords) (k0_t16 : Fin (k0_t16_loop i).trips) : Fin 3 → Nat :=
  let c0_649 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1673 : Index := Scalar.indexCast v1668
  let c0_650 : Index := 0#32
  ![0, v1673.toNat, 0]
def k0_off298 (i : grid0.Coords) (k0_t16 : Fin (k0_t16_loop i).trips) : Fin 3 → Nat :=
  let c0_655 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1679 : Index := Scalar.indexCast v1668
  let c128_656 : Index := 128#32
  ![0, v1679.toNat, 128]
def k0_off299 (i : grid0.Coords) (k0_t16 : Fin (k0_t16_loop i).trips) : Fin 3 → Nat :=
  let c0_661 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1685 : Index := Scalar.indexCast v1668
  let c256_662 : Index := 256#32
  ![0, v1685.toNat, 256]
def k0_off300 (i : grid0.Coords) (k0_t16 : Fin (k0_t16_loop i).trips) : Fin 3 → Nat :=
  let c0_670 : Index := 0#32
  let c0_671 : Index := 0#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1693 : Index := Scalar.indexCast v1668
  ![0, 0, v1693.toNat]
def k0_off301 (i : grid0.Coords) (k0_t16 : Fin (k0_t16_loop i).trips) : Fin 3 → Nat :=
  let c0_679 : Index := 0#32
  let c64_680 : Index := 64#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1710 : Index := Scalar.indexCast v1668
  ![0, 64, v1710.toNat]
def k0_off302 (i : grid0.Coords) (k0_t16 : Fin (k0_t16_loop i).trips) : Fin 3 → Nat :=
  let c0_688 : Index := 0#32
  let c128_689 : Index := 128#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1727 : Index := Scalar.indexCast v1668
  ![0, 128, v1727.toNat]
def k0_off303 (i : grid0.Coords) (k0_t16 : Fin (k0_t16_loop i).trips) : Fin 3 → Nat :=
  let c0_697 : Index := 0#32
  let c192 : Index := 192#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1744 : Index := Scalar.indexCast v1668
  ![0, 192, v1744.toNat]
def k0_off304 (i : grid0.Coords) (k0_t16 : Fin (k0_t16_loop i).trips) : Fin 3 → Nat :=
  let c0_705 : Index := 0#32
  let c256_706 : Index := 256#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1761 : Index := Scalar.indexCast v1668
  ![0, 256, v1761.toNat]
def k0_off305 (i : grid0.Coords) (k0_t16 : Fin (k0_t16_loop i).trips) : Fin 3 → Nat :=
  let c0_714 : Index := 0#32
  let c320 : Index := 320#32
  let c2_i32_571 : BitVec 32 := 2#32
  let arg1 : BitVec 32 := BitVec.ofNat 32 (i 1).val
  let c1_i32_542 : BitVec 32 := 1#32
  let v1526 : BitVec 32 := Scalar.subi arg1 c1_i32_542
  let c0_i32_543 : BitVec 32 := 0#32
  let v1527 : BitVec 32 := Scalar.maxsi v1526 c0_i32_543
  let c0_i32_545 : BitVec 32 := 0#32
  let v1529 : BitVec 1 := Scalar.cmpi .sgt v1527 c0_i32_545
  let v1530 : BitVec 32 := Scalar.extui v1529
  let c0_i32_546 : BitVec 32 := 0#32
  let v1531 : BitVec 1 := Scalar.cmpi .slt v1527 c0_i32_546
  let v1532 : BitVec 32 := Scalar.extui v1531
  let v1533 : BitVec 32 := Scalar.subi v1530 v1532
  let c2_i32_544 : BitVec 32 := 2#32
  let c0_i32_547 : BitVec 32 := 0#32
  let v1534 : BitVec 1 := Scalar.cmpi .sgt c2_i32_544 c0_i32_547
  let v1535 : BitVec 32 := Scalar.extui v1534
  let c0_i32_548 : BitVec 32 := 0#32
  let v1536 : BitVec 1 := Scalar.cmpi .slt c2_i32_544 c0_i32_548
  let v1537 : BitVec 32 := Scalar.extui v1536
  let v1538 : BitVec 32 := Scalar.subi v1535 v1537
  let v1539 : BitVec 1 := Scalar.cmpi .ne v1533 v1538
  let v1540 : BitVec 32 := Scalar.remsi v1527 c2_i32_544
  let c0_i32_549 : BitVec 32 := 0#32
  let v1541 : BitVec 1 := Scalar.cmpi .ne v1540 c0_i32_549
  let v1542 : BitVec 1 := Scalar.andi v1539 v1541
  let v1528 : BitVec 32 := Scalar.divsi v1527 c2_i32_544
  let c1_i32_550 : BitVec 32 := 1#32
  let v1543 : BitVec 32 := Scalar.subi v1528 c1_i32_550
  let v1544 : BitVec 32 := Scalar.select v1542 v1543 v1528
  let v1578 : BitVec 32 := Scalar.muli c2_i32_571 v1544
  let v1579 : BitVec 32 := Scalar.subi v1527 v1578
  let c1_i32_572 : BitVec 32 := 1#32
  let v1581 : BitVec 32 := Scalar.divsi v1579 c1_i32_572
  let v1582 : BitVec 32 := Scalar.muli v1581 c1_i32_572
  let v1583 : BitVec 32 := Scalar.addi v1578 v1582
  let c1_i32_574 : BitVec 32 := 1#32
  let arg20 : BitVec 32 := Scf.iv v1583 c1_i32_574 k0_t16
  let c256_i32_646 : BitVec 32 := 256#32
  let v1667 : BitVec 32 := Scalar.muli arg20 c256_i32_646
  let v1668 : BitVec 32 := v1667
  let v1778 : Index := Scalar.indexCast v1668
  ![0, 320, v1778.toNat]
@[reducible] def k0_t17_loop (i : grid0.Coords) : Scf.Loop 32 :=
  let c0_i32_575 : BitVec 32 := 0#32
  let arg1 : BitVec 32 := BitVec.ofNat 32 (i 1).val
  let c1_i32_558 : BitVec 32 := 1#32
  let v1562 : BitVec 32 := Scalar.minsi arg1 c1_i32_558
  let v1584 : BitVec 32 := Scalar.subi v1562 c0_i32_575
  let c1_i32_576 : BitVec 32 := 1#32
  let v1586 : BitVec 32 := Scalar.divsi v1584 c1_i32_576
  let v1587 : BitVec 32 := Scalar.muli v1586 c1_i32_576
  let v1588 : BitVec 32 := Scalar.addi c0_i32_575 v1587
  let c1_i32_577 : BitVec 32 := 1#32
  ⟨c0_i32_575, v1588, c1_i32_577⟩
def k0_mult64 (i : grid0.Coords) : BitVec 32 :=
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  v1668
def k0_off306 (i : grid0.Coords) : Fin 2 → Nat :=
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off307 (i : grid0.Coords) : Fin 3 → Nat :=
  let c0_650 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off308 (i : grid0.Coords) : Fin 3 → Nat :=
  let c0_656 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off309 (i : grid0.Coords) : Fin 3 → Nat :=
  let c0_662 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off310 (i : grid0.Coords) : Fin 3 → Nat :=
  let c0_671 : Index := 0#32
  let c0_672 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1694 : Index := Scalar.indexCast v1669
  ![0, 0, v1694.toNat]
def k0_mult65 (i : grid0.Coords) : BitVec 32 :=
  let arg1 : BitVec 32 := BitVec.ofNat 32 (i 1).val
  let c1_i32_646 : BitVec 32 := 1#32
  let v1667 : BitVec 32 := Scalar.subi arg1 c1_i32_646
  let c2_i32_673 : BitVec 32 := 2#32
  let v1700 : BitVec 32 := Scalar.subi arg1 c2_i32_673
  let v1701 : BitVec 32 := Scalar.subi v1667 v1700
  let c256_i32_674 : BitVec 32 := 256#32
  let v1702 : BitVec 32 := Scalar.muli v1701 c256_i32_674
  v1702
def k0_off311 (i : grid0.Coords) : Fin 3 → Nat :=
  let c0_675 : Index := 0#32
  let arg1 : BitVec 32 := BitVec.ofNat 32 (i 1).val
  let c1_i32_646 : BitVec 32 := 1#32
  let v1667 : BitVec 32 := Scalar.subi arg1 c1_i32_646
  let c2_i32_673 : BitVec 32 := 2#32
  let v1700 : BitVec 32 := Scalar.subi arg1 c2_i32_673
  let v1701 : BitVec 32 := Scalar.subi v1667 v1700
  let c256_i32_674 : BitVec 32 := 256#32
  let v1702 : BitVec 32 := Scalar.muli v1701 c256_i32_674
  let v1703 : BitVec 32 := v1702
  let v1704 : Index := Scalar.indexCast v1703
  let c0_676 : Index := 0#32
  ![0, v1704.toNat, 0]
def k0_off312 (i : grid0.Coords) : Fin 3 → Nat :=
  let c0_684 : Index := 0#32
  let c64_685 : Index := 64#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1719 : Index := Scalar.indexCast v1669
  ![0, 64, v1719.toNat]
def k0_mult66 (i : grid0.Coords) : BitVec 32 :=
  let arg1 : BitVec 32 := BitVec.ofNat 32 (i 1).val
  let c1_i32_646 : BitVec 32 := 1#32
  let v1667 : BitVec 32 := Scalar.subi arg1 c1_i32_646
  let c2_i32_686 : BitVec 32 := 2#32
  let v1725 : BitVec 32 := Scalar.subi arg1 c2_i32_686
  let v1726 : BitVec 32 := Scalar.subi v1667 v1725
  let c256_i32_687 : BitVec 32 := 256#32
  let v1727 : BitVec 32 := Scalar.muli v1726 c256_i32_687
  v1727
def k0_off313 (i : grid0.Coords) : Fin 3 → Nat :=
  let c1_688 : Index := 1#32
  let arg1 : BitVec 32 := BitVec.ofNat 32 (i 1).val
  let c1_i32_646 : BitVec 32 := 1#32
  let v1667 : BitVec 32 := Scalar.subi arg1 c1_i32_646
  let c2_i32_686 : BitVec 32 := 2#32
  let v1725 : BitVec 32 := Scalar.subi arg1 c2_i32_686
  let v1726 : BitVec 32 := Scalar.subi v1667 v1725
  let c256_i32_687 : BitVec 32 := 256#32
  let v1727 : BitVec 32 := Scalar.muli v1726 c256_i32_687
  let v1728 : BitVec 32 := v1727
  let v1729 : Index := Scalar.indexCast v1728
  let c0_689 : Index := 0#32
  ![1, v1729.toNat, 0]
def k0_off314 (i : grid0.Coords) : Fin 3 → Nat :=
  let c0_697 : Index := 0#32
  let c128_698 : Index := 128#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1744 : Index := Scalar.indexCast v1669
  ![0, 128, v1744.toNat]
def k0_mult67 (i : grid0.Coords) : BitVec 32 :=
  let arg1 : BitVec 32 := BitVec.ofNat 32 (i 1).val
  let c1_i32_646 : BitVec 32 := 1#32
  let v1667 : BitVec 32 := Scalar.subi arg1 c1_i32_646
  let c2_i32_699 : BitVec 32 := 2#32
  let v1750 : BitVec 32 := Scalar.subi arg1 c2_i32_699
  let v1751 : BitVec 32 := Scalar.subi v1667 v1750
  let c256_i32_700 : BitVec 32 := 256#32
  let v1752 : BitVec 32 := Scalar.muli v1751 c256_i32_700
  v1752
def k0_off315 (i : grid0.Coords) : Fin 3 → Nat :=
  let c2_701 : Index := 2#32
  let arg1 : BitVec 32 := BitVec.ofNat 32 (i 1).val
  let c1_i32_646 : BitVec 32 := 1#32
  let v1667 : BitVec 32 := Scalar.subi arg1 c1_i32_646
  let c2_i32_699 : BitVec 32 := 2#32
  let v1750 : BitVec 32 := Scalar.subi arg1 c2_i32_699
  let v1751 : BitVec 32 := Scalar.subi v1667 v1750
  let c256_i32_700 : BitVec 32 := 256#32
  let v1752 : BitVec 32 := Scalar.muli v1751 c256_i32_700
  let v1753 : BitVec 32 := v1752
  let v1754 : Index := Scalar.indexCast v1753
  let c0_702 : Index := 0#32
  ![2, v1754.toNat, 0]
def k0_off316 (i : grid0.Coords) : Fin 3 → Nat :=
  let c0_710 : Index := 0#32
  let c192 : Index := 192#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1769 : Index := Scalar.indexCast v1669
  ![0, 192, v1769.toNat]
def k0_mult68 (i : grid0.Coords) : BitVec 32 :=
  let arg1 : BitVec 32 := BitVec.ofNat 32 (i 1).val
  let c1_i32_646 : BitVec 32 := 1#32
  let v1667 : BitVec 32 := Scalar.subi arg1 c1_i32_646
  let c2_i32_711 : BitVec 32 := 2#32
  let v1775 : BitVec 32 := Scalar.subi arg1 c2_i32_711
  let v1776 : BitVec 32 := Scalar.subi v1667 v1775
  let c256_i32_712 : BitVec 32 := 256#32
  let v1777 : BitVec 32 := Scalar.muli v1776 c256_i32_712
  v1777
def k0_off317 (i : grid0.Coords) : Fin 3 → Nat :=
  let c3_713 : Index := 3#32
  let arg1 : BitVec 32 := BitVec.ofNat 32 (i 1).val
  let c1_i32_646 : BitVec 32 := 1#32
  let v1667 : BitVec 32 := Scalar.subi arg1 c1_i32_646
  let c2_i32_711 : BitVec 32 := 2#32
  let v1775 : BitVec 32 := Scalar.subi arg1 c2_i32_711
  let v1776 : BitVec 32 := Scalar.subi v1667 v1775
  let c256_i32_712 : BitVec 32 := 256#32
  let v1777 : BitVec 32 := Scalar.muli v1776 c256_i32_712
  let v1778 : BitVec 32 := v1777
  let v1779 : Index := Scalar.indexCast v1778
  let c0_714 : Index := 0#32
  ![3, v1779.toNat, 0]
def k0_off318 (i : grid0.Coords) : Fin 3 → Nat :=
  let c0_722 : Index := 0#32
  let c256_723 : Index := 256#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1794 : Index := Scalar.indexCast v1669
  ![0, 256, v1794.toNat]
def k0_mult69 (i : grid0.Coords) : BitVec 32 :=
  let arg1 : BitVec 32 := BitVec.ofNat 32 (i 1).val
  let c1_i32_646 : BitVec 32 := 1#32
  let v1667 : BitVec 32 := Scalar.subi arg1 c1_i32_646
  let c2_i32_724 : BitVec 32 := 2#32
  let v1800 : BitVec 32 := Scalar.subi arg1 c2_i32_724
  let v1801 : BitVec 32 := Scalar.subi v1667 v1800
  let c256_i32_725 : BitVec 32 := 256#32
  let v1802 : BitVec 32 := Scalar.muli v1801 c256_i32_725
  v1802
def k0_off319 (i : grid0.Coords) : Fin 3 → Nat :=
  let c4_726 : Index := 4#32
  let arg1 : BitVec 32 := BitVec.ofNat 32 (i 1).val
  let c1_i32_646 : BitVec 32 := 1#32
  let v1667 : BitVec 32 := Scalar.subi arg1 c1_i32_646
  let c2_i32_724 : BitVec 32 := 2#32
  let v1800 : BitVec 32 := Scalar.subi arg1 c2_i32_724
  let v1801 : BitVec 32 := Scalar.subi v1667 v1800
  let c256_i32_725 : BitVec 32 := 256#32
  let v1802 : BitVec 32 := Scalar.muli v1801 c256_i32_725
  let v1803 : BitVec 32 := v1802
  let v1804 : Index := Scalar.indexCast v1803
  let c0_727 : Index := 0#32
  ![4, v1804.toNat, 0]
def k0_off320 (i : grid0.Coords) : Fin 3 → Nat :=
  let c0_735 : Index := 0#32
  let c320 : Index := 320#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1819 : Index := Scalar.indexCast v1669
  ![0, 320, v1819.toNat]
def k0_mult70 (i : grid0.Coords) : BitVec 32 :=
  let arg1 : BitVec 32 := BitVec.ofNat 32 (i 1).val
  let c1_i32_646 : BitVec 32 := 1#32
  let v1667 : BitVec 32 := Scalar.subi arg1 c1_i32_646
  let c2_i32_736 : BitVec 32 := 2#32
  let v1825 : BitVec 32 := Scalar.subi arg1 c2_i32_736
  let v1826 : BitVec 32 := Scalar.subi v1667 v1825
  let c256_i32_737 : BitVec 32 := 256#32
  let v1827 : BitVec 32 := Scalar.muli v1826 c256_i32_737
  v1827
def k0_off321 (i : grid0.Coords) : Fin 3 → Nat :=
  let c5_738 : Index := 5#32
  let arg1 : BitVec 32 := BitVec.ofNat 32 (i 1).val
  let c1_i32_646 : BitVec 32 := 1#32
  let v1667 : BitVec 32 := Scalar.subi arg1 c1_i32_646
  let c2_i32_736 : BitVec 32 := 2#32
  let v1825 : BitVec 32 := Scalar.subi arg1 c2_i32_736
  let v1826 : BitVec 32 := Scalar.subi v1667 v1825
  let c256_i32_737 : BitVec 32 := 256#32
  let v1827 : BitVec 32 := Scalar.muli v1826 c256_i32_737
  let v1828 : BitVec 32 := v1827
  let v1829 : Index := Scalar.indexCast v1828
  let c0_739 : Index := 0#32
  ![5, v1829.toNat, 0]
@[reducible] def k0_t18_loop (i : grid0.Coords) : Scf.Loop 32 :=
  let c0_i32_575 : BitVec 32 := 0#32
  let arg1 : BitVec 32 := BitVec.ofNat 32 (i 1).val
  let c1_i32_558 : BitVec 32 := 1#32
  let v1562 : BitVec 32 := Scalar.minsi arg1 c1_i32_558
  let v1584 : BitVec 32 := Scalar.subi v1562 c0_i32_575
  let c1_i32_576 : BitVec 32 := 1#32
  let v1586 : BitVec 32 := Scalar.divsi v1584 c1_i32_576
  let v1587 : BitVec 32 := Scalar.muli v1586 c1_i32_576
  let v1588 : BitVec 32 := Scalar.addi c0_i32_575 v1587
  let v1585 : BitVec 32 := Scalar.addi c0_i32_575 v1584
  let c1_i32_578 : BitVec 32 := 1#32
  ⟨v1588, v1585, c1_i32_578⟩
def k0_mult71 (i : grid0.Coords) : BitVec 32 :=
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  v1668
def k0_off322 (i : grid0.Coords) : Fin 2 → Nat :=
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1671 : Index := Scalar.indexCast v1669
  let c0_649 : Index := 0#32
  ![v1671.toNat, 0]
def k0_off323 (i : grid0.Coords) : Fin 3 → Nat :=
  let c0_650 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1674 : Index := Scalar.indexCast v1669
  let c0_651 : Index := 0#32
  ![0, v1674.toNat, 0]
def k0_off324 (i : grid0.Coords) : Fin 3 → Nat :=
  let c0_656 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1680 : Index := Scalar.indexCast v1669
  let c128_657 : Index := 128#32
  ![0, v1680.toNat, 128]
def k0_off325 (i : grid0.Coords) : Fin 3 → Nat :=
  let c0_662 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1686 : Index := Scalar.indexCast v1669
  let c256_663 : Index := 256#32
  ![0, v1686.toNat, 256]
def k0_off326 (i : grid0.Coords) : Fin 3 → Nat :=
  let c0_671 : Index := 0#32
  let c0_672 : Index := 0#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1694 : Index := Scalar.indexCast v1669
  ![0, 0, v1694.toNat]
def k0_mult72 (i : grid0.Coords) : BitVec 32 :=
  let arg1 : BitVec 32 := BitVec.ofNat 32 (i 1).val
  let c1_i32_646 : BitVec 32 := 1#32
  let v1667 : BitVec 32 := Scalar.subi arg1 c1_i32_646
  let c2_i32_673 : BitVec 32 := 2#32
  let v1700 : BitVec 32 := Scalar.subi arg1 c2_i32_673
  let v1701 : BitVec 32 := Scalar.subi v1667 v1700
  let c256_i32_674 : BitVec 32 := 256#32
  let v1702 : BitVec 32 := Scalar.muli v1701 c256_i32_674
  v1702
def k0_off327 (i : grid0.Coords) : Fin 3 → Nat :=
  let c0_675 : Index := 0#32
  let arg1 : BitVec 32 := BitVec.ofNat 32 (i 1).val
  let c1_i32_646 : BitVec 32 := 1#32
  let v1667 : BitVec 32 := Scalar.subi arg1 c1_i32_646
  let c2_i32_673 : BitVec 32 := 2#32
  let v1700 : BitVec 32 := Scalar.subi arg1 c2_i32_673
  let v1701 : BitVec 32 := Scalar.subi v1667 v1700
  let c256_i32_674 : BitVec 32 := 256#32
  let v1702 : BitVec 32 := Scalar.muli v1701 c256_i32_674
  let v1703 : BitVec 32 := v1702
  let v1704 : Index := Scalar.indexCast v1703
  let c0_676 : Index := 0#32
  ![0, v1704.toNat, 0]
def k0_off328 (i : grid0.Coords) : Fin 3 → Nat :=
  let c0_684 : Index := 0#32
  let c64_685 : Index := 64#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1719 : Index := Scalar.indexCast v1669
  ![0, 64, v1719.toNat]
def k0_mult73 (i : grid0.Coords) : BitVec 32 :=
  let arg1 : BitVec 32 := BitVec.ofNat 32 (i 1).val
  let c1_i32_646 : BitVec 32 := 1#32
  let v1667 : BitVec 32 := Scalar.subi arg1 c1_i32_646
  let c2_i32_686 : BitVec 32 := 2#32
  let v1725 : BitVec 32 := Scalar.subi arg1 c2_i32_686
  let v1726 : BitVec 32 := Scalar.subi v1667 v1725
  let c256_i32_687 : BitVec 32 := 256#32
  let v1727 : BitVec 32 := Scalar.muli v1726 c256_i32_687
  v1727
def k0_off329 (i : grid0.Coords) : Fin 3 → Nat :=
  let c1_688 : Index := 1#32
  let arg1 : BitVec 32 := BitVec.ofNat 32 (i 1).val
  let c1_i32_646 : BitVec 32 := 1#32
  let v1667 : BitVec 32 := Scalar.subi arg1 c1_i32_646
  let c2_i32_686 : BitVec 32 := 2#32
  let v1725 : BitVec 32 := Scalar.subi arg1 c2_i32_686
  let v1726 : BitVec 32 := Scalar.subi v1667 v1725
  let c256_i32_687 : BitVec 32 := 256#32
  let v1727 : BitVec 32 := Scalar.muli v1726 c256_i32_687
  let v1728 : BitVec 32 := v1727
  let v1729 : Index := Scalar.indexCast v1728
  let c0_689 : Index := 0#32
  ![1, v1729.toNat, 0]
def k0_off330 (i : grid0.Coords) : Fin 3 → Nat :=
  let c0_697 : Index := 0#32
  let c128_698 : Index := 128#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1744 : Index := Scalar.indexCast v1669
  ![0, 128, v1744.toNat]
def k0_mult74 (i : grid0.Coords) : BitVec 32 :=
  let arg1 : BitVec 32 := BitVec.ofNat 32 (i 1).val
  let c1_i32_646 : BitVec 32 := 1#32
  let v1667 : BitVec 32 := Scalar.subi arg1 c1_i32_646
  let c2_i32_699 : BitVec 32 := 2#32
  let v1750 : BitVec 32 := Scalar.subi arg1 c2_i32_699
  let v1751 : BitVec 32 := Scalar.subi v1667 v1750
  let c256_i32_700 : BitVec 32 := 256#32
  let v1752 : BitVec 32 := Scalar.muli v1751 c256_i32_700
  v1752
def k0_off331 (i : grid0.Coords) : Fin 3 → Nat :=
  let c2_701 : Index := 2#32
  let arg1 : BitVec 32 := BitVec.ofNat 32 (i 1).val
  let c1_i32_646 : BitVec 32 := 1#32
  let v1667 : BitVec 32 := Scalar.subi arg1 c1_i32_646
  let c2_i32_699 : BitVec 32 := 2#32
  let v1750 : BitVec 32 := Scalar.subi arg1 c2_i32_699
  let v1751 : BitVec 32 := Scalar.subi v1667 v1750
  let c256_i32_700 : BitVec 32 := 256#32
  let v1752 : BitVec 32 := Scalar.muli v1751 c256_i32_700
  let v1753 : BitVec 32 := v1752
  let v1754 : Index := Scalar.indexCast v1753
  let c0_702 : Index := 0#32
  ![2, v1754.toNat, 0]
def k0_off332 (i : grid0.Coords) : Fin 3 → Nat :=
  let c0_710 : Index := 0#32
  let c192 : Index := 192#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1769 : Index := Scalar.indexCast v1669
  ![0, 192, v1769.toNat]
def k0_mult75 (i : grid0.Coords) : BitVec 32 :=
  let arg1 : BitVec 32 := BitVec.ofNat 32 (i 1).val
  let c1_i32_646 : BitVec 32 := 1#32
  let v1667 : BitVec 32 := Scalar.subi arg1 c1_i32_646
  let c2_i32_711 : BitVec 32 := 2#32
  let v1775 : BitVec 32 := Scalar.subi arg1 c2_i32_711
  let v1776 : BitVec 32 := Scalar.subi v1667 v1775
  let c256_i32_712 : BitVec 32 := 256#32
  let v1777 : BitVec 32 := Scalar.muli v1776 c256_i32_712
  v1777
def k0_off333 (i : grid0.Coords) : Fin 3 → Nat :=
  let c3_713 : Index := 3#32
  let arg1 : BitVec 32 := BitVec.ofNat 32 (i 1).val
  let c1_i32_646 : BitVec 32 := 1#32
  let v1667 : BitVec 32 := Scalar.subi arg1 c1_i32_646
  let c2_i32_711 : BitVec 32 := 2#32
  let v1775 : BitVec 32 := Scalar.subi arg1 c2_i32_711
  let v1776 : BitVec 32 := Scalar.subi v1667 v1775
  let c256_i32_712 : BitVec 32 := 256#32
  let v1777 : BitVec 32 := Scalar.muli v1776 c256_i32_712
  let v1778 : BitVec 32 := v1777
  let v1779 : Index := Scalar.indexCast v1778
  let c0_714 : Index := 0#32
  ![3, v1779.toNat, 0]
def k0_off334 (i : grid0.Coords) : Fin 3 → Nat :=
  let c0_722 : Index := 0#32
  let c256_723 : Index := 256#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1794 : Index := Scalar.indexCast v1669
  ![0, 256, v1794.toNat]
def k0_mult76 (i : grid0.Coords) : BitVec 32 :=
  let arg1 : BitVec 32 := BitVec.ofNat 32 (i 1).val
  let c1_i32_646 : BitVec 32 := 1#32
  let v1667 : BitVec 32 := Scalar.subi arg1 c1_i32_646
  let c2_i32_724 : BitVec 32 := 2#32
  let v1800 : BitVec 32 := Scalar.subi arg1 c2_i32_724
  let v1801 : BitVec 32 := Scalar.subi v1667 v1800
  let c256_i32_725 : BitVec 32 := 256#32
  let v1802 : BitVec 32 := Scalar.muli v1801 c256_i32_725
  v1802
def k0_off335 (i : grid0.Coords) : Fin 3 → Nat :=
  let c4_726 : Index := 4#32
  let arg1 : BitVec 32 := BitVec.ofNat 32 (i 1).val
  let c1_i32_646 : BitVec 32 := 1#32
  let v1667 : BitVec 32 := Scalar.subi arg1 c1_i32_646
  let c2_i32_724 : BitVec 32 := 2#32
  let v1800 : BitVec 32 := Scalar.subi arg1 c2_i32_724
  let v1801 : BitVec 32 := Scalar.subi v1667 v1800
  let c256_i32_725 : BitVec 32 := 256#32
  let v1802 : BitVec 32 := Scalar.muli v1801 c256_i32_725
  let v1803 : BitVec 32 := v1802
  let v1804 : Index := Scalar.indexCast v1803
  let c0_727 : Index := 0#32
  ![4, v1804.toNat, 0]
def k0_off336 (i : grid0.Coords) : Fin 3 → Nat :=
  let c0_735 : Index := 0#32
  let c320 : Index := 320#32
  let arg1 : BitVec 32 := BitVec.ofNat 32 (i 1).val
  let c1_i32_646 : BitVec 32 := 1#32
  let v1667 : BitVec 32 := Scalar.subi arg1 c1_i32_646
  let c256_i32_647 : BitVec 32 := 256#32
  let v1668 : BitVec 32 := Scalar.muli v1667 c256_i32_647
  let v1669 : BitVec 32 := v1668
  let v1819 : Index := Scalar.indexCast v1669
  ![0, 320, v1819.toNat]
def k0_mult77 (i : grid0.Coords) : BitVec 32 :=
  let arg1 : BitVec 32 := BitVec.ofNat 32 (i 1).val
  let c1_i32_646 : BitVec 32 := 1#32
  let v1667 : BitVec 32 := Scalar.subi arg1 c1_i32_646
  let c2_i32_736 : BitVec 32 := 2#32
  let v1825 : BitVec 32 := Scalar.subi arg1 c2_i32_736
  let v1826 : BitVec 32 := Scalar.subi v1667 v1825
  let c256_i32_737 : BitVec 32 := 256#32
  let v1827 : BitVec 32 := Scalar.muli v1826 c256_i32_737
  v1827
def k0_off337 (i : grid0.Coords) : Fin 3 → Nat :=
  let c5_738 : Index := 5#32
  let arg1 : BitVec 32 := BitVec.ofNat 32 (i 1).val
  let c1_i32_646 : BitVec 32 := 1#32
  let v1667 : BitVec 32 := Scalar.subi arg1 c1_i32_646
  let c2_i32_736 : BitVec 32 := 2#32
  let v1825 : BitVec 32 := Scalar.subi arg1 c2_i32_736
  let v1826 : BitVec 32 := Scalar.subi v1667 v1825
  let c256_i32_737 : BitVec 32 := 256#32
  let v1827 : BitVec 32 := Scalar.muli v1826 c256_i32_737
  let v1828 : BitVec 32 := v1827
  let v1829 : Index := Scalar.indexCast v1828
  let c0_739 : Index := 0#32
  ![5, v1829.toNat, 0]
@[reducible] def k0_t19_loop (i : grid0.Coords) : Scf.Loop 32 :=
  let c0_i32_580 : BitVec 32 := 0#32
  let c1_i32_579 : BitVec 32 := 1#32
  let arg1 : BitVec 32 := BitVec.ofNat 32 (i 1).val
  let c1_i32_558 : BitVec 32 := 1#32
  let v1562 : BitVec 32 := Scalar.minsi arg1 c1_i32_558
  let v1589 : BitVec 32 := Scalar.subi c1_i32_579 v1562
  let v1590 : BitVec 32 := Scalar.subi v1589 c0_i32_580
  let c1_i32_581 : BitVec 32 := 1#32
  let v1592 : BitVec 32 := Scalar.divsi v1590 c1_i32_581
  let v1593 : BitVec 32 := Scalar.muli v1592 c1_i32_581
  let v1594 : BitVec 32 := Scalar.addi c0_i32_580 v1593
  let c1_i32_582 : BitVec 32 := 1#32
  ⟨c0_i32_580, v1594, c1_i32_582⟩
def k0_mult78 (i : grid0.Coords) : BitVec 32 :=
  let arg1 : BitVec 32 := BitVec.ofNat 32 (i 1).val
  let c256_i32_646 : BitVec 32 := 256#32
  let v1667 : BitVec 32 := Scalar.muli arg1 c256_i32_646
  v1667
def k0_off338 (i : grid0.Coords) : Fin 2 → Nat :=
  let arg1 : BitVec 32 := BitVec.ofNat 32 (i 1).val
  let c256_i32_646 : BitVec 32 := 256#32
  let v1667 : BitVec 32 := Scalar.muli arg1 c256_i32_646
  let v1668 : BitVec 32 := v1667
  let v1670 : Index := Scalar.indexCast v1668
  let c0_648 : Index := 0#32
  ![v1670.toNat, 0]
def k0_off339 (i : grid0.Coords) : Fin 3 → Nat :=
  let c0_649 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1673 : Index := Scalar.indexCast v1668
  let c0_650 : Index := 0#32
  ![0, v1673.toNat, 0]
def k0_off340 (i : grid0.Coords) : Fin 3 → Nat :=
  let c0_655 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1679 : Index := Scalar.indexCast v1668
  let c128_656 : Index := 128#32
  ![0, v1679.toNat, 128]
def k0_off341 (i : grid0.Coords) : Fin 3 → Nat :=
  let c0_661 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1685 : Index := Scalar.indexCast v1668
  let c256_662 : Index := 256#32
  ![0, v1685.toNat, 256]
def k0_off342 (i : grid0.Coords) : Fin 3 → Nat :=
  let c0_670 : Index := 0#32
  let c0_671 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1693 : Index := Scalar.indexCast v1668
  ![0, 0, v1693.toNat]
def k0_mult79 (i : grid0.Coords) : BitVec 32 :=
  let arg1 : BitVec 32 := BitVec.ofNat 32 (i 1).val
  let c2_i32_672 : BitVec 32 := 2#32
  let v1699 : BitVec 32 := Scalar.subi arg1 c2_i32_672
  let v1700 : BitVec 32 := Scalar.subi arg1 v1699
  let c256_i32_673 : BitVec 32 := 256#32
  let v1701 : BitVec 32 := Scalar.muli v1700 c256_i32_673
  v1701
def k0_off343 (i : grid0.Coords) : Fin 3 → Nat :=
  let c0_674 : Index := 0#32
  let arg1 : BitVec 32 := BitVec.ofNat 32 (i 1).val
  let c2_i32_672 : BitVec 32 := 2#32
  let v1699 : BitVec 32 := Scalar.subi arg1 c2_i32_672
  let v1700 : BitVec 32 := Scalar.subi arg1 v1699
  let c256_i32_673 : BitVec 32 := 256#32
  let v1701 : BitVec 32 := Scalar.muli v1700 c256_i32_673
  let v1702 : BitVec 32 := v1701
  let v1703 : Index := Scalar.indexCast v1702
  let c0_675 : Index := 0#32
  ![0, v1703.toNat, 0]
def k0_off344 (i : grid0.Coords) : Fin 3 → Nat :=
  let c0_683 : Index := 0#32
  let c64_684 : Index := 64#32
  let arg1 : BitVec 32 := BitVec.ofNat 32 (i 1).val
  let c256_i32_646 : BitVec 32 := 256#32
  let v1667 : BitVec 32 := Scalar.muli arg1 c256_i32_646
  let v1668 : BitVec 32 := v1667
  let v1718 : Index := Scalar.indexCast v1668
  ![0, 64, v1718.toNat]
def k0_mult80 (i : grid0.Coords) : BitVec 32 :=
  let arg1 : BitVec 32 := BitVec.ofNat 32 (i 1).val
  let c2_i32_685 : BitVec 32 := 2#32
  let v1724 : BitVec 32 := Scalar.subi arg1 c2_i32_685
  let v1725 : BitVec 32 := Scalar.subi arg1 v1724
  let c256_i32_686 : BitVec 32 := 256#32
  let v1726 : BitVec 32 := Scalar.muli v1725 c256_i32_686
  v1726
def k0_off345 (i : grid0.Coords) : Fin 3 → Nat :=
  let c1_687 : Index := 1#32
  let arg1 : BitVec 32 := BitVec.ofNat 32 (i 1).val
  let c2_i32_685 : BitVec 32 := 2#32
  let v1724 : BitVec 32 := Scalar.subi arg1 c2_i32_685
  let v1725 : BitVec 32 := Scalar.subi arg1 v1724
  let c256_i32_686 : BitVec 32 := 256#32
  let v1726 : BitVec 32 := Scalar.muli v1725 c256_i32_686
  let v1727 : BitVec 32 := v1726
  let v1728 : Index := Scalar.indexCast v1727
  let c0_688 : Index := 0#32
  ![1, v1728.toNat, 0]
def k0_off346 (i : grid0.Coords) : Fin 3 → Nat :=
  let c0_696 : Index := 0#32
  let c128_697 : Index := 128#32
  let arg1 : BitVec 32 := BitVec.ofNat 32 (i 1).val
  let c256_i32_646 : BitVec 32 := 256#32
  let v1667 : BitVec 32 := Scalar.muli arg1 c256_i32_646
  let v1668 : BitVec 32 := v1667
  let v1743 : Index := Scalar.indexCast v1668
  ![0, 128, v1743.toNat]
def k0_mult81 (i : grid0.Coords) : BitVec 32 :=
  let arg1 : BitVec 32 := BitVec.ofNat 32 (i 1).val
  let c2_i32_698 : BitVec 32 := 2#32
  let v1749 : BitVec 32 := Scalar.subi arg1 c2_i32_698
  let v1750 : BitVec 32 := Scalar.subi arg1 v1749
  let c256_i32_699 : BitVec 32 := 256#32
  let v1751 : BitVec 32 := Scalar.muli v1750 c256_i32_699
  v1751
def k0_off347 (i : grid0.Coords) : Fin 3 → Nat :=
  let c2_700 : Index := 2#32
  let arg1 : BitVec 32 := BitVec.ofNat 32 (i 1).val
  let c2_i32_698 : BitVec 32 := 2#32
  let v1749 : BitVec 32 := Scalar.subi arg1 c2_i32_698
  let v1750 : BitVec 32 := Scalar.subi arg1 v1749
  let c256_i32_699 : BitVec 32 := 256#32
  let v1751 : BitVec 32 := Scalar.muli v1750 c256_i32_699
  let v1752 : BitVec 32 := v1751
  let v1753 : Index := Scalar.indexCast v1752
  let c0_701 : Index := 0#32
  ![2, v1753.toNat, 0]
def k0_off348 (i : grid0.Coords) : Fin 3 → Nat :=
  let c0_709 : Index := 0#32
  let c192 : Index := 192#32
  let arg1 : BitVec 32 := BitVec.ofNat 32 (i 1).val
  let c256_i32_646 : BitVec 32 := 256#32
  let v1667 : BitVec 32 := Scalar.muli arg1 c256_i32_646
  let v1668 : BitVec 32 := v1667
  let v1768 : Index := Scalar.indexCast v1668
  ![0, 192, v1768.toNat]
def k0_mult82 (i : grid0.Coords) : BitVec 32 :=
  let arg1 : BitVec 32 := BitVec.ofNat 32 (i 1).val
  let c2_i32_710 : BitVec 32 := 2#32
  let v1774 : BitVec 32 := Scalar.subi arg1 c2_i32_710
  let v1775 : BitVec 32 := Scalar.subi arg1 v1774
  let c256_i32_711 : BitVec 32 := 256#32
  let v1776 : BitVec 32 := Scalar.muli v1775 c256_i32_711
  v1776
def k0_off349 (i : grid0.Coords) : Fin 3 → Nat :=
  let c3_712 : Index := 3#32
  let arg1 : BitVec 32 := BitVec.ofNat 32 (i 1).val
  let c2_i32_710 : BitVec 32 := 2#32
  let v1774 : BitVec 32 := Scalar.subi arg1 c2_i32_710
  let v1775 : BitVec 32 := Scalar.subi arg1 v1774
  let c256_i32_711 : BitVec 32 := 256#32
  let v1776 : BitVec 32 := Scalar.muli v1775 c256_i32_711
  let v1777 : BitVec 32 := v1776
  let v1778 : Index := Scalar.indexCast v1777
  let c0_713 : Index := 0#32
  ![3, v1778.toNat, 0]
def k0_off350 (i : grid0.Coords) : Fin 3 → Nat :=
  let c0_721 : Index := 0#32
  let c256_722 : Index := 256#32
  let arg1 : BitVec 32 := BitVec.ofNat 32 (i 1).val
  let c256_i32_646 : BitVec 32 := 256#32
  let v1667 : BitVec 32 := Scalar.muli arg1 c256_i32_646
  let v1668 : BitVec 32 := v1667
  let v1793 : Index := Scalar.indexCast v1668
  ![0, 256, v1793.toNat]
def k0_mult83 (i : grid0.Coords) : BitVec 32 :=
  let arg1 : BitVec 32 := BitVec.ofNat 32 (i 1).val
  let c2_i32_723 : BitVec 32 := 2#32
  let v1799 : BitVec 32 := Scalar.subi arg1 c2_i32_723
  let v1800 : BitVec 32 := Scalar.subi arg1 v1799
  let c256_i32_724 : BitVec 32 := 256#32
  let v1801 : BitVec 32 := Scalar.muli v1800 c256_i32_724
  v1801
def k0_off351 (i : grid0.Coords) : Fin 3 → Nat :=
  let c4_725 : Index := 4#32
  let arg1 : BitVec 32 := BitVec.ofNat 32 (i 1).val
  let c2_i32_723 : BitVec 32 := 2#32
  let v1799 : BitVec 32 := Scalar.subi arg1 c2_i32_723
  let v1800 : BitVec 32 := Scalar.subi arg1 v1799
  let c256_i32_724 : BitVec 32 := 256#32
  let v1801 : BitVec 32 := Scalar.muli v1800 c256_i32_724
  let v1802 : BitVec 32 := v1801
  let v1803 : Index := Scalar.indexCast v1802
  let c0_726 : Index := 0#32
  ![4, v1803.toNat, 0]
def k0_off352 (i : grid0.Coords) : Fin 3 → Nat :=
  let c0_734 : Index := 0#32
  let c320 : Index := 320#32
  let arg1 : BitVec 32 := BitVec.ofNat 32 (i 1).val
  let c256_i32_646 : BitVec 32 := 256#32
  let v1667 : BitVec 32 := Scalar.muli arg1 c256_i32_646
  let v1668 : BitVec 32 := v1667
  let v1818 : Index := Scalar.indexCast v1668
  ![0, 320, v1818.toNat]
def k0_mult84 (i : grid0.Coords) : BitVec 32 :=
  let arg1 : BitVec 32 := BitVec.ofNat 32 (i 1).val
  let c2_i32_735 : BitVec 32 := 2#32
  let v1824 : BitVec 32 := Scalar.subi arg1 c2_i32_735
  let v1825 : BitVec 32 := Scalar.subi arg1 v1824
  let c256_i32_736 : BitVec 32 := 256#32
  let v1826 : BitVec 32 := Scalar.muli v1825 c256_i32_736
  v1826
def k0_off353 (i : grid0.Coords) : Fin 3 → Nat :=
  let c5_737 : Index := 5#32
  let arg1 : BitVec 32 := BitVec.ofNat 32 (i 1).val
  let c2_i32_735 : BitVec 32 := 2#32
  let v1824 : BitVec 32 := Scalar.subi arg1 c2_i32_735
  let v1825 : BitVec 32 := Scalar.subi arg1 v1824
  let c256_i32_736 : BitVec 32 := 256#32
  let v1826 : BitVec 32 := Scalar.muli v1825 c256_i32_736
  let v1827 : BitVec 32 := v1826
  let v1828 : Index := Scalar.indexCast v1827
  let c0_738 : Index := 0#32
  ![5, v1828.toNat, 0]
@[reducible] def k0_t20_loop (i : grid0.Coords) : Scf.Loop 32 :=
  let c0_i32_580 : BitVec 32 := 0#32
  let c1_i32_579 : BitVec 32 := 1#32
  let arg1 : BitVec 32 := BitVec.ofNat 32 (i 1).val
  let c1_i32_558 : BitVec 32 := 1#32
  let v1562 : BitVec 32 := Scalar.minsi arg1 c1_i32_558
  let v1589 : BitVec 32 := Scalar.subi c1_i32_579 v1562
  let v1590 : BitVec 32 := Scalar.subi v1589 c0_i32_580
  let c1_i32_581 : BitVec 32 := 1#32
  let v1592 : BitVec 32 := Scalar.divsi v1590 c1_i32_581
  let v1593 : BitVec 32 := Scalar.muli v1592 c1_i32_581
  let v1594 : BitVec 32 := Scalar.addi c0_i32_580 v1593
  let v1591 : BitVec 32 := Scalar.addi c0_i32_580 v1590
  let c1_i32_583 : BitVec 32 := 1#32
  ⟨v1594, v1591, c1_i32_583⟩
def k0_mult85 (i : grid0.Coords) : BitVec 32 :=
  let arg1 : BitVec 32 := BitVec.ofNat 32 (i 1).val
  let c256_i32_646 : BitVec 32 := 256#32
  let v1667 : BitVec 32 := Scalar.muli arg1 c256_i32_646
  v1667
def k0_off354 (i : grid0.Coords) : Fin 2 → Nat :=
  let arg1 : BitVec 32 := BitVec.ofNat 32 (i 1).val
  let c256_i32_646 : BitVec 32 := 256#32
  let v1667 : BitVec 32 := Scalar.muli arg1 c256_i32_646
  let v1668 : BitVec 32 := v1667
  let v1670 : Index := Scalar.indexCast v1668
  let c0_648 : Index := 0#32
  ![v1670.toNat, 0]
def k0_off355 (i : grid0.Coords) : Fin 3 → Nat :=
  let c0_649 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1673 : Index := Scalar.indexCast v1668
  let c0_650 : Index := 0#32
  ![0, v1673.toNat, 0]
def k0_off356 (i : grid0.Coords) : Fin 3 → Nat :=
  let c0_655 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1679 : Index := Scalar.indexCast v1668
  let c128_656 : Index := 128#32
  ![0, v1679.toNat, 128]
def k0_off357 (i : grid0.Coords) : Fin 3 → Nat :=
  let c0_661 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1685 : Index := Scalar.indexCast v1668
  let c256_662 : Index := 256#32
  ![0, v1685.toNat, 256]
def k0_off358 (i : grid0.Coords) : Fin 3 → Nat :=
  let c0_670 : Index := 0#32
  let c0_671 : Index := 0#32
  let arg1 : BitVec 32 := BitVec.ofNat 32 (i 1).val
  let c256_i32_646 : BitVec 32 := 256#32
  let v1667 : BitVec 32 := Scalar.muli arg1 c256_i32_646
  let v1668 : BitVec 32 := v1667
  let v1693 : Index := Scalar.indexCast v1668
  ![0, 0, v1693.toNat]
def k0_mult86 (i : grid0.Coords) : BitVec 32 :=
  let arg1 : BitVec 32 := BitVec.ofNat 32 (i 1).val
  let c2_i32_672 : BitVec 32 := 2#32
  let v1699 : BitVec 32 := Scalar.subi arg1 c2_i32_672
  let v1700 : BitVec 32 := Scalar.subi arg1 v1699
  let c256_i32_673 : BitVec 32 := 256#32
  let v1701 : BitVec 32 := Scalar.muli v1700 c256_i32_673
  v1701
def k0_off359 (i : grid0.Coords) : Fin 3 → Nat :=
  let c0_674 : Index := 0#32
  let arg1 : BitVec 32 := BitVec.ofNat 32 (i 1).val
  let c2_i32_672 : BitVec 32 := 2#32
  let v1699 : BitVec 32 := Scalar.subi arg1 c2_i32_672
  let v1700 : BitVec 32 := Scalar.subi arg1 v1699
  let c256_i32_673 : BitVec 32 := 256#32
  let v1701 : BitVec 32 := Scalar.muli v1700 c256_i32_673
  let v1702 : BitVec 32 := v1701
  let v1703 : Index := Scalar.indexCast v1702
  let c0_675 : Index := 0#32
  ![0, v1703.toNat, 0]
def k0_off360 (i : grid0.Coords) : Fin 3 → Nat :=
  let c0_683 : Index := 0#32
  let c64_684 : Index := 64#32
  let arg1 : BitVec 32 := BitVec.ofNat 32 (i 1).val
  let c256_i32_646 : BitVec 32 := 256#32
  let v1667 : BitVec 32 := Scalar.muli arg1 c256_i32_646
  let v1668 : BitVec 32 := v1667
  let v1718 : Index := Scalar.indexCast v1668
  ![0, 64, v1718.toNat]
def k0_mult87 (i : grid0.Coords) : BitVec 32 :=
  let arg1 : BitVec 32 := BitVec.ofNat 32 (i 1).val
  let c2_i32_685 : BitVec 32 := 2#32
  let v1724 : BitVec 32 := Scalar.subi arg1 c2_i32_685
  let v1725 : BitVec 32 := Scalar.subi arg1 v1724
  let c256_i32_686 : BitVec 32 := 256#32
  let v1726 : BitVec 32 := Scalar.muli v1725 c256_i32_686
  v1726
def k0_off361 (i : grid0.Coords) : Fin 3 → Nat :=
  let c1_687 : Index := 1#32
  let arg1 : BitVec 32 := BitVec.ofNat 32 (i 1).val
  let c2_i32_685 : BitVec 32 := 2#32
  let v1724 : BitVec 32 := Scalar.subi arg1 c2_i32_685
  let v1725 : BitVec 32 := Scalar.subi arg1 v1724
  let c256_i32_686 : BitVec 32 := 256#32
  let v1726 : BitVec 32 := Scalar.muli v1725 c256_i32_686
  let v1727 : BitVec 32 := v1726
  let v1728 : Index := Scalar.indexCast v1727
  let c0_688 : Index := 0#32
  ![1, v1728.toNat, 0]
def k0_off362 (i : grid0.Coords) : Fin 3 → Nat :=
  let c0_696 : Index := 0#32
  let c128_697 : Index := 128#32
  let arg1 : BitVec 32 := BitVec.ofNat 32 (i 1).val
  let c256_i32_646 : BitVec 32 := 256#32
  let v1667 : BitVec 32 := Scalar.muli arg1 c256_i32_646
  let v1668 : BitVec 32 := v1667
  let v1743 : Index := Scalar.indexCast v1668
  ![0, 128, v1743.toNat]
def k0_mult88 (i : grid0.Coords) : BitVec 32 :=
  let arg1 : BitVec 32 := BitVec.ofNat 32 (i 1).val
  let c2_i32_698 : BitVec 32 := 2#32
  let v1749 : BitVec 32 := Scalar.subi arg1 c2_i32_698
  let v1750 : BitVec 32 := Scalar.subi arg1 v1749
  let c256_i32_699 : BitVec 32 := 256#32
  let v1751 : BitVec 32 := Scalar.muli v1750 c256_i32_699
  v1751
def k0_off363 (i : grid0.Coords) : Fin 3 → Nat :=
  let c2_700 : Index := 2#32
  let arg1 : BitVec 32 := BitVec.ofNat 32 (i 1).val
  let c2_i32_698 : BitVec 32 := 2#32
  let v1749 : BitVec 32 := Scalar.subi arg1 c2_i32_698
  let v1750 : BitVec 32 := Scalar.subi arg1 v1749
  let c256_i32_699 : BitVec 32 := 256#32
  let v1751 : BitVec 32 := Scalar.muli v1750 c256_i32_699
  let v1752 : BitVec 32 := v1751
  let v1753 : Index := Scalar.indexCast v1752
  let c0_701 : Index := 0#32
  ![2, v1753.toNat, 0]
def k0_off364 (i : grid0.Coords) : Fin 3 → Nat :=
  let c0_709 : Index := 0#32
  let c192 : Index := 192#32
  let arg1 : BitVec 32 := BitVec.ofNat 32 (i 1).val
  let c256_i32_646 : BitVec 32 := 256#32
  let v1667 : BitVec 32 := Scalar.muli arg1 c256_i32_646
  let v1668 : BitVec 32 := v1667
  let v1768 : Index := Scalar.indexCast v1668
  ![0, 192, v1768.toNat]
def k0_mult89 (i : grid0.Coords) : BitVec 32 :=
  let arg1 : BitVec 32 := BitVec.ofNat 32 (i 1).val
  let c2_i32_710 : BitVec 32 := 2#32
  let v1774 : BitVec 32 := Scalar.subi arg1 c2_i32_710
  let v1775 : BitVec 32 := Scalar.subi arg1 v1774
  let c256_i32_711 : BitVec 32 := 256#32
  let v1776 : BitVec 32 := Scalar.muli v1775 c256_i32_711
  v1776
def k0_off365 (i : grid0.Coords) : Fin 3 → Nat :=
  let c3_712 : Index := 3#32
  let arg1 : BitVec 32 := BitVec.ofNat 32 (i 1).val
  let c2_i32_710 : BitVec 32 := 2#32
  let v1774 : BitVec 32 := Scalar.subi arg1 c2_i32_710
  let v1775 : BitVec 32 := Scalar.subi arg1 v1774
  let c256_i32_711 : BitVec 32 := 256#32
  let v1776 : BitVec 32 := Scalar.muli v1775 c256_i32_711
  let v1777 : BitVec 32 := v1776
  let v1778 : Index := Scalar.indexCast v1777
  let c0_713 : Index := 0#32
  ![3, v1778.toNat, 0]
def k0_off366 (i : grid0.Coords) : Fin 3 → Nat :=
  let c0_721 : Index := 0#32
  let c256_722 : Index := 256#32
  let arg1 : BitVec 32 := BitVec.ofNat 32 (i 1).val
  let c256_i32_646 : BitVec 32 := 256#32
  let v1667 : BitVec 32 := Scalar.muli arg1 c256_i32_646
  let v1668 : BitVec 32 := v1667
  let v1793 : Index := Scalar.indexCast v1668
  ![0, 256, v1793.toNat]
def k0_mult90 (i : grid0.Coords) : BitVec 32 :=
  let arg1 : BitVec 32 := BitVec.ofNat 32 (i 1).val
  let c2_i32_723 : BitVec 32 := 2#32
  let v1799 : BitVec 32 := Scalar.subi arg1 c2_i32_723
  let v1800 : BitVec 32 := Scalar.subi arg1 v1799
  let c256_i32_724 : BitVec 32 := 256#32
  let v1801 : BitVec 32 := Scalar.muli v1800 c256_i32_724
  v1801
def k0_off367 (i : grid0.Coords) : Fin 3 → Nat :=
  let c4_725 : Index := 4#32
  let arg1 : BitVec 32 := BitVec.ofNat 32 (i 1).val
  let c2_i32_723 : BitVec 32 := 2#32
  let v1799 : BitVec 32 := Scalar.subi arg1 c2_i32_723
  let v1800 : BitVec 32 := Scalar.subi arg1 v1799
  let c256_i32_724 : BitVec 32 := 256#32
  let v1801 : BitVec 32 := Scalar.muli v1800 c256_i32_724
  let v1802 : BitVec 32 := v1801
  let v1803 : Index := Scalar.indexCast v1802
  let c0_726 : Index := 0#32
  ![4, v1803.toNat, 0]
def k0_off368 (i : grid0.Coords) : Fin 3 → Nat :=
  let c0_734 : Index := 0#32
  let c320 : Index := 320#32
  let arg1 : BitVec 32 := BitVec.ofNat 32 (i 1).val
  let c256_i32_646 : BitVec 32 := 256#32
  let v1667 : BitVec 32 := Scalar.muli arg1 c256_i32_646
  let v1668 : BitVec 32 := v1667
  let v1818 : Index := Scalar.indexCast v1668
  ![0, 320, v1818.toNat]
def k0_mult91 (i : grid0.Coords) : BitVec 32 :=
  let arg1 : BitVec 32 := BitVec.ofNat 32 (i 1).val
  let c2_i32_735 : BitVec 32 := 2#32
  let v1824 : BitVec 32 := Scalar.subi arg1 c2_i32_735
  let v1825 : BitVec 32 := Scalar.subi arg1 v1824
  let c256_i32_736 : BitVec 32 := 256#32
  let v1826 : BitVec 32 := Scalar.muli v1825 c256_i32_736
  v1826
def k0_off369 (i : grid0.Coords) : Fin 3 → Nat :=
  let c5_737 : Index := 5#32
  let arg1 : BitVec 32 := BitVec.ofNat 32 (i 1).val
  let c2_i32_735 : BitVec 32 := 2#32
  let v1824 : BitVec 32 := Scalar.subi arg1 c2_i32_735
  let v1825 : BitVec 32 := Scalar.subi arg1 v1824
  let c256_i32_736 : BitVec 32 := 256#32
  let v1826 : BitVec 32 := Scalar.muli v1825 c256_i32_736
  let v1827 : BitVec 32 := v1826
  let v1828 : Index := Scalar.indexCast v1827
  let c0_738 : Index := 0#32
  ![5, v1828.toNat, 0]
@[reducible] def k0_t21_loop (i : grid0.Coords) : Scf.Loop 32 :=
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_675 : BitVec 32 := 1#32
  ⟨c0_i32_673, v1718, c1_i32_675⟩
def k0_mult92 (i : grid0.Coords) (k0_t21 : Fin (k0_t21_loop i).trips) : BitVec 32 :=
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  v1753
def k0_off370 (i : grid0.Coords) (k0_t21 : Fin (k0_t21_loop i).trips) : Fin 2 → Nat :=
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off371 (i : grid0.Coords) (k0_t21 : Fin (k0_t21_loop i).trips) : Fin 3 → Nat :=
  let c0_698 : Index := 0#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off372 (i : grid0.Coords) (k0_t21 : Fin (k0_t21_loop i).trips) : Fin 3 → Nat :=
  let c0_704 : Index := 0#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off373 (i : grid0.Coords) (k0_t21 : Fin (k0_t21_loop i).trips) : Fin 3 → Nat :=
  let c0_710 : Index := 0#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_off374 (i : grid0.Coords) (k0_t21 : Fin (k0_t21_loop i).trips) : Fin 3 → Nat :=
  let c0_720 : Index := 0#32
  let c0_721 : Index := 0#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1788 : Index := Scalar.indexCast v1754
  ![0, 0, v1788.toNat]
def k0_off375 (i : grid0.Coords) (k0_t21 : Fin (k0_t21_loop i).trips) : Fin 3 → Nat :=
  let c0_730 : Index := 0#32
  let c64_731 : Index := 64#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1812 : Index := Scalar.indexCast v1754
  ![0, 64, v1812.toNat]
def k0_off376 (i : grid0.Coords) (k0_t21 : Fin (k0_t21_loop i).trips) : Fin 3 → Nat :=
  let c0_740 : Index := 0#32
  let c128_741 : Index := 128#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1836 : Index := Scalar.indexCast v1754
  ![0, 128, v1836.toNat]
def k0_off377 (i : grid0.Coords) (k0_t21 : Fin (k0_t21_loop i).trips) : Fin 3 → Nat :=
  let c0_750 : Index := 0#32
  let c192 : Index := 192#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1860 : Index := Scalar.indexCast v1754
  ![0, 192, v1860.toNat]
def k0_off378 (i : grid0.Coords) (k0_t21 : Fin (k0_t21_loop i).trips) : Fin 3 → Nat :=
  let c0_759 : Index := 0#32
  let c256_760 : Index := 256#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1884 : Index := Scalar.indexCast v1754
  ![0, 256, v1884.toNat]
def k0_off379 (i : grid0.Coords) (k0_t21 : Fin (k0_t21_loop i).trips) : Fin 3 → Nat :=
  let c0_769 : Index := 0#32
  let c320 : Index := 320#32
  let c4_i32_694 : BitVec 32 := 4#32
  let c0_i32_673 : BitVec 32 := 0#32
  let c1_i32_675 : BitVec 32 := 1#32
  let arg20 : BitVec 32 := Scf.iv c0_i32_673 c1_i32_675 k0_t21
  let v1752 : BitVec 32 := Scalar.muli c4_i32_694 arg20
  let c256_i32_695 : BitVec 32 := 256#32
  let v1753 : BitVec 32 := Scalar.muli v1752 c256_i32_695
  let v1754 : BitVec 32 := v1753
  let v1908 : Index := Scalar.indexCast v1754
  ![0, 320, v1908.toNat]
@[reducible] def k0_t22_loop (i : grid0.Coords) : Scf.Loop 32 :=
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let v1715 : BitVec 32 := Scalar.addi c0_i32_673 v1714
  let c1_i32_676 : BitVec 32 := 1#32
  ⟨v1718, v1715, c1_i32_676⟩
def k0_mult93 (i : grid0.Coords) (k0_t22 : Fin (k0_t22_loop i).trips) : BitVec 32 :=
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  v1753
def k0_off380 (i : grid0.Coords) (k0_t22 : Fin (k0_t22_loop i).trips) : Fin 2 → Nat :=
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off381 (i : grid0.Coords) (k0_t22 : Fin (k0_t22_loop i).trips) : Fin 3 → Nat :=
  let c0_698 : Index := 0#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off382 (i : grid0.Coords) (k0_t22 : Fin (k0_t22_loop i).trips) : Fin 3 → Nat :=
  let c0_704 : Index := 0#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off383 (i : grid0.Coords) (k0_t22 : Fin (k0_t22_loop i).trips) : Fin 3 → Nat :=
  let c0_710 : Index := 0#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_off384 (i : grid0.Coords) (k0_t22 : Fin (k0_t22_loop i).trips) : Fin 3 → Nat :=
  let c0_720 : Index := 0#32
  let c0_721 : Index := 0#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1788 : Index := Scalar.indexCast v1754
  ![0, 0, v1788.toNat]
def k0_off385 (i : grid0.Coords) (k0_t22 : Fin (k0_t22_loop i).trips) : Fin 3 → Nat :=
  let c0_730 : Index := 0#32
  let c64_731 : Index := 64#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1812 : Index := Scalar.indexCast v1754
  ![0, 64, v1812.toNat]
def k0_off386 (i : grid0.Coords) (k0_t22 : Fin (k0_t22_loop i).trips) : Fin 3 → Nat :=
  let c0_740 : Index := 0#32
  let c128_741 : Index := 128#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1836 : Index := Scalar.indexCast v1754
  ![0, 128, v1836.toNat]
def k0_off387 (i : grid0.Coords) (k0_t22 : Fin (k0_t22_loop i).trips) : Fin 3 → Nat :=
  let c0_750 : Index := 0#32
  let c192 : Index := 192#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1860 : Index := Scalar.indexCast v1754
  ![0, 192, v1860.toNat]
def k0_off388 (i : grid0.Coords) (k0_t22 : Fin (k0_t22_loop i).trips) : Fin 3 → Nat :=
  let c0_759 : Index := 0#32
  let c256_760 : Index := 256#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1884 : Index := Scalar.indexCast v1754
  ![0, 256, v1884.toNat]
def k0_off389 (i : grid0.Coords) (k0_t22 : Fin (k0_t22_loop i).trips) : Fin 3 → Nat :=
  let c0_769 : Index := 0#32
  let c320 : Index := 320#32
  let c4_i32_694 : BitVec 32 := 4#32
  let c0_i32_673 : BitVec 32 := 0#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1714 : BitVec 32 := Scalar.subi v1708 c0_i32_673
  let c1_i32_674 : BitVec 32 := 1#32
  let v1716 : BitVec 32 := Scalar.divsi v1714 c1_i32_674
  let v1717 : BitVec 32 := Scalar.muli v1716 c1_i32_674
  let v1718 : BitVec 32 := Scalar.addi c0_i32_673 v1717
  let c1_i32_676 : BitVec 32 := 1#32
  let arg20 : BitVec 32 := Scf.iv v1718 c1_i32_676 k0_t22
  let v1752 : BitVec 32 := Scalar.muli c4_i32_694 arg20
  let c256_i32_695 : BitVec 32 := 256#32
  let v1753 : BitVec 32 := Scalar.muli v1752 c256_i32_695
  let v1754 : BitVec 32 := v1753
  let v1908 : Index := Scalar.indexCast v1754
  ![0, 320, v1908.toNat]
@[reducible] def k0_t23_loop (i : grid0.Coords) : Scf.Loop 32 :=
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_679 : BitVec 32 := 1#32
  ⟨v1721, v1726, c1_i32_679⟩
def k0_mult94 (i : grid0.Coords) (k0_t23 : Fin (k0_t23_loop i).trips) : BitVec 32 :=
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  v1753
def k0_off390 (i : grid0.Coords) (k0_t23 : Fin (k0_t23_loop i).trips) : Fin 2 → Nat :=
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off391 (i : grid0.Coords) (k0_t23 : Fin (k0_t23_loop i).trips) : Fin 3 → Nat :=
  let c0_698 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off392 (i : grid0.Coords) (k0_t23 : Fin (k0_t23_loop i).trips) : Fin 3 → Nat :=
  let c0_704 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off393 (i : grid0.Coords) (k0_t23 : Fin (k0_t23_loop i).trips) : Fin 3 → Nat :=
  let c0_710 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_off394 (i : grid0.Coords) (k0_t23 : Fin (k0_t23_loop i).trips) : Fin 3 → Nat :=
  let c0_720 : Index := 0#32
  let c0_721 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1788 : Index := Scalar.indexCast v1754
  ![0, 0, v1788.toNat]
def k0_off395 (i : grid0.Coords) (k0_t23 : Fin (k0_t23_loop i).trips) : Fin 3 → Nat :=
  let c0_730 : Index := 0#32
  let c64_731 : Index := 64#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1812 : Index := Scalar.indexCast v1754
  ![0, 64, v1812.toNat]
def k0_off396 (i : grid0.Coords) (k0_t23 : Fin (k0_t23_loop i).trips) : Fin 3 → Nat :=
  let c0_740 : Index := 0#32
  let c128_741 : Index := 128#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1836 : Index := Scalar.indexCast v1754
  ![0, 128, v1836.toNat]
def k0_off397 (i : grid0.Coords) (k0_t23 : Fin (k0_t23_loop i).trips) : Fin 3 → Nat :=
  let c0_750 : Index := 0#32
  let c192 : Index := 192#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1860 : Index := Scalar.indexCast v1754
  ![0, 192, v1860.toNat]
def k0_off398 (i : grid0.Coords) (k0_t23 : Fin (k0_t23_loop i).trips) : Fin 3 → Nat :=
  let c0_759 : Index := 0#32
  let c256_760 : Index := 256#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1884 : Index := Scalar.indexCast v1754
  ![0, 256, v1884.toNat]
def k0_off399 (i : grid0.Coords) (k0_t23 : Fin (k0_t23_loop i).trips) : Fin 3 → Nat :=
  let c0_769 : Index := 0#32
  let c320 : Index := 320#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let c1_i32_679 : BitVec 32 := 1#32
  let arg20 : BitVec 32 := Scf.iv v1721 c1_i32_679 k0_t23
  let v1752 : BitVec 32 := Scalar.muli c2_i32_694 arg20
  let c256_i32_695 : BitVec 32 := 256#32
  let v1753 : BitVec 32 := Scalar.muli v1752 c256_i32_695
  let v1754 : BitVec 32 := v1753
  let v1908 : Index := Scalar.indexCast v1754
  ![0, 320, v1908.toNat]
@[reducible] def k0_t24_loop (i : grid0.Coords) : Scf.Loop 32 :=
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let v1723 : BitVec 32 := Scalar.addi v1721 v1722
  let c1_i32_680 : BitVec 32 := 1#32
  ⟨v1726, v1723, c1_i32_680⟩
def k0_mult95 (i : grid0.Coords) (k0_t24 : Fin (k0_t24_loop i).trips) : BitVec 32 :=
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  v1753
def k0_off400 (i : grid0.Coords) (k0_t24 : Fin (k0_t24_loop i).trips) : Fin 2 → Nat :=
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off401 (i : grid0.Coords) (k0_t24 : Fin (k0_t24_loop i).trips) : Fin 3 → Nat :=
  let c0_698 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off402 (i : grid0.Coords) (k0_t24 : Fin (k0_t24_loop i).trips) : Fin 3 → Nat :=
  let c0_704 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off403 (i : grid0.Coords) (k0_t24 : Fin (k0_t24_loop i).trips) : Fin 3 → Nat :=
  let c0_710 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_off404 (i : grid0.Coords) (k0_t24 : Fin (k0_t24_loop i).trips) : Fin 3 → Nat :=
  let c0_720 : Index := 0#32
  let c0_721 : Index := 0#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1788 : Index := Scalar.indexCast v1754
  ![0, 0, v1788.toNat]
def k0_off405 (i : grid0.Coords) (k0_t24 : Fin (k0_t24_loop i).trips) : Fin 3 → Nat :=
  let c0_730 : Index := 0#32
  let c64_731 : Index := 64#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1812 : Index := Scalar.indexCast v1754
  ![0, 64, v1812.toNat]
def k0_off406 (i : grid0.Coords) (k0_t24 : Fin (k0_t24_loop i).trips) : Fin 3 → Nat :=
  let c0_740 : Index := 0#32
  let c128_741 : Index := 128#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1836 : Index := Scalar.indexCast v1754
  ![0, 128, v1836.toNat]
def k0_off407 (i : grid0.Coords) (k0_t24 : Fin (k0_t24_loop i).trips) : Fin 3 → Nat :=
  let c0_750 : Index := 0#32
  let c192 : Index := 192#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1860 : Index := Scalar.indexCast v1754
  ![0, 192, v1860.toNat]
def k0_off408 (i : grid0.Coords) (k0_t24 : Fin (k0_t24_loop i).trips) : Fin 3 → Nat :=
  let c0_759 : Index := 0#32
  let c256_760 : Index := 256#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1884 : Index := Scalar.indexCast v1754
  ![0, 256, v1884.toNat]
def k0_off409 (i : grid0.Coords) (k0_t24 : Fin (k0_t24_loop i).trips) : Fin 3 → Nat :=
  let c0_769 : Index := 0#32
  let c320 : Index := 320#32
  let c2_i32_694 : BitVec 32 := 2#32
  let c2_i32_677 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let c0_i32_662 : BitVec 32 := 0#32
  let v1693 : BitVec 1 := Scalar.cmpi .sgt v1691 c0_i32_662
  let v1694 : BitVec 32 := Scalar.extui v1693
  let c0_i32_663 : BitVec 32 := 0#32
  let v1695 : BitVec 1 := Scalar.cmpi .slt v1691 c0_i32_663
  let v1696 : BitVec 32 := Scalar.extui v1695
  let v1697 : BitVec 32 := Scalar.subi v1694 v1696
  let c2_i32_661 : BitVec 32 := 2#32
  let c0_i32_664 : BitVec 32 := 0#32
  let v1698 : BitVec 1 := Scalar.cmpi .sgt c2_i32_661 c0_i32_664
  let v1699 : BitVec 32 := Scalar.extui v1698
  let c0_i32_665 : BitVec 32 := 0#32
  let v1700 : BitVec 1 := Scalar.cmpi .slt c2_i32_661 c0_i32_665
  let v1701 : BitVec 32 := Scalar.extui v1700
  let v1702 : BitVec 32 := Scalar.subi v1699 v1701
  let v1703 : BitVec 1 := Scalar.cmpi .ne v1697 v1702
  let v1704 : BitVec 32 := Scalar.remsi v1691 c2_i32_661
  let c0_i32_666 : BitVec 32 := 0#32
  let v1705 : BitVec 1 := Scalar.cmpi .ne v1704 c0_i32_666
  let v1706 : BitVec 1 := Scalar.andi v1703 v1705
  let v1692 : BitVec 32 := Scalar.divsi v1691 c2_i32_661
  let c1_i32_667 : BitVec 32 := 1#32
  let v1707 : BitVec 32 := Scalar.subi v1692 c1_i32_667
  let v1708 : BitVec 32 := Scalar.select v1706 v1707 v1692
  let v1721 : BitVec 32 := Scalar.muli c2_i32_677 v1708
  let v1722 : BitVec 32 := Scalar.subi v1691 v1721
  let c1_i32_678 : BitVec 32 := 1#32
  let v1724 : BitVec 32 := Scalar.divsi v1722 c1_i32_678
  let v1725 : BitVec 32 := Scalar.muli v1724 c1_i32_678
  let v1726 : BitVec 32 := Scalar.addi v1721 v1725
  let c1_i32_680 : BitVec 32 := 1#32
  let arg20 : BitVec 32 := Scf.iv v1726 c1_i32_680 k0_t24
  let v1752 : BitVec 32 := Scalar.muli c2_i32_694 arg20
  let c256_i32_695 : BitVec 32 := 256#32
  let v1753 : BitVec 32 := Scalar.muli v1752 c256_i32_695
  let v1754 : BitVec 32 := v1753
  let v1908 : Index := Scalar.indexCast v1754
  ![0, 320, v1908.toNat]
@[reducible] def k0_t25_loop (i : grid0.Coords) : Scf.Loop 32 :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_683 : BitVec 32 := 1#32
  ⟨v1729, v1734, c1_i32_683⟩
def k0_mult96 (i : grid0.Coords) (k0_t25 : Fin (k0_t25_loop i).trips) : BitVec 32 :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  v1752
def k0_off410 (i : grid0.Coords) (k0_t25 : Fin (k0_t25_loop i).trips) : Fin 2 → Nat :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1755 : Index := Scalar.indexCast v1753
  let c0_696 : Index := 0#32
  ![v1755.toNat, 0]
def k0_off411 (i : grid0.Coords) (k0_t25 : Fin (k0_t25_loop i).trips) : Fin 3 → Nat :=
  let c0_697 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1758 : Index := Scalar.indexCast v1753
  let c0_698 : Index := 0#32
  ![0, v1758.toNat, 0]
def k0_off412 (i : grid0.Coords) (k0_t25 : Fin (k0_t25_loop i).trips) : Fin 3 → Nat :=
  let c0_703 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1764 : Index := Scalar.indexCast v1753
  let c128_704 : Index := 128#32
  ![0, v1764.toNat, 128]
def k0_off413 (i : grid0.Coords) (k0_t25 : Fin (k0_t25_loop i).trips) : Fin 3 → Nat :=
  let c0_709 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1770 : Index := Scalar.indexCast v1753
  let c256_710 : Index := 256#32
  ![0, v1770.toNat, 256]
def k0_off414 (i : grid0.Coords) (k0_t25 : Fin (k0_t25_loop i).trips) : Fin 3 → Nat :=
  let c0_719 : Index := 0#32
  let c0_720 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1787 : Index := Scalar.indexCast v1753
  ![0, 0, v1787.toNat]
def k0_off415 (i : grid0.Coords) (k0_t25 : Fin (k0_t25_loop i).trips) : Fin 3 → Nat :=
  let c0_729 : Index := 0#32
  let c64_730 : Index := 64#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1811 : Index := Scalar.indexCast v1753
  ![0, 64, v1811.toNat]
def k0_off416 (i : grid0.Coords) (k0_t25 : Fin (k0_t25_loop i).trips) : Fin 3 → Nat :=
  let c0_739 : Index := 0#32
  let c128_740 : Index := 128#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1835 : Index := Scalar.indexCast v1753
  ![0, 128, v1835.toNat]
def k0_off417 (i : grid0.Coords) (k0_t25 : Fin (k0_t25_loop i).trips) : Fin 3 → Nat :=
  let c0_749 : Index := 0#32
  let c192 : Index := 192#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1859 : Index := Scalar.indexCast v1753
  ![0, 192, v1859.toNat]
def k0_off418 (i : grid0.Coords) (k0_t25 : Fin (k0_t25_loop i).trips) : Fin 3 → Nat :=
  let c0_758 : Index := 0#32
  let c256_759 : Index := 256#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1883 : Index := Scalar.indexCast v1753
  ![0, 256, v1883.toNat]
def k0_off419 (i : grid0.Coords) (k0_t25 : Fin (k0_t25_loop i).trips) : Fin 3 → Nat :=
  let c0_768 : Index := 0#32
  let c320 : Index := 320#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let c1_i32_683 : BitVec 32 := 1#32
  let arg20 : BitVec 32 := Scf.iv v1729 c1_i32_683 k0_t25
  let c256_i32_694 : BitVec 32 := 256#32
  let v1752 : BitVec 32 := Scalar.muli arg20 c256_i32_694
  let v1753 : BitVec 32 := v1752
  let v1907 : Index := Scalar.indexCast v1753
  ![0, 320, v1907.toNat]
@[reducible] def k0_t26_loop (i : grid0.Coords) : Scf.Loop 32 :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let v1731 : BitVec 32 := Scalar.addi v1729 v1730
  let c1_i32_684 : BitVec 32 := 1#32
  ⟨v1734, v1731, c1_i32_684⟩
def k0_mult97 (i : grid0.Coords) (k0_t26 : Fin (k0_t26_loop i).trips) : BitVec 32 :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  v1752
def k0_off420 (i : grid0.Coords) (k0_t26 : Fin (k0_t26_loop i).trips) : Fin 2 → Nat :=
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1755 : Index := Scalar.indexCast v1753
  let c0_696 : Index := 0#32
  ![v1755.toNat, 0]
def k0_off421 (i : grid0.Coords) (k0_t26 : Fin (k0_t26_loop i).trips) : Fin 3 → Nat :=
  let c0_697 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1758 : Index := Scalar.indexCast v1753
  let c0_698 : Index := 0#32
  ![0, v1758.toNat, 0]
def k0_off422 (i : grid0.Coords) (k0_t26 : Fin (k0_t26_loop i).trips) : Fin 3 → Nat :=
  let c0_703 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1764 : Index := Scalar.indexCast v1753
  let c128_704 : Index := 128#32
  ![0, v1764.toNat, 128]
def k0_off423 (i : grid0.Coords) (k0_t26 : Fin (k0_t26_loop i).trips) : Fin 3 → Nat :=
  let c0_709 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1770 : Index := Scalar.indexCast v1753
  let c256_710 : Index := 256#32
  ![0, v1770.toNat, 256]
def k0_off424 (i : grid0.Coords) (k0_t26 : Fin (k0_t26_loop i).trips) : Fin 3 → Nat :=
  let c0_719 : Index := 0#32
  let c0_720 : Index := 0#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1787 : Index := Scalar.indexCast v1753
  ![0, 0, v1787.toNat]
def k0_off425 (i : grid0.Coords) (k0_t26 : Fin (k0_t26_loop i).trips) : Fin 3 → Nat :=
  let c0_729 : Index := 0#32
  let c64_730 : Index := 64#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1811 : Index := Scalar.indexCast v1753
  ![0, 64, v1811.toNat]
def k0_off426 (i : grid0.Coords) (k0_t26 : Fin (k0_t26_loop i).trips) : Fin 3 → Nat :=
  let c0_739 : Index := 0#32
  let c128_740 : Index := 128#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1835 : Index := Scalar.indexCast v1753
  ![0, 128, v1835.toNat]
def k0_off427 (i : grid0.Coords) (k0_t26 : Fin (k0_t26_loop i).trips) : Fin 3 → Nat :=
  let c0_749 : Index := 0#32
  let c192 : Index := 192#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1859 : Index := Scalar.indexCast v1753
  ![0, 192, v1859.toNat]
def k0_off428 (i : grid0.Coords) (k0_t26 : Fin (k0_t26_loop i).trips) : Fin 3 → Nat :=
  let c0_758 : Index := 0#32
  let c256_759 : Index := 256#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1883 : Index := Scalar.indexCast v1753
  ![0, 256, v1883.toNat]
def k0_off429 (i : grid0.Coords) (k0_t26 : Fin (k0_t26_loop i).trips) : Fin 3 → Nat :=
  let c0_768 : Index := 0#32
  let c320 : Index := 320#32
  let c2_i32_681 : BitVec 32 := 2#32
  let arg1 : BitVec 32 := BitVec.ofNat 32 (i 1).val
  let c1_i32_652 : BitVec 32 := 1#32
  let v1673 : BitVec 32 := Scalar.subi arg1 c1_i32_652
  let c0_i32_653 : BitVec 32 := 0#32
  let v1674 : BitVec 32 := Scalar.maxsi v1673 c0_i32_653
  let c0_i32_655 : BitVec 32 := 0#32
  let v1676 : BitVec 1 := Scalar.cmpi .sgt v1674 c0_i32_655
  let v1677 : BitVec 32 := Scalar.extui v1676
  let c0_i32_656 : BitVec 32 := 0#32
  let v1678 : BitVec 1 := Scalar.cmpi .slt v1674 c0_i32_656
  let v1679 : BitVec 32 := Scalar.extui v1678
  let v1680 : BitVec 32 := Scalar.subi v1677 v1679
  let c2_i32_654 : BitVec 32 := 2#32
  let c0_i32_657 : BitVec 32 := 0#32
  let v1681 : BitVec 1 := Scalar.cmpi .sgt c2_i32_654 c0_i32_657
  let v1682 : BitVec 32 := Scalar.extui v1681
  let c0_i32_658 : BitVec 32 := 0#32
  let v1683 : BitVec 1 := Scalar.cmpi .slt c2_i32_654 c0_i32_658
  let v1684 : BitVec 32 := Scalar.extui v1683
  let v1685 : BitVec 32 := Scalar.subi v1682 v1684
  let v1686 : BitVec 1 := Scalar.cmpi .ne v1680 v1685
  let v1687 : BitVec 32 := Scalar.remsi v1674 c2_i32_654
  let c0_i32_659 : BitVec 32 := 0#32
  let v1688 : BitVec 1 := Scalar.cmpi .ne v1687 c0_i32_659
  let v1689 : BitVec 1 := Scalar.andi v1686 v1688
  let v1675 : BitVec 32 := Scalar.divsi v1674 c2_i32_654
  let c1_i32_660 : BitVec 32 := 1#32
  let v1690 : BitVec 32 := Scalar.subi v1675 c1_i32_660
  let v1691 : BitVec 32 := Scalar.select v1689 v1690 v1675
  let v1729 : BitVec 32 := Scalar.muli c2_i32_681 v1691
  let v1730 : BitVec 32 := Scalar.subi v1674 v1729
  let c1_i32_682 : BitVec 32 := 1#32
  let v1732 : BitVec 32 := Scalar.divsi v1730 c1_i32_682
  let v1733 : BitVec 32 := Scalar.muli v1732 c1_i32_682
  let v1734 : BitVec 32 := Scalar.addi v1729 v1733
  let c1_i32_684 : BitVec 32 := 1#32
  let arg20 : BitVec 32 := Scf.iv v1734 c1_i32_684 k0_t26
  let c256_i32_694 : BitVec 32 := 256#32
  let v1752 : BitVec 32 := Scalar.muli arg20 c256_i32_694
  let v1753 : BitVec 32 := v1752
  let v1907 : Index := Scalar.indexCast v1753
  ![0, 320, v1907.toNat]
@[reducible] def k0_t27_loop (i : grid0.Coords) : Scf.Loop 32 :=
  let c0_i32_685 : BitVec 32 := 0#32
  let arg1 : BitVec 32 := BitVec.ofNat 32 (i 1).val
  let c1_i32_668 : BitVec 32 := 1#32
  let v1709 : BitVec 32 := Scalar.minsi arg1 c1_i32_668
  let v1737 : BitVec 32 := Scalar.subi v1709 c0_i32_685
  let c1_i32_686 : BitVec 32 := 1#32
  let v1739 : BitVec 32 := Scalar.divsi v1737 c1_i32_686
  let v1740 : BitVec 32 := Scalar.muli v1739 c1_i32_686
  let v1741 : BitVec 32 := Scalar.addi c0_i32_685 v1740
  let c1_i32_687 : BitVec 32 := 1#32
  ⟨c0_i32_685, v1741, c1_i32_687⟩
def k0_mult98 (i : grid0.Coords) : BitVec 32 :=
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  v1753
def k0_off430 (i : grid0.Coords) : Fin 2 → Nat :=
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off431 (i : grid0.Coords) : Fin 3 → Nat :=
  let c0_698 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off432 (i : grid0.Coords) : Fin 3 → Nat :=
  let c0_704 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off433 (i : grid0.Coords) : Fin 3 → Nat :=
  let c0_710 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_mult99 (i : grid0.Coords) : BitVec 32 :=
  let arg1 : BitVec 32 := BitVec.ofNat 32 (i 1).val
  let c1_i32_694 : BitVec 32 := 1#32
  let v1752 : BitVec 32 := Scalar.subi arg1 c1_i32_694
  let c2_i32_716 : BitVec 32 := 2#32
  let v1779 : BitVec 32 := Scalar.subi arg1 c2_i32_716
  let v1780 : BitVec 32 := Scalar.subi v1752 v1779
  let c256_i32_717 : BitVec 32 := 256#32
  let v1781 : BitVec 32 := Scalar.muli v1780 c256_i32_717
  v1781
def k0_off434 (i : grid0.Coords) : Fin 3 → Nat :=
  let c0_718 : Index := 0#32
  let arg1 : BitVec 32 := BitVec.ofNat 32 (i 1).val
  let c1_i32_694 : BitVec 32 := 1#32
  let v1752 : BitVec 32 := Scalar.subi arg1 c1_i32_694
  let c2_i32_716 : BitVec 32 := 2#32
  let v1779 : BitVec 32 := Scalar.subi arg1 c2_i32_716
  let v1780 : BitVec 32 := Scalar.subi v1752 v1779
  let c256_i32_717 : BitVec 32 := 256#32
  let v1781 : BitVec 32 := Scalar.muli v1780 c256_i32_717
  let v1782 : BitVec 32 := v1781
  let v1783 : Index := Scalar.indexCast v1782
  let c0_719 : Index := 0#32
  ![0, v1783.toNat, 0]
def k0_off435 (i : grid0.Coords) : Fin 3 → Nat :=
  let c0_724 : Index := 0#32
  let c0_725 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1796 : Index := Scalar.indexCast v1754
  ![0, 0, v1796.toNat]
def k0_mult100 (i : grid0.Coords) : BitVec 32 :=
  let arg1 : BitVec 32 := BitVec.ofNat 32 (i 1).val
  let c1_i32_694 : BitVec 32 := 1#32
  let v1752 : BitVec 32 := Scalar.subi arg1 c1_i32_694
  let c2_i32_730 : BitVec 32 := 2#32
  let v1811 : BitVec 32 := Scalar.subi arg1 c2_i32_730
  let v1812 : BitVec 32 := Scalar.subi v1752 v1811
  let c256_i32_731 : BitVec 32 := 256#32
  let v1813 : BitVec 32 := Scalar.muli v1812 c256_i32_731
  v1813
def k0_off436 (i : grid0.Coords) : Fin 3 → Nat :=
  let c1_732 : Index := 1#32
  let arg1 : BitVec 32 := BitVec.ofNat 32 (i 1).val
  let c1_i32_694 : BitVec 32 := 1#32
  let v1752 : BitVec 32 := Scalar.subi arg1 c1_i32_694
  let c2_i32_730 : BitVec 32 := 2#32
  let v1811 : BitVec 32 := Scalar.subi arg1 c2_i32_730
  let v1812 : BitVec 32 := Scalar.subi v1752 v1811
  let c256_i32_731 : BitVec 32 := 256#32
  let v1813 : BitVec 32 := Scalar.muli v1812 c256_i32_731
  let v1814 : BitVec 32 := v1813
  let v1815 : Index := Scalar.indexCast v1814
  let c0_733 : Index := 0#32
  ![1, v1815.toNat, 0]
def k0_off437 (i : grid0.Coords) : Fin 3 → Nat :=
  let c0_738 : Index := 0#32
  let c64_739 : Index := 64#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1828 : Index := Scalar.indexCast v1754
  ![0, 64, v1828.toNat]
def k0_mult101 (i : grid0.Coords) : BitVec 32 :=
  let arg1 : BitVec 32 := BitVec.ofNat 32 (i 1).val
  let c1_i32_694 : BitVec 32 := 1#32
  let v1752 : BitVec 32 := Scalar.subi arg1 c1_i32_694
  let c2_i32_744 : BitVec 32 := 2#32
  let v1843 : BitVec 32 := Scalar.subi arg1 c2_i32_744
  let v1844 : BitVec 32 := Scalar.subi v1752 v1843
  let c256_i32_745 : BitVec 32 := 256#32
  let v1845 : BitVec 32 := Scalar.muli v1844 c256_i32_745
  v1845
def k0_off438 (i : grid0.Coords) : Fin 3 → Nat :=
  let c2_746 : Index := 2#32
  let arg1 : BitVec 32 := BitVec.ofNat 32 (i 1).val
  let c1_i32_694 : BitVec 32 := 1#32
  let v1752 : BitVec 32 := Scalar.subi arg1 c1_i32_694
  let c2_i32_744 : BitVec 32 := 2#32
  let v1843 : BitVec 32 := Scalar.subi arg1 c2_i32_744
  let v1844 : BitVec 32 := Scalar.subi v1752 v1843
  let c256_i32_745 : BitVec 32 := 256#32
  let v1845 : BitVec 32 := Scalar.muli v1844 c256_i32_745
  let v1846 : BitVec 32 := v1845
  let v1847 : Index := Scalar.indexCast v1846
  let c0_747 : Index := 0#32
  ![2, v1847.toNat, 0]
def k0_off439 (i : grid0.Coords) : Fin 3 → Nat :=
  let c0_752 : Index := 0#32
  let c128_753 : Index := 128#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1860 : Index := Scalar.indexCast v1754
  ![0, 128, v1860.toNat]
def k0_mult102 (i : grid0.Coords) : BitVec 32 :=
  let arg1 : BitVec 32 := BitVec.ofNat 32 (i 1).val
  let c1_i32_694 : BitVec 32 := 1#32
  let v1752 : BitVec 32 := Scalar.subi arg1 c1_i32_694
  let c2_i32_758 : BitVec 32 := 2#32
  let v1875 : BitVec 32 := Scalar.subi arg1 c2_i32_758
  let v1876 : BitVec 32 := Scalar.subi v1752 v1875
  let c256_i32_759 : BitVec 32 := 256#32
  let v1877 : BitVec 32 := Scalar.muli v1876 c256_i32_759
  v1877
def k0_off440 (i : grid0.Coords) : Fin 3 → Nat :=
  let c3_760 : Index := 3#32
  let arg1 : BitVec 32 := BitVec.ofNat 32 (i 1).val
  let c1_i32_694 : BitVec 32 := 1#32
  let v1752 : BitVec 32 := Scalar.subi arg1 c1_i32_694
  let c2_i32_758 : BitVec 32 := 2#32
  let v1875 : BitVec 32 := Scalar.subi arg1 c2_i32_758
  let v1876 : BitVec 32 := Scalar.subi v1752 v1875
  let c256_i32_759 : BitVec 32 := 256#32
  let v1877 : BitVec 32 := Scalar.muli v1876 c256_i32_759
  let v1878 : BitVec 32 := v1877
  let v1879 : Index := Scalar.indexCast v1878
  let c0_761 : Index := 0#32
  ![3, v1879.toNat, 0]
def k0_off441 (i : grid0.Coords) : Fin 3 → Nat :=
  let c0_766 : Index := 0#32
  let c192 : Index := 192#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1892 : Index := Scalar.indexCast v1754
  ![0, 192, v1892.toNat]
def k0_mult103 (i : grid0.Coords) : BitVec 32 :=
  let arg1 : BitVec 32 := BitVec.ofNat 32 (i 1).val
  let c1_i32_694 : BitVec 32 := 1#32
  let v1752 : BitVec 32 := Scalar.subi arg1 c1_i32_694
  let c2_i32_771 : BitVec 32 := 2#32
  let v1907 : BitVec 32 := Scalar.subi arg1 c2_i32_771
  let v1908 : BitVec 32 := Scalar.subi v1752 v1907
  let c256_i32_772 : BitVec 32 := 256#32
  let v1909 : BitVec 32 := Scalar.muli v1908 c256_i32_772
  v1909
def k0_off442 (i : grid0.Coords) : Fin 3 → Nat :=
  let c4_773 : Index := 4#32
  let arg1 : BitVec 32 := BitVec.ofNat 32 (i 1).val
  let c1_i32_694 : BitVec 32 := 1#32
  let v1752 : BitVec 32 := Scalar.subi arg1 c1_i32_694
  let c2_i32_771 : BitVec 32 := 2#32
  let v1907 : BitVec 32 := Scalar.subi arg1 c2_i32_771
  let v1908 : BitVec 32 := Scalar.subi v1752 v1907
  let c256_i32_772 : BitVec 32 := 256#32
  let v1909 : BitVec 32 := Scalar.muli v1908 c256_i32_772
  let v1910 : BitVec 32 := v1909
  let v1911 : Index := Scalar.indexCast v1910
  let c0_774 : Index := 0#32
  ![4, v1911.toNat, 0]
def k0_off443 (i : grid0.Coords) : Fin 3 → Nat :=
  let c0_779 : Index := 0#32
  let c256_780 : Index := 256#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1924 : Index := Scalar.indexCast v1754
  ![0, 256, v1924.toNat]
def k0_mult104 (i : grid0.Coords) : BitVec 32 :=
  let arg1 : BitVec 32 := BitVec.ofNat 32 (i 1).val
  let c1_i32_694 : BitVec 32 := 1#32
  let v1752 : BitVec 32 := Scalar.subi arg1 c1_i32_694
  let c2_i32_785 : BitVec 32 := 2#32
  let v1939 : BitVec 32 := Scalar.subi arg1 c2_i32_785
  let v1940 : BitVec 32 := Scalar.subi v1752 v1939
  let c256_i32_786 : BitVec 32 := 256#32
  let v1941 : BitVec 32 := Scalar.muli v1940 c256_i32_786
  v1941
def k0_off444 (i : grid0.Coords) : Fin 3 → Nat :=
  let c5_787 : Index := 5#32
  let arg1 : BitVec 32 := BitVec.ofNat 32 (i 1).val
  let c1_i32_694 : BitVec 32 := 1#32
  let v1752 : BitVec 32 := Scalar.subi arg1 c1_i32_694
  let c2_i32_785 : BitVec 32 := 2#32
  let v1939 : BitVec 32 := Scalar.subi arg1 c2_i32_785
  let v1940 : BitVec 32 := Scalar.subi v1752 v1939
  let c256_i32_786 : BitVec 32 := 256#32
  let v1941 : BitVec 32 := Scalar.muli v1940 c256_i32_786
  let v1942 : BitVec 32 := v1941
  let v1943 : Index := Scalar.indexCast v1942
  let c0_788 : Index := 0#32
  ![5, v1943.toNat, 0]
def k0_off445 (i : grid0.Coords) : Fin 3 → Nat :=
  let c0_793 : Index := 0#32
  let c320 : Index := 320#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1956 : Index := Scalar.indexCast v1754
  ![0, 320, v1956.toNat]
@[reducible] def k0_t28_loop (i : grid0.Coords) : Scf.Loop 32 :=
  let c0_i32_685 : BitVec 32 := 0#32
  let arg1 : BitVec 32 := BitVec.ofNat 32 (i 1).val
  let c1_i32_668 : BitVec 32 := 1#32
  let v1709 : BitVec 32 := Scalar.minsi arg1 c1_i32_668
  let v1737 : BitVec 32 := Scalar.subi v1709 c0_i32_685
  let c1_i32_686 : BitVec 32 := 1#32
  let v1739 : BitVec 32 := Scalar.divsi v1737 c1_i32_686
  let v1740 : BitVec 32 := Scalar.muli v1739 c1_i32_686
  let v1741 : BitVec 32 := Scalar.addi c0_i32_685 v1740
  let v1738 : BitVec 32 := Scalar.addi c0_i32_685 v1737
  let c1_i32_688 : BitVec 32 := 1#32
  ⟨v1741, v1738, c1_i32_688⟩
def k0_mult105 (i : grid0.Coords) : BitVec 32 :=
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  v1753
def k0_off446 (i : grid0.Coords) : Fin 2 → Nat :=
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1756 : Index := Scalar.indexCast v1754
  let c0_697 : Index := 0#32
  ![v1756.toNat, 0]
def k0_off447 (i : grid0.Coords) : Fin 3 → Nat :=
  let c0_698 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1759 : Index := Scalar.indexCast v1754
  let c0_699 : Index := 0#32
  ![0, v1759.toNat, 0]
def k0_off448 (i : grid0.Coords) : Fin 3 → Nat :=
  let c0_704 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1765 : Index := Scalar.indexCast v1754
  let c128_705 : Index := 128#32
  ![0, v1765.toNat, 128]
def k0_off449 (i : grid0.Coords) : Fin 3 → Nat :=
  let c0_710 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1771 : Index := Scalar.indexCast v1754
  let c256_711 : Index := 256#32
  ![0, v1771.toNat, 256]
def k0_mult106 (i : grid0.Coords) : BitVec 32 :=
  let arg1 : BitVec 32 := BitVec.ofNat 32 (i 1).val
  let c1_i32_694 : BitVec 32 := 1#32
  let v1752 : BitVec 32 := Scalar.subi arg1 c1_i32_694
  let c2_i32_716 : BitVec 32 := 2#32
  let v1779 : BitVec 32 := Scalar.subi arg1 c2_i32_716
  let v1780 : BitVec 32 := Scalar.subi v1752 v1779
  let c256_i32_717 : BitVec 32 := 256#32
  let v1781 : BitVec 32 := Scalar.muli v1780 c256_i32_717
  v1781
def k0_off450 (i : grid0.Coords) : Fin 3 → Nat :=
  let c0_718 : Index := 0#32
  let arg1 : BitVec 32 := BitVec.ofNat 32 (i 1).val
  let c1_i32_694 : BitVec 32 := 1#32
  let v1752 : BitVec 32 := Scalar.subi arg1 c1_i32_694
  let c2_i32_716 : BitVec 32 := 2#32
  let v1779 : BitVec 32 := Scalar.subi arg1 c2_i32_716
  let v1780 : BitVec 32 := Scalar.subi v1752 v1779
  let c256_i32_717 : BitVec 32 := 256#32
  let v1781 : BitVec 32 := Scalar.muli v1780 c256_i32_717
  let v1782 : BitVec 32 := v1781
  let v1783 : Index := Scalar.indexCast v1782
  let c0_719 : Index := 0#32
  ![0, v1783.toNat, 0]
def k0_off451 (i : grid0.Coords) : Fin 3 → Nat :=
  let c0_724 : Index := 0#32
  let c0_725 : Index := 0#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1796 : Index := Scalar.indexCast v1754
  ![0, 0, v1796.toNat]
def k0_mult107 (i : grid0.Coords) : BitVec 32 :=
  let arg1 : BitVec 32 := BitVec.ofNat 32 (i 1).val
  let c1_i32_694 : BitVec 32 := 1#32
  let v1752 : BitVec 32 := Scalar.subi arg1 c1_i32_694
  let c2_i32_730 : BitVec 32 := 2#32
  let v1811 : BitVec 32 := Scalar.subi arg1 c2_i32_730
  let v1812 : BitVec 32 := Scalar.subi v1752 v1811
  let c256_i32_731 : BitVec 32 := 256#32
  let v1813 : BitVec 32 := Scalar.muli v1812 c256_i32_731
  v1813
def k0_off452 (i : grid0.Coords) : Fin 3 → Nat :=
  let c1_732 : Index := 1#32
  let arg1 : BitVec 32 := BitVec.ofNat 32 (i 1).val
  let c1_i32_694 : BitVec 32 := 1#32
  let v1752 : BitVec 32 := Scalar.subi arg1 c1_i32_694
  let c2_i32_730 : BitVec 32 := 2#32
  let v1811 : BitVec 32 := Scalar.subi arg1 c2_i32_730
  let v1812 : BitVec 32 := Scalar.subi v1752 v1811
  let c256_i32_731 : BitVec 32 := 256#32
  let v1813 : BitVec 32 := Scalar.muli v1812 c256_i32_731
  let v1814 : BitVec 32 := v1813
  let v1815 : Index := Scalar.indexCast v1814
  let c0_733 : Index := 0#32
  ![1, v1815.toNat, 0]
def k0_off453 (i : grid0.Coords) : Fin 3 → Nat :=
  let c0_738 : Index := 0#32
  let c64_739 : Index := 64#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1828 : Index := Scalar.indexCast v1754
  ![0, 64, v1828.toNat]
def k0_mult108 (i : grid0.Coords) : BitVec 32 :=
  let arg1 : BitVec 32 := BitVec.ofNat 32 (i 1).val
  let c1_i32_694 : BitVec 32 := 1#32
  let v1752 : BitVec 32 := Scalar.subi arg1 c1_i32_694
  let c2_i32_744 : BitVec 32 := 2#32
  let v1843 : BitVec 32 := Scalar.subi arg1 c2_i32_744
  let v1844 : BitVec 32 := Scalar.subi v1752 v1843
  let c256_i32_745 : BitVec 32 := 256#32
  let v1845 : BitVec 32 := Scalar.muli v1844 c256_i32_745
  v1845
def k0_off454 (i : grid0.Coords) : Fin 3 → Nat :=
  let c2_746 : Index := 2#32
  let arg1 : BitVec 32 := BitVec.ofNat 32 (i 1).val
  let c1_i32_694 : BitVec 32 := 1#32
  let v1752 : BitVec 32 := Scalar.subi arg1 c1_i32_694
  let c2_i32_744 : BitVec 32 := 2#32
  let v1843 : BitVec 32 := Scalar.subi arg1 c2_i32_744
  let v1844 : BitVec 32 := Scalar.subi v1752 v1843
  let c256_i32_745 : BitVec 32 := 256#32
  let v1845 : BitVec 32 := Scalar.muli v1844 c256_i32_745
  let v1846 : BitVec 32 := v1845
  let v1847 : Index := Scalar.indexCast v1846
  let c0_747 : Index := 0#32
  ![2, v1847.toNat, 0]
def k0_off455 (i : grid0.Coords) : Fin 3 → Nat :=
  let c0_752 : Index := 0#32
  let c128_753 : Index := 128#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1860 : Index := Scalar.indexCast v1754
  ![0, 128, v1860.toNat]
def k0_mult109 (i : grid0.Coords) : BitVec 32 :=
  let arg1 : BitVec 32 := BitVec.ofNat 32 (i 1).val
  let c1_i32_694 : BitVec 32 := 1#32
  let v1752 : BitVec 32 := Scalar.subi arg1 c1_i32_694
  let c2_i32_758 : BitVec 32 := 2#32
  let v1875 : BitVec 32 := Scalar.subi arg1 c2_i32_758
  let v1876 : BitVec 32 := Scalar.subi v1752 v1875
  let c256_i32_759 : BitVec 32 := 256#32
  let v1877 : BitVec 32 := Scalar.muli v1876 c256_i32_759
  v1877
def k0_off456 (i : grid0.Coords) : Fin 3 → Nat :=
  let c3_760 : Index := 3#32
  let arg1 : BitVec 32 := BitVec.ofNat 32 (i 1).val
  let c1_i32_694 : BitVec 32 := 1#32
  let v1752 : BitVec 32 := Scalar.subi arg1 c1_i32_694
  let c2_i32_758 : BitVec 32 := 2#32
  let v1875 : BitVec 32 := Scalar.subi arg1 c2_i32_758
  let v1876 : BitVec 32 := Scalar.subi v1752 v1875
  let c256_i32_759 : BitVec 32 := 256#32
  let v1877 : BitVec 32 := Scalar.muli v1876 c256_i32_759
  let v1878 : BitVec 32 := v1877
  let v1879 : Index := Scalar.indexCast v1878
  let c0_761 : Index := 0#32
  ![3, v1879.toNat, 0]
def k0_off457 (i : grid0.Coords) : Fin 3 → Nat :=
  let c0_766 : Index := 0#32
  let c192 : Index := 192#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1892 : Index := Scalar.indexCast v1754
  ![0, 192, v1892.toNat]
def k0_mult110 (i : grid0.Coords) : BitVec 32 :=
  let arg1 : BitVec 32 := BitVec.ofNat 32 (i 1).val
  let c1_i32_694 : BitVec 32 := 1#32
  let v1752 : BitVec 32 := Scalar.subi arg1 c1_i32_694
  let c2_i32_771 : BitVec 32 := 2#32
  let v1907 : BitVec 32 := Scalar.subi arg1 c2_i32_771
  let v1908 : BitVec 32 := Scalar.subi v1752 v1907
  let c256_i32_772 : BitVec 32 := 256#32
  let v1909 : BitVec 32 := Scalar.muli v1908 c256_i32_772
  v1909
def k0_off458 (i : grid0.Coords) : Fin 3 → Nat :=
  let c4_773 : Index := 4#32
  let arg1 : BitVec 32 := BitVec.ofNat 32 (i 1).val
  let c1_i32_694 : BitVec 32 := 1#32
  let v1752 : BitVec 32 := Scalar.subi arg1 c1_i32_694
  let c2_i32_771 : BitVec 32 := 2#32
  let v1907 : BitVec 32 := Scalar.subi arg1 c2_i32_771
  let v1908 : BitVec 32 := Scalar.subi v1752 v1907
  let c256_i32_772 : BitVec 32 := 256#32
  let v1909 : BitVec 32 := Scalar.muli v1908 c256_i32_772
  let v1910 : BitVec 32 := v1909
  let v1911 : Index := Scalar.indexCast v1910
  let c0_774 : Index := 0#32
  ![4, v1911.toNat, 0]
def k0_off459 (i : grid0.Coords) : Fin 3 → Nat :=
  let c0_779 : Index := 0#32
  let c256_780 : Index := 256#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1924 : Index := Scalar.indexCast v1754
  ![0, 256, v1924.toNat]
def k0_mult111 (i : grid0.Coords) : BitVec 32 :=
  let arg1 : BitVec 32 := BitVec.ofNat 32 (i 1).val
  let c1_i32_694 : BitVec 32 := 1#32
  let v1752 : BitVec 32 := Scalar.subi arg1 c1_i32_694
  let c2_i32_785 : BitVec 32 := 2#32
  let v1939 : BitVec 32 := Scalar.subi arg1 c2_i32_785
  let v1940 : BitVec 32 := Scalar.subi v1752 v1939
  let c256_i32_786 : BitVec 32 := 256#32
  let v1941 : BitVec 32 := Scalar.muli v1940 c256_i32_786
  v1941
def k0_off460 (i : grid0.Coords) : Fin 3 → Nat :=
  let c5_787 : Index := 5#32
  let arg1 : BitVec 32 := BitVec.ofNat 32 (i 1).val
  let c1_i32_694 : BitVec 32 := 1#32
  let v1752 : BitVec 32 := Scalar.subi arg1 c1_i32_694
  let c2_i32_785 : BitVec 32 := 2#32
  let v1939 : BitVec 32 := Scalar.subi arg1 c2_i32_785
  let v1940 : BitVec 32 := Scalar.subi v1752 v1939
  let c256_i32_786 : BitVec 32 := 256#32
  let v1941 : BitVec 32 := Scalar.muli v1940 c256_i32_786
  let v1942 : BitVec 32 := v1941
  let v1943 : Index := Scalar.indexCast v1942
  let c0_788 : Index := 0#32
  ![5, v1943.toNat, 0]
def k0_off461 (i : grid0.Coords) : Fin 3 → Nat :=
  let c0_793 : Index := 0#32
  let c320 : Index := 320#32
  let arg1 : BitVec 32 := BitVec.ofNat 32 (i 1).val
  let c1_i32_694 : BitVec 32 := 1#32
  let v1752 : BitVec 32 := Scalar.subi arg1 c1_i32_694
  let c256_i32_695 : BitVec 32 := 256#32
  let v1753 : BitVec 32 := Scalar.muli v1752 c256_i32_695
  let v1754 : BitVec 32 := v1753
  let v1956 : Index := Scalar.indexCast v1754
  ![0, 320, v1956.toNat]
@[reducible] def k0_t29_loop (i : grid0.Coords) : Scf.Loop 32 :=
  let c0_i32_690 : BitVec 32 := 0#32
  let c1_i32_689 : BitVec 32 := 1#32
  let arg1 : BitVec 32 := BitVec.ofNat 32 (i 1).val
  let c1_i32_668 : BitVec 32 := 1#32
  let v1709 : BitVec 32 := Scalar.minsi arg1 c1_i32_668
  let v1744 : BitVec 32 := Scalar.subi c1_i32_689 v1709
  let v1745 : BitVec 32 := Scalar.subi v1744 c0_i32_690
  let c1_i32_691 : BitVec 32 := 1#32
  let v1747 : BitVec 32 := Scalar.divsi v1745 c1_i32_691
  let v1748 : BitVec 32 := Scalar.muli v1747 c1_i32_691
  let v1749 : BitVec 32 := Scalar.addi c0_i32_690 v1748
  let c1_i32_692 : BitVec 32 := 1#32
  ⟨c0_i32_690, v1749, c1_i32_692⟩
def k0_mult112 (i : grid0.Coords) : BitVec 32 :=
  let arg1 : BitVec 32 := BitVec.ofNat 32 (i 1).val
  let c256_i32_694 : BitVec 32 := 256#32
  let v1752 : BitVec 32 := Scalar.muli arg1 c256_i32_694
  v1752
def k0_off462 (i : grid0.Coords) : Fin 2 → Nat :=
  let arg1 : BitVec 32 := BitVec.ofNat 32 (i 1).val
  let c256_i32_694 : BitVec 32 := 256#32
  let v1752 : BitVec 32 := Scalar.muli arg1 c256_i32_694
  let v1753 : BitVec 32 := v1752
  let v1755 : Index := Scalar.indexCast v1753
  let c0_696 : Index := 0#32
  ![v1755.toNat, 0]
def k0_off463 (i : grid0.Coords) : Fin 3 → Nat :=
  let c0_697 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1758 : Index := Scalar.indexCast v1753
  let c0_698 : Index := 0#32
  ![0, v1758.toNat, 0]
def k0_off464 (i : grid0.Coords) : Fin 3 → Nat :=
  let c0_703 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1764 : Index := Scalar.indexCast v1753
  let c128_704 : Index := 128#32
  ![0, v1764.toNat, 128]
def k0_off465 (i : grid0.Coords) : Fin 3 → Nat :=
  let c0_709 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1770 : Index := Scalar.indexCast v1753
  let c256_710 : Index := 256#32
  ![0, v1770.toNat, 256]
def k0_mult113 (i : grid0.Coords) : BitVec 32 :=
  let arg1 : BitVec 32 := BitVec.ofNat 32 (i 1).val
  let c2_i32_715 : BitVec 32 := 2#32
  let v1778 : BitVec 32 := Scalar.subi arg1 c2_i32_715
  let v1779 : BitVec 32 := Scalar.subi arg1 v1778
  let c256_i32_716 : BitVec 32 := 256#32
  let v1780 : BitVec 32 := Scalar.muli v1779 c256_i32_716
  v1780
def k0_off466 (i : grid0.Coords) : Fin 3 → Nat :=
  let c0_717 : Index := 0#32
  let arg1 : BitVec 32 := BitVec.ofNat 32 (i 1).val
  let c2_i32_715 : BitVec 32 := 2#32
  let v1778 : BitVec 32 := Scalar.subi arg1 c2_i32_715
  let v1779 : BitVec 32 := Scalar.subi arg1 v1778
  let c256_i32_716 : BitVec 32 := 256#32
  let v1780 : BitVec 32 := Scalar.muli v1779 c256_i32_716
  let v1781 : BitVec 32 := v1780
  let v1782 : Index := Scalar.indexCast v1781
  let c0_718 : Index := 0#32
  ![0, v1782.toNat, 0]
def k0_off467 (i : grid0.Coords) : Fin 3 → Nat :=
  let c0_723 : Index := 0#32
  let c0_724 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1795 : Index := Scalar.indexCast v1753
  ![0, 0, v1795.toNat]
def k0_mult114 (i : grid0.Coords) : BitVec 32 :=
  let arg1 : BitVec 32 := BitVec.ofNat 32 (i 1).val
  let c2_i32_729 : BitVec 32 := 2#32
  let v1810 : BitVec 32 := Scalar.subi arg1 c2_i32_729
  let v1811 : BitVec 32 := Scalar.subi arg1 v1810
  let c256_i32_730 : BitVec 32 := 256#32
  let v1812 : BitVec 32 := Scalar.muli v1811 c256_i32_730
  v1812
def k0_off468 (i : grid0.Coords) : Fin 3 → Nat :=
  let c1_731 : Index := 1#32
  let arg1 : BitVec 32 := BitVec.ofNat 32 (i 1).val
  let c2_i32_729 : BitVec 32 := 2#32
  let v1810 : BitVec 32 := Scalar.subi arg1 c2_i32_729
  let v1811 : BitVec 32 := Scalar.subi arg1 v1810
  let c256_i32_730 : BitVec 32 := 256#32
  let v1812 : BitVec 32 := Scalar.muli v1811 c256_i32_730
  let v1813 : BitVec 32 := v1812
  let v1814 : Index := Scalar.indexCast v1813
  let c0_732 : Index := 0#32
  ![1, v1814.toNat, 0]
def k0_off469 (i : grid0.Coords) : Fin 3 → Nat :=
  let c0_737 : Index := 0#32
  let c64_738 : Index := 64#32
  let arg1 : BitVec 32 := BitVec.ofNat 32 (i 1).val
  let c256_i32_694 : BitVec 32 := 256#32
  let v1752 : BitVec 32 := Scalar.muli arg1 c256_i32_694
  let v1753 : BitVec 32 := v1752
  let v1827 : Index := Scalar.indexCast v1753
  ![0, 64, v1827.toNat]
def k0_mult115 (i : grid0.Coords) : BitVec 32 :=
  let arg1 : BitVec 32 := BitVec.ofNat 32 (i 1).val
  let c2_i32_743 : BitVec 32 := 2#32
  let v1842 : BitVec 32 := Scalar.subi arg1 c2_i32_743
  let v1843 : BitVec 32 := Scalar.subi arg1 v1842
  let c256_i32_744 : BitVec 32 := 256#32
  let v1844 : BitVec 32 := Scalar.muli v1843 c256_i32_744
  v1844
def k0_off470 (i : grid0.Coords) : Fin 3 → Nat :=
  let c2_745 : Index := 2#32
  let arg1 : BitVec 32 := BitVec.ofNat 32 (i 1).val
  let c2_i32_743 : BitVec 32 := 2#32
  let v1842 : BitVec 32 := Scalar.subi arg1 c2_i32_743
  let v1843 : BitVec 32 := Scalar.subi arg1 v1842
  let c256_i32_744 : BitVec 32 := 256#32
  let v1844 : BitVec 32 := Scalar.muli v1843 c256_i32_744
  let v1845 : BitVec 32 := v1844
  let v1846 : Index := Scalar.indexCast v1845
  let c0_746 : Index := 0#32
  ![2, v1846.toNat, 0]
def k0_off471 (i : grid0.Coords) : Fin 3 → Nat :=
  let c0_751 : Index := 0#32
  let c128_752 : Index := 128#32
  let arg1 : BitVec 32 := BitVec.ofNat 32 (i 1).val
  let c256_i32_694 : BitVec 32 := 256#32
  let v1752 : BitVec 32 := Scalar.muli arg1 c256_i32_694
  let v1753 : BitVec 32 := v1752
  let v1859 : Index := Scalar.indexCast v1753
  ![0, 128, v1859.toNat]
def k0_mult116 (i : grid0.Coords) : BitVec 32 :=
  let arg1 : BitVec 32 := BitVec.ofNat 32 (i 1).val
  let c2_i32_757 : BitVec 32 := 2#32
  let v1874 : BitVec 32 := Scalar.subi arg1 c2_i32_757
  let v1875 : BitVec 32 := Scalar.subi arg1 v1874
  let c256_i32_758 : BitVec 32 := 256#32
  let v1876 : BitVec 32 := Scalar.muli v1875 c256_i32_758
  v1876
def k0_off472 (i : grid0.Coords) : Fin 3 → Nat :=
  let c3_759 : Index := 3#32
  let arg1 : BitVec 32 := BitVec.ofNat 32 (i 1).val
  let c2_i32_757 : BitVec 32 := 2#32
  let v1874 : BitVec 32 := Scalar.subi arg1 c2_i32_757
  let v1875 : BitVec 32 := Scalar.subi arg1 v1874
  let c256_i32_758 : BitVec 32 := 256#32
  let v1876 : BitVec 32 := Scalar.muli v1875 c256_i32_758
  let v1877 : BitVec 32 := v1876
  let v1878 : Index := Scalar.indexCast v1877
  let c0_760 : Index := 0#32
  ![3, v1878.toNat, 0]
def k0_off473 (i : grid0.Coords) : Fin 3 → Nat :=
  let c0_765 : Index := 0#32
  let c192 : Index := 192#32
  let arg1 : BitVec 32 := BitVec.ofNat 32 (i 1).val
  let c256_i32_694 : BitVec 32 := 256#32
  let v1752 : BitVec 32 := Scalar.muli arg1 c256_i32_694
  let v1753 : BitVec 32 := v1752
  let v1891 : Index := Scalar.indexCast v1753
  ![0, 192, v1891.toNat]
def k0_mult117 (i : grid0.Coords) : BitVec 32 :=
  let arg1 : BitVec 32 := BitVec.ofNat 32 (i 1).val
  let c2_i32_770 : BitVec 32 := 2#32
  let v1906 : BitVec 32 := Scalar.subi arg1 c2_i32_770
  let v1907 : BitVec 32 := Scalar.subi arg1 v1906
  let c256_i32_771 : BitVec 32 := 256#32
  let v1908 : BitVec 32 := Scalar.muli v1907 c256_i32_771
  v1908
def k0_off474 (i : grid0.Coords) : Fin 3 → Nat :=
  let c4_772 : Index := 4#32
  let arg1 : BitVec 32 := BitVec.ofNat 32 (i 1).val
  let c2_i32_770 : BitVec 32 := 2#32
  let v1906 : BitVec 32 := Scalar.subi arg1 c2_i32_770
  let v1907 : BitVec 32 := Scalar.subi arg1 v1906
  let c256_i32_771 : BitVec 32 := 256#32
  let v1908 : BitVec 32 := Scalar.muli v1907 c256_i32_771
  let v1909 : BitVec 32 := v1908
  let v1910 : Index := Scalar.indexCast v1909
  let c0_773 : Index := 0#32
  ![4, v1910.toNat, 0]
def k0_off475 (i : grid0.Coords) : Fin 3 → Nat :=
  let c0_778 : Index := 0#32
  let c256_779 : Index := 256#32
  let arg1 : BitVec 32 := BitVec.ofNat 32 (i 1).val
  let c256_i32_694 : BitVec 32 := 256#32
  let v1752 : BitVec 32 := Scalar.muli arg1 c256_i32_694
  let v1753 : BitVec 32 := v1752
  let v1923 : Index := Scalar.indexCast v1753
  ![0, 256, v1923.toNat]
def k0_mult118 (i : grid0.Coords) : BitVec 32 :=
  let arg1 : BitVec 32 := BitVec.ofNat 32 (i 1).val
  let c2_i32_784 : BitVec 32 := 2#32
  let v1938 : BitVec 32 := Scalar.subi arg1 c2_i32_784
  let v1939 : BitVec 32 := Scalar.subi arg1 v1938
  let c256_i32_785 : BitVec 32 := 256#32
  let v1940 : BitVec 32 := Scalar.muli v1939 c256_i32_785
  v1940
def k0_off476 (i : grid0.Coords) : Fin 3 → Nat :=
  let c5_786 : Index := 5#32
  let arg1 : BitVec 32 := BitVec.ofNat 32 (i 1).val
  let c2_i32_784 : BitVec 32 := 2#32
  let v1938 : BitVec 32 := Scalar.subi arg1 c2_i32_784
  let v1939 : BitVec 32 := Scalar.subi arg1 v1938
  let c256_i32_785 : BitVec 32 := 256#32
  let v1940 : BitVec 32 := Scalar.muli v1939 c256_i32_785
  let v1941 : BitVec 32 := v1940
  let v1942 : Index := Scalar.indexCast v1941
  let c0_787 : Index := 0#32
  ![5, v1942.toNat, 0]
def k0_off477 (i : grid0.Coords) : Fin 3 → Nat :=
  let c0_792 : Index := 0#32
  let c320 : Index := 320#32
  let arg1 : BitVec 32 := BitVec.ofNat 32 (i 1).val
  let c256_i32_694 : BitVec 32 := 256#32
  let v1752 : BitVec 32 := Scalar.muli arg1 c256_i32_694
  let v1753 : BitVec 32 := v1752
  let v1955 : Index := Scalar.indexCast v1753
  ![0, 320, v1955.toNat]
@[reducible] def k0_t30_loop (i : grid0.Coords) : Scf.Loop 32 :=
  let c0_i32_690 : BitVec 32 := 0#32
  let c1_i32_689 : BitVec 32 := 1#32
  let arg1 : BitVec 32 := BitVec.ofNat 32 (i 1).val
  let c1_i32_668 : BitVec 32 := 1#32
  let v1709 : BitVec 32 := Scalar.minsi arg1 c1_i32_668
  let v1744 : BitVec 32 := Scalar.subi c1_i32_689 v1709
  let v1745 : BitVec 32 := Scalar.subi v1744 c0_i32_690
  let c1_i32_691 : BitVec 32 := 1#32
  let v1747 : BitVec 32 := Scalar.divsi v1745 c1_i32_691
  let v1748 : BitVec 32 := Scalar.muli v1747 c1_i32_691
  let v1749 : BitVec 32 := Scalar.addi c0_i32_690 v1748
  let v1746 : BitVec 32 := Scalar.addi c0_i32_690 v1745
  let c1_i32_693 : BitVec 32 := 1#32
  ⟨v1749, v1746, c1_i32_693⟩
def k0_mult119 (i : grid0.Coords) : BitVec 32 :=
  let arg1 : BitVec 32 := BitVec.ofNat 32 (i 1).val
  let c256_i32_694 : BitVec 32 := 256#32
  let v1752 : BitVec 32 := Scalar.muli arg1 c256_i32_694
  v1752
def k0_off478 (i : grid0.Coords) : Fin 2 → Nat :=
  let arg1 : BitVec 32 := BitVec.ofNat 32 (i 1).val
  let c256_i32_694 : BitVec 32 := 256#32
  let v1752 : BitVec 32 := Scalar.muli arg1 c256_i32_694
  let v1753 : BitVec 32 := v1752
  let v1755 : Index := Scalar.indexCast v1753
  let c0_696 : Index := 0#32
  ![v1755.toNat, 0]
def k0_off479 (i : grid0.Coords) : Fin 3 → Nat :=
  let c0_697 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1758 : Index := Scalar.indexCast v1753
  let c0_698 : Index := 0#32
  ![0, v1758.toNat, 0]
def k0_off480 (i : grid0.Coords) : Fin 3 → Nat :=
  let c0_703 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1764 : Index := Scalar.indexCast v1753
  let c128_704 : Index := 128#32
  ![0, v1764.toNat, 128]
def k0_off481 (i : grid0.Coords) : Fin 3 → Nat :=
  let c0_709 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1770 : Index := Scalar.indexCast v1753
  let c256_710 : Index := 256#32
  ![0, v1770.toNat, 256]
def k0_mult120 (i : grid0.Coords) : BitVec 32 :=
  let arg1 : BitVec 32 := BitVec.ofNat 32 (i 1).val
  let c2_i32_715 : BitVec 32 := 2#32
  let v1778 : BitVec 32 := Scalar.subi arg1 c2_i32_715
  let v1779 : BitVec 32 := Scalar.subi arg1 v1778
  let c256_i32_716 : BitVec 32 := 256#32
  let v1780 : BitVec 32 := Scalar.muli v1779 c256_i32_716
  v1780
def k0_off482 (i : grid0.Coords) : Fin 3 → Nat :=
  let c0_717 : Index := 0#32
  let arg1 : BitVec 32 := BitVec.ofNat 32 (i 1).val
  let c2_i32_715 : BitVec 32 := 2#32
  let v1778 : BitVec 32 := Scalar.subi arg1 c2_i32_715
  let v1779 : BitVec 32 := Scalar.subi arg1 v1778
  let c256_i32_716 : BitVec 32 := 256#32
  let v1780 : BitVec 32 := Scalar.muli v1779 c256_i32_716
  let v1781 : BitVec 32 := v1780
  let v1782 : Index := Scalar.indexCast v1781
  let c0_718 : Index := 0#32
  ![0, v1782.toNat, 0]
def k0_off483 (i : grid0.Coords) : Fin 3 → Nat :=
  let c0_723 : Index := 0#32
  let c0_724 : Index := 0#32
  let arg1 : BitVec 32 := BitVec.ofNat 32 (i 1).val
  let c256_i32_694 : BitVec 32 := 256#32
  let v1752 : BitVec 32 := Scalar.muli arg1 c256_i32_694
  let v1753 : BitVec 32 := v1752
  let v1795 : Index := Scalar.indexCast v1753
  ![0, 0, v1795.toNat]
def k0_mult121 (i : grid0.Coords) : BitVec 32 :=
  let arg1 : BitVec 32 := BitVec.ofNat 32 (i 1).val
  let c2_i32_729 : BitVec 32 := 2#32
  let v1810 : BitVec 32 := Scalar.subi arg1 c2_i32_729
  let v1811 : BitVec 32 := Scalar.subi arg1 v1810
  let c256_i32_730 : BitVec 32 := 256#32
  let v1812 : BitVec 32 := Scalar.muli v1811 c256_i32_730
  v1812
def k0_off484 (i : grid0.Coords) : Fin 3 → Nat :=
  let c1_731 : Index := 1#32
  let arg1 : BitVec 32 := BitVec.ofNat 32 (i 1).val
  let c2_i32_729 : BitVec 32 := 2#32
  let v1810 : BitVec 32 := Scalar.subi arg1 c2_i32_729
  let v1811 : BitVec 32 := Scalar.subi arg1 v1810
  let c256_i32_730 : BitVec 32 := 256#32
  let v1812 : BitVec 32 := Scalar.muli v1811 c256_i32_730
  let v1813 : BitVec 32 := v1812
  let v1814 : Index := Scalar.indexCast v1813
  let c0_732 : Index := 0#32
  ![1, v1814.toNat, 0]
def k0_off485 (i : grid0.Coords) : Fin 3 → Nat :=
  let c0_737 : Index := 0#32
  let c64_738 : Index := 64#32
  let arg1 : BitVec 32 := BitVec.ofNat 32 (i 1).val
  let c256_i32_694 : BitVec 32 := 256#32
  let v1752 : BitVec 32 := Scalar.muli arg1 c256_i32_694
  let v1753 : BitVec 32 := v1752
  let v1827 : Index := Scalar.indexCast v1753
  ![0, 64, v1827.toNat]
def k0_mult122 (i : grid0.Coords) : BitVec 32 :=
  let arg1 : BitVec 32 := BitVec.ofNat 32 (i 1).val
  let c2_i32_743 : BitVec 32 := 2#32
  let v1842 : BitVec 32 := Scalar.subi arg1 c2_i32_743
  let v1843 : BitVec 32 := Scalar.subi arg1 v1842
  let c256_i32_744 : BitVec 32 := 256#32
  let v1844 : BitVec 32 := Scalar.muli v1843 c256_i32_744
  v1844
def k0_off486 (i : grid0.Coords) : Fin 3 → Nat :=
  let c2_745 : Index := 2#32
  let arg1 : BitVec 32 := BitVec.ofNat 32 (i 1).val
  let c2_i32_743 : BitVec 32 := 2#32
  let v1842 : BitVec 32 := Scalar.subi arg1 c2_i32_743
  let v1843 : BitVec 32 := Scalar.subi arg1 v1842
  let c256_i32_744 : BitVec 32 := 256#32
  let v1844 : BitVec 32 := Scalar.muli v1843 c256_i32_744
  let v1845 : BitVec 32 := v1844
  let v1846 : Index := Scalar.indexCast v1845
  let c0_746 : Index := 0#32
  ![2, v1846.toNat, 0]
def k0_off487 (i : grid0.Coords) : Fin 3 → Nat :=
  let c0_751 : Index := 0#32
  let c128_752 : Index := 128#32
  let arg1 : BitVec 32 := BitVec.ofNat 32 (i 1).val
  let c256_i32_694 : BitVec 32 := 256#32
  let v1752 : BitVec 32 := Scalar.muli arg1 c256_i32_694
  let v1753 : BitVec 32 := v1752
  let v1859 : Index := Scalar.indexCast v1753
  ![0, 128, v1859.toNat]
def k0_mult123 (i : grid0.Coords) : BitVec 32 :=
  let arg1 : BitVec 32 := BitVec.ofNat 32 (i 1).val
  let c2_i32_757 : BitVec 32 := 2#32
  let v1874 : BitVec 32 := Scalar.subi arg1 c2_i32_757
  let v1875 : BitVec 32 := Scalar.subi arg1 v1874
  let c256_i32_758 : BitVec 32 := 256#32
  let v1876 : BitVec 32 := Scalar.muli v1875 c256_i32_758
  v1876
def k0_off488 (i : grid0.Coords) : Fin 3 → Nat :=
  let c3_759 : Index := 3#32
  let arg1 : BitVec 32 := BitVec.ofNat 32 (i 1).val
  let c2_i32_757 : BitVec 32 := 2#32
  let v1874 : BitVec 32 := Scalar.subi arg1 c2_i32_757
  let v1875 : BitVec 32 := Scalar.subi arg1 v1874
  let c256_i32_758 : BitVec 32 := 256#32
  let v1876 : BitVec 32 := Scalar.muli v1875 c256_i32_758
  let v1877 : BitVec 32 := v1876
  let v1878 : Index := Scalar.indexCast v1877
  let c0_760 : Index := 0#32
  ![3, v1878.toNat, 0]
def k0_off489 (i : grid0.Coords) : Fin 3 → Nat :=
  let c0_765 : Index := 0#32
  let c192 : Index := 192#32
  let arg1 : BitVec 32 := BitVec.ofNat 32 (i 1).val
  let c256_i32_694 : BitVec 32 := 256#32
  let v1752 : BitVec 32 := Scalar.muli arg1 c256_i32_694
  let v1753 : BitVec 32 := v1752
  let v1891 : Index := Scalar.indexCast v1753
  ![0, 192, v1891.toNat]
def k0_mult124 (i : grid0.Coords) : BitVec 32 :=
  let arg1 : BitVec 32 := BitVec.ofNat 32 (i 1).val
  let c2_i32_770 : BitVec 32 := 2#32
  let v1906 : BitVec 32 := Scalar.subi arg1 c2_i32_770
  let v1907 : BitVec 32 := Scalar.subi arg1 v1906
  let c256_i32_771 : BitVec 32 := 256#32
  let v1908 : BitVec 32 := Scalar.muli v1907 c256_i32_771
  v1908
def k0_off490 (i : grid0.Coords) : Fin 3 → Nat :=
  let c4_772 : Index := 4#32
  let arg1 : BitVec 32 := BitVec.ofNat 32 (i 1).val
  let c2_i32_770 : BitVec 32 := 2#32
  let v1906 : BitVec 32 := Scalar.subi arg1 c2_i32_770
  let v1907 : BitVec 32 := Scalar.subi arg1 v1906
  let c256_i32_771 : BitVec 32 := 256#32
  let v1908 : BitVec 32 := Scalar.muli v1907 c256_i32_771
  let v1909 : BitVec 32 := v1908
  let v1910 : Index := Scalar.indexCast v1909
  let c0_773 : Index := 0#32
  ![4, v1910.toNat, 0]
def k0_off491 (i : grid0.Coords) : Fin 3 → Nat :=
  let c0_778 : Index := 0#32
  let c256_779 : Index := 256#32
  let arg1 : BitVec 32 := BitVec.ofNat 32 (i 1).val
  let c256_i32_694 : BitVec 32 := 256#32
  let v1752 : BitVec 32 := Scalar.muli arg1 c256_i32_694
  let v1753 : BitVec 32 := v1752
  let v1923 : Index := Scalar.indexCast v1753
  ![0, 256, v1923.toNat]
def k0_mult125 (i : grid0.Coords) : BitVec 32 :=
  let arg1 : BitVec 32 := BitVec.ofNat 32 (i 1).val
  let c2_i32_784 : BitVec 32 := 2#32
  let v1938 : BitVec 32 := Scalar.subi arg1 c2_i32_784
  let v1939 : BitVec 32 := Scalar.subi arg1 v1938
  let c256_i32_785 : BitVec 32 := 256#32
  let v1940 : BitVec 32 := Scalar.muli v1939 c256_i32_785
  v1940
def k0_off492 (i : grid0.Coords) : Fin 3 → Nat :=
  let c5_786 : Index := 5#32
  let arg1 : BitVec 32 := BitVec.ofNat 32 (i 1).val
  let c2_i32_784 : BitVec 32 := 2#32
  let v1938 : BitVec 32 := Scalar.subi arg1 c2_i32_784
  let v1939 : BitVec 32 := Scalar.subi arg1 v1938
  let c256_i32_785 : BitVec 32 := 256#32
  let v1940 : BitVec 32 := Scalar.muli v1939 c256_i32_785
  let v1941 : BitVec 32 := v1940
  let v1942 : Index := Scalar.indexCast v1941
  let c0_787 : Index := 0#32
  ![5, v1942.toNat, 0]
def k0_off493 (i : grid0.Coords) : Fin 3 → Nat :=
  let c0_792 : Index := 0#32
  let c320 : Index := 320#32
  let arg1 : BitVec 32 := BitVec.ofNat 32 (i 1).val
  let c256_i32_694 : BitVec 32 := 256#32
  let v1752 : BitVec 32 := Scalar.muli arg1 c256_i32_694
  let v1753 : BitVec 32 := v1752
  let v1955 : Index := Scalar.indexCast v1753
  ![0, 320, v1955.toNat]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x384x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1x8192x384 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x8192x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x384x8192 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S8x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 2 → Memref sig .tc .vmem S1x256x384 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== MixFinal.lean ====
abbrev S8x8192x1024 : Shape := ⟨3, ![8, 8192, 1024]⟩
abbrev S8x8192x384 : Shape := ⟨3, ![8, 8192, 384]⟩
abbrev S8x8192x256 : Shape := ⟨3, ![8, 8192, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S384x1024 : Shape := ⟨2, ![384, 1024]⟩
abbrev S1024x384 : Shape := ⟨2, ![1024, 384]⟩
abbrev S1024x4x96 : Shape := ⟨3, ![1024, 4, 96]⟩
abbrev S1024x4x128 : Shape := ⟨3, ![1024, 4, 128]⟩
abbrev S1024x512 : Shape := ⟨2, ![1024, 512]⟩
abbrev S512x1024 : Shape := ⟨2, ![512, 1024]⟩
abbrev S256x1024 : Shape := ⟨2, ![256, 1024]⟩
abbrev S8x8192x4x96 : Shape := ⟨4, ![8, 8192, 4, 96]⟩
abbrev S8x8192x4x128 : Shape := ⟨4, ![8, 8192, 4, 128]⟩
abbrev S8x8192x512 : Shape := ⟨3, ![8, 8192, 512]⟩
abbrev S1x1024 : Shape := ⟨2, ![1, 1024]⟩
abbrev S1x512x1024 : Shape := ⟨3, ![1, 512, 1024]⟩
abbrev S1x512x512 : Shape := ⟨3, ![1, 512, 512]⟩
abbrev S1x512x384 : Shape := ⟨3, ![1, 512, 384]⟩
abbrev S1x512x256 : Shape := ⟨3, ![1, 512, 256]⟩
abbrev S16x256 : Shape := ⟨2, ![16, 256]⟩
abbrev S512x256 : Shape := ⟨2, ![512, 256]⟩
abbrev S528x256 : Shape := ⟨2, ![528, 256]⟩
abbrev S512x512 : Shape := ⟨2, ![512, 512]⟩
abbrev S512x384 : Shape := ⟨2, ![512, 384]⟩
abbrev S512 : Shape := ⟨1, ![512]⟩
abbrev S512x1 : Shape := ⟨2, ![512, 1]⟩

abbrev nBuf : Space → Nat
  | .hbm => 48
  | .vmem => 19
  | .smem => 0
  | _ => 0

abbrev bufTy : (tb : Table) → Fin (tcTables nBuf tb) → BufTy
  | .hbm, ⟨0, _⟩ => ⟨S8x8192x1024, .f32⟩
  | .hbm, ⟨1, _⟩ => ⟨S8x8192x384, .bf16⟩
  | .hbm, ⟨2, _⟩ => ⟨S8x8192x384, .bf16⟩
  | .hbm, ⟨3, _⟩ => ⟨S8x8192x256, .f32⟩
  | .hbm, ⟨4, _⟩ => ⟨S8x8192x256, .f32⟩
  | .hbm, ⟨5, _⟩ => ⟨S4x64x64, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1x64x64, .f32⟩
  | .hbm, ⟨10, _⟩ => ⟨S64x64, .f32⟩
  | .hbm, ⟨11, _⟩ => ⟨S1x64x64, .f32⟩
  | .hbm, ⟨12, _⟩ => ⟨S64x64, .f32⟩
  | .hbm, ⟨13, _⟩ => ⟨S1x64x64, .f32⟩
  | .hbm, ⟨14, _⟩ => ⟨S64x64, .f32⟩
  | .hbm, ⟨15, _⟩ => ⟨S1x64x64, .f32⟩
  | .hbm, ⟨16, _⟩ => ⟨S64x64, .f32⟩
  | .hbm, ⟨17, _⟩ => ⟨S_, .f32⟩
  | .hbm, ⟨18, _⟩ => ⟨S64x256, .f32⟩
  | .hbm, ⟨19, _⟩ => ⟨S_, .f32⟩
  | .hbm, ⟨20, _⟩ => ⟨S64x256, .f32⟩
  | .hbm, ⟨21, _⟩ => ⟨S_, .f32⟩
  | .hbm, ⟨22, _⟩ => ⟨S64x256, .f32⟩
  | .hbm, ⟨23, _⟩ => ⟨S_, .f32⟩
  | .hbm, ⟨24, _⟩ => ⟨S64x256, .f32⟩
  | .hbm, ⟨25, _⟩ => ⟨S256x256, .f32⟩
  | .hbm, ⟨26, _⟩ => ⟨S256x256, .bf16⟩
  | .hbm, ⟨27, _⟩ => ⟨S1x256, .f32⟩
  | .hbm, ⟨28, _⟩ => ⟨S384x1024, .f32⟩
  | .hbm, ⟨29, _⟩ => ⟨S1024x384, .f32⟩
  | .hbm, ⟨30, _⟩ => ⟨S1024x4x96, .f32⟩
  | .hbm, ⟨31, _⟩ => ⟨S_, .i32⟩
  | .hbm, ⟨32, _⟩ => ⟨S_, .f32⟩
  | .hbm, ⟨33, _⟩ => ⟨S1024x4x128, .f32⟩
  | .hbm, ⟨34, _⟩ => ⟨S1024x512, .f32⟩
  | .hbm, ⟨35, _⟩ => ⟨S512x1024, .f32⟩
  | .hbm, ⟨36, _⟩ => ⟨S512x1024, .bf16⟩
  | .hbm, ⟨37, _⟩ => ⟨S384x1024, .f32⟩
  | .hbm, ⟨38, _⟩ => ⟨S384x1024, .bf16⟩
  | .hbm, ⟨39, _⟩ => ⟨S256x1024, .f32⟩
  | .hbm, ⟨40, _⟩ => ⟨S256x1024, .bf16⟩
  | .hbm, ⟨41, _⟩ => ⟨S8x8192x4x96, .bf16⟩
  | .hbm, ⟨42, _⟩ => ⟨S_, .i32⟩
  | .hbm, ⟨43, _⟩ => ⟨S_, .bf16⟩
  | .hbm, ⟨44, _⟩ => ⟨S8x8192x4x128, .bf16⟩
  | .hbm, ⟨45, _⟩ => ⟨S8x8192x512, .bf16⟩
  | .hbm, ⟨46, _⟩ => ⟨S1x1024, .f32⟩
  | .hbm, ⟨47, _⟩ => ⟨S8x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S512x1024, .bf16⟩
  | .local _ .vmem, ⟨11, _⟩ => ⟨S384x1024, .bf16⟩
  | .local _ .vmem, ⟨12, _⟩ => ⟨S256x1024, .bf16⟩
  | .local _ .vmem, ⟨13, _⟩ => ⟨S256x256, .bf16⟩
  | .local _ .vmem, ⟨14, _⟩ => ⟨S1x256, .f32⟩
  | .local _ .vmem, ⟨15, _⟩ => ⟨S1x1024, .f32⟩
  | .local _ .vmem, ⟨16, _⟩ => ⟨S1x512x1024, .f32⟩
  | .local _ .vmem, ⟨17, _⟩ => ⟨S1x512x1024, .f32⟩
  | .local _ .vmem, ⟨18, _⟩ => ⟨S16x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v4 : Ref sig .tc := ⟨.hbm, 18, rfl⟩
abbrev main_call0_cst_0 : Ref sig .tc := ⟨.hbm, 19, rfl⟩
abbrev main_call0_v5 : Ref sig .tc := ⟨.hbm, 20, rfl⟩
abbrev main_call0_cst_1 : Ref sig .tc := ⟨.hbm, 21, rfl⟩
abbrev main_call0_v6 : Ref sig .tc := ⟨.hbm, 22, rfl⟩
abbrev main_call0_cst_2 : Ref sig .tc := ⟨.hbm, 23, rfl⟩
abbrev main_call0_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_c : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_c_0 : Ref sig .tc := ⟨.hbm, 42, rfl⟩
abbrev main_call2_v0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== MixFinalRefIdeal.lean ====
abbrev S8x8192x1024 : Shape := ⟨3, ![8, 8192, 1024]⟩
abbrev S8x8192x384 : Shape := ⟨3, ![8, 8192, 384]⟩
abbrev S8x8192x256 : Shape := ⟨3, ![8, 8192, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S8x8192x4x64 : Shape := ⟨4, ![8, 8192, 4, 64]⟩
abbrev S8192 : Shape := ⟨1, ![8192]⟩
abbrev S8x8192x1x64 : Shape := ⟨4, ![8, 8192, 1, 64]⟩
abbrev S8x8192x64 : Shape := ⟨3, ![8, 8192, 64]⟩
abbrev S_ : Shape := ⟨0, ![]⟩
abbrev S1x8192x1 : Shape := ⟨3, ![1, 8192, 1]⟩
abbrev S4x64x8x8192 : Shape := ⟨4, ![4, 64, 8, 8192]⟩
abbrev S1x1x256 : Shape := ⟨3, ![1, 1, 256]⟩
abbrev S8x8192 : Shape := ⟨2, ![8, 8192]⟩
abbrev S8x8192x1 : Shape := ⟨3, ![8, 8192, 1]⟩
abbrev S1x1x1024 : Shape := ⟨3, ![1, 1, 1024]⟩

abbrev nBuf : Space → Nat
  | .hbm => 117
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S8x8192x384, .bf16⟩
  | .hbm, ⟨2, _⟩ => ⟨S8x8192x384, .bf16⟩
  | .hbm, ⟨3, _⟩ => ⟨S8x8192x256, .f32⟩
  | .hbm, ⟨4, _⟩ => ⟨S8x8192x256, .f32⟩
  | .hbm, ⟨5, _⟩ => ⟨S4x64x64, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S8x8192x4x64, .f32⟩
  | .hbm, ⟨10, _⟩ => ⟨S8192, .i32⟩
  | .hbm, ⟨11, _⟩ => ⟨S8x8192x1x64, .f32⟩
  | .hbm, ⟨12, _⟩ => ⟨S8x8192x64, .f32⟩
  | .hbm, ⟨13, _⟩ => ⟨S_, .f32⟩
  | .hbm, ⟨14, _⟩ => ⟨S_, .f32⟩
  | .hbm, ⟨15, _⟩ => ⟨S8x8192x64, .f32⟩
  | .hbm, ⟨16, _⟩ => ⟨S_, .i32⟩
  | .hbm, ⟨17, _⟩ => ⟨S8192, .i32⟩
  | .hbm, ⟨18, _⟩ => ⟨S8192, .i32⟩
  | .hbm, ⟨19, _⟩ => ⟨S_, .i32⟩
  | .hbm, ⟨20, _⟩ => ⟨S8192, .i32⟩
  | .hbm, ⟨21, _⟩ => ⟨S8192, .i32⟩
  | .hbm, ⟨22, _⟩ => ⟨S8192, .f32⟩
  | .hbm, ⟨23, _⟩ => ⟨S1x8192x1, .f32⟩
  | .hbm, ⟨24, _⟩ => ⟨S8x8192x64, .f32⟩
  | .hbm, ⟨25, _⟩ => ⟨S8x8192x64, .f32⟩
  | .hbm, ⟨26, _⟩ => ⟨S8x8192x64, .f32⟩
  | .hbm, ⟨27, _⟩ => ⟨S8x8192x1x64, .f32⟩
  | .hbm, ⟨28, _⟩ => ⟨S8x8192x64, .f32⟩
  | .hbm, ⟨29, _⟩ => ⟨S_, .f32⟩
  | .hbm, ⟨30, _⟩ => ⟨S_, .f32⟩
  | .hbm, ⟨31, _⟩ => ⟨S8x8192x64, .f32⟩
  | .hbm, ⟨32, _⟩ => ⟨S_, .i32⟩
  | .hbm, ⟨33, _⟩ => ⟨S8192, .i32⟩
  | .hbm, ⟨34, _⟩ => ⟨S8192, .i32⟩
  | .hbm, ⟨35, _⟩ => ⟨S_, .i32⟩
  | .hbm, ⟨36, _⟩ => ⟨S8192, .i32⟩
  | .hbm, ⟨37, _⟩ => ⟨S8192, .i32⟩
  | .hbm, ⟨38, _⟩ => ⟨S8192, .f32⟩
  | .hbm, ⟨39, _⟩ => ⟨S1x8192x1, .f32⟩
  | .hbm, ⟨40, _⟩ => ⟨S8x8192x64, .f32⟩
  | .hbm, ⟨41, _⟩ => ⟨S8x8192x64, .f32⟩
  | .hbm, ⟨42, _⟩ => ⟨S8x8192x64, .f32⟩
  | .hbm, ⟨43, _⟩ => ⟨S8x8192x1x64, .f32⟩
  | .hbm, ⟨44, _⟩ => ⟨S8x8192x64, .f32⟩
  | .hbm, ⟨45, _⟩ => ⟨S_, .f32⟩
  | .hbm, ⟨46, _⟩ => ⟨S_, .f32⟩
  | .hbm, ⟨47, _⟩ => ⟨S8x8192x64, .f32⟩
  | .hbm, ⟨48, _⟩ => ⟨S_, .i32⟩
  | .hbm, ⟨49, _⟩ => ⟨S8192, .i32⟩
  | .hbm, ⟨50, _⟩ => ⟨S8192, .i32⟩
  | .hbm, ⟨51, _⟩ => ⟨S_, .i32⟩
  | .hbm, ⟨52, _⟩ => ⟨S8192, .i32⟩
  | .hbm, ⟨53, _⟩ => ⟨S8192, .i32⟩
  | .hbm, ⟨54, _⟩ => ⟨S8192, .f32⟩
  | .hbm, ⟨55, _⟩ => ⟨S1x8192x1, .f32⟩
  | .hbm, ⟨56, _⟩ => ⟨S8x8192x64, .f32⟩
  | .hbm, ⟨57, _⟩ => ⟨S8x8192x64, .f32⟩
  | .hbm, ⟨58, _⟩ => ⟨S8x8192x64, .f32⟩
  | .hbm, ⟨59, _⟩ => ⟨S8x8192x1x64, .f32⟩
  | .hbm, ⟨60, _⟩ => ⟨S8x8192x64, .f32⟩
  | .hbm, ⟨61, _⟩ => ⟨S_, .f32⟩
  | .hbm, ⟨62, _⟩ => ⟨S_, .f32⟩
  | .hbm, ⟨63, _⟩ => ⟨S8x8192x64, .f32⟩
  | .hbm, ⟨64, _⟩ => ⟨S_, .i32⟩
  | .hbm, ⟨65, _⟩ => ⟨S8192, .i32⟩
  | .hbm, ⟨66, _⟩ => ⟨S8192, .i32⟩
  | .hbm, ⟨67, _⟩ => ⟨S_, .i32⟩
  | .hbm, ⟨68, _⟩ => ⟨S8192, .i32⟩
  | .hbm, ⟨69, _⟩ => ⟨S8192, .i32⟩
  | .hbm, ⟨70, _⟩ => ⟨S8192, .f32⟩
  | .hbm, ⟨71, _⟩ => ⟨S1x8192x1, .f32⟩
  | .hbm, ⟨72, _⟩ => ⟨S8x8192x64, .f32⟩
  | .hbm, ⟨73, _⟩ => ⟨S8x8192x64, .f32⟩
  | .hbm, ⟨74, _⟩ => ⟨S8x8192x64, .f32⟩
  | .hbm, ⟨75, _⟩ => ⟨S8x8192x1x64, .f32⟩
  | .hbm, ⟨76, _⟩ => ⟨S8x8192x1x64, .f32⟩
  | .hbm, ⟨77, _⟩ => ⟨S8x8192x1x64, .f32⟩
  | .hbm, ⟨78, _⟩ => ⟨S8x8192x1x64, .f32⟩
  | .hbm, ⟨79, _⟩ => ⟨S8x8192x4x64, .f32⟩
  | .hbm, ⟨80, _⟩ => ⟨S4x64x8x8192, .f32⟩
  | .hbm, ⟨81, _⟩ => ⟨S8x8192x4x64, .f32⟩
  | .hbm, ⟨82, _⟩ => ⟨S8x8192x256, .f32⟩
  | .hbm, ⟨83, _⟩ => ⟨S1x1x256, .f32⟩
  | .hbm, ⟨84, _⟩ => ⟨S8x8192x256, .f32⟩
  | .hbm, ⟨85, _⟩ => ⟨S8x8192x256, .f32⟩
  | .hbm, ⟨86, _⟩ => ⟨S8x8192x256, .f32⟩
  | .hbm, ⟨87, _⟩ => ⟨S8x8192x256, .f32⟩
  | .hbm, ⟨88, _⟩ => ⟨S_, .f32⟩
  | .hbm, ⟨89, _⟩ => ⟨S8x8192x256, .f32⟩
  | .hbm, ⟨90, _⟩ => ⟨S8x8192x256, .f32⟩
  | .hbm, ⟨91, _⟩ => ⟨S_, .f32⟩
  | .hbm, ⟨92, _⟩ => ⟨S8x8192x256, .f32⟩
  | .hbm, ⟨93, _⟩ => ⟨S8x8192x256, .f32⟩
  | .hbm, ⟨94, _⟩ => ⟨S8x8192x256, .f32⟩
  | .hbm, ⟨95, _⟩ => ⟨S8x8192x256, .f32⟩
  | .hbm, ⟨96, _⟩ => ⟨S8x8192x384, .f32⟩
  | .hbm, ⟨97, _⟩ => ⟨S8x8192x384, .f32⟩
  | .hbm, ⟨98, _⟩ => ⟨S8x8192x1024, .f32⟩
  | .hbm, ⟨99, _⟩ => ⟨S8x8192x1024, .f32⟩
  | .hbm, ⟨100, _⟩ => ⟨S8x8192x1024, .f32⟩
  | .hbm, ⟨101, _⟩ => ⟨S8x8192x1024, .f32⟩
  | .hbm, ⟨102, _⟩ => ⟨S_, .f32⟩
  | .hbm, ⟨103, _⟩ => ⟨S8x8192, .f32⟩
  | .hbm, ⟨104, _⟩ => ⟨S8x8192x1, .f32⟩
  | .hbm, ⟨105, _⟩ => ⟨S_, .f32⟩
  | .hbm, ⟨106, _⟩ => ⟨S8x8192x1, .f32⟩
  | .hbm, ⟨107, _⟩ => ⟨S8x8192x1, .f32⟩
  | .hbm, ⟨108, _⟩ => ⟨S_, .f32⟩
  | .hbm, ⟨109, _⟩ => ⟨S8x8192x1, .f32⟩
  | .hbm, ⟨110, _⟩ => ⟨S8x8192x1, .f32⟩
  | .hbm, ⟨111, _⟩ => ⟨S8x8192x1, .f32⟩
  | .hbm, ⟨112, _⟩ => ⟨S8x8192x1024, .f32⟩
  | .hbm, ⟨113, _⟩ => ⟨S8x8192x1024, .f32⟩
  | .hbm, ⟨114, _⟩ => ⟨S1x1x1024, .f32⟩
  | .hbm, ⟨115, _⟩ => ⟨S8x8192x1024, .f32⟩
  | .hbm, ⟨116, _⟩ => ⟨S8x8192x1024, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_v6 : Ref sig .tc := ⟨.hbm, 17, rfl⟩
abbrev main_v7 : Ref sig .tc := ⟨.hbm, 18, rfl⟩
abbrev main_c_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_1 : Ref sig .tc := ⟨.hbm, 29, rfl⟩
abbrev main_v17 : Ref sig .tc := ⟨.hbm, 30, rfl⟩
abbrev main_v18 : Ref sig .tc := ⟨.hbm, 31, rfl⟩
abbrev main_c_2 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_4 : Ref sig .tc := ⟨.hbm, 45, rfl⟩
abbrev main_v30 : Ref sig .tc := ⟨.hbm, 46, rfl⟩
abbrev main_v31 : Ref sig .tc := ⟨.hbm, 47, rfl⟩
abbrev main_c_5 : Ref sig .tc := ⟨.hbm, 48, rfl⟩
abbrev main_v32 : Ref sig .tc := ⟨.hbm, 49, rfl⟩
abbrev main_v33 : Ref sig .tc := ⟨.hbm, 50, rfl⟩
abbrev main_c_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_7 : Ref sig .tc := ⟨.hbm, 61, rfl⟩
abbrev main_v43 : Ref sig .tc := ⟨.hbm, 62, rfl⟩
abbrev main_v44 : Ref sig .tc := ⟨.hbm, 63, rfl⟩
abbrev main_c_8 : Ref sig .tc := ⟨.hbm, 64, rfl⟩
abbrev main_v45 : Ref sig .tc := ⟨.hbm, 65, rfl⟩
abbrev main_v46 : Ref sig .tc := ⟨.hbm, 66, rfl⟩
abbrev main_c_9 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_call0_v0 : Ref sig .tc := ⟨.hbm, 86, rfl⟩
abbrev main_call0_v1 : Ref sig .tc := ⟨.hbm, 87, rfl⟩
abbrev main_call0_cst : Ref sig .tc := ⟨.hbm, 88, rfl⟩
abbrev main_call0_v2 : Ref sig .tc := ⟨.hbm, 89, rfl⟩
abbrev main_call0_v3 : Ref sig .tc := ⟨.hbm, 90, rfl⟩
abbrev main_call0_cst_0 : Ref sig .tc := ⟨.hbm, 91, rfl⟩
abbrev main_call0_v4 : Ref sig .tc := ⟨.hbm, 92, rfl⟩
abbrev main_call0_v5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_cst_10 : Ref sig .tc := ⟨.hbm, 102, rfl⟩
abbrev main_v73 : Ref sig .tc := ⟨.hbm, 103, rfl⟩
abbrev main_v74 : Ref sig .tc := ⟨.hbm, 104, rfl⟩
abbrev main_cst_11 : Ref sig .tc := ⟨.hbm, 105, rfl⟩
abbrev main_v75 : Ref sig .tc := ⟨.hbm, 106, rfl⟩
abbrev main_v76 : Ref sig .tc := ⟨.hbm, 107, rfl⟩
abbrev main_cst_12 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]
-- ==== InProj.lean ====
abbrev S8x8192x1024 : Shape := ⟨3, ![8, 8192, 1024]⟩
abbrev S1024 : Shape := ⟨1, ![1024]⟩
abbrev S1024x3380 : Shape := ⟨2, ![1024, 3380]⟩
abbrev S1024x192 : Shape := ⟨2, ![1024, 192]⟩
abbrev S1024x384 : Shape := ⟨2, ![1024, 384]⟩
abbrev S1024x16 : Shape := ⟨2, ![1024, 16]⟩
abbrev S1024x128 : Shape := ⟨2, ![1024, 128]⟩
abbrev S1024x32 : Shape := ⟨2, ![1024, 32]⟩
abbrev S1024x4 : Shape := ⟨2, ![1024, 4]⟩
abbrev S1024x256 : Shape := ⟨2, ![1024, 256]⟩
abbrev S1024x4x48 : Shape := ⟨3, ![1024, 4, 48]⟩
abbrev S_ : Shape := ⟨0, ![]⟩
abbrev S1024x4x64 : Shape := ⟨3, ![1024, 4, 64]⟩
abbrev S1 : Shape := ⟨1, ![1]⟩
abbrev S1024x4x96 : Shape := ⟨3, ![1024, 4, 96]⟩
abbrev S1024x4x128 : Shape := ⟨3, ![1024, 4, 128]⟩
abbrev S1024x512 : Shape := ⟨2, ![1024, 512]⟩
abbrev S1x1024x1x32 : Shape := ⟨4, ![1, 1024, 1, 32]⟩
abbrev S1x1024x4x32 : Shape := ⟨4, ![1, 1024, 4, 32]⟩
abbrev S1024x2944 : Shape := ⟨2, ![1024, 2944]⟩
abbrev S1024x8 : Shape := ⟨2, ![1024, 8]⟩
abbrev S1024x904 : Shape := ⟨2, ![1024, 904]⟩
abbrev S904x1024 : Shape := ⟨2, ![904, 1024]⟩
abbrev S1x1024 : Shape := ⟨2, ![1, 1024]⟩
abbrev S8x8192x256 : Shape := ⟨3, ![8, 8192, 256]⟩
abbrev S8x8192x512 : Shape := ⟨3, ![8, 8192, 512]⟩
abbrev S8x8192x384 : Shape := ⟨3, ![8, 8192, 384]⟩
abbrev S8x8192x128 : Shape := ⟨3, ![8, 8192, 128]⟩
abbrev S8x384x8192 : Shape := ⟨3, ![8, 384, 8192]⟩
abbrev S8x128x8192 : Shape := ⟨3, ![8, 128, 8192]⟩
abbrev S8x8x8192 : Shape := ⟨3, ![8, 8, 8192]⟩
abbrev S1x512x1024 : Shape := ⟨3, ![1, 512, 1024]⟩
abbrev S1x512x256 : Shape := ⟨3, ![1, 512, 256]⟩
abbrev S1x512x512 : Shape := ⟨3, ![1, 512, 512]⟩
abbrev S1x512x384 : Shape := ⟨3, ![1, 512, 384]⟩
abbrev S1x512x128 : Shape := ⟨3, ![1, 512, 128]⟩
abbrev S1x384x512 : Shape := ⟨3, ![1, 384, 512]⟩
abbrev S1x128x512 : Shape := ⟨3, ![1, 128, 512]⟩
abbrev S1x8x512 : Shape := ⟨3, ![1, 8, 512]⟩
abbrev S512x1024 : Shape := ⟨2, ![512, 1024]⟩
abbrev S512 : Shape := ⟨1, ![512]⟩
abbrev S512x1 : Shape := ⟨2, ![512, 1]⟩
abbrev S512x256 : Shape := ⟨2, ![512, 256]⟩
abbrev S512x512 : Shape := ⟨2, ![512, 512]⟩
abbrev S512x384 : Shape := ⟨2, ![512, 384]⟩
abbrev S512x128 : Shape := ⟨2, ![512, 128]⟩
abbrev S384x1024 : Shape := ⟨2, ![384, 1024]⟩
abbrev S384x512 : Shape := ⟨2, ![384, 512]⟩
abbrev S128x1024 : Shape := ⟨2, ![128, 1024]⟩
abbrev S128x512 : Shape := ⟨2, ![128, 512]⟩
abbrev S8x1024 : Shape := ⟨2, ![8, 1024]⟩
abbrev S8x512 : Shape := ⟨2, ![8, 512]⟩
abbrev S8x8192x4x64 : Shape := ⟨4, ![8, 8192, 4, 64]⟩
abbrev S8x8192x4x48 : Shape := ⟨4, ![8, 8192, 4, 48]⟩
abbrev S8x8192x192 : Shape := ⟨3, ![8, 8192, 192]⟩
abbrev S8x8192x16 : Shape := ⟨3, ![8, 8192, 16]⟩
abbrev S8x8192x4x128 : Shape := ⟨4, ![8, 8192, 4, 128]⟩
abbrev S8x8192x4x96 : Shape := ⟨4, ![8, 8192, 4, 96]⟩
abbrev S8x4x8192 : Shape := ⟨3, ![8, 4, 8192]⟩

abbrev nBuf : Space → Nat
  | .hbm => 79
  | .vmem => 31
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3380, .f32⟩
  | .hbm, ⟨3, _⟩ => ⟨S1024x192, .f32⟩
  | .hbm, ⟨4, _⟩ => ⟨S1024x192, .f32⟩
  | .hbm, ⟨5, _⟩ => ⟨S1024x384, .f32⟩
  | .hbm, ⟨6, _⟩ => ⟨S1024x16, .f32⟩
  | .hbm, ⟨7, _⟩ => ⟨S1024x384, .f32⟩
  | .hbm, ⟨8, _⟩ => ⟨S1024x384, .f32⟩
  | .hbm, ⟨9, _⟩ => ⟨S1024x384, .f32⟩
  | .hbm, ⟨10, _⟩ => ⟨S1024x384, .f32⟩
  | .hbm, ⟨11, _⟩ => ⟨S1024x384, .f32⟩
  | .hbm, ⟨12, _⟩ => ⟨S1024x128, .f32⟩
  | .hbm, ⟨13, _⟩ => ⟨S1024x32, .f32⟩
  | .hbm, ⟨14, _⟩ => ⟨S1024x4, .f32⟩
  | .hbm, ⟨15, _⟩ => ⟨S1024x256, .f32⟩
  | .hbm, ⟨16, _⟩ => ⟨S1024x256, .f32⟩
  | .hbm, ⟨17, _⟩ => ⟨S1024x4x48, .f32⟩
  | .hbm, ⟨18, _⟩ => ⟨S_, .i32⟩
  | .hbm, ⟨19, _⟩ => ⟨S_, .f32⟩
  | .hbm, ⟨20, _⟩ => ⟨S1024x4x64, .f32⟩
  | .hbm, ⟨21, _⟩ => ⟨S1024x256, .f32⟩
  | .hbm, ⟨22, _⟩ => ⟨S_, .i32⟩
  | .hbm, ⟨23, _⟩ => ⟨S1, .i32⟩
  | .hbm, ⟨24, _⟩ => ⟨S1024x256, .f32⟩
  | .hbm, ⟨25, _⟩ => ⟨S1024x4x48, .f32⟩
  | .hbm, ⟨26, _⟩ => ⟨S_, .i32⟩
  | .hbm, ⟨27, _⟩ => ⟨S_, .f32⟩
  | .hbm, ⟨28, _⟩ => ⟨S1024x4x64, .f32⟩
  | .hbm, ⟨29, _⟩ => ⟨S1024x256, .f32⟩
  | .hbm, ⟨30, _⟩ => ⟨S1024x4x96, .f32⟩
  | .hbm, ⟨31, _⟩ => ⟨S_, .i32⟩
  | .hbm, ⟨32, _⟩ => ⟨S_, .f32⟩
  | .hbm, ⟨33, _⟩ => ⟨S1024x4x128, .f32⟩
  | .hbm, ⟨34, _⟩ => ⟨S1024x512, .f32⟩
  | .hbm, ⟨35, _⟩ => ⟨S1024x4x96, .f32⟩
  | .hbm, ⟨36, _⟩ => ⟨S_, .i32⟩
  | .hbm, ⟨37, _⟩ => ⟨S_, .f32⟩
  | .hbm, ⟨38, _⟩ => ⟨S1024x4x128, .f32⟩
  | .hbm, ⟨39, _⟩ => ⟨S1024x512, .f32⟩
  | .hbm, ⟨40, _⟩ => ⟨S1x1024x1x32, .f32⟩
  | .hbm, ⟨41, _⟩ => ⟨S1x1024x4x32, .f32⟩
  | .hbm, ⟨42, _⟩ => ⟨S1024x128, .f32⟩
  | .hbm, ⟨43, _⟩ => ⟨S1024x2944, .f32⟩
  | .hbm, ⟨44, _⟩ => ⟨S1024x2944, .bf16⟩
  | .hbm, ⟨45, _⟩ => ⟨S_, .i32⟩
  | .hbm, ⟨46, _⟩ => ⟨S_, .f32⟩
  | .hbm, ⟨47, _⟩ => ⟨S1024x8, .f32⟩
  | .hbm, ⟨48, _⟩ => ⟨S1024x904, .f32⟩
  | .hbm, ⟨49, _⟩ => ⟨S904x1024, .f32⟩
  | .hbm, ⟨50, _⟩ => ⟨S904x1024, .bf16⟩
  | .hbm, ⟨51, _⟩ => ⟨S1x1024, .f32⟩
  | .hbm, ⟨52, _⟩ => ⟨S8x8192x256, .f32⟩
  | .hbm, ⟨53, _⟩ => ⟨S8x8192x256, .f32⟩
  | .hbm, ⟨54, _⟩ => ⟨S8x8192x512, .f32⟩
  | .hbm, ⟨55, _⟩ => ⟨S8x8192x512, .f32⟩
  | .hbm, ⟨56, _⟩ => ⟨S8x8192x384, .bf16⟩
  | .hbm, ⟨57, _⟩ => ⟨S8x8192x128, .bf16⟩
  | .hbm, ⟨58, _⟩ => ⟨S8x8192x384, .f32⟩
  | .hbm, ⟨59, _⟩ => ⟨S8x8192x256, .f32⟩
  | .hbm, ⟨60, _⟩ => ⟨S8x8192x256, .f32⟩
  | .hbm, ⟨61, _⟩ => ⟨S8x384x8192, .bf16⟩
  | .hbm, ⟨62, _⟩ => ⟨S8x384x8192, .bf16⟩
  | .hbm, ⟨63, _⟩ => ⟨S8x128x8192, .bf16⟩
  | .hbm, ⟨64, _⟩ => ⟨S8x8x8192, .f32⟩
  | .hbm, ⟨65, _⟩ => ⟨S8x8192x4x64, .f32⟩
  | .hbm, ⟨66, _⟩ => ⟨S8x8192x4x48, .f32⟩
  | .hbm, ⟨67, _⟩ => ⟨S8x8192x192, .f32⟩
  | .hbm, ⟨68, _⟩ => ⟨S8x8192x16, .f32⟩
  | .hbm, ⟨69, _⟩ => ⟨S8x8192x4x64, .f32⟩
  | .hbm, ⟨70, _⟩ => ⟨S8x8192x4x48, .f32⟩
  | .hbm, ⟨71, _⟩ => ⟨S8x8192x192, .f32⟩
  | .hbm, ⟨72, _⟩ => ⟨S8x8192x4x128, .f32⟩
  | .hbm, ⟨73, _⟩ => ⟨S8x8192x4x96, .f32⟩
  | .hbm, ⟨74, _⟩ => ⟨S8x8192x384, .f32⟩
  | .hbm, ⟨75, _⟩ => ⟨S8x8192x4x128, .f32⟩
  | .hbm, ⟨76, _⟩ => ⟨S8x8192x4x96, .f32⟩
  | .hbm, ⟨77, _⟩ => ⟨S8x8192x384, .f32⟩
  | .hbm, ⟨78, _⟩ => ⟨S8x4x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1024x2944, .bf16⟩
  | .local _ .vmem, ⟨4, _⟩ => ⟨S904x1024, .bf16⟩
  | .local _ .vmem, ⟨5, _⟩ => ⟨S1x512x256, .f32⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S1x512x384, .bf16⟩
  | .local _ .vmem, ⟨14, _⟩ => ⟨S1x512x384, .bf16⟩
  | .local _ .vmem, ⟨15, _⟩ => ⟨S1x512x128, .bf16⟩
  | .local _ .vmem, ⟨16, _⟩ => ⟨S1x512x128, .bf16⟩
  | .local _ .vmem, ⟨17, _⟩ => ⟨S1x512x384, .f32⟩
  | .local _ .vmem, ⟨18, _⟩ => ⟨S1x512x384, .f32⟩
  | .local _ .vmem, ⟨19, _⟩ => ⟨S1x512x256, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x384x512, .bf16⟩
  | .local _ .vmem, ⟨24, _⟩ => ⟨S1x384x512, .bf16⟩
  | .local _ .vmem, ⟨25, _⟩ => ⟨S1x384x512, .bf16⟩
  | .local _ .vmem, ⟨26, _⟩ => ⟨S1x384x512, .bf16⟩
  | .local _ .vmem, ⟨27, _⟩ => ⟨S1x128x512, .bf16⟩
  | .local _ .vmem, ⟨28, _⟩ => ⟨S1x128x512, .bf16⟩
  | .local _ .vmem, ⟨29, _⟩ => ⟨S1x8x512, .f32⟩
  | .local _ .vmem, ⟨30, _⟩ => ⟨S1x8x512, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_c : Ref sig .tc := ⟨.hbm, 18, rfl⟩
abbrev main_call0_v0 : Ref sig .tc := ⟨.hbm, 19, rfl⟩
abbrev main_v15 : Ref sig .tc := ⟨.hbm, 20, rfl⟩
abbrev main_v16 : Ref sig .tc := ⟨.hbm, 21, rfl⟩
abbrev main_c_0 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_c_1 : Ref sig .tc := ⟨.hbm, 26, rfl⟩
abbrev main_call1_v0 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_c_2 : Ref sig .tc := ⟨.hbm, 31, rfl⟩
abbrev main_call2_v0 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_c_3 : Ref sig .tc := ⟨.hbm, 36, rfl⟩
abbrev main_call3_v0 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c_4 : Ref sig .tc := ⟨.hbm, 45, rfl⟩
abbrev main_call4_v0 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38_0 : Ref sig .tc := ⟨.hbm, 52, rfl⟩
abbrev main_v38_1 : Ref sig .tc := ⟨.hbm, 53, rfl⟩
abbrev main_v38_2 : Ref sig .tc := ⟨.hbm, 54, rfl⟩
abbrev main_v38_3 : Ref sig .tc := ⟨.hbm, 55, rfl⟩
abbrev main_v38_4 : Ref sig .tc := ⟨.hbm, 56, rfl⟩
abbrev main_v38_5 : Ref sig .tc := ⟨.hbm, 57, rfl⟩
abbrev main_v38_6 : Ref sig .tc := ⟨.hbm, 58, rfl⟩
abbrev main_v38_7 : Ref sig .tc := ⟨.hbm, 59, rfl⟩
abbrev main_v38_8 : Ref sig .tc := ⟨.hbm, 60, rfl⟩
abbrev main_v38_9 : Ref sig .tc := ⟨.hbm, 61, rfl⟩
abbrev main_v38_10 : Ref sig .tc := ⟨.hbm, 62, rfl⟩
abbrev main_v38_11 : Ref sig .tc := ⟨.hbm, 63, rfl⟩
abbrev main_v38_12 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x2944 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S904x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x384 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x384x512 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x384x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x128x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== InProjRefIdeal.lean ====
abbrev S8x8192x1024 : Shape := ⟨3, ![8, 8192, 1024]⟩
abbrev S1024 : Shape := ⟨1, ![1024]⟩
abbrev S1024x3380 : Shape := ⟨2, ![1024, 3380]⟩
abbrev S_ : Shape := ⟨0, ![]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3380 : Shape := ⟨3, ![8, 8192, 3380]⟩
abbrev S8x8192x192 : Shape := ⟨3, ![8, 8192, 192]⟩
abbrev S8x8192x384 : Shape := ⟨3, ![8, 8192, 384]⟩
abbrev S8x8192x16 : Shape := ⟨3, ![8, 8192, 16]⟩
abbrev S8x8192x128 : Shape := ⟨3, ![8, 8192, 128]⟩
abbrev S8x8192x32 : Shape := ⟨3, ![8, 8192, 32]⟩
abbrev S8x8192x4 : Shape := ⟨3, ![8, 8192, 4]⟩
abbrev S8x8192x256 : Shape := ⟨3, ![8, 8192, 256]⟩
abbrev S1x8x1x8192x1x32 : Shape := ⟨6, ![1, 8, 1, 8192, 1, 32]⟩
abbrev S1x8x1x8192x4x32 : Shape := ⟨6, ![1, 8, 1, 8192, 4, 32]⟩
abbrev S8x384x8192 : Shape := ⟨3, ![8, 384, 8192]⟩
abbrev S8x128x8192 : Shape := ⟨3, ![8, 128, 8192]⟩
abbrev S8x4x8192 : Shape := ⟨3, ![8, 4, 8192]⟩

abbrev nBuf : Space → Nat
  | .hbm => 49
  | .vmem => 0
  | .smem => 0
  | _ => 0

abbrev bufTy : (tb : Table) → Fin (tcTables nBuf tb) → BufTy
  | .hbm, ⟨0, _⟩ => ⟨S8x8192x1024, .f32⟩
  | .hbm, ⟨1, _⟩ => ⟨S1024, .f32⟩
  | .hbm, ⟨2, _⟩ => ⟨S1024x3380, .f32⟩
  | .hbm, ⟨3, _⟩ => ⟨S8x8192x1024, .f32⟩
  | .hbm, ⟨4, _⟩ => ⟨S_, .f32⟩
  | .hbm, ⟨5, _⟩ => ⟨S8x8192, .f32⟩
  | .hbm, ⟨6, _⟩ => ⟨S8x8192x1, .f32⟩
  | .hbm, ⟨7, _⟩ => ⟨S_, .f32⟩
  | .hbm, ⟨8, _⟩ => ⟨S8x8192x1, .f32⟩
  | .hbm, ⟨9, _⟩ => ⟨S8x8192x1, .f32⟩
  | .hbm, ⟨10, _⟩ => ⟨S_, .f32⟩
  | .hbm, ⟨11, _⟩ => ⟨S8x8192x1, .f32⟩
  | .hbm, ⟨12, _⟩ => ⟨S8x8192x1, .f32⟩
  | .hbm, ⟨13, _⟩ => ⟨S8x8192x1, .f32⟩
  | .hbm, ⟨14, _⟩ => ⟨S8x8192x1024, .f32⟩
  | .hbm, ⟨15, _⟩ => ⟨S8x8192x1024, .f32⟩
  | .hbm, ⟨16, _⟩ => ⟨S1x1x1024, .f32⟩
  | .hbm, ⟨17, _⟩ => ⟨S8x8192x1024, .f32⟩
  | .hbm, ⟨18, _⟩ => ⟨S8x8192x1024, .f32⟩
  | .hbm, ⟨19, _⟩ => ⟨S8x8192x3380, .f32⟩
  | .hbm, ⟨20, _⟩ => ⟨S8x8192x192, .f32⟩
  | .hbm, ⟨21, _⟩ => ⟨S8x8192x192, .f32⟩
  | .hbm, ⟨22, _⟩ => ⟨S8x8192x384, .f32⟩
  | .hbm, ⟨23, _⟩ => ⟨S8x8192x16, .f32⟩
  | .hbm, ⟨24, _⟩ => ⟨S8x8192x384, .f32⟩
  | .hbm, ⟨25, _⟩ => ⟨S8x8192x384, .f32⟩
  | .hbm, ⟨26, _⟩ => ⟨S8x8192x384, .f32⟩
  | .hbm, ⟨27, _⟩ => ⟨S8x8192x384, .f32⟩
  | .hbm, ⟨28, _⟩ => ⟨S8x8192x384, .f32⟩
  | .hbm, ⟨29, _⟩ => ⟨S8x8192x128, .f32⟩
  | .hbm, ⟨30, _⟩ => ⟨S8x8192x32, .f32⟩
  | .hbm, ⟨31, _⟩ => ⟨S8x8192x4, .f32⟩
  | .hbm, ⟨32, _⟩ => ⟨S8x8192x256, .f32⟩
  | .hbm, ⟨33, _⟩ => ⟨S8x8192x256, .f32⟩
  | .hbm, ⟨34, _⟩ => ⟨S8x8192x384, .bf16⟩
  | .hbm, ⟨35, _⟩ => ⟨S1x8x1x8192x1x32, .f32⟩
  | .hbm, ⟨36, _⟩ => ⟨S1x8x1x8192x4x32, .f32⟩
  | .hbm, ⟨37, _⟩ => ⟨S8x8192x128, .f32⟩
  | .hbm, ⟨38, _⟩ => ⟨S8x8192x128, .bf16⟩
  | .hbm, ⟨39, _⟩ => ⟨S_, .f32⟩
  | .hbm, ⟨40, _⟩ => ⟨S8x8192x384, .f32⟩
  | .hbm, ⟨41, _⟩ => ⟨S8x8192x384, .f32⟩
  | .hbm, ⟨42, _⟩ => ⟨S8x384x8192, .f32⟩
  | .hbm, ⟨43, _⟩ => ⟨S8x384x8192, .bf16⟩
  | .hbm, ⟨44, _⟩ => ⟨S8x384x8192, .f32⟩
  | .hbm, ⟨45, _⟩ => ⟨S8x384x8192, .bf16⟩
  | .hbm, ⟨46, _⟩ => ⟨S8x128x8192, .f32⟩
  | .hbm, ⟨47, _⟩ => ⟨S8x128x8192, .bf16⟩
  | .hbm, ⟨48, _⟩ => ⟨S8x4x8192, .f32⟩
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_cst_2 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩

abbrev nD : Nat := 1
abbrev τ : Topo := Topo.v7x

variable {F : FTy → Type} [FloatOps F]
-- ==== MixProject.lean ====
abbrev S8x8192x1024 : Shape := ⟨3, ![8, 8192, 1024]⟩
abbrev S8x8192x384 : Shape := ⟨3, ![8, 8192, 384]⟩
abbrev S8x8192x256 : Shape := ⟨3, ![8, 8192, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S1024x3380 : Shape := ⟨2, ![1024, 3380]⟩
abbrev S1x64x64 : Shape := ⟨3, ![1, 64, 64]⟩
abbrev S64x64 : Shape := ⟨2, ![64, 64]⟩
abbrev S_ : Shape := ⟨0, ![]⟩
abbrev S64x256 : Shape := ⟨2, ![64, 256]⟩
abbrev S256x256 : Shape := ⟨2, ![256, 256]⟩
abbrev S1x256 : Shape := ⟨2, ![1, 256]⟩
abbrev S384x1024 : Shape := ⟨2, ![384, 1024]⟩
abbrev S1024x384 : Shape := ⟨2, ![1024, 384]⟩
abbrev S1024x4x96 : Shape := ⟨3, ![1024, 4, 96]⟩
abbrev S1024x4x128 : Shape := ⟨3, ![1024, 4, 128]⟩
abbrev S1024x512 : Shape := ⟨2, ![1024, 512]⟩
abbrev S512x1024 : Shape := ⟨2, ![512, 1024]⟩
abbrev S256x1024 : Shape := ⟨2, ![256, 1024]⟩
abbrev S8x8192x4x96 : Shape := ⟨4, ![8, 8192, 4, 96]⟩
abbrev S8x8192x4x128 : Shape := ⟨4, ![8, 8192, 4, 128]⟩
abbrev S8x8192x512 : Shape := ⟨3, ![8, 8192, 512]⟩
abbrev S1024x192 : Shape := ⟨2, ![1024, 192]⟩
abbrev S1024x16 : Shape := ⟨2, ![1024, 16]⟩
abbrev S1024x128 : Shape := ⟨2, ![1024, 128]⟩
abbrev S1024x32 : Shape := ⟨2, ![1024, 32]⟩
abbrev S1024x4 : Shape := ⟨2, ![1024, 4]⟩
abbrev S1024x256 : Shape := ⟨2, ![1024, 256]⟩
abbrev S1024x4x48 : Shape := ⟨3, ![1024, 4, 48]⟩
abbrev S1024x4x64 : Shape := ⟨3, ![1024, 4, 64]⟩
abbrev S1 : Shape := ⟨1, ![1]⟩
abbrev S1x1024x1x32 : Shape := ⟨4, ![1, 1024, 1, 32]⟩
abbrev S1x1024x4x32 : Shape := ⟨4, ![1, 1024, 4, 32]⟩
abbrev S1024x2944 : Shape := ⟨2, ![1024, 2944]⟩
abbrev S1024x8 : Shape := ⟨2, ![1024, 8]⟩
abbrev S1024x904 : Shape := ⟨2, ![1024, 904]⟩
abbrev S904x1024 : Shape := ⟨2, ![904, 1024]⟩
abbrev S1x1024 : Shape := ⟨2, ![1, 1024]⟩
abbrev S8x8192x128 : Shape := ⟨3, ![8, 8192, 128]⟩
abbrev S8x384x8192 : Shape := ⟨3, ![8, 384, 8192]⟩
abbrev S8x128x8192 : Shape := ⟨3, ![8, 128, 8192]⟩
abbrev S8x8x8192 : Shape := ⟨3, ![8, 8, 8192]⟩
abbrev S1x512x1024 : Shape := ⟨3, ![1, 512, 1024]⟩
abbrev S1x512x512 : Shape := ⟨3, ![1, 512, 512]⟩
abbrev S1x512x384 : Shape := ⟨3, ![1, 512, 384]⟩
abbrev S1x512x256 : Shape := ⟨3, ![1, 512, 256]⟩
abbrev S1x512x128 : Shape := ⟨3, ![1, 512, 128]⟩
abbrev S1x384x512 : Shape := ⟨3, ![1, 384, 512]⟩
abbrev S1x128x512 : Shape := ⟨3, ![1, 128, 512]⟩
abbrev S1x8x512 : Shape := ⟨3, ![1, 8, 512]⟩
abbrev S16x256 : Shape := ⟨2, ![16, 256]⟩
abbrev S512x256 : Shape := ⟨2, ![512, 256]⟩
abbrev S528x256 : Shape := ⟨2, ![528, 256]⟩
abbrev S512x512 : Shape := ⟨2, ![512, 512]⟩
abbrev S512x384 : Shape := ⟨2, ![512, 384]⟩
abbrev S512 : Shape := ⟨1, ![512]⟩
abbrev S512x1 : Shape := ⟨2, ![512, 1]⟩
abbrev S512x128 : Shape := ⟨2, ![512, 128]⟩
abbrev S384x512 : Shape := ⟨2, ![384, 512]⟩
abbrev S128x1024 : Shape := ⟨2, ![128, 1024]⟩
abbrev S128x512 : Shape := ⟨2, ![128, 512]⟩
abbrev S8x1024 : Shape := ⟨2, ![8, 1024]⟩
abbrev S8x512 : Shape := ⟨2, ![8, 512]⟩
abbrev S8x8192x4x64 : Shape := ⟨4, ![8, 8192, 4, 64]⟩
abbrev S8x8192x4x48 : Shape := ⟨4, ![8, 8192, 4, 48]⟩
abbrev S8x8192x192 : Shape := ⟨3, ![8, 8192, 192]⟩
abbrev S8x8192x16 : Shape := ⟨3, ![8, 8192, 16]⟩
abbrev S8x4x8192 : Shape := ⟨3, ![8, 4, 8192]⟩

abbrev nBuf : Space → Nat
  | .hbm => 124
  | .vmem => 47
  | .smem => 0
  | _ => 0

abbrev bufTy : (tb : Table) → Fin (tcTables nBuf tb) → BufTy
  | .hbm, ⟨0, _⟩ => ⟨S8x8192x1024, .f32⟩
  | .hbm, ⟨1, _⟩ => ⟨S8x8192x384, .bf16⟩
  | .hbm, ⟨2, _⟩ => ⟨S8x8192x384, .bf16⟩
  | .hbm, ⟨3, _⟩ => ⟨S8x8192x256, .f32⟩
  | .hbm, ⟨4, _⟩ => ⟨S8x8192x256, .f32⟩
  | .hbm, ⟨5, _⟩ => ⟨S4x64x64, .f32⟩
  | .hbm, ⟨6, _⟩ => ⟨S256, .f32⟩
  | .hbm, ⟨7, _⟩ => ⟨S1024x1024, .f32⟩
  | .hbm, ⟨8, _⟩ => ⟨S1024, .f32⟩
  | .hbm, ⟨9, _⟩ => ⟨S1024x3380, .f32⟩
  | .hbm, ⟨10, _⟩ => ⟨S1x64x64, .f32⟩
  | .hbm, ⟨11, _⟩ => ⟨S64x64, .f32⟩
  | .hbm, ⟨12, _⟩ => ⟨S1x64x64, .f32⟩
  | .hbm, ⟨13, _⟩ => ⟨S64x64, .f32⟩
  | .hbm, ⟨14, _⟩ => ⟨S1x64x64, .f32⟩
  | .hbm, ⟨15, _⟩ => ⟨S64x64, .f32⟩
  | .hbm, ⟨16, _⟩ => ⟨S1x64x64, .f32⟩
  | .hbm, ⟨17, _⟩ => ⟨S64x64, .f32⟩
  | .hbm, ⟨18, _⟩ => ⟨S_, .f32⟩
  | .hbm, ⟨19, _⟩ => ⟨S64x256, .f32⟩
  | .hbm, ⟨20, _⟩ => ⟨S_, .f32⟩
  | .hbm, ⟨21, _⟩ => ⟨S64x256, .f32⟩
  | .hbm, ⟨22, _⟩ => ⟨S_, .f32⟩
  | .hbm, ⟨23, _⟩ => ⟨S64x256, .f32⟩
  | .hbm, ⟨24, _⟩ => ⟨S_, .f32⟩
  | .hbm, ⟨25, _⟩ => ⟨S64x256, .f32⟩
  | .hbm, ⟨26, _⟩ => ⟨S256x256, .f32⟩
  | .hbm, ⟨27, _⟩ => ⟨S256x256, .bf16⟩
  | .hbm, ⟨28, _⟩ => ⟨S1x256, .f32⟩
  | .hbm, ⟨29, _⟩ => ⟨S384x1024, .f32⟩
  | .hbm, ⟨30, _⟩ => ⟨S1024x384, .f32⟩
  | .hbm, ⟨31, _⟩ => ⟨S1024x4x96, .f32⟩
  | .hbm, ⟨32, _⟩ => ⟨S_, .i32⟩
  | .hbm, ⟨33, _⟩ => ⟨S_, .f32⟩
  | .hbm, ⟨34, _⟩ => ⟨S1024x4x128, .f32⟩
  | .hbm, ⟨35, _⟩ => ⟨S1024x512, .f32⟩
  | .hbm, ⟨36, _⟩ => ⟨S512x1024, .f32⟩
  | .hbm, ⟨37, _⟩ => ⟨S512x1024, .bf16⟩
  | .hbm, ⟨38, _⟩ => ⟨S384x1024, .f32⟩
  | .hbm, ⟨39, _⟩ => ⟨S384x1024, .bf16⟩
  | .hbm, ⟨40, _⟩ => ⟨S256x1024, .f32⟩
  | .hbm, ⟨41, _⟩ => ⟨S256x1024, .bf16⟩
  | .hbm, ⟨42, _⟩ => ⟨S8x8192x4x96, .bf16⟩
  | .hbm, ⟨43, _⟩ => ⟨S_, .i32⟩
  | .hbm, ⟨44, _⟩ => ⟨S_, .bf16⟩
  | .hbm, ⟨45, _⟩ => ⟨S8x8192x4x128, .bf16⟩
  | .hbm, ⟨46, _⟩ => ⟨S8x8192x512, .bf16⟩
  | .hbm, ⟨47, _⟩ => ⟨S1024x192, .f32⟩
  | .hbm, ⟨48, _⟩ => ⟨S1024x192, .f32⟩
  | .hbm, ⟨49, _⟩ => ⟨S1024x384, .f32⟩
  | .hbm, ⟨50, _⟩ => ⟨S1024x16, .f32⟩
  | .hbm, ⟨51, _⟩ => ⟨S1024x384, .f32⟩
  | .hbm, ⟨52, _⟩ => ⟨S1024x384, .f32⟩
  | .hbm, ⟨53, _⟩ => ⟨S1024x384, .f32⟩
  | .hbm, ⟨54, _⟩ => ⟨S1024x384, .f32⟩
  | .hbm, ⟨55, _⟩ => ⟨S1024x384, .f32⟩
  | .hbm, ⟨56, _⟩ => ⟨S1024x128, .f32⟩
  | .hbm, ⟨57, _⟩ => ⟨S1024x32, .f32⟩
  | .hbm, ⟨58, _⟩ => ⟨S1024x4, .f32⟩
  | .hbm, ⟨59, _⟩ => ⟨S1024x256, .f32⟩
  | .hbm, ⟨60, _⟩ => ⟨S1024x256, .f32⟩
  | .hbm, ⟨61, _⟩ => ⟨S1024x4x48, .f32⟩
  | .hbm, ⟨62, _⟩ => ⟨S_, .i32⟩
  | .hbm, ⟨63, _⟩ => ⟨S_, .f32⟩
  | .hbm, ⟨64, _⟩ => ⟨S1024x4x64, .f32⟩
  | .hbm, ⟨65, _⟩ => ⟨S1024x256, .f32⟩
  | .hbm, ⟨66, _⟩ => ⟨S_, .i32⟩
  | .hbm, ⟨67, _⟩ => ⟨S1, .i32⟩
  | .hbm, ⟨68, _⟩ => ⟨S1024x256, .f32⟩
  | .hbm, ⟨69, _⟩ => ⟨S1024x4x48, .f32⟩
  | .hbm, ⟨70, _⟩ => ⟨S_, .i32⟩
  | .hbm, ⟨71, _⟩ => ⟨S_, .f32⟩
  | .hbm, ⟨72, _⟩ => ⟨S1024x4x64, .f32⟩
  | .hbm, ⟨73, _⟩ => ⟨S1024x256, .f32⟩
  | .hbm, ⟨74, _⟩ => ⟨S1024x4x96, .f32⟩
  | .hbm, ⟨75, _⟩ => ⟨S_, .i32⟩
  | .hbm, ⟨76, _⟩ => ⟨S_, .f32⟩
  | .hbm, ⟨77, _⟩ => ⟨S1024x4x128, .f32⟩
  | .hbm, ⟨78, _⟩ => ⟨S1024x512, .f32⟩
  | .hbm, ⟨79, _⟩ => ⟨S1024x4x96, .f32⟩
  | .hbm, ⟨80, _⟩ => ⟨S_, .i32⟩
  | .hbm, ⟨81, _⟩ => ⟨S_, .f32⟩
  | .hbm, ⟨82, _⟩ => ⟨S1024x4x128, .f32⟩
  | .hbm, ⟨83, _⟩ => ⟨S1024x512, .f32⟩
  | .hbm, ⟨84, _⟩ => ⟨S1x1024x1x32, .f32⟩
  | .hbm, ⟨85, _⟩ => ⟨S1x1024x4x32, .f32⟩
  | .hbm, ⟨86, _⟩ => ⟨S1024x128, .f32⟩
  | .hbm, ⟨87, _⟩ => ⟨S1024x2944, .f32⟩
  | .hbm, ⟨88, _⟩ => ⟨S1024x2944, .bf16⟩
  | .hbm, ⟨89, _⟩ => ⟨S_, .i32⟩
  | .hbm, ⟨90, _⟩ => ⟨S_, .f32⟩
  | .hbm, ⟨91, _⟩ => ⟨S1024x8, .f32⟩
  | .hbm, ⟨92, _⟩ => ⟨S1024x904, .f32⟩
  | .hbm, ⟨93, _⟩ => ⟨S904x1024, .f32⟩
  | .hbm, ⟨94, _⟩ => ⟨S904x1024, .bf16⟩
  | .hbm, ⟨95, _⟩ => ⟨S1x1024, .f32⟩
  | .hbm, ⟨96, _⟩ => ⟨S8x8192x1024, .f32⟩
  | .hbm, ⟨97, _⟩ => ⟨S8x8192x256, .f32⟩
  | .hbm, ⟨98, _⟩ => ⟨S8x8192x256, .f32⟩
  | .hbm, ⟨99, _⟩ => ⟨S8x8192x512, .f32⟩
  | .hbm, ⟨100, _⟩ => ⟨S8x8192x512, .f32⟩
  | .hbm, ⟨101, _⟩ => ⟨S8x8192x384, .bf16⟩
  | .hbm, ⟨102, _⟩ => ⟨S8x8192x128, .bf16⟩
  | .hbm, ⟨103, _⟩ => ⟨S8x8192x384, .f32⟩
  | .hbm, ⟨104, _⟩ => ⟨S8x8192x256, .f32⟩
  | .hbm, ⟨105, _⟩ => ⟨S8x8192x256, .f32⟩
  | .hbm, ⟨106, _⟩ => ⟨S8x384x8192, .bf16⟩
  | .hbm, ⟨107, _⟩ => ⟨S8x384x8192, .bf16⟩
  | .hbm, ⟨108, _⟩ => ⟨S8x128x8192, .bf16⟩
  | .hbm, ⟨109, _⟩ => ⟨S8x8x8192, .f32⟩
  | .hbm, ⟨110, _⟩ => ⟨S8x8192x4x64, .f32⟩
  | .hbm, ⟨111, _⟩ => ⟨S8x8192x4x48, .f32⟩
  | .hbm, ⟨112, _⟩ => ⟨S8x8192x192, .f32⟩
  | .hbm, ⟨113, _⟩ => ⟨S8x8192x16, .f32⟩
  | .hbm, ⟨114, _⟩ => ⟨S8x8192x4x64, .f32⟩
  | .hbm, ⟨115, _⟩ => ⟨S8x8192x4x48, .f32⟩
  | .hbm, ⟨116, _⟩ => ⟨S8x8192x192, .f32⟩
  | .hbm, ⟨117, _⟩ => ⟨S8x8192x4x128, .f32⟩
  | .hbm, ⟨118, _⟩ => ⟨S8x8192x4x96, .f32⟩
  | .hbm, ⟨119, _⟩ => ⟨S8x8192x384, .f32⟩
  | .hbm, ⟨120, _⟩ => ⟨S8x8192x4x128, .f32⟩
  | .hbm, ⟨121, _⟩ => ⟨S8x8192x4x96, .f32⟩
  | .hbm, ⟨122, _⟩ => ⟨S8x8192x384, .f32⟩
  | .hbm, ⟨123, _⟩ => ⟨S8x4x8192, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .bf16⟩
  | .local _ .vmem, ⟨3, _⟩ => ⟨S1x512x512, .bf16⟩
  | .local _ .vmem, ⟨4, _⟩ => ⟨S1x512x384, .bf16⟩
  | .local _ .vmem, ⟨5, _⟩ => ⟨S1x512x384, .bf16⟩
  | .local _ .vmem, ⟨6, _⟩ => ⟨S1x512x256, .f32⟩
  | .local _ .vmem, ⟨7, _⟩ => ⟨S1x512x256, .f32⟩
  | .local _ .vmem, ⟨8, _⟩ => ⟨S1x512x256, .f32⟩
  | .local _ .vmem, ⟨9, _⟩ => ⟨S1x512x256, .f32⟩
  | .local _ .vmem, ⟨10, _⟩ => ⟨S512x1024, .bf16⟩
  | .local _ .vmem, ⟨11, _⟩ => ⟨S384x1024, .bf16⟩
  | .local _ .vmem, ⟨12, _⟩ => ⟨S256x1024, .bf16⟩
  | .local _ .vmem, ⟨13, _⟩ => ⟨S256x256, .bf16⟩
  | .local _ .vmem, ⟨14, _⟩ => ⟨S1x256, .f32⟩
  | .local _ .vmem, ⟨15, _⟩ => ⟨S1x1024, .f32⟩
  | .local _ .vmem, ⟨16, _⟩ => ⟨S1024x2944, .bf16⟩
  | .local _ .vmem, ⟨17, _⟩ => ⟨S904x1024, .bf16⟩
  | .local _ .vmem, ⟨18, _⟩ => ⟨S1x512x1024, .f32⟩
  | .local _ .vmem, ⟨19, _⟩ => ⟨S1x512x1024, .f32⟩
  | .local _ .vmem, ⟨20, _⟩ => ⟨S1x512x256, .f32⟩
  | .local _ .vmem, ⟨21, _⟩ => ⟨S1x512x256, .f32⟩
  | .local _ .vmem, ⟨22, _⟩ => ⟨S1x512x256, .f32⟩
  | .local _ .vmem, ⟨23, _⟩ => ⟨S1x512x256, .f32⟩
  | .local _ .vmem, ⟨24, _⟩ => ⟨S1x512x512, .f32⟩
  | .local _ .vmem, ⟨25, _⟩ => ⟨S1x512x512, .f32⟩
  | .local _ .vmem, ⟨26, _⟩ => ⟨S1x512x512, .f32⟩
  | .local _ .vmem, ⟨27, _⟩ => ⟨S1x512x512, .f32⟩
  | .local _ .vmem, ⟨28, _⟩ => ⟨S1x512x384, .bf16⟩
  | .local _ .vmem, ⟨29, _⟩ => ⟨S1x512x384, .bf16⟩
  | .local _ .vmem, ⟨30, _⟩ => ⟨S1x512x128, .bf16⟩
  | .local _ .vmem, ⟨31, _⟩ => ⟨S1x512x128, .bf16⟩
  | .local _ .vmem, ⟨32, _⟩ => ⟨S1x512x384, .f32⟩
  | .local _ .vmem, ⟨33, _⟩ => ⟨S1x512x384, .f32⟩
  | .local _ .vmem, ⟨34, _⟩ => ⟨S1x512x256, .f32⟩
  | .local _ .vmem, ⟨35, _⟩ => ⟨S1x512x256, .f32⟩
  | .local _ .vmem, ⟨36, _⟩ => ⟨S1x512x256, .f32⟩
  | .local _ .vmem, ⟨37, _⟩ => ⟨S1x512x256, .f32⟩
  | .local _ .vmem, ⟨38, _⟩ => ⟨S1x384x512, .bf16⟩
  | .local _ .vmem, ⟨39, _⟩ => ⟨S1x384x512, .bf16⟩
  | .local _ .vmem, ⟨40, _⟩ => ⟨S1x384x512, .bf16⟩
  | .local _ .vmem, ⟨41, _⟩ => ⟨S1x384x512, .bf16⟩
  | .local _ .vmem, ⟨42, _⟩ => ⟨S1x128x512, .bf16⟩
  | .local _ .vmem, ⟨43, _⟩ => ⟨S1x128x512, .bf16⟩
  | .local _ .vmem, ⟨44, _⟩ => ⟨S1x8x512, .f32⟩
  | .local _ .vmem, ⟨45, _⟩ => ⟨S1x8x512, .f32⟩
  | .local _ .vmem, ⟨46, _⟩ => ⟨S16x256, .f32⟩
  | _, _ => ⟨S8x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 46 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | _ => false

abbrev sig : RefSig :=
  ofTc nBuf bufTy 0 46 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_call0_cst : Ref sig .tc := ⟨.hbm, 18, rfl⟩
abbrev main_call0_v4 : Ref sig .tc := ⟨.hbm, 19, rfl⟩
abbrev main_call0_cst_0 : Ref sig .tc := ⟨.hbm, 20, rfl⟩
abbrev main_call0_v5 : Ref sig .tc := ⟨.hbm, 21, rfl⟩
abbrev main_call0_cst_1 : Ref sig .tc := ⟨.hbm, 22, rfl⟩
abbrev main_call0_v6 : Ref sig .tc := ⟨.hbm, 23, rfl⟩
abbrev main_call0_cst_2 : Ref sig .tc := ⟨.hbm, 24, rfl⟩
abbrev main_call0_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c : Ref sig .tc := ⟨.hbm, 32, rfl⟩
abbrev main_call1_v0 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_c_0 : Ref sig .tc := ⟨.hbm, 43, rfl⟩
abbrev main_call2_v0 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_c_1 : Ref sig .tc := ⟨.hbm, 62, rfl⟩
abbrev main_call3_v0 : Ref sig .tc := ⟨.hbm, 63, rfl⟩
abbrev main_v40 : Ref sig .tc := ⟨.hbm, 64, rfl⟩
abbrev main_v41 : Ref sig .tc := ⟨.hbm, 65, rfl⟩
abbrev main_c_2 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_3 : Ref sig .tc := ⟨.hbm, 70, rfl⟩
abbrev main_call4_v0 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_4 : Ref sig .tc := ⟨.hbm, 75, rfl⟩
abbrev main_call5_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_c_5 : Ref sig .tc := ⟨.hbm, 80, rfl⟩
abbrev main_call6_v0 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_c_6 : Ref sig .tc := ⟨.hbm, 89, rfl⟩
abbrev main_call7_v0 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63_0 : Ref sig .tc := ⟨.hbm, 96, rfl⟩
abbrev main_v63_1 : Ref sig .tc := ⟨.hbm, 97, rfl⟩
abbrev main_v63_2 : Ref sig .tc := ⟨.hbm, 98, rfl⟩
abbrev main_v63_3 : Ref sig .tc := ⟨.hbm, 99, rfl⟩
abbrev main_v63_4 : Ref sig .tc := ⟨.hbm, 100, rfl⟩
abbrev main_v63_5 : Ref sig .tc := ⟨.hbm, 101, rfl⟩
abbrev main_v63_6 : Ref sig .tc := ⟨.hbm, 102, rfl⟩
abbrev main_v63_7 : Ref sig .tc := ⟨.hbm, 103, rfl⟩
abbrev main_v63_8 : Ref sig .tc := ⟨.hbm, 104, rfl⟩
abbrev main_v63_9 : Ref sig .tc := ⟨.hbm, 105, rfl⟩
abbrev main_v63_10 : Ref sig .tc := ⟨.hbm, 106, rfl⟩
abbrev main_v63_11 : Ref sig .tc := ⟨.hbm, 107, rfl⟩
abbrev main_v63_12 : Ref sig .tc := ⟨.hbm, 108, rfl⟩
abbrev main_v63_13 : Ref sig .tc := ⟨.hbm, 109, rfl⟩
abbrev main_v64 : Ref sig .tc := ⟨.hbm, 110, rfl⟩
abbrev main_v65 : Ref sig .tc := ⟨.hbm, 111, rfl⟩
abbrev main_v66 : Ref sig .tc := ⟨.hbm, 112, rfl⟩
abbrev main_v67 : Ref sig .tc := ⟨.hbm, 113, rfl⟩
abbrev main_v68 : Ref sig .tc := ⟨.hbm, 114, rfl⟩
abbrev main_v69 : Ref sig .tc := ⟨.hbm, 115, rfl⟩
abbrev main_v70 : Ref sig .tc := ⟨.hbm, 116, rfl⟩
abbrev main_v71 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_stg18_1 : Ref sig .tc := ⟨.vmem, 29, rfl⟩
abbrev cc0_stg19_0 : Ref sig .tc := ⟨.vmem, 30, rfl⟩
abbrev cc0_stg19_1 : Ref sig .tc := ⟨.vmem, 31, rfl⟩
abbrev cc0_stg20_0 : Ref sig .tc := ⟨.vmem, 32, rfl⟩
abbrev cc0_stg20_1 : Ref sig .tc := ⟨.vmem, 33, rfl⟩
abbrev cc0_stg21_0 : Ref sig .tc := ⟨.vmem, 34, rfl⟩
abbrev cc0_stg21_1 : Ref sig .tc := ⟨.vmem, 35, rfl⟩
abbrev cc0_stg22_0 : Ref sig .tc := ⟨.vmem, 36, rfl⟩
abbrev cc0_stg22_1 : Ref sig .tc := ⟨.vmem, 37, rfl⟩
abbrev cc0_stg23_0 : Ref sig .tc := ⟨.vmem, 38, rfl⟩
abbrev cc0_stg23_1 : Ref sig .tc := ⟨.vmem, 39, rfl⟩
abbrev cc0_stg24_0 : Ref sig .tc := ⟨.vmem, 40, rfl⟩
abbrev cc0_stg24_1 : Ref sig .tc := ⟨.vmem, 41, rfl⟩
abbrev cc0_stg25_0 : Ref sig .tc := ⟨.vmem, 42, rfl⟩
abbrev cc0_stg25_1 : Ref sig .tc := ⟨.vmem, 43, rfl⟩
abbrev cc0_stg26_0 : Ref sig .tc := ⟨.vmem, 44, rfl⟩
abbrev cc0_stg26_1 : Ref sig .tc := ⟨.vmem, 45, rfl⟩
abbrev cc0_scratch0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem13_0 : DmaSem sig := 18
abbrev cc0_sem13_1 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28
abbrev cc0_sem18_1 : DmaSem sig := 29
abbrev cc0_sem19_0 : DmaSem sig := 30
abbrev cc0_sem19_1 : DmaSem sig := 31
abbrev cc0_sem20_0 : DmaSem sig := 32
abbrev cc0_sem20_1 : DmaSem sig := 33
abbrev cc0_sem21_0 : DmaSem sig := 34
abbrev cc0_sem21_1 : DmaSem sig := 35
abbrev cc0_sem22_0 : DmaSem sig := 36
abbrev cc0_sem22_1 : DmaSem sig := 37
abbrev cc0_sem23_0 : DmaSem sig := 38
abbrev cc0_sem23_1 : DmaSem sig := 39
abbrev cc0_sem24_0 : DmaSem sig := 40
abbrev cc0_sem24_1 : DmaSem sig := 41
abbrev cc0_sem25_0 : DmaSem sig := 42
abbrev cc0_sem25_1 : DmaSem sig := 43
abbrev cc0_sem26_0 : DmaSem sig := 44
abbrev cc0_sem26_1 : DmaSem sig := 45

abbrev nD : Nat := 1
abbrev τ : Topo := Topo.v7x

variable {F : FTy → Type} [FloatOps F]

abbrev grid0 : Pipeline.Grid := ⟨2, ![8, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_21 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_22 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_23 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_24 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_25 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_26 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S512x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S384x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1024x2944 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S904x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 2 → Memref sig .tc .vmem S1x512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x512x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x512x384 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x512x384 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, true]

abbrev stage0_21 : Fin 2 → Memref sig .tc .vmem S1x512x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true, true]

abbrev stage0_22 : Fin 2 → Memref sig .tc .vmem S1x512x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true, true]

abbrev stage0_23 : Fin 2 → Memref sig .tc .vmem S1x384x512 .bf16 := fun | 0 => Memref.whole cc0_stg23_0 | 1 => Memref.whole cc0_stg23_1 | ⟨_ + 2, h⟩ => absurd h (Nat.not_lt.2 (Nat.le_add_left _ _))
abbrev sem0_23 : Fin 2 → DmaSem sig := fun | 0 => cc0_sem23_0 | 1 => cc0_sem23_1 | ⟨_ + 2, h⟩ => absurd h (Nat.not_lt.2 (Nat.le_add_left _ _))
abbrev reads0_23 : Fin grid0.rank → Bool := ![true, true]

abbrev stage0_24 : Fin 2 → Memref sig .tc .vmem S1x384x512 .bf16 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true, true]

abbrev stage0_25 : Fin 2 → Memref sig .tc .vmem S1x128x512 .bf16 := fun | 0 => Memref.whole cc0_stg25_0 | 1 => Memref.whole cc0_stg25_1 | ⟨_ + 2, h⟩ => absurd h (Nat.not_lt.2 (Nat.le_add_left _ _))
abbrev sem0_25 : Fin 2 → DmaSem sig := fun | 0 => cc0_sem25_0 | 1 => cc0_sem25_1 | ⟨_ + 2, h⟩ => absurd h (Nat.not_lt.2 (Nat.le_add_left _ _))
abbrev reads0_25 : Fin grid0.rank → Bool := ![true, true]

abbrev stage0_26 : Fin 2 → Memref sig .tc .vmem S1x8x512 .f32 := fun | 0 => Memref.whole cc0_stg26_0 | 1 => Memref.whole cc0_stg26_1 | ⟨_ + 2, h⟩ => absurd h (Nat.not_lt.2 (Nat.le_add_left _ _))
abbrev sem0_26 : Fin 2 → DmaSem sig := fun | 0 => cc0_sem26_0 | 1 => cc0_sem26_1 | ⟨_ + 2, h⟩ => absurd h (Nat.not_lt.2 (Nat.le_add_left _ _))
abbrev reads0_26 : Fin grid0.rank → Bool := ![true, true]
-- ==== MixProjectRefIdeal.lean ====
abbrev S8x8192x1024 : Shape := ⟨3, ![8, 8192, 1024]⟩
abbrev S8x8192x384 : Shape := ⟨3, ![8, 8192, 384]⟩
abbrev S8x8192x256 : Shape := ⟨3, ![8, 8192, 256]⟩
abbrev S4x64x64 : Shape := ⟨3, ![4, 64, 64]⟩
abbrev S256 : Shape := ⟨1, ![256]⟩
abbrev S1024x1024 : Shape := ⟨2, ![1024, 1024]⟩
abbrev S1024 : Shape := ⟨1, ![1024]⟩
abbrev S1024x3380 : Shape := ⟨2, ![1024, 3380]⟩
abbrev S8x8192x4x64 : Shape := ⟨4, ![8, 8192, 4, 64]⟩
abbrev S8192 : Shape := ⟨1, ![8192]⟩
abbrev S8x8192x1x64 : Shape := ⟨4, ![8, 8192, 1, 64]⟩
abbrev S8x8192x64 : Shape := ⟨3, ![8, 8192, 64]⟩
abbrev S_ : Shape := ⟨0, ![]⟩
abbrev S1x8192x1 : Shape := ⟨3, ![1, 8192, 1]⟩
abbrev S4x64x8x8192 : Shape := ⟨4, ![4, 64, 8, 8192]⟩
abbrev S1x1x256 : Shape := ⟨3, ![1, 1, 256]⟩
abbrev S8x8192 : Shape := ⟨2, ![8, 8192]⟩
abbrev S8x8192x1 : Shape := ⟨3, ![8, 8192, 1]⟩
abbrev S1x1x1024 : Shape := ⟨3, ![1, 1, 1024]⟩
abbrev S8x8192x3380 : Shape := ⟨3, ![8, 8192, 3380]⟩
abbrev S8x8192x192 : Shape := ⟨3, ![8, 8192, 192]⟩
abbrev S8x8192x16 : Shape := ⟨3, ![8, 8192, 16]⟩
abbrev S8x8192x128 : Shape := ⟨3, ![8, 8192, 128]⟩
abbrev S8x8192x32 : Shape := ⟨3, ![8, 8192, 32]⟩
abbrev S8x8192x4 : Shape := ⟨3, ![8, 8192, 4]⟩
abbrev S1x8x1x8192x1x32 : Shape := ⟨6, ![1, 8, 1, 8192, 1, 32]⟩
abbrev S1x8x1x8192x4x32 : Shape := ⟨6, ![1, 8, 1, 8192, 4, 32]⟩
abbrev S8x384x8192 : Shape := ⟨3, ![8, 384, 8192]⟩
abbrev S8x128x8192 : Shape := ⟨3, ![8, 128, 8192]⟩
abbrev S8x4x8192 : Shape := ⟨3, ![8, 4, 8192]⟩

abbrev nBuf : Space → Nat
  | .hbm => 148
  | .vmem => 0
  | .smem => 0
  | _ => 0

abbrev hbmTy0_0 (i : Nat) : BufTy := match i % 128 with
  | 0 => ⟨S8x8192x1024, .f32⟩
  | 1 => ⟨S8x8192x384, .bf16⟩
  | 2 => ⟨S8x8192x384, .bf16⟩
  | 3 => ⟨S8x8192x256, .f32⟩
  | 4 => ⟨S8x8192x256, .f32⟩
  | 5 => ⟨S4x64x64, .f32⟩
  | 6 => ⟨S256, .f32⟩
  | 7 => ⟨S1024x1024, .f32⟩
  | 8 => ⟨S1024, .f32⟩
  | 9 => ⟨S1024x3380, .f32⟩
  | 10 => ⟨S8x8192x4x64, .f32⟩
  | 11 => ⟨S8192, .i32⟩
  | 12 => ⟨S8x8192x1x64, .f32⟩
  | 13 => ⟨S8x8192x64, .f32⟩
  | 14 => ⟨S_, .f32⟩
  | 15 => ⟨S_, .f32⟩
  | 16 => ⟨S8x8192x64, .f32⟩
  | 17 => ⟨S_, .i32⟩
  | 18 => ⟨S8192, .i32⟩
  | 19 => ⟨S8192, .i32⟩
  | 20 => ⟨S_, .i32⟩
  | 21 => ⟨S8192, .i32⟩
  | 22 => ⟨S8192, .i32⟩
  | 23 => ⟨S8192, .f32⟩
  | 24 => ⟨S1x8192x1, .f32⟩
  | 25 => ⟨S8x8192x64, .f32⟩
  | 26 => ⟨S8x8192x64, .f32⟩
  | 27 => ⟨S8x8192x64, .f32⟩
  | 28 => ⟨S8x8192x1x64, .f32⟩
  | 29 => ⟨S8x8192x64, .f32⟩
  | 30 => ⟨S_, .f32⟩
  | 31 => ⟨S_, .f32⟩
  | 32 => ⟨S8x8192x64, .f32⟩
  | 33 => ⟨S_, .i32⟩
  | 34 => ⟨S8192, .i32⟩
  | 35 => ⟨S8192, .i32⟩
  | 36 => ⟨S_, .i32⟩
  | 37 => ⟨S8192, .i32⟩
  | 38 => ⟨S8192, .i32⟩
  | 39 => ⟨S8192, .f32⟩
  | 40 => ⟨S1x8192x1, .f32⟩
  | 41 => ⟨S8x8192x64, .f32⟩
  | 42 => ⟨S8x8192x64, .f32⟩
  | 43 => ⟨S8x8192x64, .f32⟩
  | 44 => ⟨S8x8192x1x64, .f32⟩
  | 45 => ⟨S8x8192x64, .f32⟩
  | 46 => ⟨S_, .f32⟩
  | 47 => ⟨S_, .f32⟩
  | 48 => ⟨S8x8192x64, .f32⟩
  | 49 => ⟨S_, .i32⟩
  | 50 => ⟨S8192, .i32⟩
  | 51 => ⟨S8192, .i32⟩
  | 52 => ⟨S_, .i32⟩
  | 53 => ⟨S8192, .i32⟩
  | 54 => ⟨S8192, .i32⟩
  | 55 => ⟨S8192, .f32⟩
  | 56 => ⟨S1x8192x1, .f32⟩
  | 57 => ⟨S8x8192x64, .f32⟩
  | 58 => ⟨S8x8192x64, .f32⟩
  | 59 => ⟨S8x8192x64, .f32⟩
  | 60 => ⟨S8x8192x1x64, .f32⟩
  | 61 => ⟨S8x8192x64, .f32⟩
  | 62 => ⟨S_, .f32⟩
  | 63 => ⟨S_, .f32⟩
  | 64 => ⟨S8x8192x64, .f32⟩
  | 65 => ⟨S_, .i32⟩
  | 66 => ⟨S8192, .i32⟩
  | 67 => ⟨S8192, .i32⟩
  | 68 => ⟨S_, .i32⟩
  | 69 => ⟨S8192, .i32⟩
  | 70 => ⟨S8192, .i32⟩
  | 71 => ⟨S8192, .f32⟩
  | 72 => ⟨S1x8192x1, .f32⟩
  | 73 => ⟨S8x8192x64, .f32⟩
  | 74 => ⟨S8x8192x64, .f32⟩
  | 75 => ⟨S8x8192x64, .f32⟩
  | 76 => ⟨S8x8192x1x64, .f32⟩
  | 77 => ⟨S8x8192x1x64, .f32⟩
  | 78 => ⟨S8x8192x1x64, .f32⟩
  | 79 => ⟨S8x8192x1x64, .f32⟩
  | 80 => ⟨S8x8192x4x64, .f32⟩
  | 81 => ⟨S4x64x8x8192, .f32⟩
  | 82 => ⟨S8x8192x4x64, .f32⟩
  | 83 => ⟨S8x8192x256, .f32⟩
  | 84 => ⟨S1x1x256, .f32⟩
  | 85 => ⟨S8x8192x256, .f32⟩
  | 86 => ⟨S8x8192x256, .f32⟩
  | 87 => ⟨S8x8192x256, .f32⟩
  | 88 => ⟨S8x8192x256, .f32⟩
  | 89 => ⟨S_, .f32⟩
  | 90 => ⟨S8x8192x256, .f32⟩
  | 91 => ⟨S8x8192x256, .f32⟩
  | 92 => ⟨S_, .f32⟩
  | 93 => ⟨S8x8192x256, .f32⟩
  | 94 => ⟨S8x8192x256, .f32⟩
  | 95 => ⟨S8x8192x256, .f32⟩
  | 96 => ⟨S8x8192x256, .f32⟩
  | 97 => ⟨S8x8192x384, .f32⟩
  | 98 => ⟨S8x8192x384, .f32⟩
  | 99 => ⟨S8x8192x1024, .f32⟩
  | 100 => ⟨S8x8192x1024, .f32⟩
  | 101 => ⟨S8x8192x1024, .f32⟩
  | 102 => ⟨S8x8192x1024, .f32⟩
  | 103 => ⟨S_, .f32⟩
  | 104 => ⟨S8x8192, .f32⟩
  | 105 => ⟨S8x8192x1, .f32⟩
  | 106 => ⟨S_, .f32⟩
  | 107 => ⟨S8x8192x1, .f32⟩
  | 108 => ⟨S8x8192x1, .f32⟩
  | 109 => ⟨S_, .f32⟩
  | 110 => ⟨S8x8192x1, .f32⟩
  | 111 => ⟨S8x8192x1, .f32⟩
  | 112 => ⟨S8x8192x1, .f32⟩
  | 113 => ⟨S8x8192x1024, .f32⟩
  | 114 => ⟨S8x8192x1024, .f32⟩
  | 115 => ⟨S1x1x1024, .f32⟩
  | 116 => ⟨S8x8192x1024, .f32⟩
  | 117 => ⟨S8x8192x1024, .f32⟩
  | 118 => ⟨S8x8192x3380, .f32⟩
  | 119 => ⟨S8x8192x192, .f32⟩
  | 120 => ⟨S8x8192x192, .f32⟩
  | 121 => ⟨S8x8192x384, .f32⟩
  | 122 => ⟨S8x8192x16, .f32⟩
  | 123 => ⟨S8x8192x384, .f32⟩
  | 124 => ⟨S8x8192x384, .f32⟩
  | 125 => ⟨S8x8192x384, .f32⟩
  | 126 => ⟨S8x8192x384, .f32⟩
  | 127 => ⟨S8x8192x384, .f32⟩
  | _ => ⟨S8x8192x1024, .f32⟩

abbrev hbmTy0_1 (i : Nat) : BufTy := match i % 128 with
  | 0 => ⟨S8x8192x128, .f32⟩
  | 1 => ⟨S8x8192x32, .f32⟩
  | 2 => ⟨S8x8192x4, .f32⟩
  | 3 => ⟨S8x8192x256, .f32⟩
  | 4 => ⟨S8x8192x256, .f32⟩
  | 5 => ⟨S8x8192x384, .bf16⟩
  | 6 => ⟨S1x8x1x8192x1x32, .f32⟩
  | 7 => ⟨S1x8x1x8192x4x32, .f32⟩
  | 8 => ⟨S8x8192x128, .f32⟩
  | 9 => ⟨S8x8192x128, .bf16⟩
  | 10 => ⟨S_, .f32⟩
  | 11 => ⟨S8x8192x384, .f32⟩
  | 12 => ⟨S8x8192x384, .f32⟩
  | 13 => ⟨S8x384x8192, .f32⟩
  | 14 => ⟨S8x384x8192, .bf16⟩
  | 15 => ⟨S8x384x8192, .f32⟩
  | 16 => ⟨S8x384x8192, .bf16⟩
  | 17 => ⟨S8x128x8192, .f32⟩
  | 18 => ⟨S8x128x8192, .bf16⟩
  | 19 => ⟨S8x4x8192, .f32⟩
  | _ => ⟨S8x8192x1024, .f32⟩

abbrev hbmTy (i : Nat) : BufTy := match i / 128 with
  | 0 => hbmTy0_0 i
  | 1 => hbmTy0_1 i
  | _ => ⟨S8x8192x1024, .f32⟩

abbrev bufTy : (tb : Table) → Fin (tcTables nBuf tb) → BufTy
  | .hbm, ⟨i, _⟩ => hbmTy i
  | _, _ => ⟨S8x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_v17 : Ref sig .tc := ⟨.hbm, 31, rfl⟩
abbrev main_v18 : Ref sig .tc := ⟨.hbm, 32, rfl⟩
abbrev main_c_2 : Ref sig .tc := ⟨.hbm, 33, rfl⟩
abbrev main_v19 : Ref sig .tc := ⟨.hbm, 34, rfl⟩
abbrev main_v20 : Ref sig .tc := ⟨.hbm, 35, rfl⟩
abbrev main_c_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_c_6 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_7 : Ref sig .tc := ⟨.hbm, 62, rfl⟩
abbrev main_v43 : Ref sig .tc := ⟨.hbm, 63, rfl⟩
abbrev main_v44 : Ref sig .tc := ⟨.hbm, 64, rfl⟩
abbrev main_c_8 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_cst_10 : Ref sig .tc := ⟨.hbm, 103, rfl⟩
abbrev main_v73 : Ref sig .tc := ⟨.hbm, 104, rfl⟩
abbrev main_v74 : Ref sig .tc := ⟨.hbm, 105, rfl⟩
abbrev main_cst_11 : Ref sig .tc := ⟨.hbm, 106, rfl⟩
abbrev main_v75 : Ref sig .tc := ⟨.hbm, 107, rfl⟩
abbrev main_v76 : Ref sig .tc := ⟨.hbm, 108, rfl⟩
abbrev main_cst_12 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_13 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩

abbrev nD : Nat := 1
abbrev τ : Topo := Topo.v7x

variable {F : FTy → Type} [FloatOps F]
-- ==== Proof.Safe.lean ====
/- A kernel body that only loads, stores, loops and branches, run with every buffer held at unnamed contents.

   `Safe R p`: from the resource `R` the program `p` runs without a fault and hands `R` back, whatever it returns.
   A load or store through a memref needs that `R` holds the memref's elements whole (`Has`); nothing is said of what
   the buffers contain, so a loop needs no invariant beside `R`. -/
module

public import Idealize.ShloMosaic.Lib.Exec.Context
public import Idealize.ShloMosaic.Lib.Scf
public import Idealize.ShloMosaic.Lib.Memref

@[expose] public section

noncomputable section

namespace Cert.Hand

open Idealize.ShloMosaic
open Idealize.SL Idealize.SL.RA Idealize.SL.Sem
open Idealize.SL.BI (sProp bigSep)
open scoped Idealize.SL.BI
open Idealize.SL.BI.BIBase Idealize.SL.BI.Laws

variable {nD : Nat} {τ : Topo} {sig : RefSig} {Val : EltTy → Type} {U : Type} [URA U] {Λ : Labels}

local notation "𝕄" => MT nD τ sig Unit Val ℕ U ℕ

/-- The memref's elements held whole on core `c`, at some contents. -/
abbrev Cell (c : Dev nD) {sp : Space} {sh : Shape} {e : EltTy} (m : Memref sig .tc sp sh e) : sProp 𝕄 :=
  iprop(∃ f : Buf Val (m.view.loc (c.tc : Thread nD τ)), (m.view.loc (c.tc : Thread nD τ) ↦[m.view.set]{fullShare} f))

/-- `R` holds the memref. -/
class Has (c : Dev nD) (R : sProp (MT nD τ sig Unit Val ℕ U ℕ)) {sp : Space} {sh : Shape} {e : EltTy} (m : Memref sig .tc sp sh e) : Prop where
  split : ∃ R' : sProp 𝕄, R ⊣⊢ R' ∗ Cell (U := U) c m

variable {c : Dev nD} {R : sProp (MT nD τ sig Unit Val ℕ U ℕ)} {sp : Space} {sh : Shape} {e : EltTy}

theorem Has.last {m : Memref sig .tc sp sh e} (h : R = Cell (τ := τ) (Val := Val) (U := U) c m) : Has (U := U) c R m :=
  ⟨⟨emp, h ▸ emp_sep.symm⟩⟩

theorem Has.head {m : Memref sig .tc sp sh e} : Has (U := U) c iprop(Cell (U := U) c m ∗ R) m :=
  ⟨⟨R, sep_comm⟩⟩

theorem Has.tail {m : Memref sig .tc sp sh e} {Q : sProp 𝕄} (h : Has (U := U) c R m) : Has (U := U) c iprop(Q ∗ R) m := by
  obtain ⟨R', hR⟩ := h.split
  exact ⟨⟨iprop(Q ∗ R'), (sep_congr_right hR).trans sep_assoc.symm⟩⟩

/-- From `R` the program runs to `R`. -/
structure Safe (defs : Defs nD τ sig Val Λ) (𝒱 : Variants) (c : Dev nD) (R : sProp 𝕄) {α : Type} (p : Prog (TpuEff nD τ sig Val Λ .tc) α) : Prop where
  run : R ⊢ wp frame (wpE defs 𝒱 (c.tc : Thread nD τ) none) Set.univ p fun _ => R

variable {defs : Defs nD τ sig Val Λ} {𝒱 : Variants} {α β : Type}

theorem safe_ret (a : α) : Safe (U := U) defs 𝒱 c R (.ret a) := ⟨exec_ret 𝒱 (c.tc : Thread nD τ) none Set.univ a .rfl⟩

theorem safe_pure (a : α) : Safe (U := U) defs 𝒱 c R (pure a) := safe_ret a

theorem safe_bind {p : Prog (TpuEff nD τ sig Val Λ .tc) β} {k : β → Prog (TpuEff nD τ sig Val Λ .tc) α}
    (hp : Safe (U := U) defs 𝒱 c R p) (hk : ∀ b, Safe (U := U) defs 𝒱 c R (k b)) : Safe (U := U) defs 𝒱 c R (p >>= k) :=
  ⟨exec_bind 𝒱 (c.tc : Thread nD τ) none Set.univ p k (hp.run.trans (wp_mono _ _ _ fun b => (hk b).run))⟩

theorem safe_load (m : Memref sig .tc (.core .vmem) sh e) [h : Has (U := U) c R m] {r : LoadRect sh} {hl : m.view.LoadsAt r} :
    Safe (U := U) defs 𝒱 c R (Prog.lift (.load m r hl)) := by
  obtain ⟨R', hR⟩ := h.split
  refine ⟨hR.1.trans (sep_exists_left.1.trans (exists_elim fun f => ?_))⟩
  refine exec_load 𝒱 (c.tc : Thread nD τ) none Set.univ (R := R') (S := m.view.set) (f := f) .rfl (m.view.setOn_subset_set _) _ rfl ?_
  exact exec_ret _ _ _ _ _ ((exists_intro (Φ := fun f => iprop(R' ∗ _)) f).trans (sep_exists_left.2.trans hR.2))

theorem safe_store (m : Memref sig .tc (.core .vmem) sh e) [h : Has (U := U) c R m] {r : Rect sh} {w : r.shape.Idx → Val e}
    {Mk : Finset r.shape.Idx} {hx : (m.access r).Stores Mk} {hm : Mk = Finset.univ ∨ ∀ a, r.stride a = 1} :
    Safe (U := U) defs 𝒱 c R (Prog.lift (.store m r w Mk hx hm)) := by
  obtain ⟨R', hR⟩ := h.split
  refine ⟨hR.1.trans (sep_exists_left.1.trans (exists_elim fun f => ?_))⟩
  refine exec_store_raw 𝒱 (c.tc : Thread nD τ) none Set.univ (R := R') (S := m.view.set) (f := f) .rfl ?_ .rfl ?_
  · exact m.view.setOn_slice_subset_set r Mk
  exact exec_ret _ _ _ _ _ ((exists_intro (Φ := fun f => iprop(R' ∗ (m.view.loc (c.tc : Thread nD τ) ↦[m.view.set]{fullShare} f))) _).trans
    (sep_exists_left.2.trans hR.2))

theorem safe_for {w : Nat} {l : Scf.Loop w} {hok : Scf.OK l.lb l.ub l.st} {init : α}
    {body : Fin (Scf.trips l.lb l.ub l.st) → α → Prog (TpuEff nD τ sig Val Λ .tc) α}
    (hb : ∀ k acc, Safe (U := U) defs 𝒱 c R (body k acc)) : Safe (U := U) defs 𝒱 c R (Scf.Loop.for l hok init body) :=
  ⟨(show R ⊢ _ from (sep_emp (P := R)).2.trans (sep_mono .rfl (forall_intro fun _ => wand_intro (emp_sep (P := R)).1))).trans
    (Scf.wp_for _ _ _ l.lb l.ub l.st hok init body (fun _ _ => R) fun k acc => (hb k acc).run)⟩

theorem safe_dite {P : Prop} [Decidable P] {p : P → Prog (TpuEff nD τ sig Val Λ .tc) α} {q : ¬ P → Prog (TpuEff nD τ sig Val Λ .tc) α}
    (hp : ∀ h, Safe (U := U) defs 𝒱 c R (p h)) (hq : ∀ h, Safe (U := U) defs 𝒱 c R (q h)) : Safe (U := U) defs 𝒱 c R (if h : P then p h else q h) := by
  split
  · exact hp _
  · exact hq _

theorem safe_ite {P : Prop} [Decidable P] {p q : Prog (TpuEff nD τ sig Val Λ .tc) α}
    (hp : Safe (U := U) defs 𝒱 c R p) (hq : Safe (U := U) defs 𝒱 c R q) : Safe (U := U) defs 𝒱 c R (if P then p else q) := by
  split
  · exact hp
  · exact hq

end Cert.Hand

end
-- ==== Proof.Mems.lean ====
/- The memrefs of the attention kernel's body, held together, and what it means for a piece of the body to be safe. -/
module

public import proofs.«01_k».proof.Dsa
public import proofs.«01_k».proof.Proof.Safe
public import Idealize.ShloMosaic.Lib.Pipeline.Kit

@[expose] public section

noncomputable section

namespace Cert.Hand

open Cert.Dsa
open Idealize.ShloMosaic
open Idealize.SL Idealize.SL.RA Idealize.SL.Sem
open Idealize.SL.BI (sProp bigSep)
open scoped Idealize.SL.BI
open Idealize.SL.BI.BIBase Idealize.SL.BI.Laws

variable {F : FTy → Type} [BitOps F] [Facts]

/-- What the body is called with: the windows' staging buffers and the scratch buffers, each a whole buffer. -/
structure Mems where
  a2 : Memref sig .tc .vmem S1x384x256 .bf16
  h2 : a2.IsWhole
  a3 : Memref sig .tc .vmem S1x128x256 .bf16
  h3 : a3.IsWhole
  a4 : Memref sig .tc .vmem S1x8x256 .f32
  h4 : a4.IsWhole
  a5 : Memref sig .tc .vmem S1x8192x384 .bf16
  h5 : a5.IsWhole
  a6 : Memref sig .tc .vmem S1x8192x128 .bf16
  h6 : a6.IsWhole
  a7 : Memref sig .tc .vmem S1x384x8192 .bf16
  h7 : a7.IsWhole
  a8 : Memref sig .tc .vmem S1x256x384 .f32
  h8 : a8.IsWhole
  a9 : Memref sig .tc .vmem S8x1024 .f32
  h9 : a9.IsWhole
  a10 : Memref sig .tc .vmem S8x128 .f32
  h10 : a10.IsWhole
  a11 : Memref sig .tc .vmem S1x256x384 .bf16
  h11 : a11.IsWhole
  a12 : Memref sig .tc .vmem S8960x256 .i32
  h12 : a12.IsWhole
  a13 : Memref sig .tc .vmem S32x256x256 .i32
  h13 : a13.IsWhole
  a14 : Memref sig .tc .vmem S256x256 .i32
  h14 : a14.IsWhole
  a15 : Memref sig .tc .vmem S3x128x512 .bf16
  h15 : a15.IsWhole
  a16 : Memref sig .tc .vmem S128x1024 .bf16
  h16 : a16.IsWhole
  a17 : Memref sig .tc .vmem S6x80x256 .f32
  h17 : a17.IsWhole
  a18 : Memref sig .tc .vmem S8x128 .f32
  h18 : a18.IsWhole
  a19 : Memref sig .tc .vmem S6x768x256 .f32
  h19 : a19.IsWhole

/-- The buffers held, each whole at some contents. -/
def Mems.res (M : Mems) (c : Dev nD) : sProp (MT nD τ sig Unit (Elt F) ℕ (UR sig nD τ) ℕ) :=
  iprop(Cell c M.a2 ∗ Cell c M.a3 ∗ Cell c M.a4 ∗ Cell c M.a5 ∗ Cell c M.a6 ∗ Cell c M.a7 ∗ Cell c M.a8 ∗ Cell c M.a9 ∗ Cell c M.a10 ∗ Cell c M.a11 ∗ Cell c M.a12 ∗ Cell c M.a13 ∗ Cell c M.a14 ∗ Cell c M.a15 ∗ Cell c M.a16 ∗ Cell c M.a17 ∗ Cell c M.a18 ∗ Cell c M.a19)

instance (M : Mems) (c : Dev nD) : Has (U := UR sig nD τ) c (M.res (F := F) c) M.a2 :=
  Has.head
instance (M : Mems) (c : Dev nD) : Has (U := UR sig nD τ) c (M.res (F := F) c) M.a3 :=
  .tail Has.head
instance (M : Mems) (c : Dev nD) : Has (U := UR sig nD τ) c (M.res (F := F) c) M.a4 :=
  .tail (.tail Has.head)
instance (M : Mems) (c : Dev nD) : Has (U := UR sig nD τ) c (M.res (F := F) c) M.a5 :=
  .tail (.tail (.tail Has.head))
instance (M : Mems) (c : Dev nD) : Has (U := UR sig nD τ) c (M.res (F := F) c) M.a6 :=
  .tail (.tail (.tail (.tail Has.head)))
instance (M : Mems) (c : Dev nD) : Has (U := UR sig nD τ) c (M.res (F := F) c) M.a7 :=
  .tail (.tail (.tail (.tail (.tail Has.head))))
instance (M : Mems) (c : Dev nD) : Has (U := UR sig nD τ) c (M.res (F := F) c) M.a8 :=
  .tail (.tail (.tail (.tail (.tail (.tail Has.head)))))
instance (M : Mems) (c : Dev nD) : Has (U := UR sig nD τ) c (M.res (F := F) c) M.a9 :=
  .tail (.tail (.tail (.tail (.tail (.tail (.tail Has.head))))))
instance (M : Mems) (c : Dev nD) : Has (U := UR sig nD τ) c (M.res (F := F) c) M.a10 :=
  .tail (.tail (.tail (.tail (.tail (.tail (.tail (.tail Has.head)))))))
instance (M : Mems) (c : Dev nD) : Has (U := UR sig nD τ) c (M.res (F := F) c) M.a11 :=
  .tail (.tail (.tail (.tail (.tail (.tail (.tail (.tail (.tail Has.head))))))))
instance (M : Mems) (c : Dev nD) : Has (U := UR sig nD τ) c (M.res (F := F) c) M.a12 :=
  .tail (.tail (.tail (.tail (.tail (.tail (.tail (.tail (.tail (.tail Has.head)))))))))
instance (M : Mems) (c : Dev nD) : Has (U := UR sig nD τ) c (M.res (F := F) c) M.a13 :=
  .tail (.tail (.tail (.tail (.tail (.tail (.tail (.tail (.tail (.tail (.tail Has.head))))))))))
instance (M : Mems) (c : Dev nD) : Has (U := UR sig nD τ) c (M.res (F := F) c) M.a14 :=
  .tail (.tail (.tail (.tail (.tail (.tail (.tail (.tail (.tail (.tail (.tail (.tail Has.head)))))))))))
instance (M : Mems) (c : Dev nD) : Has (U := UR sig nD τ) c (M.res (F := F) c) M.a15 :=
  .tail (.tail (.tail (.tail (.tail (.tail (.tail (.tail (.tail (.tail (.tail (.tail (.tail Has.head))))))))))))
instance (M : Mems) (c : Dev nD) : Has (U := UR sig nD τ) c (M.res (F := F) c) M.a16 :=
  .tail (.tail (.tail (.tail (.tail (.tail (.tail (.tail (.tail (.tail (.tail (.tail (.tail (.tail Has.head)))))))))))))
instance (M : Mems) (c : Dev nD) : Has (U := UR sig nD τ) c (M.res (F := F) c) M.a17 :=
  .tail (.tail (.tail (.tail (.tail (.tail (.tail (.tail (.tail (.tail (.tail (.tail (.tail (.tail (.tail Has.head))))))))))))))
instance (M : Mems) (c : Dev nD) : Has (U := UR sig nD τ) c (M.res (F := F) c) M.a18 :=
  .tail (.tail (.tail (.tail (.tail (.tail (.tail (.tail (.tail (.tail (.tail (.tail (.tail (.tail (.tail (.tail Has.head)))))))))))))))
instance (M : Mems) (c : Dev nD) : Has (U := UR sig nD τ) c (M.res (F := F) c) M.a19 :=
  .tail (.tail (.tail (.tail (.tail (.tail (.tail (.tail (.tail (.tail (.tail (.tail (.tail (.tail (.tail (.tail (.tail (Has.last rfl)))))))))))))))))

/-- The piece of the body is safe at the buffers held. -/
abbrev Ok (c : Dev nD) (M : Mems) {α : Type} (p : Prog (TpuEff nD τ sig (Elt F) Λ₀ .tc) α) : Prop :=
  Safe (U := UR sig nD τ) defs₀ Variants.none c (M.res (F := F) c) p

/-- A piece of the body, which takes a grid point and the buffers held. -/
abbrev Over (T : grid0.Coords → Type 1) : Type 1 :=
  (i : grid0.Coords) → (a2 : Memref sig .tc .vmem S1x384x256 .bf16) → a2.IsWhole → (a3 : Memref sig .tc .vmem S1x128x256 .bf16) → a3.IsWhole → (a4 : Memref sig .tc .vmem S1x8x256 .f32) → a4.IsWhole → (a5 : Memref sig .tc .vmem S1x8192x384 .bf16) → a5.IsWhole → (a6 : Memref sig .tc .vmem S1x8192x128 .bf16) → a6.IsWhole → (a7 : Memref sig .tc .vmem S1x384x8192 .bf16) → a7.IsWhole → (a8 : Memref sig .tc .vmem S1x256x384 .f32) → a8.IsWhole → (a9 : Memref sig .tc .vmem S8x1024 .f32) → a9.IsWhole → (a10 : Memref sig .tc .vmem S8x128 .f32) → a10.IsWhole → (a11 : Memref sig .tc .vmem S1x256x384 .bf16) → a11.IsWhole → (a12 : Memref sig .tc .vmem S8960x256 .i32) → a12.IsWhole → (a13 : Memref sig .tc .vmem S32x256x256 .i32) → a13.IsWhole → (a14 : Memref sig .tc .vmem S256x256 .i32) → a14.IsWhole → (a15 : Memref sig .tc .vmem S3x128x512 .bf16) → a15.IsWhole → (a16 : Memref sig .tc .vmem S128x1024 .bf16) → a16.IsWhole → (a17 : Memref sig .tc .vmem S6x80x256 .f32) → a17.IsWhole → (a18 : Memref sig .tc .vmem S8x128 .f32) → a18.IsWhole → (a19 : Memref sig .tc .vmem S6x768x256 .f32) → a19.IsWhole → T i

/-- A piece of the body at a grid point and its buffers. -/
abbrev Mems.at (M : Mems) (i : grid0.Coords) {T : grid0.Coords → Type 1} (f : Over T) : T i :=
  f i M.a2 M.h2 M.a3 M.h3 M.a4 M.h4 M.a5 M.h5 M.a6 M.h6 M.a7 M.h7 M.a8 M.h8 M.a9 M.h9 M.a10 M.h10 M.a11 M.h11 M.a12 M.h12 M.a13 M.h13 M.a14 M.h14 M.a15 M.h15 M.a16 M.h16 M.a17 M.h17 M.a18 M.h18 M.a19 M.h19

/-- A piece of the body that takes values is safe when it is safe at all of them. -/
class Piece (F : FTy → Type) [BitOps F] [Facts] (T : Type 1) where
  ok : Dev nD → Mems → T → Prop

instance {α : Type} : Piece F (Prog (TpuEff nD τ sig (Elt F) Λ₀ .tc) α) := ⟨fun c M p => Ok c M p⟩
instance {A : Type} {T : Type 1} [Piece F T] : Piece F (A → T) := ⟨fun c M f => ∀ a, Piece.ok F c M (f a)⟩
instance {A : Prop} {T : Type 1} [Piece F T] : Piece F (A → T) := ⟨fun c M f => ∀ a, Piece.ok F c M (f a)⟩

/-- The piece, at a grid point and the buffers held, is safe. -/
abbrev Good (F : FTy → Type) [BitOps F] [Facts] (c : Dev nD) (M : Mems) (i : grid0.Coords) {T : grid0.Coords → Type 1} [Piece F (T i)] (f : Over T) : Prop :=
  Piece.ok F c M (M.at i f)

theorem Good.fn {F : FTy → Type} [BitOps F] [Facts] {c : Dev nD} {M : Mems} {A : Type} {T : Type 1} [Piece F T] {f : A → T}
    (h : ∀ a, Piece.ok F c M (f a)) : Piece.ok F c M f := h

theorem Good.prop {F : FTy → Type} [BitOps F] [Facts] {c : Dev nD} {M : Mems} {A : Prop} {T : Type 1} [Piece F T] {f : A → T}
    (h : ∀ a, Piece.ok F c M (f a)) : Piece.ok F c M f := h

theorem Good.prog {F : FTy → Type} [BitOps F] [Facts] {c : Dev nD} {M : Mems} {α : Type} {p : Prog (TpuEff nD τ sig (Elt F) Λ₀ .tc) α}
    (h : Ok c M p) : Piece.ok F c M p := h

end Cert.Hand

end
-- ==== Proof.Pieces1.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g1 : Good F c M i (k0_part1 (F := F)) ∧
    Good F c M i (k0_part2 (F := F)) ∧
    Good F c M i (k0_part3 (F := F)) ∧
    Good F c M i (k0_part4 (F := F)) ∧
    Good F c M i (k0_part6 (F := F)) ∧
    Good F c M i (k0_part7 (F := F)) ∧
    Good F c M i (k0_part8 (F := F)) ∧
    Good F c M i (k0_part9 (F := F)) ∧
    Good F c M i (k0_part10 (F := F)) ∧
    Good F c M i (k0_part11 (F := F)) := by
  refine ⟨?_, ?_, ?_, ?_, ?_, ?_, ?_, ?_, ?_, ?_⟩
  all_goals first | unfold k0_part1 | unfold k0_part2 | unfold k0_part3 | unfold k0_part4 | unfold k0_part6 | unfold k0_part7 | unfold k0_part8 | unfold k0_part9 | unfold k0_part10 | unfold k0_part11
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g12 : Good F c M i (k0_part12 (F := F)) ∧
    Good F c M i (k0_part13 (F := F)) ∧
    Good F c M i (k0_part14 (F := F)) ∧
    Good F c M i (k0_part15 (F := F)) ∧
    Good F c M i (k0_part16 (F := F)) ∧
    Good F c M i (k0_part17 (F := F)) ∧
    Good F c M i (k0_part18 (F := F)) ∧
    Good F c M i (k0_part19 (F := F)) ∧
    Good F c M i (k0_part20 (F := F)) ∧
    Good F c M i (k0_part21 (F := F)) := by
  refine ⟨?_, ?_, ?_, ?_, ?_, ?_, ?_, ?_, ?_, ?_⟩
  all_goals first | unfold k0_part12 | unfold k0_part13 | unfold k0_part14 | unfold k0_part15 | unfold k0_part16 | unfold k0_part17 | unfold k0_part18 | unfold k0_part19 | unfold k0_part20 | unfold k0_part21
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g22 : Good F c M i (k0_part22 (F := F)) ∧
    Good F c M i (k0_part23 (F := F)) ∧
    Good F c M i (k0_part24 (F := F)) ∧
    Good F c M i (k0_part25 (F := F)) ∧
    Good F c M i (k0_part26 (F := F)) ∧
    Good F c M i (k0_part27 (F := F)) ∧
    Good F c M i (k0_part28 (F := F)) ∧
    Good F c M i (k0_part29 (F := F)) ∧
    Good F c M i (k0_part30 (F := F)) ∧
    Good F c M i (k0_part31 (F := F)) := by
  refine ⟨?_, ?_, ?_, ?_, ?_, ?_, ?_, ?_, ?_, ?_⟩
  all_goals first | unfold k0_part22 | unfold k0_part23 | unfold k0_part24 | unfold k0_part25 | unfold k0_part26 | unfold k0_part27 | unfold k0_part28 | unfold k0_part29 | unfold k0_part30 | unfold k0_part31
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g32 : Good F c M i (k0_part32 (F := F)) ∧
    Good F c M i (k0_part33 (F := F)) ∧
    Good F c M i (k0_part34 (F := F)) ∧
    Good F c M i (k0_part35 (F := F)) ∧
    Good F c M i (k0_part36 (F := F)) ∧
    Good F c M i (k0_part37 (F := F)) ∧
    Good F c M i (k0_part38 (F := F)) ∧
    Good F c M i (k0_part39 (F := F)) ∧
    Good F c M i (k0_part40 (F := F)) ∧
    Good F c M i (k0_part41 (F := F)) := by
  refine ⟨?_, ?_, ?_, ?_, ?_, ?_, ?_, ?_, ?_, ?_⟩
  all_goals first | unfold k0_part32 | unfold k0_part33 | unfold k0_part34 | unfold k0_part35 | unfold k0_part36 | unfold k0_part37 | unfold k0_part38 | unfold k0_part39 | unfold k0_part40 | unfold k0_part41
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g42 : Good F c M i (k0_part42 (F := F)) ∧
    Good F c M i (k0_part43 (F := F)) ∧
    Good F c M i (k0_part44 (F := F)) ∧
    Good F c M i (k0_part45 (F := F)) ∧
    Good F c M i (k0_part46 (F := F)) ∧
    Good F c M i (k0_part47 (F := F)) ∧
    Good F c M i (k0_part48 (F := F)) ∧
    Good F c M i (k0_part49 (F := F)) ∧
    Good F c M i (k0_part50 (F := F)) ∧
    Good F c M i (k0_part51 (F := F)) := by
  refine ⟨?_, ?_, ?_, ?_, ?_, ?_, ?_, ?_, ?_, ?_⟩
  all_goals first | unfold k0_part42 | unfold k0_part43 | unfold k0_part44 | unfold k0_part45 | unfold k0_part46 | unfold k0_part47 | unfold k0_part48 | unfold k0_part49 | unfold k0_part50 | unfold k0_part51
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g52 : Good F c M i (k0_part52 (F := F)) ∧
    Good F c M i (k0_part53 (F := F)) ∧
    Good F c M i (k0_part54 (F := F)) := by
  refine ⟨?_, ?_, ?_⟩
  all_goals first | unfold k0_part52 | unfold k0_part53 | unfold k0_part54
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces2.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g55 : Good F c M i (k0_part55 (F := F)) ∧
    Good F c M i (k0_part56 (F := F)) ∧
    Good F c M i (k0_part57 (F := F)) ∧
    Good F c M i (k0_part58 (F := F)) ∧
    Good F c M i (k0_part59 (F := F)) ∧
    Good F c M i (k0_part60 (F := F)) ∧
    Good F c M i (k0_part61 (F := F)) ∧
    Good F c M i (k0_part62 (F := F)) ∧
    Good F c M i (k0_part63 (F := F)) ∧
    Good F c M i (k0_part64 (F := F)) := by
  refine ⟨?_, ?_, ?_, ?_, ?_, ?_, ?_, ?_, ?_, ?_⟩
  all_goals first | unfold k0_part55 | unfold k0_part56 | unfold k0_part57 | unfold k0_part58 | unfold k0_part59 | unfold k0_part60 | unfold k0_part61 | unfold k0_part62 | unfold k0_part63 | unfold k0_part64
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g65 : Good F c M i (k0_part65 (F := F)) ∧
    Good F c M i (k0_part66 (F := F)) ∧
    Good F c M i (k0_part67 (F := F)) ∧
    Good F c M i (k0_part68 (F := F)) ∧
    Good F c M i (k0_part69 (F := F)) ∧
    Good F c M i (k0_part70 (F := F)) ∧
    Good F c M i (k0_part71 (F := F)) ∧
    Good F c M i (k0_part72 (F := F)) ∧
    Good F c M i (k0_part73 (F := F)) ∧
    Good F c M i (k0_part74 (F := F)) := by
  refine ⟨?_, ?_, ?_, ?_, ?_, ?_, ?_, ?_, ?_, ?_⟩
  all_goals first | unfold k0_part65 | unfold k0_part66 | unfold k0_part67 | unfold k0_part68 | unfold k0_part69 | unfold k0_part70 | unfold k0_part71 | unfold k0_part72 | unfold k0_part73 | unfold k0_part74
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g75 : Good F c M i (k0_part75 (F := F)) ∧
    Good F c M i (k0_part76 (F := F)) ∧
    Good F c M i (k0_part77 (F := F)) ∧
    Good F c M i (k0_part78 (F := F)) ∧
    Good F c M i (k0_part79 (F := F)) ∧
    Good F c M i (k0_part80 (F := F)) ∧
    Good F c M i (k0_part81 (F := F)) ∧
    Good F c M i (k0_part82 (F := F)) ∧
    Good F c M i (k0_part83 (F := F)) ∧
    Good F c M i (k0_part84 (F := F)) := by
  refine ⟨?_, ?_, ?_, ?_, ?_, ?_, ?_, ?_, ?_, ?_⟩
  all_goals first | unfold k0_part75 | unfold k0_part76 | unfold k0_part77 | unfold k0_part78 | unfold k0_part79 | unfold k0_part80 | unfold k0_part81 | unfold k0_part82 | unfold k0_part83 | unfold k0_part84
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g85 : Good F c M i (k0_part85 (F := F)) ∧
    Good F c M i (k0_part86 (F := F)) ∧
    Good F c M i (k0_part87 (F := F)) ∧
    Good F c M i (k0_part88 (F := F)) ∧
    Good F c M i (k0_part90 (F := F)) ∧
    Good F c M i (k0_part91 (F := F)) ∧
    Good F c M i (k0_part92 (F := F)) ∧
    Good F c M i (k0_part93 (F := F)) ∧
    Good F c M i (k0_part94 (F := F)) ∧
    Good F c M i (k0_part95 (F := F)) := by
  refine ⟨?_, ?_, ?_, ?_, ?_, ?_, ?_, ?_, ?_, ?_⟩
  all_goals first | unfold k0_part85 | unfold k0_part86 | unfold k0_part87 | unfold k0_part88 | unfold k0_part90 | unfold k0_part91 | unfold k0_part92 | unfold k0_part93 | unfold k0_part94 | unfold k0_part95
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g96 : Good F c M i (k0_part96 (F := F)) ∧
    Good F c M i (k0_part97 (F := F)) ∧
    Good F c M i (k0_part98 (F := F)) ∧
    Good F c M i (k0_part99 (F := F)) ∧
    Good F c M i (k0_part100 (F := F)) ∧
    Good F c M i (k0_part101 (F := F)) ∧
    Good F c M i (k0_part102 (F := F)) ∧
    Good F c M i (k0_part103 (F := F)) ∧
    Good F c M i (k0_part104 (F := F)) ∧
    Good F c M i (k0_part105 (F := F)) := by
  refine ⟨?_, ?_, ?_, ?_, ?_, ?_, ?_, ?_, ?_, ?_⟩
  all_goals first | unfold k0_part96 | unfold k0_part97 | unfold k0_part98 | unfold k0_part99 | unfold k0_part100 | unfold k0_part101 | unfold k0_part102 | unfold k0_part103 | unfold k0_part104 | unfold k0_part105
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g106 : Good F c M i (k0_part106 (F := F)) ∧
    Good F c M i (k0_part107 (F := F)) ∧
    Good F c M i (k0_part108 (F := F)) ∧
    Good F c M i (k0_part109 (F := F)) := by
  refine ⟨?_, ?_, ?_, ?_⟩
  all_goals first | unfold k0_part106 | unfold k0_part107 | unfold k0_part108 | unfold k0_part109
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces3.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g110 : Good F c M i (k0_part110 (F := F)) ∧
    Good F c M i (k0_part111 (F := F)) ∧
    Good F c M i (k0_part112 (F := F)) ∧
    Good F c M i (k0_part113 (F := F)) ∧
    Good F c M i (k0_part114 (F := F)) ∧
    Good F c M i (k0_part115 (F := F)) ∧
    Good F c M i (k0_part116 (F := F)) ∧
    Good F c M i (k0_part117 (F := F)) ∧
    Good F c M i (k0_part118 (F := F)) ∧
    Good F c M i (k0_part119 (F := F)) := by
  refine ⟨?_, ?_, ?_, ?_, ?_, ?_, ?_, ?_, ?_, ?_⟩
  all_goals first | unfold k0_part110 | unfold k0_part111 | unfold k0_part112 | unfold k0_part113 | unfold k0_part114 | unfold k0_part115 | unfold k0_part116 | unfold k0_part117 | unfold k0_part118 | unfold k0_part119
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g120 : Good F c M i (k0_part120 (F := F)) ∧
    Good F c M i (k0_part121 (F := F)) ∧
    Good F c M i (k0_part122 (F := F)) ∧
    Good F c M i (k0_part123 (F := F)) ∧
    Good F c M i (k0_part124 (F := F)) ∧
    Good F c M i (k0_part125 (F := F)) ∧
    Good F c M i (k0_part126 (F := F)) ∧
    Good F c M i (k0_part127 (F := F)) ∧
    Good F c M i (k0_part128 (F := F)) ∧
    Good F c M i (k0_part129 (F := F)) := by
  refine ⟨?_, ?_, ?_, ?_, ?_, ?_, ?_, ?_, ?_, ?_⟩
  all_goals first | unfold k0_part120 | unfold k0_part121 | unfold k0_part122 | unfold k0_part123 | unfold k0_part124 | unfold k0_part125 | unfold k0_part126 | unfold k0_part127 | unfold k0_part128 | unfold k0_part129
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g130 : Good F c M i (k0_part130 (F := F)) ∧
    Good F c M i (k0_part131 (F := F)) ∧
    Good F c M i (k0_part132 (F := F)) ∧
    Good F c M i (k0_part133 (F := F)) ∧
    Good F c M i (k0_part134 (F := F)) ∧
    Good F c M i (k0_part135 (F := F)) ∧
    Good F c M i (k0_part136 (F := F)) ∧
    Good F c M i (k0_part137 (F := F)) ∧
    Good F c M i (k0_part138 (F := F)) ∧
    Good F c M i (k0_part139 (F := F)) := by
  refine ⟨?_, ?_, ?_, ?_, ?_, ?_, ?_, ?_, ?_, ?_⟩
  all_goals first | unfold k0_part130 | unfold k0_part131 | unfold k0_part132 | unfold k0_part133 | unfold k0_part134 | unfold k0_part135 | unfold k0_part136 | unfold k0_part137 | unfold k0_part138 | unfold k0_part139
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g140 : Good F c M i (k0_part140 (F := F)) ∧
    Good F c M i (k0_part141 (F := F)) ∧
    Good F c M i (k0_part142 (F := F)) ∧
    Good F c M i (k0_part143 (F := F)) ∧
    Good F c M i (k0_part144 (F := F)) ∧
    Good F c M i (k0_part145 (F := F)) ∧
    Good F c M i (k0_part146 (F := F)) ∧
    Good F c M i (k0_part147 (F := F)) ∧
    Good F c M i (k0_part148 (F := F)) ∧
    Good F c M i (k0_part149 (F := F)) := by
  refine ⟨?_, ?_, ?_, ?_, ?_, ?_, ?_, ?_, ?_, ?_⟩
  all_goals first | unfold k0_part140 | unfold k0_part141 | unfold k0_part142 | unfold k0_part143 | unfold k0_part144 | unfold k0_part145 | unfold k0_part146 | unfold k0_part147 | unfold k0_part148 | unfold k0_part149
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g150 : Good F c M i (k0_part150 (F := F)) ∧
    Good F c M i (k0_part151 (F := F)) ∧
    Good F c M i (k0_part152 (F := F)) ∧
    Good F c M i (k0_part153 (F := F)) ∧
    Good F c M i (k0_part154 (F := F)) ∧
    Good F c M i (k0_part155 (F := F)) ∧
    Good F c M i (k0_part156 (F := F)) ∧
    Good F c M i (k0_part157 (F := F)) ∧
    Good F c M i (k0_part158 (F := F)) ∧
    Good F c M i (k0_part159 (F := F)) := by
  refine ⟨?_, ?_, ?_, ?_, ?_, ?_, ?_, ?_, ?_, ?_⟩
  all_goals first | unfold k0_part150 | unfold k0_part151 | unfold k0_part152 | unfold k0_part153 | unfold k0_part154 | unfold k0_part155 | unfold k0_part156 | unfold k0_part157 | unfold k0_part158 | unfold k0_part159
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g160 : Good F c M i (k0_part160 (F := F)) ∧
    Good F c M i (k0_part161 (F := F)) ∧
    Good F c M i (k0_part162 (F := F)) := by
  refine ⟨?_, ?_, ?_⟩
  all_goals first | unfold k0_part160 | unfold k0_part161 | unfold k0_part162
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces4.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g163 : Good F c M i (k0_part163 (F := F)) ∧
    Good F c M i (k0_part164 (F := F)) ∧
    Good F c M i (k0_part165 (F := F)) ∧
    Good F c M i (k0_part166 (F := F)) ∧
    Good F c M i (k0_part167 (F := F)) ∧
    Good F c M i (k0_part168 (F := F)) ∧
    Good F c M i (k0_part169 (F := F)) ∧
    Good F c M i (k0_part170 (F := F)) ∧
    Good F c M i (k0_part171 (F := F)) ∧
    Good F c M i (k0_part172 (F := F)) := by
  refine ⟨?_, ?_, ?_, ?_, ?_, ?_, ?_, ?_, ?_, ?_⟩
  all_goals first | unfold k0_part163 | unfold k0_part164 | unfold k0_part165 | unfold k0_part166 | unfold k0_part167 | unfold k0_part168 | unfold k0_part169 | unfold k0_part170 | unfold k0_part171 | unfold k0_part172
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g174 : Good F c M i (k0_part174 (F := F)) ∧
    Good F c M i (k0_part175 (F := F)) ∧
    Good F c M i (k0_part176 (F := F)) ∧
    Good F c M i (k0_part177 (F := F)) ∧
    Good F c M i (k0_part178 (F := F)) ∧
    Good F c M i (k0_part179 (F := F)) ∧
    Good F c M i (k0_part180 (F := F)) ∧
    Good F c M i (k0_part181 (F := F)) ∧
    Good F c M i (k0_part182 (F := F)) ∧
    Good F c M i (k0_part183 (F := F)) := by
  refine ⟨?_, ?_, ?_, ?_, ?_, ?_, ?_, ?_, ?_, ?_⟩
  all_goals first | unfold k0_part174 | unfold k0_part175 | unfold k0_part176 | unfold k0_part177 | unfold k0_part178 | unfold k0_part179 | unfold k0_part180 | unfold k0_part181 | unfold k0_part182 | unfold k0_part183
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g184 : Good F c M i (k0_part184 (F := F)) ∧
    Good F c M i (k0_part185 (F := F)) ∧
    Good F c M i (k0_part186 (F := F)) ∧
    Good F c M i (k0_part187 (F := F)) ∧
    Good F c M i (k0_part188 (F := F)) ∧
    Good F c M i (k0_part189 (F := F)) ∧
    Good F c M i (k0_part190 (F := F)) ∧
    Good F c M i (k0_part191 (F := F)) ∧
    Good F c M i (k0_part192 (F := F)) ∧
    Good F c M i (k0_part193 (F := F)) := by
  refine ⟨?_, ?_, ?_, ?_, ?_, ?_, ?_, ?_, ?_, ?_⟩
  all_goals first | unfold k0_part184 | unfold k0_part185 | unfold k0_part186 | unfold k0_part187 | unfold k0_part188 | unfold k0_part189 | unfold k0_part190 | unfold k0_part191 | unfold k0_part192 | unfold k0_part193
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g194 : Good F c M i (k0_part194 (F := F)) ∧
    Good F c M i (k0_part195 (F := F)) ∧
    Good F c M i (k0_part196 (F := F)) ∧
    Good F c M i (k0_part197 (F := F)) ∧
    Good F c M i (k0_part198 (F := F)) ∧
    Good F c M i (k0_part199 (F := F)) ∧
    Good F c M i (k0_part200 (F := F)) ∧
    Good F c M i (k0_part201 (F := F)) ∧
    Good F c M i (k0_part202 (F := F)) ∧
    Good F c M i (k0_part203 (F := F)) := by
  refine ⟨?_, ?_, ?_, ?_, ?_, ?_, ?_, ?_, ?_, ?_⟩
  all_goals first | unfold k0_part194 | unfold k0_part195 | unfold k0_part196 | unfold k0_part197 | unfold k0_part198 | unfold k0_part199 | unfold k0_part200 | unfold k0_part201 | unfold k0_part202 | unfold k0_part203
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g204 : Good F c M i (k0_part204 (F := F)) ∧
    Good F c M i (k0_part205 (F := F)) ∧
    Good F c M i (k0_part206 (F := F)) ∧
    Good F c M i (k0_part207 (F := F)) ∧
    Good F c M i (k0_part208 (F := F)) ∧
    Good F c M i (k0_part209 (F := F)) ∧
    Good F c M i (k0_part210 (F := F)) ∧
    Good F c M i (k0_part211 (F := F)) ∧
    Good F c M i (k0_part212 (F := F)) ∧
    Good F c M i (k0_part213 (F := F)) := by
  refine ⟨?_, ?_, ?_, ?_, ?_, ?_, ?_, ?_, ?_, ?_⟩
  all_goals first | unfold k0_part204 | unfold k0_part205 | unfold k0_part206 | unfold k0_part207 | unfold k0_part208 | unfold k0_part209 | unfold k0_part210 | unfold k0_part211 | unfold k0_part212 | unfold k0_part213
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g214 : Good F c M i (k0_part214 (F := F)) ∧
    Good F c M i (k0_part215 (F := F)) ∧
    Good F c M i (k0_part216 (F := F)) := by
  refine ⟨?_, ?_, ?_⟩
  all_goals first | unfold k0_part214 | unfold k0_part215 | unfold k0_part216
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces5.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g217 : Good F c M i (k0_part217 (F := F)) ∧
    Good F c M i (k0_part218 (F := F)) ∧
    Good F c M i (k0_part219 (F := F)) ∧
    Good F c M i (k0_part220 (F := F)) ∧
    Good F c M i (k0_part221 (F := F)) ∧
    Good F c M i (k0_part222 (F := F)) ∧
    Good F c M i (k0_part223 (F := F)) ∧
    Good F c M i (k0_part224 (F := F)) ∧
    Good F c M i (k0_part225 (F := F)) ∧
    Good F c M i (k0_part226 (F := F)) := by
  refine ⟨?_, ?_, ?_, ?_, ?_, ?_, ?_, ?_, ?_, ?_⟩
  all_goals first | unfold k0_part217 | unfold k0_part218 | unfold k0_part219 | unfold k0_part220 | unfold k0_part221 | unfold k0_part222 | unfold k0_part223 | unfold k0_part224 | unfold k0_part225 | unfold k0_part226
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g227 : Good F c M i (k0_part227 (F := F)) ∧
    Good F c M i (k0_part228 (F := F)) ∧
    Good F c M i (k0_part229 (F := F)) ∧
    Good F c M i (k0_part230 (F := F)) ∧
    Good F c M i (k0_part231 (F := F)) ∧
    Good F c M i (k0_part232 (F := F)) ∧
    Good F c M i (k0_part233 (F := F)) ∧
    Good F c M i (k0_part234 (F := F)) ∧
    Good F c M i (k0_part235 (F := F)) ∧
    Good F c M i (k0_part236 (F := F)) := by
  refine ⟨?_, ?_, ?_, ?_, ?_, ?_, ?_, ?_, ?_, ?_⟩
  all_goals first | unfold k0_part227 | unfold k0_part228 | unfold k0_part229 | unfold k0_part230 | unfold k0_part231 | unfold k0_part232 | unfold k0_part233 | unfold k0_part234 | unfold k0_part235 | unfold k0_part236
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g237 : Good F c M i (k0_part237 (F := F)) ∧
    Good F c M i (k0_part238 (F := F)) ∧
    Good F c M i (k0_part239 (F := F)) ∧
    Good F c M i (k0_part240 (F := F)) ∧
    Good F c M i (k0_part241 (F := F)) ∧
    Good F c M i (k0_part242 (F := F)) ∧
    Good F c M i (k0_part243 (F := F)) ∧
    Good F c M i (k0_part244 (F := F)) ∧
    Good F c M i (k0_part245 (F := F)) ∧
    Good F c M i (k0_part246 (F := F)) := by
  refine ⟨?_, ?_, ?_, ?_, ?_, ?_, ?_, ?_, ?_, ?_⟩
  all_goals first | unfold k0_part237 | unfold k0_part238 | unfold k0_part239 | unfold k0_part240 | unfold k0_part241 | unfold k0_part242 | unfold k0_part243 | unfold k0_part244 | unfold k0_part245 | unfold k0_part246
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g247 : Good F c M i (k0_part247 (F := F)) ∧
    Good F c M i (k0_part248 (F := F)) ∧
    Good F c M i (k0_part249 (F := F)) ∧
    Good F c M i (k0_part250 (F := F)) ∧
    Good F c M i (k0_part251 (F := F)) ∧
    Good F c M i (k0_part252 (F := F)) ∧
    Good F c M i (k0_part253 (F := F)) ∧
    Good F c M i (k0_part254 (F := F)) ∧
    Good F c M i (k0_part255 (F := F)) ∧
    Good F c M i (k0_part256 (F := F)) := by
  refine ⟨?_, ?_, ?_, ?_, ?_, ?_, ?_, ?_, ?_, ?_⟩
  all_goals first | unfold k0_part247 | unfold k0_part248 | unfold k0_part249 | unfold k0_part250 | unfold k0_part251 | unfold k0_part252 | unfold k0_part253 | unfold k0_part254 | unfold k0_part255 | unfold k0_part256
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g257 : Good F c M i (k0_part257 (F := F)) ∧
    Good F c M i (k0_part258 (F := F)) ∧
    Good F c M i (k0_part259 (F := F)) ∧
    Good F c M i (k0_part260 (F := F)) ∧
    Good F c M i (k0_part261 (F := F)) ∧
    Good F c M i (k0_part262 (F := F)) ∧
    Good F c M i (k0_part263 (F := F)) ∧
    Good F c M i (k0_part264 (F := F)) ∧
    Good F c M i (k0_part265 (F := F)) ∧
    Good F c M i (k0_part266 (F := F)) := by
  refine ⟨?_, ?_, ?_, ?_, ?_, ?_, ?_, ?_, ?_, ?_⟩
  all_goals first | unfold k0_part257 | unfold k0_part258 | unfold k0_part259 | unfold k0_part260 | unfold k0_part261 | unfold k0_part262 | unfold k0_part263 | unfold k0_part264 | unfold k0_part265 | unfold k0_part266
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g267 : Good F c M i (k0_part267 (F := F)) ∧
    Good F c M i (k0_part268 (F := F)) ∧
    Good F c M i (k0_part269 (F := F)) ∧
    Good F c M i (k0_part270 (F := F)) := by
  refine ⟨?_, ?_, ?_, ?_⟩
  all_goals first | unfold k0_part267 | unfold k0_part268 | unfold k0_part269 | unfold k0_part270
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces6.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g271 : Good F c M i (k0_part271 (F := F)) ∧
    Good F c M i (k0_part272 (F := F)) ∧
    Good F c M i (k0_part273 (F := F)) ∧
    Good F c M i (k0_part274 (F := F)) ∧
    Good F c M i (k0_part275 (F := F)) ∧
    Good F c M i (k0_part276 (F := F)) ∧
    Good F c M i (k0_part277 (F := F)) ∧
    Good F c M i (k0_part278 (F := F)) ∧
    Good F c M i (k0_part279 (F := F)) ∧
    Good F c M i (k0_part280 (F := F)) := by
  refine ⟨?_, ?_, ?_, ?_, ?_, ?_, ?_, ?_, ?_, ?_⟩
  all_goals first | unfold k0_part271 | unfold k0_part272 | unfold k0_part273 | unfold k0_part274 | unfold k0_part275 | unfold k0_part276 | unfold k0_part277 | unfold k0_part278 | unfold k0_part279 | unfold k0_part280
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g281 : Good F c M i (k0_part281 (F := F)) ∧
    Good F c M i (k0_part282 (F := F)) ∧
    Good F c M i (k0_part283 (F := F)) ∧
    Good F c M i (k0_part284 (F := F)) ∧
    Good F c M i (k0_part285 (F := F)) ∧
    Good F c M i (k0_part286 (F := F)) ∧
    Good F c M i (k0_part287 (F := F)) ∧
    Good F c M i (k0_part288 (F := F)) ∧
    Good F c M i (k0_part289 (F := F)) ∧
    Good F c M i (k0_part290 (F := F)) := by
  refine ⟨?_, ?_, ?_, ?_, ?_, ?_, ?_, ?_, ?_, ?_⟩
  all_goals first | unfold k0_part281 | unfold k0_part282 | unfold k0_part283 | unfold k0_part284 | unfold k0_part285 | unfold k0_part286 | unfold k0_part287 | unfold k0_part288 | unfold k0_part289 | unfold k0_part290
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g291 : Good F c M i (k0_part291 (F := F)) ∧
    Good F c M i (k0_part292 (F := F)) ∧
    Good F c M i (k0_part293 (F := F)) ∧
    Good F c M i (k0_part294 (F := F)) ∧
    Good F c M i (k0_part295 (F := F)) ∧
    Good F c M i (k0_part296 (F := F)) ∧
    Good F c M i (k0_part297 (F := F)) ∧
    Good F c M i (k0_part298 (F := F)) ∧
    Good F c M i (k0_part299 (F := F)) ∧
    Good F c M i (k0_part301 (F := F)) := by
  refine ⟨?_, ?_, ?_, ?_, ?_, ?_, ?_, ?_, ?_, ?_⟩
  all_goals first | unfold k0_part291 | unfold k0_part292 | unfold k0_part293 | unfold k0_part294 | unfold k0_part295 | unfold k0_part296 | unfold k0_part297 | unfold k0_part298 | unfold k0_part299 | unfold k0_part301
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g302 : Good F c M i (k0_part302 (F := F)) ∧
    Good F c M i (k0_part303 (F := F)) ∧
    Good F c M i (k0_part304 (F := F)) ∧
    Good F c M i (k0_part305 (F := F)) ∧
    Good F c M i (k0_part306 (F := F)) ∧
    Good F c M i (k0_part307 (F := F)) ∧
    Good F c M i (k0_part308 (F := F)) ∧
    Good F c M i (k0_part309 (F := F)) ∧
    Good F c M i (k0_part310 (F := F)) ∧
    Good F c M i (k0_part311 (F := F)) := by
  refine ⟨?_, ?_, ?_, ?_, ?_, ?_, ?_, ?_, ?_, ?_⟩
  all_goals first | unfold k0_part302 | unfold k0_part303 | unfold k0_part304 | unfold k0_part305 | unfold k0_part306 | unfold k0_part307 | unfold k0_part308 | unfold k0_part309 | unfold k0_part310 | unfold k0_part311
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g312 : Good F c M i (k0_part312 (F := F)) ∧
    Good F c M i (k0_part313 (F := F)) ∧
    Good F c M i (k0_part314 (F := F)) ∧
    Good F c M i (k0_part315 (F := F)) ∧
    Good F c M i (k0_part316 (F := F)) ∧
    Good F c M i (k0_part317 (F := F)) ∧
    Good F c M i (k0_part318 (F := F)) ∧
    Good F c M i (k0_part319 (F := F)) ∧
    Good F c M i (k0_part320 (F := F)) := by
  refine ⟨?_, ?_, ?_, ?_, ?_, ?_, ?_, ?_, ?_⟩
  all_goals first | unfold k0_part312 | unfold k0_part313 | unfold k0_part314 | unfold k0_part315 | unfold k0_part316 | unfold k0_part317 | unfold k0_part318 | unfold k0_part319 | unfold k0_part320
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem p300 : Piece.ok F c M (M.at i (k0_part300 (F := F))) := by
  unfold k0_part300; intro _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )

end Cert.Hand

end
-- ==== Proof.Pieces7.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g321 : Good F c M i (k0_part321 (F := F)) ∧
    Good F c M i (k0_part322 (F := F)) ∧
    Good F c M i (k0_part323 (F := F)) ∧
    Good F c M i (k0_part324 (F := F)) ∧
    Good F c M i (k0_part325 (F := F)) ∧
    Good F c M i (k0_part326 (F := F)) ∧
    Good F c M i (k0_part327 (F := F)) ∧
    Good F c M i (k0_part328 (F := F)) ∧
    Good F c M i (k0_part329 (F := F)) ∧
    Good F c M i (k0_part330 (F := F)) := by
  refine ⟨?_, ?_, ?_, ?_, ?_, ?_, ?_, ?_, ?_, ?_⟩
  all_goals first | unfold k0_part321 | unfold k0_part322 | unfold k0_part323 | unfold k0_part324 | unfold k0_part325 | unfold k0_part326 | unfold k0_part327 | unfold k0_part328 | unfold k0_part329 | unfold k0_part330
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g331 : Good F c M i (k0_part331 (F := F)) ∧
    Good F c M i (k0_part332 (F := F)) ∧
    Good F c M i (k0_part333 (F := F)) ∧
    Good F c M i (k0_part334 (F := F)) ∧
    Good F c M i (k0_part335 (F := F)) ∧
    Good F c M i (k0_part336 (F := F)) ∧
    Good F c M i (k0_part337 (F := F)) ∧
    Good F c M i (k0_part338 (F := F)) ∧
    Good F c M i (k0_part339 (F := F)) ∧
    Good F c M i (k0_part340 (F := F)) := by
  refine ⟨?_, ?_, ?_, ?_, ?_, ?_, ?_, ?_, ?_, ?_⟩
  all_goals first | unfold k0_part331 | unfold k0_part332 | unfold k0_part333 | unfold k0_part334 | unfold k0_part335 | unfold k0_part336 | unfold k0_part337 | unfold k0_part338 | unfold k0_part339 | unfold k0_part340
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g341 : Good F c M i (k0_part341 (F := F)) ∧
    Good F c M i (k0_part342 (F := F)) ∧
    Good F c M i (k0_part343 (F := F)) ∧
    Good F c M i (k0_part344 (F := F)) ∧
    Good F c M i (k0_part345 (F := F)) ∧
    Good F c M i (k0_part346 (F := F)) ∧
    Good F c M i (k0_part347 (F := F)) ∧
    Good F c M i (k0_part348 (F := F)) ∧
    Good F c M i (k0_part349 (F := F)) ∧
    Good F c M i (k0_part350 (F := F)) := by
  refine ⟨?_, ?_, ?_, ?_, ?_, ?_, ?_, ?_, ?_, ?_⟩
  all_goals first | unfold k0_part341 | unfold k0_part342 | unfold k0_part343 | unfold k0_part344 | unfold k0_part345 | unfold k0_part346 | unfold k0_part347 | unfold k0_part348 | unfold k0_part349 | unfold k0_part350
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g351 : Good F c M i (k0_part351 (F := F)) ∧
    Good F c M i (k0_part352 (F := F)) ∧
    Good F c M i (k0_part353 (F := F)) ∧
    Good F c M i (k0_part354 (F := F)) ∧
    Good F c M i (k0_part355 (F := F)) ∧
    Good F c M i (k0_part356 (F := F)) ∧
    Good F c M i (k0_part357 (F := F)) ∧
    Good F c M i (k0_part358 (F := F)) ∧
    Good F c M i (k0_part359 (F := F)) ∧
    Good F c M i (k0_part360 (F := F)) := by
  refine ⟨?_, ?_, ?_, ?_, ?_, ?_, ?_, ?_, ?_, ?_⟩
  all_goals first | unfold k0_part351 | unfold k0_part352 | unfold k0_part353 | unfold k0_part354 | unfold k0_part355 | unfold k0_part356 | unfold k0_part357 | unfold k0_part358 | unfold k0_part359 | unfold k0_part360
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g361 : Good F c M i (k0_part361 (F := F)) ∧
    Good F c M i (k0_part362 (F := F)) ∧
    Good F c M i (k0_part363 (F := F)) ∧
    Good F c M i (k0_part364 (F := F)) ∧
    Good F c M i (k0_part365 (F := F)) ∧
    Good F c M i (k0_part366 (F := F)) ∧
    Good F c M i (k0_part367 (F := F)) ∧
    Good F c M i (k0_part368 (F := F)) := by
  refine ⟨?_, ?_, ?_, ?_, ?_, ?_, ?_, ?_⟩
  all_goals first | unfold k0_part361 | unfold k0_part362 | unfold k0_part363 | unfold k0_part364 | unfold k0_part365 | unfold k0_part366 | unfold k0_part367 | unfold k0_part368
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

end Cert.Hand

end
-- ==== Proof.Pieces8.lean ====
/- Pieces of the attention kernel's body, each safe at the buffers held, some at a time. -/
module

public import proofs.«01_k».proof.Proof.Mems

@[expose] public section

set_option maxRecDepth 8000

noncomputable section

namespace Cert.Hand

open Cert.Dsa Idealize.ShloMosaic

variable {F : FTy → Type} [BitOps F] [Facts] (c : Dev nD) (M : Mems) (i : grid0.Coords)

theorem g369 : Good F c M i (k0_part369 (F := F)) ∧
    Good F c M i (k0_part370 (F := F)) ∧
    Good F c M i (k0_part371 (F := F)) ∧
    Good F c M i (k0_part372 (F := F)) ∧
    Good F c M i (k0_part373 (F := F)) ∧
    Good F c M i (k0_part374 (F := F)) ∧
    Good F c M i (k0_part375 (F := F)) ∧
    Good F c M i (k0_part376 (F := F)) ∧
    Good F c M i (k0_part377 (F := F)) ∧
    Good F c M i (k0_part378 (F := F)) := by
  refine ⟨?_, ?_, ?_, ?_, ?_, ?_, ?_, ?_, ?_, ?_⟩
  all_goals first | unfold k0_part369 | unfold k0_part370 | unfold k0_part371 | unfold k0_part372 | unfold k0_part373 | unfold k0_part374 | unfold k0_part375 | unfold k0_part376 | unfold k0_part377 | unfold k0_part378
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g379 : Good F c M i (k0_part379 (F := F)) ∧
    Good F c M i (k0_part380 (F := F)) ∧
    Good F c M i (k0_part381 (F := F)) ∧
    Good F c M i (k0_part382 (F := F)) ∧
    Good F c M i (k0_part383 (F := F)) ∧
    Good F c M i (k0_part384 (F := F)) ∧
    Good F c M i (k0_part385 (F := F)) ∧
    Good F c M i (k0_part388 (F := F)) ∧
    Good F c M i (k0_part389 (F := F)) ∧
    Good F c M i (k0_part390 (F := F)) := by
  refine ⟨?_, ?_, ?_, ?_, ?_, ?_, ?_, ?_, ?_, ?_⟩
  all_goals first | unfold k0_part379 | unfold k0_part380 | unfold k0_part381 | unfold k0_part382 | unfold k0_part383 | unfold k0_part384 | unfold k0_part385 | unfold k0_part388 | unfold k0_part389 | unfold k0_part390
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g391 : Good F c M i (k0_part391 (F := F)) ∧
    Good F c M i (k0_part392 (F := F)) ∧
    Good F c M i (k0_part393 (F := F)) ∧
    Good F c M i (k0_part394 (F := F)) ∧
    Good F c M i (k0_part398 (F := F)) ∧
    Good F c M i (k0_part399 (F := F)) ∧
    Good F c M i (k0_part400 (F := F)) ∧
    Good F c M i (k0_part401 (F := F)) ∧
    Good F c M i (k0_part402 (F := F)) ∧
    Good F c M i (k0_part403 (F := F)) := by
  refine ⟨?_, ?_, ?_, ?_, ?_, ?_, ?_, ?_, ?_, ?_⟩
  all_goals first | unfold k0_part391 | unfold k0_part392 | unfold k0_part393 | unfold k0_part394 | unfold k0_part398 | unfold k0_part399 | unfold k0_part400 | unfold k0_part401 | unfold k0_part402 | unfold k0_part403
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g404 : Good F c M i (k0_part404 (F := F)) ∧
    Good F c M i (k0_part405 (F := F)) ∧
    Good F c M i (k0_part406 (F := F)) ∧
    Good F c M i (k0_part407 (F := F)) ∧
    Good F c M i (k0_part408 (F := F)) ∧
    Good F c M i (k0_part409 (F := F)) ∧
    Good F c M i (k0_part410 (F := F)) ∧
    Good F c M i (k0_part411 (F := F)) ∧
    Good F c M i (k0_part412 (F := F)) ∧
    Good F c M i (k0_part413 (F := F)) := by
  refine ⟨?_, ?_, ?_, ?_, ?_, ?_, ?_, ?_, ?_, ?_⟩
  all_goals first | unfold k0_part404 | unfold k0_part405 | unfold k0_part406 | unfold k0_part407 | unfold k0_part408 | unfold k0_part409 | unfold k0_part410 | unfold k0_part411 | unfold k0_part412 | unfold k0_part413
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem g414 : Good F c M i (k0_part414 (F := F)) ∧
    Good F c M i (k0_part415 (F := F)) ∧
    Good F c M i (k0_part416 (F := F)) ∧
    Good F c M i (k0_part417 (F := F)) ∧
    Good F c M i (k0_part418 (F := F)) ∧
    Good F c M i (k0_part419 (F := F)) ∧
    Good F c M i (k0_part422 (F := F)) ∧
    Good F c M i (k0_part423 (F := F)) := by
  refine ⟨?_, ?_, ?_, ?_, ?_, ?_, ?_, ?_⟩
  all_goals first | unfold k0_part414 | unfold k0_part415 | unfold k0_part416 | unfold k0_part417 | unfold k0_part418 | unfold k0_part419 | unfold k0_part422 | unfold k0_part423
  all_goals (repeat with_reducible (first | refine Good.fn fun _ => ?_ | refine Good.prop fun _ => ?_))
  all_goals refine Good.prog ?_
  all_goals repeat (first | with_reducible exact safe_pure _ | exact safe_load _ | exact safe_store _ | with_reducible refine safe_bind ?_ (fun _ => ?_))

theorem p387 : Piece.ok F c M (M.at i (k0_part387 (F := F))) := by
  unfold k0_part387; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )

end Cert.Hand

end
-- ==== Proof.Pieces.lean ====
/- The longer pieces of the attention kernel's body, each safe at the buffers held. -/
module

public import proofs.«01_k».proof.Proof.Pieces1
public import proofs.«01_k».proof.Proof.Pieces2
public import proofs.«01_k».proof.Proof.Pieces3
public import proofs.«01_k».proof.Proof.Pieces4
public import proofs.«01_k».proof.Proof.Pieces5
public import proofs.«01_k».proof.Proof.Pieces6
public import proofs.«01_k».proof.Proof.Pieces7
public import proofs.«01_k».proof.Proof.Pieces8

@[expose] public section

set_option maxRecDepth 8000

noncomputable section

namespace Cert.Hand

open Cert.Dsa Idealize.ShloMosaic

variable {F : FTy → Type} [BitOps F] [Facts] (c : Dev nD) (M : Mems) (i : grid0.Coords)

theorem p5 : Piece.ok F c M (M.at i (k0_part5 (F := F))) := by
  obtain ⟨p1, p2, p3, p4, _⟩ := g1 (F := F) c M i
  unfold k0_part5; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p1, p2 _, p3 _, p4 _]

theorem p89 : Piece.ok F c M (M.at i (k0_part89 (F := F))) := by
  obtain ⟨_, _, _, _, p6, p7, p8, p9, p10, p11⟩ := g1 (F := F) c M i
  obtain ⟨p12, p13, p14, p15, p16, p17, p18, p19, p20, p21⟩ := g12 (F := F) c M i
  obtain ⟨p22, p23, p24, p25, p26, p27, p28, p29, p30, p31⟩ := g22 (F := F) c M i
  obtain ⟨p32, p33, p34, p35, p36, p37, p38, p39, p40, p41⟩ := g32 (F := F) c M i
  obtain ⟨p42, p43, p44, p45, p46, p47, p48, p49, p50, p51⟩ := g42 (F := F) c M i
  obtain ⟨p52, p53, p54⟩ := g52 (F := F) c M i
  obtain ⟨p55, p56, p57, p58, p59, p60, p61, p62, p63, p64⟩ := g55 (F := F) c M i
  obtain ⟨p65, _⟩ := g65 (F := F) c M i
  unfold k0_part89; intro _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p6 _ _ _ _, p7 _ _ _, p8 _ _ _ _ _ _ _ _ _ _ _ _, p9 _ _ _ _ _ _ _ _ _ _ _ _, p10 _ _ _ _ _ _ _ _ _ _ _ _, p11 _ _ _ _ _ _ _ _ _ _ _ _, p12 _ _ _ _ _ _ _ _ _ _ _ _,
    p13 _ _ _ _ _ _ _ _ _ _ _ _, p14 _ _ _ _ _ _ _ _ _ _ _ _, p15 _ _ _ _ _ _ _ _ _ _ _ _, p16 _ _ _ _ _ _ _ _ _ _ _ _, p17 _ _ _ _ _ _ _ _ _ _ _ _, p18 _ _ _ _ _ _ _ _ _ _ _ _,
    p19 _ _ _ _ _ _ _ _ _ _ _ _, p20 _ _ _ _ _ _ _ _ _ _ _ _, p21 _ _ _ _ _ _ _ _ _ _ _ _, p22 _ _ _ _ _ _ _ _ _ _ _ _, p23 _ _ _ _ _ _ _ _ _ _ _ _, p24 _ _ _ _ _ _ _ _ _ _ _,
    p25 _ _ _ _ _ _ _ _ _ _ _, p26 _ _ _ _ _ _ _ _ _ _ _, p27 _ _ _ _ _ _ _ _ _, p28 _ _ _ _ _, p29 _ _ _ _ _ _ _ _ _ _ _ _, p30 _ _ _ _ _ _ _ _ _ _ _ _, p31 _ _ _ _ _ _ _ _ _ _ _ _,
    p32 _ _ _ _ _ _ _ _ _ _ _ _, p33 _ _ _ _ _ _ _ _ _ _ _ _, p34 _ _ _ _ _ _ _ _ _ _ _ _, p35 _ _ _ _ _ _ _ _ _ _ _ _, p36 _ _ _ _ _ _ _ _ _ _ _ _, p37 _ _ _ _ _ _ _ _ _ _ _ _,
    p38 _ _ _ _ _ _ _ _ _ _ _ _, p39 _ _ _ _ _ _ _ _ _ _ _ _, p40 _ _ _ _ _ _ _ _ _ _ _ _, p41 _ _ _ _ _ _ _ _ _ _ _ _, p42 _ _ _ _ _ _ _ _ _ _ _ _, p43 _ _ _ _ _ _ _ _ _ _ _ _,
    p44 _ _ _ _ _ _ _ _ _ _ _ _, p45 _ _ _ _ _ _ _ _ _ _, p46 _ _ _ _ _ _ _ _ _ _ _, p47 _ _ _ _ _ _ _ _ _ _ _, p48 _ _ _ _ _ _, p49 _ _ _ _ _ _ _ _ _ _ _ _,
    p50 _ _ _ _ _ _ _ _ _ _ _ _, p51 _ _ _ _ _ _ _ _ _ _ _ _, p52 _ _ _ _ _ _ _ _ _ _ _ _, p53 _ _ _ _ _ _ _ _ _ _ _ _, p54 _ _ _ _ _ _ _ _ _ _ _ _, p55 _ _ _ _ _ _ _ _ _ _ _ _,
    p56 _ _ _ _ _ _ _ _ _ _ _ _, p57 _ _ _ _ _ _ _ _ _ _ _ _, p58 _ _ _ _ _ _ _ _ _ _ _ _, p59 _ _ _ _ _ _ _ _ _ _ _ _, p60 _ _ _ _ _ _ _ _ _ _ _ _, p61 _ _ _ _ _ _ _ _ _ _ _ _,
    p62 _ _ _ _ _ _ _ _ _ _ _ _, p63 _ _ _ _ _ _ _ _ _ _ _ _, p64 _ _ _ _ _ _ _ _ _ _ _ _, p65 _ _ _ _ _ _ _ _ _ _]

theorem p173 : Piece.ok F c M (M.at i (k0_part173 (F := F))) := by
  obtain ⟨_, _, _, _, p90, p91, p92, p93, p94, p95⟩ := g85 (F := F) c M i
  obtain ⟨p96, p97, p98, p99, p100, p101, p102, p103, p104, p105⟩ := g96 (F := F) c M i
  obtain ⟨p106, p107, p108, p109⟩ := g106 (F := F) c M i
  obtain ⟨p110, p111, p112, p113, p114, p115, p116, p117, p118, p119⟩ := g110 (F := F) c M i
  obtain ⟨p120, p121, p122, p123, p124, p125, p126, p127, p128, p129⟩ := g120 (F := F) c M i
  obtain ⟨p130, p131, p132, p133, p134, p135, p136, p137, p138, p139⟩ := g130 (F := F) c M i
  obtain ⟨p140, p141, p142, p143, p144, p145, p146, p147, p148, p149⟩ := g140 (F := F) c M i
  unfold k0_part173; intro _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p90 _ _ _ _, p91 _ _ _, p92 _ _ _ _ _ _ _ _ _ _ _ _, p93 _ _ _ _ _ _ _ _ _ _ _ _, p94 _ _ _ _ _ _ _ _ _ _ _ _, p95 _ _ _ _ _ _ _ _ _ _ _ _, p96 _ _ _ _ _ _ _ _ _ _ _ _,
    p97 _ _ _ _ _ _ _ _ _ _ _ _, p98 _ _ _ _ _ _ _ _ _ _ _ _, p99 _ _ _ _ _ _ _ _ _ _ _ _, p100 _ _ _ _ _ _ _ _ _ _ _ _, p101 _ _ _ _ _ _ _ _ _ _ _ _, p102 _ _ _ _ _ _ _ _ _ _ _ _,
    p103 _ _ _ _ _ _ _ _ _ _ _ _, p104 _ _ _ _ _ _ _ _ _ _ _ _, p105 _ _ _ _ _ _ _ _ _ _ _ _, p106 _ _ _ _ _ _ _ _ _ _ _ _, p107 _ _ _ _ _ _ _ _ _ _ _ _, p108 _ _ _ _ _ _ _ _ _ _ _,
    p109 _ _ _ _ _ _ _ _ _ _ _, p110 _ _ _ _ _ _ _ _ _ _ _, p111 _ _ _ _ _ _ _ _ _, p112 _ _ _ _ _, p113 _ _ _ _ _ _ _ _ _ _ _ _, p114 _ _ _ _ _ _ _ _ _ _ _ _,
    p115 _ _ _ _ _ _ _ _ _ _ _ _, p116 _ _ _ _ _ _ _ _ _ _ _ _, p117 _ _ _ _ _ _ _ _ _ _ _ _, p118 _ _ _ _ _ _ _ _ _ _ _ _, p119 _ _ _ _ _ _ _ _ _ _ _ _, p120 _ _ _ _ _ _ _ _ _ _ _ _,
    p121 _ _ _ _ _ _ _ _ _ _ _ _, p122 _ _ _ _ _ _ _ _ _ _ _ _, p123 _ _ _ _ _ _ _ _ _ _ _ _, p124 _ _ _ _ _ _ _ _ _ _ _ _, p125 _ _ _ _ _ _ _ _ _ _ _ _, p126 _ _ _ _ _ _ _ _ _ _ _ _,
    p127 _ _ _ _ _ _ _ _ _ _ _ _, p128 _ _ _ _ _ _ _ _ _ _ _ _, p129 _ _ _ _ _ _ _ _ _ _, p130 _ _ _ _ _ _ _ _ _ _ _, p131 _ _ _ _ _ _ _ _ _ _ _, p132 _ _ _ _ _ _,
    p133 _ _ _ _ _ _ _ _ _ _ _ _, p134 _ _ _ _ _ _ _ _ _ _ _ _, p135 _ _ _ _ _ _ _ _ _ _ _ _, p136 _ _ _ _ _ _ _ _ _ _ _ _, p137 _ _ _ _ _ _ _ _ _ _ _ _, p138 _ _ _ _ _ _ _ _ _ _ _ _,
    p139 _ _ _ _ _ _ _ _ _ _ _ _, p140 _ _ _ _ _ _ _ _ _ _ _ _, p141 _ _ _ _ _ _ _ _ _ _ _ _, p142 _ _ _ _ _ _ _ _ _ _ _ _, p143 _ _ _ _ _ _ _ _ _ _ _ _, p144 _ _ _ _ _ _ _ _ _ _ _ _,
    p145 _ _ _ _ _ _ _ _ _ _ _ _, p146 _ _ _ _ _ _ _ _ _ _ _ _, p147 _ _ _ _ _ _ _ _ _ _ _ _, p148 _ _ _ _ _ _ _ _ _ _ _ _, p149 _ _ _ _ _ _ _ _ _ _]

theorem p386 : Piece.ok F c M (M.at i (k0_part386 (F := F))) := by
  obtain ⟨p341, p342, p343, p344, p345, p346, p347, p348, p349, p350⟩ := g341 (F := F) c M i
  obtain ⟨p351, p352, p353, p354, p355, p356, p357, p358, p359, p360⟩ := g351 (F := F) c M i
  obtain ⟨p361, p362, p363, p364, p365, p366, p367, p368⟩ := g361 (F := F) c M i
  obtain ⟨p369, _⟩ := g369 (F := F) c M i
  unfold k0_part386; intro _ _ _ _ _ _ _ _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p341 _ _ _ _, p342 _ _ _ _ _ _ _ _ _ _ _, p343 _ _ _ _ _ _ _ _, p344 _ _ _ _ _ _ _ _ _, p345 _ _ _ _, p346 _ _ _ _ _ _ _ _ _ _ _, p347 _ _ _ _ _ _ _ _, p348 _ _ _ _ _ _ _ _ _,
    p349 _ _ _ _, p350 _ _ _ _ _ _ _ _ _ _ _, p351 _ _ _ _ _ _ _ _, p352 _ _ _ _ _ _ _ _ _, p353 _ _ _ _, p354 _ _ _ _ _ _ _ _ _ _ _, p355 _ _ _ _ _ _ _ _, p356 _ _ _ _ _ _ _ _ _,
    p357 _ _ _ _, p358 _ _ _ _ _ _ _ _ _ _ _, p359 _ _ _ _ _ _ _ _ _, p360 _ _ _ _ _ _ _ _, p361 _ _ _ _, p362 _ _ _ _ _ _ _ _ _ _ _, p363 _ _ _ _ _ _ _ _ _, p364 _ _ _ _ _ _ _ _,
    p365 _ _ _ _, p366 _ _ _ _ _ _ _ _ _ _ _, p367 _ _ _ _ _ _ _ _ _ _ _ _, p368 _ _ _ _ _ _ _ _ _ _ _ _ _, p369 _ _ _ _ _ _ _ _ _ _]

theorem p395 : Piece.ok F c M (M.at i (k0_part395 (F := F))) := by
  obtain ⟨_, p66, p67, p68, p69, p70, p71, p72, p73, p74⟩ := g65 (F := F) c M i
  obtain ⟨p75, p76, p77, p78, p79, p80, p81, p82, p83, p84⟩ := g75 (F := F) c M i
  obtain ⟨p85, p86, p87, p88, _⟩ := g85 (F := F) c M i
  obtain ⟨p150, p151, p152, p153, p154, p155, p156, p157, p158, p159⟩ := g150 (F := F) c M i
  obtain ⟨p160, p161, p162⟩ := g160 (F := F) c M i
  obtain ⟨p163, p164, p165, p166, p167, p168, p169, p170, p171, p172⟩ := g163 (F := F) c M i
  unfold k0_part395; intro _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p5 c M i, p89 c M i _ _ _ _, p66 _ _ _ _ _ _ _ _ _ _ _ _, p67 _ _ _ _ _ _ _ _ _ _, p68 _ _ _ _ _ _ _ _ _ _ _, p69 _ _, p70 _ _ _ _ _ _ _ _ _ _ _ _, p71 _ _ _ _ _ _ _ _ _ _ _ _,
    p72 _ _ _ _ _ _ _ _ _ _ _ _, p73 _ _ _ _ _ _ _ _ _ _ _ _, p74 _ _ _ _ _ _ _ _ _ _ _ _, p75 _ _ _ _ _ _ _ _ _ _ _ _, p76 _ _ _ _ _ _ _ _ _ _ _ _, p77 _ _ _ _ _ _ _ _ _ _ _ _,
    p78 _ _ _ _ _ _ _ _ _ _ _ _, p79 _ _ _ _ _ _ _ _ _ _ _ _, p80 _ _ _ _ _ _ _ _ _ _ _ _, p81 _ _ _ _ _ _ _ _ _ _ _ _, p82 _ _ _ _ _ _ _ _ _ _ _ _, p83 _ _ _ _ _ _ _ _ _ _ _ _,
    p84 _ _ _ _ _ _ _ _ _ _ _ _, p85 _ _ _ _ _ _ _ _ _ _ _ _, p86 _ _ _ _ _ _ _ _ _ _ _, p87 _ _ _ _ _ _ _ _ _ _, p88 _ _ _ _ _ _ _ _ _ _ _ _, p173 c M i _ _ _ _,
    p150 _ _ _ _ _ _ _ _ _ _ _ _, p151 _ _ _ _ _ _ _ _ _ _, p152 _ _ _ _ _ _ _ _ _ _ _, p153 _ _, p154 _ _ _ _ _ _ _ _ _ _ _ _, p155 _ _ _ _ _ _ _ _ _ _ _ _,
    p156 _ _ _ _ _ _ _ _ _ _ _ _, p157 _ _ _ _ _ _ _ _ _ _ _ _, p158 _ _ _ _ _ _ _ _ _ _ _ _, p159 _ _ _ _ _ _ _ _ _ _ _ _, p160 _ _ _ _ _ _ _ _ _ _ _ _, p161 _ _ _ _ _ _ _ _ _ _ _ _,
    p162 _ _ _ _ _ _ _ _ _ _ _ _, p163 _ _ _ _ _ _ _ _ _ _ _ _, p164 _ _ _ _ _ _ _ _ _ _ _ _, p165 _ _ _ _ _ _ _ _ _ _ _ _, p166 _ _ _ _ _ _ _ _ _ _ _ _, p167 _ _ _ _ _ _ _ _ _ _ _ _,
    p168 _ _ _ _ _ _ _ _ _ _ _ _, p169 _ _ _ _ _ _ _ _ _ _ _ _, p170 _ _ _ _ _ _ _ _ _ _ _, p171 _ _ _ _ _ _ _ _ _ _, p172 _ _ _ _ _ _ _ _ _ _ _ _, p89 c M i _ _ _ _,
    p66 _ _ _ _ _ _ _ _ _ _ _ _, p67 _ _ _ _ _ _ _ _ _ _, p68 _ _ _ _ _ _ _ _ _ _ _, p69 _ _, p70 _ _ _ _ _ _ _ _ _ _ _ _, p71 _ _ _ _ _ _ _ _ _ _ _ _, p72 _ _ _ _ _ _ _ _ _ _ _ _,
    p73 _ _ _ _ _ _ _ _ _ _ _ _, p74 _ _ _ _ _ _ _ _ _ _ _ _, p75 _ _ _ _ _ _ _ _ _ _ _ _, p76 _ _ _ _ _ _ _ _ _ _ _ _, p77 _ _ _ _ _ _ _ _ _ _ _ _, p78 _ _ _ _ _ _ _ _ _ _ _ _,
    p79 _ _ _ _ _ _ _ _ _ _ _ _, p80 _ _ _ _ _ _ _ _ _ _ _ _, p81 _ _ _ _ _ _ _ _ _ _ _ _, p82 _ _ _ _ _ _ _ _ _ _ _ _, p83 _ _ _ _ _ _ _ _ _ _ _ _, p84 _ _ _ _ _ _ _ _ _ _ _ _,
    p85 _ _ _ _ _ _ _ _ _ _ _ _, p86 _ _ _ _ _ _ _ _ _ _ _, p87 _ _ _ _ _ _ _ _ _ _, p88 _ _ _ _ _ _ _ _ _ _ _ _, p173 c M i _ _ _ _, p150 _ _ _ _ _ _ _ _ _ _ _ _,
    p151 _ _ _ _ _ _ _ _ _ _, p152 _ _ _ _ _ _ _ _ _ _ _, p153 _ _, p154 _ _ _ _ _ _ _ _ _ _ _ _, p155 _ _ _ _ _ _ _ _ _ _ _ _, p156 _ _ _ _ _ _ _ _ _ _ _ _,
    p157 _ _ _ _ _ _ _ _ _ _ _ _, p158 _ _ _ _ _ _ _ _ _ _ _ _, p159 _ _ _ _ _ _ _ _ _ _ _ _, p160 _ _ _ _ _ _ _ _ _ _ _ _, p161 _ _ _ _ _ _ _ _ _ _ _ _, p162 _ _ _ _ _ _ _ _ _ _ _ _,
    p163 _ _ _ _ _ _ _ _ _ _ _ _, p164 _ _ _ _ _ _ _ _ _ _ _ _, p165 _ _ _ _ _ _ _ _ _ _ _ _, p166 _ _ _ _ _ _ _ _ _ _ _ _, p167 _ _ _ _ _ _ _ _ _ _ _ _, p168 _ _ _ _ _ _ _ _ _ _ _ _,
    p169 _ _ _ _ _ _ _ _ _ _ _ _, p170 _ _ _ _ _ _ _ _ _ _ _, p171 _ _ _ _ _ _ _ _ _ _, p172 _ _ _ _ _ _ _ _ _ _ _ _]

theorem p396 : Piece.ok F c M (M.at i (k0_part396 (F := F))) := by
  obtain ⟨p174, p175, p176, p177, p178, p179, p180, p181, p182, p183⟩ := g174 (F := F) c M i
  obtain ⟨p184, p185, p186, p187, p188, p189, p190, p191, p192, p193⟩ := g184 (F := F) c M i
  obtain ⟨p194, p195, p196, p197, p198, p199, p200, p201, p202, p203⟩ := g194 (F := F) c M i
  obtain ⟨p204, p205, p206, p207, p208, p209, p210, p211, p212, p213⟩ := g204 (F := F) c M i
  obtain ⟨p214, p215, p216⟩ := g214 (F := F) c M i
  obtain ⟨p217, p218, p219, p220, p221, p222, p223, p224, p225, p226⟩ := g217 (F := F) c M i
  obtain ⟨p227, p228, p229, p230, p231, p232, p233, p234, p235, p236⟩ := g227 (F := F) c M i
  obtain ⟨p237, p238, p239, p240, p241, p242, p243, p244, p245, p246⟩ := g237 (F := F) c M i
  obtain ⟨p247, p248, p249, p250, p251, p252, p253, p254, p255, p256⟩ := g247 (F := F) c M i
  obtain ⟨p257, _⟩ := g257 (F := F) c M i
  unfold k0_part396; intro _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p174 _ _ _ _, p175 _ _ _, p176 _ _ _ _ _ _ _ _ _ _ _ _, p177 _ _ _ _ _ _ _ _ _ _ _ _, p178 _ _ _ _ _ _ _ _ _ _ _ _, p179 _ _ _ _ _ _ _ _ _ _ _ _, p180 _ _ _ _ _ _ _ _ _ _ _ _,
    p181 _ _ _ _ _ _ _ _ _ _ _ _, p182 _ _ _ _ _ _ _ _ _ _ _ _, p183 _ _ _ _ _ _ _ _ _ _ _ _, p184 _ _ _ _ _ _ _ _ _ _ _ _, p185 _ _ _ _ _ _ _ _ _ _ _ _, p186 _ _ _ _ _ _ _ _ _ _ _ _,
    p187 _ _ _ _ _ _ _ _ _ _ _ _, p188 _ _ _ _ _ _ _ _ _ _ _ _, p189 _ _ _ _ _ _ _ _ _ _ _ _, p190 _ _ _ _ _ _ _ _ _ _ _ _, p191 _ _ _ _ _ _ _ _ _ _ _ _, p192 _ _ _ _ _ _ _ _ _ _ _,
    p193 _ _ _ _ _ _ _ _ _ _ _, p194 _ _ _ _ _ _ _ _ _ _ _, p195 _ _ _ _ _ _ _ _ _, p196 _ _ _ _ _, p197 _ _ _ _ _ _ _ _ _ _ _ _, p198 _ _ _ _ _ _ _ _ _ _ _ _,
    p199 _ _ _ _ _ _ _ _ _ _ _ _, p200 _ _ _ _ _ _ _ _ _ _ _ _, p201 _ _ _ _ _ _ _ _ _ _ _ _, p202 _ _ _ _ _ _ _ _ _ _ _ _, p203 _ _ _ _ _ _ _ _ _ _ _ _, p204 _ _ _ _ _ _ _ _ _ _ _ _,
    p205 _ _ _ _ _ _ _ _ _ _ _ _, p206 _ _ _ _ _ _ _ _ _ _ _ _, p207 _ _ _ _ _ _ _ _ _ _ _ _, p208 _ _ _ _ _ _ _ _ _ _ _ _, p209 _ _ _ _ _ _ _ _ _ _ _ _, p210 _ _ _ _ _ _ _ _ _ _ _ _,
    p211 _ _ _ _ _ _ _ _ _ _ _ _, p212 _ _ _ _ _ _ _ _ _ _ _ _, p213 _ _ _ _ _ _ _ _ _ _, p214 _ _ _ _ _ _ _ _ _ _ _, p215 _ _ _ _ _ _ _ _ _ _ _, p216 _ _ _ _, p217 _ _ _,
    p218 _ _ _ _ _ _ _ _ _ _ _ _, p219 _ _ _ _ _ _ _ _ _ _ _ _, p220 _ _ _ _ _ _ _ _ _ _ _ _, p221 _ _ _ _ _ _ _ _ _ _ _ _, p222 _ _ _ _ _ _ _ _ _ _ _ _, p223 _ _ _ _ _ _ _ _ _ _ _ _,
    p224 _ _ _ _ _ _ _ _ _ _ _ _, p225 _ _ _ _ _ _ _ _ _ _ _ _, p226 _ _ _ _ _ _ _ _ _ _ _ _, p227 _ _ _ _ _ _ _ _ _ _ _ _, p228 _ _ _ _ _ _ _ _ _ _ _ _, p229 _ _ _ _ _ _ _ _ _ _ _ _,
    p230 _ _ _ _ _ _ _ _ _ _ _ _, p231 _ _ _ _ _ _ _ _ _ _ _ _, p232 _ _ _ _ _ _ _ _ _ _ _ _, p233 _ _ _ _ _ _ _ _ _ _ _ _, p234 _ _ _ _ _ _ _ _ _ _ _, p235 _ _ _ _ _ _ _ _ _ _ _,
    p236 _ _ _ _ _ _ _ _ _ _ _, p237 _ _ _ _ _ _ _ _ _, p238 _ _ _ _ _, p239 _ _ _ _ _ _ _ _ _ _ _ _, p240 _ _ _ _ _ _ _ _ _ _ _ _, p241 _ _ _ _ _ _ _ _ _ _ _ _,
    p242 _ _ _ _ _ _ _ _ _ _ _ _, p243 _ _ _ _ _ _ _ _ _ _ _ _, p244 _ _ _ _ _ _ _ _ _ _ _ _, p245 _ _ _ _ _ _ _ _ _ _ _ _, p246 _ _ _ _ _ _ _ _ _ _ _ _, p247 _ _ _ _ _ _ _ _ _ _ _ _,
    p248 _ _ _ _ _ _ _ _ _ _ _ _, p249 _ _ _ _ _ _ _ _ _ _ _ _, p250 _ _ _ _ _ _ _ _ _ _ _ _, p251 _ _ _ _ _ _ _ _ _ _ _ _, p252 _ _ _ _ _ _ _ _ _ _ _ _, p253 _ _ _ _ _ _ _ _ _ _ _ _,
    p254 _ _ _ _ _ _ _ _ _ _ _ _, p255 _ _ _ _ _ _ _ _ _ _, p256 _ _ _ _ _ _ _ _ _ _ _, p257 _ _ _ _ _ _ _ _ _ _ _]

theorem p397 : Piece.ok F c M (M.at i (k0_part397 (F := F))) := by
  obtain ⟨_, p258, p259, p260, p261, p262, p263, p264, p265, p266⟩ := g257 (F := F) c M i
  obtain ⟨p267, p268, p269, p270⟩ := g267 (F := F) c M i
  obtain ⟨p271, p272, p273, p274, p275, p276, p277, p278, p279, p280⟩ := g271 (F := F) c M i
  obtain ⟨p281, p282, p283, p284, p285, p286, p287, p288, p289, p290⟩ := g281 (F := F) c M i
  obtain ⟨p291, p292, p293, p294, p295, p296, p297, p298, p299, _⟩ := g291 (F := F) c M i
  unfold k0_part397; intro _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p258 _ _ _ _, p259 _ _ _, p260 _ _ _ _ _ _ _ _ _ _ _ _ _, p261 _ _ _ _ _ _ _ _ _ _ _ _ _, p262 _ _ _ _ _ _ _ _ _ _ _ _ _, p263 _ _ _ _ _ _ _ _ _ _ _ _ _,
    p264 _ _ _ _ _ _ _ _ _ _ _ _ _, p265 _ _ _ _ _ _ _ _ _ _ _ _ _, p266 _ _ _ _ _ _ _ _ _ _ _ _ _, p267 _ _ _ _ _ _ _ _ _ _ _ _ _, p268 _ _ _ _ _ _ _ _ _ _ _ _ _,
    p269 _ _ _ _ _ _ _ _ _ _ _ _ _, p270 _ _ _ _ _ _ _ _ _ _ _ _ _, p271 _ _ _ _ _ _ _ _ _ _ _ _ _, p272 _ _ _ _ _ _ _ _ _ _ _ _ _, p273 _ _ _ _ _ _ _ _ _ _ _ _ _,
    p274 _ _ _ _ _ _ _ _ _ _ _ _ _, p275 _ _ _ _ _ _ _ _ _ _ _ _ _, p276 _ _ _ _ _ _ _ _ _ _ _, p277 _ _ _ _ _ _ _ _ _ _ _, p278 _ _ _ _ _ _ _ _ _ _, p279 _ _ _ _, p280 _ _ _,
    p281 _ _ _ _ _ _ _ _ _ _ _ _ _, p282 _ _ _ _ _ _ _ _ _ _ _ _ _, p283 _ _ _ _ _ _ _ _ _ _ _ _ _, p284 _ _ _ _ _ _ _ _ _ _ _ _ _, p285 _ _ _ _ _ _ _ _ _ _ _ _ _,
    p286 _ _ _ _ _ _ _ _ _ _ _ _ _, p287 _ _ _ _ _ _ _ _ _ _ _ _ _, p288 _ _ _ _ _ _ _ _ _ _ _ _ _, p289 _ _ _ _ _ _ _ _ _ _ _ _ _, p290 _ _ _ _ _ _ _ _ _ _ _ _ _,
    p291 _ _ _ _ _ _ _ _ _ _ _ _ _, p292 _ _ _ _ _ _ _ _ _ _ _ _ _, p293 _ _ _ _ _ _ _ _ _ _ _ _ _, p294 _ _ _ _ _ _ _ _ _ _ _ _ _, p295 _ _ _ _ _ _ _ _ _ _ _ _ _,
    p296 _ _ _ _ _ _ _ _ _ _ _ _ _, p297 _ _ _ _ _ _ _ _ _ _ _, p298 _ _ _ _ _ _ _ _ _ _ _, p299 _ _ _ _ _ _ _ _ _ _]

theorem p420 : Piece.ok F c M (M.at i (k0_part420 (F := F))) := by
  unfold k0_part420; intro _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p300 c M i _ _ _ _ _]

theorem p421 : Piece.ok F c M (M.at i (k0_part421 (F := F))) := by
  obtain ⟨_, _, _, _, _, _, _, _, _, p301⟩ := g291 (F := F) c M i
  obtain ⟨p302, p303, p304, p305, p306, _⟩ := g302 (F := F) c M i
  unfold k0_part421; intro _ _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p301 _ _ _ _ _, p302 _ _ _ _ _ _ _ _ _ _ _ _ _ _, p303 _ _ _ _ _ _ _ _ _ _ _ _, p304 _ _ _ _ _, p305 _ _ _ _ _ _ _ _ _ _ _ _ _ _, p306 _ _ _ _ _ _ _ _ _ _ _ _]

theorem p424 : Piece.ok F c M (M.at i (k0_part424 (F := F))) := by
  obtain ⟨_, _, _, _, _, p307, p308, p309, p310, p311⟩ := g302 (F := F) c M i
  obtain ⟨p312, p313, p314, p315, p316, p317, p318, p319, p320⟩ := g312 (F := F) c M i
  obtain ⟨p321, p322, p323, p324, _⟩ := g321 (F := F) c M i
  unfold k0_part424; intro _ _ _ _ _ _ _ _ _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p307 _ _ _, p308 _ _ _ _ _ _ _ _ _ _ _ _, p309 _ _ _ _ _ _ _ _ _ _ _ _, p310 _ _ _, p311 _ _ _ _ _ _ _ _ _ _ _ _, p312 _ _ _ _ _ _ _ _ _ _ _ _, p313 _ _ _,
    p314 _ _ _ _ _ _ _ _ _ _ _ _, p315 _ _ _ _ _ _ _ _ _ _ _ _, p316 _ _ _, p317 _ _ _ _ _ _ _ _ _ _ _ _, p318 _ _ _ _ _ _ _ _ _ _ _ _, p319 _ _ _ _, p320 _ _ _ _ _ _ _ _ _ _ _ _,
    p321 _ _ _ _ _ _ _ _ _, p322 _ _ _ _, p323 _ _ _ _ _ _ _ _ _ _ _ _, p324 _ _ _ _ _ _ _ _ _]

theorem p425 : Piece.ok F c M (M.at i (k0_part425 (F := F))) := by
  obtain ⟨_, _, _, _, p325, p326, p327, p328, p329, p330⟩ := g321 (F := F) c M i
  obtain ⟨p331, p332, p333, p334, p335, p336, p337, p338, p339, p340⟩ := g331 (F := F) c M i
  unfold k0_part425; intro _ _ _ _ _ _ _ _ _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p325 _ _ _ _, p326 _ _ _ _ _ _ _ _ _ _ _ _, p327 _ _ _ _ _ _ _ _ _, p328 _ _ _ _ _ _ _ _ _ _ _ _ _, p329 _ _ _ _, p330 _ _ _ _ _ _ _ _ _ _ _ _, p331 _ _ _ _ _ _ _ _ _,
    p332 _ _ _ _ _ _ _ _ _ _ _ _ _, p333 _ _ _ _, p334 _ _ _ _ _ _ _ _ _ _ _, p335 _ _ _ _ _ _ _, p336 _ _ _ _ _ _ _ _ _ _ _ _, p337 _ _ _ _, p338 _ _ _ _ _ _ _ _ _ _ _,
    p339 _ _ _ _ _ _ _, p340 _ _ _ _ _ _ _ _ _ _ _ _]

theorem p426 : Piece.ok F c M (M.at i (k0_part426 (F := F))) := by
  obtain ⟨p379, p380, p381, p382, p383, p384, p385, _⟩ := g379 (F := F) c M i
  obtain ⟨_, p370, p371, p372, p373, p374, p375, p376, p377, p378⟩ := g369 (F := F) c M i
  unfold k0_part426; intro _ _; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p385 _, p386 c M i _ _ _ _ _ _ _ _ _ _ _ _, p370 _ _ _ _, p371 _ _ _ _ _ _ _ _ _ _ _, p372 _ _ _ _ _ _ _ _ _ _ _ _, p373 _ _ _ _ _ _ _ _ _ _ _ _ _, p374 _ _ _ _ _ _ _ _ _ _,
    p375 _ _ _ _, p376 _ _ _ _ _ _ _ _, p377 _ _ _ _ _ _ _ _ _, p378 _ _ _ _ _ _ _ _, p379 _ _ _ _ _ _ _ _ _ _, p380 _ _ _ _, p381 _ _ _ _ _ _ _ _, p382 _ _ _ _ _ _ _ _ _,
    p383 _ _ _ _ _ _ _ _, p384 _ _ _ _ _ _ _ _ _ _]

theorem p427 : Piece.ok F c M (M.at i (k0_part427 (F := F))) := by
  obtain ⟨_, _, _, _, _, _, _, p388, p389, p390⟩ := g379 (F := F) c M i
  obtain ⟨p391, p392, p393, p394, p398, p399, p400, p401, p402, p403⟩ := g391 (F := F) c M i
  obtain ⟨p404, p405, p406, p407, p408, p409, p410, p411, p412, p413⟩ := g404 (F := F) c M i
  obtain ⟨p414, p415, p416, p417, p418, p419, p422, p423⟩ := g414 (F := F) c M i
  unfold k0_part427; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  exacts [p387 c M i, p388 _, p389 _ _ _ _ _, p390 _ _ _ _ _ _ _, p391 _ _ _ _ _, p392 _ _, p393 _ _ _ _ _, p394 _ _ _ _ _ _, p395 c M i _ _ _, p396 c M i _ _ _ _ _, p397 c M i _ _ _ _ _,
    p398 _ _ _ _ _ _, p399 _ _ _ _ _, p400 _ _ _ _ _ _ _ _ _ _ _ _ _ _, p401 _ _ _ _ _ _ _ _ _ _ _ _ _ _, p402 _ _ _ _ _ _ _ _ _ _ _ _ _ _, p403 _ _ _ _ _ _ _ _ _ _ _ _ _ _,
    p404 _ _ _ _ _ _ _ _ _ _ _ _ _ _, p405 _ _ _ _ _ _ _ _ _ _ _ _ _ _, p406 _ _ _ _ _ _ _ _ _ _ _ _ _ _, p407 _ _ _ _ _ _ _ _ _ _ _ _ _ _, p408 _ _ _ _ _ _ _ _ _ _ _ _ _ _,
    p409 _ _ _ _ _ _ _ _ _ _ _ _ _ _, p410 _ _ _ _ _ _ _ _ _ _ _ _ _ _, p411 _ _ _ _ _ _ _ _ _ _ _ _ _ _, p412 _ _ _ _ _ _ _ _ _ _ _ _ _ _, p413 _ _ _ _ _ _ _ _ _ _ _ _ _ _,
    p414 _ _ _ _ _ _ _ _ _ _ _ _ _ _, p415 _ _ _ _ _ _ _ _ _ _ _ _, p416 _ _ _ _ _ _ _ _ _ _ _, p417 _ _ _ _ _ _ _ _ _, p418 _ _ _ _ _ _ _ _ _ _, p419 _ _, p420 c M i _,
    p421 c M i _ _ _ _ _ _, p422 _ _ _ _ _ _ _, p423 _ _ _, p424 c M i _ _ _ _ _ _ _ _ _ _ _ _ _, p425 c M i _ _ _ _ _ _ _ _ _ _, p426 c M i _ _]

end Cert.Hand

end
-- ==== Proof.Body.lean ====
/- The attention kernel's whole body, safe at the buffers held. -/
module

public import proofs.«01_k».proof.Proof.Pieces

@[expose] public section

set_option maxRecDepth 8000

noncomputable section

namespace Cert.Hand

open Cert.Dsa Idealize.ShloMosaic

variable {F : FTy → Type} [BitOps F] [Facts] (c : Dev nD) (M : Mems) (i : grid0.Coords)

theorem body : Piece.ok F c M (M.at i (cc0_dsa (F := F))) := by
  unfold cc0_dsa; show Ok c M _; repeat' (first | with_reducible exact safe_pure _ | exact safe_load _ | exact safe_store _ | with_reducible refine safe_bind ?_ (fun _ => ?_) | with_reducible refine safe_for (fun _ _ => ?_) | with_reducible refine safe_dite (fun _ => ?_) (fun _ => ?_) | with_reducible refine safe_ite ?_ ?_ )
  · exact p427 c M i

end Cert.Hand

end
-- ==== Proof.DsaFrame.lean ====
/- The attention kernel terminates, faults nowhere, leaves its arguments as they were and every counter at zero.

   Nothing is claimed of what it computes, so at every grid point the windows' staging buffers and the scratch buffers
   are held at unnamed contents (`Mems.res`), and the body is safe at them (`body`). -/
module

public import proofs.«01_k».proof.Proof.Body
public import proofs.«01_k».proof.Proof.Gen.Dsa.Frame

@[expose] public section

noncomputable section

namespace Cert.Hand

open Cert.Dsa Cert.Dsa.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (RDat)

variable {F : FTy → Type} [BitOps F]

local notation "𝕄" => MT nD τ sig Unit (Elt F) ℕ (UR sig nD τ) ℕ

variable (m : (ℓ : Loc nD τ sig) → Buf (Elt F) ℓ) (ρ : Dev nD → PrngReg)

/-- The buffers the body is called with at grid point `t`. -/
def memsAt (t : Fin cfg0.N) : Mems where
  a2 := win0_0.stage (cfg0.slots t 0)
  h2 := hstage0_0 ((cfg0.slots t 0).cast nbuf0_0)
  a3 := win0_1.stage (cfg0.slots t 1)
  h3 := hstage0_1 ((cfg0.slots t 1).cast nbuf0_1)
  a4 := win0_2.stage (cfg0.slots t 2)
  h4 := hstage0_2 ((cfg0.slots t 2).cast nbuf0_2)
  a5 := win0_3.stage (cfg0.slots t 3)
  h5 := hstage0_3 ((cfg0.slots t 3).cast nbuf0_3)
  a6 := win0_4.stage (cfg0.slots t 4)
  h6 := hstage0_4 ((cfg0.slots t 4).cast nbuf0_4)
  a7 := win0_5.stage (cfg0.slots t 5)
  h7 := hstage0_5 ((cfg0.slots t 5).cast nbuf0_5)
  a8 := win0_6.stage (cfg0.slots t 6)
  h8 := hstage0_6 ((cfg0.slots t 6).cast nbuf0_6)
  a9 := win0_7.stage (cfg0.slots t 7)
  h9 := hstage0_7 ((cfg0.slots t 7).cast nbuf0_7)
  a10 := win0_8.stage (cfg0.slots t 8)
  h10 := hstage0_8 ((cfg0.slots t 8).cast nbuf0_8)
  a11 := win0_9.stage (cfg0.slots t 9)
  h11 := hstage0_9 ((cfg0.slots t 9).cast nbuf0_9)
  a12 := .whole cc0_scratch0
  h12 := Memref.isWhole_whole _
  a13 := .whole cc0_scratch1
  h13 := Memref.isWhole_whole _
  a14 := .whole cc0_scratch2
  h14 := Memref.isWhole_whole _
  a15 := .whole cc0_scratch3
  h15 := Memref.isWhole_whole _
  a16 := .whole cc0_scratch4
  h16 := Memref.isWhole_whole _
  a17 := .whole cc0_scratch5
  h17 := Memref.isWhole_whole _
  a18 := .whole cc0_scratch6
  h18 := Memref.isWhole_whole _
  a19 := .whole cc0_scratch7
  h19 := Memref.isWhole_whole _

/-- The proof data: the arrays as the region finds them, nothing said of what the body leaves. -/
def rdat (c : Dev nD) : RDat τ (Elt F) Unit ℕ (UR sig nD τ) ℕ cfg0 c where
  A w := V m c (Pipeline.arrRef spec0 w)
  after _ _ _ _ := True
  Φ _ := Pipeline.ΦA spec0 c
  q _ := fullShare
  owed _ := 0

theorem defs₀_row (t : Fin cfg0.N) : defs₀ (F := F) .tc cfg0.body (cfg0.bodyArgs t (cfg0.slots t)) = bodyAt0 t := by
  unfold defs₀; rw [Defs.onTc_tc]

theorem cell_of_owns (c : Dev nD) {sh : Shape} {e : EltTy} (M : Memref sig .tc .vmem sh e) (X : sh.Idx → Elt F e) :
    (owns (c : Thread nD τ) M fullShare X : sProp 𝕄) ⊢ Cell c M := by
  unfold owns; iintro ⟨%f, -, H⟩; iexists f; iexact H

theorem owns_of_cell (c : Dev nD) {sh : Shape} {e : EltTy} (M : Memref sig .tc .vmem sh e) :
    (Cell c M : sProp 𝕄) ⊢ iprop(∃ X, ⌜True⌝ ∗ owns (c : Thread nD τ) M fullShare X) := by
  iintro ⟨%f, H⟩
  iexists M.view.read (Elt F) f
  isplitr; · ipureintro; trivial
  iapply (owns_intro (c : Thread nD τ) M fullShare f) $$ H

theorem cell_whole (c : Dev nD) (b : Ref sig .tc) :
    (iprop(∃ f : Buf (Elt F) ((c : Thread nD τ).loc b), ((c : Thread nD τ).loc b) ↦{fullShare} f) : sProp 𝕄) = Cell c (Memref.whole b) := by
  simp only [Cell, Memref.view_whole, View.set_whole]

/-- The invariant's scratch buffers are the body's last eight. -/
theorem scratch_eq (c : Dev nD) (t : Fin cfg0.N) : (Pipeline.scopedRest (Ix := Unit) (Name := ℕ) (U := UR sig nD τ) (Lvl := ℕ) (Val := Elt F) spec0 c : sProp 𝕄)
    = iprop(Cell c (memsAt t).a12 ∗ Cell c (memsAt t).a13 ∗ Cell c (memsAt t).a14 ∗ Cell c (memsAt t).a15 ∗ Cell c (memsAt t).a16
        ∗ Cell c (memsAt t).a17 ∗ Cell c (memsAt t).a18 ∗ Cell c (memsAt t).a19) := by
  rw [scopedRest0_eq, cell_whole, cell_whole, cell_whole, cell_whole, cell_whole, cell_whole, cell_whole, cell_whole]
  rfl

/-- The body at grid point `t`, from the buffers held to the buffers held. -/
theorem body_safe (c : Dev nD) (t : Fin cfg0.N) : Ok (F := F) c (memsAt t) (bodyAt0 t) :=
  body c (memsAt t) (grid0.coords t)

theorem body_obligation (c : Dev nD) : (rdat (F := F) m c).BodyObligation (defs₀ (F := F)) Variants.none () Set.univ := fun t Y _ => by
  rw [bigSep_W0, bigSep_W0, defs₀_row]
  refine BIBase.Entails.trans (Q := iprop((memsAt t).res (F := F) c ∗ ((rdat (F := F) m c).owesAt () t.castSucc ∗ ∃ r, prngReg c r))) ?_ ?_
  · show iprop(Pipeline.ΦA spec0 c ∗ _) ⊢ _
    unfold Pipeline.ΦA
    rw [scratch_eq c t]
    iintro ⟨⟨⟨S0, S1, S2, S3, S4, S5, S6, S7⟩, G⟩, O, W0, W1, W2, W3, W4, W5, W6, W7, W8, W9⟩
    isplitr [O G]
    · unfold Mems.res
      isplitl [W0]; · iapply (cell_of_owns c _ _) $$ W0
      isplitl [W1]; · iapply (cell_of_owns c _ _) $$ W1
      isplitl [W2]; · iapply (cell_of_owns c _ _) $$ W2
      isplitl [W3]; · iapply (cell_of_owns c _ _) $$ W3
      isplitl [W4]; · iapply (cell_of_owns c _ _) $$ W4
      isplitl [W5]; · iapply (cell_of_owns c _ _) $$ W5
      isplitl [W6]; · iapply (cell_of_owns c _ _) $$ W6
      isplitl [W7]; · iapply (cell_of_owns c _ _) $$ W7
      isplitl [W8]; · iapply (cell_of_owns c _ _) $$ W8
      isplitl [W9]; · iapply (cell_of_owns c _ _) $$ W9
      isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · isplitl [O]
      · iexact O
      · iexact G
  refine ((sep_mono (body_safe c t).run .rfl).trans (wp_frame_r _ _ _)).trans (wp_mono _ _ _ fun _ => ?_)
  show _ ⊢ iprop(Pipeline.ΦA spec0 c ∗ _)
  unfold Pipeline.ΦA
  rw [scratch_eq c t]
  unfold Mems.res
  iintro ⟨⟨W0, W1, W2, W3, W4, W5, W6, W7, W8, W9, S0, S1, S2, S3, S4, S5, S6, S7⟩, O, G⟩
  isplitl [S0 S1 S2 S3 S4 S5 S6 S7 G]
  · isplitr [G]
    · isplitl [S0]; · iexact S0
      isplitl [S1]; · iexact S1
      isplitl [S2]; · iexact S2
      isplitl [S3]; · iexact S3
      isplitl [S4]; · iexact S4
      isplitl [S5]; · iexact S5
      isplitl [S6]; · iexact S6
      iexact S7
    · iexact G
  isplitl [O]; · iexact O
  isplitl [W0]; · iapply (owns_of_cell c _) $$ W0
  isplitl [W1]; · iapply (owns_of_cell c _) $$ W1
  isplitl [W2]; · iapply (owns_of_cell c _) $$ W2
  isplitl [W3]; · iapply (owns_of_cell c _) $$ W3
  isplitl [W4]; · iapply (owns_of_cell c _) $$ W4
  isplitl [W5]; · iapply (owns_of_cell c _) $$ W5
  isplitl [W6]; · iapply (owns_of_cell c _) $$ W6
  isplitl [W7]; · iapply (owns_of_cell c _) $$ W7
  isplitl [W8]; · iapply (owns_of_cell c _) $$ W8
  iapply (owns_of_cell c _) $$ W9

set_option backward.isDefEq.respectTransparency.types false in
theorem run_main : θ_run defs (onTc (τ := τ) (main (F := F))) (s₀ m ρ)
    (fun r => RDat.FramePost cfg0 (rdat m) (V m) r ∧ r.2.sem = fun _ => 0) :=
  RDat.θ_run_frame (Q' := _) cfgs (0 : Fin 1) launch0 defs₀ Variants.none (rdat m) m ρ main
    (hbody := body_obligation m) (hshare := fun _ _ => ite_self _)
    (howed := fun _ _ => rfl) (V := V m) (hmain := hmain m Variants.none) (hA := fun _ _ => rfl)
    (hΦ := fun _ _ => rfl) (hQ' := fun _ h => h)

theorem rest_arg7 : main_arg7 ∈ Pipeline.restRefs sig spec0 := Pipeline.mem_restRefs_of main_arg7 (by decide) (by decide)

/-- The frame of the attention kernel. -/
theorem dsa_frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨fun c =>
    ⟨(RDat.FramePost.arr_in h.1 c 0 rfl).trans (V_main_arg0 m c),
      (RDat.FramePost.arr_in h.1 c 1 rfl).trans (V_main_arg1 m c),
      (RDat.FramePost.arr_in h.1 c 2 rfl).trans (V_main_arg2 m c),
      (RDat.FramePost.arr_in h.1 c 3 rfl).trans (V_main_arg3 m c),
      (RDat.FramePost.arr_in h.1 c 4 rfl).trans (V_main_arg4 m c),
      (RDat.FramePost.arr_in h.1 c 5 rfl).trans (V_main_arg5 m c),
      (RDat.FramePost.arr_in h.1 c 6 rfl).trans (V_main_arg6 m c),
      ((h.1 c).2 main_arg7 rest_arg7).trans (V_main_arg7 m c)⟩, h.2⟩) (run_main m ρ)

end Cert.Hand

end
-- ==== Proof.ScatterCols.lean ====
module

public import Idealize.ShloMosaic.Lib.Routing.OpsSet
public import Idealize.ShloMosaic.Lib.Pointwise.IndexBridge

@[expose] public section

namespace Cert.Hand

open Idealize.ShloMosaic

/-- An update lands at the index that its start and its window coordinate add up to on every axis, and nowhere else. -/
theorem resultIdx_iff {s si u : Shape} {w : Nat} (d : ScatterDims s si u) (j : u.Idx) (idx : IVec si w) (i : s.Idx) :
    d.resultIdx? j idx = some i ↔ ∀ a, d.start j idx a + d.window j a = ((i a).val : Int) := by
  unfold ScatterDims.resultIdx?
  constructor
  · intro h a
    split at h
    · rename_i hb
      have e := congrFun (Option.some.inj h) a
      rw [← e]
      have := hb a
      show _ = ((Int.toNat _ : Nat) : Int)
      omega
    · cases h
  · intro h
    have hb : ∀ a, 0 ≤ d.start j idx a + d.window j a ∧ d.start j idx a + d.window j a < s.size a := fun a => by
      rw [h a]; have := (i a).isLt; omega
    rw [dif_pos hb]
    refine congrArg some (funext fun a => Fin.ext ?_)
    show Int.toNat _ = _
    rw [h a]; omega

variable {A N U : Nat}

/-- Where an update of a block of `U` columns, put down at the column that the one index word names, lands. -/
theorem lands_cols (d : ScatterDims ⟨2, ![A, N]⟩ ⟨1, ![1]⟩ ⟨2, ![A, U]⟩) (huw : d.updateWindowDims = [0, 1]) (hiw : d.insertedWindowDims = [])
    (hsd : d.scatterDimsToOperandDims = [1]) (idx : IVec ⟨1, ![1]⟩ 32) (k : Nat) (hidx : ∀ i, (idx i).toInt = (k : Int))
    (j : (⟨2, ![A, U]⟩ : Shape).Idx) (i : (⟨2, ![A, N]⟩ : Shape).Idx) :
    d.resultIdx? j idx = some i ↔ (j 0).val = (i 0).val ∧ k + (j 1).val = (i 1).val := by
  have hm : (1 : Fin 2) ∈ d.scatterDimsToOperandDims := by rw [hsd]; exact List.mem_singleton.2 rfl
  have hkept : d.sKept = [0, 1] := by
    show (⟨2, ![A, N]⟩ : Shape).kept d.insertedWindowDims = _
    rw [hiw]
    rfl
  have hwin0 : d.window j 0 = (j 0).val := by
    unfold ScatterDims.window
    rw [dif_pos (by rw [hkept]; exact List.mem_cons_self)]
    refine congrArg (fun X => (j X).val) (?_ : _ = (0 : Fin 2))
    simp only [huw, hkept]
    rfl
  have hwin1 : d.window j 1 = (j 1).val := by
    unfold ScatterDims.window
    rw [dif_pos (by rw [hkept]; exact List.mem_cons_of_mem _ (List.mem_singleton.2 rfl))]
    refine congrArg (fun X => (j X).val) (?_ : _ = (1 : Fin 2))
    simp only [huw, hkept]
    rfl
  have hstart0 : d.start j idx 0 = 0 := by
    unfold ScatterDims.start
    rw [dif_neg fun h => by rw [hsd] at h; exact absurd (List.mem_singleton.1 h) (by decide : (0 : Fin 2) ≠ 1)]
  have hstart1 : d.start j idx 1 = (k : Int) := by
    unfold ScatterDims.start
    rw [dif_pos hm, hidx]
  rw [resultIdx_iff]
  constructor
  · intro h
    have h0 := h 0
    have h1 := h 1
    rw [hstart0, hwin0] at h0
    rw [hstart1, hwin1] at h1
    constructor
    · have : (((j 0).val : Nat) : Int) = ((i 0).val : Nat) := by rw [← h0]; simp
      exact_mod_cast this
    · exact_mod_cast h1
  · rintro ⟨h0, h1⟩ a
    match a with
    | ⟨0, _⟩ => show d.start j idx 0 + d.window j 0 = ((i 0).val : Int); rw [hstart0, hwin0, h0]; simp
    | ⟨1, _⟩ => show d.start j idx 1 + d.window j 1 = ((i 1).val : Int); rw [hstart1, hwin1, ← h1]; push_cast; rfl

/-- A block of columns put down at column `k`, read inside it: the block. -/
theorem scatter_cols_hit {α : Type} (d : ScatterDims ⟨2, ![A, N]⟩ ⟨1, ![1]⟩ ⟨2, ![A, U]⟩) (huw : d.updateWindowDims = [0, 1])
    (hiw : d.insertedWindowDims = []) (hsd : d.scatterDimsToOperandDims = [1]) (x0 : (⟨2, ![A, N]⟩ : Shape).Idx → α)
    (idx : IVec ⟨1, ![1]⟩ 32) (k : Nat) (hidx : ∀ i, (idx i).toInt = (k : Int)) (upd : (⟨2, ![A, U]⟩ : Shape).Idx → α)
    (r : Fin A) (e : Fin N) (c : Fin U) (h : e.val = k + c.val) :
    Host.scatter d (fun _ b => b) x0 idx upd (ix2 r e) = upd (ix2 r c) := by
  refine Routing.scatter_set_hit d x0 idx upd _ _ (fun j hj => ?_) (ix2 r c) ((lands_cols d huw hiw hsd idx k hidx _ _).2 ⟨rfl, h.symm⟩)
  have q := (lands_cols d huw hiw hsd idx k hidx _ _).1 hj
  have e0 : j 0 = r := Fin.ext q.1
  have e1 : j 1 = c := Fin.ext (by have := q.2; have h2 : ((ix2 r e : (⟨2, ![A, N]⟩ : Shape).Idx) 1).val = e.val := rfl; omega)
  rw [eq_ix2 j, e0, e1]

/-- The same read outside it: the operand. -/
theorem scatter_cols_miss {α : Type} (d : ScatterDims ⟨2, ![A, N]⟩ ⟨1, ![1]⟩ ⟨2, ![A, U]⟩) (huw : d.updateWindowDims = [0, 1])
    (hiw : d.insertedWindowDims = []) (hsd : d.scatterDimsToOperandDims = [1]) (x0 : (⟨2, ![A, N]⟩ : Shape).Idx → α)
    (idx : IVec ⟨1, ![1]⟩ 32) (k : Nat) (hidx : ∀ i, (idx i).toInt = (k : Int)) (upd : (⟨2, ![A, U]⟩ : Shape).Idx → α)
    (r : Fin A) (e : Fin N) (h : e.val < k ∨ k + U ≤ e.val) :
    Host.scatter d (fun _ b => b) x0 idx upd (ix2 r e) = x0 (ix2 r e) := by
  refine Routing.scatter_set_miss d x0 idx upd _ fun j hj => ?_
  have q := (lands_cols d huw hiw hsd idx k hidx _ _).1 hj
  have h2 : ((ix2 r e : (⟨2, ![A, N]⟩ : Shape).Idx) 1).val = e.val := rfl
  have h3 : (j 1).val < U := (j 1).isLt
  have := q.2
  omega

end Cert.Hand
-- ==== Proof.InProjHost.lean ====
module

public import proofs.«01_k».proof.Proof.Gen.InProjIdeal.Frame
public import proofs.«01_k».proof.Proof.ScatterCols
public import Idealize.ShloMosaic.Lib.StableHlo.ReadAt
public import Idealize.ShloMosaic.Lib.Pointwise

@[expose] public section

noncomputable section

/-! The weights the projection reads, entry by entry: each column of the padded, laid-out matrix that a piece of the result comes from
is a column of the weight argument. -/

namespace Cert.Hand.InProj

open Cert.InProjIdeal Cert.InProjIdeal.Gen Idealize.ShloMosaic Idealize.ShloMosaic.TcCoe Idealize.SL.Sem

variable (m : (ℓ : Loc nD τ sig) → Buf (Elt Ideal) ℓ)

/-- The weight argument. -/
def w (c : Dev nD) : S1024x3380.Idx → EReal := m ((c : Thread nD τ).loc main_arg2)
/-- The gain argument. -/
def g (c : Dev nD) : S1024.Idx → EReal := m ((c : Thread nD τ).loc main_arg1)
/-- The weights of the row-major pieces, as the region finds them. -/
def wn (c : Dev nD) : S1024x2944.Idx → EReal := V m c main_v32
/-- The weights of the transposed pieces, as the region finds them. -/
def wt (c : Dev nD) : S904x1024.Idx → EReal := V m c main_v36

theorem w_congr (c : Dev nD) (k : Fin 1024) {i j : Nat} (hi : i < 3380) (hj : j < 3380) (h : i = j) :
    w m c (ix2 k ⟨i, hi⟩) = w m c (ix2 k ⟨j, hj⟩) := by subst h; rfl

set_option maxRecDepth 16384 in
set_option maxHeartbeats 4000000 in
theorem gain_apply (c : Dev nD) (k : Fin 1024) :
    (V m c main_v37 : S1x1024.Idx → EReal) (ix2 0 k) = g m c (ix1 k) := by
  unfold V
  after_reads_at
  rfl

set_option maxRecDepth 16384 in
set_option maxHeartbeats 4000000 in
theorem wn_gq (c : Dev nD) (k : Fin 1024) (a : Fin 4) (r : Fin 48) :
    wn m c (ix2 k ⟨64 * a.val + r.val, by omega⟩) = w m c (ix2 k ⟨48 * a.val + r.val, by omega⟩) := by
  unfold wn V
  after_reads_at
  repeat (first | rw [dif_pos (by omega)] | rw [dif_neg (by omega)])
  try after_reads_at
  rw [scatter_cols_miss _ rfl rfl rfl _ _ 48 (fun i => by rfl) _ _ _ (by show (64 * a.val + r.val) < 48 ∨ 48 + 16 ≤ (64 * a.val + r.val); have := r.isLt; omega)]
  pointwise
  rw [dif_pos (by omega)]
  exact w_congr m c k _ _ (by omega)

set_option maxRecDepth 16384 in
set_option maxHeartbeats 4000000 in
theorem wn_gz (c : Dev nD) (k : Fin 1024) (r : Fin 16) :
    wn m c (ix2 k ⟨48 + r.val, by omega⟩) = w m c (ix2 k ⟨768 + r.val, by omega⟩) := by
  unfold wn V
  after_reads_at
  repeat (first | rw [dif_pos (by omega)] | rw [dif_neg (by omega)])
  try after_reads_at
  rw [scatter_cols_hit _ rfl rfl rfl _ _ 48 (fun i => by rfl) _ _ _ r (by rfl)]
  pointwise
  exact w_congr m c k _ _ (by omega)

set_option maxRecDepth 16384 in
set_option maxHeartbeats 4000000 in
theorem wn_gk (c : Dev nD) (k : Fin 1024) (a : Fin 4) (r : Fin 48) :
    wn m c (ix2 k ⟨256 + (64 * a.val + r.val), by omega⟩) = w m c (ix2 k ⟨192 + (48 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_gv (c : Dev nD) (k : Fin 1024) (a : Fin 4) (r : Fin 96) :
    wn m c (ix2 k ⟨512 + (128 * a.val + r.val), by omega⟩) = w m c (ix2 k ⟨384 + (96 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_gg (c : Dev nD) (k : Fin 1024) (a : Fin 4) (r : Fin 96) :
    wn m c (ix2 k ⟨1024 + (128 * a.val + r.val), by omega⟩) = w m c (ix2 k ⟨784 + (96 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_dk (c : Dev nD) (k : Fin 1024) (r : Fin 384) :
    wn m c (ix2 k ⟨1536 + r.val, by omega⟩) = w m c (ix2 k ⟨1552 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_kx (c : Dev nD) (k : Fin 1024) (r : Fin 128) :
    wn m c (ix2 k ⟨1920 + r.val, by omega⟩) = w m c (ix2 k ⟨2832 + r.val % 32, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_dg (c : Dev nD) (k : Fin 1024) (r : Fin 384) :
    wn m c (ix2 k ⟨2048 + r.val, by omega⟩) = w m c (ix2 k ⟨2320 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_pu (c : Dev nD) (k : Fin 1024) (r : Fin 256) :
    wn m c (ix2 k ⟨2432 + r.val, by omega⟩) = w m c (ix2 k ⟨2868 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_pg (c : Dev nD) (k : Fin 1024) (r : Fin 256) :
    wn m c (ix2 k ⟨2688 + r.val, by omega⟩) = w m c (ix2 k ⟨3124 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_dq (c : Dev nD) (k : Fin 1024) (r : Fin 384) :
    wt m c (ix2 ⟨r.val, by omega⟩ k) = w m c (ix2 k ⟨1168 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_dv (c : Dev nD) (k : Fin 1024) (r : Fin 384) :
    wt m c (ix2 ⟨384 + r.val, by omega⟩ k) = w m c (ix2 k ⟨1936 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_qi (c : Dev nD) (k : Fin 1024) (r : Fin 128) :
    wt m c (ix2 ⟨768 + r.val, by omega⟩ k) = w m c (ix2 k ⟨2704 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_wi (c : Dev nD) (k : Fin 1024) (r : Fin 4) :
    wt m c (ix2 ⟨896 + r.val, by omega⟩ k) = w m c (ix2 k ⟨2864 + r.val, by omega⟩) := by
  unfold wt V
  after_reads_at
  repeat (first | rw [dif_pos (by omega)] | rw [dif_neg (by omega)])
  try after_reads_at
  rw [dif_pos (by omega)]
  exact w_congr m c k _ _ (by omega)

end Cert.Hand.InProj

end
-- ==== Proof.ProjSpec.lean ====
module

public import Idealize.ShloMosaic.PureOps.Ideal

@[expose] public section

noncomputable section

/-! What the projection computes, written over plain functions of the row and the lane. -/

namespace Cert.Hand

open Idealize.ShloMosaic

/-- A row divided by the root of its mean square plus a small constant, times the gain. -/
def rowNorm (x g : Fin 1024 → EReal) (k : Fin 1024) : EReal :=
  x k * Ideal.rsqrt (Ideal.div (∑ j, x j * x j) (Ideal.ofBits FTy.f32 1149239296#32) + Ideal.ofBits FTy.f32 897988541#32) * g k

/-- Lane `j` of the projection of a row. -/
def projRow (x g : Fin 1024 → EReal) (w : Fin 1024 → Fin 3380 → EReal) (j : Fin 3380) : EReal :=
  ∑ k, rowNorm x g k * w k j

/-- The number that the queries are scaled by. -/
def qScale : EReal := Ideal.ofBits FTy.f32 1043900987#32

end Cert.Hand

end
-- ==== Proof.InProjArr.lean ====
module

public import proofs.«01_k».proof.Proof.InProjHost
public import proofs.«01_k».proof.Proof.ProjSpec
public import Idealize.ShloMosaic.Lib.Pipeline.Value
public import Idealize.ShloMosaic.Lib.Pointwise

@[expose] public section

noncomputable section

/-! What each result array of the projection's region holds in the end, entry by entry: the dot product of the normalised row with a
column of the laid-out weights. -/

namespace Cert.Hand.InProj

open Cert.InProjIdeal Cert.InProjIdeal.Gen Idealize.ShloMosaic Idealize.ShloMosaic.TcCoe Idealize.SL.Sem

variable (m : (ℓ : Loc nD τ sig) → Buf (Elt Ideal) ℓ)

theorem hz3 : (![0, 0, 0] : Fin 3 → Nat) = fun _ => 0 := funext fun a => by fin_cases a <;> rfl

/-- Row `t` of sequence `b`, as the arguments give it. -/
def xRow (c : Dev nD) (b : Fin 8) (t : Fin 8192) (k : Fin 1024) : EReal :=
  (m ((c : Thread nD τ).loc main_arg0) : S8x8192x1024.Idx → EReal) (ix3 b t k)
/-- The gain, lane by lane. -/
def gRow (c : Dev nD) (k : Fin 1024) : EReal := g m c (ix1 k)
/-- The normalised row. -/
def h (c : Dev nD) (b : Fin 8) (t : Fin 8192) (k : Fin 1024) : EReal := rowNorm (xRow m c b t) (gRow m c) k

/-- The grid point that works on row `t` of sequence `b`. -/
def pt (b : Fin 8) (t : Fin 8192) : Fin cfg0.N := ⟨16 * b.val + t.val / 512, by rw [show cfg0.N = 128 from N_0]; omega⟩
/-- The row's place in the point's block. -/
def rw_ (t : Fin 8192) : Fin 512 := ⟨t.val % 512, Nat.mod_lt _ (by decide)⟩

theorem idx0 : ∀ t : Fin cfg0.N, win0_0.index t = ![t.val / 16, t.val % 16, 0] :=
  (by decide +kernel : ∀ t : Fin grid0.N, win0_0.index t = ![t.val / 16, t.val % 16, 0])
theorem idx1 : ∀ t : Fin cfg0.N, win0_1.index t = ![0, 0] :=
  (by decide +kernel : ∀ t : Fin grid0.N, win0_1.index t = ![0, 0])
theorem idx2 : ∀ t : Fin cfg0.N, win0_2.index t = ![0, 0] :=
  (by decide +kernel : ∀ t : Fin grid0.N, win0_2.index t = ![0, 0])
theorem idx3 : ∀ t : Fin cfg0.N, win0_3.index t = ![0, 0] :=
  (by decide +kernel : ∀ t : Fin grid0.N, win0_3.index t = ![0, 0])

theorem iblk0 (c : Dev nD) (b : Fin 8) (t : Fin 8192) (k : Fin 1024) :
    (iblk m c 0 (pt b t) : S1x512x1024.Idx → EReal) (ix3 0 (rw_ t) k) = xRow m c b t k := by
  unfold iblk
  rw [View.read_apply]
  show V m c main_arg0 _ = _
  rw [V_main_arg0]
  unfold xRow
  refine congrArg (m ((c : Thread nD τ).loc main_arg0)) (funext fun a => Fin.ext ?_)
  have hi := idx0 (pt b t)
  have hp : (pt b t).val = 16 * b.val + t.val / 512 := rfl
  match a with
  | ⟨0, _⟩ => show win0_0.index (pt b t) 0 * 1 + 1 * 0 = b.val; rw [hi, hp]; show (16 * b.val + t.val / 512) / 16 * 1 + 1 * 0 = b.val; omega
  | ⟨1, _⟩ => show win0_0.index (pt b t) 1 * 512 + 1 * (t.val % 512) = t.val; rw [hi, hp]; show (16 * b.val + t.val / 512) % 16 * 512 + 1 * (t.val % 512) = t.val; omega
  | ⟨2, _⟩ => show win0_0.index (pt b t) 2 * 1024 + 1 * k.val = k.val; rw [hi]; show 0 * 1024 + 1 * k.val = k.val; omega

theorem iblk1 (c : Dev nD) (t : Fin cfg0.N) (k : Fin 1024) : (iblk m c 1 t : S1x1024.Idx → EReal) (ix2 0 k) = gRow m c k := by
  unfold iblk
  rw [View.read_apply]
  show V m c main_v37 _ = _
  refine Eq.trans ?_ (gain_apply m c k)
  refine congrArg (V m c main_v37) (funext fun a => Fin.ext ?_)
  have hi := idx1 t
  match a with
  | ⟨0, _⟩ => show win0_1.index t 0 * 1 + 1 * 0 = 0; rw [hi]; rfl
  | ⟨1, _⟩ => show win0_1.index t 1 * 1024 + 1 * k.val = k.val; rw [hi]; show 0 * 1024 + 1 * k.val = k.val; omega

theorem iblk2 (c : Dev nD) (t : Fin cfg0.N) (k : Fin 1024) (j : Fin 2944) : (iblk m c 2 t : S1024x2944.Idx → EReal) (ix2 k j) = wn m c (ix2 k j) := by
  unfold iblk
  rw [View.read_apply]
  show V m c main_v32 _ = V m c main_v32 _
  refine congrArg (V m c main_v32) (funext fun a => Fin.ext ?_)
  have hi := idx2 t
  match a with
  | ⟨0, _⟩ => show win0_2.index t 0 * 1024 + 1 * k.val = k.val; rw [hi]; show 0 * 1024 + 1 * k.val = k.val; omega
  | ⟨1, _⟩ => show win0_2.index t 1 * 2944 + 1 * j.val = j.val; rw [hi]; show 0 * 2944 + 1 * j.val = j.val; omega

theorem iblk3 (c : Dev nD) (t : Fin cfg0.N) (j : Fin 904) (k : Fin 1024) : (iblk m c 3 t : S904x1024.Idx → EReal) (ix2 j k) = wt m c (ix2 j k) := by
  unfold iblk
  rw [View.read_apply]
  show V m c main_v36 _ = V m c main_v36 _
  refine congrArg (V m c main_v36) (funext fun a => Fin.ext ?_)
  have hi := idx3 t
  match a with
  | ⟨0, _⟩ => show win0_3.index t 0 * 904 + 1 * j.val = j.val; rw [hi]; show 0 * 904 + 1 * j.val = j.val; omega
  | ⟨1, _⟩ => show win0_3.index t 1 * 1024 + 1 * k.val = k.val; rw [hi]; show 0 * 1024 + 1 * k.val = k.val; omega

set_option maxRecDepth 16384 in
set_option maxHeartbeats 400000 in
theorem pay3_apply (x0 : Vec Ideal S1x512x1024 .f32) (x1 : Vec Ideal S1x1024 .f32) (r : Fin 512) (k : Fin 1024) :
    (k0_pay3 (View.ld x0 r0_0) (View.ld x1 r0_1) : S512x1024.Idx → EReal) (ix2 r k)
      = rowNorm (fun k => (x0 : S1x512x1024.Idx → EReal) (ix3 0 r k)) (fun k => (x1 : S1x1024.Idx → EReal) (ix2 0 k)) k := by
  pointwise [k0_pay3]
  rfl

theorem pay3_pt (c : Dev nD) (b : Fin 8) (t : Fin 8192) (k : Fin 1024) :
    (k0_pay3 (View.ld (iblk m c 0 (pt b t)) r0_0) (View.ld (iblk m c 1 (pt b t)) r0_1) : S512x1024.Idx → EReal) (ix2 (rw_ t) k) = h m c b t k := by
  refine (pay3_apply (iblk m c 0 (pt b t)) (iblk m c 1 (pt b t)) (rw_ t) k).trans ?_
  unfold h
  rw [show (fun k => (iblk m c 0 (pt b t) : S1x512x1024.Idx → EReal) (ix3 0 (rw_ t) k)) = xRow m c b t from funext fun k => iblk0 m c b t k,
    show (fun k => (iblk m c 1 (pt b t) : S1x1024.Idx → EReal) (ix2 0 k)) = gRow m c from funext fun k => iblk1 m c _ k]

theorem idx4 : ∀ t : Fin cfg0.N, win0_4.index t = ![t.val / 16, t.val % 16, 0] :=
  (by decide +kernel : ∀ t : Fin grid0.N, win0_4.index t = ![t.val / 16, t.val % 16, 0])

theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (by
    have h : win0_4.index t = win0_4.index t' := h
    rw [idx4, idx4] at h
    have h0 : t.val / 16 = t'.val / 16 := congrFun h 0
    have h1 : t.val % 16 = t'.val % 16 := congrFun h 1
    exact Fin.ext (by omega))

set_option maxRecDepth 16384 in
set_option maxHeartbeats 400000 in
theorem out4_apply (x0 : Vec Ideal S1x512x1024 .f32) (x1 : Vec Ideal S1x1024 .f32) (x2 : Vec Ideal S1024x2944 .bf16) (x3 : Vec Ideal S904x1024 .bf16) (r : Fin 512) (q : Fin 256) :
    (out0_4 x0 x1 x2 x3 : S1x512x256.Idx → EReal) (ix3 0 r q)
      = ∑ k, (k0_pay3 (View.ld x0 r0_0) (View.ld x1 r0_1) : S512x1024.Idx → EReal) (ix2 r k) * (x2 : S1024x2944.Idx → EReal) (ix2 k ⟨0 + q.val, by omega⟩) := by
  unfold_out out0_4
  rw [View.canon_unit_zero hz3]
  pointwise [k0_pay4]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr4 (c : Dev nD) (b : Fin 8) (t : Fin 8192) (q : Fin 256) :
    ((dats m 0 c).arrAt 4 cfg0.N : S8x8192x256.Idx → EReal) (ix3 b t q) = ∑ k, h m c b t k * wn m c (ix2 k ⟨0 + q.val, by omega⟩) := by
  have hi := idx4 (pt b t)
  have hp : (pt b t).val = 16 * b.val + t.val / 512 := rfl
  have e : ((cfg0.win 4).blk (pt b t)).view.emb (ix3 0 (rw_ t) q : S1x512x256.Idx) = (ix3 b t q : S8x8192x256.Idx) := by
    refine funext fun a => Fin.ext ?_
    match a with
    | ⟨0, _⟩ => show win0_4.index (pt b t) 0 * 1 + 1 * 0 = b.val; rw [hi, hp]; show (16 * b.val + t.val / 512) / 16 * 1 + 1 * 0 = b.val; omega
    | ⟨1, _⟩ => show win0_4.index (pt b t) 1 * 512 + 1 * (t.val % 512) = t.val; rw [hi, hp]; show (16 * b.val + t.val / 512) % 16 * 512 + 1 * (t.val % 512) = t.val; omega
    | ⟨2, _⟩ => show win0_4.index (pt b t) 2 * 256 + 1 * q.val = q.val; rw [hi]; show 0 * 256 + 1 * q.val = q.val; omega
  have s := (dats m 0 c).arrAt_emb_eq_flushed 4 disjoint4 (pt b t) (flush0_4 _) (ix3 0 (rw_ t) q : S1x512x256.Idx)
  rw [e] at s
  refine s.trans ?_
  show (cfg0.win 4).cut (grid0.coords (pt b t)) ((dats m 0 c).after 4 (pt b t)) (ix3 0 (rw_ t) q : S1x512x256.Idx) = _
  rw [after0_4]
  refine (out4_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx5 : ∀ t : Fin cfg0.N, win0_5.index t = ![t.val / 16, t.val % 16, 0] :=
  (by decide +kernel : ∀ t : Fin grid0.N, win0_5.index t = ![t.val / 16, t.val % 16, 0])

theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (by
    have h : win0_5.index t = win0_5.index t' := h
    rw [idx5, idx5] at h
    have h0 : t.val / 16 = t'.val / 16 := congrFun h 0
    have h1 : t.val % 16 = t'.val % 16 := congrFun h 1
    exact Fin.ext (by omega))

set_option maxRecDepth 16384 in
set_option maxHeartbeats 400000 in
theorem out5_apply (x0 : Vec Ideal S1x512x1024 .f32) (x1 : Vec Ideal S1x1024 .f32) (x2 : Vec Ideal S1024x2944 .bf16) (x3 : Vec Ideal S904x1024 .bf16) (r : Fin 512) (q : Fin 256) :
    (out0_5 x0 x1 x2 x3 : S1x512x256.Idx → EReal) (ix3 0 r q)
      = ∑ k, (k0_pay3 (View.ld x0 r0_0) (View.ld x1 r0_1) : S512x1024.Idx → EReal) (ix2 r k) * (x2 : S1024x2944.Idx → EReal) (ix2 k ⟨256 + q.val, by omega⟩) := by
  unfold_out out0_5
  rw [View.canon_unit_zero hz3]
  pointwise [k0_pay5]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr5 (c : Dev nD) (b : Fin 8) (t : Fin 8192) (q : Fin 256) :
    ((dats m 0 c).arrAt 5 cfg0.N : S8x8192x256.Idx → EReal) (ix3 b t q) = ∑ k, h m c b t k * wn m c (ix2 k ⟨256 + q.val, by omega⟩) := by
  have hi := idx5 (pt b t)
  have hp : (pt b t).val = 16 * b.val + t.val / 512 := rfl
  have e : ((cfg0.win 5).blk (pt b t)).view.emb (ix3 0 (rw_ t) q : S1x512x256.Idx) = (ix3 b t q : S8x8192x256.Idx) := by
    refine funext fun a => Fin.ext ?_
    match a with
    | ⟨0, _⟩ => show win0_5.index (pt b t) 0 * 1 + 1 * 0 = b.val; rw [hi, hp]; show (16 * b.val + t.val / 512) / 16 * 1 + 1 * 0 = b.val; omega
    | ⟨1, _⟩ => show win0_5.index (pt b t) 1 * 512 + 1 * (t.val % 512) = t.val; rw [hi, hp]; show (16 * b.val + t.val / 512) % 16 * 512 + 1 * (t.val % 512) = t.val; omega
    | ⟨2, _⟩ => show win0_5.index (pt b t) 2 * 256 + 1 * q.val = q.val; rw [hi]; show 0 * 256 + 1 * q.val = q.val; omega
  have s := (dats m 0 c).arrAt_emb_eq_flushed 5 disjoint5 (pt b t) (flush0_5 _) (ix3 0 (rw_ t) q : S1x512x256.Idx)
  rw [e] at s
  refine s.trans ?_
  show (cfg0.win 5).cut (grid0.coords (pt b t)) ((dats m 0 c).after 5 (pt b t)) (ix3 0 (rw_ t) q : S1x512x256.Idx) = _
  rw [after0_5]
  refine (out5_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx6 : ∀ t : Fin cfg0.N, win0_6.index t = ![t.val / 16, t.val % 16, 0] :=
  (by decide +kernel : ∀ t : Fin grid0.N, win0_6.index t = ![t.val / 16, t.val % 16, 0])

theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (by
    have h : win0_6.index t = win0_6.index t' := h
    rw [idx6, idx6] at h
    have h0 : t.val / 16 = t'.val / 16 := congrFun h 0
    have h1 : t.val % 16 = t'.val % 16 := congrFun h 1
    exact Fin.ext (by omega))

set_option maxRecDepth 16384 in
set_option maxHeartbeats 400000 in
theorem out6_apply (x0 : Vec Ideal S1x512x1024 .f32) (x1 : Vec Ideal S1x1024 .f32) (x2 : Vec Ideal S1024x2944 .bf16) (x3 : Vec Ideal S904x1024 .bf16) (r : Fin 512) (q : Fin 512) :
    (out0_6 x0 x1 x2 x3 : S1x512x512.Idx → EReal) (ix3 0 r q)
      = ∑ k, (k0_pay3 (View.ld x0 r0_0) (View.ld x1 r0_1) : S512x1024.Idx → EReal) (ix2 r k) * (x2 : S1024x2944.Idx → EReal) (ix2 k ⟨512 + q.val, by omega⟩) := by
  unfold_out out0_6
  rw [View.canon_unit_zero hz3]
  pointwise [k0_pay7, k0_pay6]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr6 (c : Dev nD) (b : Fin 8) (t : Fin 8192) (q : Fin 512) :
    ((dats m 0 c).arrAt 6 cfg0.N : S8x8192x512.Idx → EReal) (ix3 b t q) = ∑ k, h m c b t k * wn m c (ix2 k ⟨512 + q.val, by omega⟩) := by
  have hi := idx6 (pt b t)
  have hp : (pt b t).val = 16 * b.val + t.val / 512 := rfl
  have e : ((cfg0.win 6).blk (pt b t)).view.emb (ix3 0 (rw_ t) q : S1x512x512.Idx) = (ix3 b t q : S8x8192x512.Idx) := by
    refine funext fun a => Fin.ext ?_
    match a with
    | ⟨0, _⟩ => show win0_6.index (pt b t) 0 * 1 + 1 * 0 = b.val; rw [hi, hp]; show (16 * b.val + t.val / 512) / 16 * 1 + 1 * 0 = b.val; omega
    | ⟨1, _⟩ => show win0_6.index (pt b t) 1 * 512 + 1 * (t.val % 512) = t.val; rw [hi, hp]; show (16 * b.val + t.val / 512) % 16 * 512 + 1 * (t.val % 512) = t.val; omega
    | ⟨2, _⟩ => show win0_6.index (pt b t) 2 * 512 + 1 * q.val = q.val; rw [hi]; show 0 * 512 + 1 * q.val = q.val; omega
  have s := (dats m 0 c).arrAt_emb_eq_flushed 6 disjoint6 (pt b t) (flush0_6 _) (ix3 0 (rw_ t) q : S1x512x512.Idx)
  rw [e] at s
  refine s.trans ?_
  show (cfg0.win 6).cut (grid0.coords (pt b t)) ((dats m 0 c).after 6 (pt b t)) (ix3 0 (rw_ t) q : S1x512x512.Idx) = _
  rw [after0_6]
  refine (out6_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx7 : ∀ t : Fin cfg0.N, win0_7.index t = ![t.val / 16, t.val % 16, 0] :=
  (by decide +kernel : ∀ t : Fin grid0.N, win0_7.index t = ![t.val / 16, t.val % 16, 0])

theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (by
    have h : win0_7.index t = win0_7.index t' := h
    rw [idx7, idx7] at h
    have h0 : t.val / 16 = t'.val / 16 := congrFun h 0
    have h1 : t.val % 16 = t'.val % 16 := congrFun h 1
    exact Fin.ext (by omega))

set_option maxRecDepth 16384 in
set_option maxHeartbeats 400000 in
theorem out7_apply (x0 : Vec Ideal S1x512x1024 .f32) (x1 : Vec Ideal S1x1024 .f32) (x2 : Vec Ideal S1024x2944 .bf16) (x3 : Vec Ideal S904x1024 .bf16) (r : Fin 512) (q : Fin 512) :
    (out0_7 x0 x1 x2 x3 : S1x512x512.Idx → EReal) (ix3 0 r q)
      = ∑ k, (k0_pay3 (View.ld x0 r0_0) (View.ld x1 r0_1) : S512x1024.Idx → EReal) (ix2 r k) * (x2 : S1024x2944.Idx → EReal) (ix2 k ⟨1024 + q.val, by omega⟩) := by
  unfold_out out0_7
  rw [View.canon_unit_zero hz3]
  pointwise [k0_pay8]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr7 (c : Dev nD) (b : Fin 8) (t : Fin 8192) (q : Fin 512) :
    ((dats m 0 c).arrAt 7 cfg0.N : S8x8192x512.Idx → EReal) (ix3 b t q) = ∑ k, h m c b t k * wn m c (ix2 k ⟨1024 + q.val, by omega⟩) := by
  have hi := idx7 (pt b t)
  have hp : (pt b t).val = 16 * b.val + t.val / 512 := rfl
  have e : ((cfg0.win 7).blk (pt b t)).view.emb (ix3 0 (rw_ t) q : S1x512x512.Idx) = (ix3 b t q : S8x8192x512.Idx) := by
    refine funext fun a => Fin.ext ?_
    match a with
    | ⟨0, _⟩ => show win0_7.index (pt b t) 0 * 1 + 1 * 0 = b.val; rw [hi, hp]; show (16 * b.val + t.val / 512) / 16 * 1 + 1 * 0 = b.val; omega
    | ⟨1, _⟩ => show win0_7.index (pt b t) 1 * 512 + 1 * (t.val % 512) = t.val; rw [hi, hp]; show (16 * b.val + t.val / 512) % 16 * 512 + 1 * (t.val % 512) = t.val; omega
    | ⟨2, _⟩ => show win0_7.index (pt b t) 2 * 512 + 1 * q.val = q.val; rw [hi]; show 0 * 512 + 1 * q.val = q.val; omega
  have s := (dats m 0 c).arrAt_emb_eq_flushed 7 disjoint7 (pt b t) (flush0_7 _) (ix3 0 (rw_ t) q : S1x512x512.Idx)
  rw [e] at s
  refine s.trans ?_
  show (cfg0.win 7).cut (grid0.coords (pt b t)) ((dats m 0 c).after 7 (pt b t)) (ix3 0 (rw_ t) q : S1x512x512.Idx) = _
  rw [after0_7]
  refine (out7_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx8 : ∀ t : Fin cfg0.N, win0_8.index t = ![t.val / 16, t.val % 16, 0] :=
  (by decide +kernel : ∀ t : Fin grid0.N, win0_8.index t = ![t.val / 16, t.val % 16, 0])

theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (by
    have h : win0_8.index t = win0_8.index t' := h
    rw [idx8, idx8] at h
    have h0 : t.val / 16 = t'.val / 16 := congrFun h 0
    have h1 : t.val % 16 = t'.val % 16 := congrFun h 1
    exact Fin.ext (by omega))

set_option maxRecDepth 16384 in
set_option maxHeartbeats 400000 in
theorem out8_apply (x0 : Vec Ideal S1x512x1024 .f32) (x1 : Vec Ideal S1x1024 .f32) (x2 : Vec Ideal S1024x2944 .bf16) (x3 : Vec Ideal S904x1024 .bf16) (r : Fin 512) (q : Fin 384) :
    (out0_8 x0 x1 x2 x3 : S1x512x384.Idx → EReal) (ix3 0 r q)
      = ∑ k, (k0_pay3 (View.ld x0 r0_0) (View.ld x1 r0_1) : S512x1024.Idx → EReal) (ix2 r k) * (x2 : S1024x2944.Idx → EReal) (ix2 k ⟨1536 + q.val, by omega⟩) := by
  unfold_out out0_8
  rw [View.canon_unit_zero hz3]
  pointwise [k0_pay9]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr8 (c : Dev nD) (b : Fin 8) (t : Fin 8192) (q : Fin 384) :
    ((dats m 0 c).arrAt 8 cfg0.N : S8x8192x384.Idx → EReal) (ix3 b t q) = ∑ k, h m c b t k * wn m c (ix2 k ⟨1536 + q.val, by omega⟩) := by
  have hi := idx8 (pt b t)
  have hp : (pt b t).val = 16 * b.val + t.val / 512 := rfl
  have e : ((cfg0.win 8).blk (pt b t)).view.emb (ix3 0 (rw_ t) q : S1x512x384.Idx) = (ix3 b t q : S8x8192x384.Idx) := by
    refine funext fun a => Fin.ext ?_
    match a with
    | ⟨0, _⟩ => show win0_8.index (pt b t) 0 * 1 + 1 * 0 = b.val; rw [hi, hp]; show (16 * b.val + t.val / 512) / 16 * 1 + 1 * 0 = b.val; omega
    | ⟨1, _⟩ => show win0_8.index (pt b t) 1 * 512 + 1 * (t.val % 512) = t.val; rw [hi, hp]; show (16 * b.val + t.val / 512) % 16 * 512 + 1 * (t.val % 512) = t.val; omega
    | ⟨2, _⟩ => show win0_8.index (pt b t) 2 * 384 + 1 * q.val = q.val; rw [hi]; show 0 * 384 + 1 * q.val = q.val; omega
  have s := (dats m 0 c).arrAt_emb_eq_flushed 8 disjoint8 (pt b t) (flush0_8 _) (ix3 0 (rw_ t) q : S1x512x384.Idx)
  rw [e] at s
  refine s.trans ?_
  show (cfg0.win 8).cut (grid0.coords (pt b t)) ((dats m 0 c).after 8 (pt b t)) (ix3 0 (rw_ t) q : S1x512x384.Idx) = _
  rw [after0_8]
  refine (out8_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx9 : ∀ t : Fin cfg0.N, win0_9.index t = ![t.val / 16, t.val % 16, 0] :=
  (by decide +kernel : ∀ t : Fin grid0.N, win0_9.index t = ![t.val / 16, t.val % 16, 0])

theorem disjoint9 : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne (by
    have h : win0_9.index t = win0_9.index t' := h
    rw [idx9, idx9] at h
    have h0 : t.val / 16 = t'.val / 16 := congrFun h 0
    have h1 : t.val % 16 = t'.val % 16 := congrFun h 1
    exact Fin.ext (by omega))

set_option maxRecDepth 16384 in
set_option maxHeartbeats 400000 in
theorem out9_apply (x0 : Vec Ideal S1x512x1024 .f32) (x1 : Vec Ideal S1x1024 .f32) (x2 : Vec Ideal S1024x2944 .bf16) (x3 : Vec Ideal S904x1024 .bf16) (r : Fin 512) (q : Fin 128) :
    (out0_9 x0 x1 x2 x3 : S1x512x128.Idx → EReal) (ix3 0 r q)
      = ∑ k, (k0_pay3 (View.ld x0 r0_0) (View.ld x1 r0_1) : S512x1024.Idx → EReal) (ix2 r k) * (x2 : S1024x2944.Idx → EReal) (ix2 k ⟨1920 + q.val, by omega⟩) := by
  unfold_out out0_9
  rw [View.canon_unit_zero hz3]
  pointwise [k0_pay10]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr9 (c : Dev nD) (b : Fin 8) (t : Fin 8192) (q : Fin 128) :
    ((dats m 0 c).arrAt 9 cfg0.N : S8x8192x128.Idx → EReal) (ix3 b t q) = ∑ k, h m c b t k * wn m c (ix2 k ⟨1920 + q.val, by omega⟩) := by
  have hi := idx9 (pt b t)
  have hp : (pt b t).val = 16 * b.val + t.val / 512 := rfl
  have e : ((cfg0.win 9).blk (pt b t)).view.emb (ix3 0 (rw_ t) q : S1x512x128.Idx) = (ix3 b t q : S8x8192x128.Idx) := by
    refine funext fun a => Fin.ext ?_
    match a with
    | ⟨0, _⟩ => show win0_9.index (pt b t) 0 * 1 + 1 * 0 = b.val; rw [hi, hp]; show (16 * b.val + t.val / 512) / 16 * 1 + 1 * 0 = b.val; omega
    | ⟨1, _⟩ => show win0_9.index (pt b t) 1 * 512 + 1 * (t.val % 512) = t.val; rw [hi, hp]; show (16 * b.val + t.val / 512) % 16 * 512 + 1 * (t.val % 512) = t.val; omega
    | ⟨2, _⟩ => show win0_9.index (pt b t) 2 * 128 + 1 * q.val = q.val; rw [hi]; show 0 * 128 + 1 * q.val = q.val; omega
  have s := (dats m 0 c).arrAt_emb_eq_flushed 9 disjoint9 (pt b t) (flush0_9 _) (ix3 0 (rw_ t) q : S1x512x128.Idx)
  rw [e] at s
  refine s.trans ?_
  show (cfg0.win 9).cut (grid0.coords (pt b t)) ((dats m 0 c).after 9 (pt b t)) (ix3 0 (rw_ t) q : S1x512x128.Idx) = _
  rw [after0_9]
  refine (out9_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx10 : ∀ t : Fin cfg0.N, win0_10.index t = ![t.val / 16, t.val % 16, 0] :=
  (by decide +kernel : ∀ t : Fin grid0.N, win0_10.index t = ![t.val / 16, t.val % 16, 0])

theorem disjoint10 : ∀ t t' : Fin cfg0.N, (cfg0.win 10).flush t = true → (cfg0.win 10).flush t' = true → t ≠ t' →
    Disjoint ((cfg0.win 10).blk t).view.set ((cfg0.win 10).blk t').view.set :=
  fun t t' _ _ hne => (cfg0.win 10).disjoint_blk fun h => hne (by
    have h : win0_10.index t = win0_10.index t' := h
    rw [idx10, idx10] at h
    have h0 : t.val / 16 = t'.val / 16 := congrFun h 0
    have h1 : t.val % 16 = t'.val % 16 := congrFun h 1
    exact Fin.ext (by omega))

set_option maxRecDepth 16384 in
set_option maxHeartbeats 400000 in
theorem out10_apply (x0 : Vec Ideal S1x512x1024 .f32) (x1 : Vec Ideal S1x1024 .f32) (x2 : Vec Ideal S1024x2944 .bf16) (x3 : Vec Ideal S904x1024 .bf16) (r : Fin 512) (q : Fin 384) :
    (out0_10 x0 x1 x2 x3 : S1x512x384.Idx → EReal) (ix3 0 r q)
      = ∑ k, (k0_pay3 (View.ld x0 r0_0) (View.ld x1 r0_1) : S512x1024.Idx → EReal) (ix2 r k) * (x2 : S1024x2944.Idx → EReal) (ix2 k ⟨2048 + q.val, by omega⟩) := by
  unfold_out out0_10
  rw [View.canon_unit_zero hz3]
  pointwise [k0_pay11]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr10 (c : Dev nD) (b : Fin 8) (t : Fin 8192) (q : Fin 384) :
    ((dats m 0 c).arrAt 10 cfg0.N : S8x8192x384.Idx → EReal) (ix3 b t q) = ∑ k, h m c b t k * wn m c (ix2 k ⟨2048 + q.val, by omega⟩) := by
  have hi := idx10 (pt b t)
  have hp : (pt b t).val = 16 * b.val + t.val / 512 := rfl
  have e : ((cfg0.win 10).blk (pt b t)).view.emb (ix3 0 (rw_ t) q : S1x512x384.Idx) = (ix3 b t q : S8x8192x384.Idx) := by
    refine funext fun a => Fin.ext ?_
    match a with
    | ⟨0, _⟩ => show win0_10.index (pt b t) 0 * 1 + 1 * 0 = b.val; rw [hi, hp]; show (16 * b.val + t.val / 512) / 16 * 1 + 1 * 0 = b.val; omega
    | ⟨1, _⟩ => show win0_10.index (pt b t) 1 * 512 + 1 * (t.val % 512) = t.val; rw [hi, hp]; show (16 * b.val + t.val / 512) % 16 * 512 + 1 * (t.val % 512) = t.val; omega
    | ⟨2, _⟩ => show win0_10.index (pt b t) 2 * 384 + 1 * q.val = q.val; rw [hi]; show 0 * 384 + 1 * q.val = q.val; omega
  have s := (dats m 0 c).arrAt_emb_eq_flushed 10 disjoint10 (pt b t) (flush0_10 _) (ix3 0 (rw_ t) q : S1x512x384.Idx)
  rw [e] at s
  refine s.trans ?_
  show (cfg0.win 10).cut (grid0.coords (pt b t)) ((dats m 0 c).after 10 (pt b t)) (ix3 0 (rw_ t) q : S1x512x384.Idx) = _
  rw [after0_10]
  refine (out10_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx11 : ∀ t : Fin cfg0.N, win0_11.index t = ![t.val / 16, t.val % 16, 0] :=
  (by decide +kernel : ∀ t : Fin grid0.N, win0_11.index t = ![t.val / 16, t.val % 16, 0])

theorem disjoint11 : ∀ t t' : Fin cfg0.N, (cfg0.win 11).flush t = true → (cfg0.win 11).flush t' = true → t ≠ t' →
    Disjoint ((cfg0.win 11).blk t).view.set ((cfg0.win 11).blk t').view.set :=
  fun t t' _ _ hne => (cfg0.win 11).disjoint_blk fun h => hne (by
    have h : win0_11.index t = win0_11.index t' := h
    rw [idx11, idx11] at h
    have h0 : t.val / 16 = t'.val / 16 := congrFun h 0
    have h1 : t.val % 16 = t'.val % 16 := congrFun h 1
    exact Fin.ext (by omega))

set_option maxRecDepth 16384 in
set_option maxHeartbeats 400000 in
theorem out11_apply (x0 : Vec Ideal S1x512x1024 .f32) (x1 : Vec Ideal S1x1024 .f32) (x2 : Vec Ideal S1024x2944 .bf16) (x3 : Vec Ideal S904x1024 .bf16) (r : Fin 512) (q : Fin 256) :
    (out0_11 x0 x1 x2 x3 : S1x512x256.Idx → EReal) (ix3 0 r q)
      = ∑ k, (k0_pay3 (View.ld x0 r0_0) (View.ld x1 r0_1) : S512x1024.Idx → EReal) (ix2 r k) * (x2 : S1024x2944.Idx → EReal) (ix2 k ⟨2432 + q.val, by omega⟩) := by
  unfold_out out0_11
  rw [View.canon_unit_zero hz3]
  pointwise [k0_pay12]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr11 (c : Dev nD) (b : Fin 8) (t : Fin 8192) (q : Fin 256) :
    ((dats m 0 c).arrAt 11 cfg0.N : S8x8192x256.Idx → EReal) (ix3 b t q) = ∑ k, h m c b t k * wn m c (ix2 k ⟨2432 + q.val, by omega⟩) := by
  have hi := idx11 (pt b t)
  have hp : (pt b t).val = 16 * b.val + t.val / 512 := rfl
  have e : ((cfg0.win 11).blk (pt b t)).view.emb (ix3 0 (rw_ t) q : S1x512x256.Idx) = (ix3 b t q : S8x8192x256.Idx) := by
    refine funext fun a => Fin.ext ?_
    match a with
    | ⟨0, _⟩ => show win0_11.index (pt b t) 0 * 1 + 1 * 0 = b.val; rw [hi, hp]; show (16 * b.val + t.val / 512) / 16 * 1 + 1 * 0 = b.val; omega
    | ⟨1, _⟩ => show win0_11.index (pt b t) 1 * 512 + 1 * (t.val % 512) = t.val; rw [hi, hp]; show (16 * b.val + t.val / 512) % 16 * 512 + 1 * (t.val % 512) = t.val; omega
    | ⟨2, _⟩ => show win0_11.index (pt b t) 2 * 256 + 1 * q.val = q.val; rw [hi]; show 0 * 256 + 1 * q.val = q.val; omega
  have s := (dats m 0 c).arrAt_emb_eq_flushed 11 disjoint11 (pt b t) (flush0_11 _) (ix3 0 (rw_ t) q : S1x512x256.Idx)
  rw [e] at s
  refine s.trans ?_
  show (cfg0.win 11).cut (grid0.coords (pt b t)) ((dats m 0 c).after 11 (pt b t)) (ix3 0 (rw_ t) q : S1x512x256.Idx) = _
  rw [after0_11]
  refine (out11_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx12 : ∀ t : Fin cfg0.N, win0_12.index t = ![t.val / 16, t.val % 16, 0] :=
  (by decide +kernel : ∀ t : Fin grid0.N, win0_12.index t = ![t.val / 16, t.val % 16, 0])

theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (by
    have h : win0_12.index t = win0_12.index t' := h
    rw [idx12, idx12] at h
    have h0 : t.val / 16 = t'.val / 16 := congrFun h 0
    have h1 : t.val % 16 = t'.val % 16 := congrFun h 1
    exact Fin.ext (by omega))

set_option maxRecDepth 16384 in
set_option maxHeartbeats 400000 in
theorem out12_apply (x0 : Vec Ideal S1x512x1024 .f32) (x1 : Vec Ideal S1x1024 .f32) (x2 : Vec Ideal S1024x2944 .bf16) (x3 : Vec Ideal S904x1024 .bf16) (r : Fin 512) (q : Fin 256) :
    (out0_12 x0 x1 x2 x3 : S1x512x256.Idx → EReal) (ix3 0 r q)
      = ∑ k, (k0_pay3 (View.ld x0 r0_0) (View.ld x1 r0_1) : S512x1024.Idx → EReal) (ix2 r k) * (x2 : S1024x2944.Idx → EReal) (ix2 k ⟨2688 + q.val, by omega⟩) := by
  unfold_out out0_12
  rw [View.canon_unit_zero hz3]
  pointwise [k0_pay13]
  try (refine Finset.sum_congr rfl fun k _ => ?_; refine congrArg (fun j => _ * (x2 : S1024x2944.Idx → EReal) (ix2 k j)) (Fin.ext ?_); show _ = _; simp)

set_option maxRecDepth 16384 in
set_option maxHeartbeats 400000 in
theorem arr12 (c : Dev nD) (b : Fin 8) (t : Fin 8192) (q : Fin 256) :
    ((dats m 0 c).arrAt 12 cfg0.N : S8x8192x256.Idx → EReal) (ix3 b t q) = ∑ k, h m c b t k * wn m c (ix2 k ⟨2688 + q.val, by omega⟩) := by
  have hi := idx12 (pt b t)
  have hp : (pt b t).val = 16 * b.val + t.val / 512 := rfl
  have e : ((cfg0.win 12).blk (pt b t)).view.emb (ix3 0 (rw_ t) q : S1x512x256.Idx) = (ix3 b t q : S8x8192x256.Idx) := by
    refine funext fun a => Fin.ext ?_
    match a with
    | ⟨0, _⟩ => show win0_12.index (pt b t) 0 * 1 + 1 * 0 = b.val; rw [hi, hp]; show (16 * b.val + t.val / 512) / 16 * 1 + 1 * 0 = b.val; omega
    | ⟨1, _⟩ => show win0_12.index (pt b t) 1 * 512 + 1 * (t.val % 512) = t.val; rw [hi, hp]; show (16 * b.val + t.val / 512) % 16 * 512 + 1 * (t.val % 512) = t.val; omega
    | ⟨2, _⟩ => show win0_12.index (pt b t) 2 * 256 + 1 * q.val = q.val; rw [hi]; show 0 * 256 + 1 * q.val = q.val; omega
  have s := (dats m 0 c).arrAt_emb_eq_flushed 12 disjoint12 (pt b t) (flush0_12 _) (ix3 0 (rw_ t) q : S1x512x256.Idx)
  rw [e] at s
  refine s.trans ?_
  show (cfg0.win 12).cut (grid0.coords (pt b t)) ((dats m 0 c).after 12 (pt b t)) (ix3 0 (rw_ t) q : S1x512x256.Idx) = _
  rw [after0_12]
  refine (out12_apply (iblk m c 0 (pt b t)) (iblk m c 1 (pt b t)) (iblk m c 2 (pt b t)) (iblk m c 3 (pt b t)) (rw_ t) q).trans ?_
  exact Finset.sum_congr rfl fun k _ => congrArg₂ (· * ·) (pay3_pt m c b t k) (iblk2 m c _ k _)

theorem idx13 : ∀ t : Fin cfg0.N, win0_13.index t = ![t.val / 16, 0, t.val % 16] :=
  (by decide +kernel : ∀ t : Fin grid0.N, win0_13.index t = ![t.val / 16, 0, t.val % 16])

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (by
    have h : win0_13.index t = win0_13.index t' := h
    rw [idx13, idx13] at h
    have h0 : t.val / 16 = t'.val / 16 := congrFun h 0
    have h1 : t.val % 16 = t'.val % 16 := congrFun h 2
    exact Fin.ext (by omega))

set_option maxRecDepth 16384 in
set_option maxHeartbeats 400000 in
theorem out13_apply (x0 : Vec Ideal S1x512x1024 .f32) (x1 : Vec Ideal S1x1024 .f32) (x2 : Vec Ideal S1024x2944 .bf16) (x3 : Vec Ideal S904x1024 .bf16) (q : Fin 384) (r : Fin 512) :
    (out0_13 x0 x1 x2 x3 : S1x384x512.Idx → EReal) (ix3 0 q r)
      = (∑ k, (x3 : S904x1024.Idx → EReal) (ix2 ⟨0 + q.val, by omega⟩ k) * (k0_pay3 (View.ld x0 r0_0) (View.ld x1 r0_1) : S512x1024.Idx → EReal) (ix2 r k)) * qScale := by
  unfold_out out0_13
  rw [View.canon_unit_zero hz3]
  pointwise [k0_pay14]
  try (refine congrArg (· * qScale) ?_; refine Finset.sum_congr rfl fun k _ => ?_; refine congrArg (fun j => (x3 : S904x1024.Idx → EReal) (ix2 j k) * _) (Fin.ext ?_); show _ = _; simp)

set_option maxRecDepth 16384 in
set_option maxHeartbeats 400000 in
theorem arr13 (c : Dev nD) (b : Fin 8) (q : Fin 384) (t : Fin 8192) :
    ((dats m 0 c).arrAt 13 cfg0.N : S8x384x8192.Idx → EReal) (ix3 b q t) = (∑ k, h m c b t k * wt m c (ix2 ⟨0 + q.val, by omega⟩ k)) * qScale := by
  have hi := idx13 (pt b t)
  have hp : (pt b t).val = 16 * b.val + t.val / 512 := rfl
  have e : ((cfg0.win 13).blk (pt b t)).view.emb (ix3 0 q (rw_ t) : S1x384x512.Idx) = (ix3 b q t : S8x384x8192.Idx) := by
    refine funext fun a => Fin.ext ?_
    match a with
    | ⟨0, _⟩ => show win0_13.index (pt b t) 0 * 1 + 1 * 0 = b.val; rw [hi, hp]; show (16 * b.val + t.val / 512) / 16 * 1 + 1 * 0 = b.val; omega
    | ⟨1, _⟩ => show win0_13.index (pt b t) 1 * 384 + 1 * q.val = q.val; rw [hi]; show 0 * 384 + 1 * q.val = q.val; omega
    | ⟨2, _⟩ => show win0_13.index (pt b t) 2 * 512 + 1 * (t.val % 512) = t.val; rw [hi, hp]; show (16 * b.val + t.val / 512) % 16 * 512 + 1 * (t.val % 512) = t.val; omega
  have s := (dats m 0 c).arrAt_emb_eq_flushed 13 disjoint13 (pt b t) (flush0_13 _) (ix3 0 q (rw_ t) : S1x384x512.Idx)
  rw [e] at s
  refine s.trans ?_
  show (cfg0.win 13).cut (grid0.coords (pt b t)) ((dats m 0 c).after 13 (pt b t)) (ix3 0 q (rw_ t) : S1x384x512.Idx) = _
  rw [after0_13]
  refine (out13_apply (iblk m c 0 (pt b t)) (iblk m c 1 (pt b t)) (iblk m c 2 (pt b t)) (iblk m c 3 (pt b t)) q (rw_ t)).trans ?_
  refine congrArg (· * qScale) ?_
  exact Finset.sum_congr rfl fun k _ => (mul_comm _ _).trans (congrArg₂ (· * ·) (pay3_pt m c b t k) (iblk3 m c _ _ k))

theorem idx14 : ∀ t : Fin cfg0.N, win0_14.index t = ![t.val / 16, 0, t.val % 16] :=
  (by decide +kernel : ∀ t : Fin grid0.N, win0_14.index t = ![t.val / 16, 0, t.val % 16])

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (by
    have h : win0_14.index t = win0_14.index t' := h
    rw [idx14, idx14] at h
    have h0 : t.val / 16 = t'.val / 16 := congrFun h 0
    have h1 : t.val % 16 = t'.val % 16 := congrFun h 2
    exact Fin.ext (by omega))

set_option maxRecDepth 16384 in
set_option maxHeartbeats 400000 in
theorem out14_apply (x0 : Vec Ideal S1x512x1024 .f32) (x1 : Vec Ideal S1x1024 .f32) (x2 : Vec Ideal S1024x2944 .bf16) (x3 : Vec Ideal S904x1024 .bf16) (q : Fin 384) (r : Fin 512) :
    (out0_14 x0 x1 x2 x3 : S1x384x512.Idx → EReal) (ix3 0 q r)
      = (∑ k, (x3 : S904x1024.Idx → EReal) (ix2 ⟨384 + q.val, by omega⟩ k) * (k0_pay3 (View.ld x0 r0_0) (View.ld x1 r0_1) : S512x1024.Idx → EReal) (ix2 r k)) := by
  unfold_out out0_14
  rw [View.canon_unit_zero hz3]
  pointwise [k0_pay15]
  try (refine congrArg (· * qScale) ?_; refine Finset.sum_congr rfl fun k _ => ?_; refine congrArg (fun j => (x3 : S904x1024.Idx → EReal) (ix2 j k) * _) (Fin.ext ?_); show _ = _; simp)

set_option maxRecDepth 16384 in
set_option maxHeartbeats 400000 in
theorem arr14 (c : Dev nD) (b : Fin 8) (q : Fin 384) (t : Fin 8192) :
    ((dats m 0 c).arrAt 14 cfg0.N : S8x384x8192.Idx → EReal) (ix3 b q t) = (∑ k, h m c b t k * wt m c (ix2 ⟨384 + q.val, by omega⟩ k)) := by
  have hi := idx14 (pt b t)
  have hp : (pt b t).val = 16 * b.val + t.val / 512 := rfl
  have e : ((cfg0.win 14).blk (pt b t)).view.emb (ix3 0 q (rw_ t) : S1x384x512.Idx) = (ix3 b q t : S8x384x8192.Idx) := by
    refine funext fun a => Fin.ext ?_
    match a with
    | ⟨0, _⟩ => show win0_14.index (pt b t) 0 * 1 + 1 * 0 = b.val; rw [hi, hp]; show (16 * b.val + t.val / 512) / 16 * 1 + 1 * 0 = b.val; omega
    | ⟨1, _⟩ => show win0_14.index (pt b t) 1 * 384 + 1 * q.val = q.val; rw [hi]; show 0 * 384 + 1 * q.val = q.val; omega
    | ⟨2, _⟩ => show win0_14.index (pt b t) 2 * 512 + 1 * (t.val % 512) = t.val; rw [hi, hp]; show (16 * b.val + t.val / 512) % 16 * 512 + 1 * (t.val % 512) = t.val; omega
  have s := (dats m 0 c).arrAt_emb_eq_flushed 14 disjoint14 (pt b t) (flush0_14 _) (ix3 0 q (rw_ t) : S1x384x512.Idx)
  rw [e] at s
  refine s.trans ?_
  show (cfg0.win 14).cut (grid0.coords (pt b t)) ((dats m 0 c).after 14 (pt b t)) (ix3 0 q (rw_ t) : S1x384x512.Idx) = _
  rw [after0_14]
  refine (out14_apply (iblk m c 0 (pt b t)) (iblk m c 1 (pt b t)) (iblk m c 2 (pt b t)) (iblk m c 3 (pt b t)) q (rw_ t)).trans ?_

  exact Finset.sum_congr rfl fun k _ => (mul_comm _ _).trans (congrArg₂ (· * ·) (pay3_pt m c b t k) (iblk3 m c _ _ k))

theorem idx15 : ∀ t : Fin cfg0.N, win0_15.index t = ![t.val / 16, 0, t.val % 16] :=
  (by decide +kernel : ∀ t : Fin grid0.N, win0_15.index t = ![t.val / 16, 0, t.val % 16])

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (by
    have h : win0_15.index t = win0_15.index t' := h
    rw [idx15, idx15] at h
    have h0 : t.val / 16 = t'.val / 16 := congrFun h 0
    have h1 : t.val % 16 = t'.val % 16 := congrFun h 2
    exact Fin.ext (by omega))

set_option maxRecDepth 16384 in
set_option maxHeartbeats 400000 in
theorem out15_apply (x0 : Vec Ideal S1x512x1024 .f32) (x1 : Vec Ideal S1x1024 .f32) (x2 : Vec Ideal S1024x2944 .bf16) (x3 : Vec Ideal S904x1024 .bf16) (q : Fin 128) (r : Fin 512) :
    (out0_15 x0 x1 x2 x3 : S1x128x512.Idx → EReal) (ix3 0 q r)
      = (∑ k, (x3 : S904x1024.Idx → EReal) (ix2 ⟨768 + q.val, by omega⟩ k) * (k0_pay3 (View.ld x0 r0_0) (View.ld x1 r0_1) : S512x1024.Idx → EReal) (ix2 r k)) := by
  unfold_out out0_15
  rw [View.canon_unit_zero hz3]
  pointwise [k0_pay1]
  try (refine congrArg (· * qScale) ?_; refine Finset.sum_congr rfl fun k _ => ?_; refine congrArg (fun j => (x3 : S904x1024.Idx → EReal) (ix2 j k) * _) (Fin.ext ?_); show _ = _; simp)

set_option maxRecDepth 16384 in
set_option maxHeartbeats 400000 in
theorem arr15 (c : Dev nD) (b : Fin 8) (q : Fin 128) (t : Fin 8192) :
    ((dats m 0 c).arrAt 15 cfg0.N : S8x128x8192.Idx → EReal) (ix3 b q t) = (∑ k, h m c b t k * wt m c (ix2 ⟨768 + q.val, by omega⟩ k)) := by
  have hi := idx15 (pt b t)
  have hp : (pt b t).val = 16 * b.val + t.val / 512 := rfl
  have e : ((cfg0.win 15).blk (pt b t)).view.emb (ix3 0 q (rw_ t) : S1x128x512.Idx) = (ix3 b q t : S8x128x8192.Idx) := by
    refine funext fun a => Fin.ext ?_
    match a with
    | ⟨0, _⟩ => show win0_15.index (pt b t) 0 * 1 + 1 * 0 = b.val; rw [hi, hp]; show (16 * b.val + t.val / 512) / 16 * 1 + 1 * 0 = b.val; omega
    | ⟨1, _⟩ => show win0_15.index (pt b t) 1 * 128 + 1 * q.val = q.val; rw [hi]; show 0 * 128 + 1 * q.val = q.val; omega
    | ⟨2, _⟩ => show win0_15.index (pt b t) 2 * 512 + 1 * (t.val % 512) = t.val; rw [hi, hp]; show (16 * b.val + t.val / 512) % 16 * 512 + 1 * (t.val % 512) = t.val; omega
  have s := (dats m 0 c).arrAt_emb_eq_flushed 15 disjoint15 (pt b t) (flush0_15 _) (ix3 0 q (rw_ t) : S1x128x512.Idx)
  rw [e] at s
  refine s.trans ?_
  show (cfg0.win 15).cut (grid0.coords (pt b t)) ((dats m 0 c).after 15 (pt b t)) (ix3 0 q (rw_ t) : S1x128x512.Idx) = _
  rw [after0_15]
  refine (out15_apply (iblk m c 0 (pt b t)) (iblk m c 1 (pt b t)) (iblk m c 2 (pt b t)) (iblk m c 3 (pt b t)) q (rw_ t)).trans ?_

  exact Finset.sum_congr rfl fun k _ => (mul_comm _ _).trans (congrArg₂ (· * ·) (pay3_pt m c b t k) (iblk3 m c _ _ k))

theorem idx16 : ∀ t : Fin cfg0.N, win0_16.index t = ![t.val / 16, 0, t.val % 16] :=
  (by decide +kernel : ∀ t : Fin grid0.N, win0_16.index t = ![t.val / 16, 0, t.val % 16])

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (by
    have h : win0_16.index t = win0_16.index t' := h
    rw [idx16, idx16] at h
    have h0 : t.val / 16 = t'.val / 16 := congrFun h 0
    have h1 : t.val % 16 = t'.val % 16 := congrFun h 2
    exact Fin.ext (by omega))

set_option maxRecDepth 16384 in
set_option maxHeartbeats 400000 in
theorem out16_apply (x0 : Vec Ideal S1x512x1024 .f32) (x1 : Vec Ideal S1x1024 .f32) (x2 : Vec Ideal S1024x2944 .bf16) (x3 : Vec Ideal S904x1024 .bf16) (q : Fin 8) (r : Fin 512) :
    (out0_16 x0 x1 x2 x3 : S1x8x512.Idx → EReal) (ix3 0 q r)
      = (∑ k, (x3 : S904x1024.Idx → EReal) (ix2 ⟨896 + q.val, by omega⟩ k) * (k0_pay3 (View.ld x0 r0_0) (View.ld x1 r0_1) : S512x1024.Idx → EReal) (ix2 r k)) := by
  unfold_out out0_16
  rw [View.canon_unit_zero hz3]
  pointwise [k0_pay2]
  try (refine congrArg (· * qScale) ?_; refine Finset.sum_congr rfl fun k _ => ?_; refine congrArg (fun j => (x3 : S904x1024.Idx → EReal) (ix2 j k) * _) (Fin.ext ?_); show _ = _; simp)

set_option maxRecDepth 16384 in
set_option maxHeartbeats 400000 in
theorem arr16 (c : Dev nD) (b : Fin 8) (q : Fin 8) (t : Fin 8192) :
    ((dats m 0 c).arrAt 16 cfg0.N : S8x8x8192.Idx → EReal) (ix3 b q t) = (∑ k, h m c b t k * wt m c (ix2 ⟨896 + q.val, by omega⟩ k)) := by
  have hi := idx16 (pt b t)
  have hp : (pt b t).val = 16 * b.val + t.val / 512 := rfl
  have e : ((cfg0.win 16).blk (pt b t)).view.emb (ix3 0 q (rw_ t) : S1x8x512.Idx) = (ix3 b q t : S8x8x8192.Idx) := by
    refine funext fun a => Fin.ext ?_
    match a with
    | ⟨0, _⟩ => show win0_16.index (pt b t) 0 * 1 + 1 * 0 = b.val; rw [hi, hp]; show (16 * b.val + t.val / 512) / 16 * 1 + 1 * 0 = b.val; omega
    | ⟨1, _⟩ => show win0_16.index (pt b t) 1 * 8 + 1 * q.val = q.val; rw [hi]; show 0 * 8 + 1 * q.val = q.val; omega
    | ⟨2, _⟩ => show win0_16.index (pt b t) 2 * 512 + 1 * (t.val % 512) = t.val; rw [hi, hp]; show (16 * b.val + t.val / 512) % 16 * 512 + 1 * (t.val % 512) = t.val; omega
  have s := (dats m 0 c).arrAt_emb_eq_flushed 16 disjoint16 (pt b t) (flush0_16 _) (ix3 0 q (rw_ t) : S1x8x512.Idx)
  rw [e] at s
  refine s.trans ?_
  show (cfg0.win 16).cut (grid0.coords (pt b t)) ((dats m 0 c).after 16 (pt b t)) (ix3 0 q (rw_ t) : S1x8x512.Idx) = _
  rw [after0_16]
  refine (out16_apply (iblk m c 0 (pt b t)) (iblk m c 1 (pt b t)) (iblk m c 2 (pt b t)) (iblk m c 3 (pt b t)) q (rw_ t)).trans ?_

  exact Finset.sum_congr rfl fun k _ => (mul_comm _ _).trans (congrArg₂ (· * ·) (pay3_pt m c b t k) (iblk3 m c _ _ k))

end Cert.Hand.InProj

end
-- ==== Proof.InProjRef.lean ====
module

public import proofs.«01_k».proof.Proof.ProjSpec
public import proofs.«01_k».proof.Proof.Gen.InProjRefIdeal.Run
public import Idealize.ShloMosaic.Lib.Pointwise

@[expose] public section

noncomputable section

/-! The reference's pieces of the projection, entry by entry. -/

namespace Cert.Hand.InProjRef

open Cert.InProjRefIdeal Cert.InProjRefIdeal.Gen Idealize.ShloMosaic Idealize.ShloMosaic.TcCoe Idealize.SL.Sem

/-- The projection as the reference forms it: all lanes of it. -/
def refP (x : FVec Ideal S8x8192x1024 .f32) (g : FVec Ideal S1024 .f32) (w : FVec Ideal S1024x3380 .f32) : FVec Ideal S8x8192x3380 .f32 :=
  (Host.dotGeneral dot_S8x8192x1024_S1024x3380_S8x8192x3380_2_0_01_1_n_n none (mulf (mulf x (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf x x) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))) w)

set_option maxRecDepth 16384 in
set_option maxHeartbeats 400000 in
theorem refP_apply (x : FVec Ideal S8x8192x1024 .f32) (g : FVec Ideal S1024 .f32) (w : FVec Ideal S1024x3380 .f32)
    (b : Fin 8) (t : Fin 8192) (j : Fin 3380) :
    (refP x g w : S8x8192x3380.Idx → EReal) (ix3 b t j) = projRow (fun k => (x : S8x8192x1024.Idx → EReal) (ix3 b t k))
      (fun k => (g : S1024.Idx → EReal) (ix1 k)) (fun k j => (w : S1024x3380.Idx → EReal) (ix2 k j)) j := by
  pointwise [refP]
  rfl

variable (p : FVec Ideal S8x8192x3380 .f32)

/-- Piece `gq` of a projection. -/
def gq : FVec Ideal S8x8192x192 .f32 :=
  extractStridedSlice S8x8192x192 ![0, 0, 0] p slices_S8x8192x3380_S8x8192x192_0_0_0

set_option maxRecDepth 16384 in
set_option maxHeartbeats 400000 in
theorem gq_apply (b : Fin 8) (t : Fin 8192) (j : Fin 192) :
    (gq p : S8x8192x192.Idx → EReal) (ix3 b t j) = (p : S8x8192x3380.Idx → EReal) (ix3 b t ⟨0 + j.val, by omega⟩) := by
  pointwise [gq]
  try rfl

/-- Piece `gz` of a projection. -/
def gz : FVec Ideal S8x8192x16 .f32 :=
  extractStridedSlice S8x8192x16 ![0, 0, 768] p slices_S8x8192x3380_S8x8192x16_0_0_768

set_option maxRecDepth 16384 in
set_option maxHeartbeats 400000 in
theorem gz_apply (b : Fin 8) (t : Fin 8192) (j : Fin 16) :
    (gz p : S8x8192x16.Idx → EReal) (ix3 b t j) = (p : S8x8192x3380.Idx → EReal) (ix3 b t ⟨768 + j.val, by omega⟩) := by
  pointwise [gz]
  try rfl

/-- Piece `gk` of a projection. -/
def gk : FVec Ideal S8x8192x192 .f32 :=
  extractStridedSlice S8x8192x192 ![0, 0, 192] p slices_S8x8192x3380_S8x8192x192_0_0_192

set_option maxRecDepth 16384 in
set_option maxHeartbeats 400000 in
theorem gk_apply (b : Fin 8) (t : Fin 8192) (j : Fin 192) :
    (gk p : S8x8192x192.Idx → EReal) (ix3 b t j) = (p : S8x8192x3380.Idx → EReal) (ix3 b t ⟨192 + j.val, by omega⟩) := by
  pointwise [gk]
  try rfl

/-- Piece `gv` of a projection. -/
def gv : FVec Ideal S8x8192x384 .f32 :=
  extractStridedSlice S8x8192x384 ![0, 0, 384] p slices_S8x8192x3380_S8x8192x384_0_0_384

set_option maxRecDepth 16384 in
set_option maxHeartbeats 400000 in
theorem gv_apply (b : Fin 8) (t : Fin 8192) (j : Fin 384) :
    (gv p : S8x8192x384.Idx → EReal) (ix3 b t j) = (p : S8x8192x3380.Idx → EReal) (ix3 b t ⟨384 + j.val, by omega⟩) := by
  pointwise [gv]
  try rfl

/-- Piece `gg` of a projection. -/
def gg : FVec Ideal S8x8192x384 .f32 :=
  extractStridedSlice S8x8192x384 ![0, 0, 784] p slices_S8x8192x3380_S8x8192x384_0_0_784

set_option maxRecDepth 16384 in
set_option maxHeartbeats 400000 in
theorem gg_apply (b : Fin 8) (t : Fin 8192) (j : Fin 384) :
    (gg p : S8x8192x384.Idx → EReal) (ix3 b t j) = (p : S8x8192x3380.Idx → EReal) (ix3 b t ⟨784 + j.val, by omega⟩) := by
  pointwise [gg]
  try rfl

/-- Piece `dk` of a projection. -/
def dk : FVec Ideal S8x8192x384 .bf16 :=
  truncf .bf16 (extractStridedSlice S8x8192x384 ![0, 0, 1552] p slices_S8x8192x3380_S8x8192x384_0_0_1552) bitsLt_bf16_f32

set_option maxRecDepth 16384 in
set_option maxHeartbeats 400000 in
theorem dk_apply (b : Fin 8) (t : Fin 8192) (j : Fin 384) :
    (dk p : S8x8192x384.Idx → EReal) (ix3 b t j) = (p : S8x8192x3380.Idx → EReal) (ix3 b t ⟨1552 + j.val, by omega⟩) := by
  pointwise [dk]
  try rfl

/-- Piece `kx` of a projection. -/
def kx : FVec Ideal S8x8192x128 .bf16 :=
  truncf .bf16 (shapeCast _ (broadcastInDim S1x8x1x8192x4x32 ![0, 1, 2, 3, 4, 5] bcast_S1x8x1x8192x1x32_S1x8x1x8192x4x32_0_1_2_3_4_5 (shapeCast _ (extractStridedSlice S8x8192x32 ![0, 0, 2832] p slices_S8x8192x3380_S8x8192x32_0_0_2832) shapeCasts_S8x8192x32_S1x8x1x8192x1x32)) shapeCasts_S1x8x1x8192x4x32_S8x8192x128) bitsLt_bf16_f32

set_option maxRecDepth 16384 in
set_option maxHeartbeats 400000 in
theorem kx_apply (b : Fin 8) (t : Fin 8192) (j : Fin 128) :
    (kx p : S8x8192x128.Idx → EReal) (ix3 b t j) = (p : S8x8192x3380.Idx → EReal) (ix3 b t ⟨2832 + j.val % 32, by omega⟩) := by
  pointwise [kx]
  try rfl

/-- Piece `dg` of a projection. -/
def dg : FVec Ideal S8x8192x384 .f32 :=
  extractStridedSlice S8x8192x384 ![0, 0, 2320] p slices_S8x8192x3380_S8x8192x384_0_0_2320

set_option maxRecDepth 16384 in
set_option maxHeartbeats 400000 in
theorem dg_apply (b : Fin 8) (t : Fin 8192) (j : Fin 384) :
    (dg p : S8x8192x384.Idx → EReal) (ix3 b t j) = (p : S8x8192x3380.Idx → EReal) (ix3 b t ⟨2320 + j.val, by omega⟩) := by
  pointwise [dg]
  try rfl

/-- Piece `pu` of a projection. -/
def pu : FVec Ideal S8x8192x256 .f32 :=
  extractStridedSlice S8x8192x256 ![0, 0, 2868] p slices_S8x8192x3380_S8x8192x256_0_0_2868

set_option maxRecDepth 16384 in
set_option maxHeartbeats 400000 in
theorem pu_apply (b : Fin 8) (t : Fin 8192) (j : Fin 256) :
    (pu p : S8x8192x256.Idx → EReal) (ix3 b t j) = (p : S8x8192x3380.Idx → EReal) (ix3 b t ⟨2868 + j.val, by omega⟩) := by
  pointwise [pu]
  try rfl

/-- Piece `pg` of a projection. -/
def pg : FVec Ideal S8x8192x256 .f32 :=
  extractStridedSlice S8x8192x256 ![0, 0, 3124] p slices_S8x8192x3380_S8x8192x256_0_0_3124

set_option maxRecDepth 16384 in
set_option maxHeartbeats 400000 in
theorem pg_apply (b : Fin 8) (t : Fin 8192) (j : Fin 256) :
    (pg p : S8x8192x256.Idx → EReal) (ix3 b t j) = (p : S8x8192x3380.Idx → EReal) (ix3 b t ⟨3124 + j.val, by omega⟩) := by
  pointwise [pg]
  try rfl

/-- Piece `dq` of a projection. -/
def dq : FVec Ideal S8x384x8192 .bf16 :=
  truncf .bf16 (transpose S8x384x8192 [0, 2, 1] (mulf (extractStridedSlice S8x8192x384 ![0, 0, 1168] p slices_S8x8192x3380_S8x8192x384_0_0_1168) (broadcastInDim S8x8192x384 ![] bcast_S_S8x8192x384 (constant S_ .f32 0x3E38AA3B#32))) transposes_S8x8192x384_S8x384x8192_0_2_1) bitsLt_bf16_f32

set_option maxRecDepth 16384 in
set_option maxHeartbeats 400000 in
theorem dq_apply (b : Fin 8) (t : Fin 8192) (j : Fin 384) :
    (dq p : S8x384x8192.Idx → EReal) (ix3 b j t) = (p : S8x8192x3380.Idx → EReal) (ix3 b t ⟨1168 + j.val, by omega⟩) * qScale := by
  pointwise [dq]
  try rfl

/-- Piece `dv` of a projection. -/
def dv : FVec Ideal S8x384x8192 .bf16 :=
  truncf .bf16 (transpose S8x384x8192 [0, 2, 1] (extractStridedSlice S8x8192x384 ![0, 0, 1936] p slices_S8x8192x3380_S8x8192x384_0_0_1936) transposes_S8x8192x384_S8x384x8192_0_2_1) bitsLt_bf16_f32

set_option maxRecDepth 16384 in
set_option maxHeartbeats 400000 in
theorem dv_apply (b : Fin 8) (t : Fin 8192) (j : Fin 384) :
    (dv p : S8x384x8192.Idx → EReal) (ix3 b j t) = (p : S8x8192x3380.Idx → EReal) (ix3 b t ⟨1936 + j.val, by omega⟩) := by
  pointwise [dv]
  try rfl

/-- Piece `qi` of a projection. -/
def qi : FVec Ideal S8x128x8192 .bf16 :=
  truncf .bf16 (transpose S8x128x8192 [0, 2, 1] (extractStridedSlice S8x8192x128 ![0, 0, 2704] p slices_S8x8192x3380_S8x8192x128_0_0_2704) transposes_S8x8192x128_S8x128x8192_0_2_1) bitsLt_bf16_f32

set_option maxRecDepth 16384 in
set_option maxHeartbeats 400000 in
theorem qi_apply (b : Fin 8) (t : Fin 8192) (j : Fin 128) :
    (qi p : S8x128x8192.Idx → EReal) (ix3 b j t) = (p : S8x8192x3380.Idx → EReal) (ix3 b t ⟨2704 + j.val, by omega⟩) := by
  pointwise [qi]
  try rfl

/-- Piece `wi` of a projection. -/
def wi : FVec Ideal S8x4x8192 .f32 :=
  transpose S8x4x8192 [0, 2, 1] (extractStridedSlice S8x8192x4 ![0, 0, 2864] p slices_S8x8192x3380_S8x8192x4_0_0_2864) transposes_S8x8192x4_S8x4x8192_0_2_1

set_option maxRecDepth 16384 in
set_option maxHeartbeats 400000 in
theorem wi_apply (b : Fin 8) (t : Fin 8192) (j : Fin 4) :
    (wi p : S8x4x8192.Idx → EReal) (ix3 b j t) = (p : S8x8192x3380.Idx → EReal) (ix3 b t ⟨2864 + j.val, by omega⟩) := by
  pointwise [wi]
  try rfl

end Cert.Hand.InProjRef

end
-- ==== Proof.InProjValue.lean ====
module

public import proofs.«01_k».proof.Defs
public import proofs.«01_k».proof.Proof.InProjArr
public import proofs.«01_k».proof.Proof.InProjRef
public import Idealize.ShloMosaic.Lib.StableHlo.ReadAt

@[expose] public section

noncomputable section

/-! The projection's results are the reference's. -/

namespace Cert.Hand.InProj

open Cert.InProjIdeal Cert.InProjIdeal.Gen Idealize.ShloMosaic Idealize.ShloMosaic.TcCoe Idealize.SL.Sem

variable (m : (ℓ : Loc nD τ sig) → Buf (Elt Ideal) ℓ)

/-- The weight argument, entry by entry. -/
def wRow (c : Dev nD) (k : Fin 1024) (j : Fin 3380) : EReal := w m c (ix2 k j)
/-- Lane `j` of the projection of row `t` of sequence `b`. -/
def P (c : Dev nD) (b : Fin 8) (t : Fin 8192) (j : Fin 3380) : EReal := projRow (xRow m c b t) (gRow m c) (wRow m c) j

theorem sum_eq_P (c : Dev nD) (b : Fin 8) (t : Fin 8192) (j : Fin 3380) (f : Fin 1024 → EReal) (hf : ∀ k, f k = wRow m c k j) :
    ∑ k, h m c b t k * f k = P m c b t j :=
  Finset.sum_congr rfl fun k _ => congrArg (h m c b t k * ·) (hf k)
theorem wn_eq (c : Dev nD) (k : Fin 1024) {i i' : Fin 2944} {j : Fin 3380} (e : i'.val = i.val) (h : wn m c (ix2 k i') = w m c (ix2 k j)) :
    wn m c (ix2 k i) = wRow m c k j := by
  obtain rfl : i' = i := Fin.ext e
  exact h
theorem wt_eq (c : Dev nD) (k : Fin 1024) {i i' : Fin 904} {j : Fin 3380} (e : i'.val = i.val) (h : wt m c (ix2 i' k) = w m c (ix2 k j)) :
    wt m c (ix2 i k) = wRow m c k j := by
  obtain rfl : i' = i := Fin.ext e
  exact h
theorem P_congr (c : Dev nD) (b : Fin 8) (t : Fin 8192) {i j : Fin 3380} (h : i.val = j.val) : P m c b t i = P m c b t j := by
  obtain rfl : i = j := Fin.ext h
  rfl

/-- What is at the arrays' places when the region ends. -/
abbrev endV (c : Dev nD) : Valuation τ sig (Elt Ideal) :=
  Pipeline.withArrays (cfgs 0).spec c (V0 m c) (fun w => (dats m 0 c).arrAt w (cfgs 0).N)

theorem endV_arr (c : Dev nD) (w : Fin 17) : endV m c (Proc.devRef .tc (Pipeline.arrRef spec0 w)) = (dats m 0 c).arrAt w cfg0.N :=
  Pipeline.withArrays_arr spec0 (by decide : Function.Injective (Pipeline.arrRef spec0)) c (V0 m c) _ w

set_option maxRecDepth 16384 in
set_option maxHeartbeats 400000 in
theorem res_gq (c : Dev nD) (b : Fin 8) (t : Fin 8192) (j : Fin 192) :
    (Pipeline.afterTail₀ cfgs (dats m) 0 (V0 m) [hostOps1] c main_v41 : S8x8192x192.Idx → EReal) (ix3 b t j) = P m c b t ⟨0 + j.val, by omega⟩ := by
  unfold Pipeline.afterTail₀
  after_reads_at
  refine (congrFun (endV_arr m c 4) _).trans ?_
  refine (arr4 m c b t _).trans (sum_eq_P m c b t _ _ fun k => ?_)
  exact wn_eq m c k (by first | omega | (simp only [] <;> omega)) ((wn_gq m c k ⟨j.val / 48, by omega⟩ ⟨j.val % 48, Nat.mod_lt _ (by decide)⟩).trans (w_congr m c k _ _ (by show _ = _; simp only []; omega)))

/-- Result `gq` of the kernel is the reference's. -/
theorem eq_gq (c : Dev nD) : (InProjRef.gq (InProjRef.refP (m ((c : Thread nD τ).loc main_arg0)) (m ((c : Thread nD τ).loc main_arg1)) (m ((c : Thread nD τ).loc main_arg2))) : S8x8192x192.Idx → EReal)
    = (Pipeline.afterTail₀ cfgs (dats m) 0 (V0 m) [hostOps1] c main_v41 : S8x8192x192.Idx → EReal) :=
  funext fun i => by
    rw [eq_ix3 i]
    exact ((InProjRef.gq_apply _ (i 0) (i 1) (i 2)).trans (InProjRef.refP_apply _ _ _ _ _ _)).trans (res_gq m c (i 0) (i 1) (i 2)).symm

set_option maxRecDepth 16384 in
set_option maxHeartbeats 400000 in
theorem res_gz (c : Dev nD) (b : Fin 8) (t : Fin 8192) (j : Fin 16) :
    (Pipeline.afterTail₀ cfgs (dats m) 0 (V0 m) [hostOps1] c main_v42 : S8x8192x16.Idx → EReal) (ix3 b t j) = P m c b t ⟨768 + j.val, by omega⟩ := by
  unfold Pipeline.afterTail₀
  after_reads_at
  refine (congrFun (endV_arr m c 4) _).trans ?_
  refine (arr4 m c b t _).trans (sum_eq_P m c b t _ _ fun k => ?_)
  exact wn_eq m c k (by first | omega | (simp only [] <;> omega)) (wn_gz m c k j)

/-- Result `gz` of the kernel is the reference's. -/
theorem eq_gz (c : Dev nD) : (InProjRef.gz (InProjRef.refP (m ((c : Thread nD τ).loc main_arg0)) (m ((c : Thread nD τ).loc main_arg1)) (m ((c : Thread nD τ).loc main_arg2))) : S8x8192x16.Idx → EReal)
    = (Pipeline.afterTail₀ cfgs (dats m) 0 (V0 m) [hostOps1] c main_v42 : S8x8192x16.Idx → EReal) :=
  funext fun i => by
    rw [eq_ix3 i]
    exact ((InProjRef.gz_apply _ (i 0) (i 1) (i 2)).trans (InProjRef.refP_apply _ _ _ _ _ _)).trans (res_gz m c (i 0) (i 1) (i 2)).symm

set_option maxRecDepth 16384 in
set_option maxHeartbeats 400000 in
theorem res_gk (c : Dev nD) (b : Fin 8) (t : Fin 8192) (j : Fin 192) :
    (Pipeline.afterTail₀ cfgs (dats m) 0 (V0 m) [hostOps1] c main_v45 : S8x8192x192.Idx → EReal) (ix3 b t j) = P m c b t ⟨192 + j.val, by omega⟩ := by
  unfold Pipeline.afterTail₀
  after_reads_at
  refine (congrFun (endV_arr m c 5) _).trans ?_
  refine (arr5 m c b t _).trans (sum_eq_P m c b t _ _ fun k => ?_)
  exact wn_eq m c k (by first | omega | (simp only [] <;> omega)) ((wn_gk m c k ⟨j.val / 48, by omega⟩ ⟨j.val % 48, Nat.mod_lt _ (by decide)⟩).trans (w_congr m c k _ _ (by show _ = _; simp only []; omega)))

/-- Result `gk` of the kernel is the reference's. -/
theorem eq_gk (c : Dev nD) : (InProjRef.gk (InProjRef.refP (m ((c : Thread nD τ).loc main_arg0)) (m ((c : Thread nD τ).loc main_arg1)) (m ((c : Thread nD τ).loc main_arg2))) : S8x8192x192.Idx → EReal)
    = (Pipeline.afterTail₀ cfgs (dats m) 0 (V0 m) [hostOps1] c main_v45 : S8x8192x192.Idx → EReal) :=
  funext fun i => by
    rw [eq_ix3 i]
    exact ((InProjRef.gk_apply _ (i 0) (i 1) (i 2)).trans (InProjRef.refP_apply _ _ _ _ _ _)).trans (res_gk m c (i 0) (i 1) (i 2)).symm

set_option maxRecDepth 16384 in
set_option maxHeartbeats 400000 in
theorem res_gv (c : Dev nD) (b : Fin 8) (t : Fin 8192) (j : Fin 384) :
    (Pipeline.afterTail₀ cfgs (dats m) 0 (V0 m) [hostOps1] c main_v48 : S8x8192x384.Idx → EReal) (ix3 b t j) = P m c b t ⟨384 + j.val, by omega⟩ := by
  unfold Pipeline.afterTail₀
  after_reads_at
  refine (congrFun (endV_arr m c 6) _).trans ?_
  refine (arr6 m c b t _).trans (sum_eq_P m c b t _ _ fun k => ?_)
  exact wn_eq m c k (by first | omega | (simp only [] <;> omega)) ((wn_gv m c k ⟨j.val / 96, by omega⟩ ⟨j.val % 96, Nat.mod_lt _ (by decide)⟩).trans (w_congr m c k _ _ (by show _ = _; simp only []; omega)))

/-- Result `gv` of the kernel is the reference's. -/
theorem eq_gv (c : Dev nD) : (InProjRef.gv (InProjRef.refP (m ((c : Thread nD τ).loc main_arg0)) (m ((c : Thread nD τ).loc main_arg1)) (m ((c : Thread nD τ).loc main_arg2))) : S8x8192x384.Idx → EReal)
    = (Pipeline.afterTail₀ cfgs (dats m) 0 (V0 m) [hostOps1] c main_v48 : S8x8192x384.Idx → EReal) :=
  funext fun i => by
    rw [eq_ix3 i]
    exact ((InProjRef.gv_apply _ (i 0) (i 1) (i 2)).trans (InProjRef.refP_apply _ _ _ _ _ _)).trans (res_gv m c (i 0) (i 1) (i 2)).symm

set_option maxRecDepth 16384 in
set_option maxHeartbeats 400000 in
theorem res_gg (c : Dev nD) (b : Fin 8) (t : Fin 8192) (j : Fin 384) :
    (Pipeline.afterTail₀ cfgs (dats m) 0 (V0 m) [hostOps1] c main_v51 : S8x8192x384.Idx → EReal) (ix3 b t j) = P m c b t ⟨784 + j.val, by omega⟩ := by
  unfold Pipeline.afterTail₀
  after_reads_at
  refine (congrFun (endV_arr m c 7) _).trans ?_
  refine (arr7 m c b t _).trans (sum_eq_P m c b t _ _ fun k => ?_)
  exact wn_eq m c k (by first | omega | (simp only [] <;> omega)) ((wn_gg m c k ⟨j.val / 96, by omega⟩ ⟨j.val % 96, Nat.mod_lt _ (by decide)⟩).trans (w_congr m c k _ _ (by show _ = _; simp only []; omega)))

/-- Result `gg` of the kernel is the reference's. -/
theorem eq_gg (c : Dev nD) : (InProjRef.gg (InProjRef.refP (m ((c : Thread nD τ).loc main_arg0)) (m ((c : Thread nD τ).loc main_arg1)) (m ((c : Thread nD τ).loc main_arg2))) : S8x8192x384.Idx → EReal)
    = (Pipeline.afterTail₀ cfgs (dats m) 0 (V0 m) [hostOps1] c main_v51 : S8x8192x384.Idx → EReal) :=
  funext fun i => by
    rw [eq_ix3 i]
    exact ((InProjRef.gg_apply _ (i 0) (i 1) (i 2)).trans (InProjRef.refP_apply _ _ _ _ _ _)).trans (res_gg m c (i 0) (i 1) (i 2)).symm

set_option maxRecDepth 16384 in
set_option maxHeartbeats 400000 in
theorem res_dk (c : Dev nD) (b : Fin 8) (t : Fin 8192) (j : Fin 384) :
    ((dats m 0 c).arrAt 8 cfg0.N : S8x8192x384.Idx → EReal) (ix3 b t j) = P m c b t ⟨1552 + j.val, by omega⟩ := by
  refine (arr8 m c b t _).trans ?_
  skip
  refine sum_eq_P m c b t _ _ fun k => ?_
  exact wn_eq m c k (by simp only []; try omega) (wn_dk m c k j)

/-- Result `dk` of the kernel is the reference's. -/
theorem eq_dk (c : Dev nD) : (InProjRef.dk (InProjRef.refP (m ((c : Thread nD τ).loc main_arg0)) (m ((c : Thread nD τ).loc main_arg1)) (m ((c : Thread nD τ).loc main_arg2))) : S8x8192x384.Idx → EReal)
    = ((dats m 0 c).arrAt 8 cfg0.N : S8x8192x384.Idx → EReal) :=
  funext fun i => by
    rw [eq_ix3 i]
    exact ((InProjRef.dk_apply _ (i 0) (i 1) (i 2)).trans (InProjRef.refP_apply _ _ _ _ _ _)).trans (res_dk m c (i 0) (i 1) (i 2)).symm

set_option maxRecDepth 16384 in
set_option maxHeartbeats 400000 in
theorem res_kx (c : Dev nD) (b : Fin 8) (t : Fin 8192) (j : Fin 128) :
    ((dats m 0 c).arrAt 9 cfg0.N : S8x8192x128.Idx → EReal) (ix3 b t j) = P m c b t ⟨2832 + j.val % 32, by omega⟩ := by
  refine (arr9 m c b t _).trans ?_
  skip
  refine sum_eq_P m c b t _ _ fun k => ?_
  exact wn_eq m c k (by simp only []; try omega) (wn_kx m c k j)

/-- Result `kx` of the kernel is the reference's. -/
theorem eq_kx (c : Dev nD) : (InProjRef.kx (InProjRef.refP (m ((c : Thread nD τ).loc main_arg0)) (m ((c : Thread nD τ).loc main_arg1)) (m ((c : Thread nD τ).loc main_arg2))) : S8x8192x128.Idx → EReal)
    = ((dats m 0 c).arrAt 9 cfg0.N : S8x8192x128.Idx → EReal) :=
  funext fun i => by
    rw [eq_ix3 i]
    exact ((InProjRef.kx_apply _ (i 0) (i 1) (i 2)).trans (InProjRef.refP_apply _ _ _ _ _ _)).trans (res_kx m c (i 0) (i 1) (i 2)).symm

set_option maxRecDepth 16384 in
set_option maxHeartbeats 400000 in
theorem res_dg (c : Dev nD) (b : Fin 8) (t : Fin 8192) (j : Fin 384) :
    ((dats m 0 c).arrAt 10 cfg0.N : S8x8192x384.Idx → EReal) (ix3 b t j) = P m c b t ⟨2320 + j.val, by omega⟩ := by
  refine (arr10 m c b t _).trans ?_
  skip
  refine sum_eq_P m c b t _ _ fun k => ?_
  exact wn_eq m c k (by simp only []; try omega) (wn_dg m c k j)

/-- Result `dg` of the kernel is the reference's. -/
theorem eq_dg (c : Dev nD) : (InProjRef.dg (InProjRef.refP (m ((c : Thread nD τ).loc main_arg0)) (m ((c : Thread nD τ).loc main_arg1)) (m ((c : Thread nD τ).loc main_arg2))) : S8x8192x384.Idx → EReal)
    = ((dats m 0 c).arrAt 10 cfg0.N : S8x8192x384.Idx → EReal) :=
  funext fun i => by
    rw [eq_ix3 i]
    exact ((InProjRef.dg_apply _ (i 0) (i 1) (i 2)).trans (InProjRef.refP_apply _ _ _ _ _ _)).trans (res_dg m c (i 0) (i 1) (i 2)).symm

set_option maxRecDepth 16384 in
set_option maxHeartbeats 400000 in
theorem res_pu (c : Dev nD) (b : Fin 8) (t : Fin 8192) (j : Fin 256) :
    ((dats m 0 c).arrAt 11 cfg0.N : S8x8192x256.Idx → EReal) (ix3 b t j) = P m c b t ⟨2868 + j.val, by omega⟩ := by
  refine (arr11 m c b t _).trans ?_
  skip
  refine sum_eq_P m c b t _ _ fun k => ?_
  exact wn_eq m c k (by simp only []; try omega) (wn_pu m c k j)

/-- Result `pu` of the kernel is the reference's. -/
theorem eq_pu (c : Dev nD) : (InProjRef.pu (InProjRef.refP (m ((c : Thread nD τ).loc main_arg0)) (m ((c : Thread nD τ).loc main_arg1)) (m ((c : Thread nD τ).loc main_arg2))) : S8x8192x256.Idx → EReal)
    = ((dats m 0 c).arrAt 11 cfg0.N : S8x8192x256.Idx → EReal) :=
  funext fun i => by
    rw [eq_ix3 i]
    exact ((InProjRef.pu_apply _ (i 0) (i 1) (i 2)).trans (InProjRef.refP_apply _ _ _ _ _ _)).trans (res_pu m c (i 0) (i 1) (i 2)).symm

set_option maxRecDepth 16384 in
set_option maxHeartbeats 400000 in
theorem res_pg (c : Dev nD) (b : Fin 8) (t : Fin 8192) (j : Fin 256) :
    ((dats m 0 c).arrAt 12 cfg0.N : S8x8192x256.Idx → EReal) (ix3 b t j) = P m c b t ⟨3124 + j.val, by omega⟩ := by
  refine (arr12 m c b t _).trans ?_
  skip
  refine sum_eq_P m c b t _ _ fun k => ?_
  exact wn_eq m c k (by simp only []; try omega) (wn_pg m c k j)

/-- Result `pg` of the kernel is the reference's. -/
theorem eq_pg (c : Dev nD) : (InProjRef.pg (InProjRef.refP (m ((c : Thread nD τ).loc main_arg0)) (m ((c : Thread nD τ).loc main_arg1)) (m ((c : Thread nD τ).loc main_arg2))) : S8x8192x256.Idx → EReal)
    = ((dats m 0 c).arrAt 12 cfg0.N : S8x8192x256.Idx → EReal) :=
  funext fun i => by
    rw [eq_ix3 i]
    exact ((InProjRef.pg_apply _ (i 0) (i 1) (i 2)).trans (InProjRef.refP_apply _ _ _ _ _ _)).trans (res_pg m c (i 0) (i 1) (i 2)).symm

set_option maxRecDepth 16384 in
set_option maxHeartbeats 400000 in
theorem res_dq (c : Dev nD) (b : Fin 8) (t : Fin 8192) (j : Fin 384) :
    ((dats m 0 c).arrAt 13 cfg0.N : S8x384x8192.Idx → EReal) (ix3 b j t) = P m c b t ⟨1168 + j.val, by omega⟩ * qScale := by
  refine (arr13 m c b _ t).trans ?_
  refine congrArg (· * qScale) ?_
  refine sum_eq_P m c b t _ _ fun k => ?_
  exact wt_eq m c k (by simp only []; try omega) (wt_dq m c k j)

/-- Result `dq` of the kernel is the reference's. -/
theorem eq_dq (c : Dev nD) : (InProjRef.dq (InProjRef.refP (m ((c : Thread nD τ).loc main_arg0)) (m ((c : Thread nD τ).loc main_arg1)) (m ((c : Thread nD τ).loc main_arg2))) : S8x384x8192.Idx → EReal)
    = ((dats m 0 c).arrAt 13 cfg0.N : S8x384x8192.Idx → EReal) :=
  funext fun i => by
    rw [eq_ix3 i]
    exact ((InProjRef.dq_apply _ (i 0) (i 2) (i 1)).trans (congrArg (· * qScale) (InProjRef.refP_apply _ _ _ _ _ _))).trans (res_dq m c (i 0) (i 2) (i 1)).symm

set_option maxRecDepth 16384 in
set_option maxHeartbeats 400000 in
theorem res_dv (c : Dev nD) (b : Fin 8) (t : Fin 8192) (j : Fin 384) :
    ((dats m 0 c).arrAt 14 cfg0.N : S8x384x8192.Idx → EReal) (ix3 b j t) = P m c b t ⟨1936 + j.val, by omega⟩ := by
  refine (arr14 m c b _ t).trans ?_
  skip
  refine sum_eq_P m c b t _ _ fun k => ?_
  exact wt_eq m c k (by simp only []; try omega) (wt_dv m c k j)

/-- Result `dv` of the kernel is the reference's. -/
theorem eq_dv (c : Dev nD) : (InProjRef.dv (InProjRef.refP (m ((c : Thread nD τ).loc main_arg0)) (m ((c : Thread nD τ).loc main_arg1)) (m ((c : Thread nD τ).loc main_arg2))) : S8x384x8192.Idx → EReal)
    = ((dats m 0 c).arrAt 14 cfg0.N : S8x384x8192.Idx → EReal) :=
  funext fun i => by
    rw [eq_ix3 i]
    exact ((InProjRef.dv_apply _ (i 0) (i 2) (i 1)).trans (InProjRef.refP_apply _ _ _ _ _ _)).trans (res_dv m c (i 0) (i 2) (i 1)).symm

set_option maxRecDepth 16384 in
set_option maxHeartbeats 400000 in
theorem res_qi (c : Dev nD) (b : Fin 8) (t : Fin 8192) (j : Fin 128) :
    ((dats m 0 c).arrAt 15 cfg0.N : S8x128x8192.Idx → EReal) (ix3 b j t) = P m c b t ⟨2704 + j.val, by omega⟩ := by
  refine (arr15 m c b _ t).trans ?_
  skip
  refine sum_eq_P m c b t _ _ fun k => ?_
  exact wt_eq m c k (by simp only []; try omega) (wt_qi m c k j)

/-- Result `qi` of the kernel is the reference's. -/
theorem eq_qi (c : Dev nD) : (InProjRef.qi (InProjRef.refP (m ((c : Thread nD τ).loc main_arg0)) (m ((c : Thread nD τ).loc main_arg1)) (m ((c : Thread nD τ).loc main_arg2))) : S8x128x8192.Idx → EReal)
    = ((dats m 0 c).arrAt 15 cfg0.N : S8x128x8192.Idx → EReal) :=
  funext fun i => by
    rw [eq_ix3 i]
    exact ((InProjRef.qi_apply _ (i 0) (i 2) (i 1)).trans (InProjRef.refP_apply _ _ _ _ _ _)).trans (res_qi m c (i 0) (i 2) (i 1)).symm

set_option maxRecDepth 16384 in
set_option maxHeartbeats 400000 in
theorem res_wi (c : Dev nD) (b : Fin 8) (t : Fin 8192) (j : Fin 4) :
    (Pipeline.afterTail₀ cfgs (dats m) 0 (V0 m) [hostOps1] c main_v52 : S8x4x8192.Idx → EReal) (ix3 b j t) = P m c b t ⟨2864 + j.val, by omega⟩ := by
  unfold Pipeline.afterTail₀
  after_reads_at
  refine (congrFun (endV_arr m c 16) _).trans ?_
  refine (arr16 m c b _ t).trans (sum_eq_P m c b t _ _ fun k => ?_)
  exact wt_eq m c k (by first | omega | (simp only [] <;> omega)) (wt_wi m c k j)

/-- Result `wi` of the kernel is the reference's. -/
theorem eq_wi (c : Dev nD) : (InProjRef.wi (InProjRef.refP (m ((c : Thread nD τ).loc main_arg0)) (m ((c : Thread nD τ).loc main_arg1)) (m ((c : Thread nD τ).loc main_arg2))) : S8x4x8192.Idx → EReal)
    = (Pipeline.afterTail₀ cfgs (dats m) 0 (V0 m) [hostOps1] c main_v52 : S8x4x8192.Idx → EReal) :=
  funext fun i => by
    rw [eq_ix3 i]
    exact ((InProjRef.wi_apply _ (i 0) (i 2) (i 1)).trans (InProjRef.refP_apply _ _ _ _ _ _)).trans (res_wi m c (i 0) (i 2) (i 1)).symm

end Cert.Hand.InProj

open Cert.InProjIdeal Cert.InProjIdeal.Gen Idealize.ShloMosaic Idealize.ShloMosaic.TcCoe Idealize.SL.Sem in
set_option maxHeartbeats 1600000 in
/-- The claim over the extended reals: both run, with equal results. -/
theorem Cert.Hand.inProj_algebraic : Cert.algebraic_InProjIdeal_InProjRefIdeal (hInProjIdeal := Cert.InProjIdeal.Gen.facts) (hInProjRefIdeal := Cert.InProjRefIdeal.Gen.facts) := by
  intro m g m' g' _ hm
  refine ⟨fun c => Pipeline.afterTail₀ cfgs (dats m) 0 (V0 m) [hostOps1] c main_v41,
    fun c => Pipeline.afterTail₀ cfgs (dats m) 0 (V0 m) [hostOps1] c main_v42,
    fun c => Pipeline.afterTail₀ cfgs (dats m) 0 (V0 m) [hostOps1] c main_v45,
    fun c => Pipeline.afterTail₀ cfgs (dats m) 0 (V0 m) [hostOps1] c main_v48,
    fun c => Pipeline.afterTail₀ cfgs (dats m) 0 (V0 m) [hostOps1] c main_v51,
    fun c => (dats m 0 c).arrAt 8 cfg0.N,
    fun c => (dats m 0 c).arrAt 9 cfg0.N,
    fun c => (dats m 0 c).arrAt 10 cfg0.N,
    fun c => (dats m 0 c).arrAt 11 cfg0.N,
    fun c => (dats m 0 c).arrAt 12 cfg0.N,
    fun c => (dats m 0 c).arrAt 13 cfg0.N,
    fun c => (dats m 0 c).arrAt 14 cfg0.N,
    fun c => (dats m 0 c).arrAt 15 cfg0.N,
    fun c => Pipeline.afterTail₀ cfgs (dats m) 0 (V0 m) [hostOps1] c main_v52,
    (θ_run Cert.InProjIdeal.defs _ _).mono (fun r h c => ⟨(h c).2 main_v41 (by decide),
      (h c).2 main_v42 (by decide),
      (h c).2 main_v45 (by decide),
      (h c).2 main_v48 (by decide),
      (h c).2 main_v51 (by decide),
      (h c).1 8,
      (h c).1 9,
      (h c).1 10,
      (h c).1 11,
      (h c).1 12,
      (h c).1 13,
      (h c).1 14,
      (h c).1 15,
      (h c).2 main_v52 (by decide),
      ?_, ?_, ?_⟩) (Cert.InProjIdeal.Gen.run_main m g),
    (θ_run Cert.InProjRefIdeal.defs _ _).mono (fun r h c => ?_) (Cert.InProjRefIdeal.Value.run m' g')⟩
  · exact ((h c).1 0).trans ((dats m 0 c).arrAt_in 0 rfl _)
  · exact ((h c).2 main_arg1 (by decide)).trans (W_main_arg1 m (dats m) c)
  · exact ((h c).2 main_arg2 (by decide)).trans (W_main_arg2 m (dats m) c)
  · obtain ⟨a0, a1, a2⟩ := hm c
    have hc := h c
    rw [a0, a1, a2] at hc ⊢
    obtain ⟨q0, q1, q2, q3, q4, q5, q6, q7, q8, q9, q10, q11, q12, q13, r0, r1, r2⟩ := hc
    exact ⟨q0.trans (Cert.Hand.InProj.eq_gq m c), q1.trans (Cert.Hand.InProj.eq_gz m c), q2.trans (Cert.Hand.InProj.eq_gk m c), q3.trans (Cert.Hand.InProj.eq_gv m c), q4.trans (Cert.Hand.InProj.eq_gg m c), q5.trans (Cert.Hand.InProj.eq_dk m c), q6.trans (Cert.Hand.InProj.eq_kx m c), q7.trans (Cert.Hand.InProj.eq_dg m c), q8.trans (Cert.Hand.InProj.eq_pu m c), q9.trans (Cert.Hand.InProj.eq_pg m c), q10.trans (Cert.Hand.InProj.eq_dq m c), q11.trans (Cert.Hand.InProj.eq_dv m c), q12.trans (Cert.Hand.InProj.eq_qi m c), q13.trans (Cert.Hand.InProj.eq_wi m c), r0, r1, r2⟩

end
-- ==== Proof.PoolSpec.lean ====
module

public import proofs.«01_k».proof.Proof.ProjSpec
public import Idealize.ShloMosaic.Lib.Pointwise

@[expose] public section

noncomputable section

/-! What the pooling and the output projection compute, written over plain functions of the row and the lane, and the window sums as the
two programs spell them. -/

namespace Cert.Hand

open Idealize.ShloMosaic

/-- The sum of the `w` entries that end at row `t`, those before the first row left out. -/
def windowSum (w : Nat) (u : Fin 8192 → EReal) (t : Fin 8192) : EReal :=
  ∑ j ∈ Finset.range w, if j ≤ t.val then u ⟨t.val - j, by omega⟩ else 0

/-- The windows, group by group. -/
def windowOf (g : Nat) : Nat := if g = 0 then 2 else if g = 1 then 4 else if g = 2 then 8 else 16

/-- The number of rows in a window of `w` rows that ends at row `t`. -/
def windowLen (w : Nat) (t : Fin 8192) : EReal :=
  FloatOps.sitofp (F := Ideal) FTy.f32 (IntOp.minsi (BitVec.ofNat 32 t.val + 1#32) (BitVec.ofNat 32 w))

/-- The windows' means less the entry itself. -/
def pooled (w : Nat) (u : Fin 8192 → EReal) (t : Fin 8192) : EReal :=
  Ideal.div (windowSum w u t) (windowLen w t) - u t

/-- Adding a sequence shifted by 1, by 2, by 4 and by 8 sums windows of 2, 4, 8 and 16. -/
theorem double_2 (f : ℕ → EReal) (n : ℕ) : f n + f (n - 1) = ∑ j ∈ Finset.range 2, f (n - j) := by
  simp [Finset.sum_range_succ]

theorem double_4 (f : ℕ → EReal) (n : ℕ) :
    (∑ j ∈ Finset.range 2, f (n - j)) + (∑ j ∈ Finset.range 2, f (n - 2 - j)) = ∑ j ∈ Finset.range 4, f (n - j) := by
  rw [show (4 : ℕ) = 2 + 2 from rfl, Finset.sum_range_add]
  simp only [Nat.sub_sub]

theorem double_8 (f : ℕ → EReal) (n : ℕ) :
    (∑ j ∈ Finset.range 4, f (n - j)) + (∑ j ∈ Finset.range 4, f (n - 4 - j)) = ∑ j ∈ Finset.range 8, f (n - j) := by
  rw [show (8 : ℕ) = 4 + 4 from rfl, Finset.sum_range_add]
  simp only [Nat.sub_sub]

theorem double_16 (f : ℕ → EReal) (n : ℕ) :
    (∑ j ∈ Finset.range 8, f (n - j)) + (∑ j ∈ Finset.range 8, f (n - 8 - j)) = ∑ j ∈ Finset.range 16, f (n - j) := by
  rw [show (16 : ℕ) = 8 + 8 from rfl, Finset.sum_range_add]
  simp only [Nat.sub_sub]

theorem foldl_add_eq {ι : Type} (f : ι → EReal) (l : List ι) : ∀ v : EReal, l.foldl (fun r n => r + f n) v = v + (l.map f).sum := by
  induction l with
  | nil => intro v; simp
  | cons a l ih => intro v; rw [List.foldl_cons, ih, List.map_cons, List.sum_cons, add_assoc]

theorem numel_win (w : Nat) : (⟨3, ![1, w, 1]⟩ : Shape).numel = w := by
  show (∏ a : Fin 3, (![1, w, 1] : Fin 3 → Nat) a) = w
  simp [Fin.prod_univ_succ]

/-- The host's window sum along the rows. -/
theorem reduceWindow_rows (w wm : Nat) (hw : wm + 1 = w) (x : (⟨3, ![8, 8192, 64]⟩ : Shape).Idx → EReal) (u : Shape) (init : u.Idx → EReal)
    (hu : 0 < u.numel) (hi : init (Shape.Idx.first hu) = 0)
    (h : (⟨3, ![8, 8192, 64]⟩ : Shape).ReduceWindows (![1, w, 1] : Fin 3 → Nat) ![1, 1, 1] ![0, wm, 0] ![0, 0, 0] (⟨3, ![8, 8192, 64]⟩ : Shape))
    (b : Fin 8) (t : Fin 8192) (l : Fin 64) :
    (Host.reduceWindowAdd (F := Ideal) (φ := FTy.f32) ![1, w, 1] ![1, 1, 1] ![0, wm, 0] ![0, 0, 0] x init h hu : (⟨3, ![8, 8192, 64]⟩ : Shape).Idx → EReal) (ix3 b t l)
      = windowSum w (fun t => x (ix3 b t l)) t := by
  subst hw
  show Ideal.hostReduceWindowAdd _ _ _ _ h x (init (Shape.Idx.first hu)) (ix3 b t l) = _
  rw [hi]
  unfold Ideal.hostReduceWindowAdd Host.reduceWindow
  refine (foldl_add_eq _ _ _).trans ?_
  rw [zero_add, ← Fin.sum_univ_def]
  have hn : (⟨3, ![1, wm + 1, 1]⟩ : Shape).numel = wm + 1 := numel_win _
  have e : ∀ n : Fin (⟨3, ![1, wm + 1, 1]⟩ : Shape).numel,
      (((⟨3, ![1, wm + 1, 1]⟩ : Shape).rowMajor.symm n) 0).val = 0 ∧ (((⟨3, ![1, wm + 1, 1]⟩ : Shape).rowMajor.symm n) 1).val = n.val
        ∧ (((⟨3, ![1, wm + 1, 1]⟩ : Shape).rowMajor.symm n) 2).val = 0 := fun n => by
    have h0 : (((⟨3, ![1, wm + 1, 1]⟩ : Shape).rowMajor.symm n) 0).val < 1 := (((⟨3, ![1, wm + 1, 1]⟩ : Shape).rowMajor.symm n) 0).isLt
    have h2 : (((⟨3, ![1, wm + 1, 1]⟩ : Shape).rowMajor.symm n) 2).val < 1 := (((⟨3, ![1, wm + 1, 1]⟩ : Shape).rowMajor.symm n) 2).isLt
    have hv := congrArg Fin.val ((⟨3, ![1, wm + 1, 1]⟩ : Shape).rowMajor.apply_symm_apply n)
    rw [Shape.rowMajor_val_three] at hv
    have hv : ((((⟨3, ![1, wm + 1, 1]⟩ : Shape).rowMajor.symm n) 0).val * (wm + 1) + (((⟨3, ![1, wm + 1, 1]⟩ : Shape).rowMajor.symm n) 1).val) * 1
      + (((⟨3, ![1, wm + 1, 1]⟩ : Shape).rowMajor.symm n) 2).val = n.val := hv
    have z0 : (((⟨3, ![1, wm + 1, 1]⟩ : Shape).rowMajor.symm n) 0).val = 0 := by omega
    rw [z0] at hv
    omega
  have hb := b.isLt
  have ht := t.isLt
  have hl := l.isLt
  unfold windowSum
  rw [← Finset.sum_range_reflect]
  refine Eq.trans (Finset.sum_congr rfl fun n _ => ?_) ((Fin.sum_univ_eq_sum_range (fun j => if wm + 1 - 1 - j ≤ t.val
    then (fun t => x (ix3 b t l)) ⟨t.val - (wm + 1 - 1 - j), by omega⟩ else 0) _).trans (by rw [hn]))
  obtain ⟨e0, e1, e2⟩ := e n
  have hnl : n.val < wm + 1 := lt_of_lt_of_eq n.isLt hn
  dsimp only
  split
  · next hin =>
    have h1 := (hin 1).1
    change wm ≤ t.val * 1 + (((⟨3, ![1, wm + 1, 1]⟩ : Shape).rowMajor.symm n) 1).val at h1
    rw [e1] at h1
    rw [if_pos (by omega)]
    refine congrArg x (funext fun a => Fin.ext ?_)
    match a with
    | ⟨0, _⟩ => show b.val * 1 + (((⟨3, ![1, wm + 1, 1]⟩ : Shape).rowMajor.symm n) 0).val - 0 = b.val; rw [e0]; omega
    | ⟨1, _⟩ => show t.val * 1 + (((⟨3, ![1, wm + 1, 1]⟩ : Shape).rowMajor.symm n) 1).val - wm = t.val - (wm + 1 - 1 - n.val); rw [e1]; omega
    | ⟨2, _⟩ => show l.val * 1 + (((⟨3, ![1, wm + 1, 1]⟩ : Shape).rowMajor.symm n) 2).val - 0 = l.val; rw [e2]; omega
  · next hin =>
    rw [if_neg fun hle => hin fun a => by
      match a with
      | ⟨0, _⟩ =>
        show 0 ≤ b.val * 1 + (((⟨3, ![1, wm + 1, 1]⟩ : Shape).rowMajor.symm n) 0).val ∧ b.val * 1 + (((⟨3, ![1, wm + 1, 1]⟩ : Shape).rowMajor.symm n) 0).val - 0 < 8
        rw [e0]; omega
      | ⟨1, _⟩ =>
        show wm ≤ t.val * 1 + (((⟨3, ![1, wm + 1, 1]⟩ : Shape).rowMajor.symm n) 1).val ∧ t.val * 1 + (((⟨3, ![1, wm + 1, 1]⟩ : Shape).rowMajor.symm n) 1).val - wm < 8192
        rw [e1]; omega
      | ⟨2, _⟩ =>
        show 0 ≤ l.val * 1 + (((⟨3, ![1, wm + 1, 1]⟩ : Shape).rowMajor.symm n) 2).val ∧ l.val * 1 + (((⟨3, ![1, wm + 1, 1]⟩ : Shape).rowMajor.symm n) 2).val - 0 < 64
        rw [e2]; omega]

/-- A lane of the pooled branch before its scale and gate: a group's means against that group's weights. -/
def poolLane (pw : Fin 4 → Fin 64 → Fin 64 → EReal) (u : Fin 8192 → Fin 256 → EReal) (t : Fin 8192) (l : Fin 256) : EReal :=
  ∑ k : Fin 64, pooled (windowOf (l.val / 64)) (fun t => u t ⟨64 * (l.val / 64) + k.val, by omega⟩) t
    * pw ⟨l.val / 64, by omega⟩ k ⟨l.val % 64, by omega⟩

/-- A row plus the output projection of the three branches. -/
def mixRow (x : Fin 1024 → EReal) (yg yd : Fin 384 → EReal) (u : Fin 8192 → Fin 256 → EReal) (pg : Fin 256 → EReal) (t : Fin 8192)
    (pw : Fin 4 → Fin 64 → Fin 64 → EReal) (sc : Fin 256 → EReal) (w : Fin 1024 → Fin 1024 → EReal) (d : Fin 1024) : EReal :=
  x d + ∑ k : Fin 384, yg k * w ⟨k.val, by omega⟩ d + ∑ k : Fin 384, yd k * w ⟨384 + k.val, by omega⟩ d
    + ∑ k : Fin 256, poolLane pw u t k * sc k * (pg k * Ideal.logistic (pg k)) * w ⟨768 + k.val, by omega⟩ d

/-- A block's own rows after the sixteen kept from before. -/
def ext (own : Fin 512 → EReal) (kept : Fin 16 → EReal) (i : ℕ) : EReal :=
  if h : i < 16 then kept ⟨i, h⟩ else if h : i - 16 < 512 then own ⟨i - 16, h⟩ else 0

/-- Over those rows the sum of a window is the sum over the whole sequence. -/
theorem ext_window (u : Fin 8192 → EReal) (own : Fin 512 → EReal) (kept : Fin 16 → EReal) (t : Fin 8192)
    (ho : ∀ r : Fin 512, own r = u ⟨512 * (t.val / 512) + r.val, by omega⟩)
    (hz : t.val / 512 = 0 → ∀ i, kept i = 0)
    (hk : ∀ (_ : 1 ≤ t.val / 512) (i : Fin 16), kept i = u ⟨512 * (t.val / 512 - 1) + (496 + i.val), by omega⟩) (w : ℕ) (hw : w ≤ 16) :
    ∑ j ∈ Finset.range w, ext own kept (16 + t.val % 512 - j) = windowSum w u t := by
  refine Finset.sum_congr rfl fun j hj => ?_
  have hj := Finset.mem_range.mp hj
  unfold ext
  by_cases h : 16 + t.val % 512 - j < 16
  · rw [dif_pos h]
    by_cases hq : t.val / 512 = 0
    · rw [hz hq, if_neg (by omega)]
    · rw [hk (by omega), if_pos (by omega)]
      exact congrArg u (Fin.ext (by show 512 * (t.val / 512 - 1) + (496 + (16 + t.val % 512 - j)) = t.val - j; omega))
  · rw [dif_neg h, dif_pos (by omega), ho, if_pos (by omega)]
    exact congrArg u (Fin.ext (by show 512 * (t.val / 512) + (16 + t.val % 512 - j - 16) = t.val - j; omega))

/-- The lanes' group number, as the floor division by 64 is spelt. -/
theorem laneGroup : ∀ l : Fin 256, Scalar.select
      (IntOp.andi
        (IntOp.cmpi CmpIPredicate.ne
          (IntOp.subi (BitVec.setWidth 32 (IntOp.cmpi CmpIPredicate.sgt (BitVec.ofNat 32 l.val) 0#32))
            (BitVec.setWidth 32 (IntOp.cmpi CmpIPredicate.slt (BitVec.ofNat 32 l.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 l.val) 64#32) 0#32))
      (IntOp.subi (IntOp.divsi ArithUnit.vector (BitVec.ofNat 32 l.val) 64#32) 1#32)
      (IntOp.divsi ArithUnit.vector (BitVec.ofNat 32 l.val) 64#32)
    = BitVec.ofNat 32 (l.val / 64) := by
  decide +kernel

/-- A choice among four by the group number. -/
theorem pick (g : ℕ) (hg : g < 4) {α : Type} (f : ℕ → α) :
    Scalar.select (IntOp.cmpi CmpIPredicate.eq (BitVec.ofNat 32 g) 0#32) (f 2)
      (Scalar.select (IntOp.cmpi CmpIPredicate.eq (BitVec.ofNat 32 g) 1#32) (f 4)
        (Scalar.select (IntOp.cmpi CmpIPredicate.eq (BitVec.ofNat 32 g) 2#32) (f 8) (f 16))) = f (windowOf g) := by
  interval_cases g <;> rfl

/-- A row's number from its block's and its place there, counted from one. -/
theorem rowNumber (t : Fin 8192) (r : Fin 512) (q : ℕ) (h : 512 * q + r.val = t.val) :
    IntOp.addi (IntOp.addi (Scalar.muli (BitVec.ofNat 32 q) 512#32) (BitVec.ofNat 32 r.val)) 1#32 = BitVec.ofNat 32 t.val + 1#32 := by
  show BitVec.ofNat 32 q * BitVec.ofNat 32 512 + BitVec.ofNat 32 r.val + 1#32 = _
  rw [← BitVec.ofNat_mul, ← BitVec.ofNat_add, ← h, Nat.mul_comm]

/-- The sum over all lanes against a block diagonal is the sum over the lane's own block. -/
theorem sum_diag (p : Fin 256 → EReal) (w : Fin 256 → EReal) (v : Fin 64 → EReal) (g : ℕ) (hg : g < 4)
    (hin : ∀ k : Fin 64, w ⟨64 * g + k.val, by omega⟩ = v k) (hout : ∀ k : Fin 256, k.val / 64 ≠ g → w k = 0) :
    ∑ k, p k * w k = ∑ k : Fin 64, p ⟨64 * g + k.val, by omega⟩ * v k := by
  symm
  refine Finset.sum_bij_ne_zero (fun k _ _ => (⟨64 * g + k.val, by omega⟩ : Fin 256)) (fun _ _ _ => Finset.mem_univ _)
    (fun a _ _ b _ _ h => Fin.ext (by have := congrArg Fin.val h; simp at this; omega)) (fun b _ hb => ?_) (fun a _ _ => by rw [hin])
  have hq : b.val / 64 = g := by
    by_contra hne
    exact hb (by rw [hout b hne, mul_zero])
  have e : (⟨64 * g + (⟨b.val % 64, by omega⟩ : Fin 64).val, by show 64 * g + b.val % 64 < 256; omega⟩ : Fin 256) = b := Fin.ext (by show 64 * g + b.val % 64 = b.val; omega)
  refine ⟨⟨b.val % 64, by omega⟩, Finset.mem_univ _, ?_, e⟩
  rw [← hin]
  intro h
  refine hb ?_
  rw [e] at h
  exact h

/-- The sum over four slabs of 128 lanes, of which 96 are used, is the sum over the used lanes. -/
theorem sum_slabs (f : Fin 512 → EReal) (e : Fin 384 → EReal)
    (hin : ∀ (a : Fin 4) (r : Fin 96), f ⟨128 * a.val + r.val, by omega⟩ = e ⟨96 * a.val + r.val, by omega⟩)
    (hout : ∀ k : Fin 512, 96 ≤ k.val % 128 → f k = 0) : ∑ k, f k = ∑ k, e k := by
  symm
  have he : ∀ k : Fin 384, f ⟨128 * (k.val / 96) + k.val % 96, by omega⟩ = e k := fun k =>
    (hin ⟨k.val / 96, by omega⟩ ⟨k.val % 96, by omega⟩).trans (congrArg e (Fin.ext (by show 96 * (k.val / 96) + k.val % 96 = k.val; omega)))
  refine Finset.sum_bij_ne_zero (fun k _ _ => (⟨128 * (k.val / 96) + k.val % 96, by omega⟩ : Fin 512)) (fun _ _ _ => Finset.mem_univ _)
    (fun a _ _ b _ _ h => Fin.ext (by have := congrArg Fin.val h; simp at this; omega)) (fun b _ hb => ?_) (fun a _ _ => (he a).symm)
  have hq : b.val % 128 < 96 := by
    by_contra hne
    exact hb (hout b (by omega))
  have hbl := b.isLt
  refine ⟨⟨96 * (b.val / 128) + b.val % 128, by omega⟩, Finset.mem_univ _, ?_, Fin.ext ?_⟩
  · rw [← he]
    intro h
    refine hb (Eq.trans (congrArg f (Fin.ext ?_)) h)
    show b.val = 128 * ((96 * (b.val / 128) + b.val % 128) / 96) + (96 * (b.val / 128) + b.val % 128) % 96
    omega
  · show 128 * ((96 * (b.val / 128) + b.val % 128) / 96) + (96 * (b.val / 128) + b.val % 128) % 96 = b.val
    omega

end Cert.Hand

end
-- ==== Proof.MixFinalBody.lean ====
module

public import proofs.«01_k».proof.Proof.PoolSpec
public import proofs.«01_k».proof.Proof.Gen.MixFinalIdeal.Value

@[expose] public section

noncomputable section

/-! What the payloads of a block compute, entry by entry: the doubled window sums, the pooled lanes and the mixed rows. -/

namespace Cert.Hand.MixFinal

open Cert.MixFinalIdeal Cert.MixFinalIdeal.Gen Idealize.ShloMosaic Idealize.ShloMosaic.TcCoe Idealize.SL.Sem

/-- The pooled lanes of a block, from its first row's number, its rows and the sixteen kept ones. -/
def pool (i : grid0.Coords) (u : Vec Ideal S1x512x256 .f32) (hl : Vec Ideal S16x256 .f32) : FVec Ideal S512x256 .bf16 :=
  k0_pay12 (BitVec.ofNat 32 (i 1).val) (k0_pay3 u) (k0_pay5 u hl) (k0_pay6 u hl) (k0_pay7 u hl) (k0_pay8 u hl) k0_pay9 k0_pay10 k0_pay11

/-- The rows kept before a sequence's first block: zeros. -/
def zeros : Vec Ideal S16x256 .f32 := k0_pay2 (F := Ideal)

/-- A block's lane, row by row. -/
def own (v3 : Vec Ideal S1x512x256 .f32) (l : Fin 256) (r : Fin 512) : EReal := (v3 : S1x512x256.Idx → EReal) (ix3 0 r l)
/-- The kept rows' lane, row by row. -/
def kept (v5 : Vec Ideal S16x256 .f32) (l : Fin 256) (i : Fin 16) : EReal := (v5 : S16x256.Idx → EReal) (ix2 i l)

theorem zeros_apply (i : Fin 16) (l : Fin 256) : kept zeros l i = 0 := by
  unfold kept zeros
  pointwise [k0_pay2]

theorem pay4_apply (v3 : Vec Ideal S1x512x256 .f32) (i : Fin 16) (l : Fin 256) :
    kept (k0_pay4 v3) l i = own v3 l ⟨496 + i.val, by omega⟩ := by
  unfold kept own
  pointwise [k0_pay4, k0_pay3]
  try rfl

theorem rot1 (v : FVec Ideal S528x256 .f32) (i : Fin 528) (hi : 1 ≤ i.val) (l : Fin 256) :
    (dynamicRotate 0 1#32 none v rotates_S528x256_d0 : S528x256.Idx → EReal) (ix2 i l) = (v : S528x256.Idx → EReal) (ix2 ⟨i.val - 1, by omega⟩ l) := by
  pointwise
  refine congrArg (fun j => (v : S528x256.Idx → EReal) (ix2 j l)) (Fin.ext ?_)
  show (i.val + 528 - 1 % 528) % 528 = i.val - 1
  omega

theorem rot2 (v : FVec Ideal S528x256 .f32) (i : Fin 528) (hi : 2 ≤ i.val) (l : Fin 256) :
    (dynamicRotate 0 2#32 none v rotates_S528x256_d0 : S528x256.Idx → EReal) (ix2 i l) = (v : S528x256.Idx → EReal) (ix2 ⟨i.val - 2, by omega⟩ l) := by
  pointwise
  refine congrArg (fun j => (v : S528x256.Idx → EReal) (ix2 j l)) (Fin.ext ?_)
  show (i.val + 528 - 2 % 528) % 528 = i.val - 2
  omega

theorem rot4 (v : FVec Ideal S528x256 .f32) (i : Fin 528) (hi : 4 ≤ i.val) (l : Fin 256) :
    (dynamicRotate 0 4#32 none v rotates_S528x256_d0 : S528x256.Idx → EReal) (ix2 i l) = (v : S528x256.Idx → EReal) (ix2 ⟨i.val - 4, by omega⟩ l) := by
  pointwise
  refine congrArg (fun j => (v : S528x256.Idx → EReal) (ix2 j l)) (Fin.ext ?_)
  show (i.val + 528 - 4 % 528) % 528 = i.val - 4
  omega

theorem rot8 (v : FVec Ideal S528x256 .f32) (i : Fin 528) (hi : 8 ≤ i.val) (l : Fin 256) :
    (dynamicRotate 0 8#32 none v rotates_S528x256_d0 : S528x256.Idx → EReal) (ix2 i l) = (v : S528x256.Idx → EReal) (ix2 ⟨i.val - 8, by omega⟩ l) := by
  pointwise
  refine congrArg (fun j => (v : S528x256.Idx → EReal) (ix2 j l)) (Fin.ext ?_)
  show (i.val + 528 - 8 % 528) % 528 = i.val - 8
  omega

set_option maxRecDepth 16384 in
set_option maxHeartbeats 400000 in
theorem pay5_apply (v3 : Vec Ideal S1x512x256 .f32) (v5 : Vec Ideal S16x256 .f32) (i : Fin 528) (hi : 1 ≤ i.val) (l : Fin 256) :
    (k0_pay5 v3 v5 : S528x256.Idx → EReal) (ix2 i l) = ∑ j ∈ Finset.range 2, ext (own v3 l) (kept v5 l) (i.val - j) := by
  have e : ∀ j : Fin 528, (concatenate S528x256 0 [⟨S16x256, v5⟩, ⟨S512x256, k0_pay3 v3⟩] concatenates_S16x256_S512x256_S528x256_d0 : S528x256.Idx → EReal) (ix2 j l)
      = ext (own v3 l) (kept v5 l) j.val := fun j => by
    pointwise [k0_pay3]
    unfold ext own kept
    by_cases h : j.val < 16
    · rw [dif_pos h, dif_pos h]
    · rw [dif_neg h, dif_neg h]
      try rw [dif_pos (by omega)]
      try rw [dif_pos (by omega)]
  rw [← double_2]
  unfold k0_pay5
  refine congrArg₂ (· + ·) (e i) ((rot1 _ i hi l).trans (e _))

theorem pay6_apply (v3 : Vec Ideal S1x512x256 .f32) (v5 : Vec Ideal S16x256 .f32) (i : Fin 528) (hi : 3 ≤ i.val) (l : Fin 256) :
    (k0_pay6 v3 v5 : S528x256.Idx → EReal) (ix2 i l) = ∑ j ∈ Finset.range 4, ext (own v3 l) (kept v5 l) (i.val - j) := by
  rw [← double_4]
  unfold k0_pay6
  exact congrArg₂ (· + ·) (pay5_apply v3 v5 i (by omega) l) ((rot2 _ i (by omega) l).trans (pay5_apply v3 v5 _ (by show 1 ≤ i.val - 2; omega) l))

theorem pay7_apply (v3 : Vec Ideal S1x512x256 .f32) (v5 : Vec Ideal S16x256 .f32) (i : Fin 528) (hi : 7 ≤ i.val) (l : Fin 256) :
    (k0_pay7 v3 v5 : S528x256.Idx → EReal) (ix2 i l) = ∑ j ∈ Finset.range 8, ext (own v3 l) (kept v5 l) (i.val - j) := by
  rw [← double_8]
  unfold k0_pay7
  exact congrArg₂ (· + ·) (pay6_apply v3 v5 i (by omega) l) ((rot4 _ i (by omega) l).trans (pay6_apply v3 v5 _ (by show 3 ≤ i.val - 4; omega) l))

theorem pay8_apply (v3 : Vec Ideal S1x512x256 .f32) (v5 : Vec Ideal S16x256 .f32) (i : Fin 528) (hi : 15 ≤ i.val) (l : Fin 256) :
    (k0_pay8 v3 v5 : S528x256.Idx → EReal) (ix2 i l) = ∑ j ∈ Finset.range 16, ext (own v3 l) (kept v5 l) (i.val - j) := by
  rw [← double_16]
  unfold k0_pay8
  exact congrArg₂ (· + ·) (pay7_apply v3 v5 i (by omega) l) ((rot8 _ i (by omega) l).trans (pay7_apply v3 v5 _ (by show 7 ≤ i.val - 8; omega) l))

set_option maxRecDepth 16384 in
set_option maxHeartbeats 400000 in
theorem pool_apply (i : grid0.Coords) (u : Vec Ideal S1x512x256 .f32) (hl : Vec Ideal S16x256 .f32) (t : Fin 8192) (U : Fin 8192 → EReal)
    (hi : (i 1).val = t.val / 512) (l : Fin 256)
    (ho : ∀ r : Fin 512, own u l r = U ⟨512 * (t.val / 512) + r.val, by omega⟩)
    (hz : t.val / 512 = 0 → ∀ i, kept hl l i = 0)
    (hk : ∀ (_ : 1 ≤ t.val / 512) (i : Fin 16), kept hl l i = U ⟨512 * (t.val / 512 - 1) + (496 + i.val), by omega⟩) :
    (pool i u hl : S512x256.Idx → EReal) (ix2 ⟨t.val % 512, by omega⟩ l) = pooled (windowOf (l.val / 64)) U t := by
  have hw : windowOf (l.val / 64) ≤ 16 := by unfold windowOf; split_ifs <;> omega
  have hu : (k0_pay3 u : S512x256.Idx → EReal) (ix2 ⟨t.val % 512, by omega⟩ l) = U t := by
    have hr := ho ⟨t.val % 512, by omega⟩
    unfold own at hr
    pointwise [k0_pay3]
    refine hr.trans (congrArg U (Fin.ext ?_))
    show 512 * (t.val / 512) + t.val % 512 = t.val
    omega
  unfold pool
  pointwise [k0_pay12, k0_pay9, k0_pay10, k0_pay11]
  rw [laneGroup, hu, pay5_apply _ _ _ (by show 1 ≤ 16 + t.val % 512; omega), pay6_apply _ _ _ (by show 3 ≤ 16 + t.val % 512; omega),
    pay7_apply _ _ _ (by show 7 ≤ 16 + t.val % 512; omega), pay8_apply _ _ _ (by show 15 ≤ 16 + t.val % 512; omega), hi,
    rowNumber t ⟨t.val % 512, by omega⟩ (t.val / 512) (by show 512 * (t.val / 512) + t.val % 512 = t.val; omega)]
  have h1 := pick (l.val / 64) (by omega) (fun w => ∑ j ∈ Finset.range w, ext (own u l) (kept hl l) (16 + t.val % 512 - j))
  have h2 := pick (l.val / 64) (by omega) (fun w => BitVec.ofNat 32 w)
  dsimp only at h1 h2 ⊢
  rw [h1, ext_window U _ _ t ho hz hk _ hw, h2]
  rfl

set_option maxRecDepth 16384 in
set_option maxHeartbeats 400000 in
theorem mix_apply (v80 : FVec Ideal S512x256 .bf16) (v81 : Vec Ideal S256x256 .bf16) (v84 : Vec Ideal S1x256 .f32) (v88 : Vec Ideal S1x512x256 .f32)
    (v94 : Vec Ideal S1x512x1024 .f32) (v96 : Vec Ideal S1x512x512 .bf16) (v98 : Vec Ideal S512x1024 .bf16) (v102 : Vec Ideal S1x512x384 .bf16)
    (v104 : Vec Ideal S384x1024 .bf16) (v108 : Vec Ideal S256x1024 .bf16) (r : Fin 512) (d : Fin 1024)
    (x : Fin 1024 → EReal) (yg yd : Fin 384 → EReal) (u : Fin 8192 → Fin 256 → EReal) (pg : Fin 256 → EReal) (t : Fin 8192)
    (pw : Fin 4 → Fin 64 → Fin 64 → EReal) (sc : Fin 256 → EReal) (w : Fin 1024 → Fin 1024 → EReal)
    (h80 : ∀ l : Fin 256, (v80 : S512x256.Idx → EReal) (ix2 r l) = pooled (windowOf (l.val / 64)) (fun t => u t l) t)
    (h81 : ∀ l : Fin 256, (∀ k : Fin 64, (v81 : S256x256.Idx → EReal) (ix2 ⟨64 * (l.val / 64) + k.val, by omega⟩ l) = pw ⟨l.val / 64, by omega⟩ k ⟨l.val % 64, by omega⟩)
      ∧ ∀ k : Fin 256, k.val / 64 ≠ l.val / 64 → (v81 : S256x256.Idx → EReal) (ix2 k l) = 0)
    (h84 : ∀ l, (v84 : S1x256.Idx → EReal) (ix2 0 l) = sc l)
    (h88 : ∀ l, (v88 : S1x512x256.Idx → EReal) (ix3 0 r l) = pg l)
    (h94 : ∀ d, (v94 : S1x512x1024.Idx → EReal) (ix3 0 r d) = x d)
    (h96 : (∀ (a : Fin 4) (k : Fin 96), (v96 : S1x512x512.Idx → EReal) (ix3 0 r ⟨128 * a.val + k.val, by omega⟩) = yg ⟨96 * a.val + k.val, by omega⟩)
      ∧ ∀ k : Fin 512, 96 ≤ k.val % 128 → (v96 : S1x512x512.Idx → EReal) (ix3 0 r k) = 0)
    (h98 : ∀ (a : Fin 4) (k : Fin 96), (v98 : S512x1024.Idx → EReal) (ix2 ⟨128 * a.val + k.val, by omega⟩ d) = w ⟨96 * a.val + k.val, by omega⟩ d)
    (h102 : ∀ k, (v102 : S1x512x384.Idx → EReal) (ix3 0 r k) = yd k)
    (h104 : ∀ k : Fin 384, (v104 : S384x1024.Idx → EReal) (ix2 k d) = w ⟨384 + k.val, by omega⟩ d)
    (h108 : ∀ k : Fin 256, (v108 : S256x1024.Idx → EReal) (ix2 k d) = w ⟨768 + k.val, by omega⟩ d) :
    (k0_pay13 v80 v81 v84 v88 v94 v96 v98 v102 v104 v108 : S512x1024.Idx → EReal) (ix2 r d) = mixRow x yg yd u pg t pw sc w d := by
  pointwise [k0_pay13]
  unfold mixRow
  refine congrArg₂ (· + ·) (congrArg₂ (· + ·) (congrArg₂ (· + ·) (h94 d) ?_) (Finset.sum_congr rfl fun k _ => by rw [h102, h104])) (Finset.sum_congr rfl fun l _ => ?_)
  · exact sum_slabs (fun k => (v96 : S1x512x512.Idx → EReal) (ix3 0 r k) * (v98 : S512x1024.Idx → EReal) (ix2 k d)) (fun k => yg k * w ⟨k.val, by omega⟩ d)
      (fun a k => congrArg₂ (· * ·) (h96.1 a k) (h98 a k)) (fun k hk => by show (v96 : S1x512x512.Idx → EReal) (ix3 0 r k) * _ = 0; rw [h96.2 k hk, zero_mul])
  · rw [h84, h88, h108]
    refine congrArg (fun s => s * sc l * _ * _) ?_
    refine (sum_diag (fun k => (v80 : S512x256.Idx → EReal) (ix2 r k)) (fun k => (v81 : S256x256.Idx → EReal) (ix2 k l)) _ (l.val / 64) (by omega) (h81 l).1 (h81 l).2).trans ?_
    unfold poolLane
    refine Finset.sum_congr rfl fun k _ => congrArg (· * _) ((h80 _).trans ?_)
    show pooled (windowOf ((64 * (l.val / 64) + k.val) / 64)) _ t = _
    rw [show (64 * (l.val / 64) + k.val) / 64 = l.val / 64 from by omega]

end Cert.Hand.MixFinal

end
-- ==== Proof.MixFinalHost.lean ====
module

public import proofs.«01_k».proof.Proof.Gen.MixFinalIdeal.Value
public import Idealize.ShloMosaic.Lib.StableHlo.ReadAt
public import Idealize.ShloMosaic.Lib.Pointwise

@[expose] public section

noncomputable section

/-! What the region finds in its arrays, entry by entry, as the arguments give it. -/

namespace Cert.Hand.MixFinal

open Cert.MixFinalIdeal Cert.MixFinalIdeal.Gen Idealize.ShloMosaic Idealize.ShloMosaic.TcCoe Idealize.SL.Sem

variable (m : (ℓ : Loc nD τ sig) → Buf (Elt Ideal) ℓ)

theorem sitofp_zero (φ : FTy) : (FloatOps.sitofp (F := Ideal) φ 0#32 : EReal) = 0 := by
  show ((BitVec.toInt 0#32 : ℝ) : EReal) = 0
  simp

/-- The arguments. -/
def aX (c : Dev nD) : S8x8192x1024.Idx → EReal := m ((c : Thread nD τ).loc main_arg0)
def aYg (c : Dev nD) : S8x8192x384.Idx → EReal := m ((c : Thread nD τ).loc main_arg1)
def aYd (c : Dev nD) : S8x8192x384.Idx → EReal := m ((c : Thread nD τ).loc main_arg2)
def aPu (c : Dev nD) : S8x8192x256.Idx → EReal := m ((c : Thread nD τ).loc main_arg3)
def aPg (c : Dev nD) : S8x8192x256.Idx → EReal := m ((c : Thread nD τ).loc main_arg4)
def aPw (c : Dev nD) : S4x64x64.Idx → EReal := m ((c : Thread nD τ).loc main_arg5)
def aSc (c : Dev nD) : S256.Idx → EReal := m ((c : Thread nD τ).loc main_arg6)
def aW (c : Dev nD) : S1024x1024.Idx → EReal := m ((c : Thread nD τ).loc main_arg7)
def aG (c : Dev nD) : S1024.Idx → EReal := m ((c : Thread nD τ).loc main_arg8)

set_option maxRecDepth 16384 in
set_option maxHeartbeats 4000000 in
theorem gain_apply (c : Dev nD) (k : Fin 1024) : (V m c main_v25 : S1x1024.Idx → EReal) (ix2 0 k) = aG m c (ix1 k) := by
  unfold V
  after_reads_at
  rfl

set_option maxRecDepth 16384 in
set_option maxHeartbeats 4000000 in
theorem sc_apply (c : Dev nD) (k : Fin 256) : (V m c main_v10 : S1x256.Idx → EReal) (ix2 0 k) = aSc m c (ix1 k) := by
  unfold V
  after_reads_at
  rfl

set_option maxRecDepth 16384 in
set_option maxHeartbeats 4000000 in
theorem wd_apply (c : Dev nD) (k : Fin 384) (d : Fin 1024) : (V m c main_v19 : S384x1024.Idx → EReal) (ix2 k d) = aW m c (ix2 ⟨384 + k.val, by omega⟩ d) := by
  unfold V
  after_reads_at
  rfl

set_option maxRecDepth 16384 in
set_option maxHeartbeats 4000000 in
theorem wp_apply (c : Dev nD) (k : Fin 256) (d : Fin 1024) : (V m c main_v21 : S256x1024.Idx → EReal) (ix2 k d) = aW m c (ix2 ⟨768 + k.val, by omega⟩ d) := by
  unfold V
  after_reads_at
  rfl

set_option maxRecDepth 16384 in
set_option maxHeartbeats 4000000 in
theorem wg_apply (c : Dev nD) (a : Fin 4) (k : Fin 96) (d : Fin 1024) :
    (V m c main_v17 : S512x1024.Idx → EReal) (ix2 ⟨128 * a.val + k.val, by omega⟩ d) = aW m c (ix2 ⟨96 * a.val + k.val, by omega⟩ d) := by
  unfold V
  after_reads_at
  rw [dif_pos (by omega)]
  exact congrArg (fun j => aW m c (ix2 j d)) (Fin.ext (by show (128 * a.val + k.val) / 128 * 96 + (128 * a.val + k.val) % 128 = 96 * a.val + k.val; omega))

set_option maxRecDepth 16384 in
set_option maxHeartbeats 4000000 in
theorem yg_apply (c : Dev nD) (b : Fin 8) (t : Fin 8192) (a : Fin 4) (k : Fin 96) :
    (V m c main_v24 : S8x8192x512.Idx → EReal) (ix3 b t ⟨128 * a.val + k.val, by omega⟩) = aYg m c (ix3 b t ⟨96 * a.val + k.val, by omega⟩) := by
  unfold V
  after_reads_at
  rw [dif_pos (by omega)]
  exact congrArg (fun j => aYg m c (ix3 b t j)) (Fin.ext (by show a.val * 96 + (128 * a.val + k.val) % 128 = 96 * a.val + k.val; omega))

set_option maxRecDepth 16384 in
set_option maxHeartbeats 4000000 in
theorem yg_zero (c : Dev nD) (b : Fin 8) (t : Fin 8192) (k : Fin 512) (hk : 96 ≤ k.val % 128) : (V m c main_v24 : S8x8192x512.Idx → EReal) (ix3 b t k) = (0 : EReal) := by
  unfold V
  after_reads_at
  rw [dif_neg (by omega)]
  exact sitofp_zero _

set_option maxRecDepth 16384
set_option maxHeartbeats 4000000

theorem wbd_0_0 (c : Dev nD) (k j : Fin 64) :
    (V m c main_v9 : S256x256.Idx → EReal) (ix2 ⟨64 * 0 + k.val, by omega⟩ ⟨64 * 0 + j.val, by omega⟩) = aPw m c (ix3 0 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_pos (by omega)]
  try exact congrArg (fun k => aPw m c (ix3 0 k j)) (Fin.ext (by show 0 + k.val = k.val; omega))

theorem wbd_0_1 (c : Dev nD) (k j : Fin 64) :
    (V m c main_v9 : S256x256.Idx → EReal) (ix2 ⟨64 * 0 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_0_2 (c : Dev nD) (k j : Fin 64) :
    (V m c main_v9 : S256x256.Idx → EReal) (ix2 ⟨64 * 0 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_0_3 (c : Dev nD) (k j : Fin 64) :
    (V m c main_v9 : S256x256.Idx → EReal) (ix2 ⟨64 * 0 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_1_0 (c : Dev nD) (k j : Fin 64) :
    (V m c main_v9 : S256x256.Idx → EReal) (ix2 ⟨64 * 1 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_1_1 (c : Dev nD) (k j : Fin 64) :
    (V m c main_v9 : S256x256.Idx → EReal) (ix2 ⟨64 * 1 + k.val, by omega⟩ ⟨64 * 1 + j.val, by omega⟩) = aPw m c (ix3 1 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_pos (by omega)]
  try exact congrArg (fun k => aPw m c (ix3 1 k j)) (Fin.ext (by show 64 + k.val - 64 = k.val; omega))

theorem wbd_1_2 (c : Dev nD) (k j : Fin 64) :
    (V m c main_v9 : S256x256.Idx → EReal) (ix2 ⟨64 * 1 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_1_3 (c : Dev nD) (k j : Fin 64) :
    (V m c main_v9 : S256x256.Idx → EReal) (ix2 ⟨64 * 1 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_2_0 (c : Dev nD) (k j : Fin 64) :
    (V m c main_v9 : S256x256.Idx → EReal) (ix2 ⟨64 * 2 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_2_1 (c : Dev nD) (k j : Fin 64) :
    (V m c main_v9 : S256x256.Idx → EReal) (ix2 ⟨64 * 2 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_2_2 (c : Dev nD) (k j : Fin 64) :
    (V m c main_v9 : S256x256.Idx → EReal) (ix2 ⟨64 * 2 + k.val, by omega⟩ ⟨64 * 2 + j.val, by omega⟩) = aPw m c (ix3 2 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_pos (by omega)]
  try exact congrArg (fun k => aPw m c (ix3 2 k j)) (Fin.ext (by show 128 + k.val - 64 - 64 = k.val; omega))

theorem wbd_2_3 (c : Dev nD) (k j : Fin 64) :
    (V m c main_v9 : S256x256.Idx → EReal) (ix2 ⟨64 * 2 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_3_0 (c : Dev nD) (k j : Fin 64) :
    (V m c main_v9 : S256x256.Idx → EReal) (ix2 ⟨64 * 3 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_1 (c : Dev nD) (k j : Fin 64) :
    (V m c main_v9 : S256x256.Idx → EReal) (ix2 ⟨64 * 3 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_2 (c : Dev nD) (k j : Fin 64) :
    (V m c main_v9 : S256x256.Idx → EReal) (ix2 ⟨64 * 3 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_3 (c : Dev nD) (k j : Fin 64) :
    (V m c main_v9 : S256x256.Idx → EReal) (ix2 ⟨64 * 3 + k.val, by omega⟩ ⟨64 * 3 + j.val, by omega⟩) = aPw m c (ix3 3 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_pos (by omega)]
  try exact congrArg (fun k => aPw m c (ix3 3 k j)) (Fin.ext (by show 192 + k.val - 64 - 64 - 64 = k.val; omega))

theorem wbd_all (c : Dev nD) (g g' : Fin 4) (k j : Fin 64) :
    (V m c main_v9 : S256x256.Idx → EReal) (ix2 ⟨64 * g.val + k.val, by omega⟩ ⟨64 * g'.val + j.val, by omega⟩) = if g = g' then aPw m c (ix3 g k j) else 0 := by
  match g, g' with
  | ⟨0, _⟩, ⟨0, _⟩ => exact wbd_0_0 m c k j
  | ⟨0, _⟩, ⟨1, _⟩ => exact wbd_0_1 m c k j
  | ⟨0, _⟩, ⟨2, _⟩ => exact wbd_0_2 m c k j
  | ⟨0, _⟩, ⟨3, _⟩ => exact wbd_0_3 m c k j
  | ⟨1, _⟩, ⟨0, _⟩ => exact wbd_1_0 m c k j
  | ⟨1, _⟩, ⟨1, _⟩ => exact wbd_1_1 m c k j
  | ⟨1, _⟩, ⟨2, _⟩ => exact wbd_1_2 m c k j
  | ⟨1, _⟩, ⟨3, _⟩ => exact wbd_1_3 m c k j
  | ⟨2, _⟩, ⟨0, _⟩ => exact wbd_2_0 m c k j
  | ⟨2, _⟩, ⟨1, _⟩ => exact wbd_2_1 m c k j
  | ⟨2, _⟩, ⟨2, _⟩ => exact wbd_2_2 m c k j
  | ⟨2, _⟩, ⟨3, _⟩ => exact wbd_2_3 m c k j
  | ⟨3, _⟩, ⟨0, _⟩ => exact wbd_3_0 m c k j
  | ⟨3, _⟩, ⟨1, _⟩ => exact wbd_3_1 m c k j
  | ⟨3, _⟩, ⟨2, _⟩ => exact wbd_3_2 m c k j
  | ⟨3, _⟩, ⟨3, _⟩ => exact wbd_3_3 m c k j

theorem wbd_own (c : Dev nD) (l : Fin 256) (k : Fin 64) :
    (V m c main_v9 : S256x256.Idx → EReal) (ix2 ⟨64 * (l.val / 64) + k.val, by omega⟩ l) = aPw m c (ix3 ⟨l.val / 64, by omega⟩ k ⟨l.val % 64, by omega⟩) := by
  have h := wbd_all m c ⟨l.val / 64, by omega⟩ ⟨l.val / 64, by omega⟩ k ⟨l.val % 64, by omega⟩
  rw [if_pos rfl] at h
  refine Eq.trans (congrArg (fun j => (V m c main_v9 : S256x256.Idx → EReal) (ix2 _ j)) (Fin.ext ?_)) h
  show l.val = 64 * (l.val / 64) + l.val % 64
  omega

theorem wbd_other (c : Dev nD) (l k : Fin 256) (hk : k.val / 64 ≠ l.val / 64) : (V m c main_v9 : S256x256.Idx → EReal) (ix2 k l) = (0 : EReal) := by
  have h := wbd_all m c ⟨k.val / 64, by omega⟩ ⟨l.val / 64, by omega⟩ ⟨k.val % 64, by omega⟩ ⟨l.val % 64, by omega⟩
  rw [if_neg fun e => hk (congrArg Fin.val e)] at h
  refine Eq.trans (congrArg₂ (fun i j => (V m c main_v9 : S256x256.Idx → EReal) (ix2 i j)) (Fin.ext ?_) (Fin.ext ?_)) h
  · show k.val = 64 * (k.val / 64) + k.val % 64
    omega
  · show l.val = 64 * (l.val / 64) + l.val % 64
    omega

end Cert.Hand.MixFinal

end
-- ==== Proof.MixFinalBlocks.lean ====
module

public import proofs.«01_k».proof.Proof.MixFinalBody
public import proofs.«01_k».proof.Proof.MixFinalHost

@[expose] public section

noncomputable section

/-! The blocks a grid point reads, entry by entry, and the mixed rows that it computes from them. -/

namespace Cert.Hand.MixFinal

open Cert.MixFinalIdeal Cert.MixFinalIdeal.Gen Idealize.ShloMosaic Idealize.ShloMosaic.TcCoe Idealize.SL.Sem

variable (m : (ℓ : Loc nD τ sig) → Buf (Elt Ideal) ℓ)

/-- The grid point that works on row `t` of sequence `b`. -/
def pt (b : Fin 8) (t : Fin 8192) : Fin cfg0.N := ⟨16 * b.val + t.val / 512, by rw [show cfg0.N = 128 from N_0]; omega⟩
/-- The row's place in the point's block. -/
def rw_ (t : Fin 8192) : Fin 512 := ⟨t.val % 512, Nat.mod_lt _ (by decide)⟩

theorem lt128 (n : Fin cfg0.N) : n.val < 128 := lt_of_lt_of_eq n.isLt N_0

theorem coord1 : ∀ t : Fin cfg0.N, (grid0.coords t 1).val = t.val % 16 :=
  (by decide +kernel : ∀ t : Fin grid0.N, (grid0.coords t 1).val = t.val % 16)

theorem idx0 : ∀ t : Fin cfg0.N, win0_0.index t = ![t.val / 16, t.val % 16, 0] :=
  (by decide +kernel : ∀ t : Fin grid0.N, win0_0.index t = ![t.val / 16, t.val % 16, 0])

theorem emb0 (n : Fin cfg0.N) (r : Fin 512) (k : Fin 1024) : ((cfg0.win 0).blk n).view.emb (ix3 0 r k : S1x512x1024.Idx)
    = (ix3 ⟨n.val / 16, by have := lt128 n; omega⟩ ⟨512 * (n.val % 16) + r.val, by omega⟩ k : S8x8192x1024.Idx) := by
  refine funext fun a => Fin.ext ?_
  have hi := idx0 n
  match a with
  | ⟨0, _⟩ => show win0_0.index n 0 * 1 + 1 * 0 = n.val / 16; rw [hi]; show n.val / 16 * 1 + 1 * 0 = n.val / 16; omega
  | ⟨1, _⟩ => show win0_0.index n 1 * 512 + 1 * r.val = 512 * (n.val % 16) + r.val; rw [hi]; show n.val % 16 * 512 + 1 * r.val = 512 * (n.val % 16) + r.val; omega
  | ⟨2, _⟩ => show win0_0.index n 2 * 1024 + 1 * k.val = k.val; rw [hi]; show 0 * 1024 + 1 * k.val = k.val; omega

theorem iblk0 (c : Dev nD) (n : Fin cfg0.N) (r : Fin 512) (k : Fin 1024) :
    (iblk m c 0 n : S1x512x1024.Idx → EReal) (ix3 0 r k)
      = aX m c (ix3 ⟨n.val / 16, by have := lt128 n; omega⟩ ⟨512 * (n.val % 16) + r.val, by omega⟩ k) := by
  unfold iblk
  rw [View.read_apply]
  show V m c main_arg0 _ = _
  rw [V_main_arg0]
  exact congrArg (m ((c : Thread nD τ).loc main_arg0)) (emb0 n r k)

theorem iblk0_pt (c : Dev nD) (b : Fin 8) (t : Fin 8192) (k : Fin 1024) :
    (iblk m c 0 (pt b t) : S1x512x1024.Idx → EReal) (ix3 0 (rw_ t) k) = aX m c (ix3 b t k) := by
  refine (iblk0 m c (pt b t) (rw_ t) k).trans (congrArg₂ (fun i j => aX m c (ix3 i j k)) (Fin.ext ?_) (Fin.ext ?_))
  · show (16 * b.val + t.val / 512) / 16 = b.val
    omega
  · show 512 * ((16 * b.val + t.val / 512) % 16) + t.val % 512 = t.val
    omega

theorem idx1 : ∀ t : Fin cfg0.N, win0_1.index t = ![t.val / 16, t.val % 16, 0] :=
  (by decide +kernel : ∀ t : Fin grid0.N, win0_1.index t = ![t.val / 16, t.val % 16, 0])

theorem emb1 (n : Fin cfg0.N) (r : Fin 512) (k : Fin 512) : ((cfg0.win 1).blk n).view.emb (ix3 0 r k : S1x512x512.Idx)
    = (ix3 ⟨n.val / 16, by have := lt128 n; omega⟩ ⟨512 * (n.val % 16) + r.val, by omega⟩ k : S8x8192x512.Idx) := by
  refine funext fun a => Fin.ext ?_
  have hi := idx1 n
  match a with
  | ⟨0, _⟩ => show win0_1.index n 0 * 1 + 1 * 0 = n.val / 16; rw [hi]; show n.val / 16 * 1 + 1 * 0 = n.val / 16; omega
  | ⟨1, _⟩ => show win0_1.index n 1 * 512 + 1 * r.val = 512 * (n.val % 16) + r.val; rw [hi]; show n.val % 16 * 512 + 1 * r.val = 512 * (n.val % 16) + r.val; omega
  | ⟨2, _⟩ => show win0_1.index n 2 * 512 + 1 * k.val = k.val; rw [hi]; show 0 * 512 + 1 * k.val = k.val; omega

theorem iblk1 (c : Dev nD) (n : Fin cfg0.N) (r : Fin 512) (k : Fin 512) :
    (iblk m c 1 n : S1x512x512.Idx → EReal) (ix3 0 r k)
      = (V m c main_v24 : S8x8192x512.Idx → EReal) (ix3 ⟨n.val / 16, by have := lt128 n; omega⟩ ⟨512 * (n.val % 16) + r.val, by omega⟩ k) := by
  have key : ∀ f : S8x8192x512.Idx → EReal, ((cfg0.win 1).blk n).view.read (Elt Ideal) f (ix3 0 r k : S1x512x512.Idx) = f (ix3 _ _ k) :=
    fun f => congrArg f (emb1 n r k)
  exact key (V m c main_v24)

theorem iblk1_pt (c : Dev nD) (b : Fin 8) (t : Fin 8192) (k : Fin 512) :
    (iblk m c 1 (pt b t) : S1x512x512.Idx → EReal) (ix3 0 (rw_ t) k) = (V m c main_v24 : S8x8192x512.Idx → EReal) (ix3 b t k) := by
  refine (iblk1 m c (pt b t) (rw_ t) k).trans (congrArg₂ (fun i j => (V m c main_v24 : S8x8192x512.Idx → EReal) (ix3 i j k)) (Fin.ext ?_) (Fin.ext ?_))
  · show (16 * b.val + t.val / 512) / 16 = b.val
    omega
  · show 512 * ((16 * b.val + t.val / 512) % 16) + t.val % 512 = t.val
    omega

theorem idx2 : ∀ t : Fin cfg0.N, win0_2.index t = ![t.val / 16, t.val % 16, 0] :=
  (by decide +kernel : ∀ t : Fin grid0.N, win0_2.index t = ![t.val / 16, t.val % 16, 0])

theorem emb2 (n : Fin cfg0.N) (r : Fin 512) (k : Fin 384) : ((cfg0.win 2).blk n).view.emb (ix3 0 r k : S1x512x384.Idx)
    = (ix3 ⟨n.val / 16, by have := lt128 n; omega⟩ ⟨512 * (n.val % 16) + r.val, by omega⟩ k : S8x8192x384.Idx) := by
  refine funext fun a => Fin.ext ?_
  have hi := idx2 n
  match a with
  | ⟨0, _⟩ => show win0_2.index n 0 * 1 + 1 * 0 = n.val / 16; rw [hi]; show n.val / 16 * 1 + 1 * 0 = n.val / 16; omega
  | ⟨1, _⟩ => show win0_2.index n 1 * 512 + 1 * r.val = 512 * (n.val % 16) + r.val; rw [hi]; show n.val % 16 * 512 + 1 * r.val = 512 * (n.val % 16) + r.val; omega
  | ⟨2, _⟩ => show win0_2.index n 2 * 384 + 1 * k.val = k.val; rw [hi]; show 0 * 384 + 1 * k.val = k.val; omega

theorem iblk2 (c : Dev nD) (n : Fin cfg0.N) (r : Fin 512) (k : Fin 384) :
    (iblk m c 2 n : S1x512x384.Idx → EReal) (ix3 0 r k)
      = aYd m c (ix3 ⟨n.val / 16, by have := lt128 n; omega⟩ ⟨512 * (n.val % 16) + r.val, by omega⟩ k) := by
  unfold iblk
  rw [View.read_apply]
  show V m c main_arg2 _ = _
  rw [V_main_arg2]
  exact congrArg (m ((c : Thread nD τ).loc main_arg2)) (emb2 n r k)

theorem iblk2_pt (c : Dev nD) (b : Fin 8) (t : Fin 8192) (k : Fin 384) :
    (iblk m c 2 (pt b t) : S1x512x384.Idx → EReal) (ix3 0 (rw_ t) k) = aYd m c (ix3 b t k) := by
  refine (iblk2 m c (pt b t) (rw_ t) k).trans (congrArg₂ (fun i j => aYd m c (ix3 i j k)) (Fin.ext ?_) (Fin.ext ?_))
  · show (16 * b.val + t.val / 512) / 16 = b.val
    omega
  · show 512 * ((16 * b.val + t.val / 512) % 16) + t.val % 512 = t.val
    omega

theorem idx3 : ∀ t : Fin cfg0.N, win0_3.index t = ![t.val / 16, t.val % 16, 0] :=
  (by decide +kernel : ∀ t : Fin grid0.N, win0_3.index t = ![t.val / 16, t.val % 16, 0])

theorem emb3 (n : Fin cfg0.N) (r : Fin 512) (k : Fin 256) : ((cfg0.win 3).blk n).view.emb (ix3 0 r k : S1x512x256.Idx)
    = (ix3 ⟨n.val / 16, by have := lt128 n; omega⟩ ⟨512 * (n.val % 16) + r.val, by omega⟩ k : S8x8192x256.Idx) := by
  refine funext fun a => Fin.ext ?_
  have hi := idx3 n
  match a with
  | ⟨0, _⟩ => show win0_3.index n 0 * 1 + 1 * 0 = n.val / 16; rw [hi]; show n.val / 16 * 1 + 1 * 0 = n.val / 16; omega
  | ⟨1, _⟩ => show win0_3.index n 1 * 512 + 1 * r.val = 512 * (n.val % 16) + r.val; rw [hi]; show n.val % 16 * 512 + 1 * r.val = 512 * (n.val % 16) + r.val; omega
  | ⟨2, _⟩ => show win0_3.index n 2 * 256 + 1 * k.val = k.val; rw [hi]; show 0 * 256 + 1 * k.val = k.val; omega

theorem iblk3 (c : Dev nD) (n : Fin cfg0.N) (r : Fin 512) (k : Fin 256) :
    (iblk m c 3 n : S1x512x256.Idx → EReal) (ix3 0 r k)
      = aPu m c (ix3 ⟨n.val / 16, by have := lt128 n; omega⟩ ⟨512 * (n.val % 16) + r.val, by omega⟩ k) := by
  unfold iblk
  rw [View.read_apply]
  show V m c main_arg3 _ = _
  rw [V_main_arg3]
  exact congrArg (m ((c : Thread nD τ).loc main_arg3)) (emb3 n r k)

theorem iblk3_pt (c : Dev nD) (b : Fin 8) (t : Fin 8192) (k : Fin 256) :
    (iblk m c 3 (pt b t) : S1x512x256.Idx → EReal) (ix3 0 (rw_ t) k) = aPu m c (ix3 b t k) := by
  refine (iblk3 m c (pt b t) (rw_ t) k).trans (congrArg₂ (fun i j => aPu m c (ix3 i j k)) (Fin.ext ?_) (Fin.ext ?_))
  · show (16 * b.val + t.val / 512) / 16 = b.val
    omega
  · show 512 * ((16 * b.val + t.val / 512) % 16) + t.val % 512 = t.val
    omega

theorem idx4 : ∀ t : Fin cfg0.N, win0_4.index t = ![t.val / 16, t.val % 16, 0] :=
  (by decide +kernel : ∀ t : Fin grid0.N, win0_4.index t = ![t.val / 16, t.val % 16, 0])

theorem emb4 (n : Fin cfg0.N) (r : Fin 512) (k : Fin 256) : ((cfg0.win 4).blk n).view.emb (ix3 0 r k : S1x512x256.Idx)
    = (ix3 ⟨n.val / 16, by have := lt128 n; omega⟩ ⟨512 * (n.val % 16) + r.val, by omega⟩ k : S8x8192x256.Idx) := by
  refine funext fun a => Fin.ext ?_
  have hi := idx4 n
  match a with
  | ⟨0, _⟩ => show win0_4.index n 0 * 1 + 1 * 0 = n.val / 16; rw [hi]; show n.val / 16 * 1 + 1 * 0 = n.val / 16; omega
  | ⟨1, _⟩ => show win0_4.index n 1 * 512 + 1 * r.val = 512 * (n.val % 16) + r.val; rw [hi]; show n.val % 16 * 512 + 1 * r.val = 512 * (n.val % 16) + r.val; omega
  | ⟨2, _⟩ => show win0_4.index n 2 * 256 + 1 * k.val = k.val; rw [hi]; show 0 * 256 + 1 * k.val = k.val; omega

theorem iblk4 (c : Dev nD) (n : Fin cfg0.N) (r : Fin 512) (k : Fin 256) :
    (iblk m c 4 n : S1x512x256.Idx → EReal) (ix3 0 r k)
      = aPg m c (ix3 ⟨n.val / 16, by have := lt128 n; omega⟩ ⟨512 * (n.val % 16) + r.val, by omega⟩ k) := by
  unfold iblk
  rw [View.read_apply]
  show V m c main_arg4 _ = _
  rw [V_main_arg4]
  exact congrArg (m ((c : Thread nD τ).loc main_arg4)) (emb4 n r k)

theorem iblk4_pt (c : Dev nD) (b : Fin 8) (t : Fin 8192) (k : Fin 256) :
    (iblk m c 4 (pt b t) : S1x512x256.Idx → EReal) (ix3 0 (rw_ t) k) = aPg m c (ix3 b t k) := by
  refine (iblk4 m c (pt b t) (rw_ t) k).trans (congrArg₂ (fun i j => aPg m c (ix3 i j k)) (Fin.ext ?_) (Fin.ext ?_))
  · show (16 * b.val + t.val / 512) / 16 = b.val
    omega
  · show 512 * ((16 * b.val + t.val / 512) % 16) + t.val % 512 = t.val
    omega

theorem idx5 : ∀ t : Fin cfg0.N, win0_5.index t = ![0, 0] :=
  (by decide +kernel : ∀ t : Fin grid0.N, win0_5.index t = ![0, 0])

theorem emb5 (n : Fin cfg0.N) (k : Fin 512) (j : Fin 1024) : ((cfg0.win 5).blk n).view.emb (ix2 k j : S512x1024.Idx) = (ix2 k j : S512x1024.Idx) := by
  refine funext fun a => Fin.ext ?_
  have hi := idx5 n
  match a with
  | ⟨0, _⟩ => show win0_5.index n 0 * 512 + 1 * k.val = k.val; rw [hi]; show 0 * 512 + 1 * k.val = k.val; omega
  | ⟨1, _⟩ => show win0_5.index n 1 * 1024 + 1 * j.val = j.val; rw [hi]; show 0 * 1024 + 1 * j.val = j.val; omega

theorem iblk5 (c : Dev nD) (n : Fin cfg0.N) (k : Fin 512) (j : Fin 1024) :
    (iblk m c 5 n : S512x1024.Idx → EReal) (ix2 k j) = (V m c main_v17 : S512x1024.Idx → EReal) (ix2 k j) := by
  have key : ∀ f : S512x1024.Idx → EReal, ((cfg0.win 5).blk n).view.read (Elt Ideal) f (ix2 k j : S512x1024.Idx) = f (ix2 k j) :=
    fun f => congrArg f (emb5 n k j)
  exact key (V m c main_v17)

theorem idx6 : ∀ t : Fin cfg0.N, win0_6.index t = ![0, 0] :=
  (by decide +kernel : ∀ t : Fin grid0.N, win0_6.index t = ![0, 0])

theorem emb6 (n : Fin cfg0.N) (k : Fin 384) (j : Fin 1024) : ((cfg0.win 6).blk n).view.emb (ix2 k j : S384x1024.Idx) = (ix2 k j : S384x1024.Idx) := by
  refine funext fun a => Fin.ext ?_
  have hi := idx6 n
  match a with
  | ⟨0, _⟩ => show win0_6.index n 0 * 384 + 1 * k.val = k.val; rw [hi]; show 0 * 384 + 1 * k.val = k.val; omega
  | ⟨1, _⟩ => show win0_6.index n 1 * 1024 + 1 * j.val = j.val; rw [hi]; show 0 * 1024 + 1 * j.val = j.val; omega

theorem iblk6 (c : Dev nD) (n : Fin cfg0.N) (k : Fin 384) (j : Fin 1024) :
    (iblk m c 6 n : S384x1024.Idx → EReal) (ix2 k j) = (V m c main_v19 : S384x1024.Idx → EReal) (ix2 k j) := by
  have key : ∀ f : S384x1024.Idx → EReal, ((cfg0.win 6).blk n).view.read (Elt Ideal) f (ix2 k j : S384x1024.Idx) = f (ix2 k j) :=
    fun f => congrArg f (emb6 n k j)
  exact key (V m c main_v19)

theorem idx7 : ∀ t : Fin cfg0.N, win0_7.index t = ![0, 0] :=
  (by decide +kernel : ∀ t : Fin grid0.N, win0_7.index t = ![0, 0])

theorem emb7 (n : Fin cfg0.N) (k : Fin 256) (j : Fin 1024) : ((cfg0.win 7).blk n).view.emb (ix2 k j : S256x1024.Idx) = (ix2 k j : S256x1024.Idx) := by
  refine funext fun a => Fin.ext ?_
  have hi := idx7 n
  match a with
  | ⟨0, _⟩ => show win0_7.index n 0 * 256 + 1 * k.val = k.val; rw [hi]; show 0 * 256 + 1 * k.val = k.val; omega
  | ⟨1, _⟩ => show win0_7.index n 1 * 1024 + 1 * j.val = j.val; rw [hi]; show 0 * 1024 + 1 * j.val = j.val; omega

theorem iblk7 (c : Dev nD) (n : Fin cfg0.N) (k : Fin 256) (j : Fin 1024) :
    (iblk m c 7 n : S256x1024.Idx → EReal) (ix2 k j) = (V m c main_v21 : S256x1024.Idx → EReal) (ix2 k j) := by
  have key : ∀ f : S256x1024.Idx → EReal, ((cfg0.win 7).blk n).view.read (Elt Ideal) f (ix2 k j : S256x1024.Idx) = f (ix2 k j) :=
    fun f => congrArg f (emb7 n k j)
  exact key (V m c main_v21)

theorem idx8 : ∀ t : Fin cfg0.N, win0_8.index t = ![0, 0] :=
  (by decide +kernel : ∀ t : Fin grid0.N, win0_8.index t = ![0, 0])

theorem emb8 (n : Fin cfg0.N) (k : Fin 256) (j : Fin 256) : ((cfg0.win 8).blk n).view.emb (ix2 k j : S256x256.Idx) = (ix2 k j : S256x256.Idx) := by
  refine funext fun a => Fin.ext ?_
  have hi := idx8 n
  match a with
  | ⟨0, _⟩ => show win0_8.index n 0 * 256 + 1 * k.val = k.val; rw [hi]; show 0 * 256 + 1 * k.val = k.val; omega
  | ⟨1, _⟩ => show win0_8.index n 1 * 256 + 1 * j.val = j.val; rw [hi]; show 0 * 256 + 1 * j.val = j.val; omega

theorem iblk8 (c : Dev nD) (n : Fin cfg0.N) (k : Fin 256) (j : Fin 256) :
    (iblk m c 8 n : S256x256.Idx → EReal) (ix2 k j) = (V m c main_v9 : S256x256.Idx → EReal) (ix2 k j) := by
  have key : ∀ f : S256x256.Idx → EReal, ((cfg0.win 8).blk n).view.read (Elt Ideal) f (ix2 k j : S256x256.Idx) = f (ix2 k j) :=
    fun f => congrArg f (emb8 n k j)
  exact key (V m c main_v9)

theorem idx9 : ∀ t : Fin cfg0.N, win0_9.index t = ![0, 0] :=
  (by decide +kernel : ∀ t : Fin grid0.N, win0_9.index t = ![0, 0])

theorem emb9 (n : Fin cfg0.N) (k : Fin 1) (j : Fin 256) : ((cfg0.win 9).blk n).view.emb (ix2 k j : S1x256.Idx) = (ix2 k j : S1x256.Idx) := by
  refine funext fun a => Fin.ext ?_
  have hi := idx9 n
  match a with
  | ⟨0, _⟩ => show win0_9.index n 0 * 1 + 1 * k.val = k.val; rw [hi]; show 0 * 1 + 1 * k.val = k.val; omega
  | ⟨1, _⟩ => show win0_9.index n 1 * 256 + 1 * j.val = j.val; rw [hi]; show 0 * 256 + 1 * j.val = j.val; omega

theorem iblk9 (c : Dev nD) (n : Fin cfg0.N) (k : Fin 1) (j : Fin 256) :
    (iblk m c 9 n : S1x256.Idx → EReal) (ix2 k j) = (V m c main_v10 : S1x256.Idx → EReal) (ix2 k j) := by
  have key : ∀ f : S1x256.Idx → EReal, ((cfg0.win 9).blk n).view.read (Elt Ideal) f (ix2 k j : S1x256.Idx) = f (ix2 k j) :=
    fun f => congrArg f (emb9 n k j)
  exact key (V m c main_v10)

theorem idx10 : ∀ t : Fin cfg0.N, win0_10.index t = ![0, 0] :=
  (by decide +kernel : ∀ t : Fin grid0.N, win0_10.index t = ![0, 0])

theorem emb10 (n : Fin cfg0.N) (k : Fin 1) (j : Fin 1024) : ((cfg0.win 10).blk n).view.emb (ix2 k j : S1x1024.Idx) = (ix2 k j : S1x1024.Idx) := by
  refine funext fun a => Fin.ext ?_
  have hi := idx10 n
  match a with
  | ⟨0, _⟩ => show win0_10.index n 0 * 1 + 1 * k.val = k.val; rw [hi]; show 0 * 1 + 1 * k.val = k.val; omega
  | ⟨1, _⟩ => show win0_10.index n 1 * 1024 + 1 * j.val = j.val; rw [hi]; show 0 * 1024 + 1 * j.val = j.val; omega

theorem iblk10 (c : Dev nD) (n : Fin cfg0.N) (k : Fin 1) (j : Fin 1024) :
    (iblk m c 10 n : S1x1024.Idx → EReal) (ix2 k j) = (V m c main_v25 : S1x1024.Idx → EReal) (ix2 k j) := by
  have key : ∀ f : S1x1024.Idx → EReal, ((cfg0.win 10).blk n).view.read (Elt Ideal) f (ix2 k j : S1x1024.Idx) = f (ix2 k j) :=
    fun f => congrArg f (emb10 n k j)
  exact key (V m c main_v25)

/-- Row `t` of sequence `b` with the three branches' projections added, as the arguments give it. -/
def mixAt (c : Dev nD) (b : Fin 8) (t : Fin 8192) : Fin 1024 → EReal :=
  mixRow (fun d => aX m c (ix3 b t d)) (fun k => aYg m c (ix3 b t k)) (fun k => aYd m c (ix3 b t k)) (fun t l => aPu m c (ix3 b t l))
    (fun l => aPg m c (ix3 b t l)) t (fun g k j => aPw m c (ix3 g k j)) (fun l => aSc m c (ix1 l)) (fun k d => aW m c (ix2 k d))

/-- The rows kept from before point `t`, if they are those that the blocks before left. -/
def Kept (c : Dev nD) (n : Fin cfg0.N) (hl : Vec Ideal S16x256 .f32) : Prop :=
  (n.val % 16 = 0 → hl = zeros) ∧ (n.val % 16 ≠ 0 → ∀ (h : n.val - 1 < cfg0.N), hl = k0_pay4 (iblk m c 3 ⟨n.val - 1, h⟩))

theorem pool_pt (c : Dev nD) (b : Fin 8) (t : Fin 8192) (hl : Vec Ideal S16x256 .f32) (h : Kept m c (pt b t) hl) (l : Fin 256) :
    (pool (grid0.coords (pt b t)) (iblk m c 3 (pt b t)) hl : S512x256.Idx → EReal) (ix2 (rw_ t) l)
      = pooled (windowOf (l.val / 64)) (fun t => aPu m c (ix3 b t l)) t := by
  have hp : (pt b t).val = 16 * b.val + t.val / 512 := rfl
  have hlt := lt128 (pt b t)
  refine pool_apply (grid0.coords (pt b t)) (iblk m c 3 (pt b t)) hl t (fun t => aPu m c (ix3 b t l)) ?_ l (fun r => ?_) (fun hq i => ?_) (fun hq i => ?_)
  · rw [coord1, hp]
    omega
  · refine (iblk3 m c (pt b t) r l).trans (congrArg₂ (fun i j => aPu m c (ix3 i j l)) (Fin.ext ?_) (Fin.ext ?_))
    · show (16 * b.val + t.val / 512) / 16 = b.val
      omega
    · show 512 * ((16 * b.val + t.val / 512) % 16) + r.val = 512 * (t.val / 512) + r.val
      omega
  · rw [h.1 (by rw [hp]; omega)]
    exact zeros_apply i l
  · have hn : (pt b t).val - 1 < cfg0.N := lt_of_le_of_lt (Nat.sub_le _ _) (pt b t).isLt
    rw [h.2 (by rw [hp]; omega) hn, pay4_apply]
    refine (iblk3 m c ⟨(pt b t).val - 1, hn⟩ _ l).trans (congrArg₂ (fun i j => aPu m c (ix3 i j l)) (Fin.ext ?_) (Fin.ext ?_))
    · show (16 * b.val + t.val / 512 - 1) / 16 = b.val
      omega
    · show 512 * ((16 * b.val + t.val / 512 - 1) % 16) + (496 + i.val) = 512 * (t.val / 512 - 1) + (496 + i.val)
      omega

/-- The mixed rows of a block. -/
def mixed (n : Fin cfg0.N) (c : Dev nD) (hl : Vec Ideal S16x256 .f32) : FVec Ideal S512x1024 .f32 :=
  k0_pay13 (pool (grid0.coords n) (iblk m c 3 n) hl) (iblk m c 8 n) (iblk m c 9 n) (iblk m c 4 n) (iblk m c 0 n) (iblk m c 1 n) (iblk m c 5 n) (iblk m c 2 n)
    (iblk m c 6 n) (iblk m c 7 n)

theorem mixed_pt (c : Dev nD) (b : Fin 8) (t : Fin 8192) (hl : Vec Ideal S16x256 .f32) (h : Kept m c (pt b t) hl) (d : Fin 1024) :
    (mixed m (pt b t) c hl : S512x1024.Idx → EReal) (ix2 (rw_ t) d) = mixAt m c b t d := by
  unfold mixed mixAt
  refine mix_apply (pool (grid0.coords (pt b t)) (iblk m c 3 (pt b t)) hl) (iblk m c 8 (pt b t)) (iblk m c 9 (pt b t)) (iblk m c 4 (pt b t)) (iblk m c 0 (pt b t))
    (iblk m c 1 (pt b t)) (iblk m c 5 (pt b t)) (iblk m c 2 (pt b t)) (iblk m c 6 (pt b t)) (iblk m c 7 (pt b t)) (rw_ t) d _ _ _ _ _ t _ _ _
    (fun l => pool_pt m c b t hl h l)
    (fun l => ⟨fun k => (iblk8 m c _ _ _).trans (wbd_own m c l k), fun k hk => (iblk8 m c _ _ _).trans (wbd_other m c l k hk)⟩)
    (fun l => (iblk9 m c _ _ _).trans (sc_apply m c l)) (fun l => iblk4_pt m c b t l) (fun d => iblk0_pt m c b t d)
    ⟨fun a k => (iblk1_pt m c b t _).trans (yg_apply m c b t a k), fun k hk => (iblk1_pt m c b t _).trans (yg_zero m c b t k hk)⟩
    (fun a k => (iblk5 m c _ _ _).trans (wg_apply m c a k d)) (fun k => iblk2_pt m c b t k)
    (fun k => (iblk6 m c _ _ _).trans (wd_apply m c k d)) (fun k => (iblk7 m c _ _ _).trans (wp_apply m c k d))

end Cert.Hand.MixFinal

end
-- ==== Proof.MixFinalArr.lean ====
module

public import proofs.«01_k».proof.Proof.MixFinalBlocks

@[expose] public section

noncomputable section

/-! What each case of the body leaves in the result block and in the kept rows, and the result array entry by entry. -/

namespace Cert.Hand.MixFinal

open Cert.MixFinalIdeal Cert.MixFinalIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

set_option maxRecDepth 16384 in
set_option maxHeartbeats 400000 in
theorem out0_B_11_eq (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x384 .bf16) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S16x256 .f32) (harg14 : arg14.IsWhole) (hc0 : ¬cond0_0 i)
    (x0 : Vec Ideal S1x512x1024 .f32) (x1 : Vec Ideal S1x512x512 .bf16) (x2 : Vec Ideal S1x512x384 .bf16) (x3 : Vec Ideal S1x512x256 .f32) (x4 : Vec Ideal S1x512x256 .f32) (x5 : Vec Ideal S512x1024 .bf16) (x6 : Vec Ideal S384x1024 .bf16) (x7 : Vec Ideal S256x1024 .bf16) (x8 : Vec Ideal S256x256 .bf16) (x9 : Vec Ideal S1x256 .f32) (x10 : Vec Ideal S1x1024 .f32) (xs0 : Vec Ideal S16x256 .f32) :
    out0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 = k0_pay1 (k0_pay13 (pool i x3 xs0) x8 x9 x4 x0 x1 x5 x2 x6 x7) (k0_pay14 (pool i x3 xs0) x8 x9 x4 x0 x1 x5 x2 x6 x7) k0_pay15 x10 := by
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0)]
  unfold kernelRun0_B
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  unfold pool
  rfl

set_option maxRecDepth 16384 in
set_option maxHeartbeats 400000 in
theorem out0_A_11_eq (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x384 .bf16) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S16x256 .f32) (harg14 : arg14.IsWhole) (hc0 : cond0_0 i)
    (x0 : Vec Ideal S1x512x1024 .f32) (x1 : Vec Ideal S1x512x512 .bf16) (x2 : Vec Ideal S1x512x384 .bf16) (x3 : Vec Ideal S1x512x256 .f32) (x4 : Vec Ideal S1x512x256 .f32) (x5 : Vec Ideal S512x1024 .bf16) (x6 : Vec Ideal S384x1024 .bf16) (x7 : Vec Ideal S256x1024 .bf16) (x8 : Vec Ideal S256x256 .bf16) (x9 : Vec Ideal S1x256 .f32) (x10 : Vec Ideal S1x1024 .f32) :
    out0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay1 (k0_pay13 (pool i x3 zeros) x8 x9 x4 x0 x1 x5 x2 x6 x7) (k0_pay14 (pool i x3 zeros) x8 x9 x4 x0 x1 x5 x2 x6 x7) k0_pay15 x10 := by
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_unit_zero hz3]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  unfold pool zeros
  rfl

set_option maxRecDepth 16384 in
set_option maxHeartbeats 400000 in
theorem sout0_B_0_eq (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x384 .bf16) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S16x256 .f32) (harg14 : arg14.IsWhole) (hc0 : ¬cond0_0 i)
    (x0 : Vec Ideal S1x512x1024 .f32) (x1 : Vec Ideal S1x512x512 .bf16) (x2 : Vec Ideal S1x512x384 .bf16) (x3 : Vec Ideal S1x512x256 .f32) (x4 : Vec Ideal S1x512x256 .f32) (x5 : Vec Ideal S512x1024 .bf16) (x6 : Vec Ideal S384x1024 .bf16) (x7 : Vec Ideal S256x1024 .bf16) (x8 : Vec Ideal S256x256 .bf16) (x9 : Vec Ideal S1x256 .f32) (x10 : Vec Ideal S1x1024 .f32) (xs0 : Vec Ideal S16x256 .f32) :
    sout0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0 = k0_pay4 x3 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 xs0)]
  unfold kernelRun0_B
  dsimp only
  sl_unfold_words
  rw [View.canon_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]

set_option maxRecDepth 16384 in
set_option maxHeartbeats 400000 in
theorem sout0_A_0_eq (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x384 .bf16) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1x512x1024 .f32) (harg13 : arg13.IsWhole) (arg14 : Memref sig .tc .vmem S16x256 .f32) (harg14 : arg14.IsWhole) (hc0 : cond0_0 i)
    (x0 : Vec Ideal S1x512x1024 .f32) (x1 : Vec Ideal S1x512x512 .bf16) (x2 : Vec Ideal S1x512x384 .bf16) (x3 : Vec Ideal S1x512x256 .f32) (x4 : Vec Ideal S1x512x256 .f32) (x5 : Vec Ideal S512x1024 .bf16) (x6 : Vec Ideal S384x1024 .bf16) (x7 : Vec Ideal S256x1024 .bf16) (x8 : Vec Ideal S256x256 .bf16) (x9 : Vec Ideal S1x256 .f32) (x10 : Vec Ideal S1x1024 .f32) :
    sout0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10 = k0_pay4 x3 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 hc0 x0 x1 x2 x3 x4 x5 x6 x7 x8 x9 x10)]
  unfold kernelRun0_A
  dsimp only
  sl_unfold_words
  rw [View.canon_cons_unit_zero hz2]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg14.read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]

variable (m : (ℓ : Loc nD τ sig) → Buf (Elt Ideal) ℓ)

/-- Every point leaves its block's last sixteen rows. -/
theorem left_eq (c : Dev nD) (n : Fin cfg0.N) : (outsAt0 m c n.val n.isLt).2 = k0_pay4 (iblk m c 3 n) := by
  by_cases h0 : n.val % 16 = 0
  · rw [outsAt0_A m c n h0]
    dsimp only
    rw [sout0_A_0_eq]
  · rw [outsAt0_B m c n h0]
    dsimp only
    rw [sout0_B_0_eq]

/-- A point's result block, over rows kept as the points before left them. -/
theorem outs_eq (c : Dev nD) (n : Fin cfg0.N) : ∃ hl, Kept m c n hl ∧ (outsAt0 m c n.val n.isLt).1
    = k0_pay1 (mixed m n c hl) (k0_pay14 (pool (grid0.coords n) (iblk m c 3 n) hl) (iblk m c 8 n) (iblk m c 9 n) (iblk m c 4 n) (iblk m c 0 n) (iblk m c 1 n)
        (iblk m c 5 n) (iblk m c 2 n) (iblk m c 6 n) (iblk m c 7 n)) k0_pay15 (iblk m c 10 n) := by
  by_cases h0 : n.val % 16 = 0
  · refine ⟨zeros, ⟨fun _ => rfl, fun h => absurd h0 h⟩, ?_⟩
    rw [outsAt0_A m c n h0]
    dsimp only
    rw [out0_A_11_eq]
    rfl
  · refine ⟨(outsAt0 m c (n.val - 1) (Nat.lt_of_le_of_lt (Nat.sub_le _ _) n.isLt)).2, ⟨fun h => absurd h h0, fun _ h => left_eq m c ⟨n.val - 1, h⟩⟩, ?_⟩
    rw [outsAt0_B m c n h0]
    dsimp only
    rw [out0_B_11_eq]
    rfl

set_option maxRecDepth 16384 in
set_option maxHeartbeats 400000 in
theorem norm_apply (v80 : FVec Ideal S512x256 .bf16) (v81 : Vec Ideal S256x256 .bf16) (v84 : Vec Ideal S1x256 .f32) (v88 : Vec Ideal S1x512x256 .f32)
    (v94 : Vec Ideal S1x512x1024 .f32) (v96 : Vec Ideal S1x512x512 .bf16) (v98 : Vec Ideal S512x1024 .bf16) (v102 : Vec Ideal S1x512x384 .bf16)
    (v104 : Vec Ideal S384x1024 .bf16) (v108 : Vec Ideal S256x1024 .bf16) (v122 : Vec Ideal S1x1024 .f32) (r : Fin 512) (d : Fin 1024) :
    (k0_pay1 (k0_pay13 v80 v81 v84 v88 v94 v96 v98 v102 v104 v108) (k0_pay14 v80 v81 v84 v88 v94 v96 v98 v102 v104 v108) k0_pay15 v122 : S1x512x1024.Idx → EReal) (ix3 0 r d)
      = rowNorm (fun d => (k0_pay13 v80 v81 v84 v88 v94 v96 v98 v102 v104 v108 : S512x1024.Idx → EReal) (ix2 r d)) (fun d => (v122 : S1x1024.Idx → EReal) (ix2 0 d)) d := by
  pointwise [k0_pay1, k0_pay14, k0_pay15]
  rfl

theorem out_apply (c : Dev nD) (b : Fin 8) (t : Fin 8192) (d : Fin 1024) :
    ((outsAt0 m c (pt b t).val (pt b t).isLt).1 : S1x512x1024.Idx → EReal) (ix3 0 (rw_ t) d) = rowNorm (mixAt m c b t) (fun d => aG m c (ix1 d)) d := by
  obtain ⟨hl, hk, e⟩ := outs_eq m c (pt b t)
  rw [e]
  unfold mixed
  refine (norm_apply (pool (grid0.coords (pt b t)) (iblk m c 3 (pt b t)) hl) (iblk m c 8 (pt b t)) (iblk m c 9 (pt b t)) (iblk m c 4 (pt b t)) (iblk m c 0 (pt b t))
    (iblk m c 1 (pt b t)) (iblk m c 5 (pt b t)) (iblk m c 2 (pt b t)) (iblk m c 6 (pt b t)) (iblk m c 7 (pt b t)) (iblk m c 10 (pt b t)) (rw_ t) d).trans ?_
  exact congrArg₂ (fun x g => rowNorm x g d) (funext fun d => mixed_pt m c b t hl hk d) (funext fun d => (iblk10 m c _ _ _).trans (gain_apply m c d))

theorem idx11 : ∀ t : Fin cfg0.N, win0_11.index t = ![t.val / 16, t.val % 16, 0] :=
  (by decide +kernel : ∀ t : Fin grid0.N, win0_11.index t = ![t.val / 16, t.val % 16, 0])

set_option maxRecDepth 16384 in
set_option maxHeartbeats 400000 in
theorem arr11 (c : Dev nD) (b : Fin 8) (t : Fin 8192) (q : Fin 1024) :
    ((dats m 0 c).arrAt 11 cfg0.N : S8x8192x1024.Idx → EReal) (ix3 b t q) = rowNorm (mixAt m c b t) (fun d => aG m c (ix1 d)) q := by
  have hi := idx11 (pt b t)
  have hp : (pt b t).val = 16 * b.val + t.val / 512 := rfl
  have e : ((cfg0.win 11).blk (pt b t)).view.emb (ix3 0 (rw_ t) q : S1x512x1024.Idx) = (ix3 b t q : S8x8192x1024.Idx) := by
    refine funext fun a => Fin.ext ?_
    match a with
    | ⟨0, _⟩ => show win0_11.index (pt b t) 0 * 1 + 1 * 0 = b.val; rw [hi, hp]; show (16 * b.val + t.val / 512) / 16 * 1 + 1 * 0 = b.val; omega
    | ⟨1, _⟩ => show win0_11.index (pt b t) 1 * 512 + 1 * (t.val % 512) = t.val; rw [hi, hp]; show (16 * b.val + t.val / 512) % 16 * 512 + 1 * (t.val % 512) = t.val; omega
    | ⟨2, _⟩ => show win0_11.index (pt b t) 2 * 1024 + 1 * q.val = q.val; rw [hi]; show 0 * 1024 + 1 * q.val = q.val; omega
  have s := (dats m 0 c).arrAt_emb_eq_flushed 11 Cert.MixFinalIdeal.Value.disjoint11 (pt b t) (flush0_11 _) (ix3 0 (rw_ t) q : S1x512x1024.Idx)
  rw [e] at s
  refine s.trans ?_
  show (cfg0.win 11).cut (grid0.coords (pt b t)) ((dats m 0 c).after 11 (pt b t)) (ix3 0 (rw_ t) q : S1x512x1024.Idx) = _
  rw [after0_11]
  exact out_apply m c b t q

end Cert.Hand.MixFinal

end
-- ==== Proof.MixFinalRef.lean ====
module

public import proofs.«01_k».proof.Proof.PoolSpec
public import proofs.«01_k».proof.Proof.ProjSpec
public import proofs.«01_k».proof.Proof.Gen.MixFinalRefIdeal.Run
public import Idealize.ShloMosaic.Lib.Pointwise

@[expose] public section

noncomputable section

/-! The reference's row with the three branches' projections added, entry by entry. -/

namespace Cert.Hand.MixFinalRef

open Cert.MixFinalRefIdeal Cert.MixFinalRefIdeal.Gen Idealize.ShloMosaic Idealize.ShloMosaic.TcCoe Idealize.SL.Sem

set_option maxRecDepth 16384
set_option maxHeartbeats 400000

/-- Group 0 of the pooled branch's input. -/
def group0 (u : FVec Ideal S8x8192x256 .f32) : FVec Ideal S8x8192x64 .f32 :=
  shapeCast _ (extractStridedSlice S8x8192x1x64 ![0, 0, 0, 0] (shapeCast _ u shapeCasts_S8x8192x256_S8x8192x4x64) slices_S8x8192x4x64_S8x8192x1x64_0_0_0_0) shapeCasts_S8x8192x1x64_S8x8192x64

theorem group0_apply (u : FVec Ideal S8x8192x256 .f32) (b : Fin 8) (t : Fin 8192) (l : Fin 64) :
    (group0 u : S8x8192x64.Idx → EReal) (ix3 b t l) = (u : S8x8192x256.Idx → EReal) (ix3 b t ⟨64 * 0 + l.val, by omega⟩) := by
  pointwise [group0]
  try exact congrArg (fun k => (u : S8x8192x256.Idx → EReal) (ix3 b t k)) (Fin.ext (by show _ = 64 * 0 + l.val; omega))

/-- Group 0's window sums. -/
def sums0 (u : FVec Ideal S8x8192x256 .f32) : FVec Ideal S8x8192x64 .f32 :=
  Host.reduceWindowAdd ![1, 2, 1] ![1, 1, 1] ![0, 1, 0] ![0, 0, 0] (group0 u) (broadcastInDim S_ ![] bcast_S_S_ (constant S_ .f32 0x00000000#32)) reduceWindows_S8x8192x64_S8x8192x64_w1s1p0_0_w2s1p1_0_w1s1p0_0 h_S_

theorem sums0_apply (u : FVec Ideal S8x8192x256 .f32) (b : Fin 8) (t : Fin 8192) (l : Fin 64) :
    (sums0 u : S8x8192x64.Idx → EReal) (ix3 b t l)
      = windowSum 2 (fun t => (u : S8x8192x256.Idx → EReal) (ix3 b t ⟨64 * 0 + l.val, by omega⟩)) t := by
  refine (reduceWindow_rows 2 1 rfl (group0 u) S_ _ h_S_ ?_ _ b t l).trans (congrArg (fun f => windowSum 2 f t) (funext fun t => group0_apply u b t l))
  show FloatOps.ofBits (F := Ideal) .f32 0x00000000#32 = 0
  exact Ideal.ofBits_zero_f32

/-- Group 0's means less its input, one group wide. -/
def means0 (u : FVec Ideal S8x8192x256 .f32) : FVec Ideal S8x8192x1x64 .f32 :=
  broadcastInDim S8x8192x1x64 ![0, 1, 3] bcast_S8x8192x64_S8x8192x1x64_0_1_3 (subf (Host.divf (sums0 u) (broadcastInDim S8x8192x64 ![0, 1, 2] bcast_S1x8192x1_S8x8192x64_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 2#32))))))) (group0 u))

theorem means0_apply (u : FVec Ideal S8x8192x256 .f32) (b : Fin 8) (t : Fin 8192) (l : Fin 64) :
    (means0 u : S8x8192x1x64.Idx → EReal) (ix4 b t 0 l)
      = pooled 2 (fun t => (u : S8x8192x256.Idx → EReal) (ix3 b t ⟨64 * 0 + l.val, by omega⟩)) t := by
  pointwise [means0]
  rw [sums0_apply, group0_apply]
  first | rfl | (simp only [Nat.mul_zero, Nat.zero_add]; rfl)

/-- Group 1 of the pooled branch's input. -/
def group1 (u : FVec Ideal S8x8192x256 .f32) : FVec Ideal S8x8192x64 .f32 :=
  shapeCast _ (extractStridedSlice S8x8192x1x64 ![0, 0, 1, 0] (shapeCast _ u shapeCasts_S8x8192x256_S8x8192x4x64) slices_S8x8192x4x64_S8x8192x1x64_0_0_1_0) shapeCasts_S8x8192x1x64_S8x8192x64

theorem group1_apply (u : FVec Ideal S8x8192x256 .f32) (b : Fin 8) (t : Fin 8192) (l : Fin 64) :
    (group1 u : S8x8192x64.Idx → EReal) (ix3 b t l) = (u : S8x8192x256.Idx → EReal) (ix3 b t ⟨64 * 1 + l.val, by omega⟩) := by
  pointwise [group1]
  try exact congrArg (fun k => (u : S8x8192x256.Idx → EReal) (ix3 b t k)) (Fin.ext (by show _ = 64 * 1 + l.val; omega))

/-- Group 1's window sums. -/
def sums1 (u : FVec Ideal S8x8192x256 .f32) : FVec Ideal S8x8192x64 .f32 :=
  Host.reduceWindowAdd ![1, 4, 1] ![1, 1, 1] ![0, 3, 0] ![0, 0, 0] (group1 u) (broadcastInDim S_ ![] bcast_S_S_ (constant S_ .f32 0x00000000#32)) reduceWindows_S8x8192x64_S8x8192x64_w1s1p0_0_w4s1p3_0_w1s1p0_0 h_S_

theorem sums1_apply (u : FVec Ideal S8x8192x256 .f32) (b : Fin 8) (t : Fin 8192) (l : Fin 64) :
    (sums1 u : S8x8192x64.Idx → EReal) (ix3 b t l)
      = windowSum 4 (fun t => (u : S8x8192x256.Idx → EReal) (ix3 b t ⟨64 * 1 + l.val, by omega⟩)) t := by
  refine (reduceWindow_rows 4 3 rfl (group1 u) S_ _ h_S_ ?_ _ b t l).trans (congrArg (fun f => windowSum 4 f t) (funext fun t => group1_apply u b t l))
  show FloatOps.ofBits (F := Ideal) .f32 0x00000000#32 = 0
  exact Ideal.ofBits_zero_f32

/-- Group 1's means less its input, one group wide. -/
def means1 (u : FVec Ideal S8x8192x256 .f32) : FVec Ideal S8x8192x1x64 .f32 :=
  broadcastInDim S8x8192x1x64 ![0, 1, 3] bcast_S8x8192x64_S8x8192x1x64_0_1_3 (subf (Host.divf (sums1 u) (broadcastInDim S8x8192x64 ![0, 1, 2] bcast_S1x8192x1_S8x8192x64_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 4#32))))))) (group1 u))

theorem means1_apply (u : FVec Ideal S8x8192x256 .f32) (b : Fin 8) (t : Fin 8192) (l : Fin 64) :
    (means1 u : S8x8192x1x64.Idx → EReal) (ix4 b t 0 l)
      = pooled 4 (fun t => (u : S8x8192x256.Idx → EReal) (ix3 b t ⟨64 * 1 + l.val, by omega⟩)) t := by
  pointwise [means1]
  rw [sums1_apply, group1_apply]
  first | rfl | (simp only [Nat.mul_zero, Nat.zero_add]; rfl)

/-- Group 2 of the pooled branch's input. -/
def group2 (u : FVec Ideal S8x8192x256 .f32) : FVec Ideal S8x8192x64 .f32 :=
  shapeCast _ (extractStridedSlice S8x8192x1x64 ![0, 0, 2, 0] (shapeCast _ u shapeCasts_S8x8192x256_S8x8192x4x64) slices_S8x8192x4x64_S8x8192x1x64_0_0_2_0) shapeCasts_S8x8192x1x64_S8x8192x64

theorem group2_apply (u : FVec Ideal S8x8192x256 .f32) (b : Fin 8) (t : Fin 8192) (l : Fin 64) :
    (group2 u : S8x8192x64.Idx → EReal) (ix3 b t l) = (u : S8x8192x256.Idx → EReal) (ix3 b t ⟨64 * 2 + l.val, by omega⟩) := by
  pointwise [group2]
  try exact congrArg (fun k => (u : S8x8192x256.Idx → EReal) (ix3 b t k)) (Fin.ext (by show _ = 64 * 2 + l.val; omega))

/-- Group 2's window sums. -/
def sums2 (u : FVec Ideal S8x8192x256 .f32) : FVec Ideal S8x8192x64 .f32 :=
  Host.reduceWindowAdd ![1, 8, 1] ![1, 1, 1] ![0, 7, 0] ![0, 0, 0] (group2 u) (broadcastInDim S_ ![] bcast_S_S_ (constant S_ .f32 0x00000000#32)) reduceWindows_S8x8192x64_S8x8192x64_w1s1p0_0_w8s1p7_0_w1s1p0_0 h_S_

theorem sums2_apply (u : FVec Ideal S8x8192x256 .f32) (b : Fin 8) (t : Fin 8192) (l : Fin 64) :
    (sums2 u : S8x8192x64.Idx → EReal) (ix3 b t l)
      = windowSum 8 (fun t => (u : S8x8192x256.Idx → EReal) (ix3 b t ⟨64 * 2 + l.val, by omega⟩)) t := by
  refine (reduceWindow_rows 8 7 rfl (group2 u) S_ _ h_S_ ?_ _ b t l).trans (congrArg (fun f => windowSum 8 f t) (funext fun t => group2_apply u b t l))
  show FloatOps.ofBits (F := Ideal) .f32 0x00000000#32 = 0
  exact Ideal.ofBits_zero_f32

/-- Group 2's means less its input, one group wide. -/
def means2 (u : FVec Ideal S8x8192x256 .f32) : FVec Ideal S8x8192x1x64 .f32 :=
  broadcastInDim S8x8192x1x64 ![0, 1, 3] bcast_S8x8192x64_S8x8192x1x64_0_1_3 (subf (Host.divf (sums2 u) (broadcastInDim S8x8192x64 ![0, 1, 2] bcast_S1x8192x1_S8x8192x64_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 8#32))))))) (group2 u))

theorem means2_apply (u : FVec Ideal S8x8192x256 .f32) (b : Fin 8) (t : Fin 8192) (l : Fin 64) :
    (means2 u : S8x8192x1x64.Idx → EReal) (ix4 b t 0 l)
      = pooled 8 (fun t => (u : S8x8192x256.Idx → EReal) (ix3 b t ⟨64 * 2 + l.val, by omega⟩)) t := by
  pointwise [means2]
  rw [sums2_apply, group2_apply]
  first | rfl | (simp only [Nat.mul_zero, Nat.zero_add]; rfl)

/-- Group 3 of the pooled branch's input. -/
def group3 (u : FVec Ideal S8x8192x256 .f32) : FVec Ideal S8x8192x64 .f32 :=
  shapeCast _ (extractStridedSlice S8x8192x1x64 ![0, 0, 3, 0] (shapeCast _ u shapeCasts_S8x8192x256_S8x8192x4x64) slices_S8x8192x4x64_S8x8192x1x64_0_0_3_0) shapeCasts_S8x8192x1x64_S8x8192x64

theorem group3_apply (u : FVec Ideal S8x8192x256 .f32) (b : Fin 8) (t : Fin 8192) (l : Fin 64) :
    (group3 u : S8x8192x64.Idx → EReal) (ix3 b t l) = (u : S8x8192x256.Idx → EReal) (ix3 b t ⟨64 * 3 + l.val, by omega⟩) := by
  pointwise [group3]
  try exact congrArg (fun k => (u : S8x8192x256.Idx → EReal) (ix3 b t k)) (Fin.ext (by show _ = 64 * 3 + l.val; omega))

/-- Group 3's window sums. -/
def sums3 (u : FVec Ideal S8x8192x256 .f32) : FVec Ideal S8x8192x64 .f32 :=
  Host.reduceWindowAdd ![1, 16, 1] ![1, 1, 1] ![0, 15, 0] ![0, 0, 0] (group3 u) (broadcastInDim S_ ![] bcast_S_S_ (constant S_ .f32 0x00000000#32)) reduceWindows_S8x8192x64_S8x8192x64_w1s1p0_0_w16s1p15_0_w1s1p0_0 h_S_

theorem sums3_apply (u : FVec Ideal S8x8192x256 .f32) (b : Fin 8) (t : Fin 8192) (l : Fin 64) :
    (sums3 u : S8x8192x64.Idx → EReal) (ix3 b t l)
      = windowSum 16 (fun t => (u : S8x8192x256.Idx → EReal) (ix3 b t ⟨64 * 3 + l.val, by omega⟩)) t := by
  refine (reduceWindow_rows 16 15 rfl (group3 u) S_ _ h_S_ ?_ _ b t l).trans (congrArg (fun f => windowSum 16 f t) (funext fun t => group3_apply u b t l))
  show FloatOps.ofBits (F := Ideal) .f32 0x00000000#32 = 0
  exact Ideal.ofBits_zero_f32

/-- Group 3's means less its input, one group wide. -/
def means3 (u : FVec Ideal S8x8192x256 .f32) : FVec Ideal S8x8192x1x64 .f32 :=
  broadcastInDim S8x8192x1x64 ![0, 1, 3] bcast_S8x8192x64_S8x8192x1x64_0_1_3 (subf (Host.divf (sums3 u) (broadcastInDim S8x8192x64 ![0, 1, 2] bcast_S1x8192x1_S8x8192x64_0_1_2 (broadcastInDim S1x8192x1 ![1] bcast_S8192_S1x8192x1_1 (sitofp .f32 (minsi (addi (iotaInDim S8192 32 0) (broadcastInDim S8192 ![] bcast_S_S8192 (constantI S_ 32 1#32))) (broadcastInDim S8192 ![] bcast_S_S8192 (constantI S_ 32 16#32))))))) (group3 u))

theorem means3_apply (u : FVec Ideal S8x8192x256 .f32) (b : Fin 8) (t : Fin 8192) (l : Fin 64) :
    (means3 u : S8x8192x1x64.Idx → EReal) (ix4 b t 0 l)
      = pooled 16 (fun t => (u : S8x8192x256.Idx → EReal) (ix3 b t ⟨64 * 3 + l.val, by omega⟩)) t := by
  pointwise [means3]
  rw [sums3_apply, group3_apply]
  first | rfl | (simp only [Nat.mul_zero, Nat.zero_add]; rfl)

/-- The four groups side by side. -/
def means (u : FVec Ideal S8x8192x256 .f32) : FVec Ideal S8x8192x4x64 .f32 :=
  concatenate S8x8192x4x64 2 [⟨S8x8192x1x64, means0 u⟩, ⟨S8x8192x1x64, means1 u⟩, ⟨S8x8192x1x64, means2 u⟩, ⟨S8x8192x1x64, means3 u⟩] concatenates_S8x8192x1x64_S8x8192x1x64_S8x8192x1x64_S8x8192x1x64_S8x8192x4x64_d2

theorem means_at_0 (u : FVec Ideal S8x8192x256 .f32) (b : Fin 8) (t : Fin 8192) (l : Fin 64) :
    (means u : S8x8192x4x64.Idx → EReal) (ix4 b t 0 l) = (means0 u : S8x8192x1x64.Idx → EReal) (ix4 b t 0 l) := by
  pointwise [means]
  try rfl

theorem means_at_1 (u : FVec Ideal S8x8192x256 .f32) (b : Fin 8) (t : Fin 8192) (l : Fin 64) :
    (means u : S8x8192x4x64.Idx → EReal) (ix4 b t 1 l) = (means1 u : S8x8192x1x64.Idx → EReal) (ix4 b t 0 l) := by
  pointwise [means]
  try rfl

theorem means_at_2 (u : FVec Ideal S8x8192x256 .f32) (b : Fin 8) (t : Fin 8192) (l : Fin 64) :
    (means u : S8x8192x4x64.Idx → EReal) (ix4 b t 2 l) = (means2 u : S8x8192x1x64.Idx → EReal) (ix4 b t 0 l) := by
  pointwise [means]
  try rfl

theorem means_at_3 (u : FVec Ideal S8x8192x256 .f32) (b : Fin 8) (t : Fin 8192) (l : Fin 64) :
    (means u : S8x8192x4x64.Idx → EReal) (ix4 b t 3 l) = (means3 u : S8x8192x1x64.Idx → EReal) (ix4 b t 0 l) := by
  pointwise [means]
  try rfl

theorem means_apply (u : FVec Ideal S8x8192x256 .f32) (b : Fin 8) (t : Fin 8192) (g : Fin 4) (l : Fin 64) :
    (means u : S8x8192x4x64.Idx → EReal) (ix4 b t g l)
      = pooled (windowOf g.val) (fun t => (u : S8x8192x256.Idx → EReal) (ix3 b t ⟨64 * g.val + l.val, by omega⟩)) t := by
  match g with
  | ⟨0, _⟩ => exact (means_at_0 u b t l).trans (means0_apply u b t l)
  | ⟨1, _⟩ => exact (means_at_1 u b t l).trans (means1_apply u b t l)
  | ⟨2, _⟩ => exact (means_at_2 u b t l).trans (means2_apply u b t l)
  | ⟨3, _⟩ => exact (means_at_3 u b t l).trans (means3_apply u b t l)

/-- The pooled branch before its scale and gate. -/
def lanes (u : FVec Ideal S8x8192x256 .f32) (pw : FVec Ideal S4x64x64 .f32) : FVec Ideal S8x8192x256 .f32 :=
  shapeCast _ (transpose S8x8192x4x64 [2, 3, 0, 1] (Host.dotGeneral dot_S4x64x64_S8x8192x4x64_S4x64x8x8192_1_3_2_01_0_2 none pw (means u)) transposes_S4x64x8x8192_S8x8192x4x64_2_3_0_1) shapeCasts_S8x8192x4x64_S8x8192x256

theorem lanes_apply (u : FVec Ideal S8x8192x256 .f32) (pw : FVec Ideal S4x64x64 .f32) (b : Fin 8) (t : Fin 8192) (l : Fin 256) :
    (lanes u pw : S8x8192x256.Idx → EReal) (ix3 b t l) = poolLane (fun g k j => (pw : S4x64x64.Idx → EReal) (ix3 g k j))
      (fun t l => (u : S8x8192x256.Idx → EReal) (ix3 b t l)) t l := by
  unfold poolLane
  pointwise [lanes]
  refine Finset.sum_congr rfl fun k _ => ?_
  rw [mul_comm]
  refine congrArg₂ (· * ·) ((means_apply u b t _ k).trans ?_) ?_ <;> rfl

/-- The pooled branch. -/
def third (u pg : FVec Ideal S8x8192x256 .f32) (pw : FVec Ideal S4x64x64 .f32) (sc : FVec Ideal S256 .f32) : FVec Ideal S8x8192x256 .f32 :=
  mulf (mulf (lanes u pw) (broadcastInDim S8x8192x256 ![0, 1, 2] bcast_S1x1x256_S8x8192x256_0_1_2 (broadcastInDim S1x1x256 ![2] bcast_S256_S1x1x256_2 sc))) (mulf pg (Host.divf (broadcastInDim S8x8192x256 ![] bcast_S_S8x8192x256 (constant S_ .f32 0x3F800000#32)) (addf (broadcastInDim S8x8192x256 ![] bcast_S_S8x8192x256 (constant S_ .f32 0x3F800000#32)) (Host.exp (Host.negf pg)))))

theorem third_apply (u pg : FVec Ideal S8x8192x256 .f32) (pw : FVec Ideal S4x64x64 .f32) (sc : FVec Ideal S256 .f32) (b : Fin 8) (t : Fin 8192) (l : Fin 256) :
    (third u pg pw sc : S8x8192x256.Idx → EReal) (ix3 b t l) = poolLane (fun g k j => (pw : S4x64x64.Idx → EReal) (ix3 g k j))
      (fun t l => (u : S8x8192x256.Idx → EReal) (ix3 b t l)) t l * (sc : S256.Idx → EReal) (ix1 l)
      * ((pg : S8x8192x256.Idx → EReal) (ix3 b t l) * Ideal.logistic ((pg : S8x8192x256.Idx → EReal) (ix3 b t l))) := by
  pointwise [third]
  rw [lanes_apply]
  unfold Ideal.logistic
  have h1 : (FloatOps.ofBits (F := Ideal) FTy.f32 0x3F800000#32 : EReal) = 1 := Ideal.ofBits_one_f32
  try rw [h1]
  try rfl

/-- The three branches side by side. -/
def branches (yg yd : FVec Ideal S8x8192x384 .bf16) (y : FVec Ideal S8x8192x256 .f32) : FVec Ideal S8x8192x1024 .f32 :=
  concatenate S8x8192x1024 2 [⟨S8x8192x384, extf .f32 yg bitsLt_bf16_f32⟩, ⟨S8x8192x384, extf .f32 yd bitsLt_bf16_f32⟩, ⟨S8x8192x256, y⟩] concatenates_S8x8192x384_S8x8192x384_S8x8192x256_S8x8192x1024_d2

variable (yg yd : FVec Ideal S8x8192x384 .bf16) (y : FVec Ideal S8x8192x256 .f32)

theorem branches_0 (b : Fin 8) (t : Fin 8192) (k : Fin 384) :
    (branches yg yd y : S8x8192x1024.Idx → EReal) (ix3 b t ⟨k.val, by omega⟩) = (yg : S8x8192x384.Idx → EReal) (ix3 b t k) := by
  pointwise [branches]
  repeat (first | rw [dif_pos (by omega)] | rw [dif_neg (by omega)])
  try rfl

theorem branches_1 (b : Fin 8) (t : Fin 8192) (k : Fin 384) :
    (branches yg yd y : S8x8192x1024.Idx → EReal) (ix3 b t ⟨384 + k.val, by omega⟩) = (yd : S8x8192x384.Idx → EReal) (ix3 b t k) := by
  pointwise [branches]
  repeat (first | rw [dif_pos (by omega)] | rw [dif_neg (by omega)])
  try exact congrArg (fun k => (yd : S8x8192x384.Idx → EReal) (ix3 b t k)) (Fin.ext (by show _ = k.val; simp only []; omega))

theorem branches_2 (b : Fin 8) (t : Fin 8192) (k : Fin 256) :
    (branches yg yd y : S8x8192x1024.Idx → EReal) (ix3 b t ⟨768 + k.val, by omega⟩) = (y : S8x8192x256.Idx → EReal) (ix3 b t k) := by
  pointwise [branches]
  repeat (first | rw [dif_pos (by omega)] | rw [dif_neg (by omega)])
  try exact congrArg (fun k => (y : S8x8192x256.Idx → EReal) (ix3 b t k)) (Fin.ext (by show _ = k.val; simp only []; omega))

/-- A sum over the three branches' lanes. -/
theorem sum_three (f : Fin 1024 → EReal) : ∑ k, f k
    = ∑ k : Fin 384, f ⟨k.val, by omega⟩ + ∑ k : Fin 384, f ⟨384 + k.val, by omega⟩ + ∑ k : Fin 256, f ⟨768 + k.val, by omega⟩ :=
  ((Fin.sum_univ_add (a := 768) (b := 256) f).trans (congrArg (· + ∑ k : Fin 256, f ⟨768 + k.val, by omega⟩)
    (Fin.sum_univ_add (a := 384) (b := 384) fun k : Fin 768 => f ⟨k.val, by omega⟩)))

/-- The row with the projections added. -/
def refMix (x : FVec Ideal S8x8192x1024 .f32) (u pg : FVec Ideal S8x8192x256 .f32) (pw : FVec Ideal S4x64x64 .f32) (sc : FVec Ideal S256 .f32) (w : FVec Ideal S1024x1024 .f32) : FVec Ideal S8x8192x1024 .f32 :=
  addf x (Host.dotGeneral dot_S8x8192x1024_S1024x1024_S8x8192x1024_2_0_01_1_n_n none (branches yg yd (third u pg pw sc)) w)

theorem refMix_apply (x : FVec Ideal S8x8192x1024 .f32) (u pg : FVec Ideal S8x8192x256 .f32) (pw : FVec Ideal S4x64x64 .f32) (sc : FVec Ideal S256 .f32)
    (w : FVec Ideal S1024x1024 .f32) (b : Fin 8) (t : Fin 8192) (d : Fin 1024) :
    (refMix yg yd x u pg pw sc w : S8x8192x1024.Idx → EReal) (ix3 b t d)
      = mixRow (fun d => (x : S8x8192x1024.Idx → EReal) (ix3 b t d)) (fun k => (yg : S8x8192x384.Idx → EReal) (ix3 b t k)) (fun k => (yd : S8x8192x384.Idx → EReal) (ix3 b t k))
          (fun t l => (u : S8x8192x256.Idx → EReal) (ix3 b t l)) (fun l => (pg : S8x8192x256.Idx → EReal) (ix3 b t l)) t (fun g k j => (pw : S4x64x64.Idx → EReal) (ix3 g k j))
          (fun l => (sc : S256.Idx → EReal) (ix1 l)) (fun k d => (w : S1024x1024.Idx → EReal) (ix2 k d)) d := by
  unfold mixRow
  pointwise [refMix]
  rw [sum_three, ← add_assoc, ← add_assoc]
  refine congrArg₂ (· + ·) (congrArg₂ (· + ·) (congrArg (_ + ·) (Finset.sum_congr rfl fun k _ => ?_)) (Finset.sum_congr rfl fun k _ => ?_)) (Finset.sum_congr rfl fun k _ => ?_)
  · exact congrArg (· * _) (branches_0 yg yd _ b t k)
  · exact congrArg (· * _) (branches_1 yg yd _ b t k)
  · exact congrArg (· * _) ((branches_2 yg yd _ b t k).trans (third_apply u pg pw sc b t k))

/-- The normalised row. -/
def refNorm (y : FVec Ideal S8x8192x1024 .f32) (g : FVec Ideal S1024 .f32) : FVec Ideal S8x8192x1024 .f32 :=
  mulf (mulf y (broadcastInDim S8x8192x1024 ![0, 1, 2] bcast_S8x8192x1_S8x8192x1024_0_1_2 (Host.rsqrt (addf (Host.divf (broadcastInDim S8x8192x1 ![0, 1] bcast_S8x8192_S8x8192x1_0_1 (Host.reduceAdd (mulf y y) (constant S_ .f32 0x00000000#32) reducesTo_S8x8192x1024_S8x8192_d2 h_S_)) (broadcastInDim S8x8192x1 ![] bcast_S_S8x8192x1 (constant S_ .f32 0x44800000#32))) (broadcastInDim S8x8192x1 ![] bcast_S_S8x8192x1 (constant S_ .f32 0x358637BD#32)))))) (broadcastInDim S8x8192x1024 ![0, 1, 2] bcast_S1x1x1024_S8x8192x1024_0_1_2 (broadcastInDim S1x1x1024 ![2] bcast_S1024_S1x1x1024_2 g))

theorem refNorm_apply (y : FVec Ideal S8x8192x1024 .f32) (g : FVec Ideal S1024 .f32) (b : Fin 8) (t : Fin 8192) (d : Fin 1024) :
    (refNorm y g : S8x8192x1024.Idx → EReal) (ix3 b t d) = rowNorm (fun k => (y : S8x8192x1024.Idx → EReal) (ix3 b t k)) (fun k => (g : S1024.Idx → EReal) (ix1 k)) d := by
  pointwise [refNorm]
  try rfl

end Cert.Hand.MixFinalRef

end
-- ==== Proof.MixFinalValue.lean ====
module

public import proofs.«01_k».proof.Defs
public import proofs.«01_k».proof.Proof.MixFinalArr
public import proofs.«01_k».proof.Proof.MixFinalRef

@[expose] public section

noncomputable section

/-! The last mix's result is the reference's. -/

namespace Cert.Hand.MixFinal

open Cert.MixFinalIdeal Cert.MixFinalIdeal.Gen Idealize.ShloMosaic Idealize.ShloMosaic.TcCoe Idealize.SL.Sem

variable (m : (ℓ : Loc nD τ sig) → Buf (Elt Ideal) ℓ)

theorem eq_out (c : Dev nD) : (MixFinalRef.refNorm (MixFinalRef.refMix (m ((c : Thread nD τ).loc main_arg1)) (m ((c : Thread nD τ).loc main_arg2)) (m ((c : Thread nD τ).loc main_arg0))
    (m ((c : Thread nD τ).loc main_arg3)) (m ((c : Thread nD τ).loc main_arg4)) (m ((c : Thread nD τ).loc main_arg5)) (m ((c : Thread nD τ).loc main_arg6)) (m ((c : Thread nD τ).loc main_arg7)))
      (m ((c : Thread nD τ).loc main_arg8)) : S8x8192x1024.Idx → EReal) = ((dats m 0 c).arrAt 11 cfg0.N : S8x8192x1024.Idx → EReal) :=
  funext fun i => by
    rw [eq_ix3 i]
    refine ((MixFinalRef.refNorm_apply _ _ (i 0) (i 1) (i 2)).trans ?_).trans (arr11 m c (i 0) (i 1) (i 2)).symm
    exact congrArg (fun y => rowNorm y _ (i 2)) (funext fun d => MixFinalRef.refMix_apply _ _ _ _ _ _ _ _ (i 0) (i 1) d)

end Cert.Hand.MixFinal

open Idealize.ShloMosaic Idealize.ShloMosaic.TcCoe Idealize.SL.Sem Cert.MixFinalIdeal Cert.MixFinalIdeal.Gen

set_option maxRecDepth 16384 in
/-- The last mix, over ideal values, gives what its reference gives. -/
theorem Cert.Hand.mixFinal_algebraic : Cert.algebraic_MixFinalIdeal_MixFinalRefIdeal (hMixFinalIdeal := Cert.MixFinalIdeal.Gen.facts) (hMixFinalRefIdeal := Cert.MixFinalRefIdeal.Gen.facts) := by
  intro m g m' g' _ hm
  refine ⟨fun c => (dats m 0 c).arrAt 11 cfg0.N, Cert.MixFinalIdeal.Value.run_blocks m g,
    (θ_run Cert.MixFinalRefIdeal.defs _ _).mono (fun r h c => ?_) (Cert.MixFinalRefIdeal.Value.run m' g')⟩
  obtain ⟨a0, a1, a2, a3, a4, a5, a6, a7, a8⟩ := hm c
  have hc := h c
  refine ⟨hc.1.trans ?_, hc.2⟩
  refine Eq.trans ?_ (Cert.Hand.MixFinal.eq_out m c)
  rw [← a0, ← a1, ← a2, ← a3, ← a4, ← a5, ← a6, ← a7, ← a8]
  rfl

end
-- ==== Proof.MixProjectIdealRunA.lean ====
/- The body's run in the first tile of a sequence. -/
module

public import proofs.«01_k».proof.Proof.Gen.MixProjectIdeal.Frame.Runs

@[expose] public section

set_option maxRecDepth 16384

noncomputable section

namespace Cert.MixProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8000000 in
/-- What the body's stores leave in each output's staging memref, as pieces (last first) IN CASE A (`scf.if` 0 taken: points 0, 16, … 112: 8 of 128), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg2 : Memref sig .tc .vmem S1x512x1024 .f32) (harg2 : arg2.IsWhole) (arg3 : Memref sig .tc .vmem S1x512x512 .bf16) (harg3 : arg3.IsWhole) (arg4 : Memref sig .tc .vmem S1x512x384 .bf16) (harg4 : arg4.IsWhole) (arg5 : Memref sig .tc .vmem S1x512x256 .f32) (harg5 : arg5.IsWhole) (arg6 : Memref sig .tc .vmem S1x512x256 .f32) (harg6 : arg6.IsWhole) (arg7 : Memref sig .tc .vmem S512x1024 .bf16) (harg7 : arg7.IsWhole) (arg8 : Memref sig .tc .vmem S384x1024 .bf16) (harg8 : arg8.IsWhole) (arg9 : Memref sig .tc .vmem S256x1024 .bf16) (harg9 : arg9.IsWhole) (arg10 : Memref sig .tc .vmem S256x256 .bf16) (harg10 : arg10.IsWhole) (arg11 : Memref sig .tc .vmem S1x256 .f32) (harg11 : arg11.IsWhole) (arg12 : Memref sig .tc .vmem S1x1024 .f32) (harg12 : arg12.IsWhole) (arg13 : Memref sig .tc .vmem S1024x2944 .bf16) (harg13 : arg13.IsWhole) (arg14 : Memref sig .tc .vmem S904x1024 .bf16) (harg14 : arg14.IsWhole) (arg15 : Memref sig .tc .vmem S1x512x1024 .f32) (harg15 : arg15.IsWhole) (arg16 : Memref sig .tc .vmem S1x512x256 .f32) (harg16 : arg16.IsWhole) (arg17 : Memref sig .tc .vmem S1x512x256 .f32) (harg17 : arg17.IsWhole) (arg18 : Memref sig .tc .vmem S1x512x512 .f32) (harg18 : arg18.IsWhole) (arg19 : Memref sig .tc .vmem S1x512x512 .f32) (harg19 : arg19.IsWhole) (arg20 : Memref sig .tc .vmem S1x512x384 .bf16) (harg20 : arg20.IsWhole) (arg21 : Memref sig .tc .vmem S1x512x128 .bf16) (harg21 : arg21.IsWhole) (arg22 : Memref sig .tc .vmem S1x512x384 .f32) (harg22 : arg22.IsWhole) (arg23 : Memref sig .tc .vmem S1x512x256 .f32) (harg23 : arg23.IsWhole) (arg24 : Memref sig .tc .vmem S1x512x256 .f32) (harg24 : arg24.IsWhole) (arg25 : Memref sig .tc .vmem S1x384x512 .bf16) (harg25 : arg25.IsWhole) (arg26 : Memref sig .tc .vmem S1x384x512 .bf16) (harg26 : arg26.IsWhole) (arg27 : Memref sig .tc .vmem S1x128x512 .bf16) (harg27 : arg27.IsWhole) (arg28 : Memref sig .tc .vmem S1x8x512 .f32) (harg28 : arg28.IsWhole) (arg29 : Memref sig .tc .vmem S16x256 .f32) (harg29 : arg29.IsWhole) (hc0 : cond0_0 i)
    (x0 : Vec F S1x512x1024 .f32) (x1 : Vec F S1x512x512 .bf16) (x2 : Vec F S1x512x384 .bf16) (x3 : Vec F S1x512x256 .f32) (x4 : Vec F S1x512x256 .f32) (x5 : Vec F S512x1024 .bf16) (x6 : Vec F S384x1024 .bf16) (x7 : Vec F S256x1024 .bf16) (x8 : Vec F S256x256 .bf16) (x9 : Vec F S1x256 .f32) (x10 : Vec F S1x1024 .f32) (x11 : Vec F S1024x2944 .bf16) (x12 : Vec F S904x1024 .bf16) :
    Σ' (L13 : List (View.Piece (Elt F) S1x512x1024 .f32)), Σ' (L14 : List (View.Piece (Elt F) S1x512x256 .f32)), Σ' (L15 : List (View.Piece (Elt F) S1x512x256 .f32)), Σ' (L16 : List (View.Piece (Elt F) S1x512x512 .f32)), Σ' (L17 : List (View.Piece (Elt F) S1x512x512 .f32)), Σ' (L18 : List (View.Piece (Elt F) S1x512x384 .bf16)), Σ' (L19 : List (View.Piece (Elt F) S1x512x128 .bf16)), Σ' (L20 : List (View.Piece (Elt F) S1x512x384 .f32)), Σ' (L21 : List (View.Piece (Elt F) S1x512x256 .f32)), Σ' (L22 : List (View.Piece (Elt F) S1x512x256 .f32)), Σ' (L23 : List (View.Piece (Elt F) S1x384x512 .bf16)), Σ' (L24 : List (View.Piece (Elt F) S1x384x512 .bf16)), Σ' (L25 : List (View.Piece (Elt F) S1x128x512 .bf16)), Σ' (L26 : List (View.Piece (Elt F) S1x8x512 .f32)), { LS0 : List (View.Piece (Elt F) S16x256 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d) ∗ (∃ d, owns (c : Thread nD τ) arg26 fullShare d) ∗ (∃ d, owns (c : Thread nD τ) arg27 fullShare d) ∗ (∃ d, owns (c : Thread nD τ) arg28 fullShare d) ∗ (∃ d, owns (c : Thread nD τ) arg29 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ (∃ f, arg15.view.loc (c : Thread nD τ) ↦[arg15.view.set]{fullShare} arg15.view.writes (Elt F) f L13) ∗ (∃ f, arg16.view.loc (c : Thread nD τ) ↦[arg16.view.set]{fullShare} arg16.view.writes (Elt F) f L14) ∗ (∃ f, arg17.view.loc (c : Thread nD τ) ↦[arg17.view.set]{fullShare} arg17.view.writes (Elt F) f L15) ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f L21) ∗ (∃ f, arg24.view.loc (c : Thread nD τ) ↦[arg24.view.set]{fullShare} arg24.view.writes (Elt F) f L22) ∗ (∃ f, arg25.view.loc (c : Thread nD τ) ↦[arg25.view.set]{fullShare} arg25.view.writes (Elt F) f L23) ∗ (∃ f, arg26.view.loc (c : Thread nD τ) ↦[arg26.view.set]{fullShare} arg26.view.writes (Elt F) f L24) ∗ (∃ f, arg27.view.loc (c : Thread nD τ) ↦[arg27.view.set]{fullShare} arg27.view.writes (Elt F) f L25) ∗ (∃ f, arg28.view.loc (c : Thread nD τ) ↦[arg28.view.set]{fullShare} arg28.view.writes (Elt F) f L26) ∗ (∃ f, arg29.view.loc (c : Thread nD τ) ↦[arg29.view.set]{fullShare} arg29.view.writes (Elt F) f LS0)) -∗ K ⟨⟩))
          ⊢ wp frame (wpE (defs₀ (F := F)) Variants.none c none) E (cc0_mix_project i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29) K } := by
  refine ⟨?_, ?_, ?_, ?_, ?_, ?_, ?_, ?_, ?_, ?_, ?_, ?_, ?_, ?_, ?_, fun E K => ?run⟩
  case run =>
    simp only [cc0_mix_project_eq_skeleton]; unfold cc0_mix_project_skel
    simp only [k0_part1_eq_skeleton, k0_part2_eq_skeleton, k0_part3_eq_skeleton, k0_part4_eq_skeleton, k0_part5_eq_skeleton, k0_part6_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, ⟨%d25, %f25, -, H25⟩, ⟨%d26, %f26, -, H26⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact HS0

end Cert.MixProjectIdeal.Gen

end
-- ==== Proof.MixProjectIdealCases.lean ====
/- What each point of the mixing kernel that also projects leaves, case by case. -/
module

public import proofs.«01_k».proof.Proof.MixProjectIdealRunB
public import Idealize.ShloMosaic.Lib.Claim

@[expose] public section

set_option maxRecDepth 16384

noncomputable section

namespace Cert.MixProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The run of the first tile at point `t`, over the blocks the pipeline hands it. -/
def runA (c : Dev nD) (t : Fin cfg0.N) (h0 : t.val % 16 = 0) :=
  kernelRun0_A (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) ((hcond0_0 t).mpr h0) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t)

theorem covA13 (c : Dev nD) (t : Fin cfg0.N) (h0 : t.val % 16 = 0) (y : S1x512x1024.Idx) :
    ∃ pc ∈ (runA m c t h0).1, y ∈ pc.1.set :=
  View.cover_of_tiledL (runA m c t h0).1 S1x512x1024.size (by sl_kernel_rfl) y

def outA13 (c : Dev nD) (t : Fin cfg0.N) (h0 : t.val % 16 = 0) : Vec F S1x512x1024 .f32 :=
  VO0_13.read (Elt F) (VO0_13.writes (Elt F) VO0_13.junk (runA m c t h0).1)

theorem covA14 (c : Dev nD) (t : Fin cfg0.N) (h0 : t.val % 16 = 0) (y : S1x512x256.Idx) :
    ∃ pc ∈ (runA m c t h0).2.1, y ∈ pc.1.set :=
  View.cover_of_tiledL (runA m c t h0).2.1 S1x512x256.size (by sl_kernel_rfl) y

def outA14 (c : Dev nD) (t : Fin cfg0.N) (h0 : t.val % 16 = 0) : Vec F S1x512x256 .f32 :=
  VO0_14.read (Elt F) (VO0_14.writes (Elt F) VO0_14.junk (runA m c t h0).2.1)

theorem covA15 (c : Dev nD) (t : Fin cfg0.N) (h0 : t.val % 16 = 0) (y : S1x512x256.Idx) :
    ∃ pc ∈ (runA m c t h0).2.2.1, y ∈ pc.1.set :=
  View.cover_of_tiledL (runA m c t h0).2.2.1 S1x512x256.size (by sl_kernel_rfl) y

def outA15 (c : Dev nD) (t : Fin cfg0.N) (h0 : t.val % 16 = 0) : Vec F S1x512x256 .f32 :=
  VO0_15.read (Elt F) (VO0_15.writes (Elt F) VO0_15.junk (runA m c t h0).2.2.1)

theorem covA16 (c : Dev nD) (t : Fin cfg0.N) (h0 : t.val % 16 = 0) (y : S1x512x512.Idx) :
    ∃ pc ∈ (runA m c t h0).2.2.2.1, y ∈ pc.1.set :=
  View.cover_of_tiledL (runA m c t h0).2.2.2.1 S1x512x512.size (by sl_kernel_rfl) y

def outA16 (c : Dev nD) (t : Fin cfg0.N) (h0 : t.val % 16 = 0) : Vec F S1x512x512 .f32 :=
  VO0_16.read (Elt F) (VO0_16.writes (Elt F) VO0_16.junk (runA m c t h0).2.2.2.1)

theorem covA17 (c : Dev nD) (t : Fin cfg0.N) (h0 : t.val % 16 = 0) (y : S1x512x512.Idx) :
    ∃ pc ∈ (runA m c t h0).2.2.2.2.1, y ∈ pc.1.set :=
  View.cover_of_tiledL (runA m c t h0).2.2.2.2.1 S1x512x512.size (by sl_kernel_rfl) y

def outA17 (c : Dev nD) (t : Fin cfg0.N) (h0 : t.val % 16 = 0) : Vec F S1x512x512 .f32 :=
  VO0_17.read (Elt F) (VO0_17.writes (Elt F) VO0_17.junk (runA m c t h0).2.2.2.2.1)

theorem covA18 (c : Dev nD) (t : Fin cfg0.N) (h0 : t.val % 16 = 0) (y : S1x512x384.Idx) :
    ∃ pc ∈ (runA m c t h0).2.2.2.2.2.1, y ∈ pc.1.set :=
  View.cover_of_tiledL (runA m c t h0).2.2.2.2.2.1 S1x512x384.size (by sl_kernel_rfl) y

def outA18 (c : Dev nD) (t : Fin cfg0.N) (h0 : t.val % 16 = 0) : Vec F S1x512x384 .bf16 :=
  VO0_18.read (Elt F) (VO0_18.writes (Elt F) VO0_18.junk (runA m c t h0).2.2.2.2.2.1)

theorem covA19 (c : Dev nD) (t : Fin cfg0.N) (h0 : t.val % 16 = 0) (y : S1x512x128.Idx) :
    ∃ pc ∈ (runA m c t h0).2.2.2.2.2.2.1, y ∈ pc.1.set :=
  View.cover_of_tiledL (runA m c t h0).2.2.2.2.2.2.1 S1x512x128.size (by sl_kernel_rfl) y

def outA19 (c : Dev nD) (t : Fin cfg0.N) (h0 : t.val % 16 = 0) : Vec F S1x512x128 .bf16 :=
  VO0_19.read (Elt F) (VO0_19.writes (Elt F) VO0_19.junk (runA m c t h0).2.2.2.2.2.2.1)

theorem covA20 (c : Dev nD) (t : Fin cfg0.N) (h0 : t.val % 16 = 0) (y : S1x512x384.Idx) :
    ∃ pc ∈ (runA m c t h0).2.2.2.2.2.2.2.1, y ∈ pc.1.set :=
  View.cover_of_tiledL (runA m c t h0).2.2.2.2.2.2.2.1 S1x512x384.size (by sl_kernel_rfl) y

def outA20 (c : Dev nD) (t : Fin cfg0.N) (h0 : t.val % 16 = 0) : Vec F S1x512x384 .f32 :=
  VO0_20.read (Elt F) (VO0_20.writes (Elt F) VO0_20.junk (runA m c t h0).2.2.2.2.2.2.2.1)

theorem covA21 (c : Dev nD) (t : Fin cfg0.N) (h0 : t.val % 16 = 0) (y : S1x512x256.Idx) :
    ∃ pc ∈ (runA m c t h0).2.2.2.2.2.2.2.2.1, y ∈ pc.1.set :=
  View.cover_of_tiledL (runA m c t h0).2.2.2.2.2.2.2.2.1 S1x512x256.size (by sl_kernel_rfl) y

def outA21 (c : Dev nD) (t : Fin cfg0.N) (h0 : t.val % 16 = 0) : Vec F S1x512x256 .f32 :=
  VO0_21.read (Elt F) (VO0_21.writes (Elt F) VO0_21.junk (runA m c t h0).2.2.2.2.2.2.2.2.1)

theorem covA22 (c : Dev nD) (t : Fin cfg0.N) (h0 : t.val % 16 = 0) (y : S1x512x256.Idx) :
    ∃ pc ∈ (runA m c t h0).2.2.2.2.2.2.2.2.2.1, y ∈ pc.1.set :=
  View.cover_of_tiledL (runA m c t h0).2.2.2.2.2.2.2.2.2.1 S1x512x256.size (by sl_kernel_rfl) y

def outA22 (c : Dev nD) (t : Fin cfg0.N) (h0 : t.val % 16 = 0) : Vec F S1x512x256 .f32 :=
  VO0_22.read (Elt F) (VO0_22.writes (Elt F) VO0_22.junk (runA m c t h0).2.2.2.2.2.2.2.2.2.1)

theorem covA23 (c : Dev nD) (t : Fin cfg0.N) (h0 : t.val % 16 = 0) (y : S1x384x512.Idx) :
    ∃ pc ∈ (runA m c t h0).2.2.2.2.2.2.2.2.2.2.1, y ∈ pc.1.set :=
  View.cover_of_tiledL (runA m c t h0).2.2.2.2.2.2.2.2.2.2.1 S1x384x512.size (by sl_kernel_rfl) y

def outA23 (c : Dev nD) (t : Fin cfg0.N) (h0 : t.val % 16 = 0) : Vec F S1x384x512 .bf16 :=
  VO0_23.read (Elt F) (VO0_23.writes (Elt F) VO0_23.junk (runA m c t h0).2.2.2.2.2.2.2.2.2.2.1)

theorem covA24 (c : Dev nD) (t : Fin cfg0.N) (h0 : t.val % 16 = 0) (y : S1x384x512.Idx) :
    ∃ pc ∈ (runA m c t h0).2.2.2.2.2.2.2.2.2.2.2.1, y ∈ pc.1.set :=
  View.cover_of_tiledL (runA m c t h0).2.2.2.2.2.2.2.2.2.2.2.1 S1x384x512.size (by sl_kernel_rfl) y

def outA24 (c : Dev nD) (t : Fin cfg0.N) (h0 : t.val % 16 = 0) : Vec F S1x384x512 .bf16 :=
  VO0_24.read (Elt F) (VO0_24.writes (Elt F) VO0_24.junk (runA m c t h0).2.2.2.2.2.2.2.2.2.2.2.1)

theorem covA25 (c : Dev nD) (t : Fin cfg0.N) (h0 : t.val % 16 = 0) (y : S1x128x512.Idx) :
    ∃ pc ∈ (runA m c t h0).2.2.2.2.2.2.2.2.2.2.2.2.1, y ∈ pc.1.set :=
  View.cover_of_tiledL (runA m c t h0).2.2.2.2.2.2.2.2.2.2.2.2.1 S1x128x512.size (by sl_kernel_rfl) y

def outA25 (c : Dev nD) (t : Fin cfg0.N) (h0 : t.val % 16 = 0) : Vec F S1x128x512 .bf16 :=
  VO0_25.read (Elt F) (VO0_25.writes (Elt F) VO0_25.junk (runA m c t h0).2.2.2.2.2.2.2.2.2.2.2.2.1)

theorem covA26 (c : Dev nD) (t : Fin cfg0.N) (h0 : t.val % 16 = 0) (y : S1x8x512.Idx) :
    ∃ pc ∈ (runA m c t h0).2.2.2.2.2.2.2.2.2.2.2.2.2.1, y ∈ pc.1.set :=
  View.cover_of_tiledL (runA m c t h0).2.2.2.2.2.2.2.2.2.2.2.2.2.1 S1x8x512.size (by sl_kernel_rfl) y

def outA26 (c : Dev nD) (t : Fin cfg0.N) (h0 : t.val % 16 = 0) : Vec F S1x8x512 .f32 :=
  VO0_26.read (Elt F) (VO0_26.writes (Elt F) VO0_26.junk (runA m c t h0).2.2.2.2.2.2.2.2.2.2.2.2.2.1)

theorem scovA0 (c : Dev nD) (t : Fin cfg0.N) (h0 : t.val % 16 = 0) (y : S16x256.Idx) :
    ∃ pc ∈ (runA m c t h0).2.2.2.2.2.2.2.2.2.2.2.2.2.2.1, y ∈ pc.1.set :=
  View.cover_of_tiledL (runA m c t h0).2.2.2.2.2.2.2.2.2.2.2.2.2.2.1 S16x256.size (by sl_kernel_rfl) y

def soutA0 (c : Dev nD) (t : Fin cfg0.N) (h0 : t.val % 16 = 0) : Vec F S16x256 .f32 :=
  VS0_0.read (Elt F) (VS0_0.writes (Elt F) VS0_0.junk (runA m c t h0).2.2.2.2.2.2.2.2.2.2.2.2.2.2.1)

/-- Everything that point leaves. -/
def tupA (c : Dev nD) (t : Fin cfg0.N) (h0 : t.val % 16 = 0) :
    Vec F S1x512x1024 .f32 × Vec F S1x512x256 .f32 × Vec F S1x512x256 .f32 × Vec F S1x512x512 .f32 × Vec F S1x512x512 .f32 × Vec F S1x512x384 .bf16 × Vec F S1x512x128 .bf16 × Vec F S1x512x384 .f32 × Vec F S1x512x256 .f32 × Vec F S1x512x256 .f32 × Vec F S1x384x512 .bf16 × Vec F S1x384x512 .bf16 × Vec F S1x128x512 .bf16 × Vec F S1x8x512 .f32 × Vec F S16x256 .f32 :=
  (outA13 m c t h0, outA14 m c t h0, outA15 m c t h0, outA16 m c t h0, outA17 m c t h0, outA18 m c t h0, outA19 m c t h0, outA20 m c t h0, outA21 m c t h0, outA22 m c t h0, outA23 m c t h0, outA24 m c t h0, outA25 m c t h0, outA26 m c t h0, soutA0 m c t h0)

/-- The run of a later tile at point `t`, over the blocks the pipeline hands it. -/
def runB (c : Dev nD) (t : Fin cfg0.N) (h0 : ¬t.val % 16 = 0) (xs : Vec F S16x256 .f32) :=
  kernelRun0_B (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) scM0_0 (Memref.isWhole_whole _) (fun h => h0 ((hcond0_0 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) xs

theorem covB13 (c : Dev nD) (t : Fin cfg0.N) (h0 : ¬t.val % 16 = 0) (xs : Vec F S16x256 .f32) (y : S1x512x1024.Idx) :
    ∃ pc ∈ (runB m c t h0 xs).1, y ∈ pc.1.set :=
  View.cover_of_tiledL (runB m c t h0 xs).1 S1x512x1024.size (by sl_kernel_rfl) y

def outB13 (c : Dev nD) (t : Fin cfg0.N) (h0 : ¬t.val % 16 = 0) (xs : Vec F S16x256 .f32) : Vec F S1x512x1024 .f32 :=
  VO0_13.read (Elt F) (VO0_13.writes (Elt F) VO0_13.junk (runB m c t h0 xs).1)

theorem covB14 (c : Dev nD) (t : Fin cfg0.N) (h0 : ¬t.val % 16 = 0) (xs : Vec F S16x256 .f32) (y : S1x512x256.Idx) :
    ∃ pc ∈ (runB m c t h0 xs).2.1, y ∈ pc.1.set :=
  View.cover_of_tiledL (runB m c t h0 xs).2.1 S1x512x256.size (by sl_kernel_rfl) y

def outB14 (c : Dev nD) (t : Fin cfg0.N) (h0 : ¬t.val % 16 = 0) (xs : Vec F S16x256 .f32) : Vec F S1x512x256 .f32 :=
  VO0_14.read (Elt F) (VO0_14.writes (Elt F) VO0_14.junk (runB m c t h0 xs).2.1)

theorem covB15 (c : Dev nD) (t : Fin cfg0.N) (h0 : ¬t.val % 16 = 0) (xs : Vec F S16x256 .f32) (y : S1x512x256.Idx) :
    ∃ pc ∈ (runB m c t h0 xs).2.2.1, y ∈ pc.1.set :=
  View.cover_of_tiledL (runB m c t h0 xs).2.2.1 S1x512x256.size (by sl_kernel_rfl) y

def outB15 (c : Dev nD) (t : Fin cfg0.N) (h0 : ¬t.val % 16 = 0) (xs : Vec F S16x256 .f32) : Vec F S1x512x256 .f32 :=
  VO0_15.read (Elt F) (VO0_15.writes (Elt F) VO0_15.junk (runB m c t h0 xs).2.2.1)

theorem covB16 (c : Dev nD) (t : Fin cfg0.N) (h0 : ¬t.val % 16 = 0) (xs : Vec F S16x256 .f32) (y : S1x512x512.Idx) :
    ∃ pc ∈ (runB m c t h0 xs).2.2.2.1, y ∈ pc.1.set :=
  View.cover_of_tiledL (runB m c t h0 xs).2.2.2.1 S1x512x512.size (by sl_kernel_rfl) y

def outB16 (c : Dev nD) (t : Fin cfg0.N) (h0 : ¬t.val % 16 = 0) (xs : Vec F S16x256 .f32) : Vec F S1x512x512 .f32 :=
  VO0_16.read (Elt F) (VO0_16.writes (Elt F) VO0_16.junk (runB m c t h0 xs).2.2.2.1)

theorem covB17 (c : Dev nD) (t : Fin cfg0.N) (h0 : ¬t.val % 16 = 0) (xs : Vec F S16x256 .f32) (y : S1x512x512.Idx) :
    ∃ pc ∈ (runB m c t h0 xs).2.2.2.2.1, y ∈ pc.1.set :=
  View.cover_of_tiledL (runB m c t h0 xs).2.2.2.2.1 S1x512x512.size (by sl_kernel_rfl) y

def outB17 (c : Dev nD) (t : Fin cfg0.N) (h0 : ¬t.val % 16 = 0) (xs : Vec F S16x256 .f32) : Vec F S1x512x512 .f32 :=
  VO0_17.read (Elt F) (VO0_17.writes (Elt F) VO0_17.junk (runB m c t h0 xs).2.2.2.2.1)

theorem covB18 (c : Dev nD) (t : Fin cfg0.N) (h0 : ¬t.val % 16 = 0) (xs : Vec F S16x256 .f32) (y : S1x512x384.Idx) :
    ∃ pc ∈ (runB m c t h0 xs).2.2.2.2.2.1, y ∈ pc.1.set :=
  View.cover_of_tiledL (runB m c t h0 xs).2.2.2.2.2.1 S1x512x384.size (by sl_kernel_rfl) y

def outB18 (c : Dev nD) (t : Fin cfg0.N) (h0 : ¬t.val % 16 = 0) (xs : Vec F S16x256 .f32) : Vec F S1x512x384 .bf16 :=
  VO0_18.read (Elt F) (VO0_18.writes (Elt F) VO0_18.junk (runB m c t h0 xs).2.2.2.2.2.1)

theorem covB19 (c : Dev nD) (t : Fin cfg0.N) (h0 : ¬t.val % 16 = 0) (xs : Vec F S16x256 .f32) (y : S1x512x128.Idx) :
    ∃ pc ∈ (runB m c t h0 xs).2.2.2.2.2.2.1, y ∈ pc.1.set :=
  View.cover_of_tiledL (runB m c t h0 xs).2.2.2.2.2.2.1 S1x512x128.size (by sl_kernel_rfl) y

def outB19 (c : Dev nD) (t : Fin cfg0.N) (h0 : ¬t.val % 16 = 0) (xs : Vec F S16x256 .f32) : Vec F S1x512x128 .bf16 :=
  VO0_19.read (Elt F) (VO0_19.writes (Elt F) VO0_19.junk (runB m c t h0 xs).2.2.2.2.2.2.1)

theorem covB20 (c : Dev nD) (t : Fin cfg0.N) (h0 : ¬t.val % 16 = 0) (xs : Vec F S16x256 .f32) (y : S1x512x384.Idx) :
    ∃ pc ∈ (runB m c t h0 xs).2.2.2.2.2.2.2.1, y ∈ pc.1.set :=
  View.cover_of_tiledL (runB m c t h0 xs).2.2.2.2.2.2.2.1 S1x512x384.size (by sl_kernel_rfl) y

def outB20 (c : Dev nD) (t : Fin cfg0.N) (h0 : ¬t.val % 16 = 0) (xs : Vec F S16x256 .f32) : Vec F S1x512x384 .f32 :=
  VO0_20.read (Elt F) (VO0_20.writes (Elt F) VO0_20.junk (runB m c t h0 xs).2.2.2.2.2.2.2.1)

theorem covB21 (c : Dev nD) (t : Fin cfg0.N) (h0 : ¬t.val % 16 = 0) (xs : Vec F S16x256 .f32) (y : S1x512x256.Idx) :
    ∃ pc ∈ (runB m c t h0 xs).2.2.2.2.2.2.2.2.1, y ∈ pc.1.set :=
  View.cover_of_tiledL (runB m c t h0 xs).2.2.2.2.2.2.2.2.1 S1x512x256.size (by sl_kernel_rfl) y

def outB21 (c : Dev nD) (t : Fin cfg0.N) (h0 : ¬t.val % 16 = 0) (xs : Vec F S16x256 .f32) : Vec F S1x512x256 .f32 :=
  VO0_21.read (Elt F) (VO0_21.writes (Elt F) VO0_21.junk (runB m c t h0 xs).2.2.2.2.2.2.2.2.1)

theorem covB22 (c : Dev nD) (t : Fin cfg0.N) (h0 : ¬t.val % 16 = 0) (xs : Vec F S16x256 .f32) (y : S1x512x256.Idx) :
    ∃ pc ∈ (runB m c t h0 xs).2.2.2.2.2.2.2.2.2.1, y ∈ pc.1.set :=
  View.cover_of_tiledL (runB m c t h0 xs).2.2.2.2.2.2.2.2.2.1 S1x512x256.size (by sl_kernel_rfl) y

def outB22 (c : Dev nD) (t : Fin cfg0.N) (h0 : ¬t.val % 16 = 0) (xs : Vec F S16x256 .f32) : Vec F S1x512x256 .f32 :=
  VO0_22.read (Elt F) (VO0_22.writes (Elt F) VO0_22.junk (runB m c t h0 xs).2.2.2.2.2.2.2.2.2.1)

theorem covB23 (c : Dev nD) (t : Fin cfg0.N) (h0 : ¬t.val % 16 = 0) (xs : Vec F S16x256 .f32) (y : S1x384x512.Idx) :
    ∃ pc ∈ (runB m c t h0 xs).2.2.2.2.2.2.2.2.2.2.1, y ∈ pc.1.set :=
  View.cover_of_tiledL (runB m c t h0 xs).2.2.2.2.2.2.2.2.2.2.1 S1x384x512.size (by sl_kernel_rfl) y

def outB23 (c : Dev nD) (t : Fin cfg0.N) (h0 : ¬t.val % 16 = 0) (xs : Vec F S16x256 .f32) : Vec F S1x384x512 .bf16 :=
  VO0_23.read (Elt F) (VO0_23.writes (Elt F) VO0_23.junk (runB m c t h0 xs).2.2.2.2.2.2.2.2.2.2.1)

theorem covB24 (c : Dev nD) (t : Fin cfg0.N) (h0 : ¬t.val % 16 = 0) (xs : Vec F S16x256 .f32) (y : S1x384x512.Idx) :
    ∃ pc ∈ (runB m c t h0 xs).2.2.2.2.2.2.2.2.2.2.2.1, y ∈ pc.1.set :=
  View.cover_of_tiledL (runB m c t h0 xs).2.2.2.2.2.2.2.2.2.2.2.1 S1x384x512.size (by sl_kernel_rfl) y

def outB24 (c : Dev nD) (t : Fin cfg0.N) (h0 : ¬t.val % 16 = 0) (xs : Vec F S16x256 .f32) : Vec F S1x384x512 .bf16 :=
  VO0_24.read (Elt F) (VO0_24.writes (Elt F) VO0_24.junk (runB m c t h0 xs).2.2.2.2.2.2.2.2.2.2.2.1)

theorem covB25 (c : Dev nD) (t : Fin cfg0.N) (h0 : ¬t.val % 16 = 0) (xs : Vec F S16x256 .f32) (y : S1x128x512.Idx) :
    ∃ pc ∈ (runB m c t h0 xs).2.2.2.2.2.2.2.2.2.2.2.2.1, y ∈ pc.1.set :=
  View.cover_of_tiledL (runB m c t h0 xs).2.2.2.2.2.2.2.2.2.2.2.2.1 S1x128x512.size (by sl_kernel_rfl) y

def outB25 (c : Dev nD) (t : Fin cfg0.N) (h0 : ¬t.val % 16 = 0) (xs : Vec F S16x256 .f32) : Vec F S1x128x512 .bf16 :=
  VO0_25.read (Elt F) (VO0_25.writes (Elt F) VO0_25.junk (runB m c t h0 xs).2.2.2.2.2.2.2.2.2.2.2.2.1)

theorem covB26 (c : Dev nD) (t : Fin cfg0.N) (h0 : ¬t.val % 16 = 0) (xs : Vec F S16x256 .f32) (y : S1x8x512.Idx) :
    ∃ pc ∈ (runB m c t h0 xs).2.2.2.2.2.2.2.2.2.2.2.2.2.1, y ∈ pc.1.set :=
  View.cover_of_tiledL (runB m c t h0 xs).2.2.2.2.2.2.2.2.2.2.2.2.2.1 S1x8x512.size (by sl_kernel_rfl) y

def outB26 (c : Dev nD) (t : Fin cfg0.N) (h0 : ¬t.val % 16 = 0) (xs : Vec F S16x256 .f32) : Vec F S1x8x512 .f32 :=
  VO0_26.read (Elt F) (VO0_26.writes (Elt F) VO0_26.junk (runB m c t h0 xs).2.2.2.2.2.2.2.2.2.2.2.2.2.1)

theorem scovB0 (c : Dev nD) (t : Fin cfg0.N) (h0 : ¬t.val % 16 = 0) (xs : Vec F S16x256 .f32) (y : S16x256.Idx) :
    ∃ pc ∈ (runB m c t h0 xs).2.2.2.2.2.2.2.2.2.2.2.2.2.2.1, y ∈ pc.1.set :=
  View.cover_of_tiledL (runB m c t h0 xs).2.2.2.2.2.2.2.2.2.2.2.2.2.2.1 S16x256.size (by sl_kernel_rfl) y

def soutB0 (c : Dev nD) (t : Fin cfg0.N) (h0 : ¬t.val % 16 = 0) (xs : Vec F S16x256 .f32) : Vec F S16x256 .f32 :=
  VS0_0.read (Elt F) (VS0_0.writes (Elt F) VS0_0.junk (runB m c t h0 xs).2.2.2.2.2.2.2.2.2.2.2.2.2.2.1)

/-- Everything that point leaves. -/
def tupB (c : Dev nD) (t : Fin cfg0.N) (h0 : ¬t.val % 16 = 0) (xs : Vec F S16x256 .f32) :
    Vec F S1x512x1024 .f32 × Vec F S1x512x256 .f32 × Vec F S1x512x256 .f32 × Vec F S1x512x512 .f32 × Vec F S1x512x512 .f32 × Vec F S1x512x384 .bf16 × Vec F S1x512x128 .bf16 × Vec F S1x512x384 .f32 × Vec F S1x512x256 .f32 × Vec F S1x512x256 .f32 × Vec F S1x384x512 .bf16 × Vec F S1x384x512 .bf16 × Vec F S1x128x512 .bf16 × Vec F S1x8x512 .f32 × Vec F S16x256 .f32 :=
  (outB13 m c t h0 xs, outB14 m c t h0 xs, outB15 m c t h0 xs, outB16 m c t h0 xs, outB17 m c t h0 xs, outB18 m c t h0 xs, outB19 m c t h0 xs, outB20 m c t h0 xs, outB21 m c t h0 xs, outB22 m c t h0 xs, outB23 m c t h0 xs, outB24 m c t h0 xs, outB25 m c t h0 xs, outB26 m c t h0 xs, soutB0 m c t h0 xs)

/-- What the staging buffers and the carried scratch hold after point `n`. -/
def outsAt0 (c : Dev nD) : (n : ℕ) → n < cfg0.N → Vec F S1x512x1024 .f32 × Vec F S1x512x256 .f32 × Vec F S1x512x256 .f32 × Vec F S1x512x512 .f32 × Vec F S1x512x512 .f32 × Vec F S1x512x384 .bf16 × Vec F S1x512x128 .bf16 × Vec F S1x512x384 .f32 × Vec F S1x512x256 .f32 × Vec F S1x512x256 .f32 × Vec F S1x384x512 .bf16 × Vec F S1x384x512 .bf16 × Vec F S1x128x512 .bf16 × Vec F S1x8x512 .f32 × Vec F S16x256 .f32
  | 0, hn => tupA m c ⟨0, hn⟩ (Nat.zero_mod _)
  | n + 1, hn =>
    if h0 : (n + 1) % 16 = 0 then tupA m c ⟨n + 1, hn⟩ h0
    else tupB m c ⟨n + 1, hn⟩ h0 (outsAt0 c n (Nat.lt_of_succ_lt hn)).2.2.2.2.2.2.2.2.2.2.2.2.2.2

theorem outsAt0_A (c : Dev nD) (t : Fin cfg0.N) (h0 : t.val % 16 = 0) :
    outsAt0 m c t.val t.isLt = tupA m c t h0 := by
  obtain ⟨n, hn⟩ := t
  cases n with
  | zero => exact rfl
  | succ n => exact (dif_pos h0).trans rfl

theorem outsAt0_B (c : Dev nD) (t : Fin cfg0.N) (h0 : ¬t.val % 16 = 0) :
    outsAt0 m c t.val t.isLt = tupB m c t h0 (outsAt0 m c (t.val - 1) (Nat.lt_of_le_of_lt (Nat.sub_le _ _) t.isLt)).2.2.2.2.2.2.2.2.2.2.2.2.2.2 := by
  obtain ⟨n, hn⟩ := t
  cases n with
  | zero => exact (by exfalso; (try dsimp only at h0); exact absurd (Nat.zero_mod _) h0)
  | succ n => exact (dif_neg h0).trans rfl

end Cert.MixProjectIdeal.Gen

end
-- ==== Proof.MixProjectIdealDats.lean ====
/- The pipeline's proof data. -/
module

public import proofs.«01_k».proof.Proof.MixProjectIdealCases

@[expose] public section

set_option maxRecDepth 16384

noncomputable section

namespace Cert.MixProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.2.2.2.2.2.2.2.2.2)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM0_0 fullShare ((outsAt0 m c n hn).2.2.2.2.2.2.2.2.2.2.2.2.2.2)) ∗ (∃ r, prngReg c r)) := rfl

theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.2.2.2.2.2.2.2.2.2)) ∗ (∃ r, prngReg c r)) := by
  cases n with
  | zero => exact absurd rfl hz
  | succ n => rfl

/-! ## The pipeline's proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => (outsAt0 m c t.val t.isLt).1
    | ⟨14, _⟩ => (outsAt0 m c t.val t.isLt).2.1
    | ⟨15, _⟩ => (outsAt0 m c t.val t.isLt).2.2.1
    | ⟨16, _⟩ => (outsAt0 m c t.val t.isLt).2.2.2.1
    | ⟨17, _⟩ => (outsAt0 m c t.val t.isLt).2.2.2.2.1
    | ⟨18, _⟩ => (outsAt0 m c t.val t.isLt).2.2.2.2.2.1
    | ⟨19, _⟩ => (outsAt0 m c t.val t.isLt).2.2.2.2.2.2.1
    | ⟨20, _⟩ => (outsAt0 m c t.val t.isLt).2.2.2.2.2.2.2.1
    | ⟨21, _⟩ => (outsAt0 m c t.val t.isLt).2.2.2.2.2.2.2.2.1
    | ⟨22, _⟩ => (outsAt0 m c t.val t.isLt).2.2.2.2.2.2.2.2.2.1
    | ⟨23, _⟩ => (outsAt0 m c t.val t.isLt).2.2.2.2.2.2.2.2.2.2.1
    | ⟨24, _⟩ => (outsAt0 m c t.val t.isLt).2.2.2.2.2.2.2.2.2.2.2.1
    | ⟨25, _⟩ => (outsAt0 m c t.val t.isLt).2.2.2.2.2.2.2.2.2.2.2.2.1
    | ⟨26, _⟩ => (outsAt0 m c t.val t.isLt).2.2.2.2.2.2.2.2.2.2.2.2.2.1
    | ⟨_ + 27, h⟩ => absurd h (Nat.not_lt.2 (Nat.le_add_left _ _))
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = (outsAt0 m c t.val t.isLt).1 := by dsimp only [dats]
theorem after0_14 (c : Dev nD) (t : Fin cfg0.N) : (dats m 0 c).after 14 t = (outsAt0 m c t.val t.isLt).2.1 := by dsimp only [dats]
theorem after0_15 (c : Dev nD) (t : Fin cfg0.N) : (dats m 0 c).after 15 t = (outsAt0 m c t.val t.isLt).2.2.1 := by dsimp only [dats]
theorem after0_16 (c : Dev nD) (t : Fin cfg0.N) : (dats m 0 c).after 16 t = (outsAt0 m c t.val t.isLt).2.2.2.1 := by dsimp only [dats]
theorem after0_17 (c : Dev nD) (t : Fin cfg0.N) : (dats m 0 c).after 17 t = (outsAt0 m c t.val t.isLt).2.2.2.2.1 := by dsimp only [dats]
theorem after0_18 (c : Dev nD) (t : Fin cfg0.N) : (dats m 0 c).after 18 t = (outsAt0 m c t.val t.isLt).2.2.2.2.2.1 := by dsimp only [dats]
theorem after0_19 (c : Dev nD) (t : Fin cfg0.N) : (dats m 0 c).after 19 t = (outsAt0 m c t.val t.isLt).2.2.2.2.2.2.1 := by dsimp only [dats]
theorem after0_20 (c : Dev nD) (t : Fin cfg0.N) : (dats m 0 c).after 20 t = (outsAt0 m c t.val t.isLt).2.2.2.2.2.2.2.1 := by dsimp only [dats]
theorem after0_21 (c : Dev nD) (t : Fin cfg0.N) : (dats m 0 c).after 21 t = (outsAt0 m c t.val t.isLt).2.2.2.2.2.2.2.2.1 := by dsimp only [dats]
theorem after0_22 (c : Dev nD) (t : Fin cfg0.N) : (dats m 0 c).after 22 t = (outsAt0 m c t.val t.isLt).2.2.2.2.2.2.2.2.2.1 := by dsimp only [dats]
theorem after0_23 (c : Dev nD) (t : Fin cfg0.N) : (dats m 0 c).after 23 t = (outsAt0 m c t.val t.isLt).2.2.2.2.2.2.2.2.2.2.1 := by dsimp only [dats]
theorem after0_24 (c : Dev nD) (t : Fin cfg0.N) : (dats m 0 c).after 24 t = (outsAt0 m c t.val t.isLt).2.2.2.2.2.2.2.2.2.2.2.1 := by dsimp only [dats]
theorem after0_25 (c : Dev nD) (t : Fin cfg0.N) : (dats m 0 c).after 25 t = (outsAt0 m c t.val t.isLt).2.2.2.2.2.2.2.2.2.2.2.2.1 := by dsimp only [dats]
theorem after0_26 (c : Dev nD) (t : Fin cfg0.N) : (dats m 0 c).after 26 t = (outsAt0 m c t.val t.isLt).2.2.2.2.2.2.2.2.2.2.2.2.2.1 := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d

/-! ## The body obligation, at a generic point -/

end Cert.MixProjectIdeal.Gen

end
-- ==== Proof.MixProjectIdealSound.lean ====
/- The body meets its obligation at every point. -/
module

public import proofs.«01_k».proof.Proof.MixProjectIdealDats

@[expose] public section

set_option maxRecDepth 16384

noncomputable section

namespace Cert.MixProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d)))

def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t))

set_option maxHeartbeats 22400000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26]
  rw [show (dats m 0 c).Φ t.succ = PhiS m c (t.val + 1) t.isLt from rfl, PhiS_succ]
  have hN : t.val < 128 := lt_of_lt_of_eq t.isLt (show cfg0.N = 128 from N_0)
  by_cases h0 : t.val % 16 = 0
  · by_cases hz : t.val = 0
    · rw [PhiS_castSucc m c t, PhiS_zero m c _ _ hz, PhiA0_eq]
      rw [outsAt0_A m c t h0]
      unfold tupA outA13 outA14 outA15 outA16 outA17 outA18 outA19 outA20 outA21 outA22 outA23 outA24 outA25 outA26 soutA0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((runA m c t h0).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scovA0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covA13 m c t h0)
      isplitl [H14]
      · unfold owns; iexists _; isplitr
        swap; · iexact H14
        ipureintro; exact View.read_writes_of_cover _ _ _ _ _ (covA14 m c t h0)
      isplitl [H15]
      · unfold owns; iexists _; isplitr
        swap; · iexact H15
        ipureintro; exact View.read_writes_of_cover _ _ _ _ _ (covA15 m c t h0)
      isplitl [H16]
      · unfold owns; iexists _; isplitr
        swap; · iexact H16
        ipureintro; exact View.read_writes_of_cover _ _ _ _ _ (covA16 m c t h0)
      isplitl [H17]
      · unfold owns; iexists _; isplitr
        swap; · iexact H17
        ipureintro; exact View.read_writes_of_cover _ _ _ _ _ (covA17 m c t h0)
      isplitl [H18]
      · unfold owns; iexists _; isplitr
        swap; · iexact H18
        ipureintro; exact View.read_writes_of_cover _ _ _ _ _ (covA18 m c t h0)
      isplitl [H19]
      · unfold owns; iexists _; isplitr
        swap; · iexact H19
        ipureintro; exact View.read_writes_of_cover _ _ _ _ _ (covA19 m c t h0)
      isplitl [H20]
      · unfold owns; iexists _; isplitr
        swap; · iexact H20
        ipureintro; exact View.read_writes_of_cover _ _ _ _ _ (covA20 m c t h0)
      isplitl [H21]
      · unfold owns; iexists _; isplitr
        swap; · iexact H21
        ipureintro; exact View.read_writes_of_cover _ _ _ _ _ (covA21 m c t h0)
      isplitl [H22]
      · unfold owns; iexists _; isplitr
        swap; · iexact H22
        ipureintro; exact View.read_writes_of_cover _ _ _ _ _ (covA22 m c t h0)
      isplitl [H23]
      · unfold owns; iexists _; isplitr
        swap; · iexact H23
        ipureintro; exact View.read_writes_of_cover _ _ _ _ _ (covA23 m c t h0)
      isplitl [H24]
      · unfold owns; iexists _; isplitr
        swap; · iexact H24
        ipureintro; exact View.read_writes_of_cover _ _ _ _ _ (covA24 m c t h0)
      isplitl [H25]
      · unfold owns; iexists _; isplitr
        swap; · iexact H25
        ipureintro; exact View.read_writes_of_cover _ _ _ _ _ (covA25 m c t h0)
      unfold owns; iexists _; isplitr
      swap; · iexact H26
      ipureintro; exact View.read_writes_of_cover _ _ _ _ _ (covA26 m c t h0)
    · rw [PhiS_castSucc m c t, PhiS_pos m c _ _ hz]
      rw [outsAt0_A m c t h0]
      unfold tupA outA13 outA14 outA15 outA16 outA17 outA18 outA19 outA20 outA21 outA22 outA23 outA24 outA25 outA26 soutA0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((runA m c t h0).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [HS0]; · iexists _; iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scovA0 m c t h0)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covA13 m c t h0)
      isplitl [H14]
      · unfold owns; iexists _; isplitr
        swap; · iexact H14
        ipureintro; exact View.read_writes_of_cover _ _ _ _ _ (covA14 m c t h0)
      isplitl [H15]
      · unfold owns; iexists _; isplitr
        swap; · iexact H15
        ipureintro; exact View.read_writes_of_cover _ _ _ _ _ (covA15 m c t h0)
      isplitl [H16]
      · unfold owns; iexists _; isplitr
        swap; · iexact H16
        ipureintro; exact View.read_writes_of_cover _ _ _ _ _ (covA16 m c t h0)
      isplitl [H17]
      · unfold owns; iexists _; isplitr
        swap; · iexact H17
        ipureintro; exact View.read_writes_of_cover _ _ _ _ _ (covA17 m c t h0)
      isplitl [H18]
      · unfold owns; iexists _; isplitr
        swap; · iexact H18
        ipureintro; exact View.read_writes_of_cover _ _ _ _ _ (covA18 m c t h0)
      isplitl [H19]
      · unfold owns; iexists _; isplitr
        swap; · iexact H19
        ipureintro; exact View.read_writes_of_cover _ _ _ _ _ (covA19 m c t h0)
      isplitl [H20]
      · unfold owns; iexists _; isplitr
        swap; · iexact H20
        ipureintro; exact View.read_writes_of_cover _ _ _ _ _ (covA20 m c t h0)
      isplitl [H21]
      · unfold owns; iexists _; isplitr
        swap; · iexact H21
        ipureintro; exact View.read_writes_of_cover _ _ _ _ _ (covA21 m c t h0)
      isplitl [H22]
      · unfold owns; iexists _; isplitr
        swap; · iexact H22
        ipureintro; exact View.read_writes_of_cover _ _ _ _ _ (covA22 m c t h0)
      isplitl [H23]
      · unfold owns; iexists _; isplitr
        swap; · iexact H23
        ipureintro; exact View.read_writes_of_cover _ _ _ _ _ (covA23 m c t h0)
      isplitl [H24]
      · unfold owns; iexists _; isplitr
        swap; · iexact H24
        ipureintro; exact View.read_writes_of_cover _ _ _ _ _ (covA24 m c t h0)
      isplitl [H25]
      · unfold owns; iexists _; isplitr
        swap; · iexact H25
        ipureintro; exact View.read_writes_of_cover _ _ _ _ _ (covA25 m c t h0)
      unfold owns; iexists _; isplitr
      swap; · iexact H26
      ipureintro; exact View.read_writes_of_cover _ _ _ _ _ (covA26 m c t h0)
  · by_cases hz : t.val = 0
    · exfalso; have hN : t.val < 128 := lt_of_lt_of_eq t.isLt (show cfg0.N = 128 from N_0); omega
    · rw [PhiS_castSucc m c t, PhiS_pos m c _ _ hz]
      rw [outsAt0_B m c t h0]
      unfold tupB outB13 outB14 outB15 outB16 outB17 outB18 outB19 outB20 outB21 outB22 outB23 outB24 outB25 outB26 soutB0; (try dsimp only)
      iintro ⟨⟨HS0, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩⟩
      iapply ((runB m c t h0 (outsAt0 m c (t.val - 1) (Nat.lt_of_le_of_lt (Nat.sub_le _ _) t.isLt)).2.2.2.2.2.2.2.2.2.2.2.2.2.2).2.2.2.2.2.2.2.2.2.2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]; · iexists _; iexact H13
      isplitl [H14]; · iexists _; iexact H14
      isplitl [H15]; · iexists _; iexact H15
      isplitl [H16]; · iexists _; iexact H16
      isplitl [H17]; · iexists _; iexact H17
      isplitl [H18]; · iexists _; iexact H18
      isplitl [H19]; · iexists _; iexact H19
      isplitl [H20]; · iexists _; iexact H20
      isplitl [H21]; · iexists _; iexact H21
      isplitl [H22]; · iexists _; iexact H22
      isplitl [H23]; · iexists _; iexact H23
      isplitl [H24]; · iexists _; iexact H24
      isplitl [H25]; · iexists _; iexact H25
      isplitl [H26]; · iexists _; iexact H26
      isplitl [HS0]; · iexact HS0
      iintro ⟨H0, H1, H2, H3, H4, H5, H6, H7, H8, H9, H10, H11, H12, ⟨%e13, H13⟩, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩, ⟨%e25, H25⟩, ⟨%e26, H26⟩, ⟨%es0, HS0⟩⟩
      isplitl [HS0 Hg]
      · isplitl [HS0]
        · unfold owns; iexists _; isplitr
          swap; · iexact HS0
          ipureintro; exact View.read_writes_of_cover _ _ _ _ _ (scovB0 m c t h0 _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      isplitl [H13]
      · unfold owns; iexists _; isplitr
        swap; · iexact H13
        ipureintro; exact View.read_writes_of_cover _ _ _ _ _ (covB13 m c t h0 _)
      isplitl [H14]
      · unfold owns; iexists _; isplitr
        swap; · iexact H14
        ipureintro; exact View.read_writes_of_cover _ _ _ _ _ (covB14 m c t h0 _)
      isplitl [H15]
      · unfold owns; iexists _; isplitr
        swap; · iexact H15
        ipureintro; exact View.read_writes_of_cover _ _ _ _ _ (covB15 m c t h0 _)
      isplitl [H16]
      · unfold owns; iexists _; isplitr
        swap; · iexact H16
        ipureintro; exact View.read_writes_of_cover _ _ _ _ _ (covB16 m c t h0 _)
      isplitl [H17]
      · unfold owns; iexists _; isplitr
        swap; · iexact H17
        ipureintro; exact View.read_writes_of_cover _ _ _ _ _ (covB17 m c t h0 _)
      isplitl [H18]
      · unfold owns; iexists _; isplitr
        swap; · iexact H18
        ipureintro; exact View.read_writes_of_cover _ _ _ _ _ (covB18 m c t h0 _)
      isplitl [H19]
      · unfold owns; iexists _; isplitr
        swap; · iexact H19
        ipureintro; exact View.read_writes_of_cover _ _ _ _ _ (covB19 m c t h0 _)
      isplitl [H20]
      · unfold owns; iexists _; isplitr
        swap; · iexact H20
        ipureintro; exact View.read_writes_of_cover _ _ _ _ _ (covB20 m c t h0 _)
      isplitl [H21]
      · unfold owns; iexists _; isplitr
        swap; · iexact H21
        ipureintro; exact View.read_writes_of_cover _ _ _ _ _ (covB21 m c t h0 _)
      isplitl [H22]
      · unfold owns; iexists _; isplitr
        swap; · iexact H22
        ipureintro; exact View.read_writes_of_cover _ _ _ _ _ (covB22 m c t h0 _)
      isplitl [H23]
      · unfold owns; iexists _; isplitr
        swap; · iexact H23
        ipureintro; exact View.read_writes_of_cover _ _ _ _ _ (covB23 m c t h0 _)
      isplitl [H24]
      · unfold owns; iexists _; isplitr
        swap; · iexact H24
        ipureintro; exact View.read_writes_of_cover _ _ _ _ _ (covB24 m c t h0 _)
      isplitl [H25]
      · unfold owns; iexists _; isplitr
        swap; · iexact H25
        ipureintro; exact View.read_writes_of_cover _ _ _ _ _ (covB25 m c t h0 _)
      unfold owns; iexists _; isplitr
      swap; · iexact H26
      ipureintro; exact View.read_writes_of_cover _ _ _ _ _ (covB26 m c t h0 _)

end Cert.MixProjectIdeal.Gen

end
-- ==== Proof.MixProjectIdealFrame.lean ====
/- The frame of the mixing kernel that also projects. -/
module

public import proofs.«01_k».proof.Proof.MixProjectIdealSound
public import Idealize.ShloMosaic.Lib.Claim

@[expose] public section

set_option maxRecDepth 16384

noncomputable section

namespace Cert.MixProjectIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem defs₀_row (t : Fin cfg0.N) :
    defs₀ (F := F) .tc cfg0.body (cfg0.bodyArgs t (cfg0.slots t)) = bodyAt0 t := by
  unfold defs₀; rw [Defs.onTc_tc]

set_option maxHeartbeats 8000000 in
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 128 := N_0; omega)

/-! ## The run and the frame -/

-- `θ_run_frame_around_track`'s implicit arguments are found by unifying its conclusion with this one, which takes unfolding plain
-- definitions in a metavariable's type
set_option backward.isDefEq.respectTransparency.types false in
set_option maxHeartbeats 800000 in
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  frame_of m ρ (dats m) (A_eq m) (run_main m ρ)

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (unchanged m ρ) ((θ_run defs _ _).mono (fun _ h => h.2) (run_main_quiescent m ρ))

end Cert.MixProjectIdeal.Gen

end
-- ==== Proof.MixProjectFrame.lean ====
/- The frame of the mixing kernel that also projects. Its program and the one read over the reals are one text, so a run of the one is
   a run of the other. -/
module

public import proofs.«01_k».proof.Proof.Gen.MixProject
public import proofs.«01_k».proof.Proof.MixProjectIdealFrame

@[expose] public section

set_option maxRecDepth 100000

noncomputable section

namespace Cert.MixProject.Gen

open Idealize.ShloMosaic Idealize.ShloMosaic.TcCoe

variable {F : FTy → Type} [FloatOps F]

set_option maxHeartbeats 0 in
/-- The two body tables run the same kernel. -/
theorem defs₀_ideal : defs₀ (F := F) = Cert.MixProjectIdeal.defs₀ (F := F) := by
  unfold defs₀ Cert.MixProjectIdeal.defs₀
  refine congrArg Defs.onTc ?_
  funext b args
  obtain ⟨b, hb⟩ := b
  obtain rfl : b = 0 := by omega
  obtain ⟨t, s⟩ := args
  rfl

set_option maxHeartbeats 0 in
theorem defs_ideal : defs (F := F) = Cert.MixProjectIdeal.defs (F := F) := by
  unfold defs Cert.MixProjectIdeal.defs
  exact congrArg (Pipeline.defs pcfgs) defs₀_ideal

set_option maxHeartbeats 0 in
theorem frame (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (congrArg (fun D => θ_run D _ _ _) defs_ideal).mpr (Cert.MixProjectIdeal.Gen.frame (F := F) m ρ)

end Cert.MixProject.Gen

end
-- ==== Proof.MixProjectBody.lean ====
module

public import proofs.«01_k».proof.Proof.PoolSpec
public import proofs.«01_k».proof.Proof.Gen.MixProjectIdeal.Frame.Runs
public import Idealize.ShloMosaic.Lib.Pointwise

@[expose] public section

noncomputable section

/-! What the payloads of a block compute, entry by entry: the doubled window sums, the pooled lanes and the mixed rows. -/

namespace Cert.Hand.MixProject

open Cert.MixProjectIdeal Cert.MixProjectIdeal.Gen Idealize.ShloMosaic Idealize.ShloMosaic.TcCoe Idealize.SL.Sem

/-- The pooled lanes of a block, from its first row's number, its rows and the sixteen kept ones. -/
def pool (i : grid0.Coords) (u : Vec Ideal S1x512x256 .f32) (hl : Vec Ideal S16x256 .f32) : FVec Ideal S512x256 .bf16 :=
  k0_pay13 (BitVec.ofNat 32 (i 1).val) (k0_pay4 u) (k0_pay6 u hl) (k0_pay7 u hl) (k0_pay8 u hl) (k0_pay9 u hl) k0_pay10 k0_pay11 k0_pay12

/-- The rows kept before a sequence's first block: zeros. -/
def zeros : Vec Ideal S16x256 .f32 := k0_pay3 (F := Ideal)

/-- A block's lane, row by row. -/
def own (v3 : Vec Ideal S1x512x256 .f32) (l : Fin 256) (r : Fin 512) : EReal := (v3 : S1x512x256.Idx → EReal) (ix3 0 r l)
/-- The kept rows' lane, row by row. -/
def kept (v5 : Vec Ideal S16x256 .f32) (l : Fin 256) (i : Fin 16) : EReal := (v5 : S16x256.Idx → EReal) (ix2 i l)

theorem zeros_apply (i : Fin 16) (l : Fin 256) : kept zeros l i = 0 := by
  unfold kept zeros
  pointwise [k0_pay3]

theorem pay5_apply (v3 : Vec Ideal S1x512x256 .f32) (i : Fin 16) (l : Fin 256) :
    kept (k0_pay5 v3) l i = own v3 l ⟨496 + i.val, by omega⟩ := by
  unfold kept own
  pointwise [k0_pay5, k0_pay4]
  try rfl

theorem rot1 (v : FVec Ideal S528x256 .f32) (i : Fin 528) (hi : 1 ≤ i.val) (l : Fin 256) :
    (dynamicRotate 0 1#32 none v rotates_S528x256_d0 : S528x256.Idx → EReal) (ix2 i l) = (v : S528x256.Idx → EReal) (ix2 ⟨i.val - 1, by omega⟩ l) := by
  pointwise
  refine congrArg (fun j => (v : S528x256.Idx → EReal) (ix2 j l)) (Fin.ext ?_)
  show (i.val + 528 - 1 % 528) % 528 = i.val - 1
  omega

theorem rot2 (v : FVec Ideal S528x256 .f32) (i : Fin 528) (hi : 2 ≤ i.val) (l : Fin 256) :
    (dynamicRotate 0 2#32 none v rotates_S528x256_d0 : S528x256.Idx → EReal) (ix2 i l) = (v : S528x256.Idx → EReal) (ix2 ⟨i.val - 2, by omega⟩ l) := by
  pointwise
  refine congrArg (fun j => (v : S528x256.Idx → EReal) (ix2 j l)) (Fin.ext ?_)
  show (i.val + 528 - 2 % 528) % 528 = i.val - 2
  omega

theorem rot4 (v : FVec Ideal S528x256 .f32) (i : Fin 528) (hi : 4 ≤ i.val) (l : Fin 256) :
    (dynamicRotate 0 4#32 none v rotates_S528x256_d0 : S528x256.Idx → EReal) (ix2 i l) = (v : S528x256.Idx → EReal) (ix2 ⟨i.val - 4, by omega⟩ l) := by
  pointwise
  refine congrArg (fun j => (v : S528x256.Idx → EReal) (ix2 j l)) (Fin.ext ?_)
  show (i.val + 528 - 4 % 528) % 528 = i.val - 4
  omega

theorem rot8 (v : FVec Ideal S528x256 .f32) (i : Fin 528) (hi : 8 ≤ i.val) (l : Fin 256) :
    (dynamicRotate 0 8#32 none v rotates_S528x256_d0 : S528x256.Idx → EReal) (ix2 i l) = (v : S528x256.Idx → EReal) (ix2 ⟨i.val - 8, by omega⟩ l) := by
  pointwise
  refine congrArg (fun j => (v : S528x256.Idx → EReal) (ix2 j l)) (Fin.ext ?_)
  show (i.val + 528 - 8 % 528) % 528 = i.val - 8
  omega

set_option maxRecDepth 16384 in
set_option maxHeartbeats 400000 in
theorem pay6_apply (v3 : Vec Ideal S1x512x256 .f32) (v5 : Vec Ideal S16x256 .f32) (i : Fin 528) (hi : 1 ≤ i.val) (l : Fin 256) :
    (k0_pay6 v3 v5 : S528x256.Idx → EReal) (ix2 i l) = ∑ j ∈ Finset.range 2, ext (own v3 l) (kept v5 l) (i.val - j) := by
  have e : ∀ j : Fin 528, (concatenate S528x256 0 [⟨S16x256, v5⟩, ⟨S512x256, k0_pay4 v3⟩] concatenates_S16x256_S512x256_S528x256_d0 : S528x256.Idx → EReal) (ix2 j l)
      = ext (own v3 l) (kept v5 l) j.val := fun j => by
    pointwise [k0_pay4]
    unfold ext own kept
    by_cases h : j.val < 16
    · rw [dif_pos h, dif_pos h]
    · rw [dif_neg h, dif_neg h]
      try rw [dif_pos (by omega)]
      try rw [dif_pos (by omega)]
  rw [← double_2]
  unfold k0_pay6
  refine congrArg₂ (· + ·) (e i) ((rot1 _ i hi l).trans (e _))

theorem pay7_apply (v3 : Vec Ideal S1x512x256 .f32) (v5 : Vec Ideal S16x256 .f32) (i : Fin 528) (hi : 3 ≤ i.val) (l : Fin 256) :
    (k0_pay7 v3 v5 : S528x256.Idx → EReal) (ix2 i l) = ∑ j ∈ Finset.range 4, ext (own v3 l) (kept v5 l) (i.val - j) := by
  rw [← double_4]
  unfold k0_pay7
  exact congrArg₂ (· + ·) (pay6_apply v3 v5 i (by omega) l) ((rot2 _ i (by omega) l).trans (pay6_apply v3 v5 _ (by show 1 ≤ i.val - 2; omega) l))

theorem pay8_apply (v3 : Vec Ideal S1x512x256 .f32) (v5 : Vec Ideal S16x256 .f32) (i : Fin 528) (hi : 7 ≤ i.val) (l : Fin 256) :
    (k0_pay8 v3 v5 : S528x256.Idx → EReal) (ix2 i l) = ∑ j ∈ Finset.range 8, ext (own v3 l) (kept v5 l) (i.val - j) := by
  rw [← double_8]
  unfold k0_pay8
  exact congrArg₂ (· + ·) (pay7_apply v3 v5 i (by omega) l) ((rot4 _ i (by omega) l).trans (pay7_apply v3 v5 _ (by show 3 ≤ i.val - 4; omega) l))

theorem pay9_apply (v3 : Vec Ideal S1x512x256 .f32) (v5 : Vec Ideal S16x256 .f32) (i : Fin 528) (hi : 15 ≤ i.val) (l : Fin 256) :
    (k0_pay9 v3 v5 : S528x256.Idx → EReal) (ix2 i l) = ∑ j ∈ Finset.range 16, ext (own v3 l) (kept v5 l) (i.val - j) := by
  rw [← double_16]
  unfold k0_pay9
  exact congrArg₂ (· + ·) (pay8_apply v3 v5 i (by omega) l) ((rot8 _ i (by omega) l).trans (pay8_apply v3 v5 _ (by show 7 ≤ i.val - 8; omega) l))

set_option maxRecDepth 16384 in
set_option maxHeartbeats 400000 in
theorem pool_apply (i : grid0.Coords) (u : Vec Ideal S1x512x256 .f32) (hl : Vec Ideal S16x256 .f32) (t : Fin 8192) (U : Fin 8192 → EReal)
    (hi : (i 1).val = t.val / 512) (l : Fin 256)
    (ho : ∀ r : Fin 512, own u l r = U ⟨512 * (t.val / 512) + r.val, by omega⟩)
    (hz : t.val / 512 = 0 → ∀ i, kept hl l i = 0)
    (hk : ∀ (_ : 1 ≤ t.val / 512) (i : Fin 16), kept hl l i = U ⟨512 * (t.val / 512 - 1) + (496 + i.val), by omega⟩) :
    (pool i u hl : S512x256.Idx → EReal) (ix2 ⟨t.val % 512, by omega⟩ l) = pooled (windowOf (l.val / 64)) U t := by
  have hw : windowOf (l.val / 64) ≤ 16 := by unfold windowOf; split_ifs <;> omega
  have hu : (k0_pay4 u : S512x256.Idx → EReal) (ix2 ⟨t.val % 512, by omega⟩ l) = U t := by
    have hr := ho ⟨t.val % 512, by omega⟩
    unfold own at hr
    pointwise [k0_pay4]
    refine hr.trans (congrArg U (Fin.ext ?_))
    show 512 * (t.val / 512) + t.val % 512 = t.val
    omega
  unfold pool
  pointwise [k0_pay13, k0_pay10, k0_pay11, k0_pay12]
  rw [laneGroup, hu, pay6_apply _ _ _ (by show 1 ≤ 16 + t.val % 512; omega), pay7_apply _ _ _ (by show 3 ≤ 16 + t.val % 512; omega),
    pay8_apply _ _ _ (by show 7 ≤ 16 + t.val % 512; omega), pay9_apply _ _ _ (by show 15 ≤ 16 + t.val % 512; omega), hi,
    rowNumber t ⟨t.val % 512, by omega⟩ (t.val / 512) (by show 512 * (t.val / 512) + t.val % 512 = t.val; omega)]
  have h1 := pick (l.val / 64) (by omega) (fun w => ∑ j ∈ Finset.range w, ext (own u l) (kept hl l) (16 + t.val % 512 - j))
  have h2 := pick (l.val / 64) (by omega) (fun w => BitVec.ofNat 32 w)
  dsimp only at h1 h2 ⊢
  rw [h1, ext_window U _ _ t ho hz hk _ hw, h2]
  rfl

set_option maxRecDepth 16384 in
set_option maxHeartbeats 400000 in
theorem mix_apply (v80 : FVec Ideal S512x256 .bf16) (v81 : Vec Ideal S256x256 .bf16) (v84 : Vec Ideal S1x256 .f32) (v88 : Vec Ideal S1x512x256 .f32)
    (v94 : Vec Ideal S1x512x1024 .f32) (v96 : Vec Ideal S1x512x512 .bf16) (v98 : Vec Ideal S512x1024 .bf16) (v102 : Vec Ideal S1x512x384 .bf16)
    (v104 : Vec Ideal S384x1024 .bf16) (v108 : Vec Ideal S256x1024 .bf16) (r : Fin 512) (d : Fin 1024)
    (x : Fin 1024 → EReal) (yg yd : Fin 384 → EReal) (u : Fin 8192 → Fin 256 → EReal) (pg : Fin 256 → EReal) (t : Fin 8192)
    (pw : Fin 4 → Fin 64 → Fin 64 → EReal) (sc : Fin 256 → EReal) (w : Fin 1024 → Fin 1024 → EReal)
    (h80 : ∀ l : Fin 256, (v80 : S512x256.Idx → EReal) (ix2 r l) = pooled (windowOf (l.val / 64)) (fun t => u t l) t)
    (h81 : ∀ l : Fin 256, (∀ k : Fin 64, (v81 : S256x256.Idx → EReal) (ix2 ⟨64 * (l.val / 64) + k.val, by omega⟩ l) = pw ⟨l.val / 64, by omega⟩ k ⟨l.val % 64, by omega⟩)
      ∧ ∀ k : Fin 256, k.val / 64 ≠ l.val / 64 → (v81 : S256x256.Idx → EReal) (ix2 k l) = 0)
    (h84 : ∀ l, (v84 : S1x256.Idx → EReal) (ix2 0 l) = sc l)
    (h88 : ∀ l, (v88 : S1x512x256.Idx → EReal) (ix3 0 r l) = pg l)
    (h94 : ∀ d, (v94 : S1x512x1024.Idx → EReal) (ix3 0 r d) = x d)
    (h96 : (∀ (a : Fin 4) (k : Fin 96), (v96 : S1x512x512.Idx → EReal) (ix3 0 r ⟨128 * a.val + k.val, by omega⟩) = yg ⟨96 * a.val + k.val, by omega⟩)
      ∧ ∀ k : Fin 512, 96 ≤ k.val % 128 → (v96 : S1x512x512.Idx → EReal) (ix3 0 r k) = 0)
    (h98 : ∀ (a : Fin 4) (k : Fin 96), (v98 : S512x1024.Idx → EReal) (ix2 ⟨128 * a.val + k.val, by omega⟩ d) = w ⟨96 * a.val + k.val, by omega⟩ d)
    (h102 : ∀ k, (v102 : S1x512x384.Idx → EReal) (ix3 0 r k) = yd k)
    (h104 : ∀ k : Fin 384, (v104 : S384x1024.Idx → EReal) (ix2 k d) = w ⟨384 + k.val, by omega⟩ d)
    (h108 : ∀ k : Fin 256, (v108 : S256x1024.Idx → EReal) (ix2 k d) = w ⟨768 + k.val, by omega⟩ d) :
    (k0_pay14 v80 v81 v84 v88 v94 v96 v98 v102 v104 v108 : S512x1024.Idx → EReal) (ix2 r d) = mixRow x yg yd u pg t pw sc w d := by
  pointwise [k0_pay14]
  unfold mixRow
  refine congrArg₂ (· + ·) (congrArg₂ (· + ·) (congrArg₂ (· + ·) (h94 d) ?_) (Finset.sum_congr rfl fun k _ => by rw [h102, h104])) (Finset.sum_congr rfl fun l _ => ?_)
  · exact sum_slabs (fun k => (v96 : S1x512x512.Idx → EReal) (ix3 0 r k) * (v98 : S512x1024.Idx → EReal) (ix2 k d)) (fun k => yg k * w ⟨k.val, by omega⟩ d)
      (fun a k => congrArg₂ (· * ·) (h96.1 a k) (h98 a k)) (fun k hk => by show (v96 : S1x512x512.Idx → EReal) (ix3 0 r k) * _ = 0; rw [h96.2 k hk, zero_mul])
  · rw [h84, h88, h108]
    refine congrArg (fun s => s * sc l * _ * _) ?_
    refine (sum_diag (fun k => (v80 : S512x256.Idx → EReal) (ix2 r k)) (fun k => (v81 : S256x256.Idx → EReal) (ix2 k l)) _ (l.val / 64) (by omega) (h81 l).1 (h81 l).2).trans ?_
    unfold poolLane
    refine Finset.sum_congr rfl fun k _ => congrArg (· * _) ((h80 _).trans ?_)
    show pooled (windowOf ((64 * (l.val / 64) + k.val) / 64)) _ t = _
    rw [show (64 * (l.val / 64) + k.val) / 64 = l.val / 64 from by omega]

end Cert.Hand.MixProject

end
-- ==== Proof.MixProjectHost.lean ====
module

public import proofs.«01_k».proof.Proof.Gen.MixProjectIdeal.Frame.Runs
public import Idealize.ShloMosaic.Lib.StableHlo.ReadAt
public import Idealize.ShloMosaic.Lib.Pointwise

@[expose] public section

noncomputable section

/-! What the region finds in its arrays, entry by entry, as the arguments give it. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

theorem sitofp_zero (φ : FTy) : (FloatOps.sitofp (F := Ideal) φ 0#32 : EReal) = 0 := by
  show ((BitVec.toInt 0#32 : ℝ) : EReal) = 0
  simp

/-- The arguments. -/
def aX (c : Dev nD) : S8x8192x1024.Idx → EReal := m ((c : Thread nD τ).loc main_arg0)
def aYg (c : Dev nD) : S8x8192x384.Idx → EReal := m ((c : Thread nD τ).loc main_arg1)
def aYd (c : Dev nD) : S8x8192x384.Idx → EReal := m ((c : Thread nD τ).loc main_arg2)
def aPu (c : Dev nD) : S8x8192x256.Idx → EReal := m ((c : Thread nD τ).loc main_arg3)
def aPg (c : Dev nD) : S8x8192x256.Idx → EReal := m ((c : Thread nD τ).loc main_arg4)
def aPw (c : Dev nD) : S4x64x64.Idx → EReal := m ((c : Thread nD τ).loc main_arg5)
def aSc (c : Dev nD) : S256.Idx → EReal := m ((c : Thread nD τ).loc main_arg6)
def aW (c : Dev nD) : S1024x1024.Idx → EReal := m ((c : Thread nD τ).loc main_arg7)
def aG (c : Dev nD) : S1024.Idx → EReal := m ((c : Thread nD τ).loc main_arg8)

set_option maxRecDepth 16384 in
set_option maxHeartbeats 4000000 in
theorem gain_apply (c : Dev nD) (k : Fin 1024) : (V m c main_v62 : S1x1024.Idx → EReal) (ix2 0 k) = aG m c (ix1 k) := by
  unfold V
  after_reads_at
  rfl

set_option maxRecDepth 16384 in
set_option maxHeartbeats 4000000 in
theorem sc_apply (c : Dev nD) (k : Fin 256) : (V m c main_v10 : S1x256.Idx → EReal) (ix2 0 k) = aSc m c (ix1 k) := by
  unfold V
  after_reads_at
  rfl

set_option maxRecDepth 16384 in
set_option maxHeartbeats 4000000 in
theorem wd_apply (c : Dev nD) (k : Fin 384) (d : Fin 1024) : (V m c main_v19 : S384x1024.Idx → EReal) (ix2 k d) = aW m c (ix2 ⟨384 + k.val, by omega⟩ d) := by
  unfold V
  after_reads_at
  rfl

set_option maxRecDepth 16384 in
set_option maxHeartbeats 4000000 in
theorem wp_apply (c : Dev nD) (k : Fin 256) (d : Fin 1024) : (V m c main_v21 : S256x1024.Idx → EReal) (ix2 k d) = aW m c (ix2 ⟨768 + k.val, by omega⟩ d) := by
  unfold V
  after_reads_at
  rfl

set_option maxRecDepth 16384 in
set_option maxHeartbeats 4000000 in
theorem wg_apply (c : Dev nD) (a : Fin 4) (k : Fin 96) (d : Fin 1024) :
    (V m c main_v17 : S512x1024.Idx → EReal) (ix2 ⟨128 * a.val + k.val, by omega⟩ d) = aW m c (ix2 ⟨96 * a.val + k.val, by omega⟩ d) := by
  unfold V
  after_reads_at
  rw [dif_pos (by omega)]
  exact congrArg (fun j => aW m c (ix2 j d)) (Fin.ext (by show (128 * a.val + k.val) / 128 * 96 + (128 * a.val + k.val) % 128 = 96 * a.val + k.val; omega))

set_option maxRecDepth 16384 in
set_option maxHeartbeats 4000000 in
theorem yg_apply (c : Dev nD) (b : Fin 8) (t : Fin 8192) (a : Fin 4) (k : Fin 96) :
    (V m c main_v24 : S8x8192x512.Idx → EReal) (ix3 b t ⟨128 * a.val + k.val, by omega⟩) = aYg m c (ix3 b t ⟨96 * a.val + k.val, by omega⟩) := by
  unfold V
  after_reads_at
  rw [dif_pos (by omega)]
  exact congrArg (fun j => aYg m c (ix3 b t j)) (Fin.ext (by show a.val * 96 + (128 * a.val + k.val) % 128 = 96 * a.val + k.val; omega))

set_option maxRecDepth 16384 in
set_option maxHeartbeats 4000000 in
theorem yg_zero (c : Dev nD) (b : Fin 8) (t : Fin 8192) (k : Fin 512) (hk : 96 ≤ k.val % 128) : (V m c main_v24 : S8x8192x512.Idx → EReal) (ix3 b t k) = (0 : EReal) := by
  unfold V
  after_reads_at
  rw [dif_neg (by omega)]
  exact sitofp_zero _

set_option maxRecDepth 16384
set_option maxHeartbeats 4000000

theorem wbd_0_0 (c : Dev nD) (k j : Fin 64) :
    (V m c main_v9 : S256x256.Idx → EReal) (ix2 ⟨64 * 0 + k.val, by omega⟩ ⟨64 * 0 + j.val, by omega⟩) = aPw m c (ix3 0 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_pos (by omega)]
  try exact congrArg (fun k => aPw m c (ix3 0 k j)) (Fin.ext (by show 0 + k.val = k.val; omega))

theorem wbd_0_1 (c : Dev nD) (k j : Fin 64) :
    (V m c main_v9 : S256x256.Idx → EReal) (ix2 ⟨64 * 0 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_0_2 (c : Dev nD) (k j : Fin 64) :
    (V m c main_v9 : S256x256.Idx → EReal) (ix2 ⟨64 * 0 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_0_3 (c : Dev nD) (k j : Fin 64) :
    (V m c main_v9 : S256x256.Idx → EReal) (ix2 ⟨64 * 0 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 0] ![0, 192] ![0, 0] (fun i : S64x64.Idx => aPw m c (ix3 0 (i 0) (i 1))) (constant (F := Ideal) S_ FTy.f32 0#32) pads_S64x64_S64x256_000_01920 h_S_ : S64x256.Idx → EReal) (ix2 _ _) = _
  pointwise
  try rw [dif_neg (by omega)]
  try exact dif_neg fun h => h.1

theorem wbd_1_0 (c : Dev nD) (k j : Fin 64) :
    (V m c main_v9 : S256x256.Idx → EReal) (ix2 ⟨64 * 1 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_1_1 (c : Dev nD) (k j : Fin 64) :
    (V m c main_v9 : S256x256.Idx → EReal) (ix2 ⟨64 * 1 + k.val, by omega⟩ ⟨64 * 1 + j.val, by omega⟩) = aPw m c (ix3 1 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_pos (by omega)]
  try exact congrArg (fun k => aPw m c (ix3 1 k j)) (Fin.ext (by show 64 + k.val - 64 = k.val; omega))

theorem wbd_1_2 (c : Dev nD) (k j : Fin 64) :
    (V m c main_v9 : S256x256.Idx → EReal) (ix2 ⟨64 * 1 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_1_3 (c : Dev nD) (k j : Fin 64) :
    (V m c main_v9 : S256x256.Idx → EReal) (ix2 ⟨64 * 1 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 64] ![0, 128] ![0, 0] (fun i : S64x64.Idx => aPw m c (ix3 1 (i 0) (i 1))) (constant (F := Ideal) S_ FTy.f32 0#32) pads_S64x64_S64x256_000_641280 h_S_ : S64x256.Idx → EReal) (ix2 _ _) = _
  pointwise
  try rw [dif_neg (by omega)]
  try exact dif_neg fun h => h.1

theorem wbd_2_0 (c : Dev nD) (k j : Fin 64) :
    (V m c main_v9 : S256x256.Idx → EReal) (ix2 ⟨64 * 2 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_2_1 (c : Dev nD) (k j : Fin 64) :
    (V m c main_v9 : S256x256.Idx → EReal) (ix2 ⟨64 * 2 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_2_2 (c : Dev nD) (k j : Fin 64) :
    (V m c main_v9 : S256x256.Idx → EReal) (ix2 ⟨64 * 2 + k.val, by omega⟩ ⟨64 * 2 + j.val, by omega⟩) = aPw m c (ix3 2 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_pos (by omega)]
  try exact congrArg (fun k => aPw m c (ix3 2 k j)) (Fin.ext (by show 128 + k.val - 64 - 64 = k.val; omega))

theorem wbd_2_3 (c : Dev nD) (k j : Fin 64) :
    (V m c main_v9 : S256x256.Idx → EReal) (ix2 ⟨64 * 2 + k.val, by omega⟩ ⟨64 * 3 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 128] ![0, 64] ![0, 0] (fun i : S64x64.Idx => aPw m c (ix3 2 (i 0) (i 1))) (constant (F := Ideal) S_ FTy.f32 0#32) pads_S64x64_S64x256_000_128640 h_S_ : S64x256.Idx → EReal) (ix2 _ _) = _
  pointwise
  try rw [dif_neg (by omega)]
  try exact dif_neg fun h => h.1

theorem wbd_3_0 (c : Dev nD) (k j : Fin 64) :
    (V m c main_v9 : S256x256.Idx → EReal) (ix2 ⟨64 * 3 + k.val, by omega⟩ ⟨64 * 0 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_1 (c : Dev nD) (k j : Fin 64) :
    (V m c main_v9 : S256x256.Idx → EReal) (ix2 ⟨64 * 3 + k.val, by omega⟩ ⟨64 * 1 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_2 (c : Dev nD) (k j : Fin 64) :
    (V m c main_v9 : S256x256.Idx → EReal) (ix2 ⟨64 * 3 + k.val, by omega⟩ ⟨64 * 2 + j.val, by omega⟩) = (0 : EReal) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_neg (by omega)]
  try exact dif_neg fun h => h.1

theorem wbd_3_3 (c : Dev nD) (k j : Fin 64) :
    (V m c main_v9 : S256x256.Idx → EReal) (ix2 ⟨64 * 3 + k.val, by omega⟩ ⟨64 * 3 + j.val, by omega⟩) = aPw m c (ix3 3 k j) := by
  unfold V
  after_reads_at
  repeat (first | rw [dif_pos (by omega)] | rw [dif_neg (by omega)])
  try after_reads_at
  repeat (first | rw [dif_pos (by omega)] | rw [dif_neg (by omega)])
  try after_reads_at
  change (pad S64x256 ![0, 192] ![0, 0] ![0, 0] (fun i : S64x64.Idx => aPw m c (ix3 3 (i 0) (i 1))) (constant (F := Ideal) S_ FTy.f32 0#32) pads_S64x64_S64x256_000_19200 h_S_ : S64x256.Idx → EReal) (ix2 _ _) = _
  pointwise
  try rw [dif_pos (by omega)]
  try exact congrArg (fun k => aPw m c (ix3 3 k j)) (Fin.ext (by show 192 + k.val - 64 - 64 - 64 = k.val; omega))

theorem wbd_all (c : Dev nD) (g g' : Fin 4) (k j : Fin 64) :
    (V m c main_v9 : S256x256.Idx → EReal) (ix2 ⟨64 * g.val + k.val, by omega⟩ ⟨64 * g'.val + j.val, by omega⟩) = if g = g' then aPw m c (ix3 g k j) else 0 := by
  match g, g' with
  | ⟨0, _⟩, ⟨0, _⟩ => exact wbd_0_0 m c k j
  | ⟨0, _⟩, ⟨1, _⟩ => exact wbd_0_1 m c k j
  | ⟨0, _⟩, ⟨2, _⟩ => exact wbd_0_2 m c k j
  | ⟨0, _⟩, ⟨3, _⟩ => exact wbd_0_3 m c k j
  | ⟨1, _⟩, ⟨0, _⟩ => exact wbd_1_0 m c k j
  | ⟨1, _⟩, ⟨1, _⟩ => exact wbd_1_1 m c k j
  | ⟨1, _⟩, ⟨2, _⟩ => exact wbd_1_2 m c k j
  | ⟨1, _⟩, ⟨3, _⟩ => exact wbd_1_3 m c k j
  | ⟨2, _⟩, ⟨0, _⟩ => exact wbd_2_0 m c k j
  | ⟨2, _⟩, ⟨1, _⟩ => exact wbd_2_1 m c k j
  | ⟨2, _⟩, ⟨2, _⟩ => exact wbd_2_2 m c k j
  | ⟨2, _⟩, ⟨3, _⟩ => exact wbd_2_3 m c k j
  | ⟨3, _⟩, ⟨0, _⟩ => exact wbd_3_0 m c k j
  | ⟨3, _⟩, ⟨1, _⟩ => exact wbd_3_1 m c k j
  | ⟨3, _⟩, ⟨2, _⟩ => exact wbd_3_2 m c k j
  | ⟨3, _⟩, ⟨3, _⟩ => exact wbd_3_3 m c k j

theorem wbd_own (c : Dev nD) (l : Fin 256) (k : Fin 64) :
    (V m c main_v9 : S256x256.Idx → EReal) (ix2 ⟨64 * (l.val / 64) + k.val, by omega⟩ l) = aPw m c (ix3 ⟨l.val / 64, by omega⟩ k ⟨l.val % 64, by omega⟩) := by
  have h := wbd_all m c ⟨l.val / 64, by omega⟩ ⟨l.val / 64, by omega⟩ k ⟨l.val % 64, by omega⟩
  rw [if_pos rfl] at h
  refine Eq.trans (congrArg (fun j => (V m c main_v9 : S256x256.Idx → EReal) (ix2 _ j)) (Fin.ext ?_)) h
  show l.val = 64 * (l.val / 64) + l.val % 64
  omega

theorem wbd_other (c : Dev nD) (l k : Fin 256) (hk : k.val / 64 ≠ l.val / 64) : (V m c main_v9 : S256x256.Idx → EReal) (ix2 k l) = (0 : EReal) := by
  have h := wbd_all m c ⟨k.val / 64, by omega⟩ ⟨l.val / 64, by omega⟩ ⟨k.val % 64, by omega⟩ ⟨l.val % 64, by omega⟩
  rw [if_neg fun e => hk (congrArg Fin.val e)] at h
  refine Eq.trans (congrArg₂ (fun i j => (V m c main_v9 : S256x256.Idx → EReal) (ix2 i j)) (Fin.ext ?_) (Fin.ext ?_)) h
  · show k.val = 64 * (k.val / 64) + k.val % 64
    omega
  · show l.val = 64 * (l.val / 64) + l.val % 64
    omega

end Cert.Hand.MixProject

end
-- ==== Proof.MixProjectBlocks.lean ====
module

public import proofs.«01_k».proof.Proof.MixProjectBody
public import proofs.«01_k».proof.Proof.MixProjectHost

@[expose] public section

noncomputable section

/-! The blocks a grid point reads, entry by entry, and the mixed rows that it computes from them. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

/-- The grid point that works on row `t` of sequence `b`. -/
def pt (b : Fin 8) (t : Fin 8192) : Fin cfg0.N := ⟨16 * b.val + t.val / 512, by rw [show cfg0.N = 128 from N_0]; omega⟩
/-- The row's place in the point's block. -/
def rw_ (t : Fin 8192) : Fin 512 := ⟨t.val % 512, Nat.mod_lt _ (by decide)⟩

theorem lt128 (n : Fin cfg0.N) : n.val < 128 := lt_of_lt_of_eq n.isLt N_0

theorem coord1 : ∀ t : Fin cfg0.N, (grid0.coords t 1).val = t.val % 16 :=
  (by decide +kernel : ∀ t : Fin grid0.N, (grid0.coords t 1).val = t.val % 16)

theorem idx0 : ∀ t : Fin cfg0.N, win0_0.index t = ![t.val / 16, t.val % 16, 0] :=
  (by decide +kernel : ∀ t : Fin grid0.N, win0_0.index t = ![t.val / 16, t.val % 16, 0])

theorem emb0 (n : Fin cfg0.N) (r : Fin 512) (k : Fin 1024) : ((cfg0.win 0).blk n).view.emb (ix3 0 r k : S1x512x1024.Idx)
    = (ix3 ⟨n.val / 16, by have := lt128 n; omega⟩ ⟨512 * (n.val % 16) + r.val, by omega⟩ k : S8x8192x1024.Idx) := by
  refine funext fun a => Fin.ext ?_
  have hi := idx0 n
  match a with
  | ⟨0, _⟩ => show win0_0.index n 0 * 1 + 1 * 0 = n.val / 16; rw [hi]; show n.val / 16 * 1 + 1 * 0 = n.val / 16; omega
  | ⟨1, _⟩ => show win0_0.index n 1 * 512 + 1 * r.val = 512 * (n.val % 16) + r.val; rw [hi]; show n.val % 16 * 512 + 1 * r.val = 512 * (n.val % 16) + r.val; omega
  | ⟨2, _⟩ => show win0_0.index n 2 * 1024 + 1 * k.val = k.val; rw [hi]; show 0 * 1024 + 1 * k.val = k.val; omega

theorem iblk0 (c : Dev nD) (n : Fin cfg0.N) (r : Fin 512) (k : Fin 1024) :
    (iblk m c 0 n : S1x512x1024.Idx → EReal) (ix3 0 r k)
      = aX m c (ix3 ⟨n.val / 16, by have := lt128 n; omega⟩ ⟨512 * (n.val % 16) + r.val, by omega⟩ k) := by
  unfold iblk
  rw [View.read_apply]
  show V m c main_arg0 _ = _
  rw [V_main_arg0]
  exact congrArg (m ((c : Thread nD τ).loc main_arg0)) (emb0 n r k)

theorem iblk0_pt (c : Dev nD) (b : Fin 8) (t : Fin 8192) (k : Fin 1024) :
    (iblk m c 0 (pt b t) : S1x512x1024.Idx → EReal) (ix3 0 (rw_ t) k) = aX m c (ix3 b t k) := by
  refine (iblk0 m c (pt b t) (rw_ t) k).trans (congrArg₂ (fun i j => aX m c (ix3 i j k)) (Fin.ext ?_) (Fin.ext ?_))
  · show (16 * b.val + t.val / 512) / 16 = b.val
    omega
  · show 512 * ((16 * b.val + t.val / 512) % 16) + t.val % 512 = t.val
    omega

theorem idx1 : ∀ t : Fin cfg0.N, win0_1.index t = ![t.val / 16, t.val % 16, 0] :=
  (by decide +kernel : ∀ t : Fin grid0.N, win0_1.index t = ![t.val / 16, t.val % 16, 0])

theorem emb1 (n : Fin cfg0.N) (r : Fin 512) (k : Fin 512) : ((cfg0.win 1).blk n).view.emb (ix3 0 r k : S1x512x512.Idx)
    = (ix3 ⟨n.val / 16, by have := lt128 n; omega⟩ ⟨512 * (n.val % 16) + r.val, by omega⟩ k : S8x8192x512.Idx) := by
  refine funext fun a => Fin.ext ?_
  have hi := idx1 n
  match a with
  | ⟨0, _⟩ => show win0_1.index n 0 * 1 + 1 * 0 = n.val / 16; rw [hi]; show n.val / 16 * 1 + 1 * 0 = n.val / 16; omega
  | ⟨1, _⟩ => show win0_1.index n 1 * 512 + 1 * r.val = 512 * (n.val % 16) + r.val; rw [hi]; show n.val % 16 * 512 + 1 * r.val = 512 * (n.val % 16) + r.val; omega
  | ⟨2, _⟩ => show win0_1.index n 2 * 512 + 1 * k.val = k.val; rw [hi]; show 0 * 512 + 1 * k.val = k.val; omega

theorem iblk1 (c : Dev nD) (n : Fin cfg0.N) (r : Fin 512) (k : Fin 512) :
    (iblk m c 1 n : S1x512x512.Idx → EReal) (ix3 0 r k)
      = (V m c main_v24 : S8x8192x512.Idx → EReal) (ix3 ⟨n.val / 16, by have := lt128 n; omega⟩ ⟨512 * (n.val % 16) + r.val, by omega⟩ k) := by
  have key : ∀ f : S8x8192x512.Idx → EReal, ((cfg0.win 1).blk n).view.read (Elt Ideal) f (ix3 0 r k : S1x512x512.Idx) = f (ix3 _ _ k) :=
    fun f => congrArg f (emb1 n r k)
  exact key (V m c main_v24)

theorem iblk1_pt (c : Dev nD) (b : Fin 8) (t : Fin 8192) (k : Fin 512) :
    (iblk m c 1 (pt b t) : S1x512x512.Idx → EReal) (ix3 0 (rw_ t) k) = (V m c main_v24 : S8x8192x512.Idx → EReal) (ix3 b t k) := by
  refine (iblk1 m c (pt b t) (rw_ t) k).trans (congrArg₂ (fun i j => (V m c main_v24 : S8x8192x512.Idx → EReal) (ix3 i j k)) (Fin.ext ?_) (Fin.ext ?_))
  · show (16 * b.val + t.val / 512) / 16 = b.val
    omega
  · show 512 * ((16 * b.val + t.val / 512) % 16) + t.val % 512 = t.val
    omega

theorem idx2 : ∀ t : Fin cfg0.N, win0_2.index t = ![t.val / 16, t.val % 16, 0] :=
  (by decide +kernel : ∀ t : Fin grid0.N, win0_2.index t = ![t.val / 16, t.val % 16, 0])

theorem emb2 (n : Fin cfg0.N) (r : Fin 512) (k : Fin 384) : ((cfg0.win 2).blk n).view.emb (ix3 0 r k : S1x512x384.Idx)
    = (ix3 ⟨n.val / 16, by have := lt128 n; omega⟩ ⟨512 * (n.val % 16) + r.val, by omega⟩ k : S8x8192x384.Idx) := by
  refine funext fun a => Fin.ext ?_
  have hi := idx2 n
  match a with
  | ⟨0, _⟩ => show win0_2.index n 0 * 1 + 1 * 0 = n.val / 16; rw [hi]; show n.val / 16 * 1 + 1 * 0 = n.val / 16; omega
  | ⟨1, _⟩ => show win0_2.index n 1 * 512 + 1 * r.val = 512 * (n.val % 16) + r.val; rw [hi]; show n.val % 16 * 512 + 1 * r.val = 512 * (n.val % 16) + r.val; omega
  | ⟨2, _⟩ => show win0_2.index n 2 * 384 + 1 * k.val = k.val; rw [hi]; show 0 * 384 + 1 * k.val = k.val; omega

theorem iblk2 (c : Dev nD) (n : Fin cfg0.N) (r : Fin 512) (k : Fin 384) :
    (iblk m c 2 n : S1x512x384.Idx → EReal) (ix3 0 r k)
      = aYd m c (ix3 ⟨n.val / 16, by have := lt128 n; omega⟩ ⟨512 * (n.val % 16) + r.val, by omega⟩ k) := by
  unfold iblk
  rw [View.read_apply]
  show V m c main_arg2 _ = _
  rw [V_main_arg2]
  exact congrArg (m ((c : Thread nD τ).loc main_arg2)) (emb2 n r k)

theorem iblk2_pt (c : Dev nD) (b : Fin 8) (t : Fin 8192) (k : Fin 384) :
    (iblk m c 2 (pt b t) : S1x512x384.Idx → EReal) (ix3 0 (rw_ t) k) = aYd m c (ix3 b t k) := by
  refine (iblk2 m c (pt b t) (rw_ t) k).trans (congrArg₂ (fun i j => aYd m c (ix3 i j k)) (Fin.ext ?_) (Fin.ext ?_))
  · show (16 * b.val + t.val / 512) / 16 = b.val
    omega
  · show 512 * ((16 * b.val + t.val / 512) % 16) + t.val % 512 = t.val
    omega

theorem idx3 : ∀ t : Fin cfg0.N, win0_3.index t = ![t.val / 16, t.val % 16, 0] :=
  (by decide +kernel : ∀ t : Fin grid0.N, win0_3.index t = ![t.val / 16, t.val % 16, 0])

theorem emb3 (n : Fin cfg0.N) (r : Fin 512) (k : Fin 256) : ((cfg0.win 3).blk n).view.emb (ix3 0 r k : S1x512x256.Idx)
    = (ix3 ⟨n.val / 16, by have := lt128 n; omega⟩ ⟨512 * (n.val % 16) + r.val, by omega⟩ k : S8x8192x256.Idx) := by
  refine funext fun a => Fin.ext ?_
  have hi := idx3 n
  match a with
  | ⟨0, _⟩ => show win0_3.index n 0 * 1 + 1 * 0 = n.val / 16; rw [hi]; show n.val / 16 * 1 + 1 * 0 = n.val / 16; omega
  | ⟨1, _⟩ => show win0_3.index n 1 * 512 + 1 * r.val = 512 * (n.val % 16) + r.val; rw [hi]; show n.val % 16 * 512 + 1 * r.val = 512 * (n.val % 16) + r.val; omega
  | ⟨2, _⟩ => show win0_3.index n 2 * 256 + 1 * k.val = k.val; rw [hi]; show 0 * 256 + 1 * k.val = k.val; omega

theorem iblk3 (c : Dev nD) (n : Fin cfg0.N) (r : Fin 512) (k : Fin 256) :
    (iblk m c 3 n : S1x512x256.Idx → EReal) (ix3 0 r k)
      = aPu m c (ix3 ⟨n.val / 16, by have := lt128 n; omega⟩ ⟨512 * (n.val % 16) + r.val, by omega⟩ k) := by
  unfold iblk
  rw [View.read_apply]
  show V m c main_arg3 _ = _
  rw [V_main_arg3]
  exact congrArg (m ((c : Thread nD τ).loc main_arg3)) (emb3 n r k)

theorem iblk3_pt (c : Dev nD) (b : Fin 8) (t : Fin 8192) (k : Fin 256) :
    (iblk m c 3 (pt b t) : S1x512x256.Idx → EReal) (ix3 0 (rw_ t) k) = aPu m c (ix3 b t k) := by
  refine (iblk3 m c (pt b t) (rw_ t) k).trans (congrArg₂ (fun i j => aPu m c (ix3 i j k)) (Fin.ext ?_) (Fin.ext ?_))
  · show (16 * b.val + t.val / 512) / 16 = b.val
    omega
  · show 512 * ((16 * b.val + t.val / 512) % 16) + t.val % 512 = t.val
    omega

theorem idx4 : ∀ t : Fin cfg0.N, win0_4.index t = ![t.val / 16, t.val % 16, 0] :=
  (by decide +kernel : ∀ t : Fin grid0.N, win0_4.index t = ![t.val / 16, t.val % 16, 0])

theorem emb4 (n : Fin cfg0.N) (r : Fin 512) (k : Fin 256) : ((cfg0.win 4).blk n).view.emb (ix3 0 r k : S1x512x256.Idx)
    = (ix3 ⟨n.val / 16, by have := lt128 n; omega⟩ ⟨512 * (n.val % 16) + r.val, by omega⟩ k : S8x8192x256.Idx) := by
  refine funext fun a => Fin.ext ?_
  have hi := idx4 n
  match a with
  | ⟨0, _⟩ => show win0_4.index n 0 * 1 + 1 * 0 = n.val / 16; rw [hi]; show n.val / 16 * 1 + 1 * 0 = n.val / 16; omega
  | ⟨1, _⟩ => show win0_4.index n 1 * 512 + 1 * r.val = 512 * (n.val % 16) + r.val; rw [hi]; show n.val % 16 * 512 + 1 * r.val = 512 * (n.val % 16) + r.val; omega
  | ⟨2, _⟩ => show win0_4.index n 2 * 256 + 1 * k.val = k.val; rw [hi]; show 0 * 256 + 1 * k.val = k.val; omega

theorem iblk4 (c : Dev nD) (n : Fin cfg0.N) (r : Fin 512) (k : Fin 256) :
    (iblk m c 4 n : S1x512x256.Idx → EReal) (ix3 0 r k)
      = aPg m c (ix3 ⟨n.val / 16, by have := lt128 n; omega⟩ ⟨512 * (n.val % 16) + r.val, by omega⟩ k) := by
  unfold iblk
  rw [View.read_apply]
  show V m c main_arg4 _ = _
  rw [V_main_arg4]
  exact congrArg (m ((c : Thread nD τ).loc main_arg4)) (emb4 n r k)

theorem iblk4_pt (c : Dev nD) (b : Fin 8) (t : Fin 8192) (k : Fin 256) :
    (iblk m c 4 (pt b t) : S1x512x256.Idx → EReal) (ix3 0 (rw_ t) k) = aPg m c (ix3 b t k) := by
  refine (iblk4 m c (pt b t) (rw_ t) k).trans (congrArg₂ (fun i j => aPg m c (ix3 i j k)) (Fin.ext ?_) (Fin.ext ?_))
  · show (16 * b.val + t.val / 512) / 16 = b.val
    omega
  · show 512 * ((16 * b.val + t.val / 512) % 16) + t.val % 512 = t.val
    omega

theorem idx5 : ∀ t : Fin cfg0.N, win0_5.index t = ![0, 0] :=
  (by decide +kernel : ∀ t : Fin grid0.N, win0_5.index t = ![0, 0])

theorem emb5 (n : Fin cfg0.N) (k : Fin 512) (j : Fin 1024) : ((cfg0.win 5).blk n).view.emb (ix2 k j : S512x1024.Idx) = (ix2 k j : S512x1024.Idx) := by
  refine funext fun a => Fin.ext ?_
  have hi := idx5 n
  match a with
  | ⟨0, _⟩ => show win0_5.index n 0 * 512 + 1 * k.val = k.val; rw [hi]; show 0 * 512 + 1 * k.val = k.val; omega
  | ⟨1, _⟩ => show win0_5.index n 1 * 1024 + 1 * j.val = j.val; rw [hi]; show 0 * 1024 + 1 * j.val = j.val; omega

theorem iblk5 (c : Dev nD) (n : Fin cfg0.N) (k : Fin 512) (j : Fin 1024) :
    (iblk m c 5 n : S512x1024.Idx → EReal) (ix2 k j) = (V m c main_v17 : S512x1024.Idx → EReal) (ix2 k j) := by
  have key : ∀ f : S512x1024.Idx → EReal, ((cfg0.win 5).blk n).view.read (Elt Ideal) f (ix2 k j : S512x1024.Idx) = f (ix2 k j) :=
    fun f => congrArg f (emb5 n k j)
  exact key (V m c main_v17)

theorem idx6 : ∀ t : Fin cfg0.N, win0_6.index t = ![0, 0] :=
  (by decide +kernel : ∀ t : Fin grid0.N, win0_6.index t = ![0, 0])

theorem emb6 (n : Fin cfg0.N) (k : Fin 384) (j : Fin 1024) : ((cfg0.win 6).blk n).view.emb (ix2 k j : S384x1024.Idx) = (ix2 k j : S384x1024.Idx) := by
  refine funext fun a => Fin.ext ?_
  have hi := idx6 n
  match a with
  | ⟨0, _⟩ => show win0_6.index n 0 * 384 + 1 * k.val = k.val; rw [hi]; show 0 * 384 + 1 * k.val = k.val; omega
  | ⟨1, _⟩ => show win0_6.index n 1 * 1024 + 1 * j.val = j.val; rw [hi]; show 0 * 1024 + 1 * j.val = j.val; omega

theorem iblk6 (c : Dev nD) (n : Fin cfg0.N) (k : Fin 384) (j : Fin 1024) :
    (iblk m c 6 n : S384x1024.Idx → EReal) (ix2 k j) = (V m c main_v19 : S384x1024.Idx → EReal) (ix2 k j) := by
  have key : ∀ f : S384x1024.Idx → EReal, ((cfg0.win 6).blk n).view.read (Elt Ideal) f (ix2 k j : S384x1024.Idx) = f (ix2 k j) :=
    fun f => congrArg f (emb6 n k j)
  exact key (V m c main_v19)

theorem idx7 : ∀ t : Fin cfg0.N, win0_7.index t = ![0, 0] :=
  (by decide +kernel : ∀ t : Fin grid0.N, win0_7.index t = ![0, 0])

theorem emb7 (n : Fin cfg0.N) (k : Fin 256) (j : Fin 1024) : ((cfg0.win 7).blk n).view.emb (ix2 k j : S256x1024.Idx) = (ix2 k j : S256x1024.Idx) := by
  refine funext fun a => Fin.ext ?_
  have hi := idx7 n
  match a with
  | ⟨0, _⟩ => show win0_7.index n 0 * 256 + 1 * k.val = k.val; rw [hi]; show 0 * 256 + 1 * k.val = k.val; omega
  | ⟨1, _⟩ => show win0_7.index n 1 * 1024 + 1 * j.val = j.val; rw [hi]; show 0 * 1024 + 1 * j.val = j.val; omega

theorem iblk7 (c : Dev nD) (n : Fin cfg0.N) (k : Fin 256) (j : Fin 1024) :
    (iblk m c 7 n : S256x1024.Idx → EReal) (ix2 k j) = (V m c main_v21 : S256x1024.Idx → EReal) (ix2 k j) := by
  have key : ∀ f : S256x1024.Idx → EReal, ((cfg0.win 7).blk n).view.read (Elt Ideal) f (ix2 k j : S256x1024.Idx) = f (ix2 k j) :=
    fun f => congrArg f (emb7 n k j)
  exact key (V m c main_v21)

theorem idx8 : ∀ t : Fin cfg0.N, win0_8.index t = ![0, 0] :=
  (by decide +kernel : ∀ t : Fin grid0.N, win0_8.index t = ![0, 0])

theorem emb8 (n : Fin cfg0.N) (k : Fin 256) (j : Fin 256) : ((cfg0.win 8).blk n).view.emb (ix2 k j : S256x256.Idx) = (ix2 k j : S256x256.Idx) := by
  refine funext fun a => Fin.ext ?_
  have hi := idx8 n
  match a with
  | ⟨0, _⟩ => show win0_8.index n 0 * 256 + 1 * k.val = k.val; rw [hi]; show 0 * 256 + 1 * k.val = k.val; omega
  | ⟨1, _⟩ => show win0_8.index n 1 * 256 + 1 * j.val = j.val; rw [hi]; show 0 * 256 + 1 * j.val = j.val; omega

theorem iblk8 (c : Dev nD) (n : Fin cfg0.N) (k : Fin 256) (j : Fin 256) :
    (iblk m c 8 n : S256x256.Idx → EReal) (ix2 k j) = (V m c main_v9 : S256x256.Idx → EReal) (ix2 k j) := by
  have key : ∀ f : S256x256.Idx → EReal, ((cfg0.win 8).blk n).view.read (Elt Ideal) f (ix2 k j : S256x256.Idx) = f (ix2 k j) :=
    fun f => congrArg f (emb8 n k j)
  exact key (V m c main_v9)

theorem idx9 : ∀ t : Fin cfg0.N, win0_9.index t = ![0, 0] :=
  (by decide +kernel : ∀ t : Fin grid0.N, win0_9.index t = ![0, 0])

theorem emb9 (n : Fin cfg0.N) (k : Fin 1) (j : Fin 256) : ((cfg0.win 9).blk n).view.emb (ix2 k j : S1x256.Idx) = (ix2 k j : S1x256.Idx) := by
  refine funext fun a => Fin.ext ?_
  have hi := idx9 n
  match a with
  | ⟨0, _⟩ => show win0_9.index n 0 * 1 + 1 * k.val = k.val; rw [hi]; show 0 * 1 + 1 * k.val = k.val; omega
  | ⟨1, _⟩ => show win0_9.index n 1 * 256 + 1 * j.val = j.val; rw [hi]; show 0 * 256 + 1 * j.val = j.val; omega

theorem iblk9 (c : Dev nD) (n : Fin cfg0.N) (k : Fin 1) (j : Fin 256) :
    (iblk m c 9 n : S1x256.Idx → EReal) (ix2 k j) = (V m c main_v10 : S1x256.Idx → EReal) (ix2 k j) := by
  have key : ∀ f : S1x256.Idx → EReal, ((cfg0.win 9).blk n).view.read (Elt Ideal) f (ix2 k j : S1x256.Idx) = f (ix2 k j) :=
    fun f => congrArg f (emb9 n k j)
  exact key (V m c main_v10)

theorem idx10 : ∀ t : Fin cfg0.N, win0_10.index t = ![0, 0] :=
  (by decide +kernel : ∀ t : Fin grid0.N, win0_10.index t = ![0, 0])

theorem emb10 (n : Fin cfg0.N) (k : Fin 1) (j : Fin 1024) : ((cfg0.win 10).blk n).view.emb (ix2 k j : S1x1024.Idx) = (ix2 k j : S1x1024.Idx) := by
  refine funext fun a => Fin.ext ?_
  have hi := idx10 n
  match a with
  | ⟨0, _⟩ => show win0_10.index n 0 * 1 + 1 * k.val = k.val; rw [hi]; show 0 * 1 + 1 * k.val = k.val; omega
  | ⟨1, _⟩ => show win0_10.index n 1 * 1024 + 1 * j.val = j.val; rw [hi]; show 0 * 1024 + 1 * j.val = j.val; omega

theorem iblk10 (c : Dev nD) (n : Fin cfg0.N) (k : Fin 1) (j : Fin 1024) :
    (iblk m c 10 n : S1x1024.Idx → EReal) (ix2 k j) = (V m c main_v62 : S1x1024.Idx → EReal) (ix2 k j) := by
  have key : ∀ f : S1x1024.Idx → EReal, ((cfg0.win 10).blk n).view.read (Elt Ideal) f (ix2 k j : S1x1024.Idx) = f (ix2 k j) :=
    fun f => congrArg f (emb10 n k j)
  exact key (V m c main_v62)

theorem idx11 : ∀ t : Fin cfg0.N, win0_11.index t = ![0, 0] :=
  (by decide +kernel : ∀ t : Fin grid0.N, win0_11.index t = ![0, 0])

theorem emb11 (n : Fin cfg0.N) (k : Fin 1024) (j : Fin 2944) : ((cfg0.win 11).blk n).view.emb (ix2 k j : S1024x2944.Idx) = (ix2 k j : S1024x2944.Idx) := by
  refine funext fun a => Fin.ext ?_
  have hi := idx11 n
  match a with
  | ⟨0, _⟩ => show win0_11.index n 0 * 1024 + 1 * k.val = k.val; rw [hi]; show 0 * 1024 + 1 * k.val = k.val; omega
  | ⟨1, _⟩ => show win0_11.index n 1 * 2944 + 1 * j.val = j.val; rw [hi]; show 0 * 2944 + 1 * j.val = j.val; omega

theorem iblk11 (c : Dev nD) (n : Fin cfg0.N) (k : Fin 1024) (j : Fin 2944) :
    (iblk m c 11 n : S1024x2944.Idx → EReal) (ix2 k j) = (V m c main_v57 : S1024x2944.Idx → EReal) (ix2 k j) := by
  have key : ∀ f : S1024x2944.Idx → EReal, ((cfg0.win 11).blk n).view.read (Elt Ideal) f (ix2 k j : S1024x2944.Idx) = f (ix2 k j) :=
    fun f => congrArg f (emb11 n k j)
  exact key (V m c main_v57)

theorem idx12 : ∀ t : Fin cfg0.N, win0_12.index t = ![0, 0] :=
  (by decide +kernel : ∀ t : Fin grid0.N, win0_12.index t = ![0, 0])

theorem emb12 (n : Fin cfg0.N) (k : Fin 904) (j : Fin 1024) : ((cfg0.win 12).blk n).view.emb (ix2 k j : S904x1024.Idx) = (ix2 k j : S904x1024.Idx) := by
  refine funext fun a => Fin.ext ?_
  have hi := idx12 n
  match a with
  | ⟨0, _⟩ => show win0_12.index n 0 * 904 + 1 * k.val = k.val; rw [hi]; show 0 * 904 + 1 * k.val = k.val; omega
  | ⟨1, _⟩ => show win0_12.index n 1 * 1024 + 1 * j.val = j.val; rw [hi]; show 0 * 1024 + 1 * j.val = j.val; omega

theorem iblk12 (c : Dev nD) (n : Fin cfg0.N) (k : Fin 904) (j : Fin 1024) :
    (iblk m c 12 n : S904x1024.Idx → EReal) (ix2 k j) = (V m c main_v61 : S904x1024.Idx → EReal) (ix2 k j) := by
  have key : ∀ f : S904x1024.Idx → EReal, ((cfg0.win 12).blk n).view.read (Elt Ideal) f (ix2 k j : S904x1024.Idx) = f (ix2 k j) :=
    fun f => congrArg f (emb12 n k j)
  exact key (V m c main_v61)

/-- Row `t` of sequence `b` with the three branches' projections added, as the arguments give it. -/
def mixAt (c : Dev nD) (b : Fin 8) (t : Fin 8192) : Fin 1024 → EReal :=
  mixRow (fun d => aX m c (ix3 b t d)) (fun k => aYg m c (ix3 b t k)) (fun k => aYd m c (ix3 b t k)) (fun t l => aPu m c (ix3 b t l))
    (fun l => aPg m c (ix3 b t l)) t (fun g k j => aPw m c (ix3 g k j)) (fun l => aSc m c (ix1 l)) (fun k d => aW m c (ix2 k d))

/-- The rows kept from before point `t`, if they are those that the blocks before left. -/
def Kept (c : Dev nD) (n : Fin cfg0.N) (hl : Vec Ideal S16x256 .f32) : Prop :=
  (n.val % 16 = 0 → hl = zeros) ∧ (n.val % 16 ≠ 0 → ∀ (h : n.val - 1 < cfg0.N), hl = k0_pay5 (iblk m c 3 ⟨n.val - 1, h⟩))

theorem pool_pt (c : Dev nD) (b : Fin 8) (t : Fin 8192) (hl : Vec Ideal S16x256 .f32) (h : Kept m c (pt b t) hl) (l : Fin 256) :
    (pool (grid0.coords (pt b t)) (iblk m c 3 (pt b t)) hl : S512x256.Idx → EReal) (ix2 (rw_ t) l)
      = pooled (windowOf (l.val / 64)) (fun t => aPu m c (ix3 b t l)) t := by
  have hp : (pt b t).val = 16 * b.val + t.val / 512 := rfl
  have hlt := lt128 (pt b t)
  refine pool_apply (grid0.coords (pt b t)) (iblk m c 3 (pt b t)) hl t (fun t => aPu m c (ix3 b t l)) ?_ l (fun r => ?_) (fun hq i => ?_) (fun hq i => ?_)
  · rw [coord1, hp]
    omega
  · refine (iblk3 m c (pt b t) r l).trans (congrArg₂ (fun i j => aPu m c (ix3 i j l)) (Fin.ext ?_) (Fin.ext ?_))
    · show (16 * b.val + t.val / 512) / 16 = b.val
      omega
    · show 512 * ((16 * b.val + t.val / 512) % 16) + r.val = 512 * (t.val / 512) + r.val
      omega
  · rw [h.1 (by rw [hp]; omega)]
    exact zeros_apply i l
  · have hn : (pt b t).val - 1 < cfg0.N := lt_of_le_of_lt (Nat.sub_le _ _) (pt b t).isLt
    rw [h.2 (by rw [hp]; omega) hn, pay5_apply]
    refine (iblk3 m c ⟨(pt b t).val - 1, hn⟩ _ l).trans (congrArg₂ (fun i j => aPu m c (ix3 i j l)) (Fin.ext ?_) (Fin.ext ?_))
    · show (16 * b.val + t.val / 512 - 1) / 16 = b.val
      omega
    · show 512 * ((16 * b.val + t.val / 512 - 1) % 16) + (496 + i.val) = 512 * (t.val / 512 - 1) + (496 + i.val)
      omega

/-- The mixed rows of a block. -/
def mixed (n : Fin cfg0.N) (c : Dev nD) (hl : Vec Ideal S16x256 .f32) : FVec Ideal S512x1024 .f32 :=
  k0_pay14 (pool (grid0.coords n) (iblk m c 3 n) hl) (iblk m c 8 n) (iblk m c 9 n) (iblk m c 4 n) (iblk m c 0 n) (iblk m c 1 n) (iblk m c 5 n) (iblk m c 2 n)
    (iblk m c 6 n) (iblk m c 7 n)

theorem mixed_pt (c : Dev nD) (b : Fin 8) (t : Fin 8192) (hl : Vec Ideal S16x256 .f32) (h : Kept m c (pt b t) hl) (d : Fin 1024) :
    (mixed m (pt b t) c hl : S512x1024.Idx → EReal) (ix2 (rw_ t) d) = mixAt m c b t d := by
  unfold mixed mixAt
  refine mix_apply (pool (grid0.coords (pt b t)) (iblk m c 3 (pt b t)) hl) (iblk m c 8 (pt b t)) (iblk m c 9 (pt b t)) (iblk m c 4 (pt b t)) (iblk m c 0 (pt b t))
    (iblk m c 1 (pt b t)) (iblk m c 5 (pt b t)) (iblk m c 2 (pt b t)) (iblk m c 6 (pt b t)) (iblk m c 7 (pt b t)) (rw_ t) d _ _ _ _ _ t _ _ _
    (fun l => pool_pt m c b t hl h l)
    (fun l => ⟨fun k => (iblk8 m c _ _ _).trans (wbd_own m c l k), fun k hk => (iblk8 m c _ _ _).trans (wbd_other m c l k hk)⟩)
    (fun l => (iblk9 m c _ _ _).trans (sc_apply m c l)) (fun l => iblk4_pt m c b t l) (fun d => iblk0_pt m c b t d)
    ⟨fun a k => (iblk1_pt m c b t _).trans (yg_apply m c b t a k), fun k hk => (iblk1_pt m c b t _).trans (yg_zero m c b t k hk)⟩
    (fun a k => (iblk5 m c _ _ _).trans (wg_apply m c a k d)) (fun k => iblk2_pt m c b t k)
    (fun k => (iblk6 m c _ _ _).trans (wd_apply m c k d)) (fun k => (iblk7 m c _ _ _).trans (wp_apply m c k d))

end Cert.Hand.MixProject

end
-- ==== Proof.MixProjectPay.lean ====
module

public import proofs.«01_k».proof.Proof.MixProjectBlocks
public import proofs.«01_k».proof.Proof.ProjSpec

@[expose] public section

noncomputable section

/-! The normalised mixed rows and their products with the projection's weights, entry by entry. -/

namespace Cert.Hand.MixProject

open Cert.MixProjectIdeal Cert.MixProjectIdeal.Gen Idealize.ShloMosaic Idealize.ShloMosaic.TcCoe Idealize.SL.Sem

theorem hz2 : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The normalised mixed rows of a block. -/
def norm (n : Fin cfg0.N) (c : Dev nD) (hl : Vec Ideal S16x256 .f32) : FVec Ideal S512x1024 .bf16 :=
  k0_pay16 (mixed m n c hl) (iblk m c 10 n)

/-- The block of the transposed projection's weights. -/
def wtAt (c : Dev nD) (n : Fin cfg0.N) : S904x1024.Idx → EReal := iblk m c 12 n

/-- The normalised mixed row, as the arguments give it. -/
def h (c : Dev nD) (b : Fin 8) (t : Fin 8192) (k : Fin 1024) : EReal := rowNorm (mixAt m c b t) (fun d => aG m c (ix1 d)) k

set_option maxRecDepth 16384 in
set_option maxHeartbeats 400000 in
theorem pay16_apply (v : FVec Ideal S512x1024 .f32) (g : Vec Ideal S1x1024 .f32) (r : Fin 512) (k : Fin 1024) :
    (k0_pay16 v g : S512x1024.Idx → EReal) (ix2 r k)
      = rowNorm (fun d => (v : S512x1024.Idx → EReal) (ix2 r d)) (fun d => (g : S1x1024.Idx → EReal) (ix2 0 d)) k := by
  pointwise [k0_pay16]
  rfl

theorem norm_pt (c : Dev nD) (b : Fin 8) (t : Fin 8192) (hl : Vec Ideal S16x256 .f32) (hk : Kept m c (pt b t) hl) (k : Fin 1024) :
    (norm m (pt b t) c hl : S512x1024.Idx → EReal) (ix2 (rw_ t) k) = h m c b t k := by
  refine (pay16_apply (mixed m (pt b t) c hl) (iblk m c 10 (pt b t)) (rw_ t) k).trans ?_
  exact congrArg₂ (fun x g => rowNorm x g k) (funext fun d => mixed_pt m c b t hl hk d) (funext fun d => (iblk10 m c _ _ _).trans (gain_apply m c d))

set_option maxRecDepth 16384 in
set_option maxHeartbeats 1000000 in
theorem pay15_apply (v80 : FVec Ideal S512x256 .bf16) (v81 : Vec Ideal S256x256 .bf16) (v84 : Vec Ideal S1x256 .f32) (v88 : Vec Ideal S1x512x256 .f32)
    (v94 : Vec Ideal S1x512x1024 .f32) (v96 : Vec Ideal S1x512x512 .bf16) (v98 : Vec Ideal S512x1024 .bf16) (v102 : Vec Ideal S1x512x384 .bf16)
    (v104 : Vec Ideal S384x1024 .bf16) (v108 : Vec Ideal S256x1024 .bf16) (r : Fin 512) (q : Fin 1024) :
    (k0_pay15 v80 v81 v84 v88 v94 v96 v98 v102 v104 v108 : S1x512x1024.Idx → EReal) (ix3 0 r q) = (k0_pay14 v80 v81 v84 v88 v94 v96 v98 v102 v104 v108 : S512x1024.Idx → EReal) (ix2 r q) := by
  pointwise [k0_pay15]

set_option maxRecDepth 16384 in
set_option maxHeartbeats 1000000 in
theorem gq_apply (v : FVec Ideal S512x1024 .f32) (g : Vec Ideal S1x1024 .f32) (w : Vec Ideal S1024x2944 .bf16) (r : Fin 512) (q : Fin 256) :
    (k0_pay17 v g (View.ld w (Rect.unit (s := S1024x2944) ![0, 0] S1024x256.size inb_S1024x2944_S1024x256_0_0)) : S1x512x256.Idx → EReal) (ix3 0 r q)
      = ∑ k, (k0_pay16 v g : S512x1024.Idx → EReal) (ix2 r k) * (w : S1024x2944.Idx → EReal) (ix2 k ⟨0 + q.val, by omega⟩) := by
  pointwise [k0_pay17]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem gk_apply (v : FVec Ideal S512x1024 .f32) (g : Vec Ideal S1x1024 .f32) (w : Vec Ideal S1024x2944 .bf16) (r : Fin 512) (q : Fin 256) :
    (k0_pay18 v g (View.ld w (Rect.unit (s := S1024x2944) ![0, 256] S1024x256.size inb_S1024x2944_S1024x256_0_256)) : S1x512x256.Idx → EReal) (ix3 0 r q)
      = ∑ k, (k0_pay16 v g : S512x1024.Idx → EReal) (ix2 r k) * (w : S1024x2944.Idx → EReal) (ix2 k ⟨256 + q.val, by omega⟩) := by
  pointwise [k0_pay18]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem gv_apply (v : FVec Ideal S512x1024 .f32) (g : Vec Ideal S1x1024 .f32) (w : Vec Ideal S1024x2944 .bf16) (r : Fin 512) (q : Fin 512) :
    (k0_pay19 v g (View.ld w (Rect.unit (s := S1024x2944) ![0, 512] S1024x512.size inb_S1024x2944_S1024x512_0_512)) : S1x512x512.Idx → EReal) (ix3 0 r q)
      = ∑ k, (k0_pay16 v g : S512x1024.Idx → EReal) (ix2 r k) * (w : S1024x2944.Idx → EReal) (ix2 k ⟨512 + q.val, by omega⟩) := by
  pointwise [k0_pay19]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem gg_apply (v : FVec Ideal S512x1024 .f32) (g : Vec Ideal S1x1024 .f32) (w : Vec Ideal S1024x2944 .bf16) (r : Fin 512) (q : Fin 512) :
    (k0_pay20 (k0_pay16 v g) (View.ld w (Rect.unit (s := S1024x2944) ![0, 1024] S1024x512.size inb_S1024x2944_S1024x512_0_1024)) : S1x512x512.Idx → EReal) (ix3 0 r q)
      = ∑ k, (k0_pay16 v g : S512x1024.Idx → EReal) (ix2 r k) * (w : S1024x2944.Idx → EReal) (ix2 k ⟨1024 + q.val, by omega⟩) := by
  pointwise [k0_pay20]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem dk_apply (v : FVec Ideal S512x1024 .f32) (g : Vec Ideal S1x1024 .f32) (w : Vec Ideal S1024x2944 .bf16) (r : Fin 512) (q : Fin 384) :
    (k0_pay21 (k0_pay16 v g) (View.ld w (Rect.unit (s := S1024x2944) ![0, 1536] S1024x384.size inb_S1024x2944_S1024x384_0_1536)) : S1x512x384.Idx → EReal) (ix3 0 r q)
      = ∑ k, (k0_pay16 v g : S512x1024.Idx → EReal) (ix2 r k) * (w : S1024x2944.Idx → EReal) (ix2 k ⟨1536 + q.val, by omega⟩) := by
  pointwise [k0_pay21]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem kx_apply (v : FVec Ideal S512x1024 .f32) (g : Vec Ideal S1x1024 .f32) (w : Vec Ideal S1024x2944 .bf16) (r : Fin 512) (q : Fin 128) :
    (k0_pay22 (k0_pay16 v g) (View.ld w (Rect.unit (s := S1024x2944) ![0, 1920] S1024x128.size inb_S1024x2944_S1024x128_0_1920)) : S1x512x128.Idx → EReal) (ix3 0 r q)
      = ∑ k, (k0_pay16 v g : S512x1024.Idx → EReal) (ix2 r k) * (w : S1024x2944.Idx → EReal) (ix2 k ⟨1920 + q.val, by omega⟩) := by
  pointwise [k0_pay22]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem dg_apply (v : FVec Ideal S512x1024 .f32) (g : Vec Ideal S1x1024 .f32) (w : Vec Ideal S1024x2944 .bf16) (r : Fin 512) (q : Fin 384) :
    (k0_pay23 (k0_pay16 v g) (View.ld w (Rect.unit (s := S1024x2944) ![0, 2048] S1024x384.size inb_S1024x2944_S1024x384_0_2048)) : S1x512x384.Idx → EReal) (ix3 0 r q)
      = ∑ k, (k0_pay16 v g : S512x1024.Idx → EReal) (ix2 r k) * (w : S1024x2944.Idx → EReal) (ix2 k ⟨2048 + q.val, by omega⟩) := by
  pointwise [k0_pay23]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem pu_apply (v : FVec Ideal S512x1024 .f32) (g : Vec Ideal S1x1024 .f32) (w : Vec Ideal S1024x2944 .bf16) (r : Fin 512) (q : Fin 256) :
    (k0_pay25 (k0_pay24 (k0_pay16 v g) (View.ld w (Rect.unit (s := S1024x2944) ![0, 2432] S1024x256.size inb_S1024x2944_S1024x256_0_2432))) : S1x512x256.Idx → EReal) (ix3 0 r q)
      = ∑ k, (k0_pay16 v g : S512x1024.Idx → EReal) (ix2 r k) * (w : S1024x2944.Idx → EReal) (ix2 k ⟨2432 + q.val, by omega⟩) := by
  pointwise [k0_pay25, k0_pay24]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem pg_apply (v : FVec Ideal S512x1024 .f32) (g : Vec Ideal S1x1024 .f32) (w : Vec Ideal S1024x2944 .bf16) (r : Fin 512) (q : Fin 256) :
    (k0_pay26 (k0_pay16 v g) (View.ld w (Rect.unit (s := S1024x2944) ![0, 2688] S1024x256.size inb_S1024x2944_S1024x256_0_2688)) : S1x512x256.Idx → EReal) (ix3 0 r q)
      = ∑ k, (k0_pay16 v g : S512x1024.Idx → EReal) (ix2 r k) * (w : S1024x2944.Idx → EReal) (ix2 k ⟨2688 + q.val, by omega⟩) := by
  pointwise [k0_pay26]
  try (refine Finset.sum_congr rfl fun k _ => ?_; refine congrArg (fun j => _ * (w : S1024x2944.Idx → EReal) (ix2 k j)) (Fin.ext ?_); show _ = _; simp)

set_option maxRecDepth 16384 in
set_option maxHeartbeats 1000000 in
theorem dq_apply (v : FVec Ideal S512x1024 .f32) (g : Vec Ideal S1x1024 .f32) (w : Vec Ideal S904x1024 .bf16) (r : Fin 512) (q : Fin 384) :
    (k0_pay27 (k0_pay16 v g) (View.ld w (Rect.unit (s := S904x1024) ![0, 0] S384x1024.size inb_S904x1024_S384x1024_0_0)) : S1x384x512.Idx → EReal) (ix3 0 q r)
      = (∑ k, (w : S904x1024.Idx → EReal) (ix2 ⟨0 + q.val, by omega⟩ k) * (k0_pay16 v g : S512x1024.Idx → EReal) (ix2 r k)) * qScale := by
  pointwise [k0_pay27]
  try (refine congrArg (· * qScale) ?_; refine Finset.sum_congr rfl fun k _ => ?_; refine congrArg (fun j => (w : S904x1024.Idx → EReal) (ix2 j k) * _) (Fin.ext ?_); show _ = _; simp)

set_option maxRecDepth 16384 in
set_option maxHeartbeats 1000000 in
theorem dv_apply (v : FVec Ideal S512x1024 .f32) (g : Vec Ideal S1x1024 .f32) (w : Vec Ideal S904x1024 .bf16) (r : Fin 512) (q : Fin 384) :
    (k0_pay28 (k0_pay16 v g) (View.ld w (Rect.unit (s := S904x1024) ![384, 0] S384x1024.size inb_S904x1024_S384x1024_384_0)) : S1x384x512.Idx → EReal) (ix3 0 q r)
      = (∑ k, (w : S904x1024.Idx → EReal) (ix2 ⟨384 + q.val, by omega⟩ k) * (k0_pay16 v g : S512x1024.Idx → EReal) (ix2 r k)) := by
  pointwise [k0_pay28]
  try (refine congrArg (· * qScale) ?_; refine Finset.sum_congr rfl fun k _ => ?_; refine congrArg (fun j => (w : S904x1024.Idx → EReal) (ix2 j k) * _) (Fin.ext ?_); show _ = _; simp)

set_option maxRecDepth 16384 in
set_option maxHeartbeats 1000000 in
theorem qi_apply (v : FVec Ideal S512x1024 .f32) (g : Vec Ideal S1x1024 .f32) (w : Vec Ideal S904x1024 .bf16) (r : Fin 512) (q : Fin 128) :
    (k0_pay1 (k0_pay29 (k0_pay16 v g) (View.ld w (Rect.unit (s := S904x1024) ![768, 0] S128x1024.size inb_S904x1024_S128x1024_768_0))) : S1x128x512.Idx → EReal) (ix3 0 q r)
      = (∑ k, (w : S904x1024.Idx → EReal) (ix2 ⟨768 + q.val, by omega⟩ k) * (k0_pay16 v g : S512x1024.Idx → EReal) (ix2 r k)) := by
  pointwise [k0_pay1, k0_pay29]
  try (refine congrArg (· * qScale) ?_; refine Finset.sum_congr rfl fun k _ => ?_; refine congrArg (fun j => (w : S904x1024.Idx → EReal) (ix2 j k) * _) (Fin.ext ?_); show _ = _; simp)

set_option maxRecDepth 16384 in
set_option maxHeartbeats 1000000 in
theorem wi_apply (v : FVec Ideal S512x1024 .f32) (g : Vec Ideal S1x1024 .f32) (w : Vec Ideal S904x1024 .bf16) (r : Fin 512) (q : Fin 8) :
    (k0_pay2 (k0_pay16 v g) (View.ld w (Rect.unit (s := S904x1024) ![896, 0] S8x1024.size inb_S904x1024_S8x1024_896_0)) : S1x8x512.Idx → EReal) (ix3 0 q r)
      = (∑ k, (w : S904x1024.Idx → EReal) (ix2 ⟨896 + q.val, by omega⟩ k) * (k0_pay16 v g : S512x1024.Idx → EReal) (ix2 r k)) := by
  pointwise [k0_pay2]
  try (refine congrArg (· * qScale) ?_; refine Finset.sum_congr rfl fun k _ => ?_; refine congrArg (fun j => (w : S904x1024.Idx → EReal) (ix2 j k) * _) (Fin.ext ?_); show _ = _; simp)

end Cert.Hand.MixProject

end
-- ==== Proof.MixProjectOutA.lean ====
module

public import proofs.«01_k».proof.Proof.MixProjectPay
public import proofs.«01_k».proof.Proof.MixProjectIdealCases

@[expose] public section

noncomputable section

/-! What the first tile of a sequence leaves, entry by entry. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

set_option maxRecDepth 16384 in
set_option maxHeartbeats 1000000 in
theorem soutA_eq (c : Dev nD) (t : Fin cfg0.N) (h0 : t.val % 16 = 0) : soutA0 m c t h0 = k0_pay5 (iblk m c 3 t) := by
  unfold soutA0
  rw [View.read_writes_eq_canon _ _ _ (scovA0 m c t h0)]
  unfold runA kernelRun0_A
  dsimp only
  sl_unfold_words
  rw [View.canon_cons_unit_zero hz2]
  simp only [View.readAt_eq_ld, (hs0_3 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]

set_option maxRecDepth 16384 in
set_option maxHeartbeats 1000000 in
theorem outA13_apply (c : Dev nD) (t : Fin cfg0.N) (h0 : t.val % 16 = 0) (r : Fin 512) (q : Fin 1024) :
    (outA13 m c t h0 : S1x512x1024.Idx → EReal) (ix3 0 r q) = (mixed m t c zeros : S512x1024.Idx → EReal) (ix2 r q) := by
  unfold outA13
  rw [View.read_writes_eq_canon _ _ _ (covA13 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (pay15_apply _ _ _ _ _ _ _ _ _ _ r q).trans ?_
  unfold mixed pool zeros
  rfl

set_option maxRecDepth 16384 in
set_option maxHeartbeats 1000000 in
theorem outA14_apply (c : Dev nD) (t : Fin cfg0.N) (h0 : t.val % 16 = 0) (r : Fin 512) (q : Fin 256) :
    (outA14 m c t h0 : S1x512x256.Idx → EReal) (ix3 0 r q)
      = ∑ k, (norm m t c zeros : S512x1024.Idx → EReal) (ix2 r k) * (iblk m c 11 t : S1024x2944.Idx → EReal) (ix2 k ⟨0 + q.val, by omega⟩) := by
  unfold outA14
  rw [View.read_writes_eq_canon _ _ _ (covA14 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (gq_apply _ _ _ r q).trans ?_
  unfold norm mixed pool zeros
  rfl

set_option maxRecDepth 16384 in
set_option maxHeartbeats 1000000 in
theorem outA15_apply (c : Dev nD) (t : Fin cfg0.N) (h0 : t.val % 16 = 0) (r : Fin 512) (q : Fin 256) :
    (outA15 m c t h0 : S1x512x256.Idx → EReal) (ix3 0 r q)
      = ∑ k, (norm m t c zeros : S512x1024.Idx → EReal) (ix2 r k) * (iblk m c 11 t : S1024x2944.Idx → EReal) (ix2 k ⟨256 + q.val, by omega⟩) := by
  unfold outA15
  rw [View.read_writes_eq_canon _ _ _ (covA15 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (gk_apply _ _ _ r q).trans ?_
  unfold norm mixed pool zeros
  rfl

set_option maxRecDepth 16384 in
set_option maxHeartbeats 1000000 in
theorem outA16_apply (c : Dev nD) (t : Fin cfg0.N) (h0 : t.val % 16 = 0) (r : Fin 512) (q : Fin 512) :
    (outA16 m c t h0 : S1x512x512.Idx → EReal) (ix3 0 r q)
      = ∑ k, (norm m t c zeros : S512x1024.Idx → EReal) (ix2 r k) * (iblk m c 11 t : S1024x2944.Idx → EReal) (ix2 k ⟨512 + q.val, by omega⟩) := by
  unfold outA16
  rw [View.read_writes_eq_canon _ _ _ (covA16 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (gv_apply _ _ _ r q).trans ?_
  unfold norm mixed pool zeros
  rfl

set_option maxRecDepth 16384 in
set_option maxHeartbeats 1000000 in
theorem outA17_apply (c : Dev nD) (t : Fin cfg0.N) (h0 : t.val % 16 = 0) (r : Fin 512) (q : Fin 512) :
    (outA17 m c t h0 : S1x512x512.Idx → EReal) (ix3 0 r q)
      = ∑ k, (norm m t c zeros : S512x1024.Idx → EReal) (ix2 r k) * (iblk m c 11 t : S1024x2944.Idx → EReal) (ix2 k ⟨1024 + q.val, by omega⟩) := by
  unfold outA17
  rw [View.read_writes_eq_canon _ _ _ (covA17 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (gg_apply _ _ _ r q).trans ?_
  unfold norm mixed pool zeros
  rfl

set_option maxRecDepth 16384 in
set_option maxHeartbeats 1000000 in
theorem outA18_apply (c : Dev nD) (t : Fin cfg0.N) (h0 : t.val % 16 = 0) (r : Fin 512) (q : Fin 384) :
    (outA18 m c t h0 : S1x512x384.Idx → EReal) (ix3 0 r q)
      = ∑ k, (norm m t c zeros : S512x1024.Idx → EReal) (ix2 r k) * (iblk m c 11 t : S1024x2944.Idx → EReal) (ix2 k ⟨1536 + q.val, by omega⟩) := by
  unfold outA18
  rw [View.read_writes_eq_canon _ _ _ (covA18 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (dk_apply _ _ _ r q).trans ?_
  unfold norm mixed pool zeros
  rfl

set_option maxRecDepth 16384 in
set_option maxHeartbeats 1000000 in
theorem outA19_apply (c : Dev nD) (t : Fin cfg0.N) (h0 : t.val % 16 = 0) (r : Fin 512) (q : Fin 128) :
    (outA19 m c t h0 : S1x512x128.Idx → EReal) (ix3 0 r q)
      = ∑ k, (norm m t c zeros : S512x1024.Idx → EReal) (ix2 r k) * (iblk m c 11 t : S1024x2944.Idx → EReal) (ix2 k ⟨1920 + q.val, by omega⟩) := by
  unfold outA19
  rw [View.read_writes_eq_canon _ _ _ (covA19 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (kx_apply _ _ _ r q).trans ?_
  unfold norm mixed pool zeros
  rfl

set_option maxRecDepth 16384 in
set_option maxHeartbeats 1000000 in
theorem outA20_apply (c : Dev nD) (t : Fin cfg0.N) (h0 : t.val % 16 = 0) (r : Fin 512) (q : Fin 384) :
    (outA20 m c t h0 : S1x512x384.Idx → EReal) (ix3 0 r q)
      = ∑ k, (norm m t c zeros : S512x1024.Idx → EReal) (ix2 r k) * (iblk m c 11 t : S1024x2944.Idx → EReal) (ix2 k ⟨2048 + q.val, by omega⟩) := by
  unfold outA20
  rw [View.read_writes_eq_canon _ _ _ (covA20 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (dg_apply _ _ _ r q).trans ?_
  unfold norm mixed pool zeros
  rfl

set_option maxRecDepth 16384 in
set_option maxHeartbeats 1000000 in
theorem outA21_apply (c : Dev nD) (t : Fin cfg0.N) (h0 : t.val % 16 = 0) (r : Fin 512) (q : Fin 256) :
    (outA21 m c t h0 : S1x512x256.Idx → EReal) (ix3 0 r q)
      = ∑ k, (norm m t c zeros : S512x1024.Idx → EReal) (ix2 r k) * (iblk m c 11 t : S1024x2944.Idx → EReal) (ix2 k ⟨2432 + q.val, by omega⟩) := by
  unfold outA21
  rw [View.read_writes_eq_canon _ _ _ (covA21 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (pu_apply _ _ _ r q).trans ?_
  unfold norm mixed pool zeros
  rfl

set_option maxRecDepth 16384 in
set_option maxHeartbeats 1000000 in
theorem outA22_apply (c : Dev nD) (t : Fin cfg0.N) (h0 : t.val % 16 = 0) (r : Fin 512) (q : Fin 256) :
    (outA22 m c t h0 : S1x512x256.Idx → EReal) (ix3 0 r q)
      = ∑ k, (norm m t c zeros : S512x1024.Idx → EReal) (ix2 r k) * (iblk m c 11 t : S1024x2944.Idx → EReal) (ix2 k ⟨2688 + q.val, by omega⟩) := by
  unfold outA22
  rw [View.read_writes_eq_canon _ _ _ (covA22 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (pg_apply _ _ _ r q).trans ?_
  unfold norm mixed pool zeros
  rfl

set_option maxRecDepth 16384 in
set_option maxHeartbeats 1000000 in
theorem outA23_apply (c : Dev nD) (t : Fin cfg0.N) (h0 : t.val % 16 = 0) (q : Fin 384) (r : Fin 512) :
    (outA23 m c t h0 : S1x384x512.Idx → EReal) (ix3 0 q r)
      = (∑ k, wtAt m c t (ix2 ⟨0 + q.val, by omega⟩ k) * (norm m t c zeros : S512x1024.Idx → EReal) (ix2 r k)) * qScale := by
  unfold outA23
  rw [View.read_writes_eq_canon _ _ _ (covA23 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (dq_apply _ _ _ r q).trans ?_
  unfold wtAt norm mixed pool zeros
  rfl

set_option maxRecDepth 16384 in
set_option maxHeartbeats 1000000 in
theorem outA24_apply (c : Dev nD) (t : Fin cfg0.N) (h0 : t.val % 16 = 0) (q : Fin 384) (r : Fin 512) :
    (outA24 m c t h0 : S1x384x512.Idx → EReal) (ix3 0 q r)
      = (∑ k, wtAt m c t (ix2 ⟨384 + q.val, by omega⟩ k) * (norm m t c zeros : S512x1024.Idx → EReal) (ix2 r k)) := by
  unfold outA24
  rw [View.read_writes_eq_canon _ _ _ (covA24 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (dv_apply _ _ _ r q).trans ?_
  unfold wtAt norm mixed pool zeros
  rfl

set_option maxRecDepth 16384 in
set_option maxHeartbeats 1000000 in
theorem outA25_apply (c : Dev nD) (t : Fin cfg0.N) (h0 : t.val % 16 = 0) (q : Fin 128) (r : Fin 512) :
    (outA25 m c t h0 : S1x128x512.Idx → EReal) (ix3 0 q r)
      = (∑ k, wtAt m c t (ix2 ⟨768 + q.val, by omega⟩ k) * (norm m t c zeros : S512x1024.Idx → EReal) (ix2 r k)) := by
  unfold outA25
  rw [View.read_writes_eq_canon _ _ _ (covA25 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (qi_apply _ _ _ r q).trans ?_
  unfold wtAt norm mixed pool zeros
  rfl

set_option maxRecDepth 16384 in
set_option maxHeartbeats 1000000 in
theorem outA26_apply (c : Dev nD) (t : Fin cfg0.N) (h0 : t.val % 16 = 0) (q : Fin 8) (r : Fin 512) :
    (outA26 m c t h0 : S1x8x512.Idx → EReal) (ix3 0 q r)
      = (∑ k, wtAt m c t (ix2 ⟨896 + q.val, by omega⟩ k) * (norm m t c zeros : S512x1024.Idx → EReal) (ix2 r k)) := by
  unfold outA26
  rw [View.read_writes_eq_canon _ _ _ (covA26 m c t h0)]
  unfold runA kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  simp only [View.readCov_unit_zero (S := S16x256) _ hz2]
  refine (wi_apply _ _ _ r q).trans ?_
  unfold wtAt norm mixed pool zeros
  rfl

end Cert.Hand.MixProject

end
-- ==== Proof.MixProjectOutB.lean ====
module

public import proofs.«01_k».proof.Proof.MixProjectPay
public import proofs.«01_k».proof.Proof.MixProjectIdealCases

@[expose] public section

noncomputable section

/-! What a later tile leaves, entry by entry. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

set_option maxRecDepth 16384 in
set_option maxHeartbeats 1000000 in
theorem soutB_eq (c : Dev nD) (t : Fin cfg0.N) (h0 : ¬t.val % 16 = 0) (xs : Vec Ideal S16x256 .f32) : soutB0 m c t h0 xs = k0_pay5 (iblk m c 3 t) := by
  unfold soutB0
  rw [View.read_writes_eq_canon _ _ _ (scovB0 m c t h0 xs)]
  unfold runB kernelRun0_B
  dsimp only
  sl_unfold_words
  rw [View.canon_unit_zero hz2]
  simp only [View.readAt_eq_ld, (hs0_3 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]

set_option maxRecDepth 16384 in
set_option maxHeartbeats 1000000 in
theorem outB13_apply (c : Dev nD) (t : Fin cfg0.N) (h0 : ¬t.val % 16 = 0) (xs : Vec Ideal S16x256 .f32) (r : Fin 512) (q : Fin 1024) :
    (outB13 m c t h0 xs : S1x512x1024.Idx → EReal) (ix3 0 r q) = (mixed m t c xs : S512x1024.Idx → EReal) (ix2 r q) := by
  unfold outB13
  rw [View.read_writes_eq_canon _ _ _ (covB13 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (pay15_apply _ _ _ _ _ _ _ _ _ _ r q).trans ?_
  unfold mixed pool
  rfl

set_option maxRecDepth 16384 in
set_option maxHeartbeats 1000000 in
theorem outB14_apply (c : Dev nD) (t : Fin cfg0.N) (h0 : ¬t.val % 16 = 0) (xs : Vec Ideal S16x256 .f32) (r : Fin 512) (q : Fin 256) :
    (outB14 m c t h0 xs : S1x512x256.Idx → EReal) (ix3 0 r q)
      = ∑ k, (norm m t c xs : S512x1024.Idx → EReal) (ix2 r k) * (iblk m c 11 t : S1024x2944.Idx → EReal) (ix2 k ⟨0 + q.val, by omega⟩) := by
  unfold outB14
  rw [View.read_writes_eq_canon _ _ _ (covB14 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (gq_apply _ _ _ r q).trans ?_
  unfold norm mixed pool
  rfl

set_option maxRecDepth 16384 in
set_option maxHeartbeats 1000000 in
theorem outB15_apply (c : Dev nD) (t : Fin cfg0.N) (h0 : ¬t.val % 16 = 0) (xs : Vec Ideal S16x256 .f32) (r : Fin 512) (q : Fin 256) :
    (outB15 m c t h0 xs : S1x512x256.Idx → EReal) (ix3 0 r q)
      = ∑ k, (norm m t c xs : S512x1024.Idx → EReal) (ix2 r k) * (iblk m c 11 t : S1024x2944.Idx → EReal) (ix2 k ⟨256 + q.val, by omega⟩) := by
  unfold outB15
  rw [View.read_writes_eq_canon _ _ _ (covB15 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (gk_apply _ _ _ r q).trans ?_
  unfold norm mixed pool
  rfl

set_option maxRecDepth 16384 in
set_option maxHeartbeats 1000000 in
theorem outB16_apply (c : Dev nD) (t : Fin cfg0.N) (h0 : ¬t.val % 16 = 0) (xs : Vec Ideal S16x256 .f32) (r : Fin 512) (q : Fin 512) :
    (outB16 m c t h0 xs : S1x512x512.Idx → EReal) (ix3 0 r q)
      = ∑ k, (norm m t c xs : S512x1024.Idx → EReal) (ix2 r k) * (iblk m c 11 t : S1024x2944.Idx → EReal) (ix2 k ⟨512 + q.val, by omega⟩) := by
  unfold outB16
  rw [View.read_writes_eq_canon _ _ _ (covB16 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (gv_apply _ _ _ r q).trans ?_
  unfold norm mixed pool
  rfl

set_option maxRecDepth 16384 in
set_option maxHeartbeats 1000000 in
theorem outB17_apply (c : Dev nD) (t : Fin cfg0.N) (h0 : ¬t.val % 16 = 0) (xs : Vec Ideal S16x256 .f32) (r : Fin 512) (q : Fin 512) :
    (outB17 m c t h0 xs : S1x512x512.Idx → EReal) (ix3 0 r q)
      = ∑ k, (norm m t c xs : S512x1024.Idx → EReal) (ix2 r k) * (iblk m c 11 t : S1024x2944.Idx → EReal) (ix2 k ⟨1024 + q.val, by omega⟩) := by
  unfold outB17
  rw [View.read_writes_eq_canon _ _ _ (covB17 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (gg_apply _ _ _ r q).trans ?_
  unfold norm mixed pool
  rfl

set_option maxRecDepth 16384 in
set_option maxHeartbeats 1000000 in
theorem outB18_apply (c : Dev nD) (t : Fin cfg0.N) (h0 : ¬t.val % 16 = 0) (xs : Vec Ideal S16x256 .f32) (r : Fin 512) (q : Fin 384) :
    (outB18 m c t h0 xs : S1x512x384.Idx → EReal) (ix3 0 r q)
      = ∑ k, (norm m t c xs : S512x1024.Idx → EReal) (ix2 r k) * (iblk m c 11 t : S1024x2944.Idx → EReal) (ix2 k ⟨1536 + q.val, by omega⟩) := by
  unfold outB18
  rw [View.read_writes_eq_canon _ _ _ (covB18 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (dk_apply _ _ _ r q).trans ?_
  unfold norm mixed pool
  rfl

set_option maxRecDepth 16384 in
set_option maxHeartbeats 1000000 in
theorem outB19_apply (c : Dev nD) (t : Fin cfg0.N) (h0 : ¬t.val % 16 = 0) (xs : Vec Ideal S16x256 .f32) (r : Fin 512) (q : Fin 128) :
    (outB19 m c t h0 xs : S1x512x128.Idx → EReal) (ix3 0 r q)
      = ∑ k, (norm m t c xs : S512x1024.Idx → EReal) (ix2 r k) * (iblk m c 11 t : S1024x2944.Idx → EReal) (ix2 k ⟨1920 + q.val, by omega⟩) := by
  unfold outB19
  rw [View.read_writes_eq_canon _ _ _ (covB19 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (kx_apply _ _ _ r q).trans ?_
  unfold norm mixed pool
  rfl

set_option maxRecDepth 16384 in
set_option maxHeartbeats 1000000 in
theorem outB20_apply (c : Dev nD) (t : Fin cfg0.N) (h0 : ¬t.val % 16 = 0) (xs : Vec Ideal S16x256 .f32) (r : Fin 512) (q : Fin 384) :
    (outB20 m c t h0 xs : S1x512x384.Idx → EReal) (ix3 0 r q)
      = ∑ k, (norm m t c xs : S512x1024.Idx → EReal) (ix2 r k) * (iblk m c 11 t : S1024x2944.Idx → EReal) (ix2 k ⟨2048 + q.val, by omega⟩) := by
  unfold outB20
  rw [View.read_writes_eq_canon _ _ _ (covB20 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (dg_apply _ _ _ r q).trans ?_
  unfold norm mixed pool
  rfl

set_option maxRecDepth 16384 in
set_option maxHeartbeats 1000000 in
theorem outB21_apply (c : Dev nD) (t : Fin cfg0.N) (h0 : ¬t.val % 16 = 0) (xs : Vec Ideal S16x256 .f32) (r : Fin 512) (q : Fin 256) :
    (outB21 m c t h0 xs : S1x512x256.Idx → EReal) (ix3 0 r q)
      = ∑ k, (norm m t c xs : S512x1024.Idx → EReal) (ix2 r k) * (iblk m c 11 t : S1024x2944.Idx → EReal) (ix2 k ⟨2432 + q.val, by omega⟩) := by
  unfold outB21
  rw [View.read_writes_eq_canon _ _ _ (covB21 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (pu_apply _ _ _ r q).trans ?_
  unfold norm mixed pool
  rfl

set_option maxRecDepth 16384 in
set_option maxHeartbeats 1000000 in
theorem outB22_apply (c : Dev nD) (t : Fin cfg0.N) (h0 : ¬t.val % 16 = 0) (xs : Vec Ideal S16x256 .f32) (r : Fin 512) (q : Fin 256) :
    (outB22 m c t h0 xs : S1x512x256.Idx → EReal) (ix3 0 r q)
      = ∑ k, (norm m t c xs : S512x1024.Idx → EReal) (ix2 r k) * (iblk m c 11 t : S1024x2944.Idx → EReal) (ix2 k ⟨2688 + q.val, by omega⟩) := by
  unfold outB22
  rw [View.read_writes_eq_canon _ _ _ (covB22 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (pg_apply _ _ _ r q).trans ?_
  unfold norm mixed pool
  rfl

set_option maxRecDepth 16384 in
set_option maxHeartbeats 1000000 in
theorem outB23_apply (c : Dev nD) (t : Fin cfg0.N) (h0 : ¬t.val % 16 = 0) (xs : Vec Ideal S16x256 .f32) (q : Fin 384) (r : Fin 512) :
    (outB23 m c t h0 xs : S1x384x512.Idx → EReal) (ix3 0 q r)
      = (∑ k, wtAt m c t (ix2 ⟨0 + q.val, by omega⟩ k) * (norm m t c xs : S512x1024.Idx → EReal) (ix2 r k)) * qScale := by
  unfold outB23
  rw [View.read_writes_eq_canon _ _ _ (covB23 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (dq_apply _ _ _ r q).trans ?_
  unfold wtAt norm mixed pool
  rfl

set_option maxRecDepth 16384 in
set_option maxHeartbeats 1000000 in
theorem outB24_apply (c : Dev nD) (t : Fin cfg0.N) (h0 : ¬t.val % 16 = 0) (xs : Vec Ideal S16x256 .f32) (q : Fin 384) (r : Fin 512) :
    (outB24 m c t h0 xs : S1x384x512.Idx → EReal) (ix3 0 q r)
      = (∑ k, wtAt m c t (ix2 ⟨384 + q.val, by omega⟩ k) * (norm m t c xs : S512x1024.Idx → EReal) (ix2 r k)) := by
  unfold outB24
  rw [View.read_writes_eq_canon _ _ _ (covB24 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (dv_apply _ _ _ r q).trans ?_
  unfold wtAt norm mixed pool
  rfl

set_option maxRecDepth 16384 in
set_option maxHeartbeats 1000000 in
theorem outB25_apply (c : Dev nD) (t : Fin cfg0.N) (h0 : ¬t.val % 16 = 0) (xs : Vec Ideal S16x256 .f32) (q : Fin 128) (r : Fin 512) :
    (outB25 m c t h0 xs : S1x128x512.Idx → EReal) (ix3 0 q r)
      = (∑ k, wtAt m c t (ix2 ⟨768 + q.val, by omega⟩ k) * (norm m t c xs : S512x1024.Idx → EReal) (ix2 r k)) := by
  unfold outB25
  rw [View.read_writes_eq_canon _ _ _ (covB25 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (qi_apply _ _ _ r q).trans ?_
  unfold wtAt norm mixed pool
  rfl

set_option maxRecDepth 16384 in
set_option maxHeartbeats 1000000 in
theorem outB26_apply (c : Dev nD) (t : Fin cfg0.N) (h0 : ¬t.val % 16 = 0) (xs : Vec Ideal S16x256 .f32) (q : Fin 8) (r : Fin 512) :
    (outB26 m c t h0 xs : S1x8x512.Idx → EReal) (ix3 0 q r)
      = (∑ k, wtAt m c t (ix2 ⟨896 + q.val, by omega⟩ k) * (norm m t c xs : S512x1024.Idx → EReal) (ix2 r k)) := by
  unfold outB26
  rw [View.read_writes_eq_canon _ _ _ (covB26 m c t h0 xs)]
  unfold runB kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (Memref.isWhole_whole cc0_scratch0).read_unread, View.ld_unit_zero (S := S512x1024) hz2, View.ld_unit_zero (S := S384x1024) hz2, View.ld_unit_zero (S := S256x1024) hz2, View.ld_unit_zero (S := S256x256) hz2, View.ld_unit_zero (S := S1x256) hz2, View.ld_unit_zero (S := S1x1024) hz2, View.ld_unit_zero (S := S16x256) hz2, View.ld_unit_zero (S := S1x512x1024) hz3, View.ld_unit_zero (S := S1x512x512) hz3, View.ld_unit_zero (S := S1x512x384) hz3, View.ld_unit_zero (S := S1x512x256) hz3]
  refine (wi_apply _ _ _ r q).trans ?_
  unfold wtAt norm mixed pool
  rfl

end Cert.Hand.MixProject

end
-- ==== Proof.MixProjectWeights.lean ====
module

public import proofs.«01_k».proof.Proof.Gen.MixProjectIdeal.Frame.Runs
public import proofs.«01_k».proof.Proof.ScatterCols
public import Idealize.ShloMosaic.Lib.StableHlo.ReadAt
public import Idealize.ShloMosaic.Lib.Pointwise

@[expose] public section

noncomputable section

/-! The weights the projection reads, entry by entry: each column of the padded, laid-out matrix that a piece of the result comes from
is a column of the weight argument. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

/-- The weight argument. -/
def w (c : Dev nD) : S1024x3380.Idx → EReal := m ((c : Thread nD τ).loc main_arg9)
/-- The weights of the row-major pieces, as the region finds them. -/
def wn (c : Dev nD) : S1024x2944.Idx → EReal := V m c main_v57
/-- The weights of the transposed pieces, as the region finds them. -/
def wt (c : Dev nD) : S904x1024.Idx → EReal := V m c main_v61

theorem w_congr (c : Dev nD) (k : Fin 1024) {i j : Nat} (hi : i < 3380) (hj : j < 3380) (h : i = j) :
    w m c (ix2 k ⟨i, hi⟩) = w m c (ix2 k ⟨j, hj⟩) := by subst h; rfl

set_option maxRecDepth 16384 in
set_option maxHeartbeats 4000000 in
theorem wn_gq (c : Dev nD) (k : Fin 1024) (a : Fin 4) (r : Fin 48) :
    wn m c (ix2 k ⟨64 * a.val + r.val, by omega⟩) = w m c (ix2 k ⟨48 * a.val + r.val, by omega⟩) := by
  unfold wn V
  after_reads_at
  repeat (first | rw [dif_pos (by omega)] | rw [dif_neg (by omega)])
  try after_reads_at
  rw [scatter_cols_miss _ rfl rfl rfl _ _ 48 (fun i => by rfl) _ _ _ (by show (64 * a.val + r.val) < 48 ∨ 48 + 16 ≤ (64 * a.val + r.val); have := r.isLt; omega)]
  pointwise
  rw [dif_pos (by omega)]
  exact w_congr m c k _ _ (by omega)

set_option maxRecDepth 16384 in
set_option maxHeartbeats 4000000 in
theorem wn_gz (c : Dev nD) (k : Fin 1024) (r : Fin 16) :
    wn m c (ix2 k ⟨48 + r.val, by omega⟩) = w m c (ix2 k ⟨768 + r.val, by omega⟩) := by
  unfold wn V
  after_reads_at
  repeat (first | rw [dif_pos (by omega)] | rw [dif_neg (by omega)])
  try after_reads_at
  rw [scatter_cols_hit _ rfl rfl rfl _ _ 48 (fun i => by rfl) _ _ _ r (by rfl)]
  pointwise
  exact w_congr m c k _ _ (by omega)

set_option maxRecDepth 16384 in
set_option maxHeartbeats 4000000 in
theorem wn_gk (c : Dev nD) (k : Fin 1024) (a : Fin 4) (r : Fin 48) :
    wn m c (ix2 k ⟨256 + (64 * a.val + r.val), by omega⟩) = w m c (ix2 k ⟨192 + (48 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_gv (c : Dev nD) (k : Fin 1024) (a : Fin 4) (r : Fin 96) :
    wn m c (ix2 k ⟨512 + (128 * a.val + r.val), by omega⟩) = w m c (ix2 k ⟨384 + (96 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_gg (c : Dev nD) (k : Fin 1024) (a : Fin 4) (r : Fin 96) :
    wn m c (ix2 k ⟨1024 + (128 * a.val + r.val), by omega⟩) = w m c (ix2 k ⟨784 + (96 * a.val + r.val), by omega⟩) := by
  unfold wn V
  after_reads_at
  repeat (first | rw [dif_pos (by omega)] | rw [dif_neg (by omega)])
  try after_reads_at
  rw [dif_pos (by omega)]
  exact w_congr m c k _ _ (by omega)

set_option maxRecDepth 16384 in
set_option maxHeartbeats 4000000 in
theorem wn_dk (c : Dev nD) (k : Fin 1024) (r : Fin 384) :
    wn m c (ix2 k ⟨1536 + r.val, by omega⟩) = w m c (ix2 k ⟨1552 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_kx (c : Dev nD) (k : Fin 1024) (r : Fin 128) :
    wn m c (ix2 k ⟨1920 + r.val, by omega⟩) = w m c (ix2 k ⟨2832 + r.val % 32, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_dg (c : Dev nD) (k : Fin 1024) (r : Fin 384) :
    wn m c (ix2 k ⟨2048 + r.val, by omega⟩) = w m c (ix2 k ⟨2320 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_pu (c : Dev nD) (k : Fin 1024) (r : Fin 256) :
    wn m c (ix2 k ⟨2432 + r.val, by omega⟩) = w m c (ix2 k ⟨2868 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wn_pg (c : Dev nD) (k : Fin 1024) (r : Fin 256) :
    wn m c (ix2 k ⟨2688 + r.val, by omega⟩) = w m c (ix2 k ⟨3124 + r.val, by omega⟩) := by
  unfold wn V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_dq (c : Dev nD) (k : Fin 1024) (r : Fin 384) :
    wt m c (ix2 ⟨r.val, by omega⟩ k) = w m c (ix2 k ⟨1168 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_dv (c : Dev nD) (k : Fin 1024) (r : Fin 384) :
    wt m c (ix2 ⟨384 + r.val, by omega⟩ k) = w m c (ix2 k ⟨1936 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_qi (c : Dev nD) (k : Fin 1024) (r : Fin 128) :
    wt m c (ix2 ⟨768 + r.val, by omega⟩ k) = w m c (ix2 k ⟨2704 + r.val, by omega⟩) := by
  unfold wt V
  after_reads_at
  repeat (first | rw [dif_pos (by omega)] | rw [dif_neg (by omega)])
  try after_reads_at
  repeat (first | rw [dif_pos (by omega)] | rw [dif_neg (by omega)])
  exact w_congr m c k _ _ (by omega)

set_option maxRecDepth 16384 in
set_option maxHeartbeats 4000000 in
theorem wt_wi (c : Dev nD) (k : Fin 1024) (r : Fin 4) :
    wt m c (ix2 ⟨896 + r.val, by omega⟩ k) = w m c (ix2 k ⟨2864 + r.val, by omega⟩) := by
  unfold wt V
  after_reads_at
  repeat (first | rw [dif_pos (by omega)] | rw [dif_neg (by omega)])
  try after_reads_at
  rw [dif_pos (by omega)]
  exact w_congr m c k _ _ (by omega)

end Cert.Hand.MixProject

end
-- ==== Proof.MixProjectArr.lean ====
module

public import proofs.«01_k».proof.Proof.MixProjectOutA
public import proofs.«01_k».proof.Proof.MixProjectOutB
public import proofs.«01_k».proof.Proof.MixProjectIdealDats
public import proofs.«01_k».proof.Proof.MixProjectWeights

@[expose] public section

noncomputable section

/-! The result arrays, entry by entry. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

/-- Every point leaves its block's last sixteen rows. -/
theorem left_eq (c : Dev nD) (n : Fin cfg0.N) : (outsAt0 m c n.val n.isLt).2.2.2.2.2.2.2.2.2.2.2.2.2.2 = k0_pay5 (iblk m c 3 n) := by
  by_cases h0 : n.val % 16 = 0
  · rw [outsAt0_A m c n h0]
    unfold tupA
    dsimp only
    exact soutA_eq m c n h0
  · rw [outsAt0_B m c n h0]
    unfold tupB
    dsimp only
    exact soutB_eq m c n h0 _

/-- The rows that the point before `n` left. -/
def before (c : Dev nD) (n : Fin cfg0.N) : Vec Ideal S16x256 .f32 :=
  (outsAt0 m c (n.val - 1) (Nat.lt_of_le_of_lt (Nat.sub_le _ _) n.isLt)).2.2.2.2.2.2.2.2.2.2.2.2.2.2

theorem outs_later (c : Dev nD) (n : Fin cfg0.N) (h0 : ¬n.val % 16 = 0) : outsAt0 m c n.val n.isLt = tupB m c n h0 (before m c n) :=
  outsAt0_B m c n h0

theorem kept_first (c : Dev nD) (n : Fin cfg0.N) (h0 : n.val % 16 = 0) : Kept m c n zeros := ⟨fun _ => rfl, fun h => absurd h0 h⟩

theorem kept_later (c : Dev nD) (n : Fin cfg0.N) (h0 : ¬n.val % 16 = 0) : Kept m c n (before m c n) :=
  ⟨fun h => absurd h h0, fun _ h => left_eq m c ⟨n.val - 1, h⟩⟩

theorem sum_wn (c : Dev nD) (b : Fin 8) (t : Fin 8192) (hl : Vec Ideal S16x256 .f32) (hk : Kept m c (pt b t) hl) (j : Fin 2944) :
    ∑ k, (norm m (pt b t) c hl : S512x1024.Idx → EReal) (ix2 (rw_ t) k) * (iblk m c 11 (pt b t) : S1024x2944.Idx → EReal) (ix2 k j)
      = ∑ k, h m c b t k * wn m c (ix2 k j) :=
  Finset.sum_congr rfl fun k _ => congrArg₂ (· * ·) (norm_pt m c b t hl hk k) (iblk11 m c _ k j)

theorem sum_wt (c : Dev nD) (b : Fin 8) (t : Fin 8192) (hl : Vec Ideal S16x256 .f32) (hk : Kept m c (pt b t) hl) (j : Fin 904) :
    ∑ k, wtAt m c (pt b t) (ix2 j k) * (norm m (pt b t) c hl : S512x1024.Idx → EReal) (ix2 (rw_ t) k)
      = ∑ k, h m c b t k * wt m c (ix2 j k) :=
  Finset.sum_congr rfl fun k _ => (mul_comm _ _).trans (congrArg₂ (· * ·) (norm_pt m c b t hl hk k) (iblk12 m c _ j k))

theorem idx13 : ∀ t : Fin cfg0.N, win0_13.index t = ![t.val / 16, t.val % 16, 0] :=
  (by decide +kernel : ∀ t : Fin grid0.N, win0_13.index t = ![t.val / 16, t.val % 16, 0])

theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (by
    have h : win0_13.index t = win0_13.index t' := h
    rw [idx13, idx13] at h
    have h0 : t.val / 16 = t'.val / 16 := congrFun h 0
    have h1 : t.val % 16 = t'.val % 16 := congrFun h 1
    exact Fin.ext (by omega))

theorem at13 (c : Dev nD) (b : Fin 8) (t : Fin 8192) (q : Fin 1024) :
    ((outsAt0 m c (pt b t).val (pt b t).isLt).1 : S1x512x1024.Idx → EReal) (ix3 0 (rw_ t) q) = mixAt m c b t q := by
  by_cases h0 : (pt b t).val % 16 = 0
  · rw [outsAt0_A m c _ h0]
    unfold tupA
    dsimp only
    exact (outA13_apply m c _ h0 (rw_ t) q).trans (mixed_pt m c b t zeros (kept_first m c _ h0) q)
  · rw [outs_later m c _ h0]
    unfold tupB
    dsimp only
    exact (outB13_apply m c _ h0 (before m c (pt b t)) (rw_ t) q).trans (mixed_pt m c b t _ (kept_later m c _ h0) q)

set_option maxRecDepth 16384 in
set_option maxHeartbeats 400000 in
theorem arr13 (c : Dev nD) (b : Fin 8) (t : Fin 8192) (q : Fin 1024) :
    ((dats m 0 c).arrAt 13 cfg0.N : S8x8192x1024.Idx → EReal) (ix3 b t q) = mixAt m c b t q := by
  have hi := idx13 (pt b t)
  have hp : (pt b t).val = 16 * b.val + t.val / 512 := rfl
  have e : ((cfg0.win 13).blk (pt b t)).view.emb (ix3 0 (rw_ t) q : S1x512x1024.Idx) = (ix3 b t q : S8x8192x1024.Idx) := by
    refine funext fun a => Fin.ext ?_
    match a with
    | ⟨0, _⟩ => show win0_13.index (pt b t) 0 * 1 + 1 * 0 = b.val; rw [hi, hp]; show (16 * b.val + t.val / 512) / 16 * 1 + 1 * 0 = b.val; omega
    | ⟨1, _⟩ => show win0_13.index (pt b t) 1 * 512 + 1 * (t.val % 512) = t.val; rw [hi, hp]; show (16 * b.val + t.val / 512) % 16 * 512 + 1 * (t.val % 512) = t.val; omega
    | ⟨2, _⟩ => show win0_13.index (pt b t) 2 * 1024 + 1 * q.val = q.val; rw [hi]; show 0 * 1024 + 1 * q.val = q.val; omega
  have s := (dats m 0 c).arrAt_emb_eq_flushed 13 disjoint13 (pt b t) (flush0_13 _) (ix3 0 (rw_ t) q : S1x512x1024.Idx)
  rw [e] at s
  refine s.trans ?_
  show (cfg0.win 13).cut (grid0.coords (pt b t)) ((dats m 0 c).after 13 (pt b t)) (ix3 0 (rw_ t) q : S1x512x1024.Idx) = _
  rw [after0_13]
  exact at13 m c b t q

theorem idx14 : ∀ t : Fin cfg0.N, win0_14.index t = ![t.val / 16, t.val % 16, 0] :=
  (by decide +kernel : ∀ t : Fin grid0.N, win0_14.index t = ![t.val / 16, t.val % 16, 0])

theorem disjoint14 : ∀ t t' : Fin cfg0.N, (cfg0.win 14).flush t = true → (cfg0.win 14).flush t' = true → t ≠ t' →
    Disjoint ((cfg0.win 14).blk t).view.set ((cfg0.win 14).blk t').view.set :=
  fun t t' _ _ hne => (cfg0.win 14).disjoint_blk fun h => hne (by
    have h : win0_14.index t = win0_14.index t' := h
    rw [idx14, idx14] at h
    have h0 : t.val / 16 = t'.val / 16 := congrFun h 0
    have h1 : t.val % 16 = t'.val % 16 := congrFun h 1
    exact Fin.ext (by omega))

theorem at14 (c : Dev nD) (b : Fin 8) (t : Fin 8192) (q : Fin 256) :
    ((outsAt0 m c (pt b t).val (pt b t).isLt).2.1 : S1x512x256.Idx → EReal) (ix3 0 (rw_ t) q) = ∑ k, h m c b t k * wn m c (ix2 k ⟨0 + q.val, by omega⟩) := by
  by_cases h0 : (pt b t).val % 16 = 0
  · rw [outsAt0_A m c _ h0]
    unfold tupA
    dsimp only
    exact (outA14_apply m c _ h0 (rw_ t) q).trans (sum_wn m c b t zeros (kept_first m c _ h0) _)
  · rw [outs_later m c _ h0]
    unfold tupB
    dsimp only
    exact (outB14_apply m c _ h0 (before m c (pt b t)) (rw_ t) q).trans (sum_wn m c b t _ (kept_later m c _ h0) _)

set_option maxRecDepth 16384 in
set_option maxHeartbeats 400000 in
theorem arr14 (c : Dev nD) (b : Fin 8) (t : Fin 8192) (q : Fin 256) :
    ((dats m 0 c).arrAt 14 cfg0.N : S8x8192x256.Idx → EReal) (ix3 b t q) = ∑ k, h m c b t k * wn m c (ix2 k ⟨0 + q.val, by omega⟩) := by
  have hi := idx14 (pt b t)
  have hp : (pt b t).val = 16 * b.val + t.val / 512 := rfl
  have e : ((cfg0.win 14).blk (pt b t)).view.emb (ix3 0 (rw_ t) q : S1x512x256.Idx) = (ix3 b t q : S8x8192x256.Idx) := by
    refine funext fun a => Fin.ext ?_
    match a with
    | ⟨0, _⟩ => show win0_14.index (pt b t) 0 * 1 + 1 * 0 = b.val; rw [hi, hp]; show (16 * b.val + t.val / 512) / 16 * 1 + 1 * 0 = b.val; omega
    | ⟨1, _⟩ => show win0_14.index (pt b t) 1 * 512 + 1 * (t.val % 512) = t.val; rw [hi, hp]; show (16 * b.val + t.val / 512) % 16 * 512 + 1 * (t.val % 512) = t.val; omega
    | ⟨2, _⟩ => show win0_14.index (pt b t) 2 * 256 + 1 * q.val = q.val; rw [hi]; show 0 * 256 + 1 * q.val = q.val; omega
  have s := (dats m 0 c).arrAt_emb_eq_flushed 14 disjoint14 (pt b t) (flush0_14 _) (ix3 0 (rw_ t) q : S1x512x256.Idx)
  rw [e] at s
  refine s.trans ?_
  show (cfg0.win 14).cut (grid0.coords (pt b t)) ((dats m 0 c).after 14 (pt b t)) (ix3 0 (rw_ t) q : S1x512x256.Idx) = _
  rw [after0_14]
  exact at14 m c b t q

theorem idx15 : ∀ t : Fin cfg0.N, win0_15.index t = ![t.val / 16, t.val % 16, 0] :=
  (by decide +kernel : ∀ t : Fin grid0.N, win0_15.index t = ![t.val / 16, t.val % 16, 0])

theorem disjoint15 : ∀ t t' : Fin cfg0.N, (cfg0.win 15).flush t = true → (cfg0.win 15).flush t' = true → t ≠ t' →
    Disjoint ((cfg0.win 15).blk t).view.set ((cfg0.win 15).blk t').view.set :=
  fun t t' _ _ hne => (cfg0.win 15).disjoint_blk fun h => hne (by
    have h : win0_15.index t = win0_15.index t' := h
    rw [idx15, idx15] at h
    have h0 : t.val / 16 = t'.val / 16 := congrFun h 0
    have h1 : t.val % 16 = t'.val % 16 := congrFun h 1
    exact Fin.ext (by omega))

theorem at15 (c : Dev nD) (b : Fin 8) (t : Fin 8192) (q : Fin 256) :
    ((outsAt0 m c (pt b t).val (pt b t).isLt).2.2.1 : S1x512x256.Idx → EReal) (ix3 0 (rw_ t) q) = ∑ k, h m c b t k * wn m c (ix2 k ⟨256 + q.val, by omega⟩) := by
  by_cases h0 : (pt b t).val % 16 = 0
  · rw [outsAt0_A m c _ h0]
    unfold tupA
    dsimp only
    exact (outA15_apply m c _ h0 (rw_ t) q).trans (sum_wn m c b t zeros (kept_first m c _ h0) _)
  · rw [outs_later m c _ h0]
    unfold tupB
    dsimp only
    exact (outB15_apply m c _ h0 (before m c (pt b t)) (rw_ t) q).trans (sum_wn m c b t _ (kept_later m c _ h0) _)

set_option maxRecDepth 16384 in
set_option maxHeartbeats 400000 in
theorem arr15 (c : Dev nD) (b : Fin 8) (t : Fin 8192) (q : Fin 256) :
    ((dats m 0 c).arrAt 15 cfg0.N : S8x8192x256.Idx → EReal) (ix3 b t q) = ∑ k, h m c b t k * wn m c (ix2 k ⟨256 + q.val, by omega⟩) := by
  have hi := idx15 (pt b t)
  have hp : (pt b t).val = 16 * b.val + t.val / 512 := rfl
  have e : ((cfg0.win 15).blk (pt b t)).view.emb (ix3 0 (rw_ t) q : S1x512x256.Idx) = (ix3 b t q : S8x8192x256.Idx) := by
    refine funext fun a => Fin.ext ?_
    match a with
    | ⟨0, _⟩ => show win0_15.index (pt b t) 0 * 1 + 1 * 0 = b.val; rw [hi, hp]; show (16 * b.val + t.val / 512) / 16 * 1 + 1 * 0 = b.val; omega
    | ⟨1, _⟩ => show win0_15.index (pt b t) 1 * 512 + 1 * (t.val % 512) = t.val; rw [hi, hp]; show (16 * b.val + t.val / 512) % 16 * 512 + 1 * (t.val % 512) = t.val; omega
    | ⟨2, _⟩ => show win0_15.index (pt b t) 2 * 256 + 1 * q.val = q.val; rw [hi]; show 0 * 256 + 1 * q.val = q.val; omega
  have s := (dats m 0 c).arrAt_emb_eq_flushed 15 disjoint15 (pt b t) (flush0_15 _) (ix3 0 (rw_ t) q : S1x512x256.Idx)
  rw [e] at s
  refine s.trans ?_
  show (cfg0.win 15).cut (grid0.coords (pt b t)) ((dats m 0 c).after 15 (pt b t)) (ix3 0 (rw_ t) q : S1x512x256.Idx) = _
  rw [after0_15]
  exact at15 m c b t q

theorem idx16 : ∀ t : Fin cfg0.N, win0_16.index t = ![t.val / 16, t.val % 16, 0] :=
  (by decide +kernel : ∀ t : Fin grid0.N, win0_16.index t = ![t.val / 16, t.val % 16, 0])

theorem disjoint16 : ∀ t t' : Fin cfg0.N, (cfg0.win 16).flush t = true → (cfg0.win 16).flush t' = true → t ≠ t' →
    Disjoint ((cfg0.win 16).blk t).view.set ((cfg0.win 16).blk t').view.set :=
  fun t t' _ _ hne => (cfg0.win 16).disjoint_blk fun h => hne (by
    have h : win0_16.index t = win0_16.index t' := h
    rw [idx16, idx16] at h
    have h0 : t.val / 16 = t'.val / 16 := congrFun h 0
    have h1 : t.val % 16 = t'.val % 16 := congrFun h 1
    exact Fin.ext (by omega))

theorem at16 (c : Dev nD) (b : Fin 8) (t : Fin 8192) (q : Fin 512) :
    ((outsAt0 m c (pt b t).val (pt b t).isLt).2.2.2.1 : S1x512x512.Idx → EReal) (ix3 0 (rw_ t) q) = ∑ k, h m c b t k * wn m c (ix2 k ⟨512 + q.val, by omega⟩) := by
  by_cases h0 : (pt b t).val % 16 = 0
  · rw [outsAt0_A m c _ h0]
    unfold tupA
    dsimp only
    exact (outA16_apply m c _ h0 (rw_ t) q).trans (sum_wn m c b t zeros (kept_first m c _ h0) _)
  · rw [outs_later m c _ h0]
    unfold tupB
    dsimp only
    exact (outB16_apply m c _ h0 (before m c (pt b t)) (rw_ t) q).trans (sum_wn m c b t _ (kept_later m c _ h0) _)

set_option maxRecDepth 16384 in
set_option maxHeartbeats 400000 in
theorem arr16 (c : Dev nD) (b : Fin 8) (t : Fin 8192) (q : Fin 512) :
    ((dats m 0 c).arrAt 16 cfg0.N : S8x8192x512.Idx → EReal) (ix3 b t q) = ∑ k, h m c b t k * wn m c (ix2 k ⟨512 + q.val, by omega⟩) := by
  have hi := idx16 (pt b t)
  have hp : (pt b t).val = 16 * b.val + t.val / 512 := rfl
  have e : ((cfg0.win 16).blk (pt b t)).view.emb (ix3 0 (rw_ t) q : S1x512x512.Idx) = (ix3 b t q : S8x8192x512.Idx) := by
    refine funext fun a => Fin.ext ?_
    match a with
    | ⟨0, _⟩ => show win0_16.index (pt b t) 0 * 1 + 1 * 0 = b.val; rw [hi, hp]; show (16 * b.val + t.val / 512) / 16 * 1 + 1 * 0 = b.val; omega
    | ⟨1, _⟩ => show win0_16.index (pt b t) 1 * 512 + 1 * (t.val % 512) = t.val; rw [hi, hp]; show (16 * b.val + t.val / 512) % 16 * 512 + 1 * (t.val % 512) = t.val; omega
    | ⟨2, _⟩ => show win0_16.index (pt b t) 2 * 512 + 1 * q.val = q.val; rw [hi]; show 0 * 512 + 1 * q.val = q.val; omega
  have s := (dats m 0 c).arrAt_emb_eq_flushed 16 disjoint16 (pt b t) (flush0_16 _) (ix3 0 (rw_ t) q : S1x512x512.Idx)
  rw [e] at s
  refine s.trans ?_
  show (cfg0.win 16).cut (grid0.coords (pt b t)) ((dats m 0 c).after 16 (pt b t)) (ix3 0 (rw_ t) q : S1x512x512.Idx) = _
  rw [after0_16]
  exact at16 m c b t q

theorem idx17 : ∀ t : Fin cfg0.N, win0_17.index t = ![t.val / 16, t.val % 16, 0] :=
  (by decide +kernel : ∀ t : Fin grid0.N, win0_17.index t = ![t.val / 16, t.val % 16, 0])

theorem disjoint17 : ∀ t t' : Fin cfg0.N, (cfg0.win 17).flush t = true → (cfg0.win 17).flush t' = true → t ≠ t' →
    Disjoint ((cfg0.win 17).blk t).view.set ((cfg0.win 17).blk t').view.set :=
  fun t t' _ _ hne => (cfg0.win 17).disjoint_blk fun h => hne (by
    have h : win0_17.index t = win0_17.index t' := h
    rw [idx17, idx17] at h
    have h0 : t.val / 16 = t'.val / 16 := congrFun h 0
    have h1 : t.val % 16 = t'.val % 16 := congrFun h 1
    exact Fin.ext (by omega))

theorem at17 (c : Dev nD) (b : Fin 8) (t : Fin 8192) (q : Fin 512) :
    ((outsAt0 m c (pt b t).val (pt b t).isLt).2.2.2.2.1 : S1x512x512.Idx → EReal) (ix3 0 (rw_ t) q) = ∑ k, h m c b t k * wn m c (ix2 k ⟨1024 + q.val, by omega⟩) := by
  by_cases h0 : (pt b t).val % 16 = 0
  · rw [outsAt0_A m c _ h0]
    unfold tupA
    dsimp only
    exact (outA17_apply m c _ h0 (rw_ t) q).trans (sum_wn m c b t zeros (kept_first m c _ h0) _)
  · rw [outs_later m c _ h0]
    unfold tupB
    dsimp only
    exact (outB17_apply m c _ h0 (before m c (pt b t)) (rw_ t) q).trans (sum_wn m c b t _ (kept_later m c _ h0) _)

set_option maxRecDepth 16384 in
set_option maxHeartbeats 400000 in
theorem arr17 (c : Dev nD) (b : Fin 8) (t : Fin 8192) (q : Fin 512) :
    ((dats m 0 c).arrAt 17 cfg0.N : S8x8192x512.Idx → EReal) (ix3 b t q) = ∑ k, h m c b t k * wn m c (ix2 k ⟨1024 + q.val, by omega⟩) := by
  have hi := idx17 (pt b t)
  have hp : (pt b t).val = 16 * b.val + t.val / 512 := rfl
  have e : ((cfg0.win 17).blk (pt b t)).view.emb (ix3 0 (rw_ t) q : S1x512x512.Idx) = (ix3 b t q : S8x8192x512.Idx) := by
    refine funext fun a => Fin.ext ?_
    match a with
    | ⟨0, _⟩ => show win0_17.index (pt b t) 0 * 1 + 1 * 0 = b.val; rw [hi, hp]; show (16 * b.val + t.val / 512) / 16 * 1 + 1 * 0 = b.val; omega
    | ⟨1, _⟩ => show win0_17.index (pt b t) 1 * 512 + 1 * (t.val % 512) = t.val; rw [hi, hp]; show (16 * b.val + t.val / 512) % 16 * 512 + 1 * (t.val % 512) = t.val; omega
    | ⟨2, _⟩ => show win0_17.index (pt b t) 2 * 512 + 1 * q.val = q.val; rw [hi]; show 0 * 512 + 1 * q.val = q.val; omega
  have s := (dats m 0 c).arrAt_emb_eq_flushed 17 disjoint17 (pt b t) (flush0_17 _) (ix3 0 (rw_ t) q : S1x512x512.Idx)
  rw [e] at s
  refine s.trans ?_
  show (cfg0.win 17).cut (grid0.coords (pt b t)) ((dats m 0 c).after 17 (pt b t)) (ix3 0 (rw_ t) q : S1x512x512.Idx) = _
  rw [after0_17]
  exact at17 m c b t q

theorem idx18 : ∀ t : Fin cfg0.N, win0_18.index t = ![t.val / 16, t.val % 16, 0] :=
  (by decide +kernel : ∀ t : Fin grid0.N, win0_18.index t = ![t.val / 16, t.val % 16, 0])

theorem disjoint18 : ∀ t t' : Fin cfg0.N, (cfg0.win 18).flush t = true → (cfg0.win 18).flush t' = true → t ≠ t' →
    Disjoint ((cfg0.win 18).blk t).view.set ((cfg0.win 18).blk t').view.set :=
  fun t t' _ _ hne => (cfg0.win 18).disjoint_blk fun h => hne (by
    have h : win0_18.index t = win0_18.index t' := h
    rw [idx18, idx18] at h
    have h0 : t.val / 16 = t'.val / 16 := congrFun h 0
    have h1 : t.val % 16 = t'.val % 16 := congrFun h 1
    exact Fin.ext (by omega))

theorem at18 (c : Dev nD) (b : Fin 8) (t : Fin 8192) (q : Fin 384) :
    ((outsAt0 m c (pt b t).val (pt b t).isLt).2.2.2.2.2.1 : S1x512x384.Idx → EReal) (ix3 0 (rw_ t) q) = ∑ k, h m c b t k * wn m c (ix2 k ⟨1536 + q.val, by omega⟩) := by
  by_cases h0 : (pt b t).val % 16 = 0
  · rw [outsAt0_A m c _ h0]
    unfold tupA
    dsimp only
    exact (outA18_apply m c _ h0 (rw_ t) q).trans (sum_wn m c b t zeros (kept_first m c _ h0) _)
  · rw [outs_later m c _ h0]
    unfold tupB
    dsimp only
    exact (outB18_apply m c _ h0 (before m c (pt b t)) (rw_ t) q).trans (sum_wn m c b t _ (kept_later m c _ h0) _)

set_option maxRecDepth 16384 in
set_option maxHeartbeats 400000 in
theorem arr18 (c : Dev nD) (b : Fin 8) (t : Fin 8192) (q : Fin 384) :
    ((dats m 0 c).arrAt 18 cfg0.N : S8x8192x384.Idx → EReal) (ix3 b t q) = ∑ k, h m c b t k * wn m c (ix2 k ⟨1536 + q.val, by omega⟩) := by
  have hi := idx18 (pt b t)
  have hp : (pt b t).val = 16 * b.val + t.val / 512 := rfl
  have e : ((cfg0.win 18).blk (pt b t)).view.emb (ix3 0 (rw_ t) q : S1x512x384.Idx) = (ix3 b t q : S8x8192x384.Idx) := by
    refine funext fun a => Fin.ext ?_
    match a with
    | ⟨0, _⟩ => show win0_18.index (pt b t) 0 * 1 + 1 * 0 = b.val; rw [hi, hp]; show (16 * b.val + t.val / 512) / 16 * 1 + 1 * 0 = b.val; omega
    | ⟨1, _⟩ => show win0_18.index (pt b t) 1 * 512 + 1 * (t.val % 512) = t.val; rw [hi, hp]; show (16 * b.val + t.val / 512) % 16 * 512 + 1 * (t.val % 512) = t.val; omega
    | ⟨2, _⟩ => show win0_18.index (pt b t) 2 * 384 + 1 * q.val = q.val; rw [hi]; show 0 * 384 + 1 * q.val = q.val; omega
  have s := (dats m 0 c).arrAt_emb_eq_flushed 18 disjoint18 (pt b t) (flush0_18 _) (ix3 0 (rw_ t) q : S1x512x384.Idx)
  rw [e] at s
  refine s.trans ?_
  show (cfg0.win 18).cut (grid0.coords (pt b t)) ((dats m 0 c).after 18 (pt b t)) (ix3 0 (rw_ t) q : S1x512x384.Idx) = _
  rw [after0_18]
  exact at18 m c b t q

theorem idx19 : ∀ t : Fin cfg0.N, win0_19.index t = ![t.val / 16, t.val % 16, 0] :=
  (by decide +kernel : ∀ t : Fin grid0.N, win0_19.index t = ![t.val / 16, t.val % 16, 0])

theorem disjoint19 : ∀ t t' : Fin cfg0.N, (cfg0.win 19).flush t = true → (cfg0.win 19).flush t' = true → t ≠ t' →
    Disjoint ((cfg0.win 19).blk t).view.set ((cfg0.win 19).blk t').view.set :=
  fun t t' _ _ hne => (cfg0.win 19).disjoint_blk fun h => hne (by
    have h : win0_19.index t = win0_19.index t' := h
    rw [idx19, idx19] at h
    have h0 : t.val / 16 = t'.val / 16 := congrFun h 0
    have h1 : t.val % 16 = t'.val % 16 := congrFun h 1
    exact Fin.ext (by omega))

theorem at19 (c : Dev nD) (b : Fin 8) (t : Fin 8192) (q : Fin 128) :
    ((outsAt0 m c (pt b t).val (pt b t).isLt).2.2.2.2.2.2.1 : S1x512x128.Idx → EReal) (ix3 0 (rw_ t) q) = ∑ k, h m c b t k * wn m c (ix2 k ⟨1920 + q.val, by omega⟩) := by
  by_cases h0 : (pt b t).val % 16 = 0
  · rw [outsAt0_A m c _ h0]
    unfold tupA
    dsimp only
    exact (outA19_apply m c _ h0 (rw_ t) q).trans (sum_wn m c b t zeros (kept_first m c _ h0) _)
  · rw [outs_later m c _ h0]
    unfold tupB
    dsimp only
    exact (outB19_apply m c _ h0 (before m c (pt b t)) (rw_ t) q).trans (sum_wn m c b t _ (kept_later m c _ h0) _)

set_option maxRecDepth 16384 in
set_option maxHeartbeats 400000 in
theorem arr19 (c : Dev nD) (b : Fin 8) (t : Fin 8192) (q : Fin 128) :
    ((dats m 0 c).arrAt 19 cfg0.N : S8x8192x128.Idx → EReal) (ix3 b t q) = ∑ k, h m c b t k * wn m c (ix2 k ⟨1920 + q.val, by omega⟩) := by
  have hi := idx19 (pt b t)
  have hp : (pt b t).val = 16 * b.val + t.val / 512 := rfl
  have e : ((cfg0.win 19).blk (pt b t)).view.emb (ix3 0 (rw_ t) q : S1x512x128.Idx) = (ix3 b t q : S8x8192x128.Idx) := by
    refine funext fun a => Fin.ext ?_
    match a with
    | ⟨0, _⟩ => show win0_19.index (pt b t) 0 * 1 + 1 * 0 = b.val; rw [hi, hp]; show (16 * b.val + t.val / 512) / 16 * 1 + 1 * 0 = b.val; omega
    | ⟨1, _⟩ => show win0_19.index (pt b t) 1 * 512 + 1 * (t.val % 512) = t.val; rw [hi, hp]; show (16 * b.val + t.val / 512) % 16 * 512 + 1 * (t.val % 512) = t.val; omega
    | ⟨2, _⟩ => show win0_19.index (pt b t) 2 * 128 + 1 * q.val = q.val; rw [hi]; show 0 * 128 + 1 * q.val = q.val; omega
  have s := (dats m 0 c).arrAt_emb_eq_flushed 19 disjoint19 (pt b t) (flush0_19 _) (ix3 0 (rw_ t) q : S1x512x128.Idx)
  rw [e] at s
  refine s.trans ?_
  show (cfg0.win 19).cut (grid0.coords (pt b t)) ((dats m 0 c).after 19 (pt b t)) (ix3 0 (rw_ t) q : S1x512x128.Idx) = _
  rw [after0_19]
  exact at19 m c b t q

theorem idx20 : ∀ t : Fin cfg0.N, win0_20.index t = ![t.val / 16, t.val % 16, 0] :=
  (by decide +kernel : ∀ t : Fin grid0.N, win0_20.index t = ![t.val / 16, t.val % 16, 0])

theorem disjoint20 : ∀ t t' : Fin cfg0.N, (cfg0.win 20).flush t = true → (cfg0.win 20).flush t' = true → t ≠ t' →
    Disjoint ((cfg0.win 20).blk t).view.set ((cfg0.win 20).blk t').view.set :=
  fun t t' _ _ hne => (cfg0.win 20).disjoint_blk fun h => hne (by
    have h : win0_20.index t = win0_20.index t' := h
    rw [idx20, idx20] at h
    have h0 : t.val / 16 = t'.val / 16 := congrFun h 0
    have h1 : t.val % 16 = t'.val % 16 := congrFun h 1
    exact Fin.ext (by omega))

theorem at20 (c : Dev nD) (b : Fin 8) (t : Fin 8192) (q : Fin 384) :
    ((outsAt0 m c (pt b t).val (pt b t).isLt).2.2.2.2.2.2.2.1 : S1x512x384.Idx → EReal) (ix3 0 (rw_ t) q) = ∑ k, h m c b t k * wn m c (ix2 k ⟨2048 + q.val, by omega⟩) := by
  by_cases h0 : (pt b t).val % 16 = 0
  · rw [outsAt0_A m c _ h0]
    unfold tupA
    dsimp only
    exact (outA20_apply m c _ h0 (rw_ t) q).trans (sum_wn m c b t zeros (kept_first m c _ h0) _)
  · rw [outs_later m c _ h0]
    unfold tupB
    dsimp only
    exact (outB20_apply m c _ h0 (before m c (pt b t)) (rw_ t) q).trans (sum_wn m c b t _ (kept_later m c _ h0) _)

set_option maxRecDepth 16384 in
set_option maxHeartbeats 400000 in
theorem arr20 (c : Dev nD) (b : Fin 8) (t : Fin 8192) (q : Fin 384) :
    ((dats m 0 c).arrAt 20 cfg0.N : S8x8192x384.Idx → EReal) (ix3 b t q) = ∑ k, h m c b t k * wn m c (ix2 k ⟨2048 + q.val, by omega⟩) := by
  have hi := idx20 (pt b t)
  have hp : (pt b t).val = 16 * b.val + t.val / 512 := rfl
  have e : ((cfg0.win 20).blk (pt b t)).view.emb (ix3 0 (rw_ t) q : S1x512x384.Idx) = (ix3 b t q : S8x8192x384.Idx) := by
    refine funext fun a => Fin.ext ?_
    match a with
    | ⟨0, _⟩ => show win0_20.index (pt b t) 0 * 1 + 1 * 0 = b.val; rw [hi, hp]; show (16 * b.val + t.val / 512) / 16 * 1 + 1 * 0 = b.val; omega
    | ⟨1, _⟩ => show win0_20.index (pt b t) 1 * 512 + 1 * (t.val % 512) = t.val; rw [hi, hp]; show (16 * b.val + t.val / 512) % 16 * 512 + 1 * (t.val % 512) = t.val; omega
    | ⟨2, _⟩ => show win0_20.index (pt b t) 2 * 384 + 1 * q.val = q.val; rw [hi]; show 0 * 384 + 1 * q.val = q.val; omega
  have s := (dats m 0 c).arrAt_emb_eq_flushed 20 disjoint20 (pt b t) (flush0_20 _) (ix3 0 (rw_ t) q : S1x512x384.Idx)
  rw [e] at s
  refine s.trans ?_
  show (cfg0.win 20).cut (grid0.coords (pt b t)) ((dats m 0 c).after 20 (pt b t)) (ix3 0 (rw_ t) q : S1x512x384.Idx) = _
  rw [after0_20]
  exact at20 m c b t q

theorem idx21 : ∀ t : Fin cfg0.N, win0_21.index t = ![t.val / 16, t.val % 16, 0] :=
  (by decide +kernel : ∀ t : Fin grid0.N, win0_21.index t = ![t.val / 16, t.val % 16, 0])

theorem disjoint21 : ∀ t t' : Fin cfg0.N, (cfg0.win 21).flush t = true → (cfg0.win 21).flush t' = true → t ≠ t' →
    Disjoint ((cfg0.win 21).blk t).view.set ((cfg0.win 21).blk t').view.set :=
  fun t t' _ _ hne => (cfg0.win 21).disjoint_blk fun h => hne (by
    have h : win0_21.index t = win0_21.index t' := h
    rw [idx21, idx21] at h
    have h0 : t.val / 16 = t'.val / 16 := congrFun h 0
    have h1 : t.val % 16 = t'.val % 16 := congrFun h 1
    exact Fin.ext (by omega))

theorem at21 (c : Dev nD) (b : Fin 8) (t : Fin 8192) (q : Fin 256) :
    ((outsAt0 m c (pt b t).val (pt b t).isLt).2.2.2.2.2.2.2.2.1 : S1x512x256.Idx → EReal) (ix3 0 (rw_ t) q) = ∑ k, h m c b t k * wn m c (ix2 k ⟨2432 + q.val, by omega⟩) := by
  by_cases h0 : (pt b t).val % 16 = 0
  · rw [outsAt0_A m c _ h0]
    unfold tupA
    dsimp only
    exact (outA21_apply m c _ h0 (rw_ t) q).trans (sum_wn m c b t zeros (kept_first m c _ h0) _)
  · rw [outs_later m c _ h0]
    unfold tupB
    dsimp only
    exact (outB21_apply m c _ h0 (before m c (pt b t)) (rw_ t) q).trans (sum_wn m c b t _ (kept_later m c _ h0) _)

set_option maxRecDepth 16384 in
set_option maxHeartbeats 400000 in
theorem arr21 (c : Dev nD) (b : Fin 8) (t : Fin 8192) (q : Fin 256) :
    ((dats m 0 c).arrAt 21 cfg0.N : S8x8192x256.Idx → EReal) (ix3 b t q) = ∑ k, h m c b t k * wn m c (ix2 k ⟨2432 + q.val, by omega⟩) := by
  have hi := idx21 (pt b t)
  have hp : (pt b t).val = 16 * b.val + t.val / 512 := rfl
  have e : ((cfg0.win 21).blk (pt b t)).view.emb (ix3 0 (rw_ t) q : S1x512x256.Idx) = (ix3 b t q : S8x8192x256.Idx) := by
    refine funext fun a => Fin.ext ?_
    match a with
    | ⟨0, _⟩ => show win0_21.index (pt b t) 0 * 1 + 1 * 0 = b.val; rw [hi, hp]; show (16 * b.val + t.val / 512) / 16 * 1 + 1 * 0 = b.val; omega
    | ⟨1, _⟩ => show win0_21.index (pt b t) 1 * 512 + 1 * (t.val % 512) = t.val; rw [hi, hp]; show (16 * b.val + t.val / 512) % 16 * 512 + 1 * (t.val % 512) = t.val; omega
    | ⟨2, _⟩ => show win0_21.index (pt b t) 2 * 256 + 1 * q.val = q.val; rw [hi]; show 0 * 256 + 1 * q.val = q.val; omega
  have s := (dats m 0 c).arrAt_emb_eq_flushed 21 disjoint21 (pt b t) (flush0_21 _) (ix3 0 (rw_ t) q : S1x512x256.Idx)
  rw [e] at s
  refine s.trans ?_
  show (cfg0.win 21).cut (grid0.coords (pt b t)) ((dats m 0 c).after 21 (pt b t)) (ix3 0 (rw_ t) q : S1x512x256.Idx) = _
  rw [after0_21]
  exact at21 m c b t q

theorem idx22 : ∀ t : Fin cfg0.N, win0_22.index t = ![t.val / 16, t.val % 16, 0] :=
  (by decide +kernel : ∀ t : Fin grid0.N, win0_22.index t = ![t.val / 16, t.val % 16, 0])

theorem disjoint22 : ∀ t t' : Fin cfg0.N, (cfg0.win 22).flush t = true → (cfg0.win 22).flush t' = true → t ≠ t' →
    Disjoint ((cfg0.win 22).blk t).view.set ((cfg0.win 22).blk t').view.set :=
  fun t t' _ _ hne => (cfg0.win 22).disjoint_blk fun h => hne (by
    have h : win0_22.index t = win0_22.index t' := h
    rw [idx22, idx22] at h
    have h0 : t.val / 16 = t'.val / 16 := congrFun h 0
    have h1 : t.val % 16 = t'.val % 16 := congrFun h 1
    exact Fin.ext (by omega))

theorem at22 (c : Dev nD) (b : Fin 8) (t : Fin 8192) (q : Fin 256) :
    ((outsAt0 m c (pt b t).val (pt b t).isLt).2.2.2.2.2.2.2.2.2.1 : S1x512x256.Idx → EReal) (ix3 0 (rw_ t) q) = ∑ k, h m c b t k * wn m c (ix2 k ⟨2688 + q.val, by omega⟩) := by
  by_cases h0 : (pt b t).val % 16 = 0
  · rw [outsAt0_A m c _ h0]
    unfold tupA
    dsimp only
    exact (outA22_apply m c _ h0 (rw_ t) q).trans (sum_wn m c b t zeros (kept_first m c _ h0) _)
  · rw [outs_later m c _ h0]
    unfold tupB
    dsimp only
    exact (outB22_apply m c _ h0 (before m c (pt b t)) (rw_ t) q).trans (sum_wn m c b t _ (kept_later m c _ h0) _)

set_option maxRecDepth 16384 in
set_option maxHeartbeats 400000 in
theorem arr22 (c : Dev nD) (b : Fin 8) (t : Fin 8192) (q : Fin 256) :
    ((dats m 0 c).arrAt 22 cfg0.N : S8x8192x256.Idx → EReal) (ix3 b t q) = ∑ k, h m c b t k * wn m c (ix2 k ⟨2688 + q.val, by omega⟩) := by
  have hi := idx22 (pt b t)
  have hp : (pt b t).val = 16 * b.val + t.val / 512 := rfl
  have e : ((cfg0.win 22).blk (pt b t)).view.emb (ix3 0 (rw_ t) q : S1x512x256.Idx) = (ix3 b t q : S8x8192x256.Idx) := by
    refine funext fun a => Fin.ext ?_
    match a with
    | ⟨0, _⟩ => show win0_22.index (pt b t) 0 * 1 + 1 * 0 = b.val; rw [hi, hp]; show (16 * b.val + t.val / 512) / 16 * 1 + 1 * 0 = b.val; omega
    | ⟨1, _⟩ => show win0_22.index (pt b t) 1 * 512 + 1 * (t.val % 512) = t.val; rw [hi, hp]; show (16 * b.val + t.val / 512) % 16 * 512 + 1 * (t.val % 512) = t.val; omega
    | ⟨2, _⟩ => show win0_22.index (pt b t) 2 * 256 + 1 * q.val = q.val; rw [hi]; show 0 * 256 + 1 * q.val = q.val; omega
  have s := (dats m 0 c).arrAt_emb_eq_flushed 22 disjoint22 (pt b t) (flush0_22 _) (ix3 0 (rw_ t) q : S1x512x256.Idx)
  rw [e] at s
  refine s.trans ?_
  show (cfg0.win 22).cut (grid0.coords (pt b t)) ((dats m 0 c).after 22 (pt b t)) (ix3 0 (rw_ t) q : S1x512x256.Idx) = _
  rw [after0_22]
  exact at22 m c b t q

theorem idx23 : ∀ t : Fin cfg0.N, win0_23.index t = ![t.val / 16, 0, t.val % 16] :=
  (by decide +kernel : ∀ t : Fin grid0.N, win0_23.index t = ![t.val / 16, 0, t.val % 16])

theorem disjoint23 : ∀ t t' : Fin cfg0.N, (cfg0.win 23).flush t = true → (cfg0.win 23).flush t' = true → t ≠ t' →
    Disjoint ((cfg0.win 23).blk t).view.set ((cfg0.win 23).blk t').view.set :=
  fun t t' _ _ hne => (cfg0.win 23).disjoint_blk fun h => hne (by
    have h : win0_23.index t = win0_23.index t' := h
    rw [idx23, idx23] at h
    have h0 : t.val / 16 = t'.val / 16 := congrFun h 0
    have h1 : t.val % 16 = t'.val % 16 := congrFun h 2
    exact Fin.ext (by omega))

theorem at23 (c : Dev nD) (b : Fin 8) (q : Fin 384) (t : Fin 8192) :
    ((outsAt0 m c (pt b t).val (pt b t).isLt).2.2.2.2.2.2.2.2.2.2.1 : S1x384x512.Idx → EReal) (ix3 0 q (rw_ t)) = (∑ k, h m c b t k * wt m c (ix2 ⟨0 + q.val, by omega⟩ k)) * qScale := by
  by_cases h0 : (pt b t).val % 16 = 0
  · rw [outsAt0_A m c _ h0]
    unfold tupA
    dsimp only
    exact (outA23_apply m c _ h0 q (rw_ t)).trans (congrArg (· * qScale) (sum_wt m c b t zeros (kept_first m c _ h0) _))
  · rw [outs_later m c _ h0]
    unfold tupB
    dsimp only
    exact (outB23_apply m c _ h0 (before m c (pt b t)) q (rw_ t)).trans (congrArg (· * qScale) (sum_wt m c b t _ (kept_later m c _ h0) _))

set_option maxRecDepth 16384 in
set_option maxHeartbeats 400000 in
theorem arr23 (c : Dev nD) (b : Fin 8) (q : Fin 384) (t : Fin 8192) :
    ((dats m 0 c).arrAt 23 cfg0.N : S8x384x8192.Idx → EReal) (ix3 b q t) = (∑ k, h m c b t k * wt m c (ix2 ⟨0 + q.val, by omega⟩ k)) * qScale := by
  have hi := idx23 (pt b t)
  have hp : (pt b t).val = 16 * b.val + t.val / 512 := rfl
  have e : ((cfg0.win 23).blk (pt b t)).view.emb (ix3 0 q (rw_ t) : S1x384x512.Idx) = (ix3 b q t : S8x384x8192.Idx) := by
    refine funext fun a => Fin.ext ?_
    match a with
    | ⟨0, _⟩ => show win0_23.index (pt b t) 0 * 1 + 1 * 0 = b.val; rw [hi, hp]; show (16 * b.val + t.val / 512) / 16 * 1 + 1 * 0 = b.val; omega
    | ⟨1, _⟩ => show win0_23.index (pt b t) 1 * 384 + 1 * q.val = q.val; rw [hi]; show 0 * 384 + 1 * q.val = q.val; omega
    | ⟨2, _⟩ => show win0_23.index (pt b t) 2 * 512 + 1 * (t.val % 512) = t.val; rw [hi, hp]; show (16 * b.val + t.val / 512) % 16 * 512 + 1 * (t.val % 512) = t.val; omega
  have s := (dats m 0 c).arrAt_emb_eq_flushed 23 disjoint23 (pt b t) (flush0_23 _) (ix3 0 q (rw_ t) : S1x384x512.Idx)
  rw [e] at s
  refine s.trans ?_
  show (cfg0.win 23).cut (grid0.coords (pt b t)) ((dats m 0 c).after 23 (pt b t)) (ix3 0 q (rw_ t) : S1x384x512.Idx) = _
  rw [after0_23]
  exact at23 m c b q t

theorem idx24 : ∀ t : Fin cfg0.N, win0_24.index t = ![t.val / 16, 0, t.val % 16] :=
  (by decide +kernel : ∀ t : Fin grid0.N, win0_24.index t = ![t.val / 16, 0, t.val % 16])

theorem disjoint24 : ∀ t t' : Fin cfg0.N, (cfg0.win 24).flush t = true → (cfg0.win 24).flush t' = true → t ≠ t' →
    Disjoint ((cfg0.win 24).blk t).view.set ((cfg0.win 24).blk t').view.set :=
  fun t t' _ _ hne => (cfg0.win 24).disjoint_blk fun h => hne (by
    have h : win0_24.index t = win0_24.index t' := h
    rw [idx24, idx24] at h
    have h0 : t.val / 16 = t'.val / 16 := congrFun h 0
    have h1 : t.val % 16 = t'.val % 16 := congrFun h 2
    exact Fin.ext (by omega))

theorem at24 (c : Dev nD) (b : Fin 8) (q : Fin 384) (t : Fin 8192) :
    ((outsAt0 m c (pt b t).val (pt b t).isLt).2.2.2.2.2.2.2.2.2.2.2.1 : S1x384x512.Idx → EReal) (ix3 0 q (rw_ t)) = (∑ k, h m c b t k * wt m c (ix2 ⟨384 + q.val, by omega⟩ k)) := by
  by_cases h0 : (pt b t).val % 16 = 0
  · rw [outsAt0_A m c _ h0]
    unfold tupA
    dsimp only
    exact (outA24_apply m c _ h0 q (rw_ t)).trans (sum_wt m c b t zeros (kept_first m c _ h0) _)
  · rw [outs_later m c _ h0]
    unfold tupB
    dsimp only
    exact (outB24_apply m c _ h0 (before m c (pt b t)) q (rw_ t)).trans (sum_wt m c b t _ (kept_later m c _ h0) _)

set_option maxRecDepth 16384 in
set_option maxHeartbeats 400000 in
theorem arr24 (c : Dev nD) (b : Fin 8) (q : Fin 384) (t : Fin 8192) :
    ((dats m 0 c).arrAt 24 cfg0.N : S8x384x8192.Idx → EReal) (ix3 b q t) = (∑ k, h m c b t k * wt m c (ix2 ⟨384 + q.val, by omega⟩ k)) := by
  have hi := idx24 (pt b t)
  have hp : (pt b t).val = 16 * b.val + t.val / 512 := rfl
  have e : ((cfg0.win 24).blk (pt b t)).view.emb (ix3 0 q (rw_ t) : S1x384x512.Idx) = (ix3 b q t : S8x384x8192.Idx) := by
    refine funext fun a => Fin.ext ?_
    match a with
    | ⟨0, _⟩ => show win0_24.index (pt b t) 0 * 1 + 1 * 0 = b.val; rw [hi, hp]; show (16 * b.val + t.val / 512) / 16 * 1 + 1 * 0 = b.val; omega
    | ⟨1, _⟩ => show win0_24.index (pt b t) 1 * 384 + 1 * q.val = q.val; rw [hi]; show 0 * 384 + 1 * q.val = q.val; omega
    | ⟨2, _⟩ => show win0_24.index (pt b t) 2 * 512 + 1 * (t.val % 512) = t.val; rw [hi, hp]; show (16 * b.val + t.val / 512) % 16 * 512 + 1 * (t.val % 512) = t.val; omega
  have s := (dats m 0 c).arrAt_emb_eq_flushed 24 disjoint24 (pt b t) (flush0_24 _) (ix3 0 q (rw_ t) : S1x384x512.Idx)
  rw [e] at s
  refine s.trans ?_
  show (cfg0.win 24).cut (grid0.coords (pt b t)) ((dats m 0 c).after 24 (pt b t)) (ix3 0 q (rw_ t) : S1x384x512.Idx) = _
  rw [after0_24]
  exact at24 m c b q t

theorem idx25 : ∀ t : Fin cfg0.N, win0_25.index t = ![t.val / 16, 0, t.val % 16] :=
  (by decide +kernel : ∀ t : Fin grid0.N, win0_25.index t = ![t.val / 16, 0, t.val % 16])

theorem disjoint25 : ∀ t t' : Fin cfg0.N, (cfg0.win 25).flush t = true → (cfg0.win 25).flush t' = true → t ≠ t' →
    Disjoint ((cfg0.win 25).blk t).view.set ((cfg0.win 25).blk t').view.set :=
  fun t t' _ _ hne => (cfg0.win 25).disjoint_blk fun h => hne (by
    have h : win0_25.index t = win0_25.index t' := h
    rw [idx25, idx25] at h
    have h0 : t.val / 16 = t'.val / 16 := congrFun h 0
    have h1 : t.val % 16 = t'.val % 16 := congrFun h 2
    exact Fin.ext (by omega))

theorem at25 (c : Dev nD) (b : Fin 8) (q : Fin 128) (t : Fin 8192) :
    ((outsAt0 m c (pt b t).val (pt b t).isLt).2.2.2.2.2.2.2.2.2.2.2.2.1 : S1x128x512.Idx → EReal) (ix3 0 q (rw_ t)) = (∑ k, h m c b t k * wt m c (ix2 ⟨768 + q.val, by omega⟩ k)) := by
  by_cases h0 : (pt b t).val % 16 = 0
  · rw [outsAt0_A m c _ h0]
    unfold tupA
    dsimp only
    exact (outA25_apply m c _ h0 q (rw_ t)).trans (sum_wt m c b t zeros (kept_first m c _ h0) _)
  · rw [outs_later m c _ h0]
    unfold tupB
    dsimp only
    exact (outB25_apply m c _ h0 (before m c (pt b t)) q (rw_ t)).trans (sum_wt m c b t _ (kept_later m c _ h0) _)

set_option maxRecDepth 16384 in
set_option maxHeartbeats 400000 in
theorem arr25 (c : Dev nD) (b : Fin 8) (q : Fin 128) (t : Fin 8192) :
    ((dats m 0 c).arrAt 25 cfg0.N : S8x128x8192.Idx → EReal) (ix3 b q t) = (∑ k, h m c b t k * wt m c (ix2 ⟨768 + q.val, by omega⟩ k)) := by
  have hi := idx25 (pt b t)
  have hp : (pt b t).val = 16 * b.val + t.val / 512 := rfl
  have e : ((cfg0.win 25).blk (pt b t)).view.emb (ix3 0 q (rw_ t) : S1x128x512.Idx) = (ix3 b q t : S8x128x8192.Idx) := by
    refine funext fun a => Fin.ext ?_
    match a with
    | ⟨0, _⟩ => show win0_25.index (pt b t) 0 * 1 + 1 * 0 = b.val; rw [hi, hp]; show (16 * b.val + t.val / 512) / 16 * 1 + 1 * 0 = b.val; omega
    | ⟨1, _⟩ => show win0_25.index (pt b t) 1 * 128 + 1 * q.val = q.val; rw [hi]; show 0 * 128 + 1 * q.val = q.val; omega
    | ⟨2, _⟩ => show win0_25.index (pt b t) 2 * 512 + 1 * (t.val % 512) = t.val; rw [hi, hp]; show (16 * b.val + t.val / 512) % 16 * 512 + 1 * (t.val % 512) = t.val; omega
  have s := (dats m 0 c).arrAt_emb_eq_flushed 25 disjoint25 (pt b t) (flush0_25 _) (ix3 0 q (rw_ t) : S1x128x512.Idx)
  rw [e] at s
  refine s.trans ?_
  show (cfg0.win 25).cut (grid0.coords (pt b t)) ((dats m 0 c).after 25 (pt b t)) (ix3 0 q (rw_ t) : S1x128x512.Idx) = _
  rw [after0_25]
  exact at25 m c b q t

theorem idx26 : ∀ t : Fin cfg0.N, win0_26.index t = ![t.val / 16, 0, t.val % 16] :=
  (by decide +kernel : ∀ t : Fin grid0.N, win0_26.index t = ![t.val / 16, 0, t.val % 16])

theorem disjoint26 : ∀ t t' : Fin cfg0.N, (cfg0.win 26).flush t = true → (cfg0.win 26).flush t' = true → t ≠ t' →
    Disjoint ((cfg0.win 26).blk t).view.set ((cfg0.win 26).blk t').view.set :=
  fun t t' _ _ hne => (cfg0.win 26).disjoint_blk fun h => hne (by
    have h : win0_26.index t = win0_26.index t' := h
    rw [idx26, idx26] at h
    have h0 : t.val / 16 = t'.val / 16 := congrFun h 0
    have h1 : t.val % 16 = t'.val % 16 := congrFun h 2
    exact Fin.ext (by omega))

theorem at26 (c : Dev nD) (b : Fin 8) (q : Fin 8) (t : Fin 8192) :
    ((outsAt0 m c (pt b t).val (pt b t).isLt).2.2.2.2.2.2.2.2.2.2.2.2.2.1 : S1x8x512.Idx → EReal) (ix3 0 q (rw_ t)) = (∑ k, h m c b t k * wt m c (ix2 ⟨896 + q.val, by omega⟩ k)) := by
  by_cases h0 : (pt b t).val % 16 = 0
  · rw [outsAt0_A m c _ h0]
    unfold tupA
    dsimp only
    exact (outA26_apply m c _ h0 q (rw_ t)).trans (sum_wt m c b t zeros (kept_first m c _ h0) _)
  · rw [outs_later m c _ h0]
    unfold tupB
    dsimp only
    exact (outB26_apply m c _ h0 (before m c (pt b t)) q (rw_ t)).trans (sum_wt m c b t _ (kept_later m c _ h0) _)

set_option maxRecDepth 16384 in
set_option maxHeartbeats 400000 in
theorem arr26 (c : Dev nD) (b : Fin 8) (q : Fin 8) (t : Fin 8192) :
    ((dats m 0 c).arrAt 26 cfg0.N : S8x8x8192.Idx → EReal) (ix3 b q t) = (∑ k, h m c b t k * wt m c (ix2 ⟨896 + q.val, by omega⟩ k)) := by
  have hi := idx26 (pt b t)
  have hp : (pt b t).val = 16 * b.val + t.val / 512 := rfl
  have e : ((cfg0.win 26).blk (pt b t)).view.emb (ix3 0 q (rw_ t) : S1x8x512.Idx) = (ix3 b q t : S8x8x8192.Idx) := by
    refine funext fun a => Fin.ext ?_
    match a with
    | ⟨0, _⟩ => show win0_26.index (pt b t) 0 * 1 + 1 * 0 = b.val; rw [hi, hp]; show (16 * b.val + t.val / 512) / 16 * 1 + 1 * 0 = b.val; omega
    | ⟨1, _⟩ => show win0_26.index (pt b t) 1 * 8 + 1 * q.val = q.val; rw [hi]; show 0 * 8 + 1 * q.val = q.val; omega
    | ⟨2, _⟩ => show win0_26.index (pt b t) 2 * 512 + 1 * (t.val % 512) = t.val; rw [hi, hp]; show (16 * b.val + t.val / 512) % 16 * 512 + 1 * (t.val % 512) = t.val; omega
  have s := (dats m 0 c).arrAt_emb_eq_flushed 26 disjoint26 (pt b t) (flush0_26 _) (ix3 0 q (rw_ t) : S1x8x512.Idx)
  rw [e] at s
  refine s.trans ?_
  show (cfg0.win 26).cut (grid0.coords (pt b t)) ((dats m 0 c).after 26 (pt b t)) (ix3 0 q (rw_ t) : S1x8x512.Idx) = _
  rw [after0_26]
  exact at26 m c b q t

end Cert.Hand.MixProject

end
-- ==== Proof.MixProjectRef.lean ====
module

public import proofs.«01_k».proof.Proof.InProjRef
public import proofs.«01_k».proof.Proof.MixFinalRef
public import proofs.«01_k».proof.Proof.Gen.MixProjectRefIdeal.Run

@[expose] public section

noncomputable section

/-! The reference's results: the mixed row, and the pieces of its projection. -/

namespace Cert.Hand.MixProjectRef

open Cert.MixProjectRefIdeal Cert.MixProjectRefIdeal.Gen Cert.MixProjectRefIdeal.Value Idealize.ShloMosaic Idealize.ShloMosaic.TcCoe Idealize.SL.Sem

variable (m : (ℓ : Loc nD τ sig) → Buf (Elt Ideal) ℓ) (c : Dev nD)

/-- The mixed row, from the arguments. -/
def row : FVec Ideal S8x8192x1024 .f32 :=
  MixFinalRef.refMix (m ((c.tc : Thread nD τ).loc main_arg1)) (m ((c.tc : Thread nD τ).loc main_arg2)) (m ((c.tc : Thread nD τ).loc main_arg0)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))

/-- Its projection. -/
def proj : FVec Ideal S8x8192x3380 .f32 :=
  InProjRef.refP (row m c) (m ((c.tc : Thread nD τ).loc main_arg8)) (m ((c.tc : Thread nD τ).loc main_arg9))

set_option maxRecDepth 16384 in
theorem res_row : res_main_v71 m c = row m c := rfl

set_option maxRecDepth 16384 in
theorem res_gq : res_main_v86 m c = InProjRef.gq (proj m c) := rfl

set_option maxRecDepth 16384 in
theorem res_gz : res_main_v89 m c = InProjRef.gz (proj m c) := rfl

set_option maxRecDepth 16384 in
theorem res_gk : res_main_v87 m c = InProjRef.gk (proj m c) := rfl

set_option maxRecDepth 16384 in
theorem res_gv : res_main_v88 m c = InProjRef.gv (proj m c) := rfl

set_option maxRecDepth 16384 in
theorem res_gg : res_main_v90 m c = InProjRef.gg (proj m c) := rfl

set_option maxRecDepth 16384 in
theorem res_dk : res_main_v100 m c = InProjRef.dk (proj m c) := rfl

set_option maxRecDepth 16384 in
theorem res_kx : res_main_v104 m c = InProjRef.kx (proj m c) := rfl

set_option maxRecDepth 16384 in
theorem res_dg : res_main_v94 m c = InProjRef.dg (proj m c) := rfl

set_option maxRecDepth 16384 in
theorem res_pu : res_main_v98 m c = InProjRef.pu (proj m c) := rfl

set_option maxRecDepth 16384 in
theorem res_pg : res_main_v99 m c = InProjRef.pg (proj m c) := rfl

set_option maxRecDepth 16384 in
theorem res_dq : res_main_v108 m c = InProjRef.dq (proj m c) := rfl

set_option maxRecDepth 16384 in
theorem res_dv : res_main_v110 m c = InProjRef.dv (proj m c) := rfl

set_option maxRecDepth 16384 in
theorem res_qi : res_main_v112 m c = InProjRef.qi (proj m c) := rfl

set_option maxRecDepth 16384 in
theorem res_wi : res_main_v113 m c = InProjRef.wi (proj m c) := rfl

end Cert.Hand.MixProjectRef

end
-- ==== Proof.MixProjectValue.lean ====
module

public import proofs.«01_k».proof.Defs
public import proofs.«01_k».proof.Proof.MixProjectArr
public import proofs.«01_k».proof.Proof.MixProjectRef
public import proofs.«01_k».proof.Proof.MixProjectIdealFrame
public import Idealize.ShloMosaic.Lib.StableHlo.ReadAt

@[expose] public section

noncomputable section

/-! The results of the mix that also projects are the reference's. -/

namespace Cert.Hand.MixProject

open Cert.MixProjectIdeal Cert.MixProjectIdeal.Gen Idealize.ShloMosaic Idealize.ShloMosaic.TcCoe Idealize.SL.Sem

variable (m : (ℓ : Loc nD τ sig) → Buf (Elt Ideal) ℓ)

/-- The projection's weight argument, entry by entry. -/
def wRow (c : Dev nD) (k : Fin 1024) (j : Fin 3380) : EReal := w m c (ix2 k j)
/-- Lane `j` of the projection of row `t` of sequence `b`. -/
def P (c : Dev nD) (b : Fin 8) (t : Fin 8192) (j : Fin 3380) : EReal := projRow (mixAt m c b t) (fun d => aG m c (ix1 d)) (wRow m c) j

theorem sum_eq_P (c : Dev nD) (b : Fin 8) (t : Fin 8192) (j : Fin 3380) (f : Fin 1024 → EReal) (hf : ∀ k, f k = wRow m c k j) :
    ∑ k, h m c b t k * f k = P m c b t j :=
  Finset.sum_congr rfl fun k _ => congrArg (h m c b t k * ·) (hf k)
theorem wn_eq (c : Dev nD) (k : Fin 1024) {i i' : Fin 2944} {j : Fin 3380} (e : i'.val = i.val) (h : wn m c (ix2 k i') = w m c (ix2 k j)) :
    wn m c (ix2 k i) = wRow m c k j := by
  obtain rfl : i' = i := Fin.ext e
  exact h
theorem wt_eq (c : Dev nD) (k : Fin 1024) {i i' : Fin 904} {j : Fin 3380} (e : i'.val = i.val) (h : wt m c (ix2 i' k) = w m c (ix2 k j)) :
    wt m c (ix2 i k) = wRow m c k j := by
  obtain rfl : i' = i := Fin.ext e
  exact h

/-- What is at the arrays' places when the region ends. -/
abbrev endV (c : Dev nD) : Valuation τ sig (Elt Ideal) :=
  Pipeline.withArrays (cfgs 0).spec c (V0 m c) (fun w => (dats m 0 c).arrAt w (cfgs 0).N)

theorem endV_arr (c : Dev nD) (w : Fin 27) : endV m c (Proc.devRef .tc (Pipeline.arrRef spec0 w)) = (dats m 0 c).arrAt w cfg0.N :=
  Pipeline.withArrays_arr spec0 (by decide : Function.Injective (Pipeline.arrRef spec0)) c (V0 m c) _ w

/-- The reference's mixed row, from the same arguments. -/
def refRow (c : Dev nD) : FVec Ideal S8x8192x1024 .f32 :=
  MixFinalRef.refMix (m ((c : Thread nD τ).loc main_arg1)) (m ((c : Thread nD τ).loc main_arg2)) (m ((c : Thread nD τ).loc main_arg0)) (m ((c : Thread nD τ).loc main_arg3))
    (m ((c : Thread nD τ).loc main_arg4)) (m ((c : Thread nD τ).loc main_arg5)) (m ((c : Thread nD τ).loc main_arg6)) (m ((c : Thread nD τ).loc main_arg7))

/-- The reference's projection of it. -/
def refProj (c : Dev nD) : FVec Ideal Cert.InProjRefIdeal.S8x8192x3380 .f32 :=
  InProjRef.refP (refRow m c) (m ((c : Thread nD τ).loc main_arg8)) (m ((c : Thread nD τ).loc main_arg9))

theorem refRow_apply (c : Dev nD) (b : Fin 8) (t : Fin 8192) (d : Fin 1024) : (refRow m c : S8x8192x1024.Idx → EReal) (ix3 b t d) = mixAt m c b t d :=
  MixFinalRef.refMix_apply _ _ _ _ _ _ _ _ b t d

theorem refProj_apply (c : Dev nD) (b : Fin 8) (t : Fin 8192) (j : Fin 3380) : (refProj m c : Cert.InProjRefIdeal.S8x8192x3380.Idx → EReal) (ix3 b t j) = P m c b t j :=
  (InProjRef.refP_apply _ _ _ b t j).trans (congrArg (fun x => projRow x (fun d => aG m c (ix1 d)) (wRow m c) j) (funext fun d => refRow_apply m c b t d))

/-- The row that the kernel leaves is the reference's. -/
theorem eq_row (c : Dev nD) : (refRow m c : S8x8192x1024.Idx → EReal) = ((dats m 0 c).arrAt 13 cfg0.N : S8x8192x1024.Idx → EReal) :=
  funext fun i => by
    rw [eq_ix3 i]
    exact (refRow_apply m c (i 0) (i 1) (i 2)).trans (arr13 m c (i 0) (i 1) (i 2)).symm

set_option maxRecDepth 16384 in
set_option maxHeartbeats 400000 in
theorem res_gq (c : Dev nD) (b : Fin 8) (t : Fin 8192) (j : Fin 192) :
    (Pipeline.afterTail₀ cfgs (dats m) 0 (V0 m) [hostOps1] c main_v66 : S8x8192x192.Idx → EReal) (ix3 b t j) = P m c b t ⟨0 + j.val, by omega⟩ := by
  unfold Pipeline.afterTail₀
  after_reads_at
  refine (congrFun (endV_arr m c 14) _).trans ?_
  refine (arr14 m c b t _).trans (sum_eq_P m c b t _ _ fun k => ?_)
  exact wn_eq m c k (by first | omega | (simp only [] <;> omega)) ((wn_gq m c k ⟨j.val / 48, by omega⟩ ⟨j.val % 48, Nat.mod_lt _ (by decide)⟩).trans (w_congr m c k _ _ (by show _ = _; simp only []; omega)))

/-- Result `gq` of the kernel is the reference's. -/
theorem eq_gq (c : Dev nD) : (InProjRef.gq (refProj m c) : S8x8192x192.Idx → EReal)
    = (Pipeline.afterTail₀ cfgs (dats m) 0 (V0 m) [hostOps1] c main_v66 : S8x8192x192.Idx → EReal) :=
  funext fun i => by
    rw [eq_ix3 i]
    exact ((InProjRef.gq_apply _ (i 0) (i 1) (i 2)).trans (refProj_apply m c _ _ _)).trans (res_gq m c (i 0) (i 1) (i 2)).symm

set_option maxRecDepth 16384 in
set_option maxHeartbeats 400000 in
theorem res_gz (c : Dev nD) (b : Fin 8) (t : Fin 8192) (j : Fin 16) :
    (Pipeline.afterTail₀ cfgs (dats m) 0 (V0 m) [hostOps1] c main_v67 : S8x8192x16.Idx → EReal) (ix3 b t j) = P m c b t ⟨768 + j.val, by omega⟩ := by
  unfold Pipeline.afterTail₀
  after_reads_at
  refine (congrFun (endV_arr m c 14) _).trans ?_
  refine (arr14 m c b t _).trans (sum_eq_P m c b t _ _ fun k => ?_)
  exact wn_eq m c k (by first | omega | (simp only [] <;> omega)) (wn_gz m c k j)

/-- Result `gz` of the kernel is the reference's. -/
theorem eq_gz (c : Dev nD) : (InProjRef.gz (refProj m c) : S8x8192x16.Idx → EReal)
    = (Pipeline.afterTail₀ cfgs (dats m) 0 (V0 m) [hostOps1] c main_v67 : S8x8192x16.Idx → EReal) :=
  funext fun i => by
    rw [eq_ix3 i]
    exact ((InProjRef.gz_apply _ (i 0) (i 1) (i 2)).trans (refProj_apply m c _ _ _)).trans (res_gz m c (i 0) (i 1) (i 2)).symm

set_option maxRecDepth 16384 in
set_option maxHeartbeats 400000 in
theorem res_gk (c : Dev nD) (b : Fin 8) (t : Fin 8192) (j : Fin 192) :
    (Pipeline.afterTail₀ cfgs (dats m) 0 (V0 m) [hostOps1] c main_v70 : S8x8192x192.Idx → EReal) (ix3 b t j) = P m c b t ⟨192 + j.val, by omega⟩ := by
  unfold Pipeline.afterTail₀
  after_reads_at
  refine (congrFun (endV_arr m c 15) _).trans ?_
  refine (arr15 m c b t _).trans (sum_eq_P m c b t _ _ fun k => ?_)
  exact wn_eq m c k (by first | omega | (simp only [] <;> omega)) ((wn_gk m c k ⟨j.val / 48, by omega⟩ ⟨j.val % 48, Nat.mod_lt _ (by decide)⟩).trans (w_congr m c k _ _ (by show _ = _; simp only []; omega)))

/-- Result `gk` of the kernel is the reference's. -/
theorem eq_gk (c : Dev nD) : (InProjRef.gk (refProj m c) : S8x8192x192.Idx → EReal)
    = (Pipeline.afterTail₀ cfgs (dats m) 0 (V0 m) [hostOps1] c main_v70 : S8x8192x192.Idx → EReal) :=
  funext fun i => by
    rw [eq_ix3 i]
    exact ((InProjRef.gk_apply _ (i 0) (i 1) (i 2)).trans (refProj_apply m c _ _ _)).trans (res_gk m c (i 0) (i 1) (i 2)).symm

set_option maxRecDepth 16384 in
set_option maxHeartbeats 400000 in
theorem res_gv (c : Dev nD) (b : Fin 8) (t : Fin 8192) (j : Fin 384) :
    (Pipeline.afterTail₀ cfgs (dats m) 0 (V0 m) [hostOps1] c main_v73 : S8x8192x384.Idx → EReal) (ix3 b t j) = P m c b t ⟨384 + j.val, by omega⟩ := by
  unfold Pipeline.afterTail₀
  after_reads_at
  refine (congrFun (endV_arr m c 16) _).trans ?_
  refine (arr16 m c b t _).trans (sum_eq_P m c b t _ _ fun k => ?_)
  exact wn_eq m c k (by first | omega | (simp only [] <;> omega)) ((wn_gv m c k ⟨j.val / 96, by omega⟩ ⟨j.val % 96, Nat.mod_lt _ (by decide)⟩).trans (w_congr m c k _ _ (by show _ = _; simp only []; omega)))

/-- Result `gv` of the kernel is the reference's. -/
theorem eq_gv (c : Dev nD) : (InProjRef.gv (refProj m c) : S8x8192x384.Idx → EReal)
    = (Pipeline.afterTail₀ cfgs (dats m) 0 (V0 m) [hostOps1] c main_v73 : S8x8192x384.Idx → EReal) :=
  funext fun i => by
    rw [eq_ix3 i]
    exact ((InProjRef.gv_apply _ (i 0) (i 1) (i 2)).trans (refProj_apply m c _ _ _)).trans (res_gv m c (i 0) (i 1) (i 2)).symm

set_option maxRecDepth 16384 in
set_option maxHeartbeats 400000 in
theorem res_gg (c : Dev nD) (b : Fin 8) (t : Fin 8192) (j : Fin 384) :
    (Pipeline.afterTail₀ cfgs (dats m) 0 (V0 m) [hostOps1] c main_v76 : S8x8192x384.Idx → EReal) (ix3 b t j) = P m c b t ⟨784 + j.val, by omega⟩ := by
  unfold Pipeline.afterTail₀
  after_reads_at
  refine (congrFun (endV_arr m c 17) _).trans ?_
  refine (arr17 m c b t _).trans (sum_eq_P m c b t _ _ fun k => ?_)
  exact wn_eq m c k (by first | omega | (simp only [] <;> omega)) ((wn_gg m c k ⟨j.val / 96, by omega⟩ ⟨j.val % 96, Nat.mod_lt _ (by decide)⟩).trans (w_congr m c k _ _ (by show _ = _; simp only []; omega)))

/-- Result `gg` of the kernel is the reference's. -/
theorem eq_gg (c : Dev nD) : (InProjRef.gg (refProj m c) : S8x8192x384.Idx → EReal)
    = (Pipeline.afterTail₀ cfgs (dats m) 0 (V0 m) [hostOps1] c main_v76 : S8x8192x384.Idx → EReal) :=
  funext fun i => by
    rw [eq_ix3 i]
    exact ((InProjRef.gg_apply _ (i 0) (i 1) (i 2)).trans (refProj_apply m c _ _ _)).trans (res_gg m c (i 0) (i 1) (i 2)).symm

set_option maxRecDepth 16384 in
set_option maxHeartbeats 400000 in
theorem res_dk (c : Dev nD) (b : Fin 8) (t : Fin 8192) (j : Fin 384) :
    ((dats m 0 c).arrAt 18 cfg0.N : S8x8192x384.Idx → EReal) (ix3 b t j) = P m c b t ⟨1552 + j.val, by omega⟩ := by
  refine (arr18 m c b t _).trans ?_
  skip
  refine sum_eq_P m c b t _ _ fun k => ?_
  exact wn_eq m c k (by simp only []; try omega) (wn_dk m c k j)

/-- Result `dk` of the kernel is the reference's. -/
theorem eq_dk (c : Dev nD) : (InProjRef.dk (refProj m c) : S8x8192x384.Idx → EReal)
    = ((dats m 0 c).arrAt 18 cfg0.N : S8x8192x384.Idx → EReal) :=
  funext fun i => by
    rw [eq_ix3 i]
    exact ((InProjRef.dk_apply _ (i 0) (i 1) (i 2)).trans (refProj_apply m c _ _ _)).trans (res_dk m c (i 0) (i 1) (i 2)).symm

set_option maxRecDepth 16384 in
set_option maxHeartbeats 400000 in
theorem res_kx (c : Dev nD) (b : Fin 8) (t : Fin 8192) (j : Fin 128) :
    ((dats m 0 c).arrAt 19 cfg0.N : S8x8192x128.Idx → EReal) (ix3 b t j) = P m c b t ⟨2832 + j.val % 32, by omega⟩ := by
  refine (arr19 m c b t _).trans ?_
  skip
  refine sum_eq_P m c b t _ _ fun k => ?_
  exact wn_eq m c k (by simp only []; try omega) (wn_kx m c k j)

/-- Result `kx` of the kernel is the reference's. -/
theorem eq_kx (c : Dev nD) : (InProjRef.kx (refProj m c) : S8x8192x128.Idx → EReal)
    = ((dats m 0 c).arrAt 19 cfg0.N : S8x8192x128.Idx → EReal) :=
  funext fun i => by
    rw [eq_ix3 i]
    exact ((InProjRef.kx_apply _ (i 0) (i 1) (i 2)).trans (refProj_apply m c _ _ _)).trans (res_kx m c (i 0) (i 1) (i 2)).symm

set_option maxRecDepth 16384 in
set_option maxHeartbeats 400000 in
theorem res_dg (c : Dev nD) (b : Fin 8) (t : Fin 8192) (j : Fin 384) :
    ((dats m 0 c).arrAt 20 cfg0.N : S8x8192x384.Idx → EReal) (ix3 b t j) = P m c b t ⟨2320 + j.val, by omega⟩ := by
  refine (arr20 m c b t _).trans ?_
  skip
  refine sum_eq_P m c b t _ _ fun k => ?_
  exact wn_eq m c k (by simp only []; try omega) (wn_dg m c k j)

/-- Result `dg` of the kernel is the reference's. -/
theorem eq_dg (c : Dev nD) : (InProjRef.dg (refProj m c) : S8x8192x384.Idx → EReal)
    = ((dats m 0 c).arrAt 20 cfg0.N : S8x8192x384.Idx → EReal) :=
  funext fun i => by
    rw [eq_ix3 i]
    exact ((InProjRef.dg_apply _ (i 0) (i 1) (i 2)).trans (refProj_apply m c _ _ _)).trans (res_dg m c (i 0) (i 1) (i 2)).symm

set_option maxRecDepth 16384 in
set_option maxHeartbeats 400000 in
theorem res_pu (c : Dev nD) (b : Fin 8) (t : Fin 8192) (j : Fin 256) :
    ((dats m 0 c).arrAt 21 cfg0.N : S8x8192x256.Idx → EReal) (ix3 b t j) = P m c b t ⟨2868 + j.val, by omega⟩ := by
  refine (arr21 m c b t _).trans ?_
  skip
  refine sum_eq_P m c b t _ _ fun k => ?_
  exact wn_eq m c k (by simp only []; try omega) (wn_pu m c k j)

/-- Result `pu` of the kernel is the reference's. -/
theorem eq_pu (c : Dev nD) : (InProjRef.pu (refProj m c) : S8x8192x256.Idx → EReal)
    = ((dats m 0 c).arrAt 21 cfg0.N : S8x8192x256.Idx → EReal) :=
  funext fun i => by
    rw [eq_ix3 i]
    exact ((InProjRef.pu_apply _ (i 0) (i 1) (i 2)).trans (refProj_apply m c _ _ _)).trans (res_pu m c (i 0) (i 1) (i 2)).symm

set_option maxRecDepth 16384 in
set_option maxHeartbeats 400000 in
theorem res_pg (c : Dev nD) (b : Fin 8) (t : Fin 8192) (j : Fin 256) :
    ((dats m 0 c).arrAt 22 cfg0.N : S8x8192x256.Idx → EReal) (ix3 b t j) = P m c b t ⟨3124 + j.val, by omega⟩ := by
  refine (arr22 m c b t _).trans ?_
  skip
  refine sum_eq_P m c b t _ _ fun k => ?_
  exact wn_eq m c k (by simp only []; try omega) (wn_pg m c k j)

/-- Result `pg` of the kernel is the reference's. -/
theorem eq_pg (c : Dev nD) : (InProjRef.pg (refProj m c) : S8x8192x256.Idx → EReal)
    = ((dats m 0 c).arrAt 22 cfg0.N : S8x8192x256.Idx → EReal) :=
  funext fun i => by
    rw [eq_ix3 i]
    exact ((InProjRef.pg_apply _ (i 0) (i 1) (i 2)).trans (refProj_apply m c _ _ _)).trans (res_pg m c (i 0) (i 1) (i 2)).symm

set_option maxRecDepth 16384 in
set_option maxHeartbeats 400000 in
theorem res_dq (c : Dev nD) (b : Fin 8) (t : Fin 8192) (j : Fin 384) :
    ((dats m 0 c).arrAt 23 cfg0.N : S8x384x8192.Idx → EReal) (ix3 b j t) = P m c b t ⟨1168 + j.val, by omega⟩ * qScale := by
  refine (arr23 m c b _ t).trans ?_
  refine congrArg (· * qScale) ?_
  refine sum_eq_P m c b t _ _ fun k => ?_
  exact wt_eq m c k (by simp only []; try omega) (wt_dq m c k j)

/-- Result `dq` of the kernel is the reference's. -/
theorem eq_dq (c : Dev nD) : (InProjRef.dq (refProj m c) : S8x384x8192.Idx → EReal)
    = ((dats m 0 c).arrAt 23 cfg0.N : S8x384x8192.Idx → EReal) :=
  funext fun i => by
    rw [eq_ix3 i]
    exact ((InProjRef.dq_apply _ (i 0) (i 2) (i 1)).trans (congrArg (· * qScale) (refProj_apply m c _ _ _))).trans (res_dq m c (i 0) (i 2) (i 1)).symm

set_option maxRecDepth 16384 in
set_option maxHeartbeats 400000 in
theorem res_dv (c : Dev nD) (b : Fin 8) (t : Fin 8192) (j : Fin 384) :
    ((dats m 0 c).arrAt 24 cfg0.N : S8x384x8192.Idx → EReal) (ix3 b j t) = P m c b t ⟨1936 + j.val, by omega⟩ := by
  refine (arr24 m c b _ t).trans ?_
  skip
  refine sum_eq_P m c b t _ _ fun k => ?_
  exact wt_eq m c k (by simp only []; try omega) (wt_dv m c k j)

/-- Result `dv` of the kernel is the reference's. -/
theorem eq_dv (c : Dev nD) : (InProjRef.dv (refProj m c) : S8x384x8192.Idx → EReal)
    = ((dats m 0 c).arrAt 24 cfg0.N : S8x384x8192.Idx → EReal) :=
  funext fun i => by
    rw [eq_ix3 i]
    exact ((InProjRef.dv_apply _ (i 0) (i 2) (i 1)).trans (refProj_apply m c _ _ _)).trans (res_dv m c (i 0) (i 2) (i 1)).symm

set_option maxRecDepth 16384 in
set_option maxHeartbeats 400000 in
theorem res_qi (c : Dev nD) (b : Fin 8) (t : Fin 8192) (j : Fin 128) :
    ((dats m 0 c).arrAt 25 cfg0.N : S8x128x8192.Idx → EReal) (ix3 b j t) = P m c b t ⟨2704 + j.val, by omega⟩ := by
  refine (arr25 m c b _ t).trans ?_
  skip
  refine sum_eq_P m c b t _ _ fun k => ?_
  exact wt_eq m c k (by simp only []; try omega) (wt_qi m c k j)

/-- Result `qi` of the kernel is the reference's. -/
theorem eq_qi (c : Dev nD) : (InProjRef.qi (refProj m c) : S8x128x8192.Idx → EReal)
    = ((dats m 0 c).arrAt 25 cfg0.N : S8x128x8192.Idx → EReal) :=
  funext fun i => by
    rw [eq_ix3 i]
    exact ((InProjRef.qi_apply _ (i 0) (i 2) (i 1)).trans (refProj_apply m c _ _ _)).trans (res_qi m c (i 0) (i 2) (i 1)).symm

set_option maxRecDepth 16384 in
set_option maxHeartbeats 400000 in
theorem res_wi (c : Dev nD) (b : Fin 8) (t : Fin 8192) (j : Fin 4) :
    (Pipeline.afterTail₀ cfgs (dats m) 0 (V0 m) [hostOps1] c main_v77 : S8x4x8192.Idx → EReal) (ix3 b j t) = P m c b t ⟨2864 + j.val, by omega⟩ := by
  unfold Pipeline.afterTail₀
  after_reads_at
  refine (congrFun (endV_arr m c 26) _).trans ?_
  refine (arr26 m c b _ t).trans (sum_eq_P m c b t _ _ fun k => ?_)
  exact wt_eq m c k (by first | omega | (simp only [] <;> omega)) (wt_wi m c k j)

/-- Result `wi` of the kernel is the reference's. -/
theorem eq_wi (c : Dev nD) : (InProjRef.wi (refProj m c) : S8x4x8192.Idx → EReal)
    = (Pipeline.afterTail₀ cfgs (dats m) 0 (V0 m) [hostOps1] c main_v77 : S8x4x8192.Idx → EReal) :=
  funext fun i => by
    rw [eq_ix3 i]
    exact ((InProjRef.wi_apply _ (i 0) (i 2) (i 1)).trans (refProj_apply m c _ _ _)).trans (res_wi m c (i 0) (i 2) (i 1)).symm

end Cert.Hand.MixProject

open Cert.MixProjectIdeal Cert.MixProjectIdeal.Gen Idealize.ShloMosaic Idealize.ShloMosaic.TcCoe Idealize.SL.Sem

/-- From equal arguments the reference has equal mixed rows. -/
theorem Cert.Hand.MixProject.row_eq (m : (ℓ : Loc nD τ sig) → Buf (Elt Ideal) ℓ)
    (m' : (ℓ : Loc Cert.MixProjectRefIdeal.nD Cert.MixProjectRefIdeal.τ Cert.MixProjectRefIdeal.sig) → Buf (Elt Ideal) ℓ) (c : Dev nD)
    (a0 : m' ((c.tc : Thread Cert.MixProjectRefIdeal.nD Cert.MixProjectRefIdeal.τ).loc Cert.MixProjectRefIdeal.main_arg0) = m ((c.tc : Thread nD τ).loc main_arg0))
    (a1 : m' ((c.tc : Thread Cert.MixProjectRefIdeal.nD Cert.MixProjectRefIdeal.τ).loc Cert.MixProjectRefIdeal.main_arg1) = m ((c.tc : Thread nD τ).loc main_arg1))
    (a2 : m' ((c.tc : Thread Cert.MixProjectRefIdeal.nD Cert.MixProjectRefIdeal.τ).loc Cert.MixProjectRefIdeal.main_arg2) = m ((c.tc : Thread nD τ).loc main_arg2))
    (a3 : m' ((c.tc : Thread Cert.MixProjectRefIdeal.nD Cert.MixProjectRefIdeal.τ).loc Cert.MixProjectRefIdeal.main_arg3) = m ((c.tc : Thread nD τ).loc main_arg3))
    (a4 : m' ((c.tc : Thread Cert.MixProjectRefIdeal.nD Cert.MixProjectRefIdeal.τ).loc Cert.MixProjectRefIdeal.main_arg4) = m ((c.tc : Thread nD τ).loc main_arg4))
    (a5 : m' ((c.tc : Thread Cert.MixProjectRefIdeal.nD Cert.MixProjectRefIdeal.τ).loc Cert.MixProjectRefIdeal.main_arg5) = m ((c.tc : Thread nD τ).loc main_arg5))
    (a6 : m' ((c.tc : Thread Cert.MixProjectRefIdeal.nD Cert.MixProjectRefIdeal.τ).loc Cert.MixProjectRefIdeal.main_arg6) = m ((c.tc : Thread nD τ).loc main_arg6))
    (a7 : m' ((c.tc : Thread Cert.MixProjectRefIdeal.nD Cert.MixProjectRefIdeal.τ).loc Cert.MixProjectRefIdeal.main_arg7) = m ((c.tc : Thread nD τ).loc main_arg7))
    (a8 : m' ((c.tc : Thread Cert.MixProjectRefIdeal.nD Cert.MixProjectRefIdeal.τ).loc Cert.MixProjectRefIdeal.main_arg8) = m ((c.tc : Thread nD τ).loc main_arg8))
    (a9 : m' ((c.tc : Thread Cert.MixProjectRefIdeal.nD Cert.MixProjectRefIdeal.τ).loc Cert.MixProjectRefIdeal.main_arg9) = m ((c.tc : Thread nD τ).loc main_arg9))
    : Cert.Hand.MixProjectRef.row m' c = Cert.Hand.MixProject.refRow m c ∧ Cert.Hand.MixProjectRef.proj m' c = Cert.Hand.MixProject.refProj m c := by
  have e : Cert.Hand.MixProjectRef.row m' c = Cert.Hand.MixProject.refRow m c := by
    unfold Cert.Hand.MixProjectRef.row Cert.Hand.MixProject.refRow
    rw [a0, a1, a2, a3, a4, a5, a6, a7]
  refine ⟨e, ?_⟩
  unfold Cert.Hand.MixProjectRef.proj Cert.Hand.MixProject.refProj
  rw [e, a8, a9]

set_option maxHeartbeats 1600000 in
/-- The claim over the extended reals: both run, with equal results. -/
theorem Cert.Hand.mixProject_algebraic : Cert.algebraic_MixProjectIdeal_MixProjectRefIdeal (hMixProjectIdeal := Cert.MixProjectIdeal.Gen.facts) (hMixProjectRefIdeal := Cert.MixProjectRefIdeal.Gen.facts) := by
  intro m g m' g' _ hm
  refine ⟨fun c => (dats m 0 c).arrAt 13 cfg0.N,
    fun c => Pipeline.afterTail₀ cfgs (dats m) 0 (V0 m) [hostOps1] c main_v66,
    fun c => Pipeline.afterTail₀ cfgs (dats m) 0 (V0 m) [hostOps1] c main_v67,
    fun c => Pipeline.afterTail₀ cfgs (dats m) 0 (V0 m) [hostOps1] c main_v70,
    fun c => Pipeline.afterTail₀ cfgs (dats m) 0 (V0 m) [hostOps1] c main_v73,
    fun c => Pipeline.afterTail₀ cfgs (dats m) 0 (V0 m) [hostOps1] c main_v76,
    fun c => (dats m 0 c).arrAt 18 cfg0.N,
    fun c => (dats m 0 c).arrAt 19 cfg0.N,
    fun c => (dats m 0 c).arrAt 20 cfg0.N,
    fun c => (dats m 0 c).arrAt 21 cfg0.N,
    fun c => (dats m 0 c).arrAt 22 cfg0.N,
    fun c => (dats m 0 c).arrAt 23 cfg0.N,
    fun c => (dats m 0 c).arrAt 24 cfg0.N,
    fun c => (dats m 0 c).arrAt 25 cfg0.N,
    fun c => Pipeline.afterTail₀ cfgs (dats m) 0 (V0 m) [hostOps1] c main_v77,
    (θ_run Cert.MixProjectIdeal.defs _ _).mono (fun r h c => ⟨(h c).1 13,
      (h c).2 main_v66 (by decide),
      (h c).2 main_v67 (by decide),
      (h c).2 main_v70 (by decide),
      (h c).2 main_v73 (by decide),
      (h c).2 main_v76 (by decide),
      (h c).1 18,
      (h c).1 19,
      (h c).1 20,
      (h c).1 21,
      (h c).1 22,
      (h c).1 23,
      (h c).1 24,
      (h c).1 25,
      (h c).2 main_v77 (by decide),
      ?_, ?_, ?_, ?_, ?_, ?_, ?_, ?_, ?_, ?_⟩) (Cert.MixProjectIdeal.Gen.run_main m g),
    (θ_run Cert.MixProjectRefIdeal.defs _ _).mono (fun r h c => ?_) (Cert.MixProjectRefIdeal.Value.run m' g')⟩
  · exact ((h c).1 0).trans ((dats m 0 c).arrAt_in 0 rfl _)
  · exact ((h c).2 main_arg1 (by decide)).trans (W_main_arg1 m (dats m) c)
  · exact ((h c).1 2).trans ((dats m 0 c).arrAt_in 2 rfl _)
  · exact ((h c).1 3).trans ((dats m 0 c).arrAt_in 3 rfl _)
  · exact ((h c).1 4).trans ((dats m 0 c).arrAt_in 4 rfl _)
  · exact ((h c).2 main_arg5 (by decide)).trans (W_main_arg5 m (dats m) c)
  · exact ((h c).2 main_arg6 (by decide)).trans (W_main_arg6 m (dats m) c)
  · exact ((h c).2 main_arg7 (by decide)).trans (W_main_arg7 m (dats m) c)
  · exact ((h c).2 main_arg8 (by decide)).trans (W_main_arg8 m (dats m) c)
  · exact ((h c).2 main_arg9 (by decide)).trans (W_main_arg9 m (dats m) c)
  · obtain ⟨a0, a1, a2, a3, a4, a5, a6, a7, a8, a9⟩ := hm c
    obtain ⟨e, e'⟩ := Cert.Hand.MixProject.row_eq m m' c a0 a1 a2 a3 a4 a5 a6 a7 a8 a9
    obtain ⟨q0, q1, q2, q3, q4, q5, q6, q7, q8, q9, q10, q11, q12, q13, q14, rs⟩ := h c
    refine ⟨q0.trans ((Cert.Hand.MixProjectRef.res_row m' c).trans ((e).trans (Cert.Hand.MixProject.eq_row m c))),
      q1.trans ((Cert.Hand.MixProjectRef.res_gq m' c).trans ((congrArg Cert.Hand.InProjRef.gq e').trans (Cert.Hand.MixProject.eq_gq m c))),
      q2.trans ((Cert.Hand.MixProjectRef.res_gz m' c).trans ((congrArg Cert.Hand.InProjRef.gz e').trans (Cert.Hand.MixProject.eq_gz m c))),
      q3.trans ((Cert.Hand.MixProjectRef.res_gk m' c).trans ((congrArg Cert.Hand.InProjRef.gk e').trans (Cert.Hand.MixProject.eq_gk m c))),
      q4.trans ((Cert.Hand.MixProjectRef.res_gv m' c).trans ((congrArg Cert.Hand.InProjRef.gv e').trans (Cert.Hand.MixProject.eq_gv m c))),
      q5.trans ((Cert.Hand.MixProjectRef.res_gg m' c).trans ((congrArg Cert.Hand.InProjRef.gg e').trans (Cert.Hand.MixProject.eq_gg m c))),
      q6.trans ((Cert.Hand.MixProjectRef.res_dk m' c).trans ((congrArg Cert.Hand.InProjRef.dk e').trans (Cert.Hand.MixProject.eq_dk m c))),
      q7.trans ((Cert.Hand.MixProjectRef.res_kx m' c).trans ((congrArg Cert.Hand.InProjRef.kx e').trans (Cert.Hand.MixProject.eq_kx m c))),
      q8.trans ((Cert.Hand.MixProjectRef.res_dg m' c).trans ((congrArg Cert.Hand.InProjRef.dg e').trans (Cert.Hand.MixProject.eq_dg m c))),
      q9.trans ((Cert.Hand.MixProjectRef.res_pu m' c).trans ((congrArg Cert.Hand.InProjRef.pu e').trans (Cert.Hand.MixProject.eq_pu m c))),
      q10.trans ((Cert.Hand.MixProjectRef.res_pg m' c).trans ((congrArg Cert.Hand.InProjRef.pg e').trans (Cert.Hand.MixProject.eq_pg m c))),
      q11.trans ((Cert.Hand.MixProjectRef.res_dq m' c).trans ((congrArg Cert.Hand.InProjRef.dq e').trans (Cert.Hand.MixProject.eq_dq m c))),
      q12.trans ((Cert.Hand.MixProjectRef.res_dv m' c).trans ((congrArg Cert.Hand.InProjRef.dv e').trans (Cert.Hand.MixProject.eq_dv m c))),
      q13.trans ((Cert.Hand.MixProjectRef.res_qi m' c).trans ((congrArg Cert.Hand.InProjRef.qi e').trans (Cert.Hand.MixProject.eq_qi m c))),
      q14.trans ((Cert.Hand.MixProjectRef.res_wi m' c).trans ((congrArg Cert.Hand.InProjRef.wi e').trans (Cert.Hand.MixProject.eq_wi m c))), ?_⟩
    exact rs

end
-- ==== Proof.lean ====
/- The claims of this certificate, proved: the frame of the attention kernel (Proof/DsaFrame.lean), the frames of the projection and of
   the two mixing kernels (Proof/MixProjectFrame.lean, Proof/MixProjectIdealFrame.lean), and the values of these three
   (Proof/InProjValue.lean, Proof/MixFinalValue.lean, Proof/MixProjectValue.lean). -/
module

public import proofs.«01_k».proof.Defs
public import proofs.«01_k».proof.Proof.Gen.Dsa
public import proofs.«01_k».proof.Proof.DsaFrame
public import proofs.«01_k».proof.Proof.Gen.MixFinal
public import proofs.«01_k».proof.Proof.Gen.MixFinal.Frame
public import proofs.«01_k».proof.Proof.Gen.MixFinalIdeal
public import proofs.«01_k».proof.Proof.Gen.MixFinalIdeal.Frame
public import proofs.«01_k».proof.Proof.Gen.MixFinalIdeal.Value
public import proofs.«01_k».proof.Proof.Gen.MixFinalRefIdeal
public import proofs.«01_k».proof.Proof.Gen.MixFinalRefIdeal.Run
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjRefIdeal
public import proofs.«01_k».proof.Proof.Gen.InProjRefIdeal.Run
public import proofs.«01_k».proof.Proof.Gen.MixProject
public import proofs.«01_k».proof.Proof.Gen.MixProjectIdeal
public import proofs.«01_k».proof.Proof.Gen.MixProjectRefIdeal
public import proofs.«01_k».proof.Proof.Gen.MixProjectRefIdeal.Run
public import proofs.«01_k».proof.Proof.InProjValue
public import proofs.«01_k».proof.Proof.MixFinalValue
public import proofs.«01_k».proof.Proof.MixProjectFrame
public import proofs.«01_k».proof.Proof.MixProjectIdealFrame
public import proofs.«01_k».proof.Proof.MixProjectValue

@[expose] public section

open Idealize Idealize.ShloMosaic

noncomputable section

/-- The reference is a straight host program: it keeps its arguments and declares no semaphore. -/
theorem frame_mixFinalRefIdeal : Cert.quiescent_MixFinalRefIdeal := fun m g _ =>
  (θ_run Cert.MixFinalRefIdeal.defs _ _).mono (fun r h => ⟨fun c => (h c).2,
      Idealize.ShloMosaic.sem_eq_zero_of_no_sems (by decide) r.2⟩)
    (Cert.MixFinalRefIdeal.Value.run m g)

/-- The reference is a straight host program: it keeps its arguments and declares no semaphore. -/
theorem frame_inProjRefIdeal : Cert.quiescent_InProjRefIdeal := fun m g _ =>
  (θ_run Cert.InProjRefIdeal.defs _ _).mono (fun r h => ⟨fun c => (h c).2.2.2.2.2.2.2.2.2.2.2.2.2.2,
      Idealize.ShloMosaic.sem_eq_zero_of_no_sems (by decide) r.2⟩)
    (Cert.InProjRefIdeal.Value.run m g)

/-- The reference is a straight host program: it keeps its arguments and declares no semaphore. -/
theorem frame_mixProjectRefIdeal : Cert.quiescent_MixProjectRefIdeal := fun m g _ =>
  (θ_run Cert.MixProjectRefIdeal.defs _ _).mono (fun r h => ⟨fun c => (h c).2.2.2.2.2.2.2.2.2.2.2.2.2.2.2,
      Idealize.ShloMosaic.sem_eq_zero_of_no_sems (by decide) r.2⟩)
    (Cert.MixProjectRefIdeal.Value.run m g)

theorem Cert.Proof.claim : Cert.Claim :=
  ⟨Cert.Dsa.Gen.facts, Cert.MixFinal.Gen.facts, Cert.MixFinalIdeal.Gen.facts, Cert.MixFinalRefIdeal.Gen.facts,
    Cert.InProj.Gen.facts, Cert.InProjIdeal.Gen.facts, Cert.InProjRefIdeal.Gen.facts,
    Cert.MixProject.Gen.facts, Cert.MixProjectIdeal.Gen.facts, Cert.MixProjectRefIdeal.Gen.facts,
    fun m g _ => Cert.Hand.dsa_frame m g,
    fun m g _ => Cert.MixFinal.Gen.frame m g, fun m g _ => Cert.MixFinalIdeal.Gen.frame m g, frame_mixFinalRefIdeal,
    fun m g _ => Cert.InProj.Gen.frame m g, fun m g _ => Cert.InProjIdeal.Gen.frame m g, frame_inProjRefIdeal,
    fun m g _ => Cert.MixProject.Gen.frame m g, fun m g _ => Cert.MixProjectIdeal.Gen.frame m g, frame_mixProjectRefIdeal,
    trivial, Cert.Hand.mixFinal_algebraic, trivial, Cert.Hand.inProj_algebraic, trivial, Cert.Hand.mixProject_algebraic⟩

end
